-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelAttnFwd (m : (ℓ : Loc Cert.KernelAttnFwd.nD Cert.KernelAttnFwd.τ Cert.KernelAttnFwd.sig) → Buf (Elt Bits) ℓ) : Prop :=
  True

def Pre_KernelAttnFwdIdeal (m : (ℓ : Loc Cert.KernelAttnFwdIdeal.nD Cert.KernelAttnFwdIdeal.τ Cert.KernelAttnFwdIdeal.sig) → Buf (Elt Ideal) ℓ) : Prop :=
  True

def Pre_KernelAttnFwdIdeal_qk_real [hPre_qk_real : Cert.Pre_qk_real.Facts] (m : (ℓ : Loc Cert.KernelAttnFwdIdeal.nD Cert.KernelAttnFwdIdeal.τ Cert.KernelAttnFwdIdeal.sig) → Buf (Elt Ideal) ℓ) : Prop :=
  ∀ c : Dev Cert.KernelAttnFwdIdeal.nD,
    (Cert.Pre_qk_real.fn (F := Ideal) (m ((c.tc : Thread Cert.KernelAttnFwdIdeal.nD Cert.KernelAttnFwdIdeal.τ).loc Cert.KernelAttnFwdIdeal.main_arg0))) = (fun _ => 1#1)

def Pre_ReferenceAttnFwdIdeal (m : (ℓ : Loc Cert.ReferenceAttnFwdIdeal.nD Cert.ReferenceAttnFwdIdeal.τ Cert.ReferenceAttnFwdIdeal.sig) → Buf (Elt Ideal) ℓ) : Prop :=
  True

def Pre_ReferenceAttnFwdIdeal_qk_real [hPre_qk_real : Cert.Pre_qk_real.Facts] (m : (ℓ : Loc Cert.ReferenceAttnFwdIdeal.nD Cert.ReferenceAttnFwdIdeal.τ Cert.ReferenceAttnFwdIdeal.sig) → Buf (Elt Ideal) ℓ) : Prop :=
  ∀ c : Dev Cert.ReferenceAttnFwdIdeal.nD,
    (Cert.Pre_qk_real.fn (F := Ideal) (m ((c.tc : Thread Cert.ReferenceAttnFwdIdeal.nD Cert.ReferenceAttnFwdIdeal.τ).loc Cert.ReferenceAttnFwdIdeal.main_arg0))) = (fun _ => 1#1)

def Pre_KernelDownDgrad (m : (ℓ : Loc Cert.KernelDownDgrad.nD Cert.KernelDownDgrad.τ Cert.KernelDownDgrad.sig) → Buf (Elt Bits) ℓ) : Prop :=
  True

def Pre_KernelDownDgradIdeal (m : (ℓ : Loc Cert.KernelDownDgradIdeal.nD Cert.KernelDownDgradIdeal.τ Cert.KernelDownDgradIdeal.sig) → Buf (Elt Ideal) ℓ) : Prop :=
  True

def Pre_ReferenceDownDgradIdeal (m : (ℓ : Loc Cert.ReferenceDownDgradIdeal.nD Cert.ReferenceDownDgradIdeal.τ Cert.ReferenceDownDgradIdeal.sig) → Buf (Elt Ideal) ℓ) : Prop :=
  True

def Pre_KernelDownWgrad (m : (ℓ : Loc Cert.KernelDownWgrad.nD Cert.KernelDownWgrad.τ Cert.KernelDownWgrad.sig) → Buf (Elt Bits) ℓ) : Prop :=
  True

def Pre_KernelDownWgradIdeal (m : (ℓ : Loc Cert.KernelDownWgradIdeal.nD Cert.KernelDownWgradIdeal.τ Cert.KernelDownWgradIdeal.sig) → Buf (Elt Ideal) ℓ) : Prop :=
  True

def Pre_ReferenceDownWgradIdeal (m : (ℓ : Loc Cert.ReferenceDownWgradIdeal.nD Cert.ReferenceDownWgradIdeal.τ Cert.ReferenceDownWgradIdeal.sig) → Buf (Elt Ideal) ℓ) : Prop :=
  True

def Pre_KernelUpDgradVal (m : (ℓ : Loc Cert.KernelUpDgradVal.nD Cert.KernelUpDgradVal.τ Cert.KernelUpDgradVal.sig) → Buf (Elt Bits) ℓ) : Prop :=
  True

def Pre_KernelUpDgradValIdeal (m : (ℓ : Loc Cert.KernelUpDgradValIdeal.nD Cert.KernelUpDgradValIdeal.τ Cert.KernelUpDgradValIdeal.sig) → Buf (Elt Ideal) ℓ) : Prop :=
  True

def Pre_ReferenceUpDgradValIdeal (m : (ℓ : Loc Cert.ReferenceUpDgradValIdeal.nD Cert.ReferenceUpDgradValIdeal.τ Cert.ReferenceUpDgradValIdeal.sig) → Buf (Elt Ideal) ℓ) : Prop :=
  True

def Pre_KernelUpDgradGate (m : (ℓ : Loc Cert.KernelUpDgradGate.nD Cert.KernelUpDgradGate.τ Cert.KernelUpDgradGate.sig) → Buf (Elt Bits) ℓ) : Prop :=
  True

def Pre_KernelUpDgradGateIdeal (m : (ℓ : Loc Cert.KernelUpDgradGateIdeal.nD Cert.KernelUpDgradGateIdeal.τ Cert.KernelUpDgradGateIdeal.sig) → Buf (Elt Ideal) ℓ) : Prop :=
  True

def Pre_ReferenceUpDgradGateIdeal (m : (ℓ : Loc Cert.ReferenceUpDgradGateIdeal.nD Cert.ReferenceUpDgradGateIdeal.τ Cert.ReferenceUpDgradGateIdeal.sig) → Buf (Elt Ideal) ℓ) : Prop :=
  True

def Pre_KernelUpWgradVal (m : (ℓ : Loc Cert.KernelUpWgradVal.nD Cert.KernelUpWgradVal.τ Cert.KernelUpWgradVal.sig) → Buf (Elt Bits) ℓ) : Prop :=
  True

def Pre_KernelUpWgradValIdeal (m : (ℓ : Loc Cert.KernelUpWgradValIdeal.nD Cert.KernelUpWgradValIdeal.τ Cert.KernelUpWgradValIdeal.sig) → Buf (Elt Ideal) ℓ) : Prop :=
  True

def Pre_ReferenceUpWgradValIdeal (m : (ℓ : Loc Cert.ReferenceUpWgradValIdeal.nD Cert.ReferenceUpWgradValIdeal.τ Cert.ReferenceUpWgradValIdeal.sig) → Buf (Elt Ideal) ℓ) : Prop :=
  True

def Pre_KernelUpWgradGate (m : (ℓ : Loc Cert.KernelUpWgradGate.nD Cert.KernelUpWgradGate.τ Cert.KernelUpWgradGate.sig) → Buf (Elt Bits) ℓ) : Prop :=
  True

def Pre_KernelUpWgradGateIdeal (m : (ℓ : Loc Cert.KernelUpWgradGateIdeal.nD Cert.KernelUpWgradGateIdeal.τ Cert.KernelUpWgradGateIdeal.sig) → Buf (Elt Ideal) ℓ) : Prop :=
  True

def Pre_ReferenceUpWgradGateIdeal (m : (ℓ : Loc Cert.ReferenceUpWgradGateIdeal.nD Cert.ReferenceUpWgradGateIdeal.τ Cert.ReferenceUpWgradGateIdeal.sig) → Buf (Elt Ideal) ℓ) : Prop :=
  True

def Pre_KernelAttnOutDgrad (m : (ℓ : Loc Cert.KernelAttnOutDgrad.nD Cert.KernelAttnOutDgrad.τ Cert.KernelAttnOutDgrad.sig) → Buf (Elt Bits) ℓ) : Prop :=
  True

def Pre_KernelAttnOutDgradIdeal (m : (ℓ : Loc Cert.KernelAttnOutDgradIdeal.nD Cert.KernelAttnOutDgradIdeal.τ Cert.KernelAttnOutDgradIdeal.sig) → Buf (Elt Ideal) ℓ) : Prop :=
  True

def Pre_ReferenceAttnOutDgradIdeal (m : (ℓ : Loc Cert.ReferenceAttnOutDgradIdeal.nD Cert.ReferenceAttnOutDgradIdeal.τ Cert.ReferenceAttnOutDgradIdeal.sig) → Buf (Elt Ideal) ℓ) : Prop :=
  True

def Pre_KernelAttnOutWgrad (m : (ℓ : Loc Cert.KernelAttnOutWgrad.nD Cert.KernelAttnOutWgrad.τ Cert.KernelAttnOutWgrad.sig) → Buf (Elt Bits) ℓ) : Prop :=
  True

def Pre_KernelAttnOutWgradIdeal (m : (ℓ : Loc Cert.KernelAttnOutWgradIdeal.nD Cert.KernelAttnOutWgradIdeal.τ Cert.KernelAttnOutWgradIdeal.sig) → Buf (Elt Ideal) ℓ) : Prop :=
  True

def Pre_ReferenceAttnOutWgradIdeal (m : (ℓ : Loc Cert.ReferenceAttnOutWgradIdeal.nD Cert.ReferenceAttnOutWgradIdeal.τ Cert.ReferenceAttnOutWgradIdeal.sig) → Buf (Elt Ideal) ℓ) : Prop :=
  True

def Pre_KernelQkvDgrad (m : (ℓ : Loc Cert.KernelQkvDgrad.nD Cert.KernelQkvDgrad.τ Cert.KernelQkvDgrad.sig) → Buf (Elt Bits) ℓ) : Prop :=
  True

def Pre_KernelQkvDgradIdeal (m : (ℓ : Loc Cert.KernelQkvDgradIdeal.nD Cert.KernelQkvDgradIdeal.τ Cert.KernelQkvDgradIdeal.sig) → Buf (Elt Ideal) ℓ) : Prop :=
  True

def Pre_ReferenceQkvDgradIdeal (m : (ℓ : Loc Cert.ReferenceQkvDgradIdeal.nD Cert.ReferenceQkvDgradIdeal.τ Cert.ReferenceQkvDgradIdeal.sig) → Buf (Elt Ideal) ℓ) : Prop :=
  True

def Pre_KernelQkvWgrad (m : (ℓ : Loc Cert.KernelQkvWgrad.nD Cert.KernelQkvWgrad.τ Cert.KernelQkvWgrad.sig) → Buf (Elt Bits) ℓ) : Prop :=
  True

def Pre_KernelQkvWgradIdeal (m : (ℓ : Loc Cert.KernelQkvWgradIdeal.nD Cert.KernelQkvWgradIdeal.τ Cert.KernelQkvWgradIdeal.sig) → Buf (Elt Ideal) ℓ) : Prop :=
  True

def Pre_ReferenceQkvWgradIdeal (m : (ℓ : Loc Cert.ReferenceQkvWgradIdeal.nD Cert.ReferenceQkvWgradIdeal.τ Cert.ReferenceQkvWgradIdeal.sig) → Buf (Elt Ideal) ℓ) : Prop :=
  True

def Pre_KernelGlaOutDgrad (m : (ℓ : Loc Cert.KernelGlaOutDgrad.nD Cert.KernelGlaOutDgrad.τ Cert.KernelGlaOutDgrad.sig) → Buf (Elt Bits) ℓ) : Prop :=
  True

def Pre_KernelGlaOutDgradIdeal (m : (ℓ : Loc Cert.KernelGlaOutDgradIdeal.nD Cert.KernelGlaOutDgradIdeal.τ Cert.KernelGlaOutDgradIdeal.sig) → Buf (Elt Ideal) ℓ) : Prop :=
  True

def Pre_ReferenceGlaOutDgradIdeal (m : (ℓ : Loc Cert.ReferenceGlaOutDgradIdeal.nD Cert.ReferenceGlaOutDgradIdeal.τ Cert.ReferenceGlaOutDgradIdeal.sig) → Buf (Elt Ideal) ℓ) : Prop :=
  True

def Pre_KernelGlaOutWgrad (m : (ℓ : Loc Cert.KernelGlaOutWgrad.nD Cert.KernelGlaOutWgrad.τ Cert.KernelGlaOutWgrad.sig) → Buf (Elt Bits) ℓ) : Prop :=
  True

def Pre_KernelGlaOutWgradIdeal (m : (ℓ : Loc Cert.KernelGlaOutWgradIdeal.nD Cert.KernelGlaOutWgradIdeal.τ Cert.KernelGlaOutWgradIdeal.sig) → Buf (Elt Ideal) ℓ) : Prop :=
  True

def Pre_ReferenceGlaOutWgradIdeal (m : (ℓ : Loc Cert.ReferenceGlaOutWgradIdeal.nD Cert.ReferenceGlaOutWgradIdeal.τ Cert.ReferenceGlaOutWgradIdeal.sig) → Buf (Elt Ideal) ℓ) : Prop :=
  True

def Pre_KernelGlaGateDgrad (m : (ℓ : Loc Cert.KernelGlaGateDgrad.nD Cert.KernelGlaGateDgrad.τ Cert.KernelGlaGateDgrad.sig) → Buf (Elt Bits) ℓ) : Prop :=
  True

def Pre_KernelGlaGateDgradIdeal (m : (ℓ : Loc Cert.KernelGlaGateDgradIdeal.nD Cert.KernelGlaGateDgradIdeal.τ Cert.KernelGlaGateDgradIdeal.sig) → Buf (Elt Ideal) ℓ) : Prop :=
  True

def Pre_ReferenceGlaGateDgradIdeal (m : (ℓ : Loc Cert.ReferenceGlaGateDgradIdeal.nD Cert.ReferenceGlaGateDgradIdeal.τ Cert.ReferenceGlaGateDgradIdeal.sig) → Buf (Elt Ideal) ℓ) : Prop :=
  True

def Pre_KernelGlaGateWgrad (m : (ℓ : Loc Cert.KernelGlaGateWgrad.nD Cert.KernelGlaGateWgrad.τ Cert.KernelGlaGateWgrad.sig) → Buf (Elt Bits) ℓ) : Prop :=
  True

def Pre_KernelGlaGateWgradIdeal (m : (ℓ : Loc Cert.KernelGlaGateWgradIdeal.nD Cert.KernelGlaGateWgradIdeal.τ Cert.KernelGlaGateWgradIdeal.sig) → Buf (Elt Ideal) ℓ) : Prop :=
  True

def Pre_ReferenceGlaGateWgradIdeal (m : (ℓ : Loc Cert.ReferenceGlaGateWgradIdeal.nD Cert.ReferenceGlaGateWgradIdeal.τ Cert.ReferenceGlaGateWgradIdeal.sig) → Buf (Elt Ideal) ℓ) : Prop :=
  True

def Pre_KernelGlaInDgrad (m : (ℓ : Loc Cert.KernelGlaInDgrad.nD Cert.KernelGlaInDgrad.τ Cert.KernelGlaInDgrad.sig) → Buf (Elt Bits) ℓ) : Prop :=
  True

def Pre_KernelGlaInDgradIdeal (m : (ℓ : Loc Cert.KernelGlaInDgradIdeal.nD Cert.KernelGlaInDgradIdeal.τ Cert.KernelGlaInDgradIdeal.sig) → Buf (Elt Ideal) ℓ) : Prop :=
  True

def Pre_ReferenceGlaInDgradIdeal (m : (ℓ : Loc Cert.ReferenceGlaInDgradIdeal.nD Cert.ReferenceGlaInDgradIdeal.τ Cert.ReferenceGlaInDgradIdeal.sig) → Buf (Elt Ideal) ℓ) : Prop :=
  True

def Pre_KernelGlaInWgrad (m : (ℓ : Loc Cert.KernelGlaInWgrad.nD Cert.KernelGlaInWgrad.τ Cert.KernelGlaInWgrad.sig) → Buf (Elt Bits) ℓ) : Prop :=
  True

def Pre_KernelGlaInWgradIdeal (m : (ℓ : Loc Cert.KernelGlaInWgradIdeal.nD Cert.KernelGlaInWgradIdeal.τ Cert.KernelGlaInWgradIdeal.sig) → Buf (Elt Ideal) ℓ) : Prop :=
  True

def Pre_ReferenceGlaInWgradIdeal (m : (ℓ : Loc Cert.ReferenceGlaInWgradIdeal.nD Cert.ReferenceGlaInWgradIdeal.τ Cert.ReferenceGlaInWgradIdeal.sig) → Buf (Elt Ideal) ℓ) : Prop :=
  True

def Pre_KernelUpVal (m : (ℓ : Loc Cert.KernelUpVal.nD Cert.KernelUpVal.τ Cert.KernelUpVal.sig) → Buf (Elt Bits) ℓ) : Prop :=
  True

def Pre_KernelUpValIdeal (m : (ℓ : Loc Cert.KernelUpValIdeal.nD Cert.KernelUpValIdeal.τ Cert.KernelUpValIdeal.sig) → Buf (Elt Ideal) ℓ) : Prop :=
  True

def Pre_ReferenceUpValIdeal (m : (ℓ : Loc Cert.ReferenceUpValIdeal.nD Cert.ReferenceUpValIdeal.τ Cert.ReferenceUpValIdeal.sig) → Buf (Elt Ideal) ℓ) : Prop :=
  True

def Pre_KernelUpGate (m : (ℓ : Loc Cert.KernelUpGate.nD Cert.KernelUpGate.τ Cert.KernelUpGate.sig) → Buf (Elt Bits) ℓ) : Prop :=
  True

def Pre_KernelUpGateIdeal (m : (ℓ : Loc Cert.KernelUpGateIdeal.nD Cert.KernelUpGateIdeal.τ Cert.KernelUpGateIdeal.sig) → Buf (Elt Ideal) ℓ) : Prop :=
  True

def Pre_ReferenceUpGateIdeal (m : (ℓ : Loc Cert.ReferenceUpGateIdeal.nD Cert.ReferenceUpGateIdeal.τ Cert.ReferenceUpGateIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelQkvProj (m : (ℓ : Loc Cert.KernelQkvProj.nD Cert.KernelQkvProj.τ Cert.KernelQkvProj.sig) → Buf (Elt Bits) ℓ) : Prop :=
  True

def Pre_KernelQkvProjIdeal (m : (ℓ : Loc Cert.KernelQkvProjIdeal.nD Cert.KernelQkvProjIdeal.τ Cert.KernelQkvProjIdeal.sig) → Buf (Elt Ideal) ℓ) : Prop :=
  True

def Pre_ReferenceQkvProjIdeal (m : (ℓ : Loc Cert.ReferenceQkvProjIdeal.nD Cert.ReferenceQkvProjIdeal.τ Cert.ReferenceQkvProjIdeal.sig) → Buf (Elt Ideal) ℓ) : Prop :=
  True

def Pre_KernelAttnOutProj (m : (ℓ : Loc Cert.KernelAttnOutProj.nD Cert.KernelAttnOutProj.τ Cert.KernelAttnOutProj.sig) → Buf (Elt Bits) ℓ) : Prop :=
  True

def Pre_KernelAttnOutProjIdeal (m : (ℓ : Loc Cert.KernelAttnOutProjIdeal.nD Cert.KernelAttnOutProjIdeal.τ Cert.KernelAttnOutProjIdeal.sig) → Buf (Elt Ideal) ℓ) : Prop :=
  True

def Pre_ReferenceAttnOutProjIdeal (m : (ℓ : Loc Cert.ReferenceAttnOutProjIdeal.nD Cert.ReferenceAttnOutProjIdeal.τ Cert.ReferenceAttnOutProjIdeal.sig) → Buf (Elt Ideal) ℓ) : Prop :=
  True

def Pre_KernelGlaInProj (m : (ℓ : Loc Cert.KernelGlaInProj.nD Cert.KernelGlaInProj.τ Cert.KernelGlaInProj.sig) → Buf (Elt Bits) ℓ) : Prop :=
  True

def Pre_KernelGlaInProjIdeal (m : (ℓ : Loc Cert.KernelGlaInProjIdeal.nD Cert.KernelGlaInProjIdeal.τ Cert.KernelGlaInProjIdeal.sig) → Buf (Elt Ideal) ℓ) : Prop :=
  True

def Pre_ReferenceGlaInProjIdeal (m : (ℓ : Loc Cert.ReferenceGlaInProjIdeal.nD Cert.ReferenceGlaInProjIdeal.τ Cert.ReferenceGlaInProjIdeal.sig) → Buf (Elt Ideal) ℓ) : Prop :=
  True

def Pre_KernelGlaGateLogits (m : (ℓ : Loc Cert.KernelGlaGateLogits.nD Cert.KernelGlaGateLogits.τ Cert.KernelGlaGateLogits.sig) → Buf (Elt Bits) ℓ) : Prop :=
  True

def Pre_KernelGlaGateLogitsIdeal (m : (ℓ : Loc Cert.KernelGlaGateLogitsIdeal.nD Cert.KernelGlaGateLogitsIdeal.τ Cert.KernelGlaGateLogitsIdeal.sig) → Buf (Elt Ideal) ℓ) : Prop :=
  True

def Pre_ReferenceGlaGateLogitsIdeal (m : (ℓ : Loc Cert.ReferenceGlaGateLogitsIdeal.nD Cert.ReferenceGlaGateLogitsIdeal.τ Cert.ReferenceGlaGateLogitsIdeal.sig) → Buf (Elt Ideal) ℓ) : Prop :=
  True

def Pre_KernelGlaOutProj (m : (ℓ : Loc Cert.KernelGlaOutProj.nD Cert.KernelGlaOutProj.τ Cert.KernelGlaOutProj.sig) → Buf (Elt Bits) ℓ) : Prop :=
  True

def Pre_KernelGlaOutProjIdeal (m : (ℓ : Loc Cert.KernelGlaOutProjIdeal.nD Cert.KernelGlaOutProjIdeal.τ Cert.KernelGlaOutProjIdeal.sig) → Buf (Elt Ideal) ℓ) : Prop :=
  True

def Pre_ReferenceGlaOutProjIdeal (m : (ℓ : Loc Cert.ReferenceGlaOutProjIdeal.nD Cert.ReferenceGlaOutProjIdeal.τ Cert.ReferenceGlaOutProjIdeal.sig) → Buf (Elt Ideal) ℓ) : Prop :=
  True

def Pre_KernelConvActBwd (m : (ℓ : Loc Cert.KernelConvActBwd.nD Cert.KernelConvActBwd.τ Cert.KernelConvActBwd.sig) → Buf (Elt Bits) ℓ) : Prop :=
  True

def Pre_KernelConvActBwdIdeal (m : (ℓ : Loc Cert.KernelConvActBwdIdeal.nD Cert.KernelConvActBwdIdeal.τ Cert.KernelConvActBwdIdeal.sig) → Buf (Elt Ideal) ℓ) : Prop :=
  True

def Pre_KernelConvActBwdIdeal_conv_slope_finite [hPre_conv_slope_finite : Cert.Pre_conv_slope_finite.Facts] (m : (ℓ : Loc Cert.KernelConvActBwdIdeal.nD Cert.KernelConvActBwdIdeal.τ Cert.KernelConvActBwdIdeal.sig) → Buf (Elt Ideal) ℓ) : Prop :=
  ∀ c : Dev Cert.KernelConvActBwdIdeal.nD,
    (Cert.Pre_conv_slope_finite.fn (F := Ideal) (m ((c.tc : Thread Cert.KernelConvActBwdIdeal.nD Cert.KernelConvActBwdIdeal.τ).loc Cert.KernelConvActBwdIdeal.main_arg0)) (m ((c.tc : Thread Cert.KernelConvActBwdIdeal.nD Cert.KernelConvActBwdIdeal.τ).loc Cert.KernelConvActBwdIdeal.main_arg1)) (m ((c.tc : Thread Cert.KernelConvActBwdIdeal.nD Cert.KernelConvActBwdIdeal.τ).loc Cert.KernelConvActBwdIdeal.main_arg2)) (m ((c.tc : Thread Cert.KernelConvActBwdIdeal.nD Cert.KernelConvActBwdIdeal.τ).loc Cert.KernelConvActBwdIdeal.main_arg3)) (m ((c.tc : Thread Cert.KernelConvActBwdIdeal.nD Cert.KernelConvActBwdIdeal.τ).loc Cert.KernelConvActBwdIdeal.main_arg4)) (m ((c.tc : Thread Cert.KernelConvActBwdIdeal.nD Cert.KernelConvActBwdIdeal.τ).loc Cert.KernelConvActBwdIdeal.main_arg5)) (m ((c.tc : Thread Cert.KernelConvActBwdIdeal.nD Cert.KernelConvActBwdIdeal.τ).loc Cert.KernelConvActBwdIdeal.main_arg6))) = (fun _ => 1#1)

def Pre_ReferenceConvActBwdIdeal (m : (ℓ : Loc Cert.ReferenceConvActBwdIdeal.nD Cert.ReferenceConvActBwdIdeal.τ Cert.ReferenceConvActBwdIdeal.sig) → Buf (Elt Ideal) ℓ) : Prop :=
  True

def Pre_ReferenceConvActBwdIdeal_conv_slope_finite [hPre_conv_slope_finite : Cert.Pre_conv_slope_finite.Facts] (m : (ℓ : Loc Cert.ReferenceConvActBwdIdeal.nD Cert.ReferenceConvActBwdIdeal.τ Cert.ReferenceConvActBwdIdeal.sig) → Buf (Elt Ideal) ℓ) : Prop :=
  ∀ c : Dev Cert.ReferenceConvActBwdIdeal.nD,
    (Cert.Pre_conv_slope_finite.fn (F := Ideal) (m ((c.tc : Thread Cert.ReferenceConvActBwdIdeal.nD Cert.ReferenceConvActBwdIdeal.τ).loc Cert.ReferenceConvActBwdIdeal.main_arg0)) (m ((c.tc : Thread Cert.ReferenceConvActBwdIdeal.nD Cert.ReferenceConvActBwdIdeal.τ).loc Cert.ReferenceConvActBwdIdeal.main_arg1)) (m ((c.tc : Thread Cert.ReferenceConvActBwdIdeal.nD Cert.ReferenceConvActBwdIdeal.τ).loc Cert.ReferenceConvActBwdIdeal.main_arg2)) (m ((c.tc : Thread Cert.ReferenceConvActBwdIdeal.nD Cert.ReferenceConvActBwdIdeal.τ).loc Cert.ReferenceConvActBwdIdeal.main_arg3)) (m ((c.tc : Thread Cert.ReferenceConvActBwdIdeal.nD Cert.ReferenceConvActBwdIdeal.τ).loc Cert.ReferenceConvActBwdIdeal.main_arg4)) (m ((c.tc : Thread Cert.ReferenceConvActBwdIdeal.nD Cert.ReferenceConvActBwdIdeal.τ).loc Cert.ReferenceConvActBwdIdeal.main_arg5)) (m ((c.tc : Thread Cert.ReferenceConvActBwdIdeal.nD Cert.ReferenceConvActBwdIdeal.τ).loc Cert.ReferenceConvActBwdIdeal.main_arg6))) = (fun _ => 1#1)

def Pre_KernelConvT (m : (ℓ : Loc Cert.KernelConvT.nD Cert.KernelConvT.τ Cert.KernelConvT.sig) → Buf (Elt Bits) ℓ) : Prop :=
  True

def Pre_KernelConvTIdeal (m : (ℓ : Loc Cert.KernelConvTIdeal.nD Cert.KernelConvTIdeal.τ Cert.KernelConvTIdeal.sig) → Buf (Elt Ideal) ℓ) : Prop :=
  True

def Pre_ReferenceConvTIdeal (m : (ℓ : Loc Cert.ReferenceConvTIdeal.nD Cert.ReferenceConvTIdeal.τ Cert.ReferenceConvTIdeal.sig) → Buf (Elt Ideal) ℓ) : Prop :=
  True

def Pre_KernelNormBwd (m : (ℓ : Loc Cert.KernelNormBwd.nD Cert.KernelNormBwd.τ Cert.KernelNormBwd.sig) → Buf (Elt Bits) ℓ) : Prop :=
  True

def Pre_KernelNormBwdIdeal (m : (ℓ : Loc Cert.KernelNormBwdIdeal.nD Cert.KernelNormBwdIdeal.τ Cert.KernelNormBwdIdeal.sig) → Buf (Elt Ideal) ℓ) : Prop :=
  True

def Pre_ReferenceNormBwdIdeal (m : (ℓ : Loc Cert.ReferenceNormBwdIdeal.nD Cert.ReferenceNormBwdIdeal.τ Cert.ReferenceNormBwdIdeal.sig) → Buf (Elt Ideal) ℓ) : Prop :=
  True

def Pre_KernelGlaGateBwd (m : (ℓ : Loc Cert.KernelGlaGateBwd.nD Cert.KernelGlaGateBwd.τ Cert.KernelGlaGateBwd.sig) → Buf (Elt Bits) ℓ) : Prop :=
  True

def Pre_KernelGlaGateBwdIdeal (m : (ℓ : Loc Cert.KernelGlaGateBwdIdeal.nD Cert.KernelGlaGateBwdIdeal.τ Cert.KernelGlaGateBwdIdeal.sig) → Buf (Elt Ideal) ℓ) : Prop :=
  True

def Pre_KernelGlaGateBwdIdeal_gate_slope_finite [hPre_gate_slope_finite : Cert.Pre_gate_slope_finite.Facts] (m : (ℓ : Loc Cert.KernelGlaGateBwdIdeal.nD Cert.KernelGlaGateBwdIdeal.τ Cert.KernelGlaGateBwdIdeal.sig) → Buf (Elt Ideal) ℓ) : Prop :=
  ∀ c : Dev Cert.KernelGlaGateBwdIdeal.nD,
    (Cert.Pre_gate_slope_finite.fn (F := Ideal) (m ((c.tc : Thread Cert.KernelGlaGateBwdIdeal.nD Cert.KernelGlaGateBwdIdeal.τ).loc Cert.KernelGlaGateBwdIdeal.main_arg0)) (m ((c.tc : Thread Cert.KernelGlaGateBwdIdeal.nD Cert.KernelGlaGateBwdIdeal.τ).loc Cert.KernelGlaGateBwdIdeal.main_arg1)) (m ((c.tc : Thread Cert.KernelGlaGateBwdIdeal.nD Cert.KernelGlaGateBwdIdeal.τ).loc Cert.KernelGlaGateBwdIdeal.main_arg2)) (m ((c.tc : Thread Cert.KernelGlaGateBwdIdeal.nD Cert.KernelGlaGateBwdIdeal.τ).loc Cert.KernelGlaGateBwdIdeal.main_arg3)) (m ((c.tc : Thread Cert.KernelGlaGateBwdIdeal.nD Cert.KernelGlaGateBwdIdeal.τ).loc Cert.KernelGlaGateBwdIdeal.main_arg4))) = (fun _ => 1#1)

def Pre_ReferenceGlaGateBwdIdeal (m : (ℓ : Loc Cert.ReferenceGlaGateBwdIdeal.nD Cert.ReferenceGlaGateBwdIdeal.τ Cert.ReferenceGlaGateBwdIdeal.sig) → Buf (Elt Ideal) ℓ) : Prop :=
  True

def Pre_ReferenceGlaGateBwdIdeal_gate_slope_finite [hPre_gate_slope_finite : Cert.Pre_gate_slope_finite.Facts] (m : (ℓ : Loc Cert.ReferenceGlaGateBwdIdeal.nD Cert.ReferenceGlaGateBwdIdeal.τ Cert.ReferenceGlaGateBwdIdeal.sig) → Buf (Elt Ideal) ℓ) : Prop :=
  ∀ c : Dev Cert.ReferenceGlaGateBwdIdeal.nD,
    (Cert.Pre_gate_slope_finite.fn (F := Ideal) (m ((c.tc : Thread Cert.ReferenceGlaGateBwdIdeal.nD Cert.ReferenceGlaGateBwdIdeal.τ).loc Cert.ReferenceGlaGateBwdIdeal.main_arg0)) (m ((c.tc : Thread Cert.ReferenceGlaGateBwdIdeal.nD Cert.ReferenceGlaGateBwdIdeal.τ).loc Cert.ReferenceGlaGateBwdIdeal.main_arg1)) (m ((c.tc : Thread Cert.ReferenceGlaGateBwdIdeal.nD Cert.ReferenceGlaGateBwdIdeal.τ).loc Cert.ReferenceGlaGateBwdIdeal.main_arg2)) (m ((c.tc : Thread Cert.ReferenceGlaGateBwdIdeal.nD Cert.ReferenceGlaGateBwdIdeal.τ).loc Cert.ReferenceGlaGateBwdIdeal.main_arg3)) (m ((c.tc : Thread Cert.ReferenceGlaGateBwdIdeal.nD Cert.ReferenceGlaGateBwdIdeal.τ).loc Cert.ReferenceGlaGateBwdIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelAttnFwd [hKernelAttnFwd : Cert.KernelAttnFwd.Facts] : Prop :=
  ∀ (m : (ℓ : Loc Cert.KernelAttnFwd.nD Cert.KernelAttnFwd.τ Cert.KernelAttnFwd.sig) → Buf (Elt Bits) ℓ) (g : Dev Cert.KernelAttnFwd.nD → PrngReg), Pre_KernelAttnFwd m →
    θ_run (Cert.KernelAttnFwd.defs (F := Bits)) (onTc (τ := Cert.KernelAttnFwd.τ) (Cert.KernelAttnFwd.main (F := Bits))) ⟨m, fun _ => 0, g⟩ (fun r => (∀ c : Dev Cert.KernelAttnFwd.nD,
      r.2.mem ((c.tc : Thread Cert.KernelAttnFwd.nD Cert.KernelAttnFwd.τ).loc Cert.KernelAttnFwd.main_arg0) = m ((c.tc : Thread Cert.KernelAttnFwd.nD Cert.KernelAttnFwd.τ).loc Cert.KernelAttnFwd.main_arg0))
      ∧ r.2.sem = fun _ => 0)

def quiescent_KernelAttnFwdIdeal [hKernelAttnFwdIdeal : Cert.KernelAttnFwdIdeal.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0))
      ∧ r.2.sem = fun _ => 0)

def quiescent_KernelAttnFwdIdeal_pre_qk_real [hKernelAttnFwdIdeal : Cert.KernelAttnFwdIdeal.Facts] [hPre_qk_real : Cert.Pre_qk_real.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal_qk_real m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0))
      ∧ r.2.sem = fun _ => 0)

def quiescent_ReferenceAttnFwdIdeal [hReferenceAttnFwdIdeal : Cert.ReferenceAttnFwdIdeal.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0))
      ∧ r.2.sem = fun _ => 0)

def quiescent_ReferenceAttnFwdIdeal_pre_qk_real [hReferenceAttnFwdIdeal : Cert.ReferenceAttnFwdIdeal.Facts] [hPre_qk_real : Cert.Pre_qk_real.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal_qk_real m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0))
      ∧ r.2.sem = fun _ => 0)

def quiescent_KernelDownDgrad [hKernelDownDgrad : Cert.KernelDownDgrad.Facts] : Prop :=
  ∀ (m : (ℓ : Loc Cert.KernelDownDgrad.nD Cert.KernelDownDgrad.τ Cert.KernelDownDgrad.sig) → Buf (Elt Bits) ℓ) (g : Dev Cert.KernelDownDgrad.nD → PrngReg), Pre_KernelDownDgrad m →
    θ_run (Cert.KernelDownDgrad.defs (F := Bits)) (onTc (τ := Cert.KernelDownDgrad.τ) (Cert.KernelDownDgrad.main (F := Bits))) ⟨m, fun _ => 0, g⟩ (fun r => (∀ c : Dev Cert.KernelDownDgrad.nD,
      r.2.mem ((c.tc : Thread Cert.KernelDownDgrad.nD Cert.KernelDownDgrad.τ).loc Cert.KernelDownDgrad.main_arg0) = m ((c.tc : Thread Cert.KernelDownDgrad.nD Cert.KernelDownDgrad.τ).loc Cert.KernelDownDgrad.main_arg0)
      ∧ r.2.mem ((c.tc : Thread Cert.KernelDownDgrad.nD Cert.KernelDownDgrad.τ).loc Cert.KernelDownDgrad.main_arg1) = m ((c.tc : Thread Cert.KernelDownDgrad.nD Cert.KernelDownDgrad.τ).loc Cert.KernelDownDgrad.main_arg1))
      ∧ r.2.sem = fun _ => 0)

def quiescent_KernelDownDgradIdeal [hKernelDownDgradIdeal : Cert.KernelDownDgradIdeal.Facts] : Prop :=
  ∀ (m : (ℓ : Loc Cert.KernelDownDgradIdeal.nD Cert.KernelDownDgradIdeal.τ Cert.KernelDownDgradIdeal.sig) → Buf (Elt Ideal) ℓ) (g : Dev Cert.KernelDownDgradIdeal.nD → PrngReg), Pre_KernelDownDgradIdeal m →
    θ_run (Cert.KernelDownDgradIdeal.defs (F := Ideal)) (onTc (τ := Cert.KernelDownDgradIdeal.τ) (Cert.KernelDownDgradIdeal.main (F := Ideal))) ⟨m, fun _ => 0, g⟩ (fun r => (∀ c : Dev Cert.KernelDownDgradIdeal.nD,
      r.2.mem ((c.tc : Thread Cert.KernelDownDgradIdeal.nD Cert.KernelDownDgradIdeal.τ).loc Cert.KernelDownDgradIdeal.main_arg0) = m ((c.tc : Thread Cert.KernelDownDgradIdeal.nD Cert.KernelDownDgradIdeal.τ).loc Cert.KernelDownDgradIdeal.main_arg0)
      ∧ r.2.mem ((c.tc : Thread Cert.KernelDownDgradIdeal.nD Cert.KernelDownDgradIdeal.τ).loc Cert.KernelDownDgradIdeal.main_arg1) = m ((c.tc : Thread Cert.KernelDownDgradIdeal.nD Cert.KernelDownDgradIdeal.τ).loc Cert.KernelDownDgradIdeal.main_arg1))
      ∧ r.2.sem = fun _ => 0)

def quiescent_ReferenceDownDgradIdeal [hReferenceDownDgradIdeal : Cert.ReferenceDownDgradIdeal.Facts] : Prop :=
  ∀ (m : (ℓ : Loc Cert.ReferenceDownDgradIdeal.nD Cert.ReferenceDownDgradIdeal.τ Cert.ReferenceDownDgradIdeal.sig) → Buf (Elt Ideal) ℓ) (g : Dev Cert.ReferenceDownDgradIdeal.nD → PrngReg), Pre_ReferenceDownDgradIdeal m →
    θ_run (Cert.ReferenceDownDgradIdeal.defs (F := Ideal)) (onTc (τ := Cert.ReferenceDownDgradIdeal.τ) (Cert.ReferenceDownDgradIdeal.main (F := Ideal))) ⟨m, fun _ => 0, g⟩ (fun r => (∀ c : Dev Cert.ReferenceDownDgradIdeal.nD,
      r.2.mem ((c.tc : Thread Cert.ReferenceDownDgradIdeal.nD Cert.ReferenceDownDgradIdeal.τ).loc Cert.ReferenceDownDgradIdeal.main_arg0) = m ((c.tc : Thread Cert.ReferenceDownDgradIdeal.nD Cert.ReferenceDownDgradIdeal.τ).loc Cert.ReferenceDownDgradIdeal.main_arg0)
      ∧ r.2.mem ((c.tc : Thread Cert.ReferenceDownDgradIdeal.nD Cert.ReferenceDownDgradIdeal.τ).loc Cert.ReferenceDownDgradIdeal.main_arg1) = m ((c.tc : Thread Cert.ReferenceDownDgradIdeal.nD Cert.ReferenceDownDgradIdeal.τ).loc Cert.ReferenceDownDgradIdeal.main_arg1))
      ∧ r.2.sem = fun _ => 0)

def quiescent_KernelDownWgrad [hKernelDownWgrad : Cert.KernelDownWgrad.Facts] : Prop :=
  ∀ (m : (ℓ : Loc Cert.KernelDownWgrad.nD Cert.KernelDownWgrad.τ Cert.KernelDownWgrad.sig) → Buf (Elt Bits) ℓ) (g : Dev Cert.KernelDownWgrad.nD → PrngReg), Pre_KernelDownWgrad m →
    θ_run (Cert.KernelDownWgrad.defs (F := Bits)) (onTc (τ := Cert.KernelDownWgrad.τ) (Cert.KernelDownWgrad.main (F := Bits))) ⟨m, fun _ => 0, g⟩ (fun r => (∀ c : Dev Cert.KernelDownWgrad.nD,
      r.2.mem ((c.tc : Thread Cert.KernelDownWgrad.nD Cert.KernelDownWgrad.τ).loc Cert.KernelDownWgrad.main_arg0) = m ((c.tc : Thread Cert.KernelDownWgrad.nD Cert.KernelDownWgrad.τ).loc Cert.KernelDownWgrad.main_arg0)
      ∧ r.2.mem ((c.tc : Thread Cert.KernelDownWgrad.nD Cert.KernelDownWgrad.τ).loc Cert.KernelDownWgrad.main_arg1) = m ((c.tc : Thread Cert.KernelDownWgrad.nD Cert.KernelDownWgrad.τ).loc Cert.KernelDownWgrad.main_arg1)
      ∧ r.2.mem ((c.tc : Thread Cert.KernelDownWgrad.nD Cert.KernelDownWgrad.τ).loc Cert.KernelDownWgrad.main_arg2) = m ((c.tc : Thread Cert.KernelDownWgrad.nD Cert.KernelDownWgrad.τ).loc Cert.KernelDownWgrad.main_arg2))
      ∧ r.2.sem = fun _ => 0)

def quiescent_KernelDownWgradIdeal [hKernelDownWgradIdeal : Cert.KernelDownWgradIdeal.Facts] : Prop :=
  ∀ (m : (ℓ : Loc Cert.KernelDownWgradIdeal.nD Cert.KernelDownWgradIdeal.τ Cert.KernelDownWgradIdeal.sig) → Buf (Elt Ideal) ℓ) (g : Dev Cert.KernelDownWgradIdeal.nD → PrngReg), Pre_KernelDownWgradIdeal m →
    θ_run (Cert.KernelDownWgradIdeal.defs (F := Ideal)) (onTc (τ := Cert.KernelDownWgradIdeal.τ) (Cert.KernelDownWgradIdeal.main (F := Ideal))) ⟨m, fun _ => 0, g⟩ (fun r => (∀ c : Dev Cert.KernelDownWgradIdeal.nD,
      r.2.mem ((c.tc : Thread Cert.KernelDownWgradIdeal.nD Cert.KernelDownWgradIdeal.τ).loc Cert.KernelDownWgradIdeal.main_arg0) = m ((c.tc : Thread Cert.KernelDownWgradIdeal.nD Cert.KernelDownWgradIdeal.τ).loc Cert.KernelDownWgradIdeal.main_arg0)
      ∧ r.2.mem ((c.tc : Thread Cert.KernelDownWgradIdeal.nD Cert.KernelDownWgradIdeal.τ).loc Cert.KernelDownWgradIdeal.main_arg1) = m ((c.tc : Thread Cert.KernelDownWgradIdeal.nD Cert.KernelDownWgradIdeal.τ).loc Cert.KernelDownWgradIdeal.main_arg1)
      ∧ r.2.mem ((c.tc : Thread Cert.KernelDownWgradIdeal.nD Cert.KernelDownWgradIdeal.τ).loc Cert.KernelDownWgradIdeal.main_arg2) = m ((c.tc : Thread Cert.KernelDownWgradIdeal.nD Cert.KernelDownWgradIdeal.τ).loc Cert.KernelDownWgradIdeal.main_arg2))
      ∧ r.2.sem = fun _ => 0)

def quiescent_ReferenceDownWgradIdeal [hReferenceDownWgradIdeal : Cert.ReferenceDownWgradIdeal.Facts] : Prop :=
  ∀ (m : (ℓ : Loc Cert.ReferenceDownWgradIdeal.nD Cert.ReferenceDownWgradIdeal.τ Cert.ReferenceDownWgradIdeal.sig) → Buf (Elt Ideal) ℓ) (g : Dev Cert.ReferenceDownWgradIdeal.nD → PrngReg), Pre_ReferenceDownWgradIdeal m →
    θ_run (Cert.ReferenceDownWgradIdeal.defs (F := Ideal)) (onTc (τ := Cert.ReferenceDownWgradIdeal.τ) (Cert.ReferenceDownWgradIdeal.main (F := Ideal))) ⟨m, fun _ => 0, g⟩ (fun r => (∀ c : Dev Cert.ReferenceDownWgradIdeal.nD,
      r.2.mem ((c.tc : Thread Cert.ReferenceDownWgradIdeal.nD Cert.ReferenceDownWgradIdeal.τ).loc Cert.ReferenceDownWgradIdeal.main_arg0) = m ((c.tc : Thread Cert.ReferenceDownWgradIdeal.nD Cert.ReferenceDownWgradIdeal.τ).loc Cert.ReferenceDownWgradIdeal.main_arg0)
      ∧ r.2.mem ((c.tc : Thread Cert.ReferenceDownWgradIdeal.nD Cert.ReferenceDownWgradIdeal.τ).loc Cert.ReferenceDownWgradIdeal.main_arg1) = m ((c.tc : Thread Cert.ReferenceDownWgradIdeal.nD Cert.ReferenceDownWgradIdeal.τ).loc Cert.ReferenceDownWgradIdeal.main_arg1)
      ∧ r.2.mem ((c.tc : Thread Cert.ReferenceDownWgradIdeal.nD Cert.ReferenceDownWgradIdeal.τ).loc Cert.ReferenceDownWgradIdeal.main_arg2) = m ((c.tc : Thread Cert.ReferenceDownWgradIdeal.nD Cert.ReferenceDownWgradIdeal.τ).loc Cert.ReferenceDownWgradIdeal.main_arg2))
      ∧ r.2.sem = fun _ => 0)

def quiescent_KernelUpDgradVal [hKernelUpDgradVal : Cert.KernelUpDgradVal.Facts] : Prop :=
  ∀ (m : (ℓ : Loc Cert.KernelUpDgradVal.nD Cert.KernelUpDgradVal.τ Cert.KernelUpDgradVal.sig) → Buf (Elt Bits) ℓ) (g : Dev Cert.KernelUpDgradVal.nD → PrngReg), Pre_KernelUpDgradVal m →
    θ_run (Cert.KernelUpDgradVal.defs (F := Bits)) (onTc (τ := Cert.KernelUpDgradVal.τ) (Cert.KernelUpDgradVal.main (F := Bits))) ⟨m, fun _ => 0, g⟩ (fun r => (∀ c : Dev Cert.KernelUpDgradVal.nD,
      r.2.mem ((c.tc : Thread Cert.KernelUpDgradVal.nD Cert.KernelUpDgradVal.τ).loc Cert.KernelUpDgradVal.main_arg0) = m ((c.tc : Thread Cert.KernelUpDgradVal.nD Cert.KernelUpDgradVal.τ).loc Cert.KernelUpDgradVal.main_arg0)
      ∧ r.2.mem ((c.tc : Thread Cert.KernelUpDgradVal.nD Cert.KernelUpDgradVal.τ).loc Cert.KernelUpDgradVal.main_arg1) = m ((c.tc : Thread Cert.KernelUpDgradVal.nD Cert.KernelUpDgradVal.τ).loc Cert.KernelUpDgradVal.main_arg1))
      ∧ r.2.sem = fun _ => 0)

def quiescent_KernelUpDgradValIdeal [hKernelUpDgradValIdeal : Cert.KernelUpDgradValIdeal.Facts] : Prop :=
  ∀ (m : (ℓ : Loc Cert.KernelUpDgradValIdeal.nD Cert.KernelUpDgradValIdeal.τ Cert.KernelUpDgradValIdeal.sig) → Buf (Elt Ideal) ℓ) (g : Dev Cert.KernelUpDgradValIdeal.nD → PrngReg), Pre_KernelUpDgradValIdeal m →
    θ_run (Cert.KernelUpDgradValIdeal.defs (F := Ideal)) (onTc (τ := Cert.KernelUpDgradValIdeal.τ) (Cert.KernelUpDgradValIdeal.main (F := Ideal))) ⟨m, fun _ => 0, g⟩ (fun r => (∀ c : Dev Cert.KernelUpDgradValIdeal.nD,
      r.2.mem ((c.tc : Thread Cert.KernelUpDgradValIdeal.nD Cert.KernelUpDgradValIdeal.τ).loc Cert.KernelUpDgradValIdeal.main_arg0) = m ((c.tc : Thread Cert.KernelUpDgradValIdeal.nD Cert.KernelUpDgradValIdeal.τ).loc Cert.KernelUpDgradValIdeal.main_arg0)
      ∧ r.2.mem ((c.tc : Thread Cert.KernelUpDgradValIdeal.nD Cert.KernelUpDgradValIdeal.τ).loc Cert.KernelUpDgradValIdeal.main_arg1) = m ((c.tc : Thread Cert.KernelUpDgradValIdeal.nD Cert.KernelUpDgradValIdeal.τ).loc Cert.KernelUpDgradValIdeal.main_arg1))
      ∧ r.2.sem = fun _ => 0)

def quiescent_ReferenceUpDgradValIdeal [hReferenceUpDgradValIdeal : Cert.ReferenceUpDgradValIdeal.Facts] : Prop :=
  ∀ (m : (ℓ : Loc Cert.ReferenceUpDgradValIdeal.nD Cert.ReferenceUpDgradValIdeal.τ Cert.ReferenceUpDgradValIdeal.sig) → Buf (Elt Ideal) ℓ) (g : Dev Cert.ReferenceUpDgradValIdeal.nD → PrngReg), Pre_ReferenceUpDgradValIdeal m →
    θ_run (Cert.ReferenceUpDgradValIdeal.defs (F := Ideal)) (onTc (τ := Cert.ReferenceUpDgradValIdeal.τ) (Cert.ReferenceUpDgradValIdeal.main (F := Ideal))) ⟨m, fun _ => 0, g⟩ (fun r => (∀ c : Dev Cert.ReferenceUpDgradValIdeal.nD,
      r.2.mem ((c.tc : Thread Cert.ReferenceUpDgradValIdeal.nD Cert.ReferenceUpDgradValIdeal.τ).loc Cert.ReferenceUpDgradValIdeal.main_arg0) = m ((c.tc : Thread Cert.ReferenceUpDgradValIdeal.nD Cert.ReferenceUpDgradValIdeal.τ).loc Cert.ReferenceUpDgradValIdeal.main_arg0)
      ∧ r.2.mem ((c.tc : Thread Cert.ReferenceUpDgradValIdeal.nD Cert.ReferenceUpDgradValIdeal.τ).loc Cert.ReferenceUpDgradValIdeal.main_arg1) = m ((c.tc : Thread Cert.ReferenceUpDgradValIdeal.nD Cert.ReferenceUpDgradValIdeal.τ).loc Cert.ReferenceUpDgradValIdeal.main_arg1))
      ∧ r.2.sem = fun _ => 0)

def quiescent_KernelUpDgradGate [hKernelUpDgradGate : Cert.KernelUpDgradGate.Facts] : Prop :=
  ∀ (m : (ℓ : Loc Cert.KernelUpDgradGate.nD Cert.KernelUpDgradGate.τ Cert.KernelUpDgradGate.sig) → Buf (Elt Bits) ℓ) (g : Dev Cert.KernelUpDgradGate.nD → PrngReg), Pre_KernelUpDgradGate m →
    θ_run (Cert.KernelUpDgradGate.defs (F := Bits)) (onTc (τ := Cert.KernelUpDgradGate.τ) (Cert.KernelUpDgradGate.main (F := Bits))) ⟨m, fun _ => 0, g⟩ (fun r => (∀ c : Dev Cert.KernelUpDgradGate.nD,
      r.2.mem ((c.tc : Thread Cert.KernelUpDgradGate.nD Cert.KernelUpDgradGate.τ).loc Cert.KernelUpDgradGate.main_arg0) = m ((c.tc : Thread Cert.KernelUpDgradGate.nD Cert.KernelUpDgradGate.τ).loc Cert.KernelUpDgradGate.main_arg0)
      ∧ r.2.mem ((c.tc : Thread Cert.KernelUpDgradGate.nD Cert.KernelUpDgradGate.τ).loc Cert.KernelUpDgradGate.main_arg1) = m ((c.tc : Thread Cert.KernelUpDgradGate.nD Cert.KernelUpDgradGate.τ).loc Cert.KernelUpDgradGate.main_arg1)
      ∧ r.2.mem ((c.tc : Thread Cert.KernelUpDgradGate.nD Cert.KernelUpDgradGate.τ).loc Cert.KernelUpDgradGate.main_arg2) = m ((c.tc : Thread Cert.KernelUpDgradGate.nD Cert.KernelUpDgradGate.τ).loc Cert.KernelUpDgradGate.main_arg2))
      ∧ r.2.sem = fun _ => 0)

def quiescent_KernelUpDgradGateIdeal [hKernelUpDgradGateIdeal : Cert.KernelUpDgradGateIdeal.Facts] : Prop :=
  ∀ (m : (ℓ : Loc Cert.KernelUpDgradGateIdeal.nD Cert.KernelUpDgradGateIdeal.τ Cert.KernelUpDgradGateIdeal.sig) → Buf (Elt Ideal) ℓ) (g : Dev Cert.KernelUpDgradGateIdeal.nD → PrngReg), Pre_KernelUpDgradGateIdeal m →
    θ_run (Cert.KernelUpDgradGateIdeal.defs (F := Ideal)) (onTc (τ := Cert.KernelUpDgradGateIdeal.τ) (Cert.KernelUpDgradGateIdeal.main (F := Ideal))) ⟨m, fun _ => 0, g⟩ (fun r => (∀ c : Dev Cert.KernelUpDgradGateIdeal.nD,
      r.2.mem ((c.tc : Thread Cert.KernelUpDgradGateIdeal.nD Cert.KernelUpDgradGateIdeal.τ).loc Cert.KernelUpDgradGateIdeal.main_arg0) = m ((c.tc : Thread Cert.KernelUpDgradGateIdeal.nD Cert.KernelUpDgradGateIdeal.τ).loc Cert.KernelUpDgradGateIdeal.main_arg0)
      ∧ r.2.mem ((c.tc : Thread Cert.KernelUpDgradGateIdeal.nD Cert.KernelUpDgradGateIdeal.τ).loc Cert.KernelUpDgradGateIdeal.main_arg1) = m ((c.tc : Thread Cert.KernelUpDgradGateIdeal.nD Cert.KernelUpDgradGateIdeal.τ).loc Cert.KernelUpDgradGateIdeal.main_arg1)
      ∧ r.2.mem ((c.tc : Thread Cert.KernelUpDgradGateIdeal.nD Cert.KernelUpDgradGateIdeal.τ).loc Cert.KernelUpDgradGateIdeal.main_arg2) = m ((c.tc : Thread Cert.KernelUpDgradGateIdeal.nD Cert.KernelUpDgradGateIdeal.τ).loc Cert.KernelUpDgradGateIdeal.main_arg2))
      ∧ r.2.sem = fun _ => 0)

def quiescent_ReferenceUpDgradGateIdeal [hReferenceUpDgradGateIdeal : Cert.ReferenceUpDgradGateIdeal.Facts] : Prop :=
  ∀ (m : (ℓ : Loc Cert.ReferenceUpDgradGateIdeal.nD Cert.ReferenceUpDgradGateIdeal.τ Cert.ReferenceUpDgradGateIdeal.sig) → Buf (Elt Ideal) ℓ) (g : Dev Cert.ReferenceUpDgradGateIdeal.nD → PrngReg), Pre_ReferenceUpDgradGateIdeal m →
    θ_run (Cert.ReferenceUpDgradGateIdeal.defs (F := Ideal)) (onTc (τ := Cert.ReferenceUpDgradGateIdeal.τ) (Cert.ReferenceUpDgradGateIdeal.main (F := Ideal))) ⟨m, fun _ => 0, g⟩ (fun r => (∀ c : Dev Cert.ReferenceUpDgradGateIdeal.nD,
      r.2.mem ((c.tc : Thread Cert.ReferenceUpDgradGateIdeal.nD Cert.ReferenceUpDgradGateIdeal.τ).loc Cert.ReferenceUpDgradGateIdeal.main_arg0) = m ((c.tc : Thread Cert.ReferenceUpDgradGateIdeal.nD Cert.ReferenceUpDgradGateIdeal.τ).loc Cert.ReferenceUpDgradGateIdeal.main_arg0)
      ∧ r.2.mem ((c.tc : Thread Cert.ReferenceUpDgradGateIdeal.nD Cert.ReferenceUpDgradGateIdeal.τ).loc Cert.ReferenceUpDgradGateIdeal.main_arg1) = m ((c.tc : Thread Cert.ReferenceUpDgradGateIdeal.nD Cert.ReferenceUpDgradGateIdeal.τ).loc Cert.ReferenceUpDgradGateIdeal.main_arg1)
      ∧ r.2.mem ((c.tc : Thread Cert.ReferenceUpDgradGateIdeal.nD Cert.ReferenceUpDgradGateIdeal.τ).loc Cert.ReferenceUpDgradGateIdeal.main_arg2) = m ((c.tc : Thread Cert.ReferenceUpDgradGateIdeal.nD Cert.ReferenceUpDgradGateIdeal.τ).loc Cert.ReferenceUpDgradGateIdeal.main_arg2))
      ∧ r.2.sem = fun _ => 0)

def quiescent_KernelUpWgradVal [hKernelUpWgradVal : Cert.KernelUpWgradVal.Facts] : Prop :=
  ∀ (m : (ℓ : Loc Cert.KernelUpWgradVal.nD Cert.KernelUpWgradVal.τ Cert.KernelUpWgradVal.sig) → Buf (Elt Bits) ℓ) (g : Dev Cert.KernelUpWgradVal.nD → PrngReg), Pre_KernelUpWgradVal m →
    θ_run (Cert.KernelUpWgradVal.defs (F := Bits)) (onTc (τ := Cert.KernelUpWgradVal.τ) (Cert.KernelUpWgradVal.main (F := Bits))) ⟨m, fun _ => 0, g⟩ (fun r => (∀ c : Dev Cert.KernelUpWgradVal.nD,
      r.2.mem ((c.tc : Thread Cert.KernelUpWgradVal.nD Cert.KernelUpWgradVal.τ).loc Cert.KernelUpWgradVal.main_arg0) = m ((c.tc : Thread Cert.KernelUpWgradVal.nD Cert.KernelUpWgradVal.τ).loc Cert.KernelUpWgradVal.main_arg0)
      ∧ r.2.mem ((c.tc : Thread Cert.KernelUpWgradVal.nD Cert.KernelUpWgradVal.τ).loc Cert.KernelUpWgradVal.main_arg1) = m ((c.tc : Thread Cert.KernelUpWgradVal.nD Cert.KernelUpWgradVal.τ).loc Cert.KernelUpWgradVal.main_arg1)
      ∧ r.2.mem ((c.tc : Thread Cert.KernelUpWgradVal.nD Cert.KernelUpWgradVal.τ).loc Cert.KernelUpWgradVal.main_arg2) = m ((c.tc : Thread Cert.KernelUpWgradVal.nD Cert.KernelUpWgradVal.τ).loc Cert.KernelUpWgradVal.main_arg2))
      ∧ r.2.sem = fun _ => 0)

def quiescent_KernelUpWgradValIdeal [hKernelUpWgradValIdeal : Cert.KernelUpWgradValIdeal.Facts] : Prop :=
  ∀ (m : (ℓ : Loc Cert.KernelUpWgradValIdeal.nD Cert.KernelUpWgradValIdeal.τ Cert.KernelUpWgradValIdeal.sig) → Buf (Elt Ideal) ℓ) (g : Dev Cert.KernelUpWgradValIdeal.nD → PrngReg), Pre_KernelUpWgradValIdeal m →
    θ_run (Cert.KernelUpWgradValIdeal.defs (F := Ideal)) (onTc (τ := Cert.KernelUpWgradValIdeal.τ) (Cert.KernelUpWgradValIdeal.main (F := Ideal))) ⟨m, fun _ => 0, g⟩ (fun r => (∀ c : Dev Cert.KernelUpWgradValIdeal.nD,
      r.2.mem ((c.tc : Thread Cert.KernelUpWgradValIdeal.nD Cert.KernelUpWgradValIdeal.τ).loc Cert.KernelUpWgradValIdeal.main_arg0) = m ((c.tc : Thread Cert.KernelUpWgradValIdeal.nD Cert.KernelUpWgradValIdeal.τ).loc Cert.KernelUpWgradValIdeal.main_arg0)
      ∧ r.2.mem ((c.tc : Thread Cert.KernelUpWgradValIdeal.nD Cert.KernelUpWgradValIdeal.τ).loc Cert.KernelUpWgradValIdeal.main_arg1) = m ((c.tc : Thread Cert.KernelUpWgradValIdeal.nD Cert.KernelUpWgradValIdeal.τ).loc Cert.KernelUpWgradValIdeal.main_arg1)
      ∧ r.2.mem ((c.tc : Thread Cert.KernelUpWgradValIdeal.nD Cert.KernelUpWgradValIdeal.τ).loc Cert.KernelUpWgradValIdeal.main_arg2) = m ((c.tc : Thread Cert.KernelUpWgradValIdeal.nD Cert.KernelUpWgradValIdeal.τ).loc Cert.KernelUpWgradValIdeal.main_arg2))
      ∧ r.2.sem = fun _ => 0)

def quiescent_ReferenceUpWgradValIdeal [hReferenceUpWgradValIdeal : Cert.ReferenceUpWgradValIdeal.Facts] : Prop :=
  ∀ (m : (ℓ : Loc Cert.ReferenceUpWgradValIdeal.nD Cert.ReferenceUpWgradValIdeal.τ Cert.ReferenceUpWgradValIdeal.sig) → Buf (Elt Ideal) ℓ) (g : Dev Cert.ReferenceUpWgradValIdeal.nD → PrngReg), Pre_ReferenceUpWgradValIdeal m →
    θ_run (Cert.ReferenceUpWgradValIdeal.defs (F := Ideal)) (onTc (τ := Cert.ReferenceUpWgradValIdeal.τ) (Cert.ReferenceUpWgradValIdeal.main (F := Ideal))) ⟨m, fun _ => 0, g⟩ (fun r => (∀ c : Dev Cert.ReferenceUpWgradValIdeal.nD,
      r.2.mem ((c.tc : Thread Cert.ReferenceUpWgradValIdeal.nD Cert.ReferenceUpWgradValIdeal.τ).loc Cert.ReferenceUpWgradValIdeal.main_arg0) = m ((c.tc : Thread Cert.ReferenceUpWgradValIdeal.nD Cert.ReferenceUpWgradValIdeal.τ).loc Cert.ReferenceUpWgradValIdeal.main_arg0)
      ∧ r.2.mem ((c.tc : Thread Cert.ReferenceUpWgradValIdeal.nD Cert.ReferenceUpWgradValIdeal.τ).loc Cert.ReferenceUpWgradValIdeal.main_arg1) = m ((c.tc : Thread Cert.ReferenceUpWgradValIdeal.nD Cert.ReferenceUpWgradValIdeal.τ).loc Cert.ReferenceUpWgradValIdeal.main_arg1)
      ∧ r.2.mem ((c.tc : Thread Cert.ReferenceUpWgradValIdeal.nD Cert.ReferenceUpWgradValIdeal.τ).loc Cert.ReferenceUpWgradValIdeal.main_arg2) = m ((c.tc : Thread Cert.ReferenceUpWgradValIdeal.nD Cert.ReferenceUpWgradValIdeal.τ).loc Cert.ReferenceUpWgradValIdeal.main_arg2))
      ∧ r.2.sem = fun _ => 0)

def quiescent_KernelUpWgradGate [hKernelUpWgradGate : Cert.KernelUpWgradGate.Facts] : Prop :=
  ∀ (m : (ℓ : Loc Cert.KernelUpWgradGate.nD Cert.KernelUpWgradGate.τ Cert.KernelUpWgradGate.sig) → Buf (Elt Bits) ℓ) (g : Dev Cert.KernelUpWgradGate.nD → PrngReg), Pre_KernelUpWgradGate m →
    θ_run (Cert.KernelUpWgradGate.defs (F := Bits)) (onTc (τ := Cert.KernelUpWgradGate.τ) (Cert.KernelUpWgradGate.main (F := Bits))) ⟨m, fun _ => 0, g⟩ (fun r => (∀ c : Dev Cert.KernelUpWgradGate.nD,
      r.2.mem ((c.tc : Thread Cert.KernelUpWgradGate.nD Cert.KernelUpWgradGate.τ).loc Cert.KernelUpWgradGate.main_arg0) = m ((c.tc : Thread Cert.KernelUpWgradGate.nD Cert.KernelUpWgradGate.τ).loc Cert.KernelUpWgradGate.main_arg0)
      ∧ r.2.mem ((c.tc : Thread Cert.KernelUpWgradGate.nD Cert.KernelUpWgradGate.τ).loc Cert.KernelUpWgradGate.main_arg1) = m ((c.tc : Thread Cert.KernelUpWgradGate.nD Cert.KernelUpWgradGate.τ).loc Cert.KernelUpWgradGate.main_arg1)
      ∧ r.2.mem ((c.tc : Thread Cert.KernelUpWgradGate.nD Cert.KernelUpWgradGate.τ).loc Cert.KernelUpWgradGate.main_arg2) = m ((c.tc : Thread Cert.KernelUpWgradGate.nD Cert.KernelUpWgradGate.τ).loc Cert.KernelUpWgradGate.main_arg2))
      ∧ r.2.sem = fun _ => 0)

def quiescent_KernelUpWgradGateIdeal [hKernelUpWgradGateIdeal : Cert.KernelUpWgradGateIdeal.Facts] : Prop :=
  ∀ (m : (ℓ : Loc Cert.KernelUpWgradGateIdeal.nD Cert.KernelUpWgradGateIdeal.τ Cert.KernelUpWgradGateIdeal.sig) → Buf (Elt Ideal) ℓ) (g : Dev Cert.KernelUpWgradGateIdeal.nD → PrngReg), Pre_KernelUpWgradGateIdeal m →
    θ_run (Cert.KernelUpWgradGateIdeal.defs (F := Ideal)) (onTc (τ := Cert.KernelUpWgradGateIdeal.τ) (Cert.KernelUpWgradGateIdeal.main (F := Ideal))) ⟨m, fun _ => 0, g⟩ (fun r => (∀ c : Dev Cert.KernelUpWgradGateIdeal.nD,
      r.2.mem ((c.tc : Thread Cert.KernelUpWgradGateIdeal.nD Cert.KernelUpWgradGateIdeal.τ).loc Cert.KernelUpWgradGateIdeal.main_arg0) = m ((c.tc : Thread Cert.KernelUpWgradGateIdeal.nD Cert.KernelUpWgradGateIdeal.τ).loc Cert.KernelUpWgradGateIdeal.main_arg0)
      ∧ r.2.mem ((c.tc : Thread Cert.KernelUpWgradGateIdeal.nD Cert.KernelUpWgradGateIdeal.τ).loc Cert.KernelUpWgradGateIdeal.main_arg1) = m ((c.tc : Thread Cert.KernelUpWgradGateIdeal.nD Cert.KernelUpWgradGateIdeal.τ).loc Cert.KernelUpWgradGateIdeal.main_arg1)
      ∧ r.2.mem ((c.tc : Thread Cert.KernelUpWgradGateIdeal.nD Cert.KernelUpWgradGateIdeal.τ).loc Cert.KernelUpWgradGateIdeal.main_arg2) = m ((c.tc : Thread Cert.KernelUpWgradGateIdeal.nD Cert.KernelUpWgradGateIdeal.τ).loc Cert.KernelUpWgradGateIdeal.main_arg2))
      ∧ r.2.sem = fun _ => 0)

def quiescent_ReferenceUpWgradGateIdeal [hReferenceUpWgradGateIdeal : Cert.ReferenceUpWgradGateIdeal.Facts] : Prop :=
  ∀ (m : (ℓ : Loc Cert.ReferenceUpWgradGateIdeal.nD Cert.ReferenceUpWgradGateIdeal.τ Cert.ReferenceUpWgradGateIdeal.sig) → Buf (Elt Ideal) ℓ) (g : Dev Cert.ReferenceUpWgradGateIdeal.nD → PrngReg), Pre_ReferenceUpWgradGateIdeal m →
    θ_run (Cert.ReferenceUpWgradGateIdeal.defs (F := Ideal)) (onTc (τ := Cert.ReferenceUpWgradGateIdeal.τ) (Cert.ReferenceUpWgradGateIdeal.main (F := Ideal))) ⟨m, fun _ => 0, g⟩ (fun r => (∀ c : Dev Cert.ReferenceUpWgradGateIdeal.nD,
      r.2.mem ((c.tc : Thread Cert.ReferenceUpWgradGateIdeal.nD Cert.ReferenceUpWgradGateIdeal.τ).loc Cert.ReferenceUpWgradGateIdeal.main_arg0) = m ((c.tc : Thread Cert.ReferenceUpWgradGateIdeal.nD Cert.ReferenceUpWgradGateIdeal.τ).loc Cert.ReferenceUpWgradGateIdeal.main_arg0)
      ∧ r.2.mem ((c.tc : Thread Cert.ReferenceUpWgradGateIdeal.nD Cert.ReferenceUpWgradGateIdeal.τ).loc Cert.ReferenceUpWgradGateIdeal.main_arg1) = m ((c.tc : Thread Cert.ReferenceUpWgradGateIdeal.nD Cert.ReferenceUpWgradGateIdeal.τ).loc Cert.ReferenceUpWgradGateIdeal.main_arg1)
      ∧ r.2.mem ((c.tc : Thread Cert.ReferenceUpWgradGateIdeal.nD Cert.ReferenceUpWgradGateIdeal.τ).loc Cert.ReferenceUpWgradGateIdeal.main_arg2) = m ((c.tc : Thread Cert.ReferenceUpWgradGateIdeal.nD Cert.ReferenceUpWgradGateIdeal.τ).loc Cert.ReferenceUpWgradGateIdeal.main_arg2))
      ∧ r.2.sem = fun _ => 0)

def quiescent_KernelAttnOutDgrad [hKernelAttnOutDgrad : Cert.KernelAttnOutDgrad.Facts] : Prop :=
  ∀ (m : (ℓ : Loc Cert.KernelAttnOutDgrad.nD Cert.KernelAttnOutDgrad.τ Cert.KernelAttnOutDgrad.sig) → Buf (Elt Bits) ℓ) (g : Dev Cert.KernelAttnOutDgrad.nD → PrngReg), Pre_KernelAttnOutDgrad m →
    θ_run (Cert.KernelAttnOutDgrad.defs (F := Bits)) (onTc (τ := Cert.KernelAttnOutDgrad.τ) (Cert.KernelAttnOutDgrad.main (F := Bits))) ⟨m, fun _ => 0, g⟩ (fun r => (∀ c : Dev Cert.KernelAttnOutDgrad.nD,
      r.2.mem ((c.tc : Thread Cert.KernelAttnOutDgrad.nD Cert.KernelAttnOutDgrad.τ).loc Cert.KernelAttnOutDgrad.main_arg0) = m ((c.tc : Thread Cert.KernelAttnOutDgrad.nD Cert.KernelAttnOutDgrad.τ).loc Cert.KernelAttnOutDgrad.main_arg0)
      ∧ r.2.mem ((c.tc : Thread Cert.KernelAttnOutDgrad.nD Cert.KernelAttnOutDgrad.τ).loc Cert.KernelAttnOutDgrad.main_arg1) = m ((c.tc : Thread Cert.KernelAttnOutDgrad.nD Cert.KernelAttnOutDgrad.τ).loc Cert.KernelAttnOutDgrad.main_arg1))
      ∧ r.2.sem = fun _ => 0)

def quiescent_KernelAttnOutDgradIdeal [hKernelAttnOutDgradIdeal : Cert.KernelAttnOutDgradIdeal.Facts] : Prop :=
  ∀ (m : (ℓ : Loc Cert.KernelAttnOutDgradIdeal.nD Cert.KernelAttnOutDgradIdeal.τ Cert.KernelAttnOutDgradIdeal.sig) → Buf (Elt Ideal) ℓ) (g : Dev Cert.KernelAttnOutDgradIdeal.nD → PrngReg), Pre_KernelAttnOutDgradIdeal m →
    θ_run (Cert.KernelAttnOutDgradIdeal.defs (F := Ideal)) (onTc (τ := Cert.KernelAttnOutDgradIdeal.τ) (Cert.KernelAttnOutDgradIdeal.main (F := Ideal))) ⟨m, fun _ => 0, g⟩ (fun r => (∀ c : Dev Cert.KernelAttnOutDgradIdeal.nD,
      r.2.mem ((c.tc : Thread Cert.KernelAttnOutDgradIdeal.nD Cert.KernelAttnOutDgradIdeal.τ).loc Cert.KernelAttnOutDgradIdeal.main_arg0) = m ((c.tc : Thread Cert.KernelAttnOutDgradIdeal.nD Cert.KernelAttnOutDgradIdeal.τ).loc Cert.KernelAttnOutDgradIdeal.main_arg0)
      ∧ r.2.mem ((c.tc : Thread Cert.KernelAttnOutDgradIdeal.nD Cert.KernelAttnOutDgradIdeal.τ).loc Cert.KernelAttnOutDgradIdeal.main_arg1) = m ((c.tc : Thread Cert.KernelAttnOutDgradIdeal.nD Cert.KernelAttnOutDgradIdeal.τ).loc Cert.KernelAttnOutDgradIdeal.main_arg1))
      ∧ r.2.sem = fun _ => 0)

def quiescent_ReferenceAttnOutDgradIdeal [hReferenceAttnOutDgradIdeal : Cert.ReferenceAttnOutDgradIdeal.Facts] : Prop :=
  ∀ (m : (ℓ : Loc Cert.ReferenceAttnOutDgradIdeal.nD Cert.ReferenceAttnOutDgradIdeal.τ Cert.ReferenceAttnOutDgradIdeal.sig) → Buf (Elt Ideal) ℓ) (g : Dev Cert.ReferenceAttnOutDgradIdeal.nD → PrngReg), Pre_ReferenceAttnOutDgradIdeal m →
    θ_run (Cert.ReferenceAttnOutDgradIdeal.defs (F := Ideal)) (onTc (τ := Cert.ReferenceAttnOutDgradIdeal.τ) (Cert.ReferenceAttnOutDgradIdeal.main (F := Ideal))) ⟨m, fun _ => 0, g⟩ (fun r => (∀ c : Dev Cert.ReferenceAttnOutDgradIdeal.nD,
      r.2.mem ((c.tc : Thread Cert.ReferenceAttnOutDgradIdeal.nD Cert.ReferenceAttnOutDgradIdeal.τ).loc Cert.ReferenceAttnOutDgradIdeal.main_arg0) = m ((c.tc : Thread Cert.ReferenceAttnOutDgradIdeal.nD Cert.ReferenceAttnOutDgradIdeal.τ).loc Cert.ReferenceAttnOutDgradIdeal.main_arg0)
      ∧ r.2.mem ((c.tc : Thread Cert.ReferenceAttnOutDgradIdeal.nD Cert.ReferenceAttnOutDgradIdeal.τ).loc Cert.ReferenceAttnOutDgradIdeal.main_arg1) = m ((c.tc : Thread Cert.ReferenceAttnOutDgradIdeal.nD Cert.ReferenceAttnOutDgradIdeal.τ).loc Cert.ReferenceAttnOutDgradIdeal.main_arg1))
      ∧ r.2.sem = fun _ => 0)

def quiescent_KernelAttnOutWgrad [hKernelAttnOutWgrad : Cert.KernelAttnOutWgrad.Facts] : Prop :=
  ∀ (m : (ℓ : Loc Cert.KernelAttnOutWgrad.nD Cert.KernelAttnOutWgrad.τ Cert.KernelAttnOutWgrad.sig) → Buf (Elt Bits) ℓ) (g : Dev Cert.KernelAttnOutWgrad.nD → PrngReg), Pre_KernelAttnOutWgrad m →
    θ_run (Cert.KernelAttnOutWgrad.defs (F := Bits)) (onTc (τ := Cert.KernelAttnOutWgrad.τ) (Cert.KernelAttnOutWgrad.main (F := Bits))) ⟨m, fun _ => 0, g⟩ (fun r => (∀ c : Dev Cert.KernelAttnOutWgrad.nD,
      r.2.mem ((c.tc : Thread Cert.KernelAttnOutWgrad.nD Cert.KernelAttnOutWgrad.τ).loc Cert.KernelAttnOutWgrad.main_arg0) = m ((c.tc : Thread Cert.KernelAttnOutWgrad.nD Cert.KernelAttnOutWgrad.τ).loc Cert.KernelAttnOutWgrad.main_arg0)
      ∧ r.2.mem ((c.tc : Thread Cert.KernelAttnOutWgrad.nD Cert.KernelAttnOutWgrad.τ).loc Cert.KernelAttnOutWgrad.main_arg1) = m ((c.tc : Thread Cert.KernelAttnOutWgrad.nD Cert.KernelAttnOutWgrad.τ).loc Cert.KernelAttnOutWgrad.main_arg1)
      ∧ r.2.mem ((c.tc : Thread Cert.KernelAttnOutWgrad.nD Cert.KernelAttnOutWgrad.τ).loc Cert.KernelAttnOutWgrad.main_arg2) = m ((c.tc : Thread Cert.KernelAttnOutWgrad.nD Cert.KernelAttnOutWgrad.τ).loc Cert.KernelAttnOutWgrad.main_arg2))
      ∧ r.2.sem = fun _ => 0)

def quiescent_KernelAttnOutWgradIdeal [hKernelAttnOutWgradIdeal : Cert.KernelAttnOutWgradIdeal.Facts] : Prop :=
  ∀ (m : (ℓ : Loc Cert.KernelAttnOutWgradIdeal.nD Cert.KernelAttnOutWgradIdeal.τ Cert.KernelAttnOutWgradIdeal.sig) → Buf (Elt Ideal) ℓ) (g : Dev Cert.KernelAttnOutWgradIdeal.nD → PrngReg), Pre_KernelAttnOutWgradIdeal m →
    θ_run (Cert.KernelAttnOutWgradIdeal.defs (F := Ideal)) (onTc (τ := Cert.KernelAttnOutWgradIdeal.τ) (Cert.KernelAttnOutWgradIdeal.main (F := Ideal))) ⟨m, fun _ => 0, g⟩ (fun r => (∀ c : Dev Cert.KernelAttnOutWgradIdeal.nD,
      r.2.mem ((c.tc : Thread Cert.KernelAttnOutWgradIdeal.nD Cert.KernelAttnOutWgradIdeal.τ).loc Cert.KernelAttnOutWgradIdeal.main_arg0) = m ((c.tc : Thread Cert.KernelAttnOutWgradIdeal.nD Cert.KernelAttnOutWgradIdeal.τ).loc Cert.KernelAttnOutWgradIdeal.main_arg0)
      ∧ r.2.mem ((c.tc : Thread Cert.KernelAttnOutWgradIdeal.nD Cert.KernelAttnOutWgradIdeal.τ).loc Cert.KernelAttnOutWgradIdeal.main_arg1) = m ((c.tc : Thread Cert.KernelAttnOutWgradIdeal.nD Cert.KernelAttnOutWgradIdeal.τ).loc Cert.KernelAttnOutWgradIdeal.main_arg1)
      ∧ r.2.mem ((c.tc : Thread Cert.KernelAttnOutWgradIdeal.nD Cert.KernelAttnOutWgradIdeal.τ).loc Cert.KernelAttnOutWgradIdeal.main_arg2) = m ((c.tc : Thread Cert.KernelAttnOutWgradIdeal.nD Cert.KernelAttnOutWgradIdeal.τ).loc Cert.KernelAttnOutWgradIdeal.main_arg2))
      ∧ r.2.sem = fun _ => 0)

def quiescent_ReferenceAttnOutWgradIdeal [hReferenceAttnOutWgradIdeal : Cert.ReferenceAttnOutWgradIdeal.Facts] : Prop :=
  ∀ (m : (ℓ : Loc Cert.ReferenceAttnOutWgradIdeal.nD Cert.ReferenceAttnOutWgradIdeal.τ Cert.ReferenceAttnOutWgradIdeal.sig) → Buf (Elt Ideal) ℓ) (g : Dev Cert.ReferenceAttnOutWgradIdeal.nD → PrngReg), Pre_ReferenceAttnOutWgradIdeal m →
    θ_run (Cert.ReferenceAttnOutWgradIdeal.defs (F := Ideal)) (onTc (τ := Cert.ReferenceAttnOutWgradIdeal.τ) (Cert.ReferenceAttnOutWgradIdeal.main (F := Ideal))) ⟨m, fun _ => 0, g⟩ (fun r => (∀ c : Dev Cert.ReferenceAttnOutWgradIdeal.nD,
      r.2.mem ((c.tc : Thread Cert.ReferenceAttnOutWgradIdeal.nD Cert.ReferenceAttnOutWgradIdeal.τ).loc Cert.ReferenceAttnOutWgradIdeal.main_arg0) = m ((c.tc : Thread Cert.ReferenceAttnOutWgradIdeal.nD Cert.ReferenceAttnOutWgradIdeal.τ).loc Cert.ReferenceAttnOutWgradIdeal.main_arg0)
      ∧ r.2.mem ((c.tc : Thread Cert.ReferenceAttnOutWgradIdeal.nD Cert.ReferenceAttnOutWgradIdeal.τ).loc Cert.ReferenceAttnOutWgradIdeal.main_arg1) = m ((c.tc : Thread Cert.ReferenceAttnOutWgradIdeal.nD Cert.ReferenceAttnOutWgradIdeal.τ).loc Cert.ReferenceAttnOutWgradIdeal.main_arg1)
      ∧ r.2.mem ((c.tc : Thread Cert.ReferenceAttnOutWgradIdeal.nD Cert.ReferenceAttnOutWgradIdeal.τ).loc Cert.ReferenceAttnOutWgradIdeal.main_arg2) = m ((c.tc : Thread Cert.ReferenceAttnOutWgradIdeal.nD Cert.ReferenceAttnOutWgradIdeal.τ).loc Cert.ReferenceAttnOutWgradIdeal.main_arg2))
      ∧ r.2.sem = fun _ => 0)

def quiescent_KernelQkvDgrad [hKernelQkvDgrad : Cert.KernelQkvDgrad.Facts] : Prop :=
  ∀ (m : (ℓ : Loc Cert.KernelQkvDgrad.nD Cert.KernelQkvDgrad.τ Cert.KernelQkvDgrad.sig) → Buf (Elt Bits) ℓ) (g : Dev Cert.KernelQkvDgrad.nD → PrngReg), Pre_KernelQkvDgrad m →
    θ_run (Cert.KernelQkvDgrad.defs (F := Bits)) (onTc (τ := Cert.KernelQkvDgrad.τ) (Cert.KernelQkvDgrad.main (F := Bits))) ⟨m, fun _ => 0, g⟩ (fun r => (∀ c : Dev Cert.KernelQkvDgrad.nD,
      r.2.mem ((c.tc : Thread Cert.KernelQkvDgrad.nD Cert.KernelQkvDgrad.τ).loc Cert.KernelQkvDgrad.main_arg0) = m ((c.tc : Thread Cert.KernelQkvDgrad.nD Cert.KernelQkvDgrad.τ).loc Cert.KernelQkvDgrad.main_arg0)
      ∧ r.2.mem ((c.tc : Thread Cert.KernelQkvDgrad.nD Cert.KernelQkvDgrad.τ).loc Cert.KernelQkvDgrad.main_arg1) = m ((c.tc : Thread Cert.KernelQkvDgrad.nD Cert.KernelQkvDgrad.τ).loc Cert.KernelQkvDgrad.main_arg1))
      ∧ r.2.sem = fun _ => 0)

def quiescent_KernelQkvDgradIdeal [hKernelQkvDgradIdeal : Cert.KernelQkvDgradIdeal.Facts] : Prop :=
  ∀ (m : (ℓ : Loc Cert.KernelQkvDgradIdeal.nD Cert.KernelQkvDgradIdeal.τ Cert.KernelQkvDgradIdeal.sig) → Buf (Elt Ideal) ℓ) (g : Dev Cert.KernelQkvDgradIdeal.nD → PrngReg), Pre_KernelQkvDgradIdeal m →
    θ_run (Cert.KernelQkvDgradIdeal.defs (F := Ideal)) (onTc (τ := Cert.KernelQkvDgradIdeal.τ) (Cert.KernelQkvDgradIdeal.main (F := Ideal))) ⟨m, fun _ => 0, g⟩ (fun r => (∀ c : Dev Cert.KernelQkvDgradIdeal.nD,
      r.2.mem ((c.tc : Thread Cert.KernelQkvDgradIdeal.nD Cert.KernelQkvDgradIdeal.τ).loc Cert.KernelQkvDgradIdeal.main_arg0) = m ((c.tc : Thread Cert.KernelQkvDgradIdeal.nD Cert.KernelQkvDgradIdeal.τ).loc Cert.KernelQkvDgradIdeal.main_arg0)
      ∧ r.2.mem ((c.tc : Thread Cert.KernelQkvDgradIdeal.nD Cert.KernelQkvDgradIdeal.τ).loc Cert.KernelQkvDgradIdeal.main_arg1) = m ((c.tc : Thread Cert.KernelQkvDgradIdeal.nD Cert.KernelQkvDgradIdeal.τ).loc Cert.KernelQkvDgradIdeal.main_arg1))
      ∧ r.2.sem = fun _ => 0)

def quiescent_ReferenceQkvDgradIdeal [hReferenceQkvDgradIdeal : Cert.ReferenceQkvDgradIdeal.Facts] : Prop :=
  ∀ (m : (ℓ : Loc Cert.ReferenceQkvDgradIdeal.nD Cert.ReferenceQkvDgradIdeal.τ Cert.ReferenceQkvDgradIdeal.sig) → Buf (Elt Ideal) ℓ) (g : Dev Cert.ReferenceQkvDgradIdeal.nD → PrngReg), Pre_ReferenceQkvDgradIdeal m →
    θ_run (Cert.ReferenceQkvDgradIdeal.defs (F := Ideal)) (onTc (τ := Cert.ReferenceQkvDgradIdeal.τ) (Cert.ReferenceQkvDgradIdeal.main (F := Ideal))) ⟨m, fun _ => 0, g⟩ (fun r => (∀ c : Dev Cert.ReferenceQkvDgradIdeal.nD,
      r.2.mem ((c.tc : Thread Cert.ReferenceQkvDgradIdeal.nD Cert.ReferenceQkvDgradIdeal.τ).loc Cert.ReferenceQkvDgradIdeal.main_arg0) = m ((c.tc : Thread Cert.ReferenceQkvDgradIdeal.nD Cert.ReferenceQkvDgradIdeal.τ).loc Cert.ReferenceQkvDgradIdeal.main_arg0)
      ∧ r.2.mem ((c.tc : Thread Cert.ReferenceQkvDgradIdeal.nD Cert.ReferenceQkvDgradIdeal.τ).loc Cert.ReferenceQkvDgradIdeal.main_arg1) = m ((c.tc : Thread Cert.ReferenceQkvDgradIdeal.nD Cert.ReferenceQkvDgradIdeal.τ).loc Cert.ReferenceQkvDgradIdeal.main_arg1))
      ∧ r.2.sem = fun _ => 0)

def quiescent_KernelQkvWgrad [hKernelQkvWgrad : Cert.KernelQkvWgrad.Facts] : Prop :=
  ∀ (m : (ℓ : Loc Cert.KernelQkvWgrad.nD Cert.KernelQkvWgrad.τ Cert.KernelQkvWgrad.sig) → Buf (Elt Bits) ℓ) (g : Dev Cert.KernelQkvWgrad.nD → PrngReg), Pre_KernelQkvWgrad m →
    θ_run (Cert.KernelQkvWgrad.defs (F := Bits)) (onTc (τ := Cert.KernelQkvWgrad.τ) (Cert.KernelQkvWgrad.main (F := Bits))) ⟨m, fun _ => 0, g⟩ (fun r => (∀ c : Dev Cert.KernelQkvWgrad.nD,
      r.2.mem ((c.tc : Thread Cert.KernelQkvWgrad.nD Cert.KernelQkvWgrad.τ).loc Cert.KernelQkvWgrad.main_arg0) = m ((c.tc : Thread Cert.KernelQkvWgrad.nD Cert.KernelQkvWgrad.τ).loc Cert.KernelQkvWgrad.main_arg0)
      ∧ r.2.mem ((c.tc : Thread Cert.KernelQkvWgrad.nD Cert.KernelQkvWgrad.τ).loc Cert.KernelQkvWgrad.main_arg1) = m ((c.tc : Thread Cert.KernelQkvWgrad.nD Cert.KernelQkvWgrad.τ).loc Cert.KernelQkvWgrad.main_arg1)
      ∧ r.2.mem ((c.tc : Thread Cert.KernelQkvWgrad.nD Cert.KernelQkvWgrad.τ).loc Cert.KernelQkvWgrad.main_arg2) = m ((c.tc : Thread Cert.KernelQkvWgrad.nD Cert.KernelQkvWgrad.τ).loc Cert.KernelQkvWgrad.main_arg2))
      ∧ r.2.sem = fun _ => 0)

def quiescent_KernelQkvWgradIdeal [hKernelQkvWgradIdeal : Cert.KernelQkvWgradIdeal.Facts] : Prop :=
  ∀ (m : (ℓ : Loc Cert.KernelQkvWgradIdeal.nD Cert.KernelQkvWgradIdeal.τ Cert.KernelQkvWgradIdeal.sig) → Buf (Elt Ideal) ℓ) (g : Dev Cert.KernelQkvWgradIdeal.nD → PrngReg), Pre_KernelQkvWgradIdeal m →
    θ_run (Cert.KernelQkvWgradIdeal.defs (F := Ideal)) (onTc (τ := Cert.KernelQkvWgradIdeal.τ) (Cert.KernelQkvWgradIdeal.main (F := Ideal))) ⟨m, fun _ => 0, g⟩ (fun r => (∀ c : Dev Cert.KernelQkvWgradIdeal.nD,
      r.2.mem ((c.tc : Thread Cert.KernelQkvWgradIdeal.nD Cert.KernelQkvWgradIdeal.τ).loc Cert.KernelQkvWgradIdeal.main_arg0) = m ((c.tc : Thread Cert.KernelQkvWgradIdeal.nD Cert.KernelQkvWgradIdeal.τ).loc Cert.KernelQkvWgradIdeal.main_arg0)
      ∧ r.2.mem ((c.tc : Thread Cert.KernelQkvWgradIdeal.nD Cert.KernelQkvWgradIdeal.τ).loc Cert.KernelQkvWgradIdeal.main_arg1) = m ((c.tc : Thread Cert.KernelQkvWgradIdeal.nD Cert.KernelQkvWgradIdeal.τ).loc Cert.KernelQkvWgradIdeal.main_arg1)
      ∧ r.2.mem ((c.tc : Thread Cert.KernelQkvWgradIdeal.nD Cert.KernelQkvWgradIdeal.τ).loc Cert.KernelQkvWgradIdeal.main_arg2) = m ((c.tc : Thread Cert.KernelQkvWgradIdeal.nD Cert.KernelQkvWgradIdeal.τ).loc Cert.KernelQkvWgradIdeal.main_arg2))
      ∧ r.2.sem = fun _ => 0)

def quiescent_ReferenceQkvWgradIdeal [hReferenceQkvWgradIdeal : Cert.ReferenceQkvWgradIdeal.Facts] : Prop :=
  ∀ (m : (ℓ : Loc Cert.ReferenceQkvWgradIdeal.nD Cert.ReferenceQkvWgradIdeal.τ Cert.ReferenceQkvWgradIdeal.sig) → Buf (Elt Ideal) ℓ) (g : Dev Cert.ReferenceQkvWgradIdeal.nD → PrngReg), Pre_ReferenceQkvWgradIdeal m →
    θ_run (Cert.ReferenceQkvWgradIdeal.defs (F := Ideal)) (onTc (τ := Cert.ReferenceQkvWgradIdeal.τ) (Cert.ReferenceQkvWgradIdeal.main (F := Ideal))) ⟨m, fun _ => 0, g⟩ (fun r => (∀ c : Dev Cert.ReferenceQkvWgradIdeal.nD,
      r.2.mem ((c.tc : Thread Cert.ReferenceQkvWgradIdeal.nD Cert.ReferenceQkvWgradIdeal.τ).loc Cert.ReferenceQkvWgradIdeal.main_arg0) = m ((c.tc : Thread Cert.ReferenceQkvWgradIdeal.nD Cert.ReferenceQkvWgradIdeal.τ).loc Cert.ReferenceQkvWgradIdeal.main_arg0)
      ∧ r.2.mem ((c.tc : Thread Cert.ReferenceQkvWgradIdeal.nD Cert.ReferenceQkvWgradIdeal.τ).loc Cert.ReferenceQkvWgradIdeal.main_arg1) = m ((c.tc : Thread Cert.ReferenceQkvWgradIdeal.nD Cert.ReferenceQkvWgradIdeal.τ).loc Cert.ReferenceQkvWgradIdeal.main_arg1)
      ∧ r.2.mem ((c.tc : Thread Cert.ReferenceQkvWgradIdeal.nD Cert.ReferenceQkvWgradIdeal.τ).loc Cert.ReferenceQkvWgradIdeal.main_arg2) = m ((c.tc : Thread Cert.ReferenceQkvWgradIdeal.nD Cert.ReferenceQkvWgradIdeal.τ).loc Cert.ReferenceQkvWgradIdeal.main_arg2))
      ∧ r.2.sem = fun _ => 0)

def quiescent_KernelGlaOutDgrad [hKernelGlaOutDgrad : Cert.KernelGlaOutDgrad.Facts] : Prop :=
  ∀ (m : (ℓ : Loc Cert.KernelGlaOutDgrad.nD Cert.KernelGlaOutDgrad.τ Cert.KernelGlaOutDgrad.sig) → Buf (Elt Bits) ℓ) (g : Dev Cert.KernelGlaOutDgrad.nD → PrngReg), Pre_KernelGlaOutDgrad m →
    θ_run (Cert.KernelGlaOutDgrad.defs (F := Bits)) (onTc (τ := Cert.KernelGlaOutDgrad.τ) (Cert.KernelGlaOutDgrad.main (F := Bits))) ⟨m, fun _ => 0, g⟩ (fun r => (∀ c : Dev Cert.KernelGlaOutDgrad.nD,
      r.2.mem ((c.tc : Thread Cert.KernelGlaOutDgrad.nD Cert.KernelGlaOutDgrad.τ).loc Cert.KernelGlaOutDgrad.main_arg0) = m ((c.tc : Thread Cert.KernelGlaOutDgrad.nD Cert.KernelGlaOutDgrad.τ).loc Cert.KernelGlaOutDgrad.main_arg0)
      ∧ r.2.mem ((c.tc : Thread Cert.KernelGlaOutDgrad.nD Cert.KernelGlaOutDgrad.τ).loc Cert.KernelGlaOutDgrad.main_arg1) = m ((c.tc : Thread Cert.KernelGlaOutDgrad.nD Cert.KernelGlaOutDgrad.τ).loc Cert.KernelGlaOutDgrad.main_arg1))
      ∧ r.2.sem = fun _ => 0)

def quiescent_KernelGlaOutDgradIdeal [hKernelGlaOutDgradIdeal : Cert.KernelGlaOutDgradIdeal.Facts] : Prop :=
  ∀ (m : (ℓ : Loc Cert.KernelGlaOutDgradIdeal.nD Cert.KernelGlaOutDgradIdeal.τ Cert.KernelGlaOutDgradIdeal.sig) → Buf (Elt Ideal) ℓ) (g : Dev Cert.KernelGlaOutDgradIdeal.nD → PrngReg), Pre_KernelGlaOutDgradIdeal m →
    θ_run (Cert.KernelGlaOutDgradIdeal.defs (F := Ideal)) (onTc (τ := Cert.KernelGlaOutDgradIdeal.τ) (Cert.KernelGlaOutDgradIdeal.main (F := Ideal))) ⟨m, fun _ => 0, g⟩ (fun r => (∀ c : Dev Cert.KernelGlaOutDgradIdeal.nD,
      r.2.mem ((c.tc : Thread Cert.KernelGlaOutDgradIdeal.nD Cert.KernelGlaOutDgradIdeal.τ).loc Cert.KernelGlaOutDgradIdeal.main_arg0) = m ((c.tc : Thread Cert.KernelGlaOutDgradIdeal.nD Cert.KernelGlaOutDgradIdeal.τ).loc Cert.KernelGlaOutDgradIdeal.main_arg0)
      ∧ r.2.mem ((c.tc : Thread Cert.KernelGlaOutDgradIdeal.nD Cert.KernelGlaOutDgradIdeal.τ).loc Cert.KernelGlaOutDgradIdeal.main_arg1) = m ((c.tc : Thread Cert.KernelGlaOutDgradIdeal.nD Cert.KernelGlaOutDgradIdeal.τ).loc Cert.KernelGlaOutDgradIdeal.main_arg1))
      ∧ r.2.sem = fun _ => 0)

def quiescent_ReferenceGlaOutDgradIdeal [hReferenceGlaOutDgradIdeal : Cert.ReferenceGlaOutDgradIdeal.Facts] : Prop :=
  ∀ (m : (ℓ : Loc Cert.ReferenceGlaOutDgradIdeal.nD Cert.ReferenceGlaOutDgradIdeal.τ Cert.ReferenceGlaOutDgradIdeal.sig) → Buf (Elt Ideal) ℓ) (g : Dev Cert.ReferenceGlaOutDgradIdeal.nD → PrngReg), Pre_ReferenceGlaOutDgradIdeal m →
    θ_run (Cert.ReferenceGlaOutDgradIdeal.defs (F := Ideal)) (onTc (τ := Cert.ReferenceGlaOutDgradIdeal.τ) (Cert.ReferenceGlaOutDgradIdeal.main (F := Ideal))) ⟨m, fun _ => 0, g⟩ (fun r => (∀ c : Dev Cert.ReferenceGlaOutDgradIdeal.nD,
      r.2.mem ((c.tc : Thread Cert.ReferenceGlaOutDgradIdeal.nD Cert.ReferenceGlaOutDgradIdeal.τ).loc Cert.ReferenceGlaOutDgradIdeal.main_arg0) = m ((c.tc : Thread Cert.ReferenceGlaOutDgradIdeal.nD Cert.ReferenceGlaOutDgradIdeal.τ).loc Cert.ReferenceGlaOutDgradIdeal.main_arg0)
      ∧ r.2.mem ((c.tc : Thread Cert.ReferenceGlaOutDgradIdeal.nD Cert.ReferenceGlaOutDgradIdeal.τ).loc Cert.ReferenceGlaOutDgradIdeal.main_arg1) = m ((c.tc : Thread Cert.ReferenceGlaOutDgradIdeal.nD Cert.ReferenceGlaOutDgradIdeal.τ).loc Cert.ReferenceGlaOutDgradIdeal.main_arg1))
      ∧ r.2.sem = fun _ => 0)

def quiescent_KernelGlaOutWgrad [hKernelGlaOutWgrad : Cert.KernelGlaOutWgrad.Facts] : Prop :=
  ∀ (m : (ℓ : Loc Cert.KernelGlaOutWgrad.nD Cert.KernelGlaOutWgrad.τ Cert.KernelGlaOutWgrad.sig) → Buf (Elt Bits) ℓ) (g : Dev Cert.KernelGlaOutWgrad.nD → PrngReg), Pre_KernelGlaOutWgrad m →
    θ_run (Cert.KernelGlaOutWgrad.defs (F := Bits)) (onTc (τ := Cert.KernelGlaOutWgrad.τ) (Cert.KernelGlaOutWgrad.main (F := Bits))) ⟨m, fun _ => 0, g⟩ (fun r => (∀ c : Dev Cert.KernelGlaOutWgrad.nD,
      r.2.mem ((c.tc : Thread Cert.KernelGlaOutWgrad.nD Cert.KernelGlaOutWgrad.τ).loc Cert.KernelGlaOutWgrad.main_arg0) = m ((c.tc : Thread Cert.KernelGlaOutWgrad.nD Cert.KernelGlaOutWgrad.τ).loc Cert.KernelGlaOutWgrad.main_arg0)
      ∧ r.2.mem ((c.tc : Thread Cert.KernelGlaOutWgrad.nD Cert.KernelGlaOutWgrad.τ).loc Cert.KernelGlaOutWgrad.main_arg1) = m ((c.tc : Thread Cert.KernelGlaOutWgrad.nD Cert.KernelGlaOutWgrad.τ).loc Cert.KernelGlaOutWgrad.main_arg1)
      ∧ r.2.mem ((c.tc : Thread Cert.KernelGlaOutWgrad.nD Cert.KernelGlaOutWgrad.τ).loc Cert.KernelGlaOutWgrad.main_arg2) = m ((c.tc : Thread Cert.KernelGlaOutWgrad.nD Cert.KernelGlaOutWgrad.τ).loc Cert.KernelGlaOutWgrad.main_arg2))
      ∧ r.2.sem = fun _ => 0)

def quiescent_KernelGlaOutWgradIdeal [hKernelGlaOutWgradIdeal : Cert.KernelGlaOutWgradIdeal.Facts] : Prop :=
  ∀ (m : (ℓ : Loc Cert.KernelGlaOutWgradIdeal.nD Cert.KernelGlaOutWgradIdeal.τ Cert.KernelGlaOutWgradIdeal.sig) → Buf (Elt Ideal) ℓ) (g : Dev Cert.KernelGlaOutWgradIdeal.nD → PrngReg), Pre_KernelGlaOutWgradIdeal m →
    θ_run (Cert.KernelGlaOutWgradIdeal.defs (F := Ideal)) (onTc (τ := Cert.KernelGlaOutWgradIdeal.τ) (Cert.KernelGlaOutWgradIdeal.main (F := Ideal))) ⟨m, fun _ => 0, g⟩ (fun r => (∀ c : Dev Cert.KernelGlaOutWgradIdeal.nD,
      r.2.mem ((c.tc : Thread Cert.KernelGlaOutWgradIdeal.nD Cert.KernelGlaOutWgradIdeal.τ).loc Cert.KernelGlaOutWgradIdeal.main_arg0) = m ((c.tc : Thread Cert.KernelGlaOutWgradIdeal.nD Cert.KernelGlaOutWgradIdeal.τ).loc Cert.KernelGlaOutWgradIdeal.main_arg0)
      ∧ r.2.mem ((c.tc : Thread Cert.KernelGlaOutWgradIdeal.nD Cert.KernelGlaOutWgradIdeal.τ).loc Cert.KernelGlaOutWgradIdeal.main_arg1) = m ((c.tc : Thread Cert.KernelGlaOutWgradIdeal.nD Cert.KernelGlaOutWgradIdeal.τ).loc Cert.KernelGlaOutWgradIdeal.main_arg1)
      ∧ r.2.mem ((c.tc : Thread Cert.KernelGlaOutWgradIdeal.nD Cert.KernelGlaOutWgradIdeal.τ).loc Cert.KernelGlaOutWgradIdeal.main_arg2) = m ((c.tc : Thread Cert.KernelGlaOutWgradIdeal.nD Cert.KernelGlaOutWgradIdeal.τ).loc Cert.KernelGlaOutWgradIdeal.main_arg2))
      ∧ r.2.sem = fun _ => 0)

def quiescent_ReferenceGlaOutWgradIdeal [hReferenceGlaOutWgradIdeal : Cert.ReferenceGlaOutWgradIdeal.Facts] : Prop :=
  ∀ (m : (ℓ : Loc Cert.ReferenceGlaOutWgradIdeal.nD Cert.ReferenceGlaOutWgradIdeal.τ Cert.ReferenceGlaOutWgradIdeal.sig) → Buf (Elt Ideal) ℓ) (g : Dev Cert.ReferenceGlaOutWgradIdeal.nD → PrngReg), Pre_ReferenceGlaOutWgradIdeal m →
    θ_run (Cert.ReferenceGlaOutWgradIdeal.defs (F := Ideal)) (onTc (τ := Cert.ReferenceGlaOutWgradIdeal.τ) (Cert.ReferenceGlaOutWgradIdeal.main (F := Ideal))) ⟨m, fun _ => 0, g⟩ (fun r => (∀ c : Dev Cert.ReferenceGlaOutWgradIdeal.nD,
      r.2.mem ((c.tc : Thread Cert.ReferenceGlaOutWgradIdeal.nD Cert.ReferenceGlaOutWgradIdeal.τ).loc Cert.ReferenceGlaOutWgradIdeal.main_arg0) = m ((c.tc : Thread Cert.ReferenceGlaOutWgradIdeal.nD Cert.ReferenceGlaOutWgradIdeal.τ).loc Cert.ReferenceGlaOutWgradIdeal.main_arg0)
      ∧ r.2.mem ((c.tc : Thread Cert.ReferenceGlaOutWgradIdeal.nD Cert.ReferenceGlaOutWgradIdeal.τ).loc Cert.ReferenceGlaOutWgradIdeal.main_arg1) = m ((c.tc : Thread Cert.ReferenceGlaOutWgradIdeal.nD Cert.ReferenceGlaOutWgradIdeal.τ).loc Cert.ReferenceGlaOutWgradIdeal.main_arg1)
      ∧ r.2.mem ((c.tc : Thread Cert.ReferenceGlaOutWgradIdeal.nD Cert.ReferenceGlaOutWgradIdeal.τ).loc Cert.ReferenceGlaOutWgradIdeal.main_arg2) = m ((c.tc : Thread Cert.ReferenceGlaOutWgradIdeal.nD Cert.ReferenceGlaOutWgradIdeal.τ).loc Cert.ReferenceGlaOutWgradIdeal.main_arg2))
      ∧ r.2.sem = fun _ => 0)

def quiescent_KernelGlaGateDgrad [hKernelGlaGateDgrad : Cert.KernelGlaGateDgrad.Facts] : Prop :=
  ∀ (m : (ℓ : Loc Cert.KernelGlaGateDgrad.nD Cert.KernelGlaGateDgrad.τ Cert.KernelGlaGateDgrad.sig) → Buf (Elt Bits) ℓ) (g : Dev Cert.KernelGlaGateDgrad.nD → PrngReg), Pre_KernelGlaGateDgrad m →
    θ_run (Cert.KernelGlaGateDgrad.defs (F := Bits)) (onTc (τ := Cert.KernelGlaGateDgrad.τ) (Cert.KernelGlaGateDgrad.main (F := Bits))) ⟨m, fun _ => 0, g⟩ (fun r => (∀ c : Dev Cert.KernelGlaGateDgrad.nD,
      r.2.mem ((c.tc : Thread Cert.KernelGlaGateDgrad.nD Cert.KernelGlaGateDgrad.τ).loc Cert.KernelGlaGateDgrad.main_arg0) = m ((c.tc : Thread Cert.KernelGlaGateDgrad.nD Cert.KernelGlaGateDgrad.τ).loc Cert.KernelGlaGateDgrad.main_arg0)
      ∧ r.2.mem ((c.tc : Thread Cert.KernelGlaGateDgrad.nD Cert.KernelGlaGateDgrad.τ).loc Cert.KernelGlaGateDgrad.main_arg1) = m ((c.tc : Thread Cert.KernelGlaGateDgrad.nD Cert.KernelGlaGateDgrad.τ).loc Cert.KernelGlaGateDgrad.main_arg1))
      ∧ r.2.sem = fun _ => 0)

def quiescent_KernelGlaGateDgradIdeal [hKernelGlaGateDgradIdeal : Cert.KernelGlaGateDgradIdeal.Facts] : Prop :=
  ∀ (m : (ℓ : Loc Cert.KernelGlaGateDgradIdeal.nD Cert.KernelGlaGateDgradIdeal.τ Cert.KernelGlaGateDgradIdeal.sig) → Buf (Elt Ideal) ℓ) (g : Dev Cert.KernelGlaGateDgradIdeal.nD → PrngReg), Pre_KernelGlaGateDgradIdeal m →
    θ_run (Cert.KernelGlaGateDgradIdeal.defs (F := Ideal)) (onTc (τ := Cert.KernelGlaGateDgradIdeal.τ) (Cert.KernelGlaGateDgradIdeal.main (F := Ideal))) ⟨m, fun _ => 0, g⟩ (fun r => (∀ c : Dev Cert.KernelGlaGateDgradIdeal.nD,
      r.2.mem ((c.tc : Thread Cert.KernelGlaGateDgradIdeal.nD Cert.KernelGlaGateDgradIdeal.τ).loc Cert.KernelGlaGateDgradIdeal.main_arg0) = m ((c.tc : Thread Cert.KernelGlaGateDgradIdeal.nD Cert.KernelGlaGateDgradIdeal.τ).loc Cert.KernelGlaGateDgradIdeal.main_arg0)
      ∧ r.2.mem ((c.tc : Thread Cert.KernelGlaGateDgradIdeal.nD Cert.KernelGlaGateDgradIdeal.τ).loc Cert.KernelGlaGateDgradIdeal.main_arg1) = m ((c.tc : Thread Cert.KernelGlaGateDgradIdeal.nD Cert.KernelGlaGateDgradIdeal.τ).loc Cert.KernelGlaGateDgradIdeal.main_arg1))
      ∧ r.2.sem = fun _ => 0)

def quiescent_ReferenceGlaGateDgradIdeal [hReferenceGlaGateDgradIdeal : Cert.ReferenceGlaGateDgradIdeal.Facts] : Prop :=
  ∀ (m : (ℓ : Loc Cert.ReferenceGlaGateDgradIdeal.nD Cert.ReferenceGlaGateDgradIdeal.τ Cert.ReferenceGlaGateDgradIdeal.sig) → Buf (Elt Ideal) ℓ) (g : Dev Cert.ReferenceGlaGateDgradIdeal.nD → PrngReg), Pre_ReferenceGlaGateDgradIdeal m →
    θ_run (Cert.ReferenceGlaGateDgradIdeal.defs (F := Ideal)) (onTc (τ := Cert.ReferenceGlaGateDgradIdeal.τ) (Cert.ReferenceGlaGateDgradIdeal.main (F := Ideal))) ⟨m, fun _ => 0, g⟩ (fun r => (∀ c : Dev Cert.ReferenceGlaGateDgradIdeal.nD,
      r.2.mem ((c.tc : Thread Cert.ReferenceGlaGateDgradIdeal.nD Cert.ReferenceGlaGateDgradIdeal.τ).loc Cert.ReferenceGlaGateDgradIdeal.main_arg0) = m ((c.tc : Thread Cert.ReferenceGlaGateDgradIdeal.nD Cert.ReferenceGlaGateDgradIdeal.τ).loc Cert.ReferenceGlaGateDgradIdeal.main_arg0)
      ∧ r.2.mem ((c.tc : Thread Cert.ReferenceGlaGateDgradIdeal.nD Cert.ReferenceGlaGateDgradIdeal.τ).loc Cert.ReferenceGlaGateDgradIdeal.main_arg1) = m ((c.tc : Thread Cert.ReferenceGlaGateDgradIdeal.nD Cert.ReferenceGlaGateDgradIdeal.τ).loc Cert.ReferenceGlaGateDgradIdeal.main_arg1))
      ∧ r.2.sem = fun _ => 0)

def quiescent_KernelGlaGateWgrad [hKernelGlaGateWgrad : Cert.KernelGlaGateWgrad.Facts] : Prop :=
  ∀ (m : (ℓ : Loc Cert.KernelGlaGateWgrad.nD Cert.KernelGlaGateWgrad.τ Cert.KernelGlaGateWgrad.sig) → Buf (Elt Bits) ℓ) (g : Dev Cert.KernelGlaGateWgrad.nD → PrngReg), Pre_KernelGlaGateWgrad m →
    θ_run (Cert.KernelGlaGateWgrad.defs (F := Bits)) (onTc (τ := Cert.KernelGlaGateWgrad.τ) (Cert.KernelGlaGateWgrad.main (F := Bits))) ⟨m, fun _ => 0, g⟩ (fun r => (∀ c : Dev Cert.KernelGlaGateWgrad.nD,
      r.2.mem ((c.tc : Thread Cert.KernelGlaGateWgrad.nD Cert.KernelGlaGateWgrad.τ).loc Cert.KernelGlaGateWgrad.main_arg0) = m ((c.tc : Thread Cert.KernelGlaGateWgrad.nD Cert.KernelGlaGateWgrad.τ).loc Cert.KernelGlaGateWgrad.main_arg0)
      ∧ r.2.mem ((c.tc : Thread Cert.KernelGlaGateWgrad.nD Cert.KernelGlaGateWgrad.τ).loc Cert.KernelGlaGateWgrad.main_arg1) = m ((c.tc : Thread Cert.KernelGlaGateWgrad.nD Cert.KernelGlaGateWgrad.τ).loc Cert.KernelGlaGateWgrad.main_arg1))
      ∧ r.2.sem = fun _ => 0)

def quiescent_KernelGlaGateWgradIdeal [hKernelGlaGateWgradIdeal : Cert.KernelGlaGateWgradIdeal.Facts] : Prop :=
  ∀ (m : (ℓ : Loc Cert.KernelGlaGateWgradIdeal.nD Cert.KernelGlaGateWgradIdeal.τ Cert.KernelGlaGateWgradIdeal.sig) → Buf (Elt Ideal) ℓ) (g : Dev Cert.KernelGlaGateWgradIdeal.nD → PrngReg), Pre_KernelGlaGateWgradIdeal m →
    θ_run (Cert.KernelGlaGateWgradIdeal.defs (F := Ideal)) (onTc (τ := Cert.KernelGlaGateWgradIdeal.τ) (Cert.KernelGlaGateWgradIdeal.main (F := Ideal))) ⟨m, fun _ => 0, g⟩ (fun r => (∀ c : Dev Cert.KernelGlaGateWgradIdeal.nD,
      r.2.mem ((c.tc : Thread Cert.KernelGlaGateWgradIdeal.nD Cert.KernelGlaGateWgradIdeal.τ).loc Cert.KernelGlaGateWgradIdeal.main_arg0) = m ((c.tc : Thread Cert.KernelGlaGateWgradIdeal.nD Cert.KernelGlaGateWgradIdeal.τ).loc Cert.KernelGlaGateWgradIdeal.main_arg0)
      ∧ r.2.mem ((c.tc : Thread Cert.KernelGlaGateWgradIdeal.nD Cert.KernelGlaGateWgradIdeal.τ).loc Cert.KernelGlaGateWgradIdeal.main_arg1) = m ((c.tc : Thread Cert.KernelGlaGateWgradIdeal.nD Cert.KernelGlaGateWgradIdeal.τ).loc Cert.KernelGlaGateWgradIdeal.main_arg1))
      ∧ r.2.sem = fun _ => 0)

def quiescent_ReferenceGlaGateWgradIdeal [hReferenceGlaGateWgradIdeal : Cert.ReferenceGlaGateWgradIdeal.Facts] : Prop :=
  ∀ (m : (ℓ : Loc Cert.ReferenceGlaGateWgradIdeal.nD Cert.ReferenceGlaGateWgradIdeal.τ Cert.ReferenceGlaGateWgradIdeal.sig) → Buf (Elt Ideal) ℓ) (g : Dev Cert.ReferenceGlaGateWgradIdeal.nD → PrngReg), Pre_ReferenceGlaGateWgradIdeal m →
    θ_run (Cert.ReferenceGlaGateWgradIdeal.defs (F := Ideal)) (onTc (τ := Cert.ReferenceGlaGateWgradIdeal.τ) (Cert.ReferenceGlaGateWgradIdeal.main (F := Ideal))) ⟨m, fun _ => 0, g⟩ (fun r => (∀ c : Dev Cert.ReferenceGlaGateWgradIdeal.nD,
      r.2.mem ((c.tc : Thread Cert.ReferenceGlaGateWgradIdeal.nD Cert.ReferenceGlaGateWgradIdeal.τ).loc Cert.ReferenceGlaGateWgradIdeal.main_arg0) = m ((c.tc : Thread Cert.ReferenceGlaGateWgradIdeal.nD Cert.ReferenceGlaGateWgradIdeal.τ).loc Cert.ReferenceGlaGateWgradIdeal.main_arg0)
      ∧ r.2.mem ((c.tc : Thread Cert.ReferenceGlaGateWgradIdeal.nD Cert.ReferenceGlaGateWgradIdeal.τ).loc Cert.ReferenceGlaGateWgradIdeal.main_arg1) = m ((c.tc : Thread Cert.ReferenceGlaGateWgradIdeal.nD Cert.ReferenceGlaGateWgradIdeal.τ).loc Cert.ReferenceGlaGateWgradIdeal.main_arg1))
      ∧ r.2.sem = fun _ => 0)

def quiescent_KernelGlaInDgrad [hKernelGlaInDgrad : Cert.KernelGlaInDgrad.Facts] : Prop :=
  ∀ (m : (ℓ : Loc Cert.KernelGlaInDgrad.nD Cert.KernelGlaInDgrad.τ Cert.KernelGlaInDgrad.sig) → Buf (Elt Bits) ℓ) (g : Dev Cert.KernelGlaInDgrad.nD → PrngReg), Pre_KernelGlaInDgrad m →
    θ_run (Cert.KernelGlaInDgrad.defs (F := Bits)) (onTc (τ := Cert.KernelGlaInDgrad.τ) (Cert.KernelGlaInDgrad.main (F := Bits))) ⟨m, fun _ => 0, g⟩ (fun r => (∀ c : Dev Cert.KernelGlaInDgrad.nD,
      r.2.mem ((c.tc : Thread Cert.KernelGlaInDgrad.nD Cert.KernelGlaInDgrad.τ).loc Cert.KernelGlaInDgrad.main_arg0) = m ((c.tc : Thread Cert.KernelGlaInDgrad.nD Cert.KernelGlaInDgrad.τ).loc Cert.KernelGlaInDgrad.main_arg0)
      ∧ r.2.mem ((c.tc : Thread Cert.KernelGlaInDgrad.nD Cert.KernelGlaInDgrad.τ).loc Cert.KernelGlaInDgrad.main_arg1) = m ((c.tc : Thread Cert.KernelGlaInDgrad.nD Cert.KernelGlaInDgrad.τ).loc Cert.KernelGlaInDgrad.main_arg1))
      ∧ r.2.sem = fun _ => 0)

def quiescent_KernelGlaInDgradIdeal [hKernelGlaInDgradIdeal : Cert.KernelGlaInDgradIdeal.Facts] : Prop :=
  ∀ (m : (ℓ : Loc Cert.KernelGlaInDgradIdeal.nD Cert.KernelGlaInDgradIdeal.τ Cert.KernelGlaInDgradIdeal.sig) → Buf (Elt Ideal) ℓ) (g : Dev Cert.KernelGlaInDgradIdeal.nD → PrngReg), Pre_KernelGlaInDgradIdeal m →
    θ_run (Cert.KernelGlaInDgradIdeal.defs (F := Ideal)) (onTc (τ := Cert.KernelGlaInDgradIdeal.τ) (Cert.KernelGlaInDgradIdeal.main (F := Ideal))) ⟨m, fun _ => 0, g⟩ (fun r => (∀ c : Dev Cert.KernelGlaInDgradIdeal.nD,
      r.2.mem ((c.tc : Thread Cert.KernelGlaInDgradIdeal.nD Cert.KernelGlaInDgradIdeal.τ).loc Cert.KernelGlaInDgradIdeal.main_arg0) = m ((c.tc : Thread Cert.KernelGlaInDgradIdeal.nD Cert.KernelGlaInDgradIdeal.τ).loc Cert.KernelGlaInDgradIdeal.main_arg0)
      ∧ r.2.mem ((c.tc : Thread Cert.KernelGlaInDgradIdeal.nD Cert.KernelGlaInDgradIdeal.τ).loc Cert.KernelGlaInDgradIdeal.main_arg1) = m ((c.tc : Thread Cert.KernelGlaInDgradIdeal.nD Cert.KernelGlaInDgradIdeal.τ).loc Cert.KernelGlaInDgradIdeal.main_arg1))
      ∧ r.2.sem = fun _ => 0)

def quiescent_ReferenceGlaInDgradIdeal [hReferenceGlaInDgradIdeal : Cert.ReferenceGlaInDgradIdeal.Facts] : Prop :=
  ∀ (m : (ℓ : Loc Cert.ReferenceGlaInDgradIdeal.nD Cert.ReferenceGlaInDgradIdeal.τ Cert.ReferenceGlaInDgradIdeal.sig) → Buf (Elt Ideal) ℓ) (g : Dev Cert.ReferenceGlaInDgradIdeal.nD → PrngReg), Pre_ReferenceGlaInDgradIdeal m →
    θ_run (Cert.ReferenceGlaInDgradIdeal.defs (F := Ideal)) (onTc (τ := Cert.ReferenceGlaInDgradIdeal.τ) (Cert.ReferenceGlaInDgradIdeal.main (F := Ideal))) ⟨m, fun _ => 0, g⟩ (fun r => (∀ c : Dev Cert.ReferenceGlaInDgradIdeal.nD,
      r.2.mem ((c.tc : Thread Cert.ReferenceGlaInDgradIdeal.nD Cert.ReferenceGlaInDgradIdeal.τ).loc Cert.ReferenceGlaInDgradIdeal.main_arg0) = m ((c.tc : Thread Cert.ReferenceGlaInDgradIdeal.nD Cert.ReferenceGlaInDgradIdeal.τ).loc Cert.ReferenceGlaInDgradIdeal.main_arg0)
      ∧ r.2.mem ((c.tc : Thread Cert.ReferenceGlaInDgradIdeal.nD Cert.ReferenceGlaInDgradIdeal.τ).loc Cert.ReferenceGlaInDgradIdeal.main_arg1) = m ((c.tc : Thread Cert.ReferenceGlaInDgradIdeal.nD Cert.ReferenceGlaInDgradIdeal.τ).loc Cert.ReferenceGlaInDgradIdeal.main_arg1))
      ∧ r.2.sem = fun _ => 0)

def quiescent_KernelGlaInWgrad [hKernelGlaInWgrad : Cert.KernelGlaInWgrad.Facts] : Prop :=
  ∀ (m : (ℓ : Loc Cert.KernelGlaInWgrad.nD Cert.KernelGlaInWgrad.τ Cert.KernelGlaInWgrad.sig) → Buf (Elt Bits) ℓ) (g : Dev Cert.KernelGlaInWgrad.nD → PrngReg), Pre_KernelGlaInWgrad m →
    θ_run (Cert.KernelGlaInWgrad.defs (F := Bits)) (onTc (τ := Cert.KernelGlaInWgrad.τ) (Cert.KernelGlaInWgrad.main (F := Bits))) ⟨m, fun _ => 0, g⟩ (fun r => (∀ c : Dev Cert.KernelGlaInWgrad.nD,
      r.2.mem ((c.tc : Thread Cert.KernelGlaInWgrad.nD Cert.KernelGlaInWgrad.τ).loc Cert.KernelGlaInWgrad.main_arg0) = m ((c.tc : Thread Cert.KernelGlaInWgrad.nD Cert.KernelGlaInWgrad.τ).loc Cert.KernelGlaInWgrad.main_arg0)
      ∧ r.2.mem ((c.tc : Thread Cert.KernelGlaInWgrad.nD Cert.KernelGlaInWgrad.τ).loc Cert.KernelGlaInWgrad.main_arg1) = m ((c.tc : Thread Cert.KernelGlaInWgrad.nD Cert.KernelGlaInWgrad.τ).loc Cert.KernelGlaInWgrad.main_arg1)
      ∧ r.2.mem ((c.tc : Thread Cert.KernelGlaInWgrad.nD Cert.KernelGlaInWgrad.τ).loc Cert.KernelGlaInWgrad.main_arg2) = m ((c.tc : Thread Cert.KernelGlaInWgrad.nD Cert.KernelGlaInWgrad.τ).loc Cert.KernelGlaInWgrad.main_arg2))
      ∧ r.2.sem = fun _ => 0)

def quiescent_KernelGlaInWgradIdeal [hKernelGlaInWgradIdeal : Cert.KernelGlaInWgradIdeal.Facts] : Prop :=
  ∀ (m : (ℓ : Loc Cert.KernelGlaInWgradIdeal.nD Cert.KernelGlaInWgradIdeal.τ Cert.KernelGlaInWgradIdeal.sig) → Buf (Elt Ideal) ℓ) (g : Dev Cert.KernelGlaInWgradIdeal.nD → PrngReg), Pre_KernelGlaInWgradIdeal m →
    θ_run (Cert.KernelGlaInWgradIdeal.defs (F := Ideal)) (onTc (τ := Cert.KernelGlaInWgradIdeal.τ) (Cert.KernelGlaInWgradIdeal.main (F := Ideal))) ⟨m, fun _ => 0, g⟩ (fun r => (∀ c : Dev Cert.KernelGlaInWgradIdeal.nD,
      r.2.mem ((c.tc : Thread Cert.KernelGlaInWgradIdeal.nD Cert.KernelGlaInWgradIdeal.τ).loc Cert.KernelGlaInWgradIdeal.main_arg0) = m ((c.tc : Thread Cert.KernelGlaInWgradIdeal.nD Cert.KernelGlaInWgradIdeal.τ).loc Cert.KernelGlaInWgradIdeal.main_arg0)
      ∧ r.2.mem ((c.tc : Thread Cert.KernelGlaInWgradIdeal.nD Cert.KernelGlaInWgradIdeal.τ).loc Cert.KernelGlaInWgradIdeal.main_arg1) = m ((c.tc : Thread Cert.KernelGlaInWgradIdeal.nD Cert.KernelGlaInWgradIdeal.τ).loc Cert.KernelGlaInWgradIdeal.main_arg1)
      ∧ r.2.mem ((c.tc : Thread Cert.KernelGlaInWgradIdeal.nD Cert.KernelGlaInWgradIdeal.τ).loc Cert.KernelGlaInWgradIdeal.main_arg2) = m ((c.tc : Thread Cert.KernelGlaInWgradIdeal.nD Cert.KernelGlaInWgradIdeal.τ).loc Cert.KernelGlaInWgradIdeal.main_arg2))
      ∧ r.2.sem = fun _ => 0)

def quiescent_ReferenceGlaInWgradIdeal [hReferenceGlaInWgradIdeal : Cert.ReferenceGlaInWgradIdeal.Facts] : Prop :=
  ∀ (m : (ℓ : Loc Cert.ReferenceGlaInWgradIdeal.nD Cert.ReferenceGlaInWgradIdeal.τ Cert.ReferenceGlaInWgradIdeal.sig) → Buf (Elt Ideal) ℓ) (g : Dev Cert.ReferenceGlaInWgradIdeal.nD → PrngReg), Pre_ReferenceGlaInWgradIdeal m →
    θ_run (Cert.ReferenceGlaInWgradIdeal.defs (F := Ideal)) (onTc (τ := Cert.ReferenceGlaInWgradIdeal.τ) (Cert.ReferenceGlaInWgradIdeal.main (F := Ideal))) ⟨m, fun _ => 0, g⟩ (fun r => (∀ c : Dev Cert.ReferenceGlaInWgradIdeal.nD,
      r.2.mem ((c.tc : Thread Cert.ReferenceGlaInWgradIdeal.nD Cert.ReferenceGlaInWgradIdeal.τ).loc Cert.ReferenceGlaInWgradIdeal.main_arg0) = m ((c.tc : Thread Cert.ReferenceGlaInWgradIdeal.nD Cert.ReferenceGlaInWgradIdeal.τ).loc Cert.ReferenceGlaInWgradIdeal.main_arg0)
      ∧ r.2.mem ((c.tc : Thread Cert.ReferenceGlaInWgradIdeal.nD Cert.ReferenceGlaInWgradIdeal.τ).loc Cert.ReferenceGlaInWgradIdeal.main_arg1) = m ((c.tc : Thread Cert.ReferenceGlaInWgradIdeal.nD Cert.ReferenceGlaInWgradIdeal.τ).loc Cert.ReferenceGlaInWgradIdeal.main_arg1)
      ∧ r.2.mem ((c.tc : Thread Cert.ReferenceGlaInWgradIdeal.nD Cert.ReferenceGlaInWgradIdeal.τ).loc Cert.ReferenceGlaInWgradIdeal.main_arg2) = m ((c.tc : Thread Cert.ReferenceGlaInWgradIdeal.nD Cert.ReferenceGlaInWgradIdeal.τ).loc Cert.ReferenceGlaInWgradIdeal.main_arg2))
      ∧ r.2.sem = fun _ => 0)

def quiescent_KernelUpVal [hKernelUpVal : Cert.KernelUpVal.Facts] : Prop :=
  ∀ (m : (ℓ : Loc Cert.KernelUpVal.nD Cert.KernelUpVal.τ Cert.KernelUpVal.sig) → Buf (Elt Bits) ℓ) (g : Dev Cert.KernelUpVal.nD → PrngReg), Pre_KernelUpVal m →
    θ_run (Cert.KernelUpVal.defs (F := Bits)) (onTc (τ := Cert.KernelUpVal.τ) (Cert.KernelUpVal.main (F := Bits))) ⟨m, fun _ => 0, g⟩ (fun r => (∀ c : Dev Cert.KernelUpVal.nD,
      r.2.mem ((c.tc : Thread Cert.KernelUpVal.nD Cert.KernelUpVal.τ).loc Cert.KernelUpVal.main_arg0) = m ((c.tc : Thread Cert.KernelUpVal.nD Cert.KernelUpVal.τ).loc Cert.KernelUpVal.main_arg0)
      ∧ r.2.mem ((c.tc : Thread Cert.KernelUpVal.nD Cert.KernelUpVal.τ).loc Cert.KernelUpVal.main_arg1) = m ((c.tc : Thread Cert.KernelUpVal.nD Cert.KernelUpVal.τ).loc Cert.KernelUpVal.main_arg1))
      ∧ r.2.sem = fun _ => 0)

def quiescent_KernelUpValIdeal [hKernelUpValIdeal : Cert.KernelUpValIdeal.Facts] : Prop :=
  ∀ (m : (ℓ : Loc Cert.KernelUpValIdeal.nD Cert.KernelUpValIdeal.τ Cert.KernelUpValIdeal.sig) → Buf (Elt Ideal) ℓ) (g : Dev Cert.KernelUpValIdeal.nD → PrngReg), Pre_KernelUpValIdeal m →
    θ_run (Cert.KernelUpValIdeal.defs (F := Ideal)) (onTc (τ := Cert.KernelUpValIdeal.τ) (Cert.KernelUpValIdeal.main (F := Ideal))) ⟨m, fun _ => 0, g⟩ (fun r => (∀ c : Dev Cert.KernelUpValIdeal.nD,
      r.2.mem ((c.tc : Thread Cert.KernelUpValIdeal.nD Cert.KernelUpValIdeal.τ).loc Cert.KernelUpValIdeal.main_arg0) = m ((c.tc : Thread Cert.KernelUpValIdeal.nD Cert.KernelUpValIdeal.τ).loc Cert.KernelUpValIdeal.main_arg0)
      ∧ r.2.mem ((c.tc : Thread Cert.KernelUpValIdeal.nD Cert.KernelUpValIdeal.τ).loc Cert.KernelUpValIdeal.main_arg1) = m ((c.tc : Thread Cert.KernelUpValIdeal.nD Cert.KernelUpValIdeal.τ).loc Cert.KernelUpValIdeal.main_arg1))
      ∧ r.2.sem = fun _ => 0)

def quiescent_ReferenceUpValIdeal [hReferenceUpValIdeal : Cert.ReferenceUpValIdeal.Facts] : Prop :=
  ∀ (m : (ℓ : Loc Cert.ReferenceUpValIdeal.nD Cert.ReferenceUpValIdeal.τ Cert.ReferenceUpValIdeal.sig) → Buf (Elt Ideal) ℓ) (g : Dev Cert.ReferenceUpValIdeal.nD → PrngReg), Pre_ReferenceUpValIdeal m →
    θ_run (Cert.ReferenceUpValIdeal.defs (F := Ideal)) (onTc (τ := Cert.ReferenceUpValIdeal.τ) (Cert.ReferenceUpValIdeal.main (F := Ideal))) ⟨m, fun _ => 0, g⟩ (fun r => (∀ c : Dev Cert.ReferenceUpValIdeal.nD,
      r.2.mem ((c.tc : Thread Cert.ReferenceUpValIdeal.nD Cert.ReferenceUpValIdeal.τ).loc Cert.ReferenceUpValIdeal.main_arg0) = m ((c.tc : Thread Cert.ReferenceUpValIdeal.nD Cert.ReferenceUpValIdeal.τ).loc Cert.ReferenceUpValIdeal.main_arg0)
      ∧ r.2.mem ((c.tc : Thread Cert.ReferenceUpValIdeal.nD Cert.ReferenceUpValIdeal.τ).loc Cert.ReferenceUpValIdeal.main_arg1) = m ((c.tc : Thread Cert.ReferenceUpValIdeal.nD Cert.ReferenceUpValIdeal.τ).loc Cert.ReferenceUpValIdeal.main_arg1))
      ∧ r.2.sem = fun _ => 0)

def quiescent_KernelUpGate [hKernelUpGate : Cert.KernelUpGate.Facts] : Prop :=
  ∀ (m : (ℓ : Loc Cert.KernelUpGate.nD Cert.KernelUpGate.τ Cert.KernelUpGate.sig) → Buf (Elt Bits) ℓ) (g : Dev Cert.KernelUpGate.nD → PrngReg), Pre_KernelUpGate m →
    θ_run (Cert.KernelUpGate.defs (F := Bits)) (onTc (τ := Cert.KernelUpGate.τ) (Cert.KernelUpGate.main (F := Bits))) ⟨m, fun _ => 0, g⟩ (fun r => (∀ c : Dev Cert.KernelUpGate.nD,
      r.2.mem ((c.tc : Thread Cert.KernelUpGate.nD Cert.KernelUpGate.τ).loc Cert.KernelUpGate.main_arg0) = m ((c.tc : Thread Cert.KernelUpGate.nD Cert.KernelUpGate.τ).loc Cert.KernelUpGate.main_arg0)
      ∧ r.2.mem ((c.tc : Thread Cert.KernelUpGate.nD Cert.KernelUpGate.τ).loc Cert.KernelUpGate.main_arg1) = m ((c.tc : Thread Cert.KernelUpGate.nD Cert.KernelUpGate.τ).loc Cert.KernelUpGate.main_arg1))
      ∧ r.2.sem = fun _ => 0)

def quiescent_KernelUpGateIdeal [hKernelUpGateIdeal : Cert.KernelUpGateIdeal.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg), Pre_KernelUpGateIdeal m →
    θ_run (Cert.KernelUpGateIdeal.defs (F := Ideal)) (onTc (τ := Cert.KernelUpGateIdeal.τ) (Cert.KernelUpGateIdeal.main (F := Ideal))) ⟨m, fun _ => 0, g⟩ (fun r => (∀ c : Dev Cert.KernelUpGateIdeal.nD,
      r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
      ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1))
      ∧ r.2.sem = fun _ => 0)

def quiescent_ReferenceUpGateIdeal [hReferenceUpGateIdeal : Cert.ReferenceUpGateIdeal.Facts] : Prop :=
  ∀ (m : (ℓ : Loc Cert.ReferenceUpGateIdeal.nD Cert.ReferenceUpGateIdeal.τ Cert.ReferenceUpGateIdeal.sig) → Buf (Elt Ideal) ℓ) (g : Dev Cert.ReferenceUpGateIdeal.nD → PrngReg), Pre_ReferenceUpGateIdeal m →
    θ_run (Cert.ReferenceUpGateIdeal.defs (F := Ideal)) (onTc (τ := Cert.ReferenceUpGateIdeal.τ) (Cert.ReferenceUpGateIdeal.main (F := Ideal))) ⟨m, fun _ => 0, g⟩ (fun r => (∀ c : Dev Cert.ReferenceUpGateIdeal.nD,
      r.2.mem ((c.tc : Thread Cert.ReferenceUpGateIdeal.nD Cert.ReferenceUpGateIdeal.τ).loc Cert.ReferenceUpGateIdeal.main_arg0) = m ((c.tc : Thread Cert.ReferenceUpGateIdeal.nD Cert.ReferenceUpGateIdeal.τ).loc Cert.ReferenceUpGateIdeal.main_arg0)
      ∧ r.2.mem ((c.tc : Thread Cert.ReferenceUpGateIdeal.nD Cert.ReferenceUpGateIdeal.τ).loc Cert.ReferenceUpGateIdeal.main_arg1) = m ((c.tc : Thread Cert.ReferenceUpGateIdeal.nD Cert.ReferenceUpGateIdeal.τ).loc Cert.ReferenceUpGateIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelQkvProj [hKernelQkvProj : Cert.KernelQkvProj.Facts] : Prop :=
  ∀ (m : (ℓ : Loc Cert.KernelQkvProj.nD Cert.KernelQkvProj.τ Cert.KernelQkvProj.sig) → Buf (Elt Bits) ℓ) (g : Dev Cert.KernelQkvProj.nD → PrngReg), Pre_KernelQkvProj m →
    θ_run (Cert.KernelQkvProj.defs (F := Bits)) (onTc (τ := Cert.KernelQkvProj.τ) (Cert.KernelQkvProj.main (F := Bits))) ⟨m, fun _ => 0, g⟩ (fun r => (∀ c : Dev Cert.KernelQkvProj.nD,
      r.2.mem ((c.tc : Thread Cert.KernelQkvProj.nD Cert.KernelQkvProj.τ).loc Cert.KernelQkvProj.main_arg0) = m ((c.tc : Thread Cert.KernelQkvProj.nD Cert.KernelQkvProj.τ).loc Cert.KernelQkvProj.main_arg0)
      ∧ r.2.mem ((c.tc : Thread Cert.KernelQkvProj.nD Cert.KernelQkvProj.τ).loc Cert.KernelQkvProj.main_arg1) = m ((c.tc : Thread Cert.KernelQkvProj.nD Cert.KernelQkvProj.τ).loc Cert.KernelQkvProj.main_arg1))
      ∧ r.2.sem = fun _ => 0)

def quiescent_KernelQkvProjIdeal [hKernelQkvProjIdeal : Cert.KernelQkvProjIdeal.Facts] : Prop :=
  ∀ (m : (ℓ : Loc Cert.KernelQkvProjIdeal.nD Cert.KernelQkvProjIdeal.τ Cert.KernelQkvProjIdeal.sig) → Buf (Elt Ideal) ℓ) (g : Dev Cert.KernelQkvProjIdeal.nD → PrngReg), Pre_KernelQkvProjIdeal m →
    θ_run (Cert.KernelQkvProjIdeal.defs (F := Ideal)) (onTc (τ := Cert.KernelQkvProjIdeal.τ) (Cert.KernelQkvProjIdeal.main (F := Ideal))) ⟨m, fun _ => 0, g⟩ (fun r => (∀ c : Dev Cert.KernelQkvProjIdeal.nD,
      r.2.mem ((c.tc : Thread Cert.KernelQkvProjIdeal.nD Cert.KernelQkvProjIdeal.τ).loc Cert.KernelQkvProjIdeal.main_arg0) = m ((c.tc : Thread Cert.KernelQkvProjIdeal.nD Cert.KernelQkvProjIdeal.τ).loc Cert.KernelQkvProjIdeal.main_arg0)
      ∧ r.2.mem ((c.tc : Thread Cert.KernelQkvProjIdeal.nD Cert.KernelQkvProjIdeal.τ).loc Cert.KernelQkvProjIdeal.main_arg1) = m ((c.tc : Thread Cert.KernelQkvProjIdeal.nD Cert.KernelQkvProjIdeal.τ).loc Cert.KernelQkvProjIdeal.main_arg1))
      ∧ r.2.sem = fun _ => 0)

def quiescent_ReferenceQkvProjIdeal [hReferenceQkvProjIdeal : Cert.ReferenceQkvProjIdeal.Facts] : Prop :=
  ∀ (m : (ℓ : Loc Cert.ReferenceQkvProjIdeal.nD Cert.ReferenceQkvProjIdeal.τ Cert.ReferenceQkvProjIdeal.sig) → Buf (Elt Ideal) ℓ) (g : Dev Cert.ReferenceQkvProjIdeal.nD → PrngReg), Pre_ReferenceQkvProjIdeal m →
    θ_run (Cert.ReferenceQkvProjIdeal.defs (F := Ideal)) (onTc (τ := Cert.ReferenceQkvProjIdeal.τ) (Cert.ReferenceQkvProjIdeal.main (F := Ideal))) ⟨m, fun _ => 0, g⟩ (fun r => (∀ c : Dev Cert.ReferenceQkvProjIdeal.nD,
      r.2.mem ((c.tc : Thread Cert.ReferenceQkvProjIdeal.nD Cert.ReferenceQkvProjIdeal.τ).loc Cert.ReferenceQkvProjIdeal.main_arg0) = m ((c.tc : Thread Cert.ReferenceQkvProjIdeal.nD Cert.ReferenceQkvProjIdeal.τ).loc Cert.ReferenceQkvProjIdeal.main_arg0)
      ∧ r.2.mem ((c.tc : Thread Cert.ReferenceQkvProjIdeal.nD Cert.ReferenceQkvProjIdeal.τ).loc Cert.ReferenceQkvProjIdeal.main_arg1) = m ((c.tc : Thread Cert.ReferenceQkvProjIdeal.nD Cert.ReferenceQkvProjIdeal.τ).loc Cert.ReferenceQkvProjIdeal.main_arg1))
      ∧ r.2.sem = fun _ => 0)

def quiescent_KernelAttnOutProj [hKernelAttnOutProj : Cert.KernelAttnOutProj.Facts] : Prop :=
  ∀ (m : (ℓ : Loc Cert.KernelAttnOutProj.nD Cert.KernelAttnOutProj.τ Cert.KernelAttnOutProj.sig) → Buf (Elt Bits) ℓ) (g : Dev Cert.KernelAttnOutProj.nD → PrngReg), Pre_KernelAttnOutProj m →
    θ_run (Cert.KernelAttnOutProj.defs (F := Bits)) (onTc (τ := Cert.KernelAttnOutProj.τ) (Cert.KernelAttnOutProj.main (F := Bits))) ⟨m, fun _ => 0, g⟩ (fun r => (∀ c : Dev Cert.KernelAttnOutProj.nD,
      r.2.mem ((c.tc : Thread Cert.KernelAttnOutProj.nD Cert.KernelAttnOutProj.τ).loc Cert.KernelAttnOutProj.main_arg0) = m ((c.tc : Thread Cert.KernelAttnOutProj.nD Cert.KernelAttnOutProj.τ).loc Cert.KernelAttnOutProj.main_arg0)
      ∧ r.2.mem ((c.tc : Thread Cert.KernelAttnOutProj.nD Cert.KernelAttnOutProj.τ).loc Cert.KernelAttnOutProj.main_arg1) = m ((c.tc : Thread Cert.KernelAttnOutProj.nD Cert.KernelAttnOutProj.τ).loc Cert.KernelAttnOutProj.main_arg1)
      ∧ r.2.mem ((c.tc : Thread Cert.KernelAttnOutProj.nD Cert.KernelAttnOutProj.τ).loc Cert.KernelAttnOutProj.main_arg2) = m ((c.tc : Thread Cert.KernelAttnOutProj.nD Cert.KernelAttnOutProj.τ).loc Cert.KernelAttnOutProj.main_arg2))
      ∧ r.2.sem = fun _ => 0)

def quiescent_KernelAttnOutProjIdeal [hKernelAttnOutProjIdeal : Cert.KernelAttnOutProjIdeal.Facts] : Prop :=
  ∀ (m : (ℓ : Loc Cert.KernelAttnOutProjIdeal.nD Cert.KernelAttnOutProjIdeal.τ Cert.KernelAttnOutProjIdeal.sig) → Buf (Elt Ideal) ℓ) (g : Dev Cert.KernelAttnOutProjIdeal.nD → PrngReg), Pre_KernelAttnOutProjIdeal m →
    θ_run (Cert.KernelAttnOutProjIdeal.defs (F := Ideal)) (onTc (τ := Cert.KernelAttnOutProjIdeal.τ) (Cert.KernelAttnOutProjIdeal.main (F := Ideal))) ⟨m, fun _ => 0, g⟩ (fun r => (∀ c : Dev Cert.KernelAttnOutProjIdeal.nD,
      r.2.mem ((c.tc : Thread Cert.KernelAttnOutProjIdeal.nD Cert.KernelAttnOutProjIdeal.τ).loc Cert.KernelAttnOutProjIdeal.main_arg0) = m ((c.tc : Thread Cert.KernelAttnOutProjIdeal.nD Cert.KernelAttnOutProjIdeal.τ).loc Cert.KernelAttnOutProjIdeal.main_arg0)
      ∧ r.2.mem ((c.tc : Thread Cert.KernelAttnOutProjIdeal.nD Cert.KernelAttnOutProjIdeal.τ).loc Cert.KernelAttnOutProjIdeal.main_arg1) = m ((c.tc : Thread Cert.KernelAttnOutProjIdeal.nD Cert.KernelAttnOutProjIdeal.τ).loc Cert.KernelAttnOutProjIdeal.main_arg1)
      ∧ r.2.mem ((c.tc : Thread Cert.KernelAttnOutProjIdeal.nD Cert.KernelAttnOutProjIdeal.τ).loc Cert.KernelAttnOutProjIdeal.main_arg2) = m ((c.tc : Thread Cert.KernelAttnOutProjIdeal.nD Cert.KernelAttnOutProjIdeal.τ).loc Cert.KernelAttnOutProjIdeal.main_arg2))
      ∧ r.2.sem = fun _ => 0)

def quiescent_ReferenceAttnOutProjIdeal [hReferenceAttnOutProjIdeal : Cert.ReferenceAttnOutProjIdeal.Facts] : Prop :=
  ∀ (m : (ℓ : Loc Cert.ReferenceAttnOutProjIdeal.nD Cert.ReferenceAttnOutProjIdeal.τ Cert.ReferenceAttnOutProjIdeal.sig) → Buf (Elt Ideal) ℓ) (g : Dev Cert.ReferenceAttnOutProjIdeal.nD → PrngReg), Pre_ReferenceAttnOutProjIdeal m →
    θ_run (Cert.ReferenceAttnOutProjIdeal.defs (F := Ideal)) (onTc (τ := Cert.ReferenceAttnOutProjIdeal.τ) (Cert.ReferenceAttnOutProjIdeal.main (F := Ideal))) ⟨m, fun _ => 0, g⟩ (fun r => (∀ c : Dev Cert.ReferenceAttnOutProjIdeal.nD,
      r.2.mem ((c.tc : Thread Cert.ReferenceAttnOutProjIdeal.nD Cert.ReferenceAttnOutProjIdeal.τ).loc Cert.ReferenceAttnOutProjIdeal.main_arg0) = m ((c.tc : Thread Cert.ReferenceAttnOutProjIdeal.nD Cert.ReferenceAttnOutProjIdeal.τ).loc Cert.ReferenceAttnOutProjIdeal.main_arg0)
      ∧ r.2.mem ((c.tc : Thread Cert.ReferenceAttnOutProjIdeal.nD Cert.ReferenceAttnOutProjIdeal.τ).loc Cert.ReferenceAttnOutProjIdeal.main_arg1) = m ((c.tc : Thread Cert.ReferenceAttnOutProjIdeal.nD Cert.ReferenceAttnOutProjIdeal.τ).loc Cert.ReferenceAttnOutProjIdeal.main_arg1)
      ∧ r.2.mem ((c.tc : Thread Cert.ReferenceAttnOutProjIdeal.nD Cert.ReferenceAttnOutProjIdeal.τ).loc Cert.ReferenceAttnOutProjIdeal.main_arg2) = m ((c.tc : Thread Cert.ReferenceAttnOutProjIdeal.nD Cert.ReferenceAttnOutProjIdeal.τ).loc Cert.ReferenceAttnOutProjIdeal.main_arg2))
      ∧ r.2.sem = fun _ => 0)

def quiescent_KernelGlaInProj [hKernelGlaInProj : Cert.KernelGlaInProj.Facts] : Prop :=
  ∀ (m : (ℓ : Loc Cert.KernelGlaInProj.nD Cert.KernelGlaInProj.τ Cert.KernelGlaInProj.sig) → Buf (Elt Bits) ℓ) (g : Dev Cert.KernelGlaInProj.nD → PrngReg), Pre_KernelGlaInProj m →
    θ_run (Cert.KernelGlaInProj.defs (F := Bits)) (onTc (τ := Cert.KernelGlaInProj.τ) (Cert.KernelGlaInProj.main (F := Bits))) ⟨m, fun _ => 0, g⟩ (fun r => (∀ c : Dev Cert.KernelGlaInProj.nD,
      r.2.mem ((c.tc : Thread Cert.KernelGlaInProj.nD Cert.KernelGlaInProj.τ).loc Cert.KernelGlaInProj.main_arg0) = m ((c.tc : Thread Cert.KernelGlaInProj.nD Cert.KernelGlaInProj.τ).loc Cert.KernelGlaInProj.main_arg0)
      ∧ r.2.mem ((c.tc : Thread Cert.KernelGlaInProj.nD Cert.KernelGlaInProj.τ).loc Cert.KernelGlaInProj.main_arg1) = m ((c.tc : Thread Cert.KernelGlaInProj.nD Cert.KernelGlaInProj.τ).loc Cert.KernelGlaInProj.main_arg1))
      ∧ r.2.sem = fun _ => 0)

def quiescent_KernelGlaInProjIdeal [hKernelGlaInProjIdeal : Cert.KernelGlaInProjIdeal.Facts] : Prop :=
  ∀ (m : (ℓ : Loc Cert.KernelGlaInProjIdeal.nD Cert.KernelGlaInProjIdeal.τ Cert.KernelGlaInProjIdeal.sig) → Buf (Elt Ideal) ℓ) (g : Dev Cert.KernelGlaInProjIdeal.nD → PrngReg), Pre_KernelGlaInProjIdeal m →
    θ_run (Cert.KernelGlaInProjIdeal.defs (F := Ideal)) (onTc (τ := Cert.KernelGlaInProjIdeal.τ) (Cert.KernelGlaInProjIdeal.main (F := Ideal))) ⟨m, fun _ => 0, g⟩ (fun r => (∀ c : Dev Cert.KernelGlaInProjIdeal.nD,
      r.2.mem ((c.tc : Thread Cert.KernelGlaInProjIdeal.nD Cert.KernelGlaInProjIdeal.τ).loc Cert.KernelGlaInProjIdeal.main_arg0) = m ((c.tc : Thread Cert.KernelGlaInProjIdeal.nD Cert.KernelGlaInProjIdeal.τ).loc Cert.KernelGlaInProjIdeal.main_arg0)
      ∧ r.2.mem ((c.tc : Thread Cert.KernelGlaInProjIdeal.nD Cert.KernelGlaInProjIdeal.τ).loc Cert.KernelGlaInProjIdeal.main_arg1) = m ((c.tc : Thread Cert.KernelGlaInProjIdeal.nD Cert.KernelGlaInProjIdeal.τ).loc Cert.KernelGlaInProjIdeal.main_arg1))
      ∧ r.2.sem = fun _ => 0)

def quiescent_ReferenceGlaInProjIdeal [hReferenceGlaInProjIdeal : Cert.ReferenceGlaInProjIdeal.Facts] : Prop :=
  ∀ (m : (ℓ : Loc Cert.ReferenceGlaInProjIdeal.nD Cert.ReferenceGlaInProjIdeal.τ Cert.ReferenceGlaInProjIdeal.sig) → Buf (Elt Ideal) ℓ) (g : Dev Cert.ReferenceGlaInProjIdeal.nD → PrngReg), Pre_ReferenceGlaInProjIdeal m →
    θ_run (Cert.ReferenceGlaInProjIdeal.defs (F := Ideal)) (onTc (τ := Cert.ReferenceGlaInProjIdeal.τ) (Cert.ReferenceGlaInProjIdeal.main (F := Ideal))) ⟨m, fun _ => 0, g⟩ (fun r => (∀ c : Dev Cert.ReferenceGlaInProjIdeal.nD,
      r.2.mem ((c.tc : Thread Cert.ReferenceGlaInProjIdeal.nD Cert.ReferenceGlaInProjIdeal.τ).loc Cert.ReferenceGlaInProjIdeal.main_arg0) = m ((c.tc : Thread Cert.ReferenceGlaInProjIdeal.nD Cert.ReferenceGlaInProjIdeal.τ).loc Cert.ReferenceGlaInProjIdeal.main_arg0)
      ∧ r.2.mem ((c.tc : Thread Cert.ReferenceGlaInProjIdeal.nD Cert.ReferenceGlaInProjIdeal.τ).loc Cert.ReferenceGlaInProjIdeal.main_arg1) = m ((c.tc : Thread Cert.ReferenceGlaInProjIdeal.nD Cert.ReferenceGlaInProjIdeal.τ).loc Cert.ReferenceGlaInProjIdeal.main_arg1))
      ∧ r.2.sem = fun _ => 0)

def quiescent_KernelGlaGateLogits [hKernelGlaGateLogits : Cert.KernelGlaGateLogits.Facts] : Prop :=
  ∀ (m : (ℓ : Loc Cert.KernelGlaGateLogits.nD Cert.KernelGlaGateLogits.τ Cert.KernelGlaGateLogits.sig) → Buf (Elt Bits) ℓ) (g : Dev Cert.KernelGlaGateLogits.nD → PrngReg), Pre_KernelGlaGateLogits m →
    θ_run (Cert.KernelGlaGateLogits.defs (F := Bits)) (onTc (τ := Cert.KernelGlaGateLogits.τ) (Cert.KernelGlaGateLogits.main (F := Bits))) ⟨m, fun _ => 0, g⟩ (fun r => (∀ c : Dev Cert.KernelGlaGateLogits.nD,
      r.2.mem ((c.tc : Thread Cert.KernelGlaGateLogits.nD Cert.KernelGlaGateLogits.τ).loc Cert.KernelGlaGateLogits.main_arg0) = m ((c.tc : Thread Cert.KernelGlaGateLogits.nD Cert.KernelGlaGateLogits.τ).loc Cert.KernelGlaGateLogits.main_arg0)
      ∧ r.2.mem ((c.tc : Thread Cert.KernelGlaGateLogits.nD Cert.KernelGlaGateLogits.τ).loc Cert.KernelGlaGateLogits.main_arg1) = m ((c.tc : Thread Cert.KernelGlaGateLogits.nD Cert.KernelGlaGateLogits.τ).loc Cert.KernelGlaGateLogits.main_arg1))
      ∧ r.2.sem = fun _ => 0)

def quiescent_KernelGlaGateLogitsIdeal [hKernelGlaGateLogitsIdeal : Cert.KernelGlaGateLogitsIdeal.Facts] : Prop :=
  ∀ (m : (ℓ : Loc Cert.KernelGlaGateLogitsIdeal.nD Cert.KernelGlaGateLogitsIdeal.τ Cert.KernelGlaGateLogitsIdeal.sig) → Buf (Elt Ideal) ℓ) (g : Dev Cert.KernelGlaGateLogitsIdeal.nD → PrngReg), Pre_KernelGlaGateLogitsIdeal m →
    θ_run (Cert.KernelGlaGateLogitsIdeal.defs (F := Ideal)) (onTc (τ := Cert.KernelGlaGateLogitsIdeal.τ) (Cert.KernelGlaGateLogitsIdeal.main (F := Ideal))) ⟨m, fun _ => 0, g⟩ (fun r => (∀ c : Dev Cert.KernelGlaGateLogitsIdeal.nD,
      r.2.mem ((c.tc : Thread Cert.KernelGlaGateLogitsIdeal.nD Cert.KernelGlaGateLogitsIdeal.τ).loc Cert.KernelGlaGateLogitsIdeal.main_arg0) = m ((c.tc : Thread Cert.KernelGlaGateLogitsIdeal.nD Cert.KernelGlaGateLogitsIdeal.τ).loc Cert.KernelGlaGateLogitsIdeal.main_arg0)
      ∧ r.2.mem ((c.tc : Thread Cert.KernelGlaGateLogitsIdeal.nD Cert.KernelGlaGateLogitsIdeal.τ).loc Cert.KernelGlaGateLogitsIdeal.main_arg1) = m ((c.tc : Thread Cert.KernelGlaGateLogitsIdeal.nD Cert.KernelGlaGateLogitsIdeal.τ).loc Cert.KernelGlaGateLogitsIdeal.main_arg1))
      ∧ r.2.sem = fun _ => 0)

def quiescent_ReferenceGlaGateLogitsIdeal [hReferenceGlaGateLogitsIdeal : Cert.ReferenceGlaGateLogitsIdeal.Facts] : Prop :=
  ∀ (m : (ℓ : Loc Cert.ReferenceGlaGateLogitsIdeal.nD Cert.ReferenceGlaGateLogitsIdeal.τ Cert.ReferenceGlaGateLogitsIdeal.sig) → Buf (Elt Ideal) ℓ) (g : Dev Cert.ReferenceGlaGateLogitsIdeal.nD → PrngReg), Pre_ReferenceGlaGateLogitsIdeal m →
    θ_run (Cert.ReferenceGlaGateLogitsIdeal.defs (F := Ideal)) (onTc (τ := Cert.ReferenceGlaGateLogitsIdeal.τ) (Cert.ReferenceGlaGateLogitsIdeal.main (F := Ideal))) ⟨m, fun _ => 0, g⟩ (fun r => (∀ c : Dev Cert.ReferenceGlaGateLogitsIdeal.nD,
      r.2.mem ((c.tc : Thread Cert.ReferenceGlaGateLogitsIdeal.nD Cert.ReferenceGlaGateLogitsIdeal.τ).loc Cert.ReferenceGlaGateLogitsIdeal.main_arg0) = m ((c.tc : Thread Cert.ReferenceGlaGateLogitsIdeal.nD Cert.ReferenceGlaGateLogitsIdeal.τ).loc Cert.ReferenceGlaGateLogitsIdeal.main_arg0)
      ∧ r.2.mem ((c.tc : Thread Cert.ReferenceGlaGateLogitsIdeal.nD Cert.ReferenceGlaGateLogitsIdeal.τ).loc Cert.ReferenceGlaGateLogitsIdeal.main_arg1) = m ((c.tc : Thread Cert.ReferenceGlaGateLogitsIdeal.nD Cert.ReferenceGlaGateLogitsIdeal.τ).loc Cert.ReferenceGlaGateLogitsIdeal.main_arg1))
      ∧ r.2.sem = fun _ => 0)

def quiescent_KernelGlaOutProj [hKernelGlaOutProj : Cert.KernelGlaOutProj.Facts] : Prop :=
  ∀ (m : (ℓ : Loc Cert.KernelGlaOutProj.nD Cert.KernelGlaOutProj.τ Cert.KernelGlaOutProj.sig) → Buf (Elt Bits) ℓ) (g : Dev Cert.KernelGlaOutProj.nD → PrngReg), Pre_KernelGlaOutProj m →
    θ_run (Cert.KernelGlaOutProj.defs (F := Bits)) (onTc (τ := Cert.KernelGlaOutProj.τ) (Cert.KernelGlaOutProj.main (F := Bits))) ⟨m, fun _ => 0, g⟩ (fun r => (∀ c : Dev Cert.KernelGlaOutProj.nD,
      r.2.mem ((c.tc : Thread Cert.KernelGlaOutProj.nD Cert.KernelGlaOutProj.τ).loc Cert.KernelGlaOutProj.main_arg0) = m ((c.tc : Thread Cert.KernelGlaOutProj.nD Cert.KernelGlaOutProj.τ).loc Cert.KernelGlaOutProj.main_arg0)
      ∧ r.2.mem ((c.tc : Thread Cert.KernelGlaOutProj.nD Cert.KernelGlaOutProj.τ).loc Cert.KernelGlaOutProj.main_arg1) = m ((c.tc : Thread Cert.KernelGlaOutProj.nD Cert.KernelGlaOutProj.τ).loc Cert.KernelGlaOutProj.main_arg1)
      ∧ r.2.mem ((c.tc : Thread Cert.KernelGlaOutProj.nD Cert.KernelGlaOutProj.τ).loc Cert.KernelGlaOutProj.main_arg2) = m ((c.tc : Thread Cert.KernelGlaOutProj.nD Cert.KernelGlaOutProj.τ).loc Cert.KernelGlaOutProj.main_arg2))
      ∧ r.2.sem = fun _ => 0)

def quiescent_KernelGlaOutProjIdeal [hKernelGlaOutProjIdeal : Cert.KernelGlaOutProjIdeal.Facts] : Prop :=
  ∀ (m : (ℓ : Loc Cert.KernelGlaOutProjIdeal.nD Cert.KernelGlaOutProjIdeal.τ Cert.KernelGlaOutProjIdeal.sig) → Buf (Elt Ideal) ℓ) (g : Dev Cert.KernelGlaOutProjIdeal.nD → PrngReg), Pre_KernelGlaOutProjIdeal m →
    θ_run (Cert.KernelGlaOutProjIdeal.defs (F := Ideal)) (onTc (τ := Cert.KernelGlaOutProjIdeal.τ) (Cert.KernelGlaOutProjIdeal.main (F := Ideal))) ⟨m, fun _ => 0, g⟩ (fun r => (∀ c : Dev Cert.KernelGlaOutProjIdeal.nD,
      r.2.mem ((c.tc : Thread Cert.KernelGlaOutProjIdeal.nD Cert.KernelGlaOutProjIdeal.τ).loc Cert.KernelGlaOutProjIdeal.main_arg0) = m ((c.tc : Thread Cert.KernelGlaOutProjIdeal.nD Cert.KernelGlaOutProjIdeal.τ).loc Cert.KernelGlaOutProjIdeal.main_arg0)
      ∧ r.2.mem ((c.tc : Thread Cert.KernelGlaOutProjIdeal.nD Cert.KernelGlaOutProjIdeal.τ).loc Cert.KernelGlaOutProjIdeal.main_arg1) = m ((c.tc : Thread Cert.KernelGlaOutProjIdeal.nD Cert.KernelGlaOutProjIdeal.τ).loc Cert.KernelGlaOutProjIdeal.main_arg1)
      ∧ r.2.mem ((c.tc : Thread Cert.KernelGlaOutProjIdeal.nD Cert.KernelGlaOutProjIdeal.τ).loc Cert.KernelGlaOutProjIdeal.main_arg2) = m ((c.tc : Thread Cert.KernelGlaOutProjIdeal.nD Cert.KernelGlaOutProjIdeal.τ).loc Cert.KernelGlaOutProjIdeal.main_arg2))
      ∧ r.2.sem = fun _ => 0)

def quiescent_ReferenceGlaOutProjIdeal [hReferenceGlaOutProjIdeal : Cert.ReferenceGlaOutProjIdeal.Facts] : Prop :=
  ∀ (m : (ℓ : Loc Cert.ReferenceGlaOutProjIdeal.nD Cert.ReferenceGlaOutProjIdeal.τ Cert.ReferenceGlaOutProjIdeal.sig) → Buf (Elt Ideal) ℓ) (g : Dev Cert.ReferenceGlaOutProjIdeal.nD → PrngReg), Pre_ReferenceGlaOutProjIdeal m →
    θ_run (Cert.ReferenceGlaOutProjIdeal.defs (F := Ideal)) (onTc (τ := Cert.ReferenceGlaOutProjIdeal.τ) (Cert.ReferenceGlaOutProjIdeal.main (F := Ideal))) ⟨m, fun _ => 0, g⟩ (fun r => (∀ c : Dev Cert.ReferenceGlaOutProjIdeal.nD,
      r.2.mem ((c.tc : Thread Cert.ReferenceGlaOutProjIdeal.nD Cert.ReferenceGlaOutProjIdeal.τ).loc Cert.ReferenceGlaOutProjIdeal.main_arg0) = m ((c.tc : Thread Cert.ReferenceGlaOutProjIdeal.nD Cert.ReferenceGlaOutProjIdeal.τ).loc Cert.ReferenceGlaOutProjIdeal.main_arg0)
      ∧ r.2.mem ((c.tc : Thread Cert.ReferenceGlaOutProjIdeal.nD Cert.ReferenceGlaOutProjIdeal.τ).loc Cert.ReferenceGlaOutProjIdeal.main_arg1) = m ((c.tc : Thread Cert.ReferenceGlaOutProjIdeal.nD Cert.ReferenceGlaOutProjIdeal.τ).loc Cert.ReferenceGlaOutProjIdeal.main_arg1)
      ∧ r.2.mem ((c.tc : Thread Cert.ReferenceGlaOutProjIdeal.nD Cert.ReferenceGlaOutProjIdeal.τ).loc Cert.ReferenceGlaOutProjIdeal.main_arg2) = m ((c.tc : Thread Cert.ReferenceGlaOutProjIdeal.nD Cert.ReferenceGlaOutProjIdeal.τ).loc Cert.ReferenceGlaOutProjIdeal.main_arg2))
      ∧ r.2.sem = fun _ => 0)

def quiescent_KernelConvActBwd [hKernelConvActBwd : Cert.KernelConvActBwd.Facts] : Prop :=
  ∀ (m : (ℓ : Loc Cert.KernelConvActBwd.nD Cert.KernelConvActBwd.τ Cert.KernelConvActBwd.sig) → Buf (Elt Bits) ℓ) (g : Dev Cert.KernelConvActBwd.nD → PrngReg), Pre_KernelConvActBwd m →
    θ_run (Cert.KernelConvActBwd.defs (F := Bits)) (onTc (τ := Cert.KernelConvActBwd.τ) (Cert.KernelConvActBwd.main (F := Bits))) ⟨m, fun _ => 0, g⟩ (fun r => (∀ c : Dev Cert.KernelConvActBwd.nD,
      r.2.mem ((c.tc : Thread Cert.KernelConvActBwd.nD Cert.KernelConvActBwd.τ).loc Cert.KernelConvActBwd.main_arg0) = m ((c.tc : Thread Cert.KernelConvActBwd.nD Cert.KernelConvActBwd.τ).loc Cert.KernelConvActBwd.main_arg0)
      ∧ r.2.mem ((c.tc : Thread Cert.KernelConvActBwd.nD Cert.KernelConvActBwd.τ).loc Cert.KernelConvActBwd.main_arg1) = m ((c.tc : Thread Cert.KernelConvActBwd.nD Cert.KernelConvActBwd.τ).loc Cert.KernelConvActBwd.main_arg1)
      ∧ r.2.mem ((c.tc : Thread Cert.KernelConvActBwd.nD Cert.KernelConvActBwd.τ).loc Cert.KernelConvActBwd.main_arg2) = m ((c.tc : Thread Cert.KernelConvActBwd.nD Cert.KernelConvActBwd.τ).loc Cert.KernelConvActBwd.main_arg2)
      ∧ r.2.mem ((c.tc : Thread Cert.KernelConvActBwd.nD Cert.KernelConvActBwd.τ).loc Cert.KernelConvActBwd.main_arg3) = m ((c.tc : Thread Cert.KernelConvActBwd.nD Cert.KernelConvActBwd.τ).loc Cert.KernelConvActBwd.main_arg3)
      ∧ r.2.mem ((c.tc : Thread Cert.KernelConvActBwd.nD Cert.KernelConvActBwd.τ).loc Cert.KernelConvActBwd.main_arg4) = m ((c.tc : Thread Cert.KernelConvActBwd.nD Cert.KernelConvActBwd.τ).loc Cert.KernelConvActBwd.main_arg4)
      ∧ r.2.mem ((c.tc : Thread Cert.KernelConvActBwd.nD Cert.KernelConvActBwd.τ).loc Cert.KernelConvActBwd.main_arg5) = m ((c.tc : Thread Cert.KernelConvActBwd.nD Cert.KernelConvActBwd.τ).loc Cert.KernelConvActBwd.main_arg5)
      ∧ r.2.mem ((c.tc : Thread Cert.KernelConvActBwd.nD Cert.KernelConvActBwd.τ).loc Cert.KernelConvActBwd.main_arg6) = m ((c.tc : Thread Cert.KernelConvActBwd.nD Cert.KernelConvActBwd.τ).loc Cert.KernelConvActBwd.main_arg6))
      ∧ r.2.sem = fun _ => 0)

def quiescent_KernelConvActBwdIdeal [hKernelConvActBwdIdeal : Cert.KernelConvActBwdIdeal.Facts] : Prop :=
  ∀ (m : (ℓ : Loc Cert.KernelConvActBwdIdeal.nD Cert.KernelConvActBwdIdeal.τ Cert.KernelConvActBwdIdeal.sig) → Buf (Elt Ideal) ℓ) (g : Dev Cert.KernelConvActBwdIdeal.nD → PrngReg), Pre_KernelConvActBwdIdeal m →
    θ_run (Cert.KernelConvActBwdIdeal.defs (F := Ideal)) (onTc (τ := Cert.KernelConvActBwdIdeal.τ) (Cert.KernelConvActBwdIdeal.main (F := Ideal))) ⟨m, fun _ => 0, g⟩ (fun r => (∀ c : Dev Cert.KernelConvActBwdIdeal.nD,
      r.2.mem ((c.tc : Thread Cert.KernelConvActBwdIdeal.nD Cert.KernelConvActBwdIdeal.τ).loc Cert.KernelConvActBwdIdeal.main_arg0) = m ((c.tc : Thread Cert.KernelConvActBwdIdeal.nD Cert.KernelConvActBwdIdeal.τ).loc Cert.KernelConvActBwdIdeal.main_arg0)
      ∧ r.2.mem ((c.tc : Thread Cert.KernelConvActBwdIdeal.nD Cert.KernelConvActBwdIdeal.τ).loc Cert.KernelConvActBwdIdeal.main_arg1) = m ((c.tc : Thread Cert.KernelConvActBwdIdeal.nD Cert.KernelConvActBwdIdeal.τ).loc Cert.KernelConvActBwdIdeal.main_arg1)
      ∧ r.2.mem ((c.tc : Thread Cert.KernelConvActBwdIdeal.nD Cert.KernelConvActBwdIdeal.τ).loc Cert.KernelConvActBwdIdeal.main_arg2) = m ((c.tc : Thread Cert.KernelConvActBwdIdeal.nD Cert.KernelConvActBwdIdeal.τ).loc Cert.KernelConvActBwdIdeal.main_arg2)
      ∧ r.2.mem ((c.tc : Thread Cert.KernelConvActBwdIdeal.nD Cert.KernelConvActBwdIdeal.τ).loc Cert.KernelConvActBwdIdeal.main_arg3) = m ((c.tc : Thread Cert.KernelConvActBwdIdeal.nD Cert.KernelConvActBwdIdeal.τ).loc Cert.KernelConvActBwdIdeal.main_arg3)
      ∧ r.2.mem ((c.tc : Thread Cert.KernelConvActBwdIdeal.nD Cert.KernelConvActBwdIdeal.τ).loc Cert.KernelConvActBwdIdeal.main_arg4) = m ((c.tc : Thread Cert.KernelConvActBwdIdeal.nD Cert.KernelConvActBwdIdeal.τ).loc Cert.KernelConvActBwdIdeal.main_arg4)
      ∧ r.2.mem ((c.tc : Thread Cert.KernelConvActBwdIdeal.nD Cert.KernelConvActBwdIdeal.τ).loc Cert.KernelConvActBwdIdeal.main_arg5) = m ((c.tc : Thread Cert.KernelConvActBwdIdeal.nD Cert.KernelConvActBwdIdeal.τ).loc Cert.KernelConvActBwdIdeal.main_arg5)
      ∧ r.2.mem ((c.tc : Thread Cert.KernelConvActBwdIdeal.nD Cert.KernelConvActBwdIdeal.τ).loc Cert.KernelConvActBwdIdeal.main_arg6) = m ((c.tc : Thread Cert.KernelConvActBwdIdeal.nD Cert.KernelConvActBwdIdeal.τ).loc Cert.KernelConvActBwdIdeal.main_arg6))
      ∧ r.2.sem = fun _ => 0)

def quiescent_KernelConvActBwdIdeal_pre_conv_slope_finite [hKernelConvActBwdIdeal : Cert.KernelConvActBwdIdeal.Facts] [hPre_conv_slope_finite : Cert.Pre_conv_slope_finite.Facts] : Prop :=
  ∀ (m : (ℓ : Loc Cert.KernelConvActBwdIdeal.nD Cert.KernelConvActBwdIdeal.τ Cert.KernelConvActBwdIdeal.sig) → Buf (Elt Ideal) ℓ) (g : Dev Cert.KernelConvActBwdIdeal.nD → PrngReg), Pre_KernelConvActBwdIdeal_conv_slope_finite m →
    θ_run (Cert.KernelConvActBwdIdeal.defs (F := Ideal)) (onTc (τ := Cert.KernelConvActBwdIdeal.τ) (Cert.KernelConvActBwdIdeal.main (F := Ideal))) ⟨m, fun _ => 0, g⟩ (fun r => (∀ c : Dev Cert.KernelConvActBwdIdeal.nD,
      r.2.mem ((c.tc : Thread Cert.KernelConvActBwdIdeal.nD Cert.KernelConvActBwdIdeal.τ).loc Cert.KernelConvActBwdIdeal.main_arg0) = m ((c.tc : Thread Cert.KernelConvActBwdIdeal.nD Cert.KernelConvActBwdIdeal.τ).loc Cert.KernelConvActBwdIdeal.main_arg0)
      ∧ r.2.mem ((c.tc : Thread Cert.KernelConvActBwdIdeal.nD Cert.KernelConvActBwdIdeal.τ).loc Cert.KernelConvActBwdIdeal.main_arg1) = m ((c.tc : Thread Cert.KernelConvActBwdIdeal.nD Cert.KernelConvActBwdIdeal.τ).loc Cert.KernelConvActBwdIdeal.main_arg1)
      ∧ r.2.mem ((c.tc : Thread Cert.KernelConvActBwdIdeal.nD Cert.KernelConvActBwdIdeal.τ).loc Cert.KernelConvActBwdIdeal.main_arg2) = m ((c.tc : Thread Cert.KernelConvActBwdIdeal.nD Cert.KernelConvActBwdIdeal.τ).loc Cert.KernelConvActBwdIdeal.main_arg2)
      ∧ r.2.mem ((c.tc : Thread Cert.KernelConvActBwdIdeal.nD Cert.KernelConvActBwdIdeal.τ).loc Cert.KernelConvActBwdIdeal.main_arg3) = m ((c.tc : Thread Cert.KernelConvActBwdIdeal.nD Cert.KernelConvActBwdIdeal.τ).loc Cert.KernelConvActBwdIdeal.main_arg3)
      ∧ r.2.mem ((c.tc : Thread Cert.KernelConvActBwdIdeal.nD Cert.KernelConvActBwdIdeal.τ).loc Cert.KernelConvActBwdIdeal.main_arg4) = m ((c.tc : Thread Cert.KernelConvActBwdIdeal.nD Cert.KernelConvActBwdIdeal.τ).loc Cert.KernelConvActBwdIdeal.main_arg4)
      ∧ r.2.mem ((c.tc : Thread Cert.KernelConvActBwdIdeal.nD Cert.KernelConvActBwdIdeal.τ).loc Cert.KernelConvActBwdIdeal.main_arg5) = m ((c.tc : Thread Cert.KernelConvActBwdIdeal.nD Cert.KernelConvActBwdIdeal.τ).loc Cert.KernelConvActBwdIdeal.main_arg5)
      ∧ r.2.mem ((c.tc : Thread Cert.KernelConvActBwdIdeal.nD Cert.KernelConvActBwdIdeal.τ).loc Cert.KernelConvActBwdIdeal.main_arg6) = m ((c.tc : Thread Cert.KernelConvActBwdIdeal.nD Cert.KernelConvActBwdIdeal.τ).loc Cert.KernelConvActBwdIdeal.main_arg6))
      ∧ r.2.sem = fun _ => 0)

def quiescent_ReferenceConvActBwdIdeal [hReferenceConvActBwdIdeal : Cert.ReferenceConvActBwdIdeal.Facts] : Prop :=
  ∀ (m : (ℓ : Loc Cert.ReferenceConvActBwdIdeal.nD Cert.ReferenceConvActBwdIdeal.τ Cert.ReferenceConvActBwdIdeal.sig) → Buf (Elt Ideal) ℓ) (g : Dev Cert.ReferenceConvActBwdIdeal.nD → PrngReg), Pre_ReferenceConvActBwdIdeal m →
    θ_run (Cert.ReferenceConvActBwdIdeal.defs (F := Ideal)) (onTc (τ := Cert.ReferenceConvActBwdIdeal.τ) (Cert.ReferenceConvActBwdIdeal.main (F := Ideal))) ⟨m, fun _ => 0, g⟩ (fun r => (∀ c : Dev Cert.ReferenceConvActBwdIdeal.nD,
      r.2.mem ((c.tc : Thread Cert.ReferenceConvActBwdIdeal.nD Cert.ReferenceConvActBwdIdeal.τ).loc Cert.ReferenceConvActBwdIdeal.main_arg0) = m ((c.tc : Thread Cert.ReferenceConvActBwdIdeal.nD Cert.ReferenceConvActBwdIdeal.τ).loc Cert.ReferenceConvActBwdIdeal.main_arg0)
      ∧ r.2.mem ((c.tc : Thread Cert.ReferenceConvActBwdIdeal.nD Cert.ReferenceConvActBwdIdeal.τ).loc Cert.ReferenceConvActBwdIdeal.main_arg1) = m ((c.tc : Thread Cert.ReferenceConvActBwdIdeal.nD Cert.ReferenceConvActBwdIdeal.τ).loc Cert.ReferenceConvActBwdIdeal.main_arg1)
      ∧ r.2.mem ((c.tc : Thread Cert.ReferenceConvActBwdIdeal.nD Cert.ReferenceConvActBwdIdeal.τ).loc Cert.ReferenceConvActBwdIdeal.main_arg2) = m ((c.tc : Thread Cert.ReferenceConvActBwdIdeal.nD Cert.ReferenceConvActBwdIdeal.τ).loc Cert.ReferenceConvActBwdIdeal.main_arg2)
      ∧ r.2.mem ((c.tc : Thread Cert.ReferenceConvActBwdIdeal.nD Cert.ReferenceConvActBwdIdeal.τ).loc Cert.ReferenceConvActBwdIdeal.main_arg3) = m ((c.tc : Thread Cert.ReferenceConvActBwdIdeal.nD Cert.ReferenceConvActBwdIdeal.τ).loc Cert.ReferenceConvActBwdIdeal.main_arg3)
      ∧ r.2.mem ((c.tc : Thread Cert.ReferenceConvActBwdIdeal.nD Cert.ReferenceConvActBwdIdeal.τ).loc Cert.ReferenceConvActBwdIdeal.main_arg4) = m ((c.tc : Thread Cert.ReferenceConvActBwdIdeal.nD Cert.ReferenceConvActBwdIdeal.τ).loc Cert.ReferenceConvActBwdIdeal.main_arg4)
      ∧ r.2.mem ((c.tc : Thread Cert.ReferenceConvActBwdIdeal.nD Cert.ReferenceConvActBwdIdeal.τ).loc Cert.ReferenceConvActBwdIdeal.main_arg5) = m ((c.tc : Thread Cert.ReferenceConvActBwdIdeal.nD Cert.ReferenceConvActBwdIdeal.τ).loc Cert.ReferenceConvActBwdIdeal.main_arg5)
      ∧ r.2.mem ((c.tc : Thread Cert.ReferenceConvActBwdIdeal.nD Cert.ReferenceConvActBwdIdeal.τ).loc Cert.ReferenceConvActBwdIdeal.main_arg6) = m ((c.tc : Thread Cert.ReferenceConvActBwdIdeal.nD Cert.ReferenceConvActBwdIdeal.τ).loc Cert.ReferenceConvActBwdIdeal.main_arg6))
      ∧ r.2.sem = fun _ => 0)

def quiescent_ReferenceConvActBwdIdeal_pre_conv_slope_finite [hReferenceConvActBwdIdeal : Cert.ReferenceConvActBwdIdeal.Facts] [hPre_conv_slope_finite : Cert.Pre_conv_slope_finite.Facts] : Prop :=
  ∀ (m : (ℓ : Loc Cert.ReferenceConvActBwdIdeal.nD Cert.ReferenceConvActBwdIdeal.τ Cert.ReferenceConvActBwdIdeal.sig) → Buf (Elt Ideal) ℓ) (g : Dev Cert.ReferenceConvActBwdIdeal.nD → PrngReg), Pre_ReferenceConvActBwdIdeal_conv_slope_finite m →
    θ_run (Cert.ReferenceConvActBwdIdeal.defs (F := Ideal)) (onTc (τ := Cert.ReferenceConvActBwdIdeal.τ) (Cert.ReferenceConvActBwdIdeal.main (F := Ideal))) ⟨m, fun _ => 0, g⟩ (fun r => (∀ c : Dev Cert.ReferenceConvActBwdIdeal.nD,
      r.2.mem ((c.tc : Thread Cert.ReferenceConvActBwdIdeal.nD Cert.ReferenceConvActBwdIdeal.τ).loc Cert.ReferenceConvActBwdIdeal.main_arg0) = m ((c.tc : Thread Cert.ReferenceConvActBwdIdeal.nD Cert.ReferenceConvActBwdIdeal.τ).loc Cert.ReferenceConvActBwdIdeal.main_arg0)
      ∧ r.2.mem ((c.tc : Thread Cert.ReferenceConvActBwdIdeal.nD Cert.ReferenceConvActBwdIdeal.τ).loc Cert.ReferenceConvActBwdIdeal.main_arg1) = m ((c.tc : Thread Cert.ReferenceConvActBwdIdeal.nD Cert.ReferenceConvActBwdIdeal.τ).loc Cert.ReferenceConvActBwdIdeal.main_arg1)
      ∧ r.2.mem ((c.tc : Thread Cert.ReferenceConvActBwdIdeal.nD Cert.ReferenceConvActBwdIdeal.τ).loc Cert.ReferenceConvActBwdIdeal.main_arg2) = m ((c.tc : Thread Cert.ReferenceConvActBwdIdeal.nD Cert.ReferenceConvActBwdIdeal.τ).loc Cert.ReferenceConvActBwdIdeal.main_arg2)
      ∧ r.2.mem ((c.tc : Thread Cert.ReferenceConvActBwdIdeal.nD Cert.ReferenceConvActBwdIdeal.τ).loc Cert.ReferenceConvActBwdIdeal.main_arg3) = m ((c.tc : Thread Cert.ReferenceConvActBwdIdeal.nD Cert.ReferenceConvActBwdIdeal.τ).loc Cert.ReferenceConvActBwdIdeal.main_arg3)
      ∧ r.2.mem ((c.tc : Thread Cert.ReferenceConvActBwdIdeal.nD Cert.ReferenceConvActBwdIdeal.τ).loc Cert.ReferenceConvActBwdIdeal.main_arg4) = m ((c.tc : Thread Cert.ReferenceConvActBwdIdeal.nD Cert.ReferenceConvActBwdIdeal.τ).loc Cert.ReferenceConvActBwdIdeal.main_arg4)
      ∧ r.2.mem ((c.tc : Thread Cert.ReferenceConvActBwdIdeal.nD Cert.ReferenceConvActBwdIdeal.τ).loc Cert.ReferenceConvActBwdIdeal.main_arg5) = m ((c.tc : Thread Cert.ReferenceConvActBwdIdeal.nD Cert.ReferenceConvActBwdIdeal.τ).loc Cert.ReferenceConvActBwdIdeal.main_arg5)
      ∧ r.2.mem ((c.tc : Thread Cert.ReferenceConvActBwdIdeal.nD Cert.ReferenceConvActBwdIdeal.τ).loc Cert.ReferenceConvActBwdIdeal.main_arg6) = m ((c.tc : Thread Cert.ReferenceConvActBwdIdeal.nD Cert.ReferenceConvActBwdIdeal.τ).loc Cert.ReferenceConvActBwdIdeal.main_arg6))
      ∧ r.2.sem = fun _ => 0)

def quiescent_KernelConvT [hKernelConvT : Cert.KernelConvT.Facts] : Prop :=
  ∀ (m : (ℓ : Loc Cert.KernelConvT.nD Cert.KernelConvT.τ Cert.KernelConvT.sig) → Buf (Elt Bits) ℓ) (g : Dev Cert.KernelConvT.nD → PrngReg), Pre_KernelConvT m →
    θ_run (Cert.KernelConvT.defs (F := Bits)) (onTc (τ := Cert.KernelConvT.τ) (Cert.KernelConvT.main (F := Bits))) ⟨m, fun _ => 0, g⟩ (fun r => (∀ c : Dev Cert.KernelConvT.nD,
      r.2.mem ((c.tc : Thread Cert.KernelConvT.nD Cert.KernelConvT.τ).loc Cert.KernelConvT.main_arg0) = m ((c.tc : Thread Cert.KernelConvT.nD Cert.KernelConvT.τ).loc Cert.KernelConvT.main_arg0)
      ∧ r.2.mem ((c.tc : Thread Cert.KernelConvT.nD Cert.KernelConvT.τ).loc Cert.KernelConvT.main_arg1) = m ((c.tc : Thread Cert.KernelConvT.nD Cert.KernelConvT.τ).loc Cert.KernelConvT.main_arg1))
      ∧ r.2.sem = fun _ => 0)

def quiescent_KernelConvTIdeal [hKernelConvTIdeal : Cert.KernelConvTIdeal.Facts] : Prop :=
  ∀ (m : (ℓ : Loc Cert.KernelConvTIdeal.nD Cert.KernelConvTIdeal.τ Cert.KernelConvTIdeal.sig) → Buf (Elt Ideal) ℓ) (g : Dev Cert.KernelConvTIdeal.nD → PrngReg), Pre_KernelConvTIdeal m →
    θ_run (Cert.KernelConvTIdeal.defs (F := Ideal)) (onTc (τ := Cert.KernelConvTIdeal.τ) (Cert.KernelConvTIdeal.main (F := Ideal))) ⟨m, fun _ => 0, g⟩ (fun r => (∀ c : Dev Cert.KernelConvTIdeal.nD,
      r.2.mem ((c.tc : Thread Cert.KernelConvTIdeal.nD Cert.KernelConvTIdeal.τ).loc Cert.KernelConvTIdeal.main_arg0) = m ((c.tc : Thread Cert.KernelConvTIdeal.nD Cert.KernelConvTIdeal.τ).loc Cert.KernelConvTIdeal.main_arg0)
      ∧ r.2.mem ((c.tc : Thread Cert.KernelConvTIdeal.nD Cert.KernelConvTIdeal.τ).loc Cert.KernelConvTIdeal.main_arg1) = m ((c.tc : Thread Cert.KernelConvTIdeal.nD Cert.KernelConvTIdeal.τ).loc Cert.KernelConvTIdeal.main_arg1))
      ∧ r.2.sem = fun _ => 0)

def quiescent_ReferenceConvTIdeal [hReferenceConvTIdeal : Cert.ReferenceConvTIdeal.Facts] : Prop :=
  ∀ (m : (ℓ : Loc Cert.ReferenceConvTIdeal.nD Cert.ReferenceConvTIdeal.τ Cert.ReferenceConvTIdeal.sig) → Buf (Elt Ideal) ℓ) (g : Dev Cert.ReferenceConvTIdeal.nD → PrngReg), Pre_ReferenceConvTIdeal m →
    θ_run (Cert.ReferenceConvTIdeal.defs (F := Ideal)) (onTc (τ := Cert.ReferenceConvTIdeal.τ) (Cert.ReferenceConvTIdeal.main (F := Ideal))) ⟨m, fun _ => 0, g⟩ (fun r => (∀ c : Dev Cert.ReferenceConvTIdeal.nD,
      r.2.mem ((c.tc : Thread Cert.ReferenceConvTIdeal.nD Cert.ReferenceConvTIdeal.τ).loc Cert.ReferenceConvTIdeal.main_arg0) = m ((c.tc : Thread Cert.ReferenceConvTIdeal.nD Cert.ReferenceConvTIdeal.τ).loc Cert.ReferenceConvTIdeal.main_arg0)
      ∧ r.2.mem ((c.tc : Thread Cert.ReferenceConvTIdeal.nD Cert.ReferenceConvTIdeal.τ).loc Cert.ReferenceConvTIdeal.main_arg1) = m ((c.tc : Thread Cert.ReferenceConvTIdeal.nD Cert.ReferenceConvTIdeal.τ).loc Cert.ReferenceConvTIdeal.main_arg1))
      ∧ r.2.sem = fun _ => 0)

def quiescent_KernelNormBwd [hKernelNormBwd : Cert.KernelNormBwd.Facts] : Prop :=
  ∀ (m : (ℓ : Loc Cert.KernelNormBwd.nD Cert.KernelNormBwd.τ Cert.KernelNormBwd.sig) → Buf (Elt Bits) ℓ) (g : Dev Cert.KernelNormBwd.nD → PrngReg), Pre_KernelNormBwd m →
    θ_run (Cert.KernelNormBwd.defs (F := Bits)) (onTc (τ := Cert.KernelNormBwd.τ) (Cert.KernelNormBwd.main (F := Bits))) ⟨m, fun _ => 0, g⟩ (fun r => (∀ c : Dev Cert.KernelNormBwd.nD,
      r.2.mem ((c.tc : Thread Cert.KernelNormBwd.nD Cert.KernelNormBwd.τ).loc Cert.KernelNormBwd.main_arg0) = m ((c.tc : Thread Cert.KernelNormBwd.nD Cert.KernelNormBwd.τ).loc Cert.KernelNormBwd.main_arg0)
      ∧ r.2.mem ((c.tc : Thread Cert.KernelNormBwd.nD Cert.KernelNormBwd.τ).loc Cert.KernelNormBwd.main_arg1) = m ((c.tc : Thread Cert.KernelNormBwd.nD Cert.KernelNormBwd.τ).loc Cert.KernelNormBwd.main_arg1)
      ∧ r.2.mem ((c.tc : Thread Cert.KernelNormBwd.nD Cert.KernelNormBwd.τ).loc Cert.KernelNormBwd.main_arg2) = m ((c.tc : Thread Cert.KernelNormBwd.nD Cert.KernelNormBwd.τ).loc Cert.KernelNormBwd.main_arg2)
      ∧ r.2.mem ((c.tc : Thread Cert.KernelNormBwd.nD Cert.KernelNormBwd.τ).loc Cert.KernelNormBwd.main_arg3) = m ((c.tc : Thread Cert.KernelNormBwd.nD Cert.KernelNormBwd.τ).loc Cert.KernelNormBwd.main_arg3))
      ∧ r.2.sem = fun _ => 0)

def quiescent_KernelNormBwdIdeal [hKernelNormBwdIdeal : Cert.KernelNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg), Pre_KernelNormBwdIdeal m →
    θ_run (Cert.KernelNormBwdIdeal.defs (F := Ideal)) (onTc (τ := Cert.KernelNormBwdIdeal.τ) (Cert.KernelNormBwdIdeal.main (F := Ideal))) ⟨m, fun _ => 0, g⟩ (fun r => (∀ c : Dev Cert.KernelNormBwdIdeal.nD,
      r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
      ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
      ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
      ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ r.2.sem = fun _ => 0)

def quiescent_ReferenceNormBwdIdeal [hReferenceNormBwdIdeal : Cert.ReferenceNormBwdIdeal.Facts] : Prop :=
  ∀ (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg), Pre_ReferenceNormBwdIdeal m →
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3))
      ∧ r.2.sem = fun _ => 0)

def quiescent_KernelGlaGateBwd [hKernelGlaGateBwd : Cert.KernelGlaGateBwd.Facts] : Prop :=
  ∀ (m : (ℓ : Loc Cert.KernelGlaGateBwd.nD Cert.KernelGlaGateBwd.τ Cert.KernelGlaGateBwd.sig) → Buf (Elt Bits) ℓ) (g : Dev Cert.KernelGlaGateBwd.nD → PrngReg), Pre_KernelGlaGateBwd m →
    θ_run (Cert.KernelGlaGateBwd.defs (F := Bits)) (onTc (τ := Cert.KernelGlaGateBwd.τ) (Cert.KernelGlaGateBwd.main (F := Bits))) ⟨m, fun _ => 0, g⟩ (fun r => (∀ c : Dev Cert.KernelGlaGateBwd.nD,
      r.2.mem ((c.tc : Thread Cert.KernelGlaGateBwd.nD Cert.KernelGlaGateBwd.τ).loc Cert.KernelGlaGateBwd.main_arg0) = m ((c.tc : Thread Cert.KernelGlaGateBwd.nD Cert.KernelGlaGateBwd.τ).loc Cert.KernelGlaGateBwd.main_arg0)
      ∧ r.2.mem ((c.tc : Thread Cert.KernelGlaGateBwd.nD Cert.KernelGlaGateBwd.τ).loc Cert.KernelGlaGateBwd.main_arg1) = m ((c.tc : Thread Cert.KernelGlaGateBwd.nD Cert.KernelGlaGateBwd.τ).loc Cert.KernelGlaGateBwd.main_arg1)
      ∧ r.2.mem ((c.tc : Thread Cert.KernelGlaGateBwd.nD Cert.KernelGlaGateBwd.τ).loc Cert.KernelGlaGateBwd.main_arg2) = m ((c.tc : Thread Cert.KernelGlaGateBwd.nD Cert.KernelGlaGateBwd.τ).loc Cert.KernelGlaGateBwd.main_arg2)
      ∧ r.2.mem ((c.tc : Thread Cert.KernelGlaGateBwd.nD Cert.KernelGlaGateBwd.τ).loc Cert.KernelGlaGateBwd.main_arg3) = m ((c.tc : Thread Cert.KernelGlaGateBwd.nD Cert.KernelGlaGateBwd.τ).loc Cert.KernelGlaGateBwd.main_arg3)
      ∧ r.2.mem ((c.tc : Thread Cert.KernelGlaGateBwd.nD Cert.KernelGlaGateBwd.τ).loc Cert.KernelGlaGateBwd.main_arg4) = m ((c.tc : Thread Cert.KernelGlaGateBwd.nD Cert.KernelGlaGateBwd.τ).loc Cert.KernelGlaGateBwd.main_arg4))
      ∧ r.2.sem = fun _ => 0)

def quiescent_KernelGlaGateBwdIdeal [hKernelGlaGateBwdIdeal : Cert.KernelGlaGateBwdIdeal.Facts] : Prop :=
  ∀ (m : (ℓ : Loc Cert.KernelGlaGateBwdIdeal.nD Cert.KernelGlaGateBwdIdeal.τ Cert.KernelGlaGateBwdIdeal.sig) → Buf (Elt Ideal) ℓ) (g : Dev Cert.KernelGlaGateBwdIdeal.nD → PrngReg), Pre_KernelGlaGateBwdIdeal m →
    θ_run (Cert.KernelGlaGateBwdIdeal.defs (F := Ideal)) (onTc (τ := Cert.KernelGlaGateBwdIdeal.τ) (Cert.KernelGlaGateBwdIdeal.main (F := Ideal))) ⟨m, fun _ => 0, g⟩ (fun r => (∀ c : Dev Cert.KernelGlaGateBwdIdeal.nD,
      r.2.mem ((c.tc : Thread Cert.KernelGlaGateBwdIdeal.nD Cert.KernelGlaGateBwdIdeal.τ).loc Cert.KernelGlaGateBwdIdeal.main_arg0) = m ((c.tc : Thread Cert.KernelGlaGateBwdIdeal.nD Cert.KernelGlaGateBwdIdeal.τ).loc Cert.KernelGlaGateBwdIdeal.main_arg0)
      ∧ r.2.mem ((c.tc : Thread Cert.KernelGlaGateBwdIdeal.nD Cert.KernelGlaGateBwdIdeal.τ).loc Cert.KernelGlaGateBwdIdeal.main_arg1) = m ((c.tc : Thread Cert.KernelGlaGateBwdIdeal.nD Cert.KernelGlaGateBwdIdeal.τ).loc Cert.KernelGlaGateBwdIdeal.main_arg1)
      ∧ r.2.mem ((c.tc : Thread Cert.KernelGlaGateBwdIdeal.nD Cert.KernelGlaGateBwdIdeal.τ).loc Cert.KernelGlaGateBwdIdeal.main_arg2) = m ((c.tc : Thread Cert.KernelGlaGateBwdIdeal.nD Cert.KernelGlaGateBwdIdeal.τ).loc Cert.KernelGlaGateBwdIdeal.main_arg2)
      ∧ r.2.mem ((c.tc : Thread Cert.KernelGlaGateBwdIdeal.nD Cert.KernelGlaGateBwdIdeal.τ).loc Cert.KernelGlaGateBwdIdeal.main_arg3) = m ((c.tc : Thread Cert.KernelGlaGateBwdIdeal.nD Cert.KernelGlaGateBwdIdeal.τ).loc Cert.KernelGlaGateBwdIdeal.main_arg3)
      ∧ r.2.mem ((c.tc : Thread Cert.KernelGlaGateBwdIdeal.nD Cert.KernelGlaGateBwdIdeal.τ).loc Cert.KernelGlaGateBwdIdeal.main_arg4) = m ((c.tc : Thread Cert.KernelGlaGateBwdIdeal.nD Cert.KernelGlaGateBwdIdeal.τ).loc Cert.KernelGlaGateBwdIdeal.main_arg4))
      ∧ r.2.sem = fun _ => 0)

def quiescent_KernelGlaGateBwdIdeal_pre_gate_slope_finite [hKernelGlaGateBwdIdeal : Cert.KernelGlaGateBwdIdeal.Facts] [hPre_gate_slope_finite : Cert.Pre_gate_slope_finite.Facts] : Prop :=
  ∀ (m : (ℓ : Loc Cert.KernelGlaGateBwdIdeal.nD Cert.KernelGlaGateBwdIdeal.τ Cert.KernelGlaGateBwdIdeal.sig) → Buf (Elt Ideal) ℓ) (g : Dev Cert.KernelGlaGateBwdIdeal.nD → PrngReg), Pre_KernelGlaGateBwdIdeal_gate_slope_finite m →
    θ_run (Cert.KernelGlaGateBwdIdeal.defs (F := Ideal)) (onTc (τ := Cert.KernelGlaGateBwdIdeal.τ) (Cert.KernelGlaGateBwdIdeal.main (F := Ideal))) ⟨m, fun _ => 0, g⟩ (fun r => (∀ c : Dev Cert.KernelGlaGateBwdIdeal.nD,
      r.2.mem ((c.tc : Thread Cert.KernelGlaGateBwdIdeal.nD Cert.KernelGlaGateBwdIdeal.τ).loc Cert.KernelGlaGateBwdIdeal.main_arg0) = m ((c.tc : Thread Cert.KernelGlaGateBwdIdeal.nD Cert.KernelGlaGateBwdIdeal.τ).loc Cert.KernelGlaGateBwdIdeal.main_arg0)
      ∧ r.2.mem ((c.tc : Thread Cert.KernelGlaGateBwdIdeal.nD Cert.KernelGlaGateBwdIdeal.τ).loc Cert.KernelGlaGateBwdIdeal.main_arg1) = m ((c.tc : Thread Cert.KernelGlaGateBwdIdeal.nD Cert.KernelGlaGateBwdIdeal.τ).loc Cert.KernelGlaGateBwdIdeal.main_arg1)
      ∧ r.2.mem ((c.tc : Thread Cert.KernelGlaGateBwdIdeal.nD Cert.KernelGlaGateBwdIdeal.τ).loc Cert.KernelGlaGateBwdIdeal.main_arg2) = m ((c.tc : Thread Cert.KernelGlaGateBwdIdeal.nD Cert.KernelGlaGateBwdIdeal.τ).loc Cert.KernelGlaGateBwdIdeal.main_arg2)
      ∧ r.2.mem ((c.tc : Thread Cert.KernelGlaGateBwdIdeal.nD Cert.KernelGlaGateBwdIdeal.τ).loc Cert.KernelGlaGateBwdIdeal.main_arg3) = m ((c.tc : Thread Cert.KernelGlaGateBwdIdeal.nD Cert.KernelGlaGateBwdIdeal.τ).loc Cert.KernelGlaGateBwdIdeal.main_arg3)
      ∧ r.2.mem ((c.tc : Thread Cert.KernelGlaGateBwdIdeal.nD Cert.KernelGlaGateBwdIdeal.τ).loc Cert.KernelGlaGateBwdIdeal.main_arg4) = m ((c.tc : Thread Cert.KernelGlaGateBwdIdeal.nD Cert.KernelGlaGateBwdIdeal.τ).loc Cert.KernelGlaGateBwdIdeal.main_arg4))
      ∧ r.2.sem = fun _ => 0)

def quiescent_ReferenceGlaGateBwdIdeal [hReferenceGlaGateBwdIdeal : Cert.ReferenceGlaGateBwdIdeal.Facts] : Prop :=
  ∀ (m : (ℓ : Loc Cert.ReferenceGlaGateBwdIdeal.nD Cert.ReferenceGlaGateBwdIdeal.τ Cert.ReferenceGlaGateBwdIdeal.sig) → Buf (Elt Ideal) ℓ) (g : Dev Cert.ReferenceGlaGateBwdIdeal.nD → PrngReg), Pre_ReferenceGlaGateBwdIdeal m →
    θ_run (Cert.ReferenceGlaGateBwdIdeal.defs (F := Ideal)) (onTc (τ := Cert.ReferenceGlaGateBwdIdeal.τ) (Cert.ReferenceGlaGateBwdIdeal.main (F := Ideal))) ⟨m, fun _ => 0, g⟩ (fun r => (∀ c : Dev Cert.ReferenceGlaGateBwdIdeal.nD,
      r.2.mem ((c.tc : Thread Cert.ReferenceGlaGateBwdIdeal.nD Cert.ReferenceGlaGateBwdIdeal.τ).loc Cert.ReferenceGlaGateBwdIdeal.main_arg0) = m ((c.tc : Thread Cert.ReferenceGlaGateBwdIdeal.nD Cert.ReferenceGlaGateBwdIdeal.τ).loc Cert.ReferenceGlaGateBwdIdeal.main_arg0)
      ∧ r.2.mem ((c.tc : Thread Cert.ReferenceGlaGateBwdIdeal.nD Cert.ReferenceGlaGateBwdIdeal.τ).loc Cert.ReferenceGlaGateBwdIdeal.main_arg1) = m ((c.tc : Thread Cert.ReferenceGlaGateBwdIdeal.nD Cert.ReferenceGlaGateBwdIdeal.τ).loc Cert.ReferenceGlaGateBwdIdeal.main_arg1)
      ∧ r.2.mem ((c.tc : Thread Cert.ReferenceGlaGateBwdIdeal.nD Cert.ReferenceGlaGateBwdIdeal.τ).loc Cert.ReferenceGlaGateBwdIdeal.main_arg2) = m ((c.tc : Thread Cert.ReferenceGlaGateBwdIdeal.nD Cert.ReferenceGlaGateBwdIdeal.τ).loc Cert.ReferenceGlaGateBwdIdeal.main_arg2)
      ∧ r.2.mem ((c.tc : Thread Cert.ReferenceGlaGateBwdIdeal.nD Cert.ReferenceGlaGateBwdIdeal.τ).loc Cert.ReferenceGlaGateBwdIdeal.main_arg3) = m ((c.tc : Thread Cert.ReferenceGlaGateBwdIdeal.nD Cert.ReferenceGlaGateBwdIdeal.τ).loc Cert.ReferenceGlaGateBwdIdeal.main_arg3)
      ∧ r.2.mem ((c.tc : Thread Cert.ReferenceGlaGateBwdIdeal.nD Cert.ReferenceGlaGateBwdIdeal.τ).loc Cert.ReferenceGlaGateBwdIdeal.main_arg4) = m ((c.tc : Thread Cert.ReferenceGlaGateBwdIdeal.nD Cert.ReferenceGlaGateBwdIdeal.τ).loc Cert.ReferenceGlaGateBwdIdeal.main_arg4))
      ∧ r.2.sem = fun _ => 0)

def quiescent_ReferenceGlaGateBwdIdeal_pre_gate_slope_finite [hReferenceGlaGateBwdIdeal : Cert.ReferenceGlaGateBwdIdeal.Facts] [hPre_gate_slope_finite : Cert.Pre_gate_slope_finite.Facts] : Prop :=
  ∀ (m : (ℓ : Loc Cert.ReferenceGlaGateBwdIdeal.nD Cert.ReferenceGlaGateBwdIdeal.τ Cert.ReferenceGlaGateBwdIdeal.sig) → Buf (Elt Ideal) ℓ) (g : Dev Cert.ReferenceGlaGateBwdIdeal.nD → PrngReg), Pre_ReferenceGlaGateBwdIdeal_gate_slope_finite m →
    θ_run (Cert.ReferenceGlaGateBwdIdeal.defs (F := Ideal)) (onTc (τ := Cert.ReferenceGlaGateBwdIdeal.τ) (Cert.ReferenceGlaGateBwdIdeal.main (F := Ideal))) ⟨m, fun _ => 0, g⟩ (fun r => (∀ c : Dev Cert.ReferenceGlaGateBwdIdeal.nD,
      r.2.mem ((c.tc : Thread Cert.ReferenceGlaGateBwdIdeal.nD Cert.ReferenceGlaGateBwdIdeal.τ).loc Cert.ReferenceGlaGateBwdIdeal.main_arg0) = m ((c.tc : Thread Cert.ReferenceGlaGateBwdIdeal.nD Cert.ReferenceGlaGateBwdIdeal.τ).loc Cert.ReferenceGlaGateBwdIdeal.main_arg0)
      ∧ r.2.mem ((c.tc : Thread Cert.ReferenceGlaGateBwdIdeal.nD Cert.ReferenceGlaGateBwdIdeal.τ).loc Cert.ReferenceGlaGateBwdIdeal.main_arg1) = m ((c.tc : Thread Cert.ReferenceGlaGateBwdIdeal.nD Cert.ReferenceGlaGateBwdIdeal.τ).loc Cert.ReferenceGlaGateBwdIdeal.main_arg1)
      ∧ r.2.mem ((c.tc : Thread Cert.ReferenceGlaGateBwdIdeal.nD Cert.ReferenceGlaGateBwdIdeal.τ).loc Cert.ReferenceGlaGateBwdIdeal.main_arg2) = m ((c.tc : Thread Cert.ReferenceGlaGateBwdIdeal.nD Cert.ReferenceGlaGateBwdIdeal.τ).loc Cert.ReferenceGlaGateBwdIdeal.main_arg2)
      ∧ r.2.mem ((c.tc : Thread Cert.ReferenceGlaGateBwdIdeal.nD Cert.ReferenceGlaGateBwdIdeal.τ).loc Cert.ReferenceGlaGateBwdIdeal.main_arg3) = m ((c.tc : Thread Cert.ReferenceGlaGateBwdIdeal.nD Cert.ReferenceGlaGateBwdIdeal.τ).loc Cert.ReferenceGlaGateBwdIdeal.main_arg3)
      ∧ r.2.mem ((c.tc : Thread Cert.ReferenceGlaGateBwdIdeal.nD Cert.ReferenceGlaGateBwdIdeal.τ).loc Cert.ReferenceGlaGateBwdIdeal.main_arg4) = m ((c.tc : Thread Cert.ReferenceGlaGateBwdIdeal.nD Cert.ReferenceGlaGateBwdIdeal.τ).loc Cert.ReferenceGlaGateBwdIdeal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelAttnFwd_KernelAttnFwdIdeal : Prop :=
  IdealRules.named_const.Statement Cert.KernelAttnFwdIdeal.κ "scale_log2e" .f32 0x3E0293EE#32 (((11863283 / 134217728) * (Real.log 2)⁻¹ : ℝ) : EReal)

def algebraic_KernelAttnFwdIdeal_ReferenceAttnFwdIdeal_pre_qk_real [hKernelAttnFwdIdeal : Cert.KernelAttnFwdIdeal.Facts] [hReferenceAttnFwdIdeal : Cert.ReferenceAttnFwdIdeal.Facts] [hPre_qk_real : Cert.Pre_qk_real.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg)
    (m' : (ℓ : Loc Cert.ReferenceAttnFwdIdeal.nD Cert.ReferenceAttnFwdIdeal.τ Cert.ReferenceAttnFwdIdeal.sig) → Buf (Elt Ideal) ℓ) (g' : Dev Cert.ReferenceAttnFwdIdeal.nD → PrngReg), Pre_KernelAttnFwdIdeal_qk_real m →
    (∀ c : Dev Cert.KernelAttnFwdIdeal.nD,
      m' ((c.tc : Thread Cert.ReferenceAttnFwdIdeal.nD Cert.ReferenceAttnFwdIdeal.τ).loc Cert.ReferenceAttnFwdIdeal.main_arg0) = m ((c.tc : Thread Cert.KernelAttnFwdIdeal.nD Cert.KernelAttnFwdIdeal.τ).loc Cert.KernelAttnFwdIdeal.main_arg0)) →
    ∃ (v0 : (c : Dev Cert.KernelAttnFwdIdeal.nD) → Buf (Elt Ideal) ((c.tc : Thread Cert.KernelAttnFwdIdeal.nD Cert.KernelAttnFwdIdeal.τ).loc Cert.KernelAttnFwdIdeal.main_v0)),
      θ_run (Cert.KernelAttnFwdIdeal.defs (F := Ideal)) (onTc (τ := Cert.KernelAttnFwdIdeal.τ) (Cert.KernelAttnFwdIdeal.main (F := Ideal))) ⟨m, fun _ => 0, g⟩ (fun r => ∀ c : Dev Cert.KernelAttnFwdIdeal.nD,
          r.2.mem ((c.tc : Thread Cert.KernelAttnFwdIdeal.nD Cert.KernelAttnFwdIdeal.τ).loc Cert.KernelAttnFwdIdeal.main_v0) = v0 c
          ∧ r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0))
      ∧ θ_run (Cert.ReferenceAttnFwdIdeal.defs (F := Ideal)) (onTc (τ := Cert.ReferenceAttnFwdIdeal.τ) (Cert.ReferenceAttnFwdIdeal.main (F := Ideal))) ⟨m', fun _ => 0, g'⟩ (fun r => ∀ c : Dev Cert.ReferenceAttnFwdIdeal.nD,
          r.2.mem ((c.tc : Thread Cert.ReferenceAttnFwdIdeal.nD Cert.ReferenceAttnFwdIdeal.τ).loc Cert.ReferenceAttnFwdIdeal.main_v27) = v0 c
          ∧ r.2.mem ((c.tc : Thread Cert.ReferenceAttnFwdIdeal.nD Cert.ReferenceAttnFwdIdeal.τ).loc Cert.ReferenceAttnFwdIdeal.main_arg0) = m' ((c.tc : Thread Cert.ReferenceAttnFwdIdeal.nD Cert.ReferenceAttnFwdIdeal.τ).loc Cert.ReferenceAttnFwdIdeal.main_arg0))

def preserves_KernelDownDgrad_KernelDownDgradIdeal : Prop :=
  True

def algebraic_KernelDownDgradIdeal_ReferenceDownDgradIdeal [hKernelDownDgradIdeal : Cert.KernelDownDgradIdeal.Facts] [hReferenceDownDgradIdeal : Cert.ReferenceDownDgradIdeal.Facts] : Prop :=
  ∀ (m : (ℓ : Loc Cert.KernelDownDgradIdeal.nD Cert.KernelDownDgradIdeal.τ Cert.KernelDownDgradIdeal.sig) → Buf (Elt Ideal) ℓ) (g : Dev Cert.KernelDownDgradIdeal.nD → PrngReg)
    (m' : (ℓ : Loc Cert.ReferenceDownDgradIdeal.nD Cert.ReferenceDownDgradIdeal.τ Cert.ReferenceDownDgradIdeal.sig) → Buf (Elt Ideal) ℓ) (g' : Dev Cert.ReferenceDownDgradIdeal.nD → PrngReg), Pre_KernelDownDgradIdeal m →
    (∀ c : Dev Cert.KernelDownDgradIdeal.nD,
      m' ((c.tc : Thread Cert.ReferenceDownDgradIdeal.nD Cert.ReferenceDownDgradIdeal.τ).loc Cert.ReferenceDownDgradIdeal.main_arg0) = m ((c.tc : Thread Cert.KernelDownDgradIdeal.nD Cert.KernelDownDgradIdeal.τ).loc Cert.KernelDownDgradIdeal.main_arg0)
      ∧ m' ((c.tc : Thread Cert.ReferenceDownDgradIdeal.nD Cert.ReferenceDownDgradIdeal.τ).loc Cert.ReferenceDownDgradIdeal.main_arg1) = m ((c.tc : Thread Cert.KernelDownDgradIdeal.nD Cert.KernelDownDgradIdeal.τ).loc Cert.KernelDownDgradIdeal.main_arg1)) →
    ∃ (v0 : (c : Dev Cert.KernelDownDgradIdeal.nD) → Buf (Elt Ideal) ((c.tc : Thread Cert.KernelDownDgradIdeal.nD Cert.KernelDownDgradIdeal.τ).loc Cert.KernelDownDgradIdeal.main_v0)),
      θ_run (Cert.KernelDownDgradIdeal.defs (F := Ideal)) (onTc (τ := Cert.KernelDownDgradIdeal.τ) (Cert.KernelDownDgradIdeal.main (F := Ideal))) ⟨m, fun _ => 0, g⟩ (fun r => ∀ c : Dev Cert.KernelDownDgradIdeal.nD,
          r.2.mem ((c.tc : Thread Cert.KernelDownDgradIdeal.nD Cert.KernelDownDgradIdeal.τ).loc Cert.KernelDownDgradIdeal.main_v0) = v0 c
          ∧ r.2.mem ((c.tc : Thread Cert.KernelDownDgradIdeal.nD Cert.KernelDownDgradIdeal.τ).loc Cert.KernelDownDgradIdeal.main_arg0) = m ((c.tc : Thread Cert.KernelDownDgradIdeal.nD Cert.KernelDownDgradIdeal.τ).loc Cert.KernelDownDgradIdeal.main_arg0)
          ∧ r.2.mem ((c.tc : Thread Cert.KernelDownDgradIdeal.nD Cert.KernelDownDgradIdeal.τ).loc Cert.KernelDownDgradIdeal.main_arg1) = m ((c.tc : Thread Cert.KernelDownDgradIdeal.nD Cert.KernelDownDgradIdeal.τ).loc Cert.KernelDownDgradIdeal.main_arg1))
      ∧ θ_run (Cert.ReferenceDownDgradIdeal.defs (F := Ideal)) (onTc (τ := Cert.ReferenceDownDgradIdeal.τ) (Cert.ReferenceDownDgradIdeal.main (F := Ideal))) ⟨m', fun _ => 0, g'⟩ (fun r => ∀ c : Dev Cert.ReferenceDownDgradIdeal.nD,
          r.2.mem ((c.tc : Thread Cert.ReferenceDownDgradIdeal.nD Cert.ReferenceDownDgradIdeal.τ).loc Cert.ReferenceDownDgradIdeal.main_v3) = v0 c
          ∧ r.2.mem ((c.tc : Thread Cert.ReferenceDownDgradIdeal.nD Cert.ReferenceDownDgradIdeal.τ).loc Cert.ReferenceDownDgradIdeal.main_arg0) = m' ((c.tc : Thread Cert.ReferenceDownDgradIdeal.nD Cert.ReferenceDownDgradIdeal.τ).loc Cert.ReferenceDownDgradIdeal.main_arg0)
          ∧ r.2.mem ((c.tc : Thread Cert.ReferenceDownDgradIdeal.nD Cert.ReferenceDownDgradIdeal.τ).loc Cert.ReferenceDownDgradIdeal.main_arg1) = m' ((c.tc : Thread Cert.ReferenceDownDgradIdeal.nD Cert.ReferenceDownDgradIdeal.τ).loc Cert.ReferenceDownDgradIdeal.main_arg1))

def preserves_KernelDownWgrad_KernelDownWgradIdeal : Prop :=
  True

def algebraic_KernelDownWgradIdeal_ReferenceDownWgradIdeal [hKernelDownWgradIdeal : Cert.KernelDownWgradIdeal.Facts] [hReferenceDownWgradIdeal : Cert.ReferenceDownWgradIdeal.Facts] : Prop :=
  ∀ (m : (ℓ : Loc Cert.KernelDownWgradIdeal.nD Cert.KernelDownWgradIdeal.τ Cert.KernelDownWgradIdeal.sig) → Buf (Elt Ideal) ℓ) (g : Dev Cert.KernelDownWgradIdeal.nD → PrngReg)
    (m' : (ℓ : Loc Cert.ReferenceDownWgradIdeal.nD Cert.ReferenceDownWgradIdeal.τ Cert.ReferenceDownWgradIdeal.sig) → Buf (Elt Ideal) ℓ) (g' : Dev Cert.ReferenceDownWgradIdeal.nD → PrngReg), Pre_KernelDownWgradIdeal m →
    (∀ c : Dev Cert.KernelDownWgradIdeal.nD,
      m' ((c.tc : Thread Cert.ReferenceDownWgradIdeal.nD Cert.ReferenceDownWgradIdeal.τ).loc Cert.ReferenceDownWgradIdeal.main_arg0) = m ((c.tc : Thread Cert.KernelDownWgradIdeal.nD Cert.KernelDownWgradIdeal.τ).loc Cert.KernelDownWgradIdeal.main_arg0)
      ∧ m' ((c.tc : Thread Cert.ReferenceDownWgradIdeal.nD Cert.ReferenceDownWgradIdeal.τ).loc Cert.ReferenceDownWgradIdeal.main_arg1) = m ((c.tc : Thread Cert.KernelDownWgradIdeal.nD Cert.KernelDownWgradIdeal.τ).loc Cert.KernelDownWgradIdeal.main_arg1)
      ∧ m' ((c.tc : Thread Cert.ReferenceDownWgradIdeal.nD Cert.ReferenceDownWgradIdeal.τ).loc Cert.ReferenceDownWgradIdeal.main_arg2) = m ((c.tc : Thread Cert.KernelDownWgradIdeal.nD Cert.KernelDownWgradIdeal.τ).loc Cert.KernelDownWgradIdeal.main_arg2)) →
    ∃ (v0 : (c : Dev Cert.KernelDownWgradIdeal.nD) → Buf (Elt Ideal) ((c.tc : Thread Cert.KernelDownWgradIdeal.nD Cert.KernelDownWgradIdeal.τ).loc Cert.KernelDownWgradIdeal.main_v0)),
      θ_run (Cert.KernelDownWgradIdeal.defs (F := Ideal)) (onTc (τ := Cert.KernelDownWgradIdeal.τ) (Cert.KernelDownWgradIdeal.main (F := Ideal))) ⟨m, fun _ => 0, g⟩ (fun r => ∀ c : Dev Cert.KernelDownWgradIdeal.nD,
          r.2.mem ((c.tc : Thread Cert.KernelDownWgradIdeal.nD Cert.KernelDownWgradIdeal.τ).loc Cert.KernelDownWgradIdeal.main_v0) = v0 c
          ∧ r.2.mem ((c.tc : Thread Cert.KernelDownWgradIdeal.nD Cert.KernelDownWgradIdeal.τ).loc Cert.KernelDownWgradIdeal.main_arg0) = m ((c.tc : Thread Cert.KernelDownWgradIdeal.nD Cert.KernelDownWgradIdeal.τ).loc Cert.KernelDownWgradIdeal.main_arg0)
          ∧ r.2.mem ((c.tc : Thread Cert.KernelDownWgradIdeal.nD Cert.KernelDownWgradIdeal.τ).loc Cert.KernelDownWgradIdeal.main_arg1) = m ((c.tc : Thread Cert.KernelDownWgradIdeal.nD Cert.KernelDownWgradIdeal.τ).loc Cert.KernelDownWgradIdeal.main_arg1)
          ∧ r.2.mem ((c.tc : Thread Cert.KernelDownWgradIdeal.nD Cert.KernelDownWgradIdeal.τ).loc Cert.KernelDownWgradIdeal.main_arg2) = m ((c.tc : Thread Cert.KernelDownWgradIdeal.nD Cert.KernelDownWgradIdeal.τ).loc Cert.KernelDownWgradIdeal.main_arg2))
      ∧ θ_run (Cert.ReferenceDownWgradIdeal.defs (F := Ideal)) (onTc (τ := Cert.ReferenceDownWgradIdeal.τ) (Cert.ReferenceDownWgradIdeal.main (F := Ideal))) ⟨m', fun _ => 0, g'⟩ (fun r => ∀ c : Dev Cert.ReferenceDownWgradIdeal.nD,
          r.2.mem ((c.tc : Thread Cert.ReferenceDownWgradIdeal.nD Cert.ReferenceDownWgradIdeal.τ).loc Cert.ReferenceDownWgradIdeal.main_v6) = v0 c
          ∧ r.2.mem ((c.tc : Thread Cert.ReferenceDownWgradIdeal.nD Cert.ReferenceDownWgradIdeal.τ).loc Cert.ReferenceDownWgradIdeal.main_arg0) = m' ((c.tc : Thread Cert.ReferenceDownWgradIdeal.nD Cert.ReferenceDownWgradIdeal.τ).loc Cert.ReferenceDownWgradIdeal.main_arg0)
          ∧ r.2.mem ((c.tc : Thread Cert.ReferenceDownWgradIdeal.nD Cert.ReferenceDownWgradIdeal.τ).loc Cert.ReferenceDownWgradIdeal.main_arg1) = m' ((c.tc : Thread Cert.ReferenceDownWgradIdeal.nD Cert.ReferenceDownWgradIdeal.τ).loc Cert.ReferenceDownWgradIdeal.main_arg1)
          ∧ r.2.mem ((c.tc : Thread Cert.ReferenceDownWgradIdeal.nD Cert.ReferenceDownWgradIdeal.τ).loc Cert.ReferenceDownWgradIdeal.main_arg2) = m' ((c.tc : Thread Cert.ReferenceDownWgradIdeal.nD Cert.ReferenceDownWgradIdeal.τ).loc Cert.ReferenceDownWgradIdeal.main_arg2))

def preserves_KernelUpDgradVal_KernelUpDgradValIdeal : Prop :=
  True

def algebraic_KernelUpDgradValIdeal_ReferenceUpDgradValIdeal [hKernelUpDgradValIdeal : Cert.KernelUpDgradValIdeal.Facts] [hReferenceUpDgradValIdeal : Cert.ReferenceUpDgradValIdeal.Facts] : Prop :=
  ∀ (m : (ℓ : Loc Cert.KernelUpDgradValIdeal.nD Cert.KernelUpDgradValIdeal.τ Cert.KernelUpDgradValIdeal.sig) → Buf (Elt Ideal) ℓ) (g : Dev Cert.KernelUpDgradValIdeal.nD → PrngReg)
    (m' : (ℓ : Loc Cert.ReferenceUpDgradValIdeal.nD Cert.ReferenceUpDgradValIdeal.τ Cert.ReferenceUpDgradValIdeal.sig) → Buf (Elt Ideal) ℓ) (g' : Dev Cert.ReferenceUpDgradValIdeal.nD → PrngReg), Pre_KernelUpDgradValIdeal m →
    (∀ c : Dev Cert.KernelUpDgradValIdeal.nD,
      m' ((c.tc : Thread Cert.ReferenceUpDgradValIdeal.nD Cert.ReferenceUpDgradValIdeal.τ).loc Cert.ReferenceUpDgradValIdeal.main_arg0) = m ((c.tc : Thread Cert.KernelUpDgradValIdeal.nD Cert.KernelUpDgradValIdeal.τ).loc Cert.KernelUpDgradValIdeal.main_arg0)
      ∧ m' ((c.tc : Thread Cert.ReferenceUpDgradValIdeal.nD Cert.ReferenceUpDgradValIdeal.τ).loc Cert.ReferenceUpDgradValIdeal.main_arg1) = m ((c.tc : Thread Cert.KernelUpDgradValIdeal.nD Cert.KernelUpDgradValIdeal.τ).loc Cert.KernelUpDgradValIdeal.main_arg1)) →
    ∃ (v0 : (c : Dev Cert.KernelUpDgradValIdeal.nD) → Buf (Elt Ideal) ((c.tc : Thread Cert.KernelUpDgradValIdeal.nD Cert.KernelUpDgradValIdeal.τ).loc Cert.KernelUpDgradValIdeal.main_v0)),
      θ_run (Cert.KernelUpDgradValIdeal.defs (F := Ideal)) (onTc (τ := Cert.KernelUpDgradValIdeal.τ) (Cert.KernelUpDgradValIdeal.main (F := Ideal))) ⟨m, fun _ => 0, g⟩ (fun r => ∀ c : Dev Cert.KernelUpDgradValIdeal.nD,
          r.2.mem ((c.tc : Thread Cert.KernelUpDgradValIdeal.nD Cert.KernelUpDgradValIdeal.τ).loc Cert.KernelUpDgradValIdeal.main_v0) = v0 c
          ∧ r.2.mem ((c.tc : Thread Cert.KernelUpDgradValIdeal.nD Cert.KernelUpDgradValIdeal.τ).loc Cert.KernelUpDgradValIdeal.main_arg0) = m ((c.tc : Thread Cert.KernelUpDgradValIdeal.nD Cert.KernelUpDgradValIdeal.τ).loc Cert.KernelUpDgradValIdeal.main_arg0)
          ∧ r.2.mem ((c.tc : Thread Cert.KernelUpDgradValIdeal.nD Cert.KernelUpDgradValIdeal.τ).loc Cert.KernelUpDgradValIdeal.main_arg1) = m ((c.tc : Thread Cert.KernelUpDgradValIdeal.nD Cert.KernelUpDgradValIdeal.τ).loc Cert.KernelUpDgradValIdeal.main_arg1))
      ∧ θ_run (Cert.ReferenceUpDgradValIdeal.defs (F := Ideal)) (onTc (τ := Cert.ReferenceUpDgradValIdeal.τ) (Cert.ReferenceUpDgradValIdeal.main (F := Ideal))) ⟨m', fun _ => 0, g'⟩ (fun r => ∀ c : Dev Cert.ReferenceUpDgradValIdeal.nD,
          r.2.mem ((c.tc : Thread Cert.ReferenceUpDgradValIdeal.nD Cert.ReferenceUpDgradValIdeal.τ).loc Cert.ReferenceUpDgradValIdeal.main_v4) = v0 c
          ∧ r.2.mem ((c.tc : Thread Cert.ReferenceUpDgradValIdeal.nD Cert.ReferenceUpDgradValIdeal.τ).loc Cert.ReferenceUpDgradValIdeal.main_arg0) = m' ((c.tc : Thread Cert.ReferenceUpDgradValIdeal.nD Cert.ReferenceUpDgradValIdeal.τ).loc Cert.ReferenceUpDgradValIdeal.main_arg0)
          ∧ r.2.mem ((c.tc : Thread Cert.ReferenceUpDgradValIdeal.nD Cert.ReferenceUpDgradValIdeal.τ).loc Cert.ReferenceUpDgradValIdeal.main_arg1) = m' ((c.tc : Thread Cert.ReferenceUpDgradValIdeal.nD Cert.ReferenceUpDgradValIdeal.τ).loc Cert.ReferenceUpDgradValIdeal.main_arg1))

def preserves_KernelUpDgradGate_KernelUpDgradGateIdeal : Prop :=
  True

def algebraic_KernelUpDgradGateIdeal_ReferenceUpDgradGateIdeal [hKernelUpDgradGateIdeal : Cert.KernelUpDgradGateIdeal.Facts] [hReferenceUpDgradGateIdeal : Cert.ReferenceUpDgradGateIdeal.Facts] : Prop :=
  ∀ (m : (ℓ : Loc Cert.KernelUpDgradGateIdeal.nD Cert.KernelUpDgradGateIdeal.τ Cert.KernelUpDgradGateIdeal.sig) → Buf (Elt Ideal) ℓ) (g : Dev Cert.KernelUpDgradGateIdeal.nD → PrngReg)
    (m' : (ℓ : Loc Cert.ReferenceUpDgradGateIdeal.nD Cert.ReferenceUpDgradGateIdeal.τ Cert.ReferenceUpDgradGateIdeal.sig) → Buf (Elt Ideal) ℓ) (g' : Dev Cert.ReferenceUpDgradGateIdeal.nD → PrngReg), Pre_KernelUpDgradGateIdeal m →
    (∀ c : Dev Cert.KernelUpDgradGateIdeal.nD,
      m' ((c.tc : Thread Cert.ReferenceUpDgradGateIdeal.nD Cert.ReferenceUpDgradGateIdeal.τ).loc Cert.ReferenceUpDgradGateIdeal.main_arg0) = m ((c.tc : Thread Cert.KernelUpDgradGateIdeal.nD Cert.KernelUpDgradGateIdeal.τ).loc Cert.KernelUpDgradGateIdeal.main_arg0)
      ∧ m' ((c.tc : Thread Cert.ReferenceUpDgradGateIdeal.nD Cert.ReferenceUpDgradGateIdeal.τ).loc Cert.ReferenceUpDgradGateIdeal.main_arg1) = m ((c.tc : Thread Cert.KernelUpDgradGateIdeal.nD Cert.KernelUpDgradGateIdeal.τ).loc Cert.KernelUpDgradGateIdeal.main_arg1)
      ∧ m' ((c.tc : Thread Cert.ReferenceUpDgradGateIdeal.nD Cert.ReferenceUpDgradGateIdeal.τ).loc Cert.ReferenceUpDgradGateIdeal.main_arg2) = m ((c.tc : Thread Cert.KernelUpDgradGateIdeal.nD Cert.KernelUpDgradGateIdeal.τ).loc Cert.KernelUpDgradGateIdeal.main_arg2)) →
    ∃ (v0 : (c : Dev Cert.KernelUpDgradGateIdeal.nD) → Buf (Elt Ideal) ((c.tc : Thread Cert.KernelUpDgradGateIdeal.nD Cert.KernelUpDgradGateIdeal.τ).loc Cert.KernelUpDgradGateIdeal.main_v0)),
      θ_run (Cert.KernelUpDgradGateIdeal.defs (F := Ideal)) (onTc (τ := Cert.KernelUpDgradGateIdeal.τ) (Cert.KernelUpDgradGateIdeal.main (F := Ideal))) ⟨m, fun _ => 0, g⟩ (fun r => ∀ c : Dev Cert.KernelUpDgradGateIdeal.nD,
          r.2.mem ((c.tc : Thread Cert.KernelUpDgradGateIdeal.nD Cert.KernelUpDgradGateIdeal.τ).loc Cert.KernelUpDgradGateIdeal.main_v0) = v0 c
          ∧ r.2.mem ((c.tc : Thread Cert.KernelUpDgradGateIdeal.nD Cert.KernelUpDgradGateIdeal.τ).loc Cert.KernelUpDgradGateIdeal.main_arg0) = m ((c.tc : Thread Cert.KernelUpDgradGateIdeal.nD Cert.KernelUpDgradGateIdeal.τ).loc Cert.KernelUpDgradGateIdeal.main_arg0)
          ∧ r.2.mem ((c.tc : Thread Cert.KernelUpDgradGateIdeal.nD Cert.KernelUpDgradGateIdeal.τ).loc Cert.KernelUpDgradGateIdeal.main_arg1) = m ((c.tc : Thread Cert.KernelUpDgradGateIdeal.nD Cert.KernelUpDgradGateIdeal.τ).loc Cert.KernelUpDgradGateIdeal.main_arg1)
          ∧ r.2.mem ((c.tc : Thread Cert.KernelUpDgradGateIdeal.nD Cert.KernelUpDgradGateIdeal.τ).loc Cert.KernelUpDgradGateIdeal.main_arg2) = m ((c.tc : Thread Cert.KernelUpDgradGateIdeal.nD Cert.KernelUpDgradGateIdeal.τ).loc Cert.KernelUpDgradGateIdeal.main_arg2))
      ∧ θ_run (Cert.ReferenceUpDgradGateIdeal.defs (F := Ideal)) (onTc (τ := Cert.ReferenceUpDgradGateIdeal.τ) (Cert.ReferenceUpDgradGateIdeal.main (F := Ideal))) ⟨m', fun _ => 0, g'⟩ (fun r => ∀ c : Dev Cert.ReferenceUpDgradGateIdeal.nD,
          r.2.mem ((c.tc : Thread Cert.ReferenceUpDgradGateIdeal.nD Cert.ReferenceUpDgradGateIdeal.τ).loc Cert.ReferenceUpDgradGateIdeal.main_v5) = v0 c
          ∧ r.2.mem ((c.tc : Thread Cert.ReferenceUpDgradGateIdeal.nD Cert.ReferenceUpDgradGateIdeal.τ).loc Cert.ReferenceUpDgradGateIdeal.main_arg0) = m' ((c.tc : Thread Cert.ReferenceUpDgradGateIdeal.nD Cert.ReferenceUpDgradGateIdeal.τ).loc Cert.ReferenceUpDgradGateIdeal.main_arg0)
          ∧ r.2.mem ((c.tc : Thread Cert.ReferenceUpDgradGateIdeal.nD Cert.ReferenceUpDgradGateIdeal.τ).loc Cert.ReferenceUpDgradGateIdeal.main_arg1) = m' ((c.tc : Thread Cert.ReferenceUpDgradGateIdeal.nD Cert.ReferenceUpDgradGateIdeal.τ).loc Cert.ReferenceUpDgradGateIdeal.main_arg1)
          ∧ r.2.mem ((c.tc : Thread Cert.ReferenceUpDgradGateIdeal.nD Cert.ReferenceUpDgradGateIdeal.τ).loc Cert.ReferenceUpDgradGateIdeal.main_arg2) = m' ((c.tc : Thread Cert.ReferenceUpDgradGateIdeal.nD Cert.ReferenceUpDgradGateIdeal.τ).loc Cert.ReferenceUpDgradGateIdeal.main_arg2))

def preserves_KernelUpWgradVal_KernelUpWgradValIdeal : Prop :=
  True

def algebraic_KernelUpWgradValIdeal_ReferenceUpWgradValIdeal [hKernelUpWgradValIdeal : Cert.KernelUpWgradValIdeal.Facts] [hReferenceUpWgradValIdeal : Cert.ReferenceUpWgradValIdeal.Facts] : Prop :=
  ∀ (m : (ℓ : Loc Cert.KernelUpWgradValIdeal.nD Cert.KernelUpWgradValIdeal.τ Cert.KernelUpWgradValIdeal.sig) → Buf (Elt Ideal) ℓ) (g : Dev Cert.KernelUpWgradValIdeal.nD → PrngReg)
    (m' : (ℓ : Loc Cert.ReferenceUpWgradValIdeal.nD Cert.ReferenceUpWgradValIdeal.τ Cert.ReferenceUpWgradValIdeal.sig) → Buf (Elt Ideal) ℓ) (g' : Dev Cert.ReferenceUpWgradValIdeal.nD → PrngReg), Pre_KernelUpWgradValIdeal m →
    (∀ c : Dev Cert.KernelUpWgradValIdeal.nD,
      m' ((c.tc : Thread Cert.ReferenceUpWgradValIdeal.nD Cert.ReferenceUpWgradValIdeal.τ).loc Cert.ReferenceUpWgradValIdeal.main_arg0) = m ((c.tc : Thread Cert.KernelUpWgradValIdeal.nD Cert.KernelUpWgradValIdeal.τ).loc Cert.KernelUpWgradValIdeal.main_arg0)
      ∧ m' ((c.tc : Thread Cert.ReferenceUpWgradValIdeal.nD Cert.ReferenceUpWgradValIdeal.τ).loc Cert.ReferenceUpWgradValIdeal.main_arg1) = m ((c.tc : Thread Cert.KernelUpWgradValIdeal.nD Cert.KernelUpWgradValIdeal.τ).loc Cert.KernelUpWgradValIdeal.main_arg1)
      ∧ m' ((c.tc : Thread Cert.ReferenceUpWgradValIdeal.nD Cert.ReferenceUpWgradValIdeal.τ).loc Cert.ReferenceUpWgradValIdeal.main_arg2) = m ((c.tc : Thread Cert.KernelUpWgradValIdeal.nD Cert.KernelUpWgradValIdeal.τ).loc Cert.KernelUpWgradValIdeal.main_arg2)) →
    ∃ (v0 : (c : Dev Cert.KernelUpWgradValIdeal.nD) → Buf (Elt Ideal) ((c.tc : Thread Cert.KernelUpWgradValIdeal.nD Cert.KernelUpWgradValIdeal.τ).loc Cert.KernelUpWgradValIdeal.main_v0)),
      θ_run (Cert.KernelUpWgradValIdeal.defs (F := Ideal)) (onTc (τ := Cert.KernelUpWgradValIdeal.τ) (Cert.KernelUpWgradValIdeal.main (F := Ideal))) ⟨m, fun _ => 0, g⟩ (fun r => ∀ c : Dev Cert.KernelUpWgradValIdeal.nD,
          r.2.mem ((c.tc : Thread Cert.KernelUpWgradValIdeal.nD Cert.KernelUpWgradValIdeal.τ).loc Cert.KernelUpWgradValIdeal.main_v0) = v0 c
          ∧ r.2.mem ((c.tc : Thread Cert.KernelUpWgradValIdeal.nD Cert.KernelUpWgradValIdeal.τ).loc Cert.KernelUpWgradValIdeal.main_arg0) = m ((c.tc : Thread Cert.KernelUpWgradValIdeal.nD Cert.KernelUpWgradValIdeal.τ).loc Cert.KernelUpWgradValIdeal.main_arg0)
          ∧ r.2.mem ((c.tc : Thread Cert.KernelUpWgradValIdeal.nD Cert.KernelUpWgradValIdeal.τ).loc Cert.KernelUpWgradValIdeal.main_arg1) = m ((c.tc : Thread Cert.KernelUpWgradValIdeal.nD Cert.KernelUpWgradValIdeal.τ).loc Cert.KernelUpWgradValIdeal.main_arg1)
          ∧ r.2.mem ((c.tc : Thread Cert.KernelUpWgradValIdeal.nD Cert.KernelUpWgradValIdeal.τ).loc Cert.KernelUpWgradValIdeal.main_arg2) = m ((c.tc : Thread Cert.KernelUpWgradValIdeal.nD Cert.KernelUpWgradValIdeal.τ).loc Cert.KernelUpWgradValIdeal.main_arg2))
      ∧ θ_run (Cert.ReferenceUpWgradValIdeal.defs (F := Ideal)) (onTc (τ := Cert.ReferenceUpWgradValIdeal.τ) (Cert.ReferenceUpWgradValIdeal.main (F := Ideal))) ⟨m', fun _ => 0, g'⟩ (fun r => ∀ c : Dev Cert.ReferenceUpWgradValIdeal.nD,
          r.2.mem ((c.tc : Thread Cert.ReferenceUpWgradValIdeal.nD Cert.ReferenceUpWgradValIdeal.τ).loc Cert.ReferenceUpWgradValIdeal.main_v10) = v0 c
          ∧ r.2.mem ((c.tc : Thread Cert.ReferenceUpWgradValIdeal.nD Cert.ReferenceUpWgradValIdeal.τ).loc Cert.ReferenceUpWgradValIdeal.main_arg0) = m' ((c.tc : Thread Cert.ReferenceUpWgradValIdeal.nD Cert.ReferenceUpWgradValIdeal.τ).loc Cert.ReferenceUpWgradValIdeal.main_arg0)
          ∧ r.2.mem ((c.tc : Thread Cert.ReferenceUpWgradValIdeal.nD Cert.ReferenceUpWgradValIdeal.τ).loc Cert.ReferenceUpWgradValIdeal.main_arg1) = m' ((c.tc : Thread Cert.ReferenceUpWgradValIdeal.nD Cert.ReferenceUpWgradValIdeal.τ).loc Cert.ReferenceUpWgradValIdeal.main_arg1)
          ∧ r.2.mem ((c.tc : Thread Cert.ReferenceUpWgradValIdeal.nD Cert.ReferenceUpWgradValIdeal.τ).loc Cert.ReferenceUpWgradValIdeal.main_arg2) = m' ((c.tc : Thread Cert.ReferenceUpWgradValIdeal.nD Cert.ReferenceUpWgradValIdeal.τ).loc Cert.ReferenceUpWgradValIdeal.main_arg2))

def preserves_KernelUpWgradGate_KernelUpWgradGateIdeal : Prop :=
  True

def algebraic_KernelUpWgradGateIdeal_ReferenceUpWgradGateIdeal [hKernelUpWgradGateIdeal : Cert.KernelUpWgradGateIdeal.Facts] [hReferenceUpWgradGateIdeal : Cert.ReferenceUpWgradGateIdeal.Facts] : Prop :=
  ∀ (m : (ℓ : Loc Cert.KernelUpWgradGateIdeal.nD Cert.KernelUpWgradGateIdeal.τ Cert.KernelUpWgradGateIdeal.sig) → Buf (Elt Ideal) ℓ) (g : Dev Cert.KernelUpWgradGateIdeal.nD → PrngReg)
    (m' : (ℓ : Loc Cert.ReferenceUpWgradGateIdeal.nD Cert.ReferenceUpWgradGateIdeal.τ Cert.ReferenceUpWgradGateIdeal.sig) → Buf (Elt Ideal) ℓ) (g' : Dev Cert.ReferenceUpWgradGateIdeal.nD → PrngReg), Pre_KernelUpWgradGateIdeal m →
    (∀ c : Dev Cert.KernelUpWgradGateIdeal.nD,
      m' ((c.tc : Thread Cert.ReferenceUpWgradGateIdeal.nD Cert.ReferenceUpWgradGateIdeal.τ).loc Cert.ReferenceUpWgradGateIdeal.main_arg0) = m ((c.tc : Thread Cert.KernelUpWgradGateIdeal.nD Cert.KernelUpWgradGateIdeal.τ).loc Cert.KernelUpWgradGateIdeal.main_arg0)
      ∧ m' ((c.tc : Thread Cert.ReferenceUpWgradGateIdeal.nD Cert.ReferenceUpWgradGateIdeal.τ).loc Cert.ReferenceUpWgradGateIdeal.main_arg1) = m ((c.tc : Thread Cert.KernelUpWgradGateIdeal.nD Cert.KernelUpWgradGateIdeal.τ).loc Cert.KernelUpWgradGateIdeal.main_arg1)
      ∧ m' ((c.tc : Thread Cert.ReferenceUpWgradGateIdeal.nD Cert.ReferenceUpWgradGateIdeal.τ).loc Cert.ReferenceUpWgradGateIdeal.main_arg2) = m ((c.tc : Thread Cert.KernelUpWgradGateIdeal.nD Cert.KernelUpWgradGateIdeal.τ).loc Cert.KernelUpWgradGateIdeal.main_arg2)) →
    ∃ (v0 : (c : Dev Cert.KernelUpWgradGateIdeal.nD) → Buf (Elt Ideal) ((c.tc : Thread Cert.KernelUpWgradGateIdeal.nD Cert.KernelUpWgradGateIdeal.τ).loc Cert.KernelUpWgradGateIdeal.main_v0)),
      θ_run (Cert.KernelUpWgradGateIdeal.defs (F := Ideal)) (onTc (τ := Cert.KernelUpWgradGateIdeal.τ) (Cert.KernelUpWgradGateIdeal.main (F := Ideal))) ⟨m, fun _ => 0, g⟩ (fun r => ∀ c : Dev Cert.KernelUpWgradGateIdeal.nD,
          r.2.mem ((c.tc : Thread Cert.KernelUpWgradGateIdeal.nD Cert.KernelUpWgradGateIdeal.τ).loc Cert.KernelUpWgradGateIdeal.main_v0) = v0 c
          ∧ r.2.mem ((c.tc : Thread Cert.KernelUpWgradGateIdeal.nD Cert.KernelUpWgradGateIdeal.τ).loc Cert.KernelUpWgradGateIdeal.main_arg0) = m ((c.tc : Thread Cert.KernelUpWgradGateIdeal.nD Cert.KernelUpWgradGateIdeal.τ).loc Cert.KernelUpWgradGateIdeal.main_arg0)
          ∧ r.2.mem ((c.tc : Thread Cert.KernelUpWgradGateIdeal.nD Cert.KernelUpWgradGateIdeal.τ).loc Cert.KernelUpWgradGateIdeal.main_arg1) = m ((c.tc : Thread Cert.KernelUpWgradGateIdeal.nD Cert.KernelUpWgradGateIdeal.τ).loc Cert.KernelUpWgradGateIdeal.main_arg1)
          ∧ r.2.mem ((c.tc : Thread Cert.KernelUpWgradGateIdeal.nD Cert.KernelUpWgradGateIdeal.τ).loc Cert.KernelUpWgradGateIdeal.main_arg2) = m ((c.tc : Thread Cert.KernelUpWgradGateIdeal.nD Cert.KernelUpWgradGateIdeal.τ).loc Cert.KernelUpWgradGateIdeal.main_arg2))
      ∧ θ_run (Cert.ReferenceUpWgradGateIdeal.defs (F := Ideal)) (onTc (τ := Cert.ReferenceUpWgradGateIdeal.τ) (Cert.ReferenceUpWgradGateIdeal.main (F := Ideal))) ⟨m', fun _ => 0, g'⟩ (fun r => ∀ c : Dev Cert.ReferenceUpWgradGateIdeal.nD,
          r.2.mem ((c.tc : Thread Cert.ReferenceUpWgradGateIdeal.nD Cert.ReferenceUpWgradGateIdeal.τ).loc Cert.ReferenceUpWgradGateIdeal.main_v10) = v0 c
          ∧ r.2.mem ((c.tc : Thread Cert.ReferenceUpWgradGateIdeal.nD Cert.ReferenceUpWgradGateIdeal.τ).loc Cert.ReferenceUpWgradGateIdeal.main_arg0) = m' ((c.tc : Thread Cert.ReferenceUpWgradGateIdeal.nD Cert.ReferenceUpWgradGateIdeal.τ).loc Cert.ReferenceUpWgradGateIdeal.main_arg0)
          ∧ r.2.mem ((c.tc : Thread Cert.ReferenceUpWgradGateIdeal.nD Cert.ReferenceUpWgradGateIdeal.τ).loc Cert.ReferenceUpWgradGateIdeal.main_arg1) = m' ((c.tc : Thread Cert.ReferenceUpWgradGateIdeal.nD Cert.ReferenceUpWgradGateIdeal.τ).loc Cert.ReferenceUpWgradGateIdeal.main_arg1)
          ∧ r.2.mem ((c.tc : Thread Cert.ReferenceUpWgradGateIdeal.nD Cert.ReferenceUpWgradGateIdeal.τ).loc Cert.ReferenceUpWgradGateIdeal.main_arg2) = m' ((c.tc : Thread Cert.ReferenceUpWgradGateIdeal.nD Cert.ReferenceUpWgradGateIdeal.τ).loc Cert.ReferenceUpWgradGateIdeal.main_arg2))

def preserves_KernelAttnOutDgrad_KernelAttnOutDgradIdeal : Prop :=
  True

def algebraic_KernelAttnOutDgradIdeal_ReferenceAttnOutDgradIdeal [hKernelAttnOutDgradIdeal : Cert.KernelAttnOutDgradIdeal.Facts] [hReferenceAttnOutDgradIdeal : Cert.ReferenceAttnOutDgradIdeal.Facts] : Prop :=
  ∀ (m : (ℓ : Loc Cert.KernelAttnOutDgradIdeal.nD Cert.KernelAttnOutDgradIdeal.τ Cert.KernelAttnOutDgradIdeal.sig) → Buf (Elt Ideal) ℓ) (g : Dev Cert.KernelAttnOutDgradIdeal.nD → PrngReg)
    (m' : (ℓ : Loc Cert.ReferenceAttnOutDgradIdeal.nD Cert.ReferenceAttnOutDgradIdeal.τ Cert.ReferenceAttnOutDgradIdeal.sig) → Buf (Elt Ideal) ℓ) (g' : Dev Cert.ReferenceAttnOutDgradIdeal.nD → PrngReg), Pre_KernelAttnOutDgradIdeal m →
    (∀ c : Dev Cert.KernelAttnOutDgradIdeal.nD,
      m' ((c.tc : Thread Cert.ReferenceAttnOutDgradIdeal.nD Cert.ReferenceAttnOutDgradIdeal.τ).loc Cert.ReferenceAttnOutDgradIdeal.main_arg0) = m ((c.tc : Thread Cert.KernelAttnOutDgradIdeal.nD Cert.KernelAttnOutDgradIdeal.τ).loc Cert.KernelAttnOutDgradIdeal.main_arg0)
      ∧ m' ((c.tc : Thread Cert.ReferenceAttnOutDgradIdeal.nD Cert.ReferenceAttnOutDgradIdeal.τ).loc Cert.ReferenceAttnOutDgradIdeal.main_arg1) = m ((c.tc : Thread Cert.KernelAttnOutDgradIdeal.nD Cert.KernelAttnOutDgradIdeal.τ).loc Cert.KernelAttnOutDgradIdeal.main_arg1)) →
    ∃ (v0 : (c : Dev Cert.KernelAttnOutDgradIdeal.nD) → Buf (Elt Ideal) ((c.tc : Thread Cert.KernelAttnOutDgradIdeal.nD Cert.KernelAttnOutDgradIdeal.τ).loc Cert.KernelAttnOutDgradIdeal.main_v0)),
      θ_run (Cert.KernelAttnOutDgradIdeal.defs (F := Ideal)) (onTc (τ := Cert.KernelAttnOutDgradIdeal.τ) (Cert.KernelAttnOutDgradIdeal.main (F := Ideal))) ⟨m, fun _ => 0, g⟩ (fun r => ∀ c : Dev Cert.KernelAttnOutDgradIdeal.nD,
          r.2.mem ((c.tc : Thread Cert.KernelAttnOutDgradIdeal.nD Cert.KernelAttnOutDgradIdeal.τ).loc Cert.KernelAttnOutDgradIdeal.main_v0) = v0 c
          ∧ r.2.mem ((c.tc : Thread Cert.KernelAttnOutDgradIdeal.nD Cert.KernelAttnOutDgradIdeal.τ).loc Cert.KernelAttnOutDgradIdeal.main_arg0) = m ((c.tc : Thread Cert.KernelAttnOutDgradIdeal.nD Cert.KernelAttnOutDgradIdeal.τ).loc Cert.KernelAttnOutDgradIdeal.main_arg0)
          ∧ r.2.mem ((c.tc : Thread Cert.KernelAttnOutDgradIdeal.nD Cert.KernelAttnOutDgradIdeal.τ).loc Cert.KernelAttnOutDgradIdeal.main_arg1) = m ((c.tc : Thread Cert.KernelAttnOutDgradIdeal.nD Cert.KernelAttnOutDgradIdeal.τ).loc Cert.KernelAttnOutDgradIdeal.main_arg1))
      ∧ θ_run (Cert.ReferenceAttnOutDgradIdeal.defs (F := Ideal)) (onTc (τ := Cert.ReferenceAttnOutDgradIdeal.τ) (Cert.ReferenceAttnOutDgradIdeal.main (F := Ideal))) ⟨m', fun _ => 0, g'⟩ (fun r => ∀ c : Dev Cert.ReferenceAttnOutDgradIdeal.nD,
          r.2.mem ((c.tc : Thread Cert.ReferenceAttnOutDgradIdeal.nD Cert.ReferenceAttnOutDgradIdeal.τ).loc Cert.ReferenceAttnOutDgradIdeal.main_v4) = v0 c
          ∧ r.2.mem ((c.tc : Thread Cert.ReferenceAttnOutDgradIdeal.nD Cert.ReferenceAttnOutDgradIdeal.τ).loc Cert.ReferenceAttnOutDgradIdeal.main_arg0) = m' ((c.tc : Thread Cert.ReferenceAttnOutDgradIdeal.nD Cert.ReferenceAttnOutDgradIdeal.τ).loc Cert.ReferenceAttnOutDgradIdeal.main_arg0)
          ∧ r.2.mem ((c.tc : Thread Cert.ReferenceAttnOutDgradIdeal.nD Cert.ReferenceAttnOutDgradIdeal.τ).loc Cert.ReferenceAttnOutDgradIdeal.main_arg1) = m' ((c.tc : Thread Cert.ReferenceAttnOutDgradIdeal.nD Cert.ReferenceAttnOutDgradIdeal.τ).loc Cert.ReferenceAttnOutDgradIdeal.main_arg1))

def preserves_KernelAttnOutWgrad_KernelAttnOutWgradIdeal : Prop :=
  True

def algebraic_KernelAttnOutWgradIdeal_ReferenceAttnOutWgradIdeal [hKernelAttnOutWgradIdeal : Cert.KernelAttnOutWgradIdeal.Facts] [hReferenceAttnOutWgradIdeal : Cert.ReferenceAttnOutWgradIdeal.Facts] : Prop :=
  ∀ (m : (ℓ : Loc Cert.KernelAttnOutWgradIdeal.nD Cert.KernelAttnOutWgradIdeal.τ Cert.KernelAttnOutWgradIdeal.sig) → Buf (Elt Ideal) ℓ) (g : Dev Cert.KernelAttnOutWgradIdeal.nD → PrngReg)
    (m' : (ℓ : Loc Cert.ReferenceAttnOutWgradIdeal.nD Cert.ReferenceAttnOutWgradIdeal.τ Cert.ReferenceAttnOutWgradIdeal.sig) → Buf (Elt Ideal) ℓ) (g' : Dev Cert.ReferenceAttnOutWgradIdeal.nD → PrngReg), Pre_KernelAttnOutWgradIdeal m →
    (∀ c : Dev Cert.KernelAttnOutWgradIdeal.nD,
      m' ((c.tc : Thread Cert.ReferenceAttnOutWgradIdeal.nD Cert.ReferenceAttnOutWgradIdeal.τ).loc Cert.ReferenceAttnOutWgradIdeal.main_arg0) = m ((c.tc : Thread Cert.KernelAttnOutWgradIdeal.nD Cert.KernelAttnOutWgradIdeal.τ).loc Cert.KernelAttnOutWgradIdeal.main_arg0)
      ∧ m' ((c.tc : Thread Cert.ReferenceAttnOutWgradIdeal.nD Cert.ReferenceAttnOutWgradIdeal.τ).loc Cert.ReferenceAttnOutWgradIdeal.main_arg1) = m ((c.tc : Thread Cert.KernelAttnOutWgradIdeal.nD Cert.KernelAttnOutWgradIdeal.τ).loc Cert.KernelAttnOutWgradIdeal.main_arg1)
      ∧ m' ((c.tc : Thread Cert.ReferenceAttnOutWgradIdeal.nD Cert.ReferenceAttnOutWgradIdeal.τ).loc Cert.ReferenceAttnOutWgradIdeal.main_arg2) = m ((c.tc : Thread Cert.KernelAttnOutWgradIdeal.nD Cert.KernelAttnOutWgradIdeal.τ).loc Cert.KernelAttnOutWgradIdeal.main_arg2)) →
    ∃ (v0 : (c : Dev Cert.KernelAttnOutWgradIdeal.nD) → Buf (Elt Ideal) ((c.tc : Thread Cert.KernelAttnOutWgradIdeal.nD Cert.KernelAttnOutWgradIdeal.τ).loc Cert.KernelAttnOutWgradIdeal.main_v0)),
      θ_run (Cert.KernelAttnOutWgradIdeal.defs (F := Ideal)) (onTc (τ := Cert.KernelAttnOutWgradIdeal.τ) (Cert.KernelAttnOutWgradIdeal.main (F := Ideal))) ⟨m, fun _ => 0, g⟩ (fun r => ∀ c : Dev Cert.KernelAttnOutWgradIdeal.nD,
          r.2.mem ((c.tc : Thread Cert.KernelAttnOutWgradIdeal.nD Cert.KernelAttnOutWgradIdeal.τ).loc Cert.KernelAttnOutWgradIdeal.main_v0) = v0 c
          ∧ r.2.mem ((c.tc : Thread Cert.KernelAttnOutWgradIdeal.nD Cert.KernelAttnOutWgradIdeal.τ).loc Cert.KernelAttnOutWgradIdeal.main_arg0) = m ((c.tc : Thread Cert.KernelAttnOutWgradIdeal.nD Cert.KernelAttnOutWgradIdeal.τ).loc Cert.KernelAttnOutWgradIdeal.main_arg0)
          ∧ r.2.mem ((c.tc : Thread Cert.KernelAttnOutWgradIdeal.nD Cert.KernelAttnOutWgradIdeal.τ).loc Cert.KernelAttnOutWgradIdeal.main_arg1) = m ((c.tc : Thread Cert.KernelAttnOutWgradIdeal.nD Cert.KernelAttnOutWgradIdeal.τ).loc Cert.KernelAttnOutWgradIdeal.main_arg1)
          ∧ r.2.mem ((c.tc : Thread Cert.KernelAttnOutWgradIdeal.nD Cert.KernelAttnOutWgradIdeal.τ).loc Cert.KernelAttnOutWgradIdeal.main_arg2) = m ((c.tc : Thread Cert.KernelAttnOutWgradIdeal.nD Cert.KernelAttnOutWgradIdeal.τ).loc Cert.KernelAttnOutWgradIdeal.main_arg2))
      ∧ θ_run (Cert.ReferenceAttnOutWgradIdeal.defs (F := Ideal)) (onTc (τ := Cert.ReferenceAttnOutWgradIdeal.τ) (Cert.ReferenceAttnOutWgradIdeal.main (F := Ideal))) ⟨m', fun _ => 0, g'⟩ (fun r => ∀ c : Dev Cert.ReferenceAttnOutWgradIdeal.nD,
          r.2.mem ((c.tc : Thread Cert.ReferenceAttnOutWgradIdeal.nD Cert.ReferenceAttnOutWgradIdeal.τ).loc Cert.ReferenceAttnOutWgradIdeal.main_v6) = v0 c
          ∧ r.2.mem ((c.tc : Thread Cert.ReferenceAttnOutWgradIdeal.nD Cert.ReferenceAttnOutWgradIdeal.τ).loc Cert.ReferenceAttnOutWgradIdeal.main_arg0) = m' ((c.tc : Thread Cert.ReferenceAttnOutWgradIdeal.nD Cert.ReferenceAttnOutWgradIdeal.τ).loc Cert.ReferenceAttnOutWgradIdeal.main_arg0)
          ∧ r.2.mem ((c.tc : Thread Cert.ReferenceAttnOutWgradIdeal.nD Cert.ReferenceAttnOutWgradIdeal.τ).loc Cert.ReferenceAttnOutWgradIdeal.main_arg1) = m' ((c.tc : Thread Cert.ReferenceAttnOutWgradIdeal.nD Cert.ReferenceAttnOutWgradIdeal.τ).loc Cert.ReferenceAttnOutWgradIdeal.main_arg1)
          ∧ r.2.mem ((c.tc : Thread Cert.ReferenceAttnOutWgradIdeal.nD Cert.ReferenceAttnOutWgradIdeal.τ).loc Cert.ReferenceAttnOutWgradIdeal.main_arg2) = m' ((c.tc : Thread Cert.ReferenceAttnOutWgradIdeal.nD Cert.ReferenceAttnOutWgradIdeal.τ).loc Cert.ReferenceAttnOutWgradIdeal.main_arg2))

def preserves_KernelQkvDgrad_KernelQkvDgradIdeal : Prop :=
  True

def algebraic_KernelQkvDgradIdeal_ReferenceQkvDgradIdeal [hKernelQkvDgradIdeal : Cert.KernelQkvDgradIdeal.Facts] [hReferenceQkvDgradIdeal : Cert.ReferenceQkvDgradIdeal.Facts] : Prop :=
  ∀ (m : (ℓ : Loc Cert.KernelQkvDgradIdeal.nD Cert.KernelQkvDgradIdeal.τ Cert.KernelQkvDgradIdeal.sig) → Buf (Elt Ideal) ℓ) (g : Dev Cert.KernelQkvDgradIdeal.nD → PrngReg)
    (m' : (ℓ : Loc Cert.ReferenceQkvDgradIdeal.nD Cert.ReferenceQkvDgradIdeal.τ Cert.ReferenceQkvDgradIdeal.sig) → Buf (Elt Ideal) ℓ) (g' : Dev Cert.ReferenceQkvDgradIdeal.nD → PrngReg), Pre_KernelQkvDgradIdeal m →
    (∀ c : Dev Cert.KernelQkvDgradIdeal.nD,
      m' ((c.tc : Thread Cert.ReferenceQkvDgradIdeal.nD Cert.ReferenceQkvDgradIdeal.τ).loc Cert.ReferenceQkvDgradIdeal.main_arg0) = m ((c.tc : Thread Cert.KernelQkvDgradIdeal.nD Cert.KernelQkvDgradIdeal.τ).loc Cert.KernelQkvDgradIdeal.main_arg0)
      ∧ m' ((c.tc : Thread Cert.ReferenceQkvDgradIdeal.nD Cert.ReferenceQkvDgradIdeal.τ).loc Cert.ReferenceQkvDgradIdeal.main_arg1) = m ((c.tc : Thread Cert.KernelQkvDgradIdeal.nD Cert.KernelQkvDgradIdeal.τ).loc Cert.KernelQkvDgradIdeal.main_arg1)) →
    ∃ (v0 : (c : Dev Cert.KernelQkvDgradIdeal.nD) → Buf (Elt Ideal) ((c.tc : Thread Cert.KernelQkvDgradIdeal.nD Cert.KernelQkvDgradIdeal.τ).loc Cert.KernelQkvDgradIdeal.main_v0)),
      θ_run (Cert.KernelQkvDgradIdeal.defs (F := Ideal)) (onTc (τ := Cert.KernelQkvDgradIdeal.τ) (Cert.KernelQkvDgradIdeal.main (F := Ideal))) ⟨m, fun _ => 0, g⟩ (fun r => ∀ c : Dev Cert.KernelQkvDgradIdeal.nD,
          r.2.mem ((c.tc : Thread Cert.KernelQkvDgradIdeal.nD Cert.KernelQkvDgradIdeal.τ).loc Cert.KernelQkvDgradIdeal.main_v0) = v0 c
          ∧ r.2.mem ((c.tc : Thread Cert.KernelQkvDgradIdeal.nD Cert.KernelQkvDgradIdeal.τ).loc Cert.KernelQkvDgradIdeal.main_arg0) = m ((c.tc : Thread Cert.KernelQkvDgradIdeal.nD Cert.KernelQkvDgradIdeal.τ).loc Cert.KernelQkvDgradIdeal.main_arg0)
          ∧ r.2.mem ((c.tc : Thread Cert.KernelQkvDgradIdeal.nD Cert.KernelQkvDgradIdeal.τ).loc Cert.KernelQkvDgradIdeal.main_arg1) = m ((c.tc : Thread Cert.KernelQkvDgradIdeal.nD Cert.KernelQkvDgradIdeal.τ).loc Cert.KernelQkvDgradIdeal.main_arg1))
      ∧ θ_run (Cert.ReferenceQkvDgradIdeal.defs (F := Ideal)) (onTc (τ := Cert.ReferenceQkvDgradIdeal.τ) (Cert.ReferenceQkvDgradIdeal.main (F := Ideal))) ⟨m', fun _ => 0, g'⟩ (fun r => ∀ c : Dev Cert.ReferenceQkvDgradIdeal.nD,
          r.2.mem ((c.tc : Thread Cert.ReferenceQkvDgradIdeal.nD Cert.ReferenceQkvDgradIdeal.τ).loc Cert.ReferenceQkvDgradIdeal.main_v4) = v0 c
          ∧ r.2.mem ((c.tc : Thread Cert.ReferenceQkvDgradIdeal.nD Cert.ReferenceQkvDgradIdeal.τ).loc Cert.ReferenceQkvDgradIdeal.main_arg0) = m' ((c.tc : Thread Cert.ReferenceQkvDgradIdeal.nD Cert.ReferenceQkvDgradIdeal.τ).loc Cert.ReferenceQkvDgradIdeal.main_arg0)
          ∧ r.2.mem ((c.tc : Thread Cert.ReferenceQkvDgradIdeal.nD Cert.ReferenceQkvDgradIdeal.τ).loc Cert.ReferenceQkvDgradIdeal.main_arg1) = m' ((c.tc : Thread Cert.ReferenceQkvDgradIdeal.nD Cert.ReferenceQkvDgradIdeal.τ).loc Cert.ReferenceQkvDgradIdeal.main_arg1))

def preserves_KernelQkvWgrad_KernelQkvWgradIdeal : Prop :=
  True

def algebraic_KernelQkvWgradIdeal_ReferenceQkvWgradIdeal [hKernelQkvWgradIdeal : Cert.KernelQkvWgradIdeal.Facts] [hReferenceQkvWgradIdeal : Cert.ReferenceQkvWgradIdeal.Facts] : Prop :=
  ∀ (m : (ℓ : Loc Cert.KernelQkvWgradIdeal.nD Cert.KernelQkvWgradIdeal.τ Cert.KernelQkvWgradIdeal.sig) → Buf (Elt Ideal) ℓ) (g : Dev Cert.KernelQkvWgradIdeal.nD → PrngReg)
    (m' : (ℓ : Loc Cert.ReferenceQkvWgradIdeal.nD Cert.ReferenceQkvWgradIdeal.τ Cert.ReferenceQkvWgradIdeal.sig) → Buf (Elt Ideal) ℓ) (g' : Dev Cert.ReferenceQkvWgradIdeal.nD → PrngReg), Pre_KernelQkvWgradIdeal m →
    (∀ c : Dev Cert.KernelQkvWgradIdeal.nD,
      m' ((c.tc : Thread Cert.ReferenceQkvWgradIdeal.nD Cert.ReferenceQkvWgradIdeal.τ).loc Cert.ReferenceQkvWgradIdeal.main_arg0) = m ((c.tc : Thread Cert.KernelQkvWgradIdeal.nD Cert.KernelQkvWgradIdeal.τ).loc Cert.KernelQkvWgradIdeal.main_arg0)
      ∧ m' ((c.tc : Thread Cert.ReferenceQkvWgradIdeal.nD Cert.ReferenceQkvWgradIdeal.τ).loc Cert.ReferenceQkvWgradIdeal.main_arg1) = m ((c.tc : Thread Cert.KernelQkvWgradIdeal.nD Cert.KernelQkvWgradIdeal.τ).loc Cert.KernelQkvWgradIdeal.main_arg1)
      ∧ m' ((c.tc : Thread Cert.ReferenceQkvWgradIdeal.nD Cert.ReferenceQkvWgradIdeal.τ).loc Cert.ReferenceQkvWgradIdeal.main_arg2) = m ((c.tc : Thread Cert.KernelQkvWgradIdeal.nD Cert.KernelQkvWgradIdeal.τ).loc Cert.KernelQkvWgradIdeal.main_arg2)) →
    ∃ (v0 : (c : Dev Cert.KernelQkvWgradIdeal.nD) → Buf (Elt Ideal) ((c.tc : Thread Cert.KernelQkvWgradIdeal.nD Cert.KernelQkvWgradIdeal.τ).loc Cert.KernelQkvWgradIdeal.main_v0)),
      θ_run (Cert.KernelQkvWgradIdeal.defs (F := Ideal)) (onTc (τ := Cert.KernelQkvWgradIdeal.τ) (Cert.KernelQkvWgradIdeal.main (F := Ideal))) ⟨m, fun _ => 0, g⟩ (fun r => ∀ c : Dev Cert.KernelQkvWgradIdeal.nD,
          r.2.mem ((c.tc : Thread Cert.KernelQkvWgradIdeal.nD Cert.KernelQkvWgradIdeal.τ).loc Cert.KernelQkvWgradIdeal.main_v0) = v0 c
          ∧ r.2.mem ((c.tc : Thread Cert.KernelQkvWgradIdeal.nD Cert.KernelQkvWgradIdeal.τ).loc Cert.KernelQkvWgradIdeal.main_arg0) = m ((c.tc : Thread Cert.KernelQkvWgradIdeal.nD Cert.KernelQkvWgradIdeal.τ).loc Cert.KernelQkvWgradIdeal.main_arg0)
          ∧ r.2.mem ((c.tc : Thread Cert.KernelQkvWgradIdeal.nD Cert.KernelQkvWgradIdeal.τ).loc Cert.KernelQkvWgradIdeal.main_arg1) = m ((c.tc : Thread Cert.KernelQkvWgradIdeal.nD Cert.KernelQkvWgradIdeal.τ).loc Cert.KernelQkvWgradIdeal.main_arg1)
          ∧ r.2.mem ((c.tc : Thread Cert.KernelQkvWgradIdeal.nD Cert.KernelQkvWgradIdeal.τ).loc Cert.KernelQkvWgradIdeal.main_arg2) = m ((c.tc : Thread Cert.KernelQkvWgradIdeal.nD Cert.KernelQkvWgradIdeal.τ).loc Cert.KernelQkvWgradIdeal.main_arg2))
      ∧ θ_run (Cert.ReferenceQkvWgradIdeal.defs (F := Ideal)) (onTc (τ := Cert.ReferenceQkvWgradIdeal.τ) (Cert.ReferenceQkvWgradIdeal.main (F := Ideal))) ⟨m', fun _ => 0, g'⟩ (fun r => ∀ c : Dev Cert.ReferenceQkvWgradIdeal.nD,
          r.2.mem ((c.tc : Thread Cert.ReferenceQkvWgradIdeal.nD Cert.ReferenceQkvWgradIdeal.τ).loc Cert.ReferenceQkvWgradIdeal.main_v8) = v0 c
          ∧ r.2.mem ((c.tc : Thread Cert.ReferenceQkvWgradIdeal.nD Cert.ReferenceQkvWgradIdeal.τ).loc Cert.ReferenceQkvWgradIdeal.main_arg0) = m' ((c.tc : Thread Cert.ReferenceQkvWgradIdeal.nD Cert.ReferenceQkvWgradIdeal.τ).loc Cert.ReferenceQkvWgradIdeal.main_arg0)
          ∧ r.2.mem ((c.tc : Thread Cert.ReferenceQkvWgradIdeal.nD Cert.ReferenceQkvWgradIdeal.τ).loc Cert.ReferenceQkvWgradIdeal.main_arg1) = m' ((c.tc : Thread Cert.ReferenceQkvWgradIdeal.nD Cert.ReferenceQkvWgradIdeal.τ).loc Cert.ReferenceQkvWgradIdeal.main_arg1)
          ∧ r.2.mem ((c.tc : Thread Cert.ReferenceQkvWgradIdeal.nD Cert.ReferenceQkvWgradIdeal.τ).loc Cert.ReferenceQkvWgradIdeal.main_arg2) = m' ((c.tc : Thread Cert.ReferenceQkvWgradIdeal.nD Cert.ReferenceQkvWgradIdeal.τ).loc Cert.ReferenceQkvWgradIdeal.main_arg2))

def preserves_KernelGlaOutDgrad_KernelGlaOutDgradIdeal : Prop :=
  True

def algebraic_KernelGlaOutDgradIdeal_ReferenceGlaOutDgradIdeal [hKernelGlaOutDgradIdeal : Cert.KernelGlaOutDgradIdeal.Facts] [hReferenceGlaOutDgradIdeal : Cert.ReferenceGlaOutDgradIdeal.Facts] : Prop :=
  ∀ (m : (ℓ : Loc Cert.KernelGlaOutDgradIdeal.nD Cert.KernelGlaOutDgradIdeal.τ Cert.KernelGlaOutDgradIdeal.sig) → Buf (Elt Ideal) ℓ) (g : Dev Cert.KernelGlaOutDgradIdeal.nD → PrngReg)
    (m' : (ℓ : Loc Cert.ReferenceGlaOutDgradIdeal.nD Cert.ReferenceGlaOutDgradIdeal.τ Cert.ReferenceGlaOutDgradIdeal.sig) → Buf (Elt Ideal) ℓ) (g' : Dev Cert.ReferenceGlaOutDgradIdeal.nD → PrngReg), Pre_KernelGlaOutDgradIdeal m →
    (∀ c : Dev Cert.KernelGlaOutDgradIdeal.nD,
      m' ((c.tc : Thread Cert.ReferenceGlaOutDgradIdeal.nD Cert.ReferenceGlaOutDgradIdeal.τ).loc Cert.ReferenceGlaOutDgradIdeal.main_arg0) = m ((c.tc : Thread Cert.KernelGlaOutDgradIdeal.nD Cert.KernelGlaOutDgradIdeal.τ).loc Cert.KernelGlaOutDgradIdeal.main_arg0)
      ∧ m' ((c.tc : Thread Cert.ReferenceGlaOutDgradIdeal.nD Cert.ReferenceGlaOutDgradIdeal.τ).loc Cert.ReferenceGlaOutDgradIdeal.main_arg1) = m ((c.tc : Thread Cert.KernelGlaOutDgradIdeal.nD Cert.KernelGlaOutDgradIdeal.τ).loc Cert.KernelGlaOutDgradIdeal.main_arg1)) →
    ∃ (v0 : (c : Dev Cert.KernelGlaOutDgradIdeal.nD) → Buf (Elt Ideal) ((c.tc : Thread Cert.KernelGlaOutDgradIdeal.nD Cert.KernelGlaOutDgradIdeal.τ).loc Cert.KernelGlaOutDgradIdeal.main_v0)),
      θ_run (Cert.KernelGlaOutDgradIdeal.defs (F := Ideal)) (onTc (τ := Cert.KernelGlaOutDgradIdeal.τ) (Cert.KernelGlaOutDgradIdeal.main (F := Ideal))) ⟨m, fun _ => 0, g⟩ (fun r => ∀ c : Dev Cert.KernelGlaOutDgradIdeal.nD,
          r.2.mem ((c.tc : Thread Cert.KernelGlaOutDgradIdeal.nD Cert.KernelGlaOutDgradIdeal.τ).loc Cert.KernelGlaOutDgradIdeal.main_v0) = v0 c
          ∧ r.2.mem ((c.tc : Thread Cert.KernelGlaOutDgradIdeal.nD Cert.KernelGlaOutDgradIdeal.τ).loc Cert.KernelGlaOutDgradIdeal.main_arg0) = m ((c.tc : Thread Cert.KernelGlaOutDgradIdeal.nD Cert.KernelGlaOutDgradIdeal.τ).loc Cert.KernelGlaOutDgradIdeal.main_arg0)
          ∧ r.2.mem ((c.tc : Thread Cert.KernelGlaOutDgradIdeal.nD Cert.KernelGlaOutDgradIdeal.τ).loc Cert.KernelGlaOutDgradIdeal.main_arg1) = m ((c.tc : Thread Cert.KernelGlaOutDgradIdeal.nD Cert.KernelGlaOutDgradIdeal.τ).loc Cert.KernelGlaOutDgradIdeal.main_arg1))
      ∧ θ_run (Cert.ReferenceGlaOutDgradIdeal.defs (F := Ideal)) (onTc (τ := Cert.ReferenceGlaOutDgradIdeal.τ) (Cert.ReferenceGlaOutDgradIdeal.main (F := Ideal))) ⟨m', fun _ => 0, g'⟩ (fun r => ∀ c : Dev Cert.ReferenceGlaOutDgradIdeal.nD,
          r.2.mem ((c.tc : Thread Cert.ReferenceGlaOutDgradIdeal.nD Cert.ReferenceGlaOutDgradIdeal.τ).loc Cert.ReferenceGlaOutDgradIdeal.main_v3) = v0 c
          ∧ r.2.mem ((c.tc : Thread Cert.ReferenceGlaOutDgradIdeal.nD Cert.ReferenceGlaOutDgradIdeal.τ).loc Cert.ReferenceGlaOutDgradIdeal.main_arg0) = m' ((c.tc : Thread Cert.ReferenceGlaOutDgradIdeal.nD Cert.ReferenceGlaOutDgradIdeal.τ).loc Cert.ReferenceGlaOutDgradIdeal.main_arg0)
          ∧ r.2.mem ((c.tc : Thread Cert.ReferenceGlaOutDgradIdeal.nD Cert.ReferenceGlaOutDgradIdeal.τ).loc Cert.ReferenceGlaOutDgradIdeal.main_arg1) = m' ((c.tc : Thread Cert.ReferenceGlaOutDgradIdeal.nD Cert.ReferenceGlaOutDgradIdeal.τ).loc Cert.ReferenceGlaOutDgradIdeal.main_arg1))

def preserves_KernelGlaOutWgrad_KernelGlaOutWgradIdeal : Prop :=
  True

def algebraic_KernelGlaOutWgradIdeal_ReferenceGlaOutWgradIdeal [hKernelGlaOutWgradIdeal : Cert.KernelGlaOutWgradIdeal.Facts] [hReferenceGlaOutWgradIdeal : Cert.ReferenceGlaOutWgradIdeal.Facts] : Prop :=
  ∀ (m : (ℓ : Loc Cert.KernelGlaOutWgradIdeal.nD Cert.KernelGlaOutWgradIdeal.τ Cert.KernelGlaOutWgradIdeal.sig) → Buf (Elt Ideal) ℓ) (g : Dev Cert.KernelGlaOutWgradIdeal.nD → PrngReg)
    (m' : (ℓ : Loc Cert.ReferenceGlaOutWgradIdeal.nD Cert.ReferenceGlaOutWgradIdeal.τ Cert.ReferenceGlaOutWgradIdeal.sig) → Buf (Elt Ideal) ℓ) (g' : Dev Cert.ReferenceGlaOutWgradIdeal.nD → PrngReg), Pre_KernelGlaOutWgradIdeal m →
    (∀ c : Dev Cert.KernelGlaOutWgradIdeal.nD,
      m' ((c.tc : Thread Cert.ReferenceGlaOutWgradIdeal.nD Cert.ReferenceGlaOutWgradIdeal.τ).loc Cert.ReferenceGlaOutWgradIdeal.main_arg0) = m ((c.tc : Thread Cert.KernelGlaOutWgradIdeal.nD Cert.KernelGlaOutWgradIdeal.τ).loc Cert.KernelGlaOutWgradIdeal.main_arg0)
      ∧ m' ((c.tc : Thread Cert.ReferenceGlaOutWgradIdeal.nD Cert.ReferenceGlaOutWgradIdeal.τ).loc Cert.ReferenceGlaOutWgradIdeal.main_arg1) = m ((c.tc : Thread Cert.KernelGlaOutWgradIdeal.nD Cert.KernelGlaOutWgradIdeal.τ).loc Cert.KernelGlaOutWgradIdeal.main_arg1)
      ∧ m' ((c.tc : Thread Cert.ReferenceGlaOutWgradIdeal.nD Cert.ReferenceGlaOutWgradIdeal.τ).loc Cert.ReferenceGlaOutWgradIdeal.main_arg2) = m ((c.tc : Thread Cert.KernelGlaOutWgradIdeal.nD Cert.KernelGlaOutWgradIdeal.τ).loc Cert.KernelGlaOutWgradIdeal.main_arg2)) →
    ∃ (v0 : (c : Dev Cert.KernelGlaOutWgradIdeal.nD) → Buf (Elt Ideal) ((c.tc : Thread Cert.KernelGlaOutWgradIdeal.nD Cert.KernelGlaOutWgradIdeal.τ).loc Cert.KernelGlaOutWgradIdeal.main_v0)),
      θ_run (Cert.KernelGlaOutWgradIdeal.defs (F := Ideal)) (onTc (τ := Cert.KernelGlaOutWgradIdeal.τ) (Cert.KernelGlaOutWgradIdeal.main (F := Ideal))) ⟨m, fun _ => 0, g⟩ (fun r => ∀ c : Dev Cert.KernelGlaOutWgradIdeal.nD,
          r.2.mem ((c.tc : Thread Cert.KernelGlaOutWgradIdeal.nD Cert.KernelGlaOutWgradIdeal.τ).loc Cert.KernelGlaOutWgradIdeal.main_v0) = v0 c
          ∧ r.2.mem ((c.tc : Thread Cert.KernelGlaOutWgradIdeal.nD Cert.KernelGlaOutWgradIdeal.τ).loc Cert.KernelGlaOutWgradIdeal.main_arg0) = m ((c.tc : Thread Cert.KernelGlaOutWgradIdeal.nD Cert.KernelGlaOutWgradIdeal.τ).loc Cert.KernelGlaOutWgradIdeal.main_arg0)
          ∧ r.2.mem ((c.tc : Thread Cert.KernelGlaOutWgradIdeal.nD Cert.KernelGlaOutWgradIdeal.τ).loc Cert.KernelGlaOutWgradIdeal.main_arg1) = m ((c.tc : Thread Cert.KernelGlaOutWgradIdeal.nD Cert.KernelGlaOutWgradIdeal.τ).loc Cert.KernelGlaOutWgradIdeal.main_arg1)
          ∧ r.2.mem ((c.tc : Thread Cert.KernelGlaOutWgradIdeal.nD Cert.KernelGlaOutWgradIdeal.τ).loc Cert.KernelGlaOutWgradIdeal.main_arg2) = m ((c.tc : Thread Cert.KernelGlaOutWgradIdeal.nD Cert.KernelGlaOutWgradIdeal.τ).loc Cert.KernelGlaOutWgradIdeal.main_arg2))
      ∧ θ_run (Cert.ReferenceGlaOutWgradIdeal.defs (F := Ideal)) (onTc (τ := Cert.ReferenceGlaOutWgradIdeal.τ) (Cert.ReferenceGlaOutWgradIdeal.main (F := Ideal))) ⟨m', fun _ => 0, g'⟩ (fun r => ∀ c : Dev Cert.ReferenceGlaOutWgradIdeal.nD,
          r.2.mem ((c.tc : Thread Cert.ReferenceGlaOutWgradIdeal.nD Cert.ReferenceGlaOutWgradIdeal.τ).loc Cert.ReferenceGlaOutWgradIdeal.main_v6) = v0 c
          ∧ r.2.mem ((c.tc : Thread Cert.ReferenceGlaOutWgradIdeal.nD Cert.ReferenceGlaOutWgradIdeal.τ).loc Cert.ReferenceGlaOutWgradIdeal.main_arg0) = m' ((c.tc : Thread Cert.ReferenceGlaOutWgradIdeal.nD Cert.ReferenceGlaOutWgradIdeal.τ).loc Cert.ReferenceGlaOutWgradIdeal.main_arg0)
          ∧ r.2.mem ((c.tc : Thread Cert.ReferenceGlaOutWgradIdeal.nD Cert.ReferenceGlaOutWgradIdeal.τ).loc Cert.ReferenceGlaOutWgradIdeal.main_arg1) = m' ((c.tc : Thread Cert.ReferenceGlaOutWgradIdeal.nD Cert.ReferenceGlaOutWgradIdeal.τ).loc Cert.ReferenceGlaOutWgradIdeal.main_arg1)
          ∧ r.2.mem ((c.tc : Thread Cert.ReferenceGlaOutWgradIdeal.nD Cert.ReferenceGlaOutWgradIdeal.τ).loc Cert.ReferenceGlaOutWgradIdeal.main_arg2) = m' ((c.tc : Thread Cert.ReferenceGlaOutWgradIdeal.nD Cert.ReferenceGlaOutWgradIdeal.τ).loc Cert.ReferenceGlaOutWgradIdeal.main_arg2))

def preserves_KernelGlaGateDgrad_KernelGlaGateDgradIdeal : Prop :=
  True

def algebraic_KernelGlaGateDgradIdeal_ReferenceGlaGateDgradIdeal [hKernelGlaGateDgradIdeal : Cert.KernelGlaGateDgradIdeal.Facts] [hReferenceGlaGateDgradIdeal : Cert.ReferenceGlaGateDgradIdeal.Facts] : Prop :=
  ∀ (m : (ℓ : Loc Cert.KernelGlaGateDgradIdeal.nD Cert.KernelGlaGateDgradIdeal.τ Cert.KernelGlaGateDgradIdeal.sig) → Buf (Elt Ideal) ℓ) (g : Dev Cert.KernelGlaGateDgradIdeal.nD → PrngReg)
    (m' : (ℓ : Loc Cert.ReferenceGlaGateDgradIdeal.nD Cert.ReferenceGlaGateDgradIdeal.τ Cert.ReferenceGlaGateDgradIdeal.sig) → Buf (Elt Ideal) ℓ) (g' : Dev Cert.ReferenceGlaGateDgradIdeal.nD → PrngReg), Pre_KernelGlaGateDgradIdeal m →
    (∀ c : Dev Cert.KernelGlaGateDgradIdeal.nD,
      m' ((c.tc : Thread Cert.ReferenceGlaGateDgradIdeal.nD Cert.ReferenceGlaGateDgradIdeal.τ).loc Cert.ReferenceGlaGateDgradIdeal.main_arg0) = m ((c.tc : Thread Cert.KernelGlaGateDgradIdeal.nD Cert.KernelGlaGateDgradIdeal.τ).loc Cert.KernelGlaGateDgradIdeal.main_arg0)
      ∧ m' ((c.tc : Thread Cert.ReferenceGlaGateDgradIdeal.nD Cert.ReferenceGlaGateDgradIdeal.τ).loc Cert.ReferenceGlaGateDgradIdeal.main_arg1) = m ((c.tc : Thread Cert.KernelGlaGateDgradIdeal.nD Cert.KernelGlaGateDgradIdeal.τ).loc Cert.KernelGlaGateDgradIdeal.main_arg1)) →
    ∃ (v0 : (c : Dev Cert.KernelGlaGateDgradIdeal.nD) → Buf (Elt Ideal) ((c.tc : Thread Cert.KernelGlaGateDgradIdeal.nD Cert.KernelGlaGateDgradIdeal.τ).loc Cert.KernelGlaGateDgradIdeal.main_v0)),
      θ_run (Cert.KernelGlaGateDgradIdeal.defs (F := Ideal)) (onTc (τ := Cert.KernelGlaGateDgradIdeal.τ) (Cert.KernelGlaGateDgradIdeal.main (F := Ideal))) ⟨m, fun _ => 0, g⟩ (fun r => ∀ c : Dev Cert.KernelGlaGateDgradIdeal.nD,
          r.2.mem ((c.tc : Thread Cert.KernelGlaGateDgradIdeal.nD Cert.KernelGlaGateDgradIdeal.τ).loc Cert.KernelGlaGateDgradIdeal.main_v0) = v0 c
          ∧ r.2.mem ((c.tc : Thread Cert.KernelGlaGateDgradIdeal.nD Cert.KernelGlaGateDgradIdeal.τ).loc Cert.KernelGlaGateDgradIdeal.main_arg0) = m ((c.tc : Thread Cert.KernelGlaGateDgradIdeal.nD Cert.KernelGlaGateDgradIdeal.τ).loc Cert.KernelGlaGateDgradIdeal.main_arg0)
          ∧ r.2.mem ((c.tc : Thread Cert.KernelGlaGateDgradIdeal.nD Cert.KernelGlaGateDgradIdeal.τ).loc Cert.KernelGlaGateDgradIdeal.main_arg1) = m ((c.tc : Thread Cert.KernelGlaGateDgradIdeal.nD Cert.KernelGlaGateDgradIdeal.τ).loc Cert.KernelGlaGateDgradIdeal.main_arg1))
      ∧ θ_run (Cert.ReferenceGlaGateDgradIdeal.defs (F := Ideal)) (onTc (τ := Cert.ReferenceGlaGateDgradIdeal.τ) (Cert.ReferenceGlaGateDgradIdeal.main (F := Ideal))) ⟨m', fun _ => 0, g'⟩ (fun r => ∀ c : Dev Cert.ReferenceGlaGateDgradIdeal.nD,
          r.2.mem ((c.tc : Thread Cert.ReferenceGlaGateDgradIdeal.nD Cert.ReferenceGlaGateDgradIdeal.τ).loc Cert.ReferenceGlaGateDgradIdeal.main_v3) = v0 c
          ∧ r.2.mem ((c.tc : Thread Cert.ReferenceGlaGateDgradIdeal.nD Cert.ReferenceGlaGateDgradIdeal.τ).loc Cert.ReferenceGlaGateDgradIdeal.main_arg0) = m' ((c.tc : Thread Cert.ReferenceGlaGateDgradIdeal.nD Cert.ReferenceGlaGateDgradIdeal.τ).loc Cert.ReferenceGlaGateDgradIdeal.main_arg0)
          ∧ r.2.mem ((c.tc : Thread Cert.ReferenceGlaGateDgradIdeal.nD Cert.ReferenceGlaGateDgradIdeal.τ).loc Cert.ReferenceGlaGateDgradIdeal.main_arg1) = m' ((c.tc : Thread Cert.ReferenceGlaGateDgradIdeal.nD Cert.ReferenceGlaGateDgradIdeal.τ).loc Cert.ReferenceGlaGateDgradIdeal.main_arg1))

def preserves_KernelGlaGateWgrad_KernelGlaGateWgradIdeal : Prop :=
  True

def algebraic_KernelGlaGateWgradIdeal_ReferenceGlaGateWgradIdeal [hKernelGlaGateWgradIdeal : Cert.KernelGlaGateWgradIdeal.Facts] [hReferenceGlaGateWgradIdeal : Cert.ReferenceGlaGateWgradIdeal.Facts] : Prop :=
  ∀ (m : (ℓ : Loc Cert.KernelGlaGateWgradIdeal.nD Cert.KernelGlaGateWgradIdeal.τ Cert.KernelGlaGateWgradIdeal.sig) → Buf (Elt Ideal) ℓ) (g : Dev Cert.KernelGlaGateWgradIdeal.nD → PrngReg)
    (m' : (ℓ : Loc Cert.ReferenceGlaGateWgradIdeal.nD Cert.ReferenceGlaGateWgradIdeal.τ Cert.ReferenceGlaGateWgradIdeal.sig) → Buf (Elt Ideal) ℓ) (g' : Dev Cert.ReferenceGlaGateWgradIdeal.nD → PrngReg), Pre_KernelGlaGateWgradIdeal m →
    (∀ c : Dev Cert.KernelGlaGateWgradIdeal.nD,
      m' ((c.tc : Thread Cert.ReferenceGlaGateWgradIdeal.nD Cert.ReferenceGlaGateWgradIdeal.τ).loc Cert.ReferenceGlaGateWgradIdeal.main_arg0) = m ((c.tc : Thread Cert.KernelGlaGateWgradIdeal.nD Cert.KernelGlaGateWgradIdeal.τ).loc Cert.KernelGlaGateWgradIdeal.main_arg0)
      ∧ m' ((c.tc : Thread Cert.ReferenceGlaGateWgradIdeal.nD Cert.ReferenceGlaGateWgradIdeal.τ).loc Cert.ReferenceGlaGateWgradIdeal.main_arg1) = m ((c.tc : Thread Cert.KernelGlaGateWgradIdeal.nD Cert.KernelGlaGateWgradIdeal.τ).loc Cert.KernelGlaGateWgradIdeal.main_arg1)) →
    ∃ (v0 : (c : Dev Cert.KernelGlaGateWgradIdeal.nD) → Buf (Elt Ideal) ((c.tc : Thread Cert.KernelGlaGateWgradIdeal.nD Cert.KernelGlaGateWgradIdeal.τ).loc Cert.KernelGlaGateWgradIdeal.main_v0)),
      θ_run (Cert.KernelGlaGateWgradIdeal.defs (F := Ideal)) (onTc (τ := Cert.KernelGlaGateWgradIdeal.τ) (Cert.KernelGlaGateWgradIdeal.main (F := Ideal))) ⟨m, fun _ => 0, g⟩ (fun r => ∀ c : Dev Cert.KernelGlaGateWgradIdeal.nD,
          r.2.mem ((c.tc : Thread Cert.KernelGlaGateWgradIdeal.nD Cert.KernelGlaGateWgradIdeal.τ).loc Cert.KernelGlaGateWgradIdeal.main_v0) = v0 c
          ∧ r.2.mem ((c.tc : Thread Cert.KernelGlaGateWgradIdeal.nD Cert.KernelGlaGateWgradIdeal.τ).loc Cert.KernelGlaGateWgradIdeal.main_arg0) = m ((c.tc : Thread Cert.KernelGlaGateWgradIdeal.nD Cert.KernelGlaGateWgradIdeal.τ).loc Cert.KernelGlaGateWgradIdeal.main_arg0)
          ∧ r.2.mem ((c.tc : Thread Cert.KernelGlaGateWgradIdeal.nD Cert.KernelGlaGateWgradIdeal.τ).loc Cert.KernelGlaGateWgradIdeal.main_arg1) = m ((c.tc : Thread Cert.KernelGlaGateWgradIdeal.nD Cert.KernelGlaGateWgradIdeal.τ).loc Cert.KernelGlaGateWgradIdeal.main_arg1))
      ∧ θ_run (Cert.ReferenceGlaGateWgradIdeal.defs (F := Ideal)) (onTc (τ := Cert.ReferenceGlaGateWgradIdeal.τ) (Cert.ReferenceGlaGateWgradIdeal.main (F := Ideal))) ⟨m', fun _ => 0, g'⟩ (fun r => ∀ c : Dev Cert.ReferenceGlaGateWgradIdeal.nD,
          r.2.mem ((c.tc : Thread Cert.ReferenceGlaGateWgradIdeal.nD Cert.ReferenceGlaGateWgradIdeal.τ).loc Cert.ReferenceGlaGateWgradIdeal.main_v4) = v0 c
          ∧ r.2.mem ((c.tc : Thread Cert.ReferenceGlaGateWgradIdeal.nD Cert.ReferenceGlaGateWgradIdeal.τ).loc Cert.ReferenceGlaGateWgradIdeal.main_arg0) = m' ((c.tc : Thread Cert.ReferenceGlaGateWgradIdeal.nD Cert.ReferenceGlaGateWgradIdeal.τ).loc Cert.ReferenceGlaGateWgradIdeal.main_arg0)
          ∧ r.2.mem ((c.tc : Thread Cert.ReferenceGlaGateWgradIdeal.nD Cert.ReferenceGlaGateWgradIdeal.τ).loc Cert.ReferenceGlaGateWgradIdeal.main_arg1) = m' ((c.tc : Thread Cert.ReferenceGlaGateWgradIdeal.nD Cert.ReferenceGlaGateWgradIdeal.τ).loc Cert.ReferenceGlaGateWgradIdeal.main_arg1))

def preserves_KernelGlaInDgrad_KernelGlaInDgradIdeal : Prop :=
  True

def algebraic_KernelGlaInDgradIdeal_ReferenceGlaInDgradIdeal [hKernelGlaInDgradIdeal : Cert.KernelGlaInDgradIdeal.Facts] [hReferenceGlaInDgradIdeal : Cert.ReferenceGlaInDgradIdeal.Facts] : Prop :=
  ∀ (m : (ℓ : Loc Cert.KernelGlaInDgradIdeal.nD Cert.KernelGlaInDgradIdeal.τ Cert.KernelGlaInDgradIdeal.sig) → Buf (Elt Ideal) ℓ) (g : Dev Cert.KernelGlaInDgradIdeal.nD → PrngReg)
    (m' : (ℓ : Loc Cert.ReferenceGlaInDgradIdeal.nD Cert.ReferenceGlaInDgradIdeal.τ Cert.ReferenceGlaInDgradIdeal.sig) → Buf (Elt Ideal) ℓ) (g' : Dev Cert.ReferenceGlaInDgradIdeal.nD → PrngReg), Pre_KernelGlaInDgradIdeal m →
    (∀ c : Dev Cert.KernelGlaInDgradIdeal.nD,
      m' ((c.tc : Thread Cert.ReferenceGlaInDgradIdeal.nD Cert.ReferenceGlaInDgradIdeal.τ).loc Cert.ReferenceGlaInDgradIdeal.main_arg0) = m ((c.tc : Thread Cert.KernelGlaInDgradIdeal.nD Cert.KernelGlaInDgradIdeal.τ).loc Cert.KernelGlaInDgradIdeal.main_arg0)
      ∧ m' ((c.tc : Thread Cert.ReferenceGlaInDgradIdeal.nD Cert.ReferenceGlaInDgradIdeal.τ).loc Cert.ReferenceGlaInDgradIdeal.main_arg1) = m ((c.tc : Thread Cert.KernelGlaInDgradIdeal.nD Cert.KernelGlaInDgradIdeal.τ).loc Cert.KernelGlaInDgradIdeal.main_arg1)) →
    ∃ (v0 : (c : Dev Cert.KernelGlaInDgradIdeal.nD) → Buf (Elt Ideal) ((c.tc : Thread Cert.KernelGlaInDgradIdeal.nD Cert.KernelGlaInDgradIdeal.τ).loc Cert.KernelGlaInDgradIdeal.main_v0)),
      θ_run (Cert.KernelGlaInDgradIdeal.defs (F := Ideal)) (onTc (τ := Cert.KernelGlaInDgradIdeal.τ) (Cert.KernelGlaInDgradIdeal.main (F := Ideal))) ⟨m, fun _ => 0, g⟩ (fun r => ∀ c : Dev Cert.KernelGlaInDgradIdeal.nD,
          r.2.mem ((c.tc : Thread Cert.KernelGlaInDgradIdeal.nD Cert.KernelGlaInDgradIdeal.τ).loc Cert.KernelGlaInDgradIdeal.main_v0) = v0 c
          ∧ r.2.mem ((c.tc : Thread Cert.KernelGlaInDgradIdeal.nD Cert.KernelGlaInDgradIdeal.τ).loc Cert.KernelGlaInDgradIdeal.main_arg0) = m ((c.tc : Thread Cert.KernelGlaInDgradIdeal.nD Cert.KernelGlaInDgradIdeal.τ).loc Cert.KernelGlaInDgradIdeal.main_arg0)
          ∧ r.2.mem ((c.tc : Thread Cert.KernelGlaInDgradIdeal.nD Cert.KernelGlaInDgradIdeal.τ).loc Cert.KernelGlaInDgradIdeal.main_arg1) = m ((c.tc : Thread Cert.KernelGlaInDgradIdeal.nD Cert.KernelGlaInDgradIdeal.τ).loc Cert.KernelGlaInDgradIdeal.main_arg1))
      ∧ θ_run (Cert.ReferenceGlaInDgradIdeal.defs (F := Ideal)) (onTc (τ := Cert.ReferenceGlaInDgradIdeal.τ) (Cert.ReferenceGlaInDgradIdeal.main (F := Ideal))) ⟨m', fun _ => 0, g'⟩ (fun r => ∀ c : Dev Cert.ReferenceGlaInDgradIdeal.nD,
          r.2.mem ((c.tc : Thread Cert.ReferenceGlaInDgradIdeal.nD Cert.ReferenceGlaInDgradIdeal.τ).loc Cert.ReferenceGlaInDgradIdeal.main_v4) = v0 c
          ∧ r.2.mem ((c.tc : Thread Cert.ReferenceGlaInDgradIdeal.nD Cert.ReferenceGlaInDgradIdeal.τ).loc Cert.ReferenceGlaInDgradIdeal.main_arg0) = m' ((c.tc : Thread Cert.ReferenceGlaInDgradIdeal.nD Cert.ReferenceGlaInDgradIdeal.τ).loc Cert.ReferenceGlaInDgradIdeal.main_arg0)
          ∧ r.2.mem ((c.tc : Thread Cert.ReferenceGlaInDgradIdeal.nD Cert.ReferenceGlaInDgradIdeal.τ).loc Cert.ReferenceGlaInDgradIdeal.main_arg1) = m' ((c.tc : Thread Cert.ReferenceGlaInDgradIdeal.nD Cert.ReferenceGlaInDgradIdeal.τ).loc Cert.ReferenceGlaInDgradIdeal.main_arg1))

def preserves_KernelGlaInWgrad_KernelGlaInWgradIdeal : Prop :=
  True

def algebraic_KernelGlaInWgradIdeal_ReferenceGlaInWgradIdeal [hKernelGlaInWgradIdeal : Cert.KernelGlaInWgradIdeal.Facts] [hReferenceGlaInWgradIdeal : Cert.ReferenceGlaInWgradIdeal.Facts] : Prop :=
  ∀ (m : (ℓ : Loc Cert.KernelGlaInWgradIdeal.nD Cert.KernelGlaInWgradIdeal.τ Cert.KernelGlaInWgradIdeal.sig) → Buf (Elt Ideal) ℓ) (g : Dev Cert.KernelGlaInWgradIdeal.nD → PrngReg)
    (m' : (ℓ : Loc Cert.ReferenceGlaInWgradIdeal.nD Cert.ReferenceGlaInWgradIdeal.τ Cert.ReferenceGlaInWgradIdeal.sig) → Buf (Elt Ideal) ℓ) (g' : Dev Cert.ReferenceGlaInWgradIdeal.nD → PrngReg), Pre_KernelGlaInWgradIdeal m →
    (∀ c : Dev Cert.KernelGlaInWgradIdeal.nD,
      m' ((c.tc : Thread Cert.ReferenceGlaInWgradIdeal.nD Cert.ReferenceGlaInWgradIdeal.τ).loc Cert.ReferenceGlaInWgradIdeal.main_arg0) = m ((c.tc : Thread Cert.KernelGlaInWgradIdeal.nD Cert.KernelGlaInWgradIdeal.τ).loc Cert.KernelGlaInWgradIdeal.main_arg0)
      ∧ m' ((c.tc : Thread Cert.ReferenceGlaInWgradIdeal.nD Cert.ReferenceGlaInWgradIdeal.τ).loc Cert.ReferenceGlaInWgradIdeal.main_arg1) = m ((c.tc : Thread Cert.KernelGlaInWgradIdeal.nD Cert.KernelGlaInWgradIdeal.τ).loc Cert.KernelGlaInWgradIdeal.main_arg1)
      ∧ m' ((c.tc : Thread Cert.ReferenceGlaInWgradIdeal.nD Cert.ReferenceGlaInWgradIdeal.τ).loc Cert.ReferenceGlaInWgradIdeal.main_arg2) = m ((c.tc : Thread Cert.KernelGlaInWgradIdeal.nD Cert.KernelGlaInWgradIdeal.τ).loc Cert.KernelGlaInWgradIdeal.main_arg2)) →
    ∃ (v0 : (c : Dev Cert.KernelGlaInWgradIdeal.nD) → Buf (Elt Ideal) ((c.tc : Thread Cert.KernelGlaInWgradIdeal.nD Cert.KernelGlaInWgradIdeal.τ).loc Cert.KernelGlaInWgradIdeal.main_v0)),
      θ_run (Cert.KernelGlaInWgradIdeal.defs (F := Ideal)) (onTc (τ := Cert.KernelGlaInWgradIdeal.τ) (Cert.KernelGlaInWgradIdeal.main (F := Ideal))) ⟨m, fun _ => 0, g⟩ (fun r => ∀ c : Dev Cert.KernelGlaInWgradIdeal.nD,
          r.2.mem ((c.tc : Thread Cert.KernelGlaInWgradIdeal.nD Cert.KernelGlaInWgradIdeal.τ).loc Cert.KernelGlaInWgradIdeal.main_v0) = v0 c
          ∧ r.2.mem ((c.tc : Thread Cert.KernelGlaInWgradIdeal.nD Cert.KernelGlaInWgradIdeal.τ).loc Cert.KernelGlaInWgradIdeal.main_arg0) = m ((c.tc : Thread Cert.KernelGlaInWgradIdeal.nD Cert.KernelGlaInWgradIdeal.τ).loc Cert.KernelGlaInWgradIdeal.main_arg0)
          ∧ r.2.mem ((c.tc : Thread Cert.KernelGlaInWgradIdeal.nD Cert.KernelGlaInWgradIdeal.τ).loc Cert.KernelGlaInWgradIdeal.main_arg1) = m ((c.tc : Thread Cert.KernelGlaInWgradIdeal.nD Cert.KernelGlaInWgradIdeal.τ).loc Cert.KernelGlaInWgradIdeal.main_arg1)
          ∧ r.2.mem ((c.tc : Thread Cert.KernelGlaInWgradIdeal.nD Cert.KernelGlaInWgradIdeal.τ).loc Cert.KernelGlaInWgradIdeal.main_arg2) = m ((c.tc : Thread Cert.KernelGlaInWgradIdeal.nD Cert.KernelGlaInWgradIdeal.τ).loc Cert.KernelGlaInWgradIdeal.main_arg2))
      ∧ θ_run (Cert.ReferenceGlaInWgradIdeal.defs (F := Ideal)) (onTc (τ := Cert.ReferenceGlaInWgradIdeal.τ) (Cert.ReferenceGlaInWgradIdeal.main (F := Ideal))) ⟨m', fun _ => 0, g'⟩ (fun r => ∀ c : Dev Cert.ReferenceGlaInWgradIdeal.nD,
          r.2.mem ((c.tc : Thread Cert.ReferenceGlaInWgradIdeal.nD Cert.ReferenceGlaInWgradIdeal.τ).loc Cert.ReferenceGlaInWgradIdeal.main_v9) = v0 c
          ∧ r.2.mem ((c.tc : Thread Cert.ReferenceGlaInWgradIdeal.nD Cert.ReferenceGlaInWgradIdeal.τ).loc Cert.ReferenceGlaInWgradIdeal.main_arg0) = m' ((c.tc : Thread Cert.ReferenceGlaInWgradIdeal.nD Cert.ReferenceGlaInWgradIdeal.τ).loc Cert.ReferenceGlaInWgradIdeal.main_arg0)
          ∧ r.2.mem ((c.tc : Thread Cert.ReferenceGlaInWgradIdeal.nD Cert.ReferenceGlaInWgradIdeal.τ).loc Cert.ReferenceGlaInWgradIdeal.main_arg1) = m' ((c.tc : Thread Cert.ReferenceGlaInWgradIdeal.nD Cert.ReferenceGlaInWgradIdeal.τ).loc Cert.ReferenceGlaInWgradIdeal.main_arg1)
          ∧ r.2.mem ((c.tc : Thread Cert.ReferenceGlaInWgradIdeal.nD Cert.ReferenceGlaInWgradIdeal.τ).loc Cert.ReferenceGlaInWgradIdeal.main_arg2) = m' ((c.tc : Thread Cert.ReferenceGlaInWgradIdeal.nD Cert.ReferenceGlaInWgradIdeal.τ).loc Cert.ReferenceGlaInWgradIdeal.main_arg2))

def preserves_KernelUpVal_KernelUpValIdeal : Prop :=
  True

def algebraic_KernelUpValIdeal_ReferenceUpValIdeal [hKernelUpValIdeal : Cert.KernelUpValIdeal.Facts] [hReferenceUpValIdeal : Cert.ReferenceUpValIdeal.Facts] : Prop :=
  ∀ (m : (ℓ : Loc Cert.KernelUpValIdeal.nD Cert.KernelUpValIdeal.τ Cert.KernelUpValIdeal.sig) → Buf (Elt Ideal) ℓ) (g : Dev Cert.KernelUpValIdeal.nD → PrngReg)
    (m' : (ℓ : Loc Cert.ReferenceUpValIdeal.nD Cert.ReferenceUpValIdeal.τ Cert.ReferenceUpValIdeal.sig) → Buf (Elt Ideal) ℓ) (g' : Dev Cert.ReferenceUpValIdeal.nD → PrngReg), Pre_KernelUpValIdeal m →
    (∀ c : Dev Cert.KernelUpValIdeal.nD,
      m' ((c.tc : Thread Cert.ReferenceUpValIdeal.nD Cert.ReferenceUpValIdeal.τ).loc Cert.ReferenceUpValIdeal.main_arg0) = m ((c.tc : Thread Cert.KernelUpValIdeal.nD Cert.KernelUpValIdeal.τ).loc Cert.KernelUpValIdeal.main_arg0)
      ∧ m' ((c.tc : Thread Cert.ReferenceUpValIdeal.nD Cert.ReferenceUpValIdeal.τ).loc Cert.ReferenceUpValIdeal.main_arg1) = m ((c.tc : Thread Cert.KernelUpValIdeal.nD Cert.KernelUpValIdeal.τ).loc Cert.KernelUpValIdeal.main_arg1)) →
    ∃ (v0 : (c : Dev Cert.KernelUpValIdeal.nD) → Buf (Elt Ideal) ((c.tc : Thread Cert.KernelUpValIdeal.nD Cert.KernelUpValIdeal.τ).loc Cert.KernelUpValIdeal.main_v0)),
      θ_run (Cert.KernelUpValIdeal.defs (F := Ideal)) (onTc (τ := Cert.KernelUpValIdeal.τ) (Cert.KernelUpValIdeal.main (F := Ideal))) ⟨m, fun _ => 0, g⟩ (fun r => ∀ c : Dev Cert.KernelUpValIdeal.nD,
          r.2.mem ((c.tc : Thread Cert.KernelUpValIdeal.nD Cert.KernelUpValIdeal.τ).loc Cert.KernelUpValIdeal.main_v0) = v0 c
          ∧ r.2.mem ((c.tc : Thread Cert.KernelUpValIdeal.nD Cert.KernelUpValIdeal.τ).loc Cert.KernelUpValIdeal.main_arg0) = m ((c.tc : Thread Cert.KernelUpValIdeal.nD Cert.KernelUpValIdeal.τ).loc Cert.KernelUpValIdeal.main_arg0)
          ∧ r.2.mem ((c.tc : Thread Cert.KernelUpValIdeal.nD Cert.KernelUpValIdeal.τ).loc Cert.KernelUpValIdeal.main_arg1) = m ((c.tc : Thread Cert.KernelUpValIdeal.nD Cert.KernelUpValIdeal.τ).loc Cert.KernelUpValIdeal.main_arg1))
      ∧ θ_run (Cert.ReferenceUpValIdeal.defs (F := Ideal)) (onTc (τ := Cert.ReferenceUpValIdeal.τ) (Cert.ReferenceUpValIdeal.main (F := Ideal))) ⟨m', fun _ => 0, g'⟩ (fun r => ∀ c : Dev Cert.ReferenceUpValIdeal.nD,
          r.2.mem ((c.tc : Thread Cert.ReferenceUpValIdeal.nD Cert.ReferenceUpValIdeal.τ).loc Cert.ReferenceUpValIdeal.main_v2) = v0 c
          ∧ r.2.mem ((c.tc : Thread Cert.ReferenceUpValIdeal.nD Cert.ReferenceUpValIdeal.τ).loc Cert.ReferenceUpValIdeal.main_arg0) = m' ((c.tc : Thread Cert.ReferenceUpValIdeal.nD Cert.ReferenceUpValIdeal.τ).loc Cert.ReferenceUpValIdeal.main_arg0)
          ∧ r.2.mem ((c.tc : Thread Cert.ReferenceUpValIdeal.nD Cert.ReferenceUpValIdeal.τ).loc Cert.ReferenceUpValIdeal.main_arg1) = m' ((c.tc : Thread Cert.ReferenceUpValIdeal.nD Cert.ReferenceUpValIdeal.τ).loc Cert.ReferenceUpValIdeal.main_arg1))

def preserves_KernelUpGate_KernelUpGateIdeal : Prop :=
  True

def algebraic_KernelUpGateIdeal_ReferenceUpGateIdeal [hKernelUpGateIdeal : Cert.KernelUpGateIdeal.Facts] [hReferenceUpGateIdeal : Cert.ReferenceUpGateIdeal.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg)
    (m' : (ℓ : Loc Cert.ReferenceUpGateIdeal.nD Cert.ReferenceUpGateIdeal.τ Cert.ReferenceUpGateIdeal.sig) → Buf (Elt Ideal) ℓ) (g' : Dev Cert.ReferenceUpGateIdeal.nD → PrngReg), Pre_KernelUpGateIdeal m →
    (∀ c : Dev Cert.KernelUpGateIdeal.nD,
      m' ((c.tc : Thread Cert.ReferenceUpGateIdeal.nD Cert.ReferenceUpGateIdeal.τ).loc Cert.ReferenceUpGateIdeal.main_arg0) = m ((c.tc : Thread Cert.KernelUpGateIdeal.nD Cert.KernelUpGateIdeal.τ).loc Cert.KernelUpGateIdeal.main_arg0)
      ∧ m' ((c.tc : Thread Cert.ReferenceUpGateIdeal.nD Cert.ReferenceUpGateIdeal.τ).loc Cert.ReferenceUpGateIdeal.main_arg1) = m ((c.tc : Thread Cert.KernelUpGateIdeal.nD Cert.KernelUpGateIdeal.τ).loc Cert.KernelUpGateIdeal.main_arg1)) →
    ∃ (v0 : (c : Dev Cert.KernelUpGateIdeal.nD) → Buf (Elt Ideal) ((c.tc : Thread Cert.KernelUpGateIdeal.nD Cert.KernelUpGateIdeal.τ).loc Cert.KernelUpGateIdeal.main_v0)),
      θ_run (Cert.KernelUpGateIdeal.defs (F := Ideal)) (onTc (τ := Cert.KernelUpGateIdeal.τ) (Cert.KernelUpGateIdeal.main (F := Ideal))) ⟨m, fun _ => 0, g⟩ (fun r => ∀ c : Dev Cert.KernelUpGateIdeal.nD,
          r.2.mem ((c.tc : Thread Cert.KernelUpGateIdeal.nD Cert.KernelUpGateIdeal.τ).loc Cert.KernelUpGateIdeal.main_v0) = v0 c
          ∧ r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
          ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1))
      ∧ θ_run (Cert.ReferenceUpGateIdeal.defs (F := Ideal)) (onTc (τ := Cert.ReferenceUpGateIdeal.τ) (Cert.ReferenceUpGateIdeal.main (F := Ideal))) ⟨m', fun _ => 0, g'⟩ (fun r => ∀ c : Dev Cert.ReferenceUpGateIdeal.nD,
          r.2.mem ((c.tc : Thread Cert.ReferenceUpGateIdeal.nD Cert.ReferenceUpGateIdeal.τ).loc Cert.ReferenceUpGateIdeal.main_v2) = v0 c
          ∧ r.2.mem ((c.tc : Thread Cert.ReferenceUpGateIdeal.nD Cert.ReferenceUpGateIdeal.τ).loc Cert.ReferenceUpGateIdeal.main_arg0) = m' ((c.tc : Thread Cert.ReferenceUpGateIdeal.nD Cert.ReferenceUpGateIdeal.τ).loc Cert.ReferenceUpGateIdeal.main_arg0)
          ∧ r.2.mem ((c.tc : Thread Cert.ReferenceUpGateIdeal.nD Cert.ReferenceUpGateIdeal.τ).loc Cert.ReferenceUpGateIdeal.main_arg1) = m' ((c.tc : Thread Cert.ReferenceUpGateIdeal.nD Cert.ReferenceUpGateIdeal.τ).loc Cert.ReferenceUpGateIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelQkvProj_KernelQkvProjIdeal : Prop :=
  True

def algebraic_KernelQkvProjIdeal_ReferenceQkvProjIdeal [hKernelQkvProjIdeal : Cert.KernelQkvProjIdeal.Facts] [hReferenceQkvProjIdeal : Cert.ReferenceQkvProjIdeal.Facts] : Prop :=
  ∀ (m : (ℓ : Loc Cert.KernelQkvProjIdeal.nD Cert.KernelQkvProjIdeal.τ Cert.KernelQkvProjIdeal.sig) → Buf (Elt Ideal) ℓ) (g : Dev Cert.KernelQkvProjIdeal.nD → PrngReg)
    (m' : (ℓ : Loc Cert.ReferenceQkvProjIdeal.nD Cert.ReferenceQkvProjIdeal.τ Cert.ReferenceQkvProjIdeal.sig) → Buf (Elt Ideal) ℓ) (g' : Dev Cert.ReferenceQkvProjIdeal.nD → PrngReg), Pre_KernelQkvProjIdeal m →
    (∀ c : Dev Cert.KernelQkvProjIdeal.nD,
      m' ((c.tc : Thread Cert.ReferenceQkvProjIdeal.nD Cert.ReferenceQkvProjIdeal.τ).loc Cert.ReferenceQkvProjIdeal.main_arg0) = m ((c.tc : Thread Cert.KernelQkvProjIdeal.nD Cert.KernelQkvProjIdeal.τ).loc Cert.KernelQkvProjIdeal.main_arg0)
      ∧ m' ((c.tc : Thread Cert.ReferenceQkvProjIdeal.nD Cert.ReferenceQkvProjIdeal.τ).loc Cert.ReferenceQkvProjIdeal.main_arg1) = m ((c.tc : Thread Cert.KernelQkvProjIdeal.nD Cert.KernelQkvProjIdeal.τ).loc Cert.KernelQkvProjIdeal.main_arg1)) →
    ∃ (v0 : (c : Dev Cert.KernelQkvProjIdeal.nD) → Buf (Elt Ideal) ((c.tc : Thread Cert.KernelQkvProjIdeal.nD Cert.KernelQkvProjIdeal.τ).loc Cert.KernelQkvProjIdeal.main_v0)),
      θ_run (Cert.KernelQkvProjIdeal.defs (F := Ideal)) (onTc (τ := Cert.KernelQkvProjIdeal.τ) (Cert.KernelQkvProjIdeal.main (F := Ideal))) ⟨m, fun _ => 0, g⟩ (fun r => ∀ c : Dev Cert.KernelQkvProjIdeal.nD,
          r.2.mem ((c.tc : Thread Cert.KernelQkvProjIdeal.nD Cert.KernelQkvProjIdeal.τ).loc Cert.KernelQkvProjIdeal.main_v0) = v0 c
          ∧ r.2.mem ((c.tc : Thread Cert.KernelQkvProjIdeal.nD Cert.KernelQkvProjIdeal.τ).loc Cert.KernelQkvProjIdeal.main_arg0) = m ((c.tc : Thread Cert.KernelQkvProjIdeal.nD Cert.KernelQkvProjIdeal.τ).loc Cert.KernelQkvProjIdeal.main_arg0)
          ∧ r.2.mem ((c.tc : Thread Cert.KernelQkvProjIdeal.nD Cert.KernelQkvProjIdeal.τ).loc Cert.KernelQkvProjIdeal.main_arg1) = m ((c.tc : Thread Cert.KernelQkvProjIdeal.nD Cert.KernelQkvProjIdeal.τ).loc Cert.KernelQkvProjIdeal.main_arg1))
      ∧ θ_run (Cert.ReferenceQkvProjIdeal.defs (F := Ideal)) (onTc (τ := Cert.ReferenceQkvProjIdeal.τ) (Cert.ReferenceQkvProjIdeal.main (F := Ideal))) ⟨m', fun _ => 0, g'⟩ (fun r => ∀ c : Dev Cert.ReferenceQkvProjIdeal.nD,
          r.2.mem ((c.tc : Thread Cert.ReferenceQkvProjIdeal.nD Cert.ReferenceQkvProjIdeal.τ).loc Cert.ReferenceQkvProjIdeal.main_v2) = v0 c
          ∧ r.2.mem ((c.tc : Thread Cert.ReferenceQkvProjIdeal.nD Cert.ReferenceQkvProjIdeal.τ).loc Cert.ReferenceQkvProjIdeal.main_arg0) = m' ((c.tc : Thread Cert.ReferenceQkvProjIdeal.nD Cert.ReferenceQkvProjIdeal.τ).loc Cert.ReferenceQkvProjIdeal.main_arg0)
          ∧ r.2.mem ((c.tc : Thread Cert.ReferenceQkvProjIdeal.nD Cert.ReferenceQkvProjIdeal.τ).loc Cert.ReferenceQkvProjIdeal.main_arg1) = m' ((c.tc : Thread Cert.ReferenceQkvProjIdeal.nD Cert.ReferenceQkvProjIdeal.τ).loc Cert.ReferenceQkvProjIdeal.main_arg1))

def preserves_KernelAttnOutProj_KernelAttnOutProjIdeal : Prop :=
  True

def algebraic_KernelAttnOutProjIdeal_ReferenceAttnOutProjIdeal [hKernelAttnOutProjIdeal : Cert.KernelAttnOutProjIdeal.Facts] [hReferenceAttnOutProjIdeal : Cert.ReferenceAttnOutProjIdeal.Facts] : Prop :=
  ∀ (m : (ℓ : Loc Cert.KernelAttnOutProjIdeal.nD Cert.KernelAttnOutProjIdeal.τ Cert.KernelAttnOutProjIdeal.sig) → Buf (Elt Ideal) ℓ) (g : Dev Cert.KernelAttnOutProjIdeal.nD → PrngReg)
    (m' : (ℓ : Loc Cert.ReferenceAttnOutProjIdeal.nD Cert.ReferenceAttnOutProjIdeal.τ Cert.ReferenceAttnOutProjIdeal.sig) → Buf (Elt Ideal) ℓ) (g' : Dev Cert.ReferenceAttnOutProjIdeal.nD → PrngReg), Pre_KernelAttnOutProjIdeal m →
    (∀ c : Dev Cert.KernelAttnOutProjIdeal.nD,
      m' ((c.tc : Thread Cert.ReferenceAttnOutProjIdeal.nD Cert.ReferenceAttnOutProjIdeal.τ).loc Cert.ReferenceAttnOutProjIdeal.main_arg0) = m ((c.tc : Thread Cert.KernelAttnOutProjIdeal.nD Cert.KernelAttnOutProjIdeal.τ).loc Cert.KernelAttnOutProjIdeal.main_arg0)
      ∧ m' ((c.tc : Thread Cert.ReferenceAttnOutProjIdeal.nD Cert.ReferenceAttnOutProjIdeal.τ).loc Cert.ReferenceAttnOutProjIdeal.main_arg1) = m ((c.tc : Thread Cert.KernelAttnOutProjIdeal.nD Cert.KernelAttnOutProjIdeal.τ).loc Cert.KernelAttnOutProjIdeal.main_arg1)
      ∧ m' ((c.tc : Thread Cert.ReferenceAttnOutProjIdeal.nD Cert.ReferenceAttnOutProjIdeal.τ).loc Cert.ReferenceAttnOutProjIdeal.main_arg2) = m ((c.tc : Thread Cert.KernelAttnOutProjIdeal.nD Cert.KernelAttnOutProjIdeal.τ).loc Cert.KernelAttnOutProjIdeal.main_arg2)) →
    ∃ (v0 : (c : Dev Cert.KernelAttnOutProjIdeal.nD) → Buf (Elt Ideal) ((c.tc : Thread Cert.KernelAttnOutProjIdeal.nD Cert.KernelAttnOutProjIdeal.τ).loc Cert.KernelAttnOutProjIdeal.main_v0)),
      θ_run (Cert.KernelAttnOutProjIdeal.defs (F := Ideal)) (onTc (τ := Cert.KernelAttnOutProjIdeal.τ) (Cert.KernelAttnOutProjIdeal.main (F := Ideal))) ⟨m, fun _ => 0, g⟩ (fun r => ∀ c : Dev Cert.KernelAttnOutProjIdeal.nD,
          r.2.mem ((c.tc : Thread Cert.KernelAttnOutProjIdeal.nD Cert.KernelAttnOutProjIdeal.τ).loc Cert.KernelAttnOutProjIdeal.main_v0) = v0 c
          ∧ r.2.mem ((c.tc : Thread Cert.KernelAttnOutProjIdeal.nD Cert.KernelAttnOutProjIdeal.τ).loc Cert.KernelAttnOutProjIdeal.main_arg0) = m ((c.tc : Thread Cert.KernelAttnOutProjIdeal.nD Cert.KernelAttnOutProjIdeal.τ).loc Cert.KernelAttnOutProjIdeal.main_arg0)
          ∧ r.2.mem ((c.tc : Thread Cert.KernelAttnOutProjIdeal.nD Cert.KernelAttnOutProjIdeal.τ).loc Cert.KernelAttnOutProjIdeal.main_arg1) = m ((c.tc : Thread Cert.KernelAttnOutProjIdeal.nD Cert.KernelAttnOutProjIdeal.τ).loc Cert.KernelAttnOutProjIdeal.main_arg1)
          ∧ r.2.mem ((c.tc : Thread Cert.KernelAttnOutProjIdeal.nD Cert.KernelAttnOutProjIdeal.τ).loc Cert.KernelAttnOutProjIdeal.main_arg2) = m ((c.tc : Thread Cert.KernelAttnOutProjIdeal.nD Cert.KernelAttnOutProjIdeal.τ).loc Cert.KernelAttnOutProjIdeal.main_arg2))
      ∧ θ_run (Cert.ReferenceAttnOutProjIdeal.defs (F := Ideal)) (onTc (τ := Cert.ReferenceAttnOutProjIdeal.τ) (Cert.ReferenceAttnOutProjIdeal.main (F := Ideal))) ⟨m', fun _ => 0, g'⟩ (fun r => ∀ c : Dev Cert.ReferenceAttnOutProjIdeal.nD,
          r.2.mem ((c.tc : Thread Cert.ReferenceAttnOutProjIdeal.nD Cert.ReferenceAttnOutProjIdeal.τ).loc Cert.ReferenceAttnOutProjIdeal.main_v3) = v0 c
          ∧ r.2.mem ((c.tc : Thread Cert.ReferenceAttnOutProjIdeal.nD Cert.ReferenceAttnOutProjIdeal.τ).loc Cert.ReferenceAttnOutProjIdeal.main_arg0) = m' ((c.tc : Thread Cert.ReferenceAttnOutProjIdeal.nD Cert.ReferenceAttnOutProjIdeal.τ).loc Cert.ReferenceAttnOutProjIdeal.main_arg0)
          ∧ r.2.mem ((c.tc : Thread Cert.ReferenceAttnOutProjIdeal.nD Cert.ReferenceAttnOutProjIdeal.τ).loc Cert.ReferenceAttnOutProjIdeal.main_arg1) = m' ((c.tc : Thread Cert.ReferenceAttnOutProjIdeal.nD Cert.ReferenceAttnOutProjIdeal.τ).loc Cert.ReferenceAttnOutProjIdeal.main_arg1)
          ∧ r.2.mem ((c.tc : Thread Cert.ReferenceAttnOutProjIdeal.nD Cert.ReferenceAttnOutProjIdeal.τ).loc Cert.ReferenceAttnOutProjIdeal.main_arg2) = m' ((c.tc : Thread Cert.ReferenceAttnOutProjIdeal.nD Cert.ReferenceAttnOutProjIdeal.τ).loc Cert.ReferenceAttnOutProjIdeal.main_arg2))

def preserves_KernelGlaInProj_KernelGlaInProjIdeal : Prop :=
  True

def algebraic_KernelGlaInProjIdeal_ReferenceGlaInProjIdeal [hKernelGlaInProjIdeal : Cert.KernelGlaInProjIdeal.Facts] [hReferenceGlaInProjIdeal : Cert.ReferenceGlaInProjIdeal.Facts] : Prop :=
  ∀ (m : (ℓ : Loc Cert.KernelGlaInProjIdeal.nD Cert.KernelGlaInProjIdeal.τ Cert.KernelGlaInProjIdeal.sig) → Buf (Elt Ideal) ℓ) (g : Dev Cert.KernelGlaInProjIdeal.nD → PrngReg)
    (m' : (ℓ : Loc Cert.ReferenceGlaInProjIdeal.nD Cert.ReferenceGlaInProjIdeal.τ Cert.ReferenceGlaInProjIdeal.sig) → Buf (Elt Ideal) ℓ) (g' : Dev Cert.ReferenceGlaInProjIdeal.nD → PrngReg), Pre_KernelGlaInProjIdeal m →
    (∀ c : Dev Cert.KernelGlaInProjIdeal.nD,
      m' ((c.tc : Thread Cert.ReferenceGlaInProjIdeal.nD Cert.ReferenceGlaInProjIdeal.τ).loc Cert.ReferenceGlaInProjIdeal.main_arg0) = m ((c.tc : Thread Cert.KernelGlaInProjIdeal.nD Cert.KernelGlaInProjIdeal.τ).loc Cert.KernelGlaInProjIdeal.main_arg0)
      ∧ m' ((c.tc : Thread Cert.ReferenceGlaInProjIdeal.nD Cert.ReferenceGlaInProjIdeal.τ).loc Cert.ReferenceGlaInProjIdeal.main_arg1) = m ((c.tc : Thread Cert.KernelGlaInProjIdeal.nD Cert.KernelGlaInProjIdeal.τ).loc Cert.KernelGlaInProjIdeal.main_arg1)) →
    ∃ (v0 : (c : Dev Cert.KernelGlaInProjIdeal.nD) → Buf (Elt Ideal) ((c.tc : Thread Cert.KernelGlaInProjIdeal.nD Cert.KernelGlaInProjIdeal.τ).loc Cert.KernelGlaInProjIdeal.main_v0)),
      θ_run (Cert.KernelGlaInProjIdeal.defs (F := Ideal)) (onTc (τ := Cert.KernelGlaInProjIdeal.τ) (Cert.KernelGlaInProjIdeal.main (F := Ideal))) ⟨m, fun _ => 0, g⟩ (fun r => ∀ c : Dev Cert.KernelGlaInProjIdeal.nD,
          r.2.mem ((c.tc : Thread Cert.KernelGlaInProjIdeal.nD Cert.KernelGlaInProjIdeal.τ).loc Cert.KernelGlaInProjIdeal.main_v0) = v0 c
          ∧ r.2.mem ((c.tc : Thread Cert.KernelGlaInProjIdeal.nD Cert.KernelGlaInProjIdeal.τ).loc Cert.KernelGlaInProjIdeal.main_arg0) = m ((c.tc : Thread Cert.KernelGlaInProjIdeal.nD Cert.KernelGlaInProjIdeal.τ).loc Cert.KernelGlaInProjIdeal.main_arg0)
          ∧ r.2.mem ((c.tc : Thread Cert.KernelGlaInProjIdeal.nD Cert.KernelGlaInProjIdeal.τ).loc Cert.KernelGlaInProjIdeal.main_arg1) = m ((c.tc : Thread Cert.KernelGlaInProjIdeal.nD Cert.KernelGlaInProjIdeal.τ).loc Cert.KernelGlaInProjIdeal.main_arg1))
      ∧ θ_run (Cert.ReferenceGlaInProjIdeal.defs (F := Ideal)) (onTc (τ := Cert.ReferenceGlaInProjIdeal.τ) (Cert.ReferenceGlaInProjIdeal.main (F := Ideal))) ⟨m', fun _ => 0, g'⟩ (fun r => ∀ c : Dev Cert.ReferenceGlaInProjIdeal.nD,
          r.2.mem ((c.tc : Thread Cert.ReferenceGlaInProjIdeal.nD Cert.ReferenceGlaInProjIdeal.τ).loc Cert.ReferenceGlaInProjIdeal.main_v2) = v0 c
          ∧ r.2.mem ((c.tc : Thread Cert.ReferenceGlaInProjIdeal.nD Cert.ReferenceGlaInProjIdeal.τ).loc Cert.ReferenceGlaInProjIdeal.main_arg0) = m' ((c.tc : Thread Cert.ReferenceGlaInProjIdeal.nD Cert.ReferenceGlaInProjIdeal.τ).loc Cert.ReferenceGlaInProjIdeal.main_arg0)
          ∧ r.2.mem ((c.tc : Thread Cert.ReferenceGlaInProjIdeal.nD Cert.ReferenceGlaInProjIdeal.τ).loc Cert.ReferenceGlaInProjIdeal.main_arg1) = m' ((c.tc : Thread Cert.ReferenceGlaInProjIdeal.nD Cert.ReferenceGlaInProjIdeal.τ).loc Cert.ReferenceGlaInProjIdeal.main_arg1))

def preserves_KernelGlaGateLogits_KernelGlaGateLogitsIdeal : Prop :=
  True

def algebraic_KernelGlaGateLogitsIdeal_ReferenceGlaGateLogitsIdeal [hKernelGlaGateLogitsIdeal : Cert.KernelGlaGateLogitsIdeal.Facts] [hReferenceGlaGateLogitsIdeal : Cert.ReferenceGlaGateLogitsIdeal.Facts] : Prop :=
  ∀ (m : (ℓ : Loc Cert.KernelGlaGateLogitsIdeal.nD Cert.KernelGlaGateLogitsIdeal.τ Cert.KernelGlaGateLogitsIdeal.sig) → Buf (Elt Ideal) ℓ) (g : Dev Cert.KernelGlaGateLogitsIdeal.nD → PrngReg)
    (m' : (ℓ : Loc Cert.ReferenceGlaGateLogitsIdeal.nD Cert.ReferenceGlaGateLogitsIdeal.τ Cert.ReferenceGlaGateLogitsIdeal.sig) → Buf (Elt Ideal) ℓ) (g' : Dev Cert.ReferenceGlaGateLogitsIdeal.nD → PrngReg), Pre_KernelGlaGateLogitsIdeal m →
    (∀ c : Dev Cert.KernelGlaGateLogitsIdeal.nD,
      m' ((c.tc : Thread Cert.ReferenceGlaGateLogitsIdeal.nD Cert.ReferenceGlaGateLogitsIdeal.τ).loc Cert.ReferenceGlaGateLogitsIdeal.main_arg0) = m ((c.tc : Thread Cert.KernelGlaGateLogitsIdeal.nD Cert.KernelGlaGateLogitsIdeal.τ).loc Cert.KernelGlaGateLogitsIdeal.main_arg0)
      ∧ m' ((c.tc : Thread Cert.ReferenceGlaGateLogitsIdeal.nD Cert.ReferenceGlaGateLogitsIdeal.τ).loc Cert.ReferenceGlaGateLogitsIdeal.main_arg1) = m ((c.tc : Thread Cert.KernelGlaGateLogitsIdeal.nD Cert.KernelGlaGateLogitsIdeal.τ).loc Cert.KernelGlaGateLogitsIdeal.main_arg1)) →
    ∃ (v0 : (c : Dev Cert.KernelGlaGateLogitsIdeal.nD) → Buf (Elt Ideal) ((c.tc : Thread Cert.KernelGlaGateLogitsIdeal.nD Cert.KernelGlaGateLogitsIdeal.τ).loc Cert.KernelGlaGateLogitsIdeal.main_v0)),
      θ_run (Cert.KernelGlaGateLogitsIdeal.defs (F := Ideal)) (onTc (τ := Cert.KernelGlaGateLogitsIdeal.τ) (Cert.KernelGlaGateLogitsIdeal.main (F := Ideal))) ⟨m, fun _ => 0, g⟩ (fun r => ∀ c : Dev Cert.KernelGlaGateLogitsIdeal.nD,
          r.2.mem ((c.tc : Thread Cert.KernelGlaGateLogitsIdeal.nD Cert.KernelGlaGateLogitsIdeal.τ).loc Cert.KernelGlaGateLogitsIdeal.main_v0) = v0 c
          ∧ r.2.mem ((c.tc : Thread Cert.KernelGlaGateLogitsIdeal.nD Cert.KernelGlaGateLogitsIdeal.τ).loc Cert.KernelGlaGateLogitsIdeal.main_arg0) = m ((c.tc : Thread Cert.KernelGlaGateLogitsIdeal.nD Cert.KernelGlaGateLogitsIdeal.τ).loc Cert.KernelGlaGateLogitsIdeal.main_arg0)
          ∧ r.2.mem ((c.tc : Thread Cert.KernelGlaGateLogitsIdeal.nD Cert.KernelGlaGateLogitsIdeal.τ).loc Cert.KernelGlaGateLogitsIdeal.main_arg1) = m ((c.tc : Thread Cert.KernelGlaGateLogitsIdeal.nD Cert.KernelGlaGateLogitsIdeal.τ).loc Cert.KernelGlaGateLogitsIdeal.main_arg1))
      ∧ θ_run (Cert.ReferenceGlaGateLogitsIdeal.defs (F := Ideal)) (onTc (τ := Cert.ReferenceGlaGateLogitsIdeal.τ) (Cert.ReferenceGlaGateLogitsIdeal.main (F := Ideal))) ⟨m', fun _ => 0, g'⟩ (fun r => ∀ c : Dev Cert.ReferenceGlaGateLogitsIdeal.nD,
          r.2.mem ((c.tc : Thread Cert.ReferenceGlaGateLogitsIdeal.nD Cert.ReferenceGlaGateLogitsIdeal.τ).loc Cert.ReferenceGlaGateLogitsIdeal.main_v2) = v0 c
          ∧ r.2.mem ((c.tc : Thread Cert.ReferenceGlaGateLogitsIdeal.nD Cert.ReferenceGlaGateLogitsIdeal.τ).loc Cert.ReferenceGlaGateLogitsIdeal.main_arg0) = m' ((c.tc : Thread Cert.ReferenceGlaGateLogitsIdeal.nD Cert.ReferenceGlaGateLogitsIdeal.τ).loc Cert.ReferenceGlaGateLogitsIdeal.main_arg0)
          ∧ r.2.mem ((c.tc : Thread Cert.ReferenceGlaGateLogitsIdeal.nD Cert.ReferenceGlaGateLogitsIdeal.τ).loc Cert.ReferenceGlaGateLogitsIdeal.main_arg1) = m' ((c.tc : Thread Cert.ReferenceGlaGateLogitsIdeal.nD Cert.ReferenceGlaGateLogitsIdeal.τ).loc Cert.ReferenceGlaGateLogitsIdeal.main_arg1))

def preserves_KernelGlaOutProj_KernelGlaOutProjIdeal : Prop :=
  True

def algebraic_KernelGlaOutProjIdeal_ReferenceGlaOutProjIdeal [hKernelGlaOutProjIdeal : Cert.KernelGlaOutProjIdeal.Facts] [hReferenceGlaOutProjIdeal : Cert.ReferenceGlaOutProjIdeal.Facts] : Prop :=
  ∀ (m : (ℓ : Loc Cert.KernelGlaOutProjIdeal.nD Cert.KernelGlaOutProjIdeal.τ Cert.KernelGlaOutProjIdeal.sig) → Buf (Elt Ideal) ℓ) (g : Dev Cert.KernelGlaOutProjIdeal.nD → PrngReg)
    (m' : (ℓ : Loc Cert.ReferenceGlaOutProjIdeal.nD Cert.ReferenceGlaOutProjIdeal.τ Cert.ReferenceGlaOutProjIdeal.sig) → Buf (Elt Ideal) ℓ) (g' : Dev Cert.ReferenceGlaOutProjIdeal.nD → PrngReg), Pre_KernelGlaOutProjIdeal m →
    (∀ c : Dev Cert.KernelGlaOutProjIdeal.nD,
      m' ((c.tc : Thread Cert.ReferenceGlaOutProjIdeal.nD Cert.ReferenceGlaOutProjIdeal.τ).loc Cert.ReferenceGlaOutProjIdeal.main_arg0) = m ((c.tc : Thread Cert.KernelGlaOutProjIdeal.nD Cert.KernelGlaOutProjIdeal.τ).loc Cert.KernelGlaOutProjIdeal.main_arg0)
      ∧ m' ((c.tc : Thread Cert.ReferenceGlaOutProjIdeal.nD Cert.ReferenceGlaOutProjIdeal.τ).loc Cert.ReferenceGlaOutProjIdeal.main_arg1) = m ((c.tc : Thread Cert.KernelGlaOutProjIdeal.nD Cert.KernelGlaOutProjIdeal.τ).loc Cert.KernelGlaOutProjIdeal.main_arg1)
      ∧ m' ((c.tc : Thread Cert.ReferenceGlaOutProjIdeal.nD Cert.ReferenceGlaOutProjIdeal.τ).loc Cert.ReferenceGlaOutProjIdeal.main_arg2) = m ((c.tc : Thread Cert.KernelGlaOutProjIdeal.nD Cert.KernelGlaOutProjIdeal.τ).loc Cert.KernelGlaOutProjIdeal.main_arg2)) →
    ∃ (v0 : (c : Dev Cert.KernelGlaOutProjIdeal.nD) → Buf (Elt Ideal) ((c.tc : Thread Cert.KernelGlaOutProjIdeal.nD Cert.KernelGlaOutProjIdeal.τ).loc Cert.KernelGlaOutProjIdeal.main_v0)),
      θ_run (Cert.KernelGlaOutProjIdeal.defs (F := Ideal)) (onTc (τ := Cert.KernelGlaOutProjIdeal.τ) (Cert.KernelGlaOutProjIdeal.main (F := Ideal))) ⟨m, fun _ => 0, g⟩ (fun r => ∀ c : Dev Cert.KernelGlaOutProjIdeal.nD,
          r.2.mem ((c.tc : Thread Cert.KernelGlaOutProjIdeal.nD Cert.KernelGlaOutProjIdeal.τ).loc Cert.KernelGlaOutProjIdeal.main_v0) = v0 c
          ∧ r.2.mem ((c.tc : Thread Cert.KernelGlaOutProjIdeal.nD Cert.KernelGlaOutProjIdeal.τ).loc Cert.KernelGlaOutProjIdeal.main_arg0) = m ((c.tc : Thread Cert.KernelGlaOutProjIdeal.nD Cert.KernelGlaOutProjIdeal.τ).loc Cert.KernelGlaOutProjIdeal.main_arg0)
          ∧ r.2.mem ((c.tc : Thread Cert.KernelGlaOutProjIdeal.nD Cert.KernelGlaOutProjIdeal.τ).loc Cert.KernelGlaOutProjIdeal.main_arg1) = m ((c.tc : Thread Cert.KernelGlaOutProjIdeal.nD Cert.KernelGlaOutProjIdeal.τ).loc Cert.KernelGlaOutProjIdeal.main_arg1)
          ∧ r.2.mem ((c.tc : Thread Cert.KernelGlaOutProjIdeal.nD Cert.KernelGlaOutProjIdeal.τ).loc Cert.KernelGlaOutProjIdeal.main_arg2) = m ((c.tc : Thread Cert.KernelGlaOutProjIdeal.nD Cert.KernelGlaOutProjIdeal.τ).loc Cert.KernelGlaOutProjIdeal.main_arg2))
      ∧ θ_run (Cert.ReferenceGlaOutProjIdeal.defs (F := Ideal)) (onTc (τ := Cert.ReferenceGlaOutProjIdeal.τ) (Cert.ReferenceGlaOutProjIdeal.main (F := Ideal))) ⟨m', fun _ => 0, g'⟩ (fun r => ∀ c : Dev Cert.ReferenceGlaOutProjIdeal.nD,
          r.2.mem ((c.tc : Thread Cert.ReferenceGlaOutProjIdeal.nD Cert.ReferenceGlaOutProjIdeal.τ).loc Cert.ReferenceGlaOutProjIdeal.main_v3) = v0 c
          ∧ r.2.mem ((c.tc : Thread Cert.ReferenceGlaOutProjIdeal.nD Cert.ReferenceGlaOutProjIdeal.τ).loc Cert.ReferenceGlaOutProjIdeal.main_arg0) = m' ((c.tc : Thread Cert.ReferenceGlaOutProjIdeal.nD Cert.ReferenceGlaOutProjIdeal.τ).loc Cert.ReferenceGlaOutProjIdeal.main_arg0)
          ∧ r.2.mem ((c.tc : Thread Cert.ReferenceGlaOutProjIdeal.nD Cert.ReferenceGlaOutProjIdeal.τ).loc Cert.ReferenceGlaOutProjIdeal.main_arg1) = m' ((c.tc : Thread Cert.ReferenceGlaOutProjIdeal.nD Cert.ReferenceGlaOutProjIdeal.τ).loc Cert.ReferenceGlaOutProjIdeal.main_arg1)
          ∧ r.2.mem ((c.tc : Thread Cert.ReferenceGlaOutProjIdeal.nD Cert.ReferenceGlaOutProjIdeal.τ).loc Cert.ReferenceGlaOutProjIdeal.main_arg2) = m' ((c.tc : Thread Cert.ReferenceGlaOutProjIdeal.nD Cert.ReferenceGlaOutProjIdeal.τ).loc Cert.ReferenceGlaOutProjIdeal.main_arg2))

def preserves_KernelConvActBwd_KernelConvActBwdIdeal : Prop :=
  True

def algebraic_KernelConvActBwdIdeal_ReferenceConvActBwdIdeal_pre_conv_slope_finite [hKernelConvActBwdIdeal : Cert.KernelConvActBwdIdeal.Facts] [hReferenceConvActBwdIdeal : Cert.ReferenceConvActBwdIdeal.Facts] [hPre_conv_slope_finite : Cert.Pre_conv_slope_finite.Facts] : Prop :=
  ∀ (m : (ℓ : Loc Cert.KernelConvActBwdIdeal.nD Cert.KernelConvActBwdIdeal.τ Cert.KernelConvActBwdIdeal.sig) → Buf (Elt Ideal) ℓ) (g : Dev Cert.KernelConvActBwdIdeal.nD → PrngReg)
    (m' : (ℓ : Loc Cert.ReferenceConvActBwdIdeal.nD Cert.ReferenceConvActBwdIdeal.τ Cert.ReferenceConvActBwdIdeal.sig) → Buf (Elt Ideal) ℓ) (g' : Dev Cert.ReferenceConvActBwdIdeal.nD → PrngReg), Pre_KernelConvActBwdIdeal_conv_slope_finite m →
    (∀ c : Dev Cert.KernelConvActBwdIdeal.nD,
      m' ((c.tc : Thread Cert.ReferenceConvActBwdIdeal.nD Cert.ReferenceConvActBwdIdeal.τ).loc Cert.ReferenceConvActBwdIdeal.main_arg0) = m ((c.tc : Thread Cert.KernelConvActBwdIdeal.nD Cert.KernelConvActBwdIdeal.τ).loc Cert.KernelConvActBwdIdeal.main_arg0)
      ∧ m' ((c.tc : Thread Cert.ReferenceConvActBwdIdeal.nD Cert.ReferenceConvActBwdIdeal.τ).loc Cert.ReferenceConvActBwdIdeal.main_arg1) = m ((c.tc : Thread Cert.KernelConvActBwdIdeal.nD Cert.KernelConvActBwdIdeal.τ).loc Cert.KernelConvActBwdIdeal.main_arg1)
      ∧ m' ((c.tc : Thread Cert.ReferenceConvActBwdIdeal.nD Cert.ReferenceConvActBwdIdeal.τ).loc Cert.ReferenceConvActBwdIdeal.main_arg2) = m ((c.tc : Thread Cert.KernelConvActBwdIdeal.nD Cert.KernelConvActBwdIdeal.τ).loc Cert.KernelConvActBwdIdeal.main_arg2)
      ∧ m' ((c.tc : Thread Cert.ReferenceConvActBwdIdeal.nD Cert.ReferenceConvActBwdIdeal.τ).loc Cert.ReferenceConvActBwdIdeal.main_arg3) = m ((c.tc : Thread Cert.KernelConvActBwdIdeal.nD Cert.KernelConvActBwdIdeal.τ).loc Cert.KernelConvActBwdIdeal.main_arg3)
      ∧ m' ((c.tc : Thread Cert.ReferenceConvActBwdIdeal.nD Cert.ReferenceConvActBwdIdeal.τ).loc Cert.ReferenceConvActBwdIdeal.main_arg4) = m ((c.tc : Thread Cert.KernelConvActBwdIdeal.nD Cert.KernelConvActBwdIdeal.τ).loc Cert.KernelConvActBwdIdeal.main_arg4)
      ∧ m' ((c.tc : Thread Cert.ReferenceConvActBwdIdeal.nD Cert.ReferenceConvActBwdIdeal.τ).loc Cert.ReferenceConvActBwdIdeal.main_arg5) = m ((c.tc : Thread Cert.KernelConvActBwdIdeal.nD Cert.KernelConvActBwdIdeal.τ).loc Cert.KernelConvActBwdIdeal.main_arg5)
      ∧ m' ((c.tc : Thread Cert.ReferenceConvActBwdIdeal.nD Cert.ReferenceConvActBwdIdeal.τ).loc Cert.ReferenceConvActBwdIdeal.main_arg6) = m ((c.tc : Thread Cert.KernelConvActBwdIdeal.nD Cert.KernelConvActBwdIdeal.τ).loc Cert.KernelConvActBwdIdeal.main_arg6)) →
    ∃ (v0 : (c : Dev Cert.KernelConvActBwdIdeal.nD) → Buf (Elt Ideal) ((c.tc : Thread Cert.KernelConvActBwdIdeal.nD Cert.KernelConvActBwdIdeal.τ).loc Cert.KernelConvActBwdIdeal.main_v0_0)) (v1 : (c : Dev Cert.KernelConvActBwdIdeal.nD) → Buf (Elt Ideal) ((c.tc : Thread Cert.KernelConvActBwdIdeal.nD Cert.KernelConvActBwdIdeal.τ).loc Cert.KernelConvActBwdIdeal.main_v0_1)) (v2 : (c : Dev Cert.KernelConvActBwdIdeal.nD) → Buf (Elt Ideal) ((c.tc : Thread Cert.KernelConvActBwdIdeal.nD Cert.KernelConvActBwdIdeal.τ).loc Cert.KernelConvActBwdIdeal.main_v0_2)) (v3 : (c : Dev Cert.KernelConvActBwdIdeal.nD) → Buf (Elt Ideal) ((c.tc : Thread Cert.KernelConvActBwdIdeal.nD Cert.KernelConvActBwdIdeal.τ).loc Cert.KernelConvActBwdIdeal.main_v0_3)) (v4 : (c : Dev Cert.KernelConvActBwdIdeal.nD) → Buf (Elt Ideal) ((c.tc : Thread Cert.KernelConvActBwdIdeal.nD Cert.KernelConvActBwdIdeal.τ).loc Cert.KernelConvActBwdIdeal.main_v0_4)) (v5 : (c : Dev Cert.KernelConvActBwdIdeal.nD) → Buf (Elt Ideal) ((c.tc : Thread Cert.KernelConvActBwdIdeal.nD Cert.KernelConvActBwdIdeal.τ).loc Cert.KernelConvActBwdIdeal.main_v0_5)),
      θ_run (Cert.KernelConvActBwdIdeal.defs (F := Ideal)) (onTc (τ := Cert.KernelConvActBwdIdeal.τ) (Cert.KernelConvActBwdIdeal.main (F := Ideal))) ⟨m, fun _ => 0, g⟩ (fun r => ∀ c : Dev Cert.KernelConvActBwdIdeal.nD,
          r.2.mem ((c.tc : Thread Cert.KernelConvActBwdIdeal.nD Cert.KernelConvActBwdIdeal.τ).loc Cert.KernelConvActBwdIdeal.main_v0_0) = v0 c
          ∧ r.2.mem ((c.tc : Thread Cert.KernelConvActBwdIdeal.nD Cert.KernelConvActBwdIdeal.τ).loc Cert.KernelConvActBwdIdeal.main_v0_1) = v1 c
          ∧ r.2.mem ((c.tc : Thread Cert.KernelConvActBwdIdeal.nD Cert.KernelConvActBwdIdeal.τ).loc Cert.KernelConvActBwdIdeal.main_v0_2) = v2 c
          ∧ r.2.mem ((c.tc : Thread Cert.KernelConvActBwdIdeal.nD Cert.KernelConvActBwdIdeal.τ).loc Cert.KernelConvActBwdIdeal.main_v0_3) = v3 c
          ∧ r.2.mem ((c.tc : Thread Cert.KernelConvActBwdIdeal.nD Cert.KernelConvActBwdIdeal.τ).loc Cert.KernelConvActBwdIdeal.main_v0_4) = v4 c
          ∧ r.2.mem ((c.tc : Thread Cert.KernelConvActBwdIdeal.nD Cert.KernelConvActBwdIdeal.τ).loc Cert.KernelConvActBwdIdeal.main_v0_5) = v5 c
          ∧ r.2.mem ((c.tc : Thread Cert.KernelConvActBwdIdeal.nD Cert.KernelConvActBwdIdeal.τ).loc Cert.KernelConvActBwdIdeal.main_arg0) = m ((c.tc : Thread Cert.KernelConvActBwdIdeal.nD Cert.KernelConvActBwdIdeal.τ).loc Cert.KernelConvActBwdIdeal.main_arg0)
          ∧ r.2.mem ((c.tc : Thread Cert.KernelConvActBwdIdeal.nD Cert.KernelConvActBwdIdeal.τ).loc Cert.KernelConvActBwdIdeal.main_arg1) = m ((c.tc : Thread Cert.KernelConvActBwdIdeal.nD Cert.KernelConvActBwdIdeal.τ).loc Cert.KernelConvActBwdIdeal.main_arg1)
          ∧ r.2.mem ((c.tc : Thread Cert.KernelConvActBwdIdeal.nD Cert.KernelConvActBwdIdeal.τ).loc Cert.KernelConvActBwdIdeal.main_arg2) = m ((c.tc : Thread Cert.KernelConvActBwdIdeal.nD Cert.KernelConvActBwdIdeal.τ).loc Cert.KernelConvActBwdIdeal.main_arg2)
          ∧ r.2.mem ((c.tc : Thread Cert.KernelConvActBwdIdeal.nD Cert.KernelConvActBwdIdeal.τ).loc Cert.KernelConvActBwdIdeal.main_arg3) = m ((c.tc : Thread Cert.KernelConvActBwdIdeal.nD Cert.KernelConvActBwdIdeal.τ).loc Cert.KernelConvActBwdIdeal.main_arg3)
          ∧ r.2.mem ((c.tc : Thread Cert.KernelConvActBwdIdeal.nD Cert.KernelConvActBwdIdeal.τ).loc Cert.KernelConvActBwdIdeal.main_arg4) = m ((c.tc : Thread Cert.KernelConvActBwdIdeal.nD Cert.KernelConvActBwdIdeal.τ).loc Cert.KernelConvActBwdIdeal.main_arg4)
          ∧ r.2.mem ((c.tc : Thread Cert.KernelConvActBwdIdeal.nD Cert.KernelConvActBwdIdeal.τ).loc Cert.KernelConvActBwdIdeal.main_arg5) = m ((c.tc : Thread Cert.KernelConvActBwdIdeal.nD Cert.KernelConvActBwdIdeal.τ).loc Cert.KernelConvActBwdIdeal.main_arg5)
          ∧ r.2.mem ((c.tc : Thread Cert.KernelConvActBwdIdeal.nD Cert.KernelConvActBwdIdeal.τ).loc Cert.KernelConvActBwdIdeal.main_arg6) = m ((c.tc : Thread Cert.KernelConvActBwdIdeal.nD Cert.KernelConvActBwdIdeal.τ).loc Cert.KernelConvActBwdIdeal.main_arg6))
      ∧ θ_run (Cert.ReferenceConvActBwdIdeal.defs (F := Ideal)) (onTc (τ := Cert.ReferenceConvActBwdIdeal.τ) (Cert.ReferenceConvActBwdIdeal.main (F := Ideal))) ⟨m', fun _ => 0, g'⟩ (fun r => ∀ c : Dev Cert.ReferenceConvActBwdIdeal.nD,
          r.2.mem ((c.tc : Thread Cert.ReferenceConvActBwdIdeal.nD Cert.ReferenceConvActBwdIdeal.τ).loc Cert.ReferenceConvActBwdIdeal.main_v145) = v0 c
          ∧ r.2.mem ((c.tc : Thread Cert.ReferenceConvActBwdIdeal.nD Cert.ReferenceConvActBwdIdeal.τ).loc Cert.ReferenceConvActBwdIdeal.main_v146) = v1 c
          ∧ r.2.mem ((c.tc : Thread Cert.ReferenceConvActBwdIdeal.nD Cert.ReferenceConvActBwdIdeal.τ).loc Cert.ReferenceConvActBwdIdeal.main_v98) = v2 c
          ∧ r.2.mem ((c.tc : Thread Cert.ReferenceConvActBwdIdeal.nD Cert.ReferenceConvActBwdIdeal.τ).loc Cert.ReferenceConvActBwdIdeal.main_v144) = v3 c
          ∧ r.2.mem ((c.tc : Thread Cert.ReferenceConvActBwdIdeal.nD Cert.ReferenceConvActBwdIdeal.τ).loc Cert.ReferenceConvActBwdIdeal.main_v78) = v4 c
          ∧ r.2.mem ((c.tc : Thread Cert.ReferenceConvActBwdIdeal.nD Cert.ReferenceConvActBwdIdeal.τ).loc Cert.ReferenceConvActBwdIdeal.main_v124) = v5 c
          ∧ r.2.mem ((c.tc : Thread Cert.ReferenceConvActBwdIdeal.nD Cert.ReferenceConvActBwdIdeal.τ).loc Cert.ReferenceConvActBwdIdeal.main_arg0) = m' ((c.tc : Thread Cert.ReferenceConvActBwdIdeal.nD Cert.ReferenceConvActBwdIdeal.τ).loc Cert.ReferenceConvActBwdIdeal.main_arg0)
          ∧ r.2.mem ((c.tc : Thread Cert.ReferenceConvActBwdIdeal.nD Cert.ReferenceConvActBwdIdeal.τ).loc Cert.ReferenceConvActBwdIdeal.main_arg1) = m' ((c.tc : Thread Cert.ReferenceConvActBwdIdeal.nD Cert.ReferenceConvActBwdIdeal.τ).loc Cert.ReferenceConvActBwdIdeal.main_arg1)
          ∧ r.2.mem ((c.tc : Thread Cert.ReferenceConvActBwdIdeal.nD Cert.ReferenceConvActBwdIdeal.τ).loc Cert.ReferenceConvActBwdIdeal.main_arg2) = m' ((c.tc : Thread Cert.ReferenceConvActBwdIdeal.nD Cert.ReferenceConvActBwdIdeal.τ).loc Cert.ReferenceConvActBwdIdeal.main_arg2)
          ∧ r.2.mem ((c.tc : Thread Cert.ReferenceConvActBwdIdeal.nD Cert.ReferenceConvActBwdIdeal.τ).loc Cert.ReferenceConvActBwdIdeal.main_arg3) = m' ((c.tc : Thread Cert.ReferenceConvActBwdIdeal.nD Cert.ReferenceConvActBwdIdeal.τ).loc Cert.ReferenceConvActBwdIdeal.main_arg3)
          ∧ r.2.mem ((c.tc : Thread Cert.ReferenceConvActBwdIdeal.nD Cert.ReferenceConvActBwdIdeal.τ).loc Cert.ReferenceConvActBwdIdeal.main_arg4) = m' ((c.tc : Thread Cert.ReferenceConvActBwdIdeal.nD Cert.ReferenceConvActBwdIdeal.τ).loc Cert.ReferenceConvActBwdIdeal.main_arg4)
          ∧ r.2.mem ((c.tc : Thread Cert.ReferenceConvActBwdIdeal.nD Cert.ReferenceConvActBwdIdeal.τ).loc Cert.ReferenceConvActBwdIdeal.main_arg5) = m' ((c.tc : Thread Cert.ReferenceConvActBwdIdeal.nD Cert.ReferenceConvActBwdIdeal.τ).loc Cert.ReferenceConvActBwdIdeal.main_arg5)
          ∧ r.2.mem ((c.tc : Thread Cert.ReferenceConvActBwdIdeal.nD Cert.ReferenceConvActBwdIdeal.τ).loc Cert.ReferenceConvActBwdIdeal.main_arg6) = m' ((c.tc : Thread Cert.ReferenceConvActBwdIdeal.nD Cert.ReferenceConvActBwdIdeal.τ).loc Cert.ReferenceConvActBwdIdeal.main_arg6))

def preserves_KernelConvT_KernelConvTIdeal : Prop :=
  True

def algebraic_KernelConvTIdeal_ReferenceConvTIdeal [hKernelConvTIdeal : Cert.KernelConvTIdeal.Facts] [hReferenceConvTIdeal : Cert.ReferenceConvTIdeal.Facts] : Prop :=
  ∀ (m : (ℓ : Loc Cert.KernelConvTIdeal.nD Cert.KernelConvTIdeal.τ Cert.KernelConvTIdeal.sig) → Buf (Elt Ideal) ℓ) (g : Dev Cert.KernelConvTIdeal.nD → PrngReg)
    (m' : (ℓ : Loc Cert.ReferenceConvTIdeal.nD Cert.ReferenceConvTIdeal.τ Cert.ReferenceConvTIdeal.sig) → Buf (Elt Ideal) ℓ) (g' : Dev Cert.ReferenceConvTIdeal.nD → PrngReg), Pre_KernelConvTIdeal m →
    (∀ c : Dev Cert.KernelConvTIdeal.nD,
      m' ((c.tc : Thread Cert.ReferenceConvTIdeal.nD Cert.ReferenceConvTIdeal.τ).loc Cert.ReferenceConvTIdeal.main_arg0) = m ((c.tc : Thread Cert.KernelConvTIdeal.nD Cert.KernelConvTIdeal.τ).loc Cert.KernelConvTIdeal.main_arg0)
      ∧ m' ((c.tc : Thread Cert.ReferenceConvTIdeal.nD Cert.ReferenceConvTIdeal.τ).loc Cert.ReferenceConvTIdeal.main_arg1) = m ((c.tc : Thread Cert.KernelConvTIdeal.nD Cert.KernelConvTIdeal.τ).loc Cert.KernelConvTIdeal.main_arg1)) →
    ∃ (v0 : (c : Dev Cert.KernelConvTIdeal.nD) → Buf (Elt Ideal) ((c.tc : Thread Cert.KernelConvTIdeal.nD Cert.KernelConvTIdeal.τ).loc Cert.KernelConvTIdeal.main_v0)),
      θ_run (Cert.KernelConvTIdeal.defs (F := Ideal)) (onTc (τ := Cert.KernelConvTIdeal.τ) (Cert.KernelConvTIdeal.main (F := Ideal))) ⟨m, fun _ => 0, g⟩ (fun r => ∀ c : Dev Cert.KernelConvTIdeal.nD,
          r.2.mem ((c.tc : Thread Cert.KernelConvTIdeal.nD Cert.KernelConvTIdeal.τ).loc Cert.KernelConvTIdeal.main_v0) = v0 c
          ∧ r.2.mem ((c.tc : Thread Cert.KernelConvTIdeal.nD Cert.KernelConvTIdeal.τ).loc Cert.KernelConvTIdeal.main_arg0) = m ((c.tc : Thread Cert.KernelConvTIdeal.nD Cert.KernelConvTIdeal.τ).loc Cert.KernelConvTIdeal.main_arg0)
          ∧ r.2.mem ((c.tc : Thread Cert.KernelConvTIdeal.nD Cert.KernelConvTIdeal.τ).loc Cert.KernelConvTIdeal.main_arg1) = m ((c.tc : Thread Cert.KernelConvTIdeal.nD Cert.KernelConvTIdeal.τ).loc Cert.KernelConvTIdeal.main_arg1))
      ∧ θ_run (Cert.ReferenceConvTIdeal.defs (F := Ideal)) (onTc (τ := Cert.ReferenceConvTIdeal.τ) (Cert.ReferenceConvTIdeal.main (F := Ideal))) ⟨m', fun _ => 0, g'⟩ (fun r => ∀ c : Dev Cert.ReferenceConvTIdeal.nD,
          r.2.mem ((c.tc : Thread Cert.ReferenceConvTIdeal.nD Cert.ReferenceConvTIdeal.τ).loc Cert.ReferenceConvTIdeal.main_v43) = v0 c
          ∧ r.2.mem ((c.tc : Thread Cert.ReferenceConvTIdeal.nD Cert.ReferenceConvTIdeal.τ).loc Cert.ReferenceConvTIdeal.main_arg0) = m' ((c.tc : Thread Cert.ReferenceConvTIdeal.nD Cert.ReferenceConvTIdeal.τ).loc Cert.ReferenceConvTIdeal.main_arg0)
          ∧ r.2.mem ((c.tc : Thread Cert.ReferenceConvTIdeal.nD Cert.ReferenceConvTIdeal.τ).loc Cert.ReferenceConvTIdeal.main_arg1) = m' ((c.tc : Thread Cert.ReferenceConvTIdeal.nD Cert.ReferenceConvTIdeal.τ).loc Cert.ReferenceConvTIdeal.main_arg1))

def preserves_KernelNormBwd_KernelNormBwdIdeal : Prop :=
  True

def algebraic_KernelNormBwdIdeal_ReferenceNormBwdIdeal [hKernelNormBwdIdeal : Cert.KernelNormBwdIdeal.Facts] [hReferenceNormBwdIdeal : Cert.ReferenceNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg)
    (m' : (ℓ : Loc Cert.ReferenceNormBwdIdeal.nD Cert.ReferenceNormBwdIdeal.τ Cert.ReferenceNormBwdIdeal.sig) → Buf (Elt Ideal) ℓ) (g' : Dev Cert.ReferenceNormBwdIdeal.nD → PrngReg), Pre_KernelNormBwdIdeal m →
    (∀ c : Dev Cert.KernelNormBwdIdeal.nD,
      m' ((c.tc : Thread Cert.ReferenceNormBwdIdeal.nD Cert.ReferenceNormBwdIdeal.τ).loc Cert.ReferenceNormBwdIdeal.main_arg0) = m ((c.tc : Thread Cert.KernelNormBwdIdeal.nD Cert.KernelNormBwdIdeal.τ).loc Cert.KernelNormBwdIdeal.main_arg0)
      ∧ m' ((c.tc : Thread Cert.ReferenceNormBwdIdeal.nD Cert.ReferenceNormBwdIdeal.τ).loc Cert.ReferenceNormBwdIdeal.main_arg1) = m ((c.tc : Thread Cert.KernelNormBwdIdeal.nD Cert.KernelNormBwdIdeal.τ).loc Cert.KernelNormBwdIdeal.main_arg1)
      ∧ m' ((c.tc : Thread Cert.ReferenceNormBwdIdeal.nD Cert.ReferenceNormBwdIdeal.τ).loc Cert.ReferenceNormBwdIdeal.main_arg2) = m ((c.tc : Thread Cert.KernelNormBwdIdeal.nD Cert.KernelNormBwdIdeal.τ).loc Cert.KernelNormBwdIdeal.main_arg2)
      ∧ m' ((c.tc : Thread Cert.ReferenceNormBwdIdeal.nD Cert.ReferenceNormBwdIdeal.τ).loc Cert.ReferenceNormBwdIdeal.main_arg3) = m ((c.tc : Thread Cert.KernelNormBwdIdeal.nD Cert.KernelNormBwdIdeal.τ).loc Cert.KernelNormBwdIdeal.main_arg3)) →
    ∃ (v0 : (c : Dev Cert.KernelNormBwdIdeal.nD) → Buf (Elt Ideal) ((c.tc : Thread Cert.KernelNormBwdIdeal.nD Cert.KernelNormBwdIdeal.τ).loc Cert.KernelNormBwdIdeal.main_v0_0)) (v1 : (c : Dev Cert.KernelNormBwdIdeal.nD) → Buf (Elt Ideal) ((c.tc : Thread Cert.KernelNormBwdIdeal.nD Cert.KernelNormBwdIdeal.τ).loc Cert.KernelNormBwdIdeal.main_v0_1)),
      θ_run (Cert.KernelNormBwdIdeal.defs (F := Ideal)) (onTc (τ := Cert.KernelNormBwdIdeal.τ) (Cert.KernelNormBwdIdeal.main (F := Ideal))) ⟨m, fun _ => 0, g⟩ (fun r => ∀ c : Dev Cert.KernelNormBwdIdeal.nD,
          r.2.mem ((c.tc : Thread Cert.KernelNormBwdIdeal.nD Cert.KernelNormBwdIdeal.τ).loc Cert.KernelNormBwdIdeal.main_v0_0) = v0 c
          ∧ r.2.mem ((c.tc : Thread Cert.KernelNormBwdIdeal.nD Cert.KernelNormBwdIdeal.τ).loc Cert.KernelNormBwdIdeal.main_v0_1) = v1 c
          ∧ r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
          ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
          ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
          ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ θ_run (Cert.ReferenceNormBwdIdeal.defs (F := Ideal)) (onTc (τ := Cert.ReferenceNormBwdIdeal.τ) (Cert.ReferenceNormBwdIdeal.main (F := Ideal))) ⟨m', fun _ => 0, g'⟩ (fun r => ∀ c : Dev Cert.ReferenceNormBwdIdeal.nD,
          r.2.mem ((c.tc : Thread Cert.ReferenceNormBwdIdeal.nD Cert.ReferenceNormBwdIdeal.τ).loc Cert.ReferenceNormBwdIdeal.main_v34) = v0 c
          ∧ r.2.mem ((c.tc : Thread Cert.ReferenceNormBwdIdeal.nD Cert.ReferenceNormBwdIdeal.τ).loc Cert.ReferenceNormBwdIdeal.main_v17) = v1 c
          ∧ r.2.mem ((c.tc : Thread Cert.ReferenceNormBwdIdeal.nD Cert.ReferenceNormBwdIdeal.τ).loc Cert.ReferenceNormBwdIdeal.main_arg0) = m' ((c.tc : Thread Cert.ReferenceNormBwdIdeal.nD Cert.ReferenceNormBwdIdeal.τ).loc Cert.ReferenceNormBwdIdeal.main_arg0)
          ∧ r.2.mem ((c.tc : Thread Cert.ReferenceNormBwdIdeal.nD Cert.ReferenceNormBwdIdeal.τ).loc Cert.ReferenceNormBwdIdeal.main_arg1) = m' ((c.tc : Thread Cert.ReferenceNormBwdIdeal.nD Cert.ReferenceNormBwdIdeal.τ).loc Cert.ReferenceNormBwdIdeal.main_arg1)
          ∧ r.2.mem ((c.tc : Thread Cert.ReferenceNormBwdIdeal.nD Cert.ReferenceNormBwdIdeal.τ).loc Cert.ReferenceNormBwdIdeal.main_arg2) = m' ((c.tc : Thread Cert.ReferenceNormBwdIdeal.nD Cert.ReferenceNormBwdIdeal.τ).loc Cert.ReferenceNormBwdIdeal.main_arg2)
          ∧ r.2.mem ((c.tc : Thread Cert.ReferenceNormBwdIdeal.nD Cert.ReferenceNormBwdIdeal.τ).loc Cert.ReferenceNormBwdIdeal.main_arg3) = m' ((c.tc : Thread Cert.ReferenceNormBwdIdeal.nD Cert.ReferenceNormBwdIdeal.τ).loc Cert.ReferenceNormBwdIdeal.main_arg3))

def preserves_KernelGlaGateBwd_KernelGlaGateBwdIdeal : Prop :=
  True

def algebraic_KernelGlaGateBwdIdeal_ReferenceGlaGateBwdIdeal_pre_gate_slope_finite [hKernelGlaGateBwdIdeal : Cert.KernelGlaGateBwdIdeal.Facts] [hReferenceGlaGateBwdIdeal : Cert.ReferenceGlaGateBwdIdeal.Facts] [hPre_gate_slope_finite : Cert.Pre_gate_slope_finite.Facts] : Prop :=
  ∀ (m : (ℓ : Loc Cert.KernelGlaGateBwdIdeal.nD Cert.KernelGlaGateBwdIdeal.τ Cert.KernelGlaGateBwdIdeal.sig) → Buf (Elt Ideal) ℓ) (g : Dev Cert.KernelGlaGateBwdIdeal.nD → PrngReg)
    (m' : (ℓ : Loc Cert.ReferenceGlaGateBwdIdeal.nD Cert.ReferenceGlaGateBwdIdeal.τ Cert.ReferenceGlaGateBwdIdeal.sig) → Buf (Elt Ideal) ℓ) (g' : Dev Cert.ReferenceGlaGateBwdIdeal.nD → PrngReg), Pre_KernelGlaGateBwdIdeal_gate_slope_finite m →
    (∀ c : Dev Cert.KernelGlaGateBwdIdeal.nD,
      m' ((c.tc : Thread Cert.ReferenceGlaGateBwdIdeal.nD Cert.ReferenceGlaGateBwdIdeal.τ).loc Cert.ReferenceGlaGateBwdIdeal.main_arg0) = m ((c.tc : Thread Cert.KernelGlaGateBwdIdeal.nD Cert.KernelGlaGateBwdIdeal.τ).loc Cert.KernelGlaGateBwdIdeal.main_arg0)
      ∧ m' ((c.tc : Thread Cert.ReferenceGlaGateBwdIdeal.nD Cert.ReferenceGlaGateBwdIdeal.τ).loc Cert.ReferenceGlaGateBwdIdeal.main_arg1) = m ((c.tc : Thread Cert.KernelGlaGateBwdIdeal.nD Cert.KernelGlaGateBwdIdeal.τ).loc Cert.KernelGlaGateBwdIdeal.main_arg1)
      ∧ m' ((c.tc : Thread Cert.ReferenceGlaGateBwdIdeal.nD Cert.ReferenceGlaGateBwdIdeal.τ).loc Cert.ReferenceGlaGateBwdIdeal.main_arg2) = m ((c.tc : Thread Cert.KernelGlaGateBwdIdeal.nD Cert.KernelGlaGateBwdIdeal.τ).loc Cert.KernelGlaGateBwdIdeal.main_arg2)
      ∧ m' ((c.tc : Thread Cert.ReferenceGlaGateBwdIdeal.nD Cert.ReferenceGlaGateBwdIdeal.τ).loc Cert.ReferenceGlaGateBwdIdeal.main_arg3) = m ((c.tc : Thread Cert.KernelGlaGateBwdIdeal.nD Cert.KernelGlaGateBwdIdeal.τ).loc Cert.KernelGlaGateBwdIdeal.main_arg3)
      ∧ m' ((c.tc : Thread Cert.ReferenceGlaGateBwdIdeal.nD Cert.ReferenceGlaGateBwdIdeal.τ).loc Cert.ReferenceGlaGateBwdIdeal.main_arg4) = m ((c.tc : Thread Cert.KernelGlaGateBwdIdeal.nD Cert.KernelGlaGateBwdIdeal.τ).loc Cert.KernelGlaGateBwdIdeal.main_arg4)) →
    ∃ (v0 : (c : Dev Cert.KernelGlaGateBwdIdeal.nD) → Buf (Elt Ideal) ((c.tc : Thread Cert.KernelGlaGateBwdIdeal.nD Cert.KernelGlaGateBwdIdeal.τ).loc Cert.KernelGlaGateBwdIdeal.main_v0_0)) (v1 : (c : Dev Cert.KernelGlaGateBwdIdeal.nD) → Buf (Elt Ideal) ((c.tc : Thread Cert.KernelGlaGateBwdIdeal.nD Cert.KernelGlaGateBwdIdeal.τ).loc Cert.KernelGlaGateBwdIdeal.main_v0_1)) (v2 : (c : Dev Cert.KernelGlaGateBwdIdeal.nD) → Buf (Elt Ideal) ((c.tc : Thread Cert.KernelGlaGateBwdIdeal.nD Cert.KernelGlaGateBwdIdeal.τ).loc Cert.KernelGlaGateBwdIdeal.main_v0_2)),
      θ_run (Cert.KernelGlaGateBwdIdeal.defs (F := Ideal)) (onTc (τ := Cert.KernelGlaGateBwdIdeal.τ) (Cert.KernelGlaGateBwdIdeal.main (F := Ideal))) ⟨m, fun _ => 0, g⟩ (fun r => ∀ c : Dev Cert.KernelGlaGateBwdIdeal.nD,
          r.2.mem ((c.tc : Thread Cert.KernelGlaGateBwdIdeal.nD Cert.KernelGlaGateBwdIdeal.τ).loc Cert.KernelGlaGateBwdIdeal.main_v0_0) = v0 c
          ∧ r.2.mem ((c.tc : Thread Cert.KernelGlaGateBwdIdeal.nD Cert.KernelGlaGateBwdIdeal.τ).loc Cert.KernelGlaGateBwdIdeal.main_v0_1) = v1 c
          ∧ r.2.mem ((c.tc : Thread Cert.KernelGlaGateBwdIdeal.nD Cert.KernelGlaGateBwdIdeal.τ).loc Cert.KernelGlaGateBwdIdeal.main_v0_2) = v2 c
          ∧ r.2.mem ((c.tc : Thread Cert.KernelGlaGateBwdIdeal.nD Cert.KernelGlaGateBwdIdeal.τ).loc Cert.KernelGlaGateBwdIdeal.main_arg0) = m ((c.tc : Thread Cert.KernelGlaGateBwdIdeal.nD Cert.KernelGlaGateBwdIdeal.τ).loc Cert.KernelGlaGateBwdIdeal.main_arg0)
          ∧ r.2.mem ((c.tc : Thread Cert.KernelGlaGateBwdIdeal.nD Cert.KernelGlaGateBwdIdeal.τ).loc Cert.KernelGlaGateBwdIdeal.main_arg1) = m ((c.tc : Thread Cert.KernelGlaGateBwdIdeal.nD Cert.KernelGlaGateBwdIdeal.τ).loc Cert.KernelGlaGateBwdIdeal.main_arg1)
          ∧ r.2.mem ((c.tc : Thread Cert.KernelGlaGateBwdIdeal.nD Cert.KernelGlaGateBwdIdeal.τ).loc Cert.KernelGlaGateBwdIdeal.main_arg2) = m ((c.tc : Thread Cert.KernelGlaGateBwdIdeal.nD Cert.KernelGlaGateBwdIdeal.τ).loc Cert.KernelGlaGateBwdIdeal.main_arg2)
          ∧ r.2.mem ((c.tc : Thread Cert.KernelGlaGateBwdIdeal.nD Cert.KernelGlaGateBwdIdeal.τ).loc Cert.KernelGlaGateBwdIdeal.main_arg3) = m ((c.tc : Thread Cert.KernelGlaGateBwdIdeal.nD Cert.KernelGlaGateBwdIdeal.τ).loc Cert.KernelGlaGateBwdIdeal.main_arg3)
          ∧ r.2.mem ((c.tc : Thread Cert.KernelGlaGateBwdIdeal.nD Cert.KernelGlaGateBwdIdeal.τ).loc Cert.KernelGlaGateBwdIdeal.main_arg4) = m ((c.tc : Thread Cert.KernelGlaGateBwdIdeal.nD Cert.KernelGlaGateBwdIdeal.τ).loc Cert.KernelGlaGateBwdIdeal.main_arg4))
      ∧ θ_run (Cert.ReferenceGlaGateBwdIdeal.defs (F := Ideal)) (onTc (τ := Cert.ReferenceGlaGateBwdIdeal.τ) (Cert.ReferenceGlaGateBwdIdeal.main (F := Ideal))) ⟨m', fun _ => 0, g'⟩ (fun r => ∀ c : Dev Cert.ReferenceGlaGateBwdIdeal.nD,
          r.2.mem ((c.tc : Thread Cert.ReferenceGlaGateBwdIdeal.nD Cert.ReferenceGlaGateBwdIdeal.τ).loc Cert.ReferenceGlaGateBwdIdeal.main_v50) = v0 c
          ∧ r.2.mem ((c.tc : Thread Cert.ReferenceGlaGateBwdIdeal.nD Cert.ReferenceGlaGateBwdIdeal.τ).loc Cert.ReferenceGlaGateBwdIdeal.main_v27) = v1 c
          ∧ r.2.mem ((c.tc : Thread Cert.ReferenceGlaGateBwdIdeal.nD Cert.ReferenceGlaGateBwdIdeal.τ).loc Cert.ReferenceGlaGateBwdIdeal.main_v34) = v2 c
          ∧ r.2.mem ((c.tc : Thread Cert.ReferenceGlaGateBwdIdeal.nD Cert.ReferenceGlaGateBwdIdeal.τ).loc Cert.ReferenceGlaGateBwdIdeal.main_arg0) = m' ((c.tc : Thread Cert.ReferenceGlaGateBwdIdeal.nD Cert.ReferenceGlaGateBwdIdeal.τ).loc Cert.ReferenceGlaGateBwdIdeal.main_arg0)
          ∧ r.2.mem ((c.tc : Thread Cert.ReferenceGlaGateBwdIdeal.nD Cert.ReferenceGlaGateBwdIdeal.τ).loc Cert.ReferenceGlaGateBwdIdeal.main_arg1) = m' ((c.tc : Thread Cert.ReferenceGlaGateBwdIdeal.nD Cert.ReferenceGlaGateBwdIdeal.τ).loc Cert.ReferenceGlaGateBwdIdeal.main_arg1)
          ∧ r.2.mem ((c.tc : Thread Cert.ReferenceGlaGateBwdIdeal.nD Cert.ReferenceGlaGateBwdIdeal.τ).loc Cert.ReferenceGlaGateBwdIdeal.main_arg2) = m' ((c.tc : Thread Cert.ReferenceGlaGateBwdIdeal.nD Cert.ReferenceGlaGateBwdIdeal.τ).loc Cert.ReferenceGlaGateBwdIdeal.main_arg2)
          ∧ r.2.mem ((c.tc : Thread Cert.ReferenceGlaGateBwdIdeal.nD Cert.ReferenceGlaGateBwdIdeal.τ).loc Cert.ReferenceGlaGateBwdIdeal.main_arg3) = m' ((c.tc : Thread Cert.ReferenceGlaGateBwdIdeal.nD Cert.ReferenceGlaGateBwdIdeal.τ).loc Cert.ReferenceGlaGateBwdIdeal.main_arg3)
          ∧ r.2.mem ((c.tc : Thread Cert.ReferenceGlaGateBwdIdeal.nD Cert.ReferenceGlaGateBwdIdeal.τ).loc Cert.ReferenceGlaGateBwdIdeal.main_arg4) = m' ((c.tc : Thread Cert.ReferenceGlaGateBwdIdeal.nD Cert.ReferenceGlaGateBwdIdeal.τ).loc Cert.ReferenceGlaGateBwdIdeal.main_arg4))

def Claim : Prop :=
  ∃ (hKernel : Cert.Kernel.Facts) (hKernelIdeal : Cert.KernelIdeal.Facts) (hReferenceIdeal : Cert.ReferenceIdeal.Facts) (hKernelAttnFwd : Cert.KernelAttnFwd.Facts) (hKernelAttnFwdIdeal : Cert.KernelAttnFwdIdeal.Facts) (hReferenceAttnFwdIdeal : Cert.ReferenceAttnFwdIdeal.Facts) (hKernelDownDgrad : Cert.KernelDownDgrad.Facts) (hKernelDownDgradIdeal : Cert.KernelDownDgradIdeal.Facts) (hReferenceDownDgradIdeal : Cert.ReferenceDownDgradIdeal.Facts) (hKernelDownWgrad : Cert.KernelDownWgrad.Facts) (hKernelDownWgradIdeal : Cert.KernelDownWgradIdeal.Facts) (hReferenceDownWgradIdeal : Cert.ReferenceDownWgradIdeal.Facts) (hKernelUpDgradVal : Cert.KernelUpDgradVal.Facts) (hKernelUpDgradValIdeal : Cert.KernelUpDgradValIdeal.Facts) (hReferenceUpDgradValIdeal : Cert.ReferenceUpDgradValIdeal.Facts) (hKernelUpDgradGate : Cert.KernelUpDgradGate.Facts) (hKernelUpDgradGateIdeal : Cert.KernelUpDgradGateIdeal.Facts) (hReferenceUpDgradGateIdeal : Cert.ReferenceUpDgradGateIdeal.Facts) (hKernelUpWgradVal : Cert.KernelUpWgradVal.Facts) (hKernelUpWgradValIdeal : Cert.KernelUpWgradValIdeal.Facts) (hReferenceUpWgradValIdeal : Cert.ReferenceUpWgradValIdeal.Facts) (hKernelUpWgradGate : Cert.KernelUpWgradGate.Facts) (hKernelUpWgradGateIdeal : Cert.KernelUpWgradGateIdeal.Facts) (hReferenceUpWgradGateIdeal : Cert.ReferenceUpWgradGateIdeal.Facts) (hKernelAttnOutDgrad : Cert.KernelAttnOutDgrad.Facts) (hKernelAttnOutDgradIdeal : Cert.KernelAttnOutDgradIdeal.Facts) (hReferenceAttnOutDgradIdeal : Cert.ReferenceAttnOutDgradIdeal.Facts) (hKernelAttnOutWgrad : Cert.KernelAttnOutWgrad.Facts) (hKernelAttnOutWgradIdeal : Cert.KernelAttnOutWgradIdeal.Facts) (hReferenceAttnOutWgradIdeal : Cert.ReferenceAttnOutWgradIdeal.Facts) (hKernelQkvDgrad : Cert.KernelQkvDgrad.Facts) (hKernelQkvDgradIdeal : Cert.KernelQkvDgradIdeal.Facts) (hReferenceQkvDgradIdeal : Cert.ReferenceQkvDgradIdeal.Facts) (hKernelQkvWgrad : Cert.KernelQkvWgrad.Facts) (hKernelQkvWgradIdeal : Cert.KernelQkvWgradIdeal.Facts) (hReferenceQkvWgradIdeal : Cert.ReferenceQkvWgradIdeal.Facts) (hKernelGlaOutDgrad : Cert.KernelGlaOutDgrad.Facts) (hKernelGlaOutDgradIdeal : Cert.KernelGlaOutDgradIdeal.Facts) (hReferenceGlaOutDgradIdeal : Cert.ReferenceGlaOutDgradIdeal.Facts) (hKernelGlaOutWgrad : Cert.KernelGlaOutWgrad.Facts) (hKernelGlaOutWgradIdeal : Cert.KernelGlaOutWgradIdeal.Facts) (hReferenceGlaOutWgradIdeal : Cert.ReferenceGlaOutWgradIdeal.Facts) (hKernelGlaGateDgrad : Cert.KernelGlaGateDgrad.Facts) (hKernelGlaGateDgradIdeal : Cert.KernelGlaGateDgradIdeal.Facts) (hReferenceGlaGateDgradIdeal : Cert.ReferenceGlaGateDgradIdeal.Facts) (hKernelGlaGateWgrad : Cert.KernelGlaGateWgrad.Facts) (hKernelGlaGateWgradIdeal : Cert.KernelGlaGateWgradIdeal.Facts) (hReferenceGlaGateWgradIdeal : Cert.ReferenceGlaGateWgradIdeal.Facts) (hKernelGlaInDgrad : Cert.KernelGlaInDgrad.Facts) (hKernelGlaInDgradIdeal : Cert.KernelGlaInDgradIdeal.Facts) (hReferenceGlaInDgradIdeal : Cert.ReferenceGlaInDgradIdeal.Facts) (hKernelGlaInWgrad : Cert.KernelGlaInWgrad.Facts) (hKernelGlaInWgradIdeal : Cert.KernelGlaInWgradIdeal.Facts) (hReferenceGlaInWgradIdeal : Cert.ReferenceGlaInWgradIdeal.Facts) (hKernelUpVal : Cert.KernelUpVal.Facts) (hKernelUpValIdeal : Cert.KernelUpValIdeal.Facts) (hReferenceUpValIdeal : Cert.ReferenceUpValIdeal.Facts) (hKernelUpGate : Cert.KernelUpGate.Facts) (hKernelUpGateIdeal : Cert.KernelUpGateIdeal.Facts) (hReferenceUpGateIdeal : Cert.ReferenceUpGateIdeal.Facts) (hKernelDown : Cert.KernelDown.Facts) (hKernelDownIdeal : Cert.KernelDownIdeal.Facts) (hReferenceDownIdeal : Cert.ReferenceDownIdeal.Facts) (hKernelQkvProj : Cert.KernelQkvProj.Facts) (hKernelQkvProjIdeal : Cert.KernelQkvProjIdeal.Facts) (hReferenceQkvProjIdeal : Cert.ReferenceQkvProjIdeal.Facts) (hKernelAttnOutProj : Cert.KernelAttnOutProj.Facts) (hKernelAttnOutProjIdeal : Cert.KernelAttnOutProjIdeal.Facts) (hReferenceAttnOutProjIdeal : Cert.ReferenceAttnOutProjIdeal.Facts) (hKernelGlaInProj : Cert.KernelGlaInProj.Facts) (hKernelGlaInProjIdeal : Cert.KernelGlaInProjIdeal.Facts) (hReferenceGlaInProjIdeal : Cert.ReferenceGlaInProjIdeal.Facts) (hKernelGlaGateLogits : Cert.KernelGlaGateLogits.Facts) (hKernelGlaGateLogitsIdeal : Cert.KernelGlaGateLogitsIdeal.Facts) (hReferenceGlaGateLogitsIdeal : Cert.ReferenceGlaGateLogitsIdeal.Facts) (hKernelGlaOutProj : Cert.KernelGlaOutProj.Facts) (hKernelGlaOutProjIdeal : Cert.KernelGlaOutProjIdeal.Facts) (hReferenceGlaOutProjIdeal : Cert.ReferenceGlaOutProjIdeal.Facts) (hKernelConvActBwd : Cert.KernelConvActBwd.Facts) (hKernelConvActBwdIdeal : Cert.KernelConvActBwdIdeal.Facts) (hReferenceConvActBwdIdeal : Cert.ReferenceConvActBwdIdeal.Facts) (hKernelConvT : Cert.KernelConvT.Facts) (hKernelConvTIdeal : Cert.KernelConvTIdeal.Facts) (hReferenceConvTIdeal : Cert.ReferenceConvTIdeal.Facts) (hKernelNormBwd : Cert.KernelNormBwd.Facts) (hKernelNormBwdIdeal : Cert.KernelNormBwdIdeal.Facts) (hReferenceNormBwdIdeal : Cert.ReferenceNormBwdIdeal.Facts) (hKernelGlaGateBwd : Cert.KernelGlaGateBwd.Facts) (hKernelGlaGateBwdIdeal : Cert.KernelGlaGateBwdIdeal.Facts) (hReferenceGlaGateBwdIdeal : Cert.ReferenceGlaGateBwdIdeal.Facts) (hPre_qk_finite : Cert.Pre_qk_finite.Facts) (hPre_qk_real : Cert.Pre_qk_real.Facts) (hPre_conv_slope_finite : Cert.Pre_conv_slope_finite.Facts) (hPre_gate_slope_finite : Cert.Pre_gate_slope_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_KernelAttnFwd (hKernelAttnFwd := hKernelAttnFwd)
    ∧ quiescent_KernelAttnFwdIdeal (hKernelAttnFwdIdeal := hKernelAttnFwdIdeal)
    ∧ quiescent_KernelAttnFwdIdeal_pre_qk_real (hKernelAttnFwdIdeal := hKernelAttnFwdIdeal) (hPre_qk_real := hPre_qk_real)
    ∧ quiescent_ReferenceAttnFwdIdeal (hReferenceAttnFwdIdeal := hReferenceAttnFwdIdeal)
    ∧ quiescent_ReferenceAttnFwdIdeal_pre_qk_real (hReferenceAttnFwdIdeal := hReferenceAttnFwdIdeal) (hPre_qk_real := hPre_qk_real)
    ∧ quiescent_KernelDownDgrad (hKernelDownDgrad := hKernelDownDgrad)
    ∧ quiescent_KernelDownDgradIdeal (hKernelDownDgradIdeal := hKernelDownDgradIdeal)
    ∧ quiescent_ReferenceDownDgradIdeal (hReferenceDownDgradIdeal := hReferenceDownDgradIdeal)
    ∧ quiescent_KernelDownWgrad (hKernelDownWgrad := hKernelDownWgrad)
    ∧ quiescent_KernelDownWgradIdeal (hKernelDownWgradIdeal := hKernelDownWgradIdeal)
    ∧ quiescent_ReferenceDownWgradIdeal (hReferenceDownWgradIdeal := hReferenceDownWgradIdeal)
    ∧ quiescent_KernelUpDgradVal (hKernelUpDgradVal := hKernelUpDgradVal)
    ∧ quiescent_KernelUpDgradValIdeal (hKernelUpDgradValIdeal := hKernelUpDgradValIdeal)
    ∧ quiescent_ReferenceUpDgradValIdeal (hReferenceUpDgradValIdeal := hReferenceUpDgradValIdeal)
    ∧ quiescent_KernelUpDgradGate (hKernelUpDgradGate := hKernelUpDgradGate)
    ∧ quiescent_KernelUpDgradGateIdeal (hKernelUpDgradGateIdeal := hKernelUpDgradGateIdeal)
    ∧ quiescent_ReferenceUpDgradGateIdeal (hReferenceUpDgradGateIdeal := hReferenceUpDgradGateIdeal)
    ∧ quiescent_KernelUpWgradVal (hKernelUpWgradVal := hKernelUpWgradVal)
    ∧ quiescent_KernelUpWgradValIdeal (hKernelUpWgradValIdeal := hKernelUpWgradValIdeal)
    ∧ quiescent_ReferenceUpWgradValIdeal (hReferenceUpWgradValIdeal := hReferenceUpWgradValIdeal)
    ∧ quiescent_KernelUpWgradGate (hKernelUpWgradGate := hKernelUpWgradGate)
    ∧ quiescent_KernelUpWgradGateIdeal (hKernelUpWgradGateIdeal := hKernelUpWgradGateIdeal)
    ∧ quiescent_ReferenceUpWgradGateIdeal (hReferenceUpWgradGateIdeal := hReferenceUpWgradGateIdeal)
    ∧ quiescent_KernelAttnOutDgrad (hKernelAttnOutDgrad := hKernelAttnOutDgrad)
    ∧ quiescent_KernelAttnOutDgradIdeal (hKernelAttnOutDgradIdeal := hKernelAttnOutDgradIdeal)
    ∧ quiescent_ReferenceAttnOutDgradIdeal (hReferenceAttnOutDgradIdeal := hReferenceAttnOutDgradIdeal)
    ∧ quiescent_KernelAttnOutWgrad (hKernelAttnOutWgrad := hKernelAttnOutWgrad)
    ∧ quiescent_KernelAttnOutWgradIdeal (hKernelAttnOutWgradIdeal := hKernelAttnOutWgradIdeal)
    ∧ quiescent_ReferenceAttnOutWgradIdeal (hReferenceAttnOutWgradIdeal := hReferenceAttnOutWgradIdeal)
    ∧ quiescent_KernelQkvDgrad (hKernelQkvDgrad := hKernelQkvDgrad)
    ∧ quiescent_KernelQkvDgradIdeal (hKernelQkvDgradIdeal := hKernelQkvDgradIdeal)
    ∧ quiescent_ReferenceQkvDgradIdeal (hReferenceQkvDgradIdeal := hReferenceQkvDgradIdeal)
    ∧ quiescent_KernelQkvWgrad (hKernelQkvWgrad := hKernelQkvWgrad)
    ∧ quiescent_KernelQkvWgradIdeal (hKernelQkvWgradIdeal := hKernelQkvWgradIdeal)
    ∧ quiescent_ReferenceQkvWgradIdeal (hReferenceQkvWgradIdeal := hReferenceQkvWgradIdeal)
    ∧ quiescent_KernelGlaOutDgrad (hKernelGlaOutDgrad := hKernelGlaOutDgrad)
    ∧ quiescent_KernelGlaOutDgradIdeal (hKernelGlaOutDgradIdeal := hKernelGlaOutDgradIdeal)
    ∧ quiescent_ReferenceGlaOutDgradIdeal (hReferenceGlaOutDgradIdeal := hReferenceGlaOutDgradIdeal)
    ∧ quiescent_KernelGlaOutWgrad (hKernelGlaOutWgrad := hKernelGlaOutWgrad)
    ∧ quiescent_KernelGlaOutWgradIdeal (hKernelGlaOutWgradIdeal := hKernelGlaOutWgradIdeal)
    ∧ quiescent_ReferenceGlaOutWgradIdeal (hReferenceGlaOutWgradIdeal := hReferenceGlaOutWgradIdeal)
    ∧ quiescent_KernelGlaGateDgrad (hKernelGlaGateDgrad := hKernelGlaGateDgrad)
    ∧ quiescent_KernelGlaGateDgradIdeal (hKernelGlaGateDgradIdeal := hKernelGlaGateDgradIdeal)
    ∧ quiescent_ReferenceGlaGateDgradIdeal (hReferenceGlaGateDgradIdeal := hReferenceGlaGateDgradIdeal)
    ∧ quiescent_KernelGlaGateWgrad (hKernelGlaGateWgrad := hKernelGlaGateWgrad)
    ∧ quiescent_KernelGlaGateWgradIdeal (hKernelGlaGateWgradIdeal := hKernelGlaGateWgradIdeal)
    ∧ quiescent_ReferenceGlaGateWgradIdeal (hReferenceGlaGateWgradIdeal := hReferenceGlaGateWgradIdeal)
    ∧ quiescent_KernelGlaInDgrad (hKernelGlaInDgrad := hKernelGlaInDgrad)
    ∧ quiescent_KernelGlaInDgradIdeal (hKernelGlaInDgradIdeal := hKernelGlaInDgradIdeal)
    ∧ quiescent_ReferenceGlaInDgradIdeal (hReferenceGlaInDgradIdeal := hReferenceGlaInDgradIdeal)
    ∧ quiescent_KernelGlaInWgrad (hKernelGlaInWgrad := hKernelGlaInWgrad)
    ∧ quiescent_KernelGlaInWgradIdeal (hKernelGlaInWgradIdeal := hKernelGlaInWgradIdeal)
    ∧ quiescent_ReferenceGlaInWgradIdeal (hReferenceGlaInWgradIdeal := hReferenceGlaInWgradIdeal)
    ∧ quiescent_KernelUpVal (hKernelUpVal := hKernelUpVal)
    ∧ quiescent_KernelUpValIdeal (hKernelUpValIdeal := hKernelUpValIdeal)
    ∧ quiescent_ReferenceUpValIdeal (hReferenceUpValIdeal := hReferenceUpValIdeal)
    ∧ quiescent_KernelUpGate (hKernelUpGate := hKernelUpGate)
    ∧ quiescent_KernelUpGateIdeal (hKernelUpGateIdeal := hKernelUpGateIdeal)
    ∧ quiescent_ReferenceUpGateIdeal (hReferenceUpGateIdeal := hReferenceUpGateIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelQkvProj (hKernelQkvProj := hKernelQkvProj)
    ∧ quiescent_KernelQkvProjIdeal (hKernelQkvProjIdeal := hKernelQkvProjIdeal)
    ∧ quiescent_ReferenceQkvProjIdeal (hReferenceQkvProjIdeal := hReferenceQkvProjIdeal)
    ∧ quiescent_KernelAttnOutProj (hKernelAttnOutProj := hKernelAttnOutProj)
    ∧ quiescent_KernelAttnOutProjIdeal (hKernelAttnOutProjIdeal := hKernelAttnOutProjIdeal)
    ∧ quiescent_ReferenceAttnOutProjIdeal (hReferenceAttnOutProjIdeal := hReferenceAttnOutProjIdeal)
    ∧ quiescent_KernelGlaInProj (hKernelGlaInProj := hKernelGlaInProj)
    ∧ quiescent_KernelGlaInProjIdeal (hKernelGlaInProjIdeal := hKernelGlaInProjIdeal)
    ∧ quiescent_ReferenceGlaInProjIdeal (hReferenceGlaInProjIdeal := hReferenceGlaInProjIdeal)
    ∧ quiescent_KernelGlaGateLogits (hKernelGlaGateLogits := hKernelGlaGateLogits)
    ∧ quiescent_KernelGlaGateLogitsIdeal (hKernelGlaGateLogitsIdeal := hKernelGlaGateLogitsIdeal)
    ∧ quiescent_ReferenceGlaGateLogitsIdeal (hReferenceGlaGateLogitsIdeal := hReferenceGlaGateLogitsIdeal)
    ∧ quiescent_KernelGlaOutProj (hKernelGlaOutProj := hKernelGlaOutProj)
    ∧ quiescent_KernelGlaOutProjIdeal (hKernelGlaOutProjIdeal := hKernelGlaOutProjIdeal)
    ∧ quiescent_ReferenceGlaOutProjIdeal (hReferenceGlaOutProjIdeal := hReferenceGlaOutProjIdeal)
    ∧ quiescent_KernelConvActBwd (hKernelConvActBwd := hKernelConvActBwd)
    ∧ quiescent_KernelConvActBwdIdeal (hKernelConvActBwdIdeal := hKernelConvActBwdIdeal)
    ∧ quiescent_KernelConvActBwdIdeal_pre_conv_slope_finite (hKernelConvActBwdIdeal := hKernelConvActBwdIdeal) (hPre_conv_slope_finite := hPre_conv_slope_finite)
    ∧ quiescent_ReferenceConvActBwdIdeal (hReferenceConvActBwdIdeal := hReferenceConvActBwdIdeal)
    ∧ quiescent_ReferenceConvActBwdIdeal_pre_conv_slope_finite (hReferenceConvActBwdIdeal := hReferenceConvActBwdIdeal) (hPre_conv_slope_finite := hPre_conv_slope_finite)
    ∧ quiescent_KernelConvT (hKernelConvT := hKernelConvT)
    ∧ quiescent_KernelConvTIdeal (hKernelConvTIdeal := hKernelConvTIdeal)
    ∧ quiescent_ReferenceConvTIdeal (hReferenceConvTIdeal := hReferenceConvTIdeal)
    ∧ quiescent_KernelNormBwd (hKernelNormBwd := hKernelNormBwd)
    ∧ quiescent_KernelNormBwdIdeal (hKernelNormBwdIdeal := hKernelNormBwdIdeal)
    ∧ quiescent_ReferenceNormBwdIdeal (hReferenceNormBwdIdeal := hReferenceNormBwdIdeal)
    ∧ quiescent_KernelGlaGateBwd (hKernelGlaGateBwd := hKernelGlaGateBwd)
    ∧ quiescent_KernelGlaGateBwdIdeal (hKernelGlaGateBwdIdeal := hKernelGlaGateBwdIdeal)
    ∧ quiescent_KernelGlaGateBwdIdeal_pre_gate_slope_finite (hKernelGlaGateBwdIdeal := hKernelGlaGateBwdIdeal) (hPre_gate_slope_finite := hPre_gate_slope_finite)
    ∧ quiescent_ReferenceGlaGateBwdIdeal (hReferenceGlaGateBwdIdeal := hReferenceGlaGateBwdIdeal)
    ∧ quiescent_ReferenceGlaGateBwdIdeal_pre_gate_slope_finite (hReferenceGlaGateBwdIdeal := hReferenceGlaGateBwdIdeal) (hPre_gate_slope_finite := hPre_gate_slope_finite)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_KernelAttnFwd_KernelAttnFwdIdeal
    ∧ algebraic_KernelAttnFwdIdeal_ReferenceAttnFwdIdeal_pre_qk_real (hKernelAttnFwdIdeal := hKernelAttnFwdIdeal) (hReferenceAttnFwdIdeal := hReferenceAttnFwdIdeal) (hPre_qk_real := hPre_qk_real)
    ∧ preserves_KernelDownDgrad_KernelDownDgradIdeal
    ∧ algebraic_KernelDownDgradIdeal_ReferenceDownDgradIdeal (hKernelDownDgradIdeal := hKernelDownDgradIdeal) (hReferenceDownDgradIdeal := hReferenceDownDgradIdeal)
    ∧ preserves_KernelDownWgrad_KernelDownWgradIdeal
    ∧ algebraic_KernelDownWgradIdeal_ReferenceDownWgradIdeal (hKernelDownWgradIdeal := hKernelDownWgradIdeal) (hReferenceDownWgradIdeal := hReferenceDownWgradIdeal)
    ∧ preserves_KernelUpDgradVal_KernelUpDgradValIdeal
    ∧ algebraic_KernelUpDgradValIdeal_ReferenceUpDgradValIdeal (hKernelUpDgradValIdeal := hKernelUpDgradValIdeal) (hReferenceUpDgradValIdeal := hReferenceUpDgradValIdeal)
    ∧ preserves_KernelUpDgradGate_KernelUpDgradGateIdeal
    ∧ algebraic_KernelUpDgradGateIdeal_ReferenceUpDgradGateIdeal (hKernelUpDgradGateIdeal := hKernelUpDgradGateIdeal) (hReferenceUpDgradGateIdeal := hReferenceUpDgradGateIdeal)
    ∧ preserves_KernelUpWgradVal_KernelUpWgradValIdeal
    ∧ algebraic_KernelUpWgradValIdeal_ReferenceUpWgradValIdeal (hKernelUpWgradValIdeal := hKernelUpWgradValIdeal) (hReferenceUpWgradValIdeal := hReferenceUpWgradValIdeal)
    ∧ preserves_KernelUpWgradGate_KernelUpWgradGateIdeal
    ∧ algebraic_KernelUpWgradGateIdeal_ReferenceUpWgradGateIdeal (hKernelUpWgradGateIdeal := hKernelUpWgradGateIdeal) (hReferenceUpWgradGateIdeal := hReferenceUpWgradGateIdeal)
    ∧ preserves_KernelAttnOutDgrad_KernelAttnOutDgradIdeal
    ∧ algebraic_KernelAttnOutDgradIdeal_ReferenceAttnOutDgradIdeal (hKernelAttnOutDgradIdeal := hKernelAttnOutDgradIdeal) (hReferenceAttnOutDgradIdeal := hReferenceAttnOutDgradIdeal)
    ∧ preserves_KernelAttnOutWgrad_KernelAttnOutWgradIdeal
    ∧ algebraic_KernelAttnOutWgradIdeal_ReferenceAttnOutWgradIdeal (hKernelAttnOutWgradIdeal := hKernelAttnOutWgradIdeal) (hReferenceAttnOutWgradIdeal := hReferenceAttnOutWgradIdeal)
    ∧ preserves_KernelQkvDgrad_KernelQkvDgradIdeal
    ∧ algebraic_KernelQkvDgradIdeal_ReferenceQkvDgradIdeal (hKernelQkvDgradIdeal := hKernelQkvDgradIdeal) (hReferenceQkvDgradIdeal := hReferenceQkvDgradIdeal)
    ∧ preserves_KernelQkvWgrad_KernelQkvWgradIdeal
    ∧ algebraic_KernelQkvWgradIdeal_ReferenceQkvWgradIdeal (hKernelQkvWgradIdeal := hKernelQkvWgradIdeal) (hReferenceQkvWgradIdeal := hReferenceQkvWgradIdeal)
    ∧ preserves_KernelGlaOutDgrad_KernelGlaOutDgradIdeal
    ∧ algebraic_KernelGlaOutDgradIdeal_ReferenceGlaOutDgradIdeal (hKernelGlaOutDgradIdeal := hKernelGlaOutDgradIdeal) (hReferenceGlaOutDgradIdeal := hReferenceGlaOutDgradIdeal)
    ∧ preserves_KernelGlaOutWgrad_KernelGlaOutWgradIdeal
    ∧ algebraic_KernelGlaOutWgradIdeal_ReferenceGlaOutWgradIdeal (hKernelGlaOutWgradIdeal := hKernelGlaOutWgradIdeal) (hReferenceGlaOutWgradIdeal := hReferenceGlaOutWgradIdeal)
    ∧ preserves_KernelGlaGateDgrad_KernelGlaGateDgradIdeal
    ∧ algebraic_KernelGlaGateDgradIdeal_ReferenceGlaGateDgradIdeal (hKernelGlaGateDgradIdeal := hKernelGlaGateDgradIdeal) (hReferenceGlaGateDgradIdeal := hReferenceGlaGateDgradIdeal)
    ∧ preserves_KernelGlaGateWgrad_KernelGlaGateWgradIdeal
    ∧ algebraic_KernelGlaGateWgradIdeal_ReferenceGlaGateWgradIdeal (hKernelGlaGateWgradIdeal := hKernelGlaGateWgradIdeal) (hReferenceGlaGateWgradIdeal := hReferenceGlaGateWgradIdeal)
    ∧ preserves_KernelGlaInDgrad_KernelGlaInDgradIdeal
    ∧ algebraic_KernelGlaInDgradIdeal_ReferenceGlaInDgradIdeal (hKernelGlaInDgradIdeal := hKernelGlaInDgradIdeal) (hReferenceGlaInDgradIdeal := hReferenceGlaInDgradIdeal)
    ∧ preserves_KernelGlaInWgrad_KernelGlaInWgradIdeal
    ∧ algebraic_KernelGlaInWgradIdeal_ReferenceGlaInWgradIdeal (hKernelGlaInWgradIdeal := hKernelGlaInWgradIdeal) (hReferenceGlaInWgradIdeal := hReferenceGlaInWgradIdeal)
    ∧ preserves_KernelUpVal_KernelUpValIdeal
    ∧ algebraic_KernelUpValIdeal_ReferenceUpValIdeal (hKernelUpValIdeal := hKernelUpValIdeal) (hReferenceUpValIdeal := hReferenceUpValIdeal)
    ∧ preserves_KernelUpGate_KernelUpGateIdeal
    ∧ algebraic_KernelUpGateIdeal_ReferenceUpGateIdeal (hKernelUpGateIdeal := hKernelUpGateIdeal) (hReferenceUpGateIdeal := hReferenceUpGateIdeal)
    ∧ preserves_KernelDown_KernelDownIdeal
    ∧ algebraic_KernelDownIdeal_ReferenceDownIdeal (hKernelDownIdeal := hKernelDownIdeal) (hReferenceDownIdeal := hReferenceDownIdeal)
    ∧ preserves_KernelQkvProj_KernelQkvProjIdeal
    ∧ algebraic_KernelQkvProjIdeal_ReferenceQkvProjIdeal (hKernelQkvProjIdeal := hKernelQkvProjIdeal) (hReferenceQkvProjIdeal := hReferenceQkvProjIdeal)
    ∧ preserves_KernelAttnOutProj_KernelAttnOutProjIdeal
    ∧ algebraic_KernelAttnOutProjIdeal_ReferenceAttnOutProjIdeal (hKernelAttnOutProjIdeal := hKernelAttnOutProjIdeal) (hReferenceAttnOutProjIdeal := hReferenceAttnOutProjIdeal)
    ∧ preserves_KernelGlaInProj_KernelGlaInProjIdeal
    ∧ algebraic_KernelGlaInProjIdeal_ReferenceGlaInProjIdeal (hKernelGlaInProjIdeal := hKernelGlaInProjIdeal) (hReferenceGlaInProjIdeal := hReferenceGlaInProjIdeal)
    ∧ preserves_KernelGlaGateLogits_KernelGlaGateLogitsIdeal
    ∧ algebraic_KernelGlaGateLogitsIdeal_ReferenceGlaGateLogitsIdeal (hKernelGlaGateLogitsIdeal := hKernelGlaGateLogitsIdeal) (hReferenceGlaGateLogitsIdeal := hReferenceGlaGateLogitsIdeal)
    ∧ preserves_KernelGlaOutProj_KernelGlaOutProjIdeal
    ∧ algebraic_KernelGlaOutProjIdeal_ReferenceGlaOutProjIdeal (hKernelGlaOutProjIdeal := hKernelGlaOutProjIdeal) (hReferenceGlaOutProjIdeal := hReferenceGlaOutProjIdeal)
    ∧ preserves_KernelConvActBwd_KernelConvActBwdIdeal
    ∧ algebraic_KernelConvActBwdIdeal_ReferenceConvActBwdIdeal_pre_conv_slope_finite (hKernelConvActBwdIdeal := hKernelConvActBwdIdeal) (hReferenceConvActBwdIdeal := hReferenceConvActBwdIdeal) (hPre_conv_slope_finite := hPre_conv_slope_finite)
    ∧ preserves_KernelConvT_KernelConvTIdeal
    ∧ algebraic_KernelConvTIdeal_ReferenceConvTIdeal (hKernelConvTIdeal := hKernelConvTIdeal) (hReferenceConvTIdeal := hReferenceConvTIdeal)
    ∧ preserves_KernelNormBwd_KernelNormBwdIdeal
    ∧ algebraic_KernelNormBwdIdeal_ReferenceNormBwdIdeal (hKernelNormBwdIdeal := hKernelNormBwdIdeal) (hReferenceNormBwdIdeal := hReferenceNormBwdIdeal)
    ∧ preserves_KernelGlaGateBwd_KernelGlaGateBwdIdeal
    ∧ algebraic_KernelGlaGateBwdIdeal_ReferenceGlaGateBwdIdeal_pre_gate_slope_finite (hKernelGlaGateBwdIdeal := hKernelGlaGateBwdIdeal) (hReferenceGlaGateBwdIdeal := hReferenceGlaGateBwdIdeal) (hPre_gate_slope_finite := hPre_gate_slope_finite)
-- ==== Pre_conv_slope_finite.lean ====
abbrev S4096x2816 : Shape := ⟨2, ![4096, 2816]⟩
abbrev S3x2816 : Shape := ⟨2, ![3, 2816]⟩
abbrev S1x2816 : Shape := ⟨2, ![1, 2816]⟩
abbrev S_ : Shape := ⟨0, ![]⟩
abbrev S4095x2816 : Shape := ⟨2, ![4095, 2816]⟩
abbrev S2816 : Shape := ⟨1, ![2816]⟩

class Facts : Prop where
  bcast_S_S1x2816 : S_.BroadcastsInDim S1x2816 (![] : Fin 0 → Fin S1x2816.rank)
  slices_S4096x2816_S4095x2816_0_0 : S4096x2816.Slices ![0, 0] S4095x2816
  concatenates_S1x2816_S4095x2816_S4096x2816_d0 : Shape.Concatenates [S1x2816, S4095x2816] S4096x2816 0
  slices_S4096x2816_S4095x2816_1_0 : S4096x2816.Slices ![1, 0] S4095x2816
  concatenates_S4095x2816_S1x2816_S4096x2816_d0 : Shape.Concatenates [S4095x2816, S1x2816] S4096x2816 0
  slices_S3x2816_S1x2816_0_0 : S3x2816.Slices ![0, 0] S1x2816
  shapeCasts_S1x2816_S2816 : S1x2816.ShapeCasts S2816
  bcast_S2816_S1x2816_1 : S2816.BroadcastsInDim S1x2816 (![1] : Fin 1 → Fin S1x2816.rank)
  bcast_S1x2816_S4096x2816_0_1 : S1x2816.BroadcastsInDim S4096x2816 (![0, 1] : Fin 2 → Fin S4096x2816.rank)
  slices_S3x2816_S1x2816_1_0 : S3x2816.Slices ![1, 0] S1x2816
  slices_S3x2816_S1x2816_2_0 : S3x2816.Slices ![2, 0] S1x2816
  bcast_S_S4096x2816 : S_.BroadcastsInDim S4096x2816 (![] : Fin 0 → Fin S4096x2816.rank)

variable [Facts]

def fn_part1 {F : FTy → Type} [FloatOps F] (main_arg6 : FVec F S4096x2816 .f32) (main_v21 : FVec F S4096x2816 .f32) (main_v22 : FVec F S4096x2816 .f32) : IVec S4096x2816 1 :=
  let main_v23 : FVec F S4096x2816 .f32 := addf main_v21 main_v22
  let main_v24 : FVec F S4096x2816 .f32 := mulf main_arg6 main_v23
  let main_v25 : FVec F S4096x2816 .f32 := Host.absf main_v24
  let main_cst_0 : FVec F S_ .f32 := constant S_ .f32 0x7F800000#32
  let main_v26 : FVec F S4096x2816 .f32 := broadcastInDim S4096x2816 ![] bcast_S_S4096x2816 main_cst_0
  let main_v27 : IVec S4096x2816 1 := cmpf .olt main_v25 main_v26
  main_v27

def fn {F : FTy → Type} [FloatOps F] (main_arg0 : FVec F S4096x2816 .f32) (main_arg1 : FVec F S4096x2816 .f32) (main_arg2 : FVec F S3x2816 .f32) (main_arg3 : FVec F S3x2816 .f32) (main_arg4 : FVec F S1x2816 .f32) (main_arg5 : FVec F S1x2816 .f32) (main_arg6 : FVec F S4096x2816 .f32) : IVec S4096x2816 1 :=
  let main_cst : FVec F S_ .f32 := constant S_ .f32 0x00000000#32
  let main_v0 : FVec F S1x2816 .f32 := broadcastInDim S1x2816 ![] bcast_S_S1x2816 main_cst
  let main_v1 : FVec F S4095x2816 .f32 := (extractStridedSlice S4095x2816 ![0, 0] · slices_S4096x2816_S4095x2816_0_0) main_arg0
  let main_v2 : FVec F S4096x2816 .f32 := (fun a b => concatenate S4096x2816 0 [⟨S1x2816, a⟩, ⟨S4095x2816, b⟩] concatenates_S1x2816_S4095x2816_S4096x2816_d0) main_v0 main_v1
  let main_v3 : FVec F S4095x2816 .f32 := (extractStridedSlice S4095x2816 ![1, 0] · slices_S4096x2816_S4095x2816_1_0) main_arg0
  let main_v4 : FVec F S4096x2816 .f32 := (fun a b => concatenate S4096x2816 0 [⟨S4095x2816, a⟩, ⟨S1x2816, b⟩] concatenates_S4095x2816_S1x2816_S4096x2816_d0) main_v3 main_v0
  let main_v5 : FVec F S1x2816 .f32 := (extractStridedSlice S1x2816 ![0, 0] · slices_S3x2816_S1x2816_0_0) main_arg2
  let main_v6 : FVec F S2816 .f32 := shapeCast S2816 main_v5 shapeCasts_S1x2816_S2816
  let main_v7 : FVec F S1x2816 .f32 := broadcastInDim S1x2816 ![1] bcast_S2816_S1x2816_1 main_v6
  let main_v8 : FVec F S4096x2816 .f32 := broadcastInDim S4096x2816 ![0, 1] bcast_S1x2816_S4096x2816_0_1 main_v7
  let main_v9 : FVec F S4096x2816 .f32 := mulf main_v8 main_v2
  let main_v10 : FVec F S1x2816 .f32 := (extractStridedSlice S1x2816 ![1, 0] · slices_S3x2816_S1x2816_1_0) main_arg2
  let main_v11 : FVec F S2816 .f32 := shapeCast S2816 main_v10 shapeCasts_S1x2816_S2816
  let main_v12 : FVec F S1x2816 .f32 := broadcastInDim S1x2816 ![1] bcast_S2816_S1x2816_1 main_v11
  let main_v13 : FVec F S4096x2816 .f32 := broadcastInDim S4096x2816 ![0, 1] bcast_S1x2816_S4096x2816_0_1 main_v12
  let main_v14 : FVec F S4096x2816 .f32 := mulf main_v13 main_arg0
  let main_v15 : FVec F S4096x2816 .f32 := addf main_v9 main_v14
  let main_v16 : FVec F S1x2816 .f32 := (extractStridedSlice S1x2816 ![2, 0] · slices_S3x2816_S1x2816_2_0) main_arg2
  let main_v17 : FVec F S2816 .f32 := shapeCast S2816 main_v16 shapeCasts_S1x2816_S2816
  let main_v18 : FVec F S1x2816 .f32 := broadcastInDim S1x2816 ![1] bcast_S2816_S1x2816_1 main_v17
  let main_v19 : FVec F S4096x2816 .f32 := broadcastInDim S4096x2816 ![0, 1] bcast_S1x2816_S4096x2816_0_1 main_v18
  let main_v20 : FVec F S4096x2816 .f32 := mulf main_v19 main_v4
  let main_v21 : FVec F S4096x2816 .f32 := addf main_v15 main_v20
  let main_v22 : FVec F S4096x2816 .f32 := broadcastInDim S4096x2816 ![0, 1] bcast_S1x2816_S4096x2816_0_1 main_arg4
  fn_part1 (F := F) main_arg6 main_v21 main_v22
-- ==== Pre_gate_slope_finite.lean ====
abbrev S4096x1024 : Shape := ⟨2, ![4096, 1024]⟩
abbrev S4096x3200 : Shape := ⟨2, ![4096, 3200]⟩
abbrev S1x256 : Shape := ⟨2, ![1, 256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩

class Facts : Prop where
  shapeCasts_S4096x1024_S4096x4x256 : S4096x1024.ShapeCasts S4096x4x256
  reducesTo_S4096x4x256_S4096x4_d2 : S4096x4x256.ReducesTo [2] S4096x4
  h_S_ : 0 < S_.numel
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  bcast_S4096x4x1_S4096x4x256_0_1_2 : S4096x4x1.BroadcastsInDim S4096x4x256 (![0, 1, 2] : Fin 3 → Fin S4096x4x256.rank)
  bcast_S1x256_S1x1x256_1_2 : S1x256.BroadcastsInDim S1x1x256 (![1, 2] : Fin 2 → Fin S1x1x256.rank)
  bcast_S1x1x256_S4096x4x256_0_1_2 : S1x1x256.BroadcastsInDim S4096x4x256 (![0, 1, 2] : Fin 3 → Fin S4096x4x256.rank)
  bcast_S_S4096x4x256 : S_.BroadcastsInDim S4096x4x256 (![] : Fin 0 → Fin S4096x4x256.rank)

variable [Facts]

def fn {F : FTy → Type} [FloatOps F] (main_arg0 : FVec F S4096x1024 .f32) (main_arg1 : FVec F S4096x1024 .f32) (main_arg2 : FVec F S4096x3200 .f32) (main_arg3 : FVec F S1x256 .f32) (main_arg4 : FVec F S4096x1024 .f32) : IVec S4096x4x256 1 :=
  let main_v0 : FVec F S4096x4x256 .f32 := shapeCast S4096x4x256 main_arg4 shapeCasts_S4096x1024_S4096x4x256
  let main_v1 : FVec F S4096x1024 .f32 := addf main_arg0 main_arg1
  let main_v2 : FVec F S4096x4x256 .f32 := shapeCast S4096x4x256 main_v1 shapeCasts_S4096x1024_S4096x4x256
  let main_v3 : FVec F S4096x4x256 .f32 := mulf main_v2 main_v2
  let main_cst : FVec F S_ .f32 := constant S_ .f32 0x00000000#32
  let main_v4 : FVec F S4096x4 .f32 := (fun x v => Host.reduceAdd x v reducesTo_S4096x4x256_S4096x4_d2 h_S_) main_v3 main_cst
  let main_v5 : FVec F S4096x4x1 .f32 := broadcastInDim S4096x4x1 ![0, 1] bcast_S4096x4_S4096x4x1_0_1 main_v4
  let main_cst_0 : FVec F S_ .f32 := constant S_ .f32 0x43800000#32
  let main_v6 : FVec F S4096x4x1 .f32 := broadcastInDim S4096x4x1 ![] bcast_S_S4096x4x1 main_cst_0
  let main_v7 : FVec F S4096x4x1 .f32 := Host.divf main_v5 main_v6
  let main_cst_1 : FVec F S_ .f32 := constant S_ .f32 0x358637BD#32
  let main_v8 : FVec F S4096x4x1 .f32 := broadcastInDim S4096x4x1 ![] bcast_S_S4096x4x1 main_cst_1
  let main_v9 : FVec F S4096x4x1 .f32 := addf main_v7 main_v8
  let main_v10 : FVec F S4096x4x1 .f32 := Host.rsqrt main_v9
  let main_v11 : FVec F S4096x4x256 .f32 := broadcastInDim S4096x4x256 ![0, 1, 2] bcast_S4096x4x1_S4096x4x256_0_1_2 main_v10
  let main_v12 : FVec F S4096x4x256 .f32 := mulf main_v2 main_v11
  let main_v13 : FVec F S1x1x256 .f32 := broadcastInDim S1x1x256 ![1, 2] bcast_S1x256_S1x1x256_1_2 main_arg3
  let main_v14 : FVec F S4096x4x256 .f32 := broadcastInDim S4096x4x256 ![0, 1, 2] bcast_S1x1x256_S4096x4x256_0_1_2 main_v13
  let main_v15 : FVec F S4096x4x256 .f32 := mulf main_v12 main_v14
  let main_v16 : FVec F S4096x4x256 .f32 := mulf main_v0 main_v15
  let main_v17 : FVec F S4096x4x256 .f32 := Host.absf main_v16
  let main_cst_2 : FVec F S_ .f32 := constant S_ .f32 0x7F800000#32
  let main_v18 : FVec F S4096x4x256 .f32 := broadcastInDim S4096x4x256 ![] bcast_S_S4096x4x256 main_cst_2
  let main_v19 : IVec S4096x4x256 1 := cmpf .olt main_v17 main_v18
  main_v19
-- ==== Pre_qk_finite.lean ====
abbrev S4096x1536 : Shape := ⟨2, ![4096, 1536]⟩
abbrev S4096x1024 : Shape := ⟨2, ![4096, 1024]⟩
abbrev S4096x1280 : Shape := ⟨2, ![4096, 1280]⟩
abbrev S_ : Shape := ⟨0, ![]⟩

class Facts : Prop where
  slices_S4096x1536_S4096x1280_0_0 : S4096x1536.Slices ![0, 0] S4096x1280
  bitsLt_bf16_f32 : FTy.bits .bf16 < FTy.bits .f32
  bcast_S_S4096x1280 : S_.BroadcastsInDim S4096x1280 (![] : Fin 0 → Fin S4096x1280.rank)

variable [Facts]

def fn {F : FTy → Type} [FloatOps F] (main_arg0 : FVec F S4096x1536 .bf16) (main_arg1 : FVec F S4096x1024 .bf16) : IVec S4096x1280 1 :=
  let main_v0 : FVec F S4096x1280 .bf16 := (extractStridedSlice S4096x1280 ![0, 0] · slices_S4096x1536_S4096x1280_0_0) main_arg0
  let main_v1 : FVec F S4096x1280 .f32 := (extf .f32 · bitsLt_bf16_f32) main_v0
  let main_v2 : FVec F S4096x1280 .f32 := Host.absf main_v1
  let main_cst : FVec F S_ .f32 := constant S_ .f32 0x7F800000#32
  let main_v3 : FVec F S4096x1280 .f32 := broadcastInDim S4096x1280 ![] bcast_S_S4096x1280 main_cst
  let main_v4 : IVec S4096x1280 1 := cmpf .olt main_v2 main_v3
  main_v4
-- ==== Pre_qk_real.lean ====
abbrev S4096x1536 : Shape := ⟨2, ![4096, 1536]⟩
abbrev S4096x1280 : Shape := ⟨2, ![4096, 1280]⟩
abbrev S_ : Shape := ⟨0, ![]⟩

class Facts : Prop where
  slices_S4096x1536_S4096x1280_0_0 : S4096x1536.Slices ![0, 0] S4096x1280
  bitsLt_bf16_f32 : FTy.bits .bf16 < FTy.bits .f32
  bcast_S_S4096x1280 : S_.BroadcastsInDim S4096x1280 (![] : Fin 0 → Fin S4096x1280.rank)

variable [Facts]

def fn {F : FTy → Type} [FloatOps F] (main_arg0 : FVec F S4096x1536 .bf16) : IVec S4096x1280 1 :=
  let main_v0 : FVec F S4096x1280 .bf16 := (extractStridedSlice S4096x1280 ![0, 0] · slices_S4096x1536_S4096x1280_0_0) main_arg0
  let main_v1 : FVec F S4096x1280 .f32 := (extf .f32 · bitsLt_bf16_f32) main_v0
  let main_v2 : FVec F S4096x1280 .f32 := Host.absf main_v1
  let main_cst : FVec F S_ .f32 := constant S_ .f32 0x7F800000#32
  let main_v3 : FVec F S4096x1280 .f32 := broadcastInDim S4096x1280 ![] bcast_S_S4096x1280 main_cst
  let main_v4 : IVec S4096x1280 1 := cmpf .olt main_v2 main_v3
  main_v4
-- ==== Kernel.lean ====
abbrev S4096x1536 : Shape := ⟨2, ![4096, 1536]⟩
abbrev S4096x1024 : Shape := ⟨2, ![4096, 1024]⟩
abbrev S4096x256 : Shape := ⟨2, ![4096, 256]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 22
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1024, .f32⟩
  | .hbm, ⟨3, _⟩ => ⟨S4096x256, .f32⟩
  | .hbm, ⟨4, _⟩ => ⟨S4096x256, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S256x128, .f32⟩
  | .local _ .vmem, ⟨13, _⟩ => ⟨S256x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S256x4096, .f32⟩
  | .local _ .vmem, ⟨19, _⟩ => ⟨S256x4096, .f32⟩
  | .local _ .vmem, ⟨20, _⟩ => ⟨S256x4096, .f32⟩
  | .local _ .vmem, ⟨21, _⟩ => ⟨S256x4096, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 16], ![false, false, false]⟩

def k0_cond3 (i : grid0.Coords) : BitVec 1 :=
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond4 (i : grid0.Coords) : BitVec 1 :=
  let arg2 : BitVec 32 := BitVec.ofNat 32 (i 2).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg2 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_27 : BitVec 32 := 0#32
  let v41 : BitVec 1 := Scalar.cmpi .eq arg1 c0_i32_27
  let v42 : BitVec 32 := Scalar.extui v41
  let c0_i32_28 : BitVec 32 := 0#32
  let v43 : BitVec 1 := Scalar.cmpi .ne v42 c0_i32_28
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c4_i32 : BitVec 32 := 4#32
  let v2 : BitVec 32 := Scalar.muli arg0 c4_i32
  let v3 : BitVec 32 := Scalar.addi v2 arg1
  let c0_i32 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c4_i32 : BitVec 32 := 4#32
  let v2 : BitVec 32 := Scalar.muli arg0 c4_i32
  let v3 : BitVec 32 := Scalar.addi v2 arg1
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S4096x1536 : Shape := ⟨2, ![4096, 1536]⟩
abbrev S4096x1024 : Shape := ⟨2, ![4096, 1024]⟩
abbrev S4096x256 : Shape := ⟨2, ![4096, 256]⟩
abbrev S4096x2x4x128 : Shape := ⟨4, ![4096, 2, 4, 128]⟩
abbrev S2x4x4096x128 : Shape := ⟨4, ![2, 4, 4096, 128]⟩
abbrev S4096x2x128 : Shape := ⟨3, ![4096, 2, 128]⟩
abbrev S2x4096x128 : Shape := ⟨3, ![2, 4096, 128]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4096 : Shape := ⟨3, ![2, 128, 4096]⟩

abbrev nBuf : Space → Nat
  | .hbm => 88
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S4096x1024, .f32⟩
  | .hbm, ⟨4, _⟩ => ⟨S4096x256, .f32⟩
  | .hbm, ⟨5, _⟩ => ⟨S4096x256, .f32⟩
  | .hbm, ⟨6, _⟩ => ⟨S4096x2x4x128, .f32⟩
  | .hbm, ⟨7, _⟩ => ⟨S2x4x4096x128, .f32⟩
  | .hbm, ⟨8, _⟩ => ⟨S4096x2x128, .f32⟩
  | .hbm, ⟨9, _⟩ => ⟨S2x4096x128, .f32⟩
  | .hbm, ⟨10, _⟩ => ⟨S4096x2x128, .f32⟩
  | .hbm, ⟨11, _⟩ => ⟨S2x4096x128, .f32⟩
  | .hbm, ⟨12, _⟩ => ⟨S2x4x4096x4096, .f32⟩
  | .hbm, ⟨13, _⟩ => ⟨S_, .f32⟩
  | .hbm, ⟨14, _⟩ => ⟨S2x4x4096x4096, .f32⟩
  | .hbm, ⟨15, _⟩ => ⟨S2x4x4096x4096, .f32⟩
  | .hbm, ⟨16, _⟩ => ⟨S_, .f32⟩
  | .hbm, ⟨17, _⟩ => ⟨S2x4x4096, .f32⟩
  | .hbm, ⟨18, _⟩ => ⟨S2x4x4096x1, .f32⟩
  | .hbm, ⟨19, _⟩ => ⟨S2x4x4096x4096, .f32⟩
  | .hbm, ⟨20, _⟩ => ⟨S2x4x4096x4096, .i1⟩
  | .hbm, ⟨21, _⟩ => ⟨S2x4x4096x4096, .f32⟩
  | .hbm, ⟨22, _⟩ => ⟨S_, .f32⟩
  | .hbm, ⟨23, _⟩ => ⟨S2x4x4096, .f32⟩
  | .hbm, ⟨24, _⟩ => ⟨S_, .f32⟩
  | .hbm, ⟨25, _⟩ => ⟨S2x4x4096, .f32⟩
  | .hbm, ⟨26, _⟩ => ⟨S2x4x4096, .f32⟩
  | .hbm, ⟨27, _⟩ => ⟨S_, .f32⟩
  | .hbm, ⟨28, _⟩ => ⟨S2x4x4096, .f32⟩
  | .hbm, ⟨29, _⟩ => ⟨S2x4x4096, .i1⟩
  | .hbm, ⟨30, _⟩ => ⟨S_, .f32⟩
  | .hbm, ⟨31, _⟩ => ⟨S2x4x4096, .f32⟩
  | .hbm, ⟨32, _⟩ => ⟨S2x4x4096, .i1⟩
  | .hbm, ⟨33, _⟩ => ⟨S_, .f32⟩
  | .hbm, ⟨34, _⟩ => ⟨S2x4x4096, .f32⟩
  | .hbm, ⟨35, _⟩ => ⟨S_, .f32⟩
  | .hbm, ⟨36, _⟩ => ⟨S2x4x4096, .f32⟩
  | .hbm, ⟨37, _⟩ => ⟨S_, .f32⟩
  | .hbm, ⟨38, _⟩ => ⟨S2x4x4096, .f32⟩
  | .hbm, ⟨39, _⟩ => ⟨S2x4x4096, .f32⟩
  | .hbm, ⟨40, _⟩ => ⟨S2x4x4096, .f32⟩
  | .hbm, ⟨41, _⟩ => ⟨S2x4x4096x1, .f32⟩
  | .hbm, ⟨42, _⟩ => ⟨S2x4x4096x4096, .f32⟩
  | .hbm, ⟨43, _⟩ => ⟨S2x4x4096x4096, .f32⟩
  | .hbm, ⟨44, _⟩ => ⟨S2x4x4096x4096, .f32⟩
  | .hbm, ⟨45, _⟩ => ⟨S_, .f32⟩
  | .hbm, ⟨46, _⟩ => ⟨S2x4x4096, .f32⟩
  | .hbm, ⟨47, _⟩ => ⟨S2x4x4096x1, .f32⟩
  | .hbm, ⟨48, _⟩ => ⟨S2x4x4096x4096, .f32⟩
  | .hbm, ⟨49, _⟩ => ⟨S2x4x4096x4096, .f32⟩
  | .hbm, ⟨50, _⟩ => ⟨S2x4x4096x1, .f32⟩
  | .hbm, ⟨51, _⟩ => ⟨S_, .f32⟩
  | .hbm, ⟨52, _⟩ => ⟨S2x4x4096x1, .f32⟩
  | .hbm, ⟨53, _⟩ => ⟨S2x4x4096x1, .f32⟩
  | .hbm, ⟨54, _⟩ => ⟨S2x4x4096x128, .f32⟩
  | .hbm, ⟨55, _⟩ => ⟨S4096x2x4x128, .f32⟩
  | .hbm, ⟨56, _⟩ => ⟨S4096x1024, .f32⟩
  | .hbm, ⟨57, _⟩ => ⟨S4096x1024, .f32⟩
  | .hbm, ⟨58, _⟩ => ⟨S4096x2x4x128, .f32⟩
  | .hbm, ⟨59, _⟩ => ⟨S2x4x4096x128, .f32⟩
  | .hbm, ⟨60, _⟩ => ⟨S2x128x4096, .f32⟩
  | .hbm, ⟨61, _⟩ => ⟨S2x4096x128, .f32⟩
  | .hbm, ⟨62, _⟩ => ⟨S2x4x4096x4096, .f32⟩
  | .hbm, ⟨63, _⟩ => ⟨S2x4x4096x4096, .f32⟩
  | .hbm, ⟨64, _⟩ => ⟨S2x4x4096x4096, .f32⟩
  | .hbm, ⟨65, _⟩ => ⟨S2x4x4096x4096, .f32⟩
  | .hbm, ⟨66, _⟩ => ⟨S_, .f32⟩
  | .hbm, ⟨67, _⟩ => ⟨S2x4x4096, .f32⟩
  | .hbm, ⟨68, _⟩ => ⟨S2x4x4096x1, .f32⟩
  | .hbm, ⟨69, _⟩ => ⟨S2x4x4096x1, .f32⟩
  | .hbm, ⟨70, _⟩ => ⟨S2x4x4096x4096, .f32⟩
  | .hbm, ⟨71, _⟩ => ⟨S2x4x4096x4096, .f32⟩
  | .hbm, ⟨72, _⟩ => ⟨S_, .f32⟩
  | .hbm, ⟨73, _⟩ => ⟨S2x4x4096, .f32⟩
  | .hbm, ⟨74, _⟩ => ⟨S2x4x4096x4096, .f32⟩
  | .hbm, ⟨75, _⟩ => ⟨S2x4x4096x4096, .f32⟩
  | .hbm, ⟨76, _⟩ => ⟨S2x4x4096x4096, .f32⟩
  | .hbm, ⟨77, _⟩ => ⟨S_, .f32⟩
  | .hbm, ⟨78, _⟩ => ⟨S2x4x4096x4096, .f32⟩
  | .hbm, ⟨79, _⟩ => ⟨S2x4x4096x4096, .f32⟩
  | .hbm, ⟨80, _⟩ => ⟨S2x4096x128, .f32⟩
  | .hbm, ⟨81, _⟩ => ⟨S2x4x4096x128, .f32⟩
  | .hbm, ⟨82, _⟩ => ⟨S4096x2x128, .f32⟩
  | .hbm, ⟨83, _⟩ => ⟨S4096x256, .f32⟩
  | .hbm, ⟨84, _⟩ => ⟨S4096x2x128, .f32⟩
  | .hbm, ⟨85, _⟩ => ⟨S4096x256, .f32⟩
  | .hbm, ⟨86, _⟩ => ⟨S4096x2x4x128, .f32⟩
  | .hbm, ⟨87, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_10 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_11 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_12 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]
-- ==== KernelAttnFwd.lean ====
abbrev S4096x1536 : Shape := ⟨2, ![4096, 1536]⟩
abbrev S4096x1024 : Shape := ⟨2, ![4096, 1024]⟩
abbrev S512x128 : Shape := ⟨2, ![512, 128]⟩
abbrev S4096x128 : Shape := ⟨2, ![4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c10_i32 : BitVec 32 := 10#32
  let v17 : BitVec 32 := Scalar.addi c10_i32 v16
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelAttnFwdIdeal.lean ====
variable {F : FTy → Type} [FloatOps F] [Named F]
def κ : String → Option EReal := fun
  | "scale_log2e" => some (((11863283 / 134217728) * (Real.log 2)⁻¹ : ℝ) : EReal)
  | _ => none
-- ==== ReferenceAttnFwdIdeal.lean ====
abbrev S4096x1536 : Shape := ⟨2, ![4096, 1536]⟩
abbrev S4096x1024 : Shape := ⟨2, ![4096, 1024]⟩
abbrev S4096x256 : Shape := ⟨2, ![4096, 256]⟩
abbrev S4096x2x4x128 : Shape := ⟨4, ![4096, 2, 4, 128]⟩
abbrev S2x4x4096x128 : Shape := ⟨4, ![2, 4, 4096, 128]⟩
abbrev S4096x2x128 : Shape := ⟨3, ![4096, 2, 128]⟩
abbrev S2x4096x128 : Shape := ⟨3, ![2, 4096, 128]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1536, .f32⟩
  | .hbm, ⟨2, _⟩ => ⟨S4096x1024, .f32⟩
  | .hbm, ⟨3, _⟩ => ⟨S4096x256, .f32⟩
  | .hbm, ⟨4, _⟩ => ⟨S4096x256, .f32⟩
  | .hbm, ⟨5, _⟩ => ⟨S4096x2x4x128, .f32⟩
  | .hbm, ⟨6, _⟩ => ⟨S2x4x4096x128, .f32⟩
  | .hbm, ⟨7, _⟩ => ⟨S4096x2x128, .f32⟩
  | .hbm, ⟨8, _⟩ => ⟨S2x4096x128, .f32⟩
  | .hbm, ⟨9, _⟩ => ⟨S4096x2x128, .f32⟩
  | .hbm, ⟨10, _⟩ => ⟨S2x4096x128, .f32⟩
  | .hbm, ⟨11, _⟩ => ⟨S2x4x4096x4096, .f32⟩
  | .hbm, ⟨12, _⟩ => ⟨S_, .f32⟩
  | .hbm, ⟨13, _⟩ => ⟨S2x4x4096x4096, .f32⟩
  | .hbm, ⟨14, _⟩ => ⟨S2x4x4096x4096, .f32⟩
  | .hbm, ⟨15, _⟩ => ⟨S_, .f32⟩
  | .hbm, ⟨16, _⟩ => ⟨S2x4x4096, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S2x4x4096x1, .f32⟩
  | .hbm, ⟨21, _⟩ => ⟨S2x4x4096x4096, .f32⟩
  | .hbm, ⟨22, _⟩ => ⟨S2x4x4096x4096, .f32⟩
  | .hbm, ⟨23, _⟩ => ⟨S2x4x4096x4096, .f32⟩
  | .hbm, ⟨24, _⟩ => ⟨S_, .f32⟩
  | .hbm, ⟨25, _⟩ => ⟨S2x4x4096, .f32⟩
  | .hbm, ⟨26, _⟩ => ⟨S2x4x4096x1, .f32⟩
  | .hbm, ⟨27, _⟩ => ⟨S2x4x4096x4096, .f32⟩
  | .hbm, ⟨28, _⟩ => ⟨S2x4x4096x4096, .f32⟩
  | .hbm, ⟨29, _⟩ => ⟨S2x4x4096x128, .f32⟩
  | .hbm, ⟨30, _⟩ => ⟨S4096x2x4x128, .f32⟩
  | .hbm, ⟨31, _⟩ => ⟨S4096x1024, .f32⟩
  | .hbm, ⟨32, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== KernelDownDgrad.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDgradIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDownWgrad.lean ====
abbrev S4096x2816 : Shape := ⟨2, ![4096, 2816]⟩
abbrev S4096x1024 : Shape := ⟨2, ![4096, 1024]⟩
abbrev S8x352x1024 : Shape := ⟨3, ![8, 352, 1024]⟩
abbrev S1024x1408 : Shape := ⟨2, ![1024, 1408]⟩
abbrev S1024x1024 : Shape := ⟨2, ![1024, 1024]⟩
abbrev S4x352x1024 : Shape := ⟨3, ![4, 352, 1024]⟩
abbrev S1408x1024 : Shape := ⟨2, ![1408, 1024]⟩
abbrev S352x1024 : Shape := ⟨2, ![352, 1024]⟩
abbrev S1x352x1024 : Shape := ⟨3, ![1, 352, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S8x352x1024, .bf16⟩
  | .hbm, ⟨3, _⟩ => ⟨S8x352x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S4x352x1024, .bf16⟩
  | .local _ .vmem, ⟨5, _⟩ => ⟨S4x352x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownWgradIdeal.lean ====
abbrev S4096x2816 : Shape := ⟨2, ![4096, 2816]⟩
abbrev S4096x1024 : Shape := ⟨2, ![4096, 1024]⟩
abbrev S8x352x1024 : Shape := ⟨3, ![8, 352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S8x352x1024, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S8x352x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelUpDgradVal.lean ====
abbrev S4096x2816 : Shape := ⟨2, ![4096, 2816]⟩
abbrev S1024x2816 : Shape := ⟨2, ![1024, 2816]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDgradValIdeal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S_, .f32⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUpDgradGate.lean ====
abbrev S4096x2816 : Shape := ⟨2, ![4096, 2816]⟩
abbrev S1024x2816 : Shape := ⟨2, ![1024, 2816]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpDgradGateIdeal.lean ====
abbrev S4096x2816 : Shape := ⟨2, ![4096, 2816]⟩
abbrev S1024x2816 : Shape := ⟨2, ![1024, 2816]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelUpWgradVal.lean ====
abbrev S4096x1024 : Shape := ⟨2, ![4096, 1024]⟩
abbrev S4096x2816 : Shape := ⟨2, ![4096, 2816]⟩
abbrev S8x1024x704 : Shape := ⟨3, ![8, 1024, 704]⟩
abbrev S1024x512 : Shape := ⟨2, ![1024, 512]⟩
abbrev S1024x2816 : Shape := ⟨2, ![1024, 2816]⟩
abbrev S4x512x704 : Shape := ⟨3, ![4, 512, 704]⟩
abbrev S512x2816 : Shape := ⟨2, ![512, 2816]⟩
abbrev S512x704 : Shape := ⟨2, ![512, 704]⟩
abbrev S1x512x704 : Shape := ⟨3, ![1, 512, 704]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S8x1024x704, .bf16⟩
  | .hbm, ⟨3, _⟩ => ⟨S8x1024x704, .bf16⟩
  | .local _ .vmem, ⟨0, _⟩ => ⟨S1024x512, .bf16⟩
  | .local _ .vmem, ⟨1, _⟩ => ⟨S1024x512, .bf16⟩
  | .local _ .vmem, ⟨2, _⟩ => ⟨S1024x2816, .bf16⟩
  | .local _ .vmem, ⟨3, _⟩ => ⟨S1024x2816, .bf16⟩
  | .local _ .vmem, ⟨4, _⟩ => ⟨S4x512x704, .bf16⟩
  | .local _ .vmem, ⟨5, _⟩ => ⟨S4x512x704, .bf16⟩
  | .local _ .vmem, ⟨6, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceUpWgradValIdeal.lean ====
abbrev S4096x1024 : Shape := ⟨2, ![4096, 1024]⟩
abbrev S4096x2816 : Shape := ⟨2, ![4096, 2816]⟩
abbrev S8x1024x704 : Shape := ⟨3, ![8, 1024, 704]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S8x1024x704, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S1024x4x704, .bf16⟩
  | .hbm, ⟨12, _⟩ => ⟨S4x1024x704, .bf16⟩
  | .hbm, ⟨13, _⟩ => ⟨S4x1024x704, .bf16⟩
  | .hbm, ⟨14, _⟩ => ⟨S8x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelUpWgradGate.lean ====
abbrev S4096x1024 : Shape := ⟨2, ![4096, 1024]⟩
abbrev S4096x2816 : Shape := ⟨2, ![4096, 2816]⟩
abbrev S8x1024x704 : Shape := ⟨3, ![8, 1024, 704]⟩
abbrev S1024x512 : Shape := ⟨2, ![1024, 512]⟩
abbrev S1024x2816 : Shape := ⟨2, ![1024, 2816]⟩
abbrev S4x512x704 : Shape := ⟨3, ![4, 512, 704]⟩
abbrev S512x2816 : Shape := ⟨2, ![512, 2816]⟩
abbrev S512x704 : Shape := ⟨2, ![512, 704]⟩
abbrev S1x512x704 : Shape := ⟨3, ![1, 512, 704]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S8x1024x704, .bf16⟩
  | .hbm, ⟨3, _⟩ => ⟨S8x1024x704, .bf16⟩
  | .local _ .vmem, ⟨0, _⟩ => ⟨S1024x512, .bf16⟩
  | .local _ .vmem, ⟨1, _⟩ => ⟨S1024x512, .bf16⟩
  | .local _ .vmem, ⟨2, _⟩ => ⟨S1024x2816, .bf16⟩
  | .local _ .vmem, ⟨3, _⟩ => ⟨S1024x2816, .bf16⟩
  | .local _ .vmem, ⟨4, _⟩ => ⟨S4x512x704, .bf16⟩
  | .local _ .vmem, ⟨5, _⟩ => ⟨S4x512x704, .bf16⟩
  | .local _ .vmem, ⟨6, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceUpWgradGateIdeal.lean ====
abbrev S4096x1024 : Shape := ⟨2, ![4096, 1024]⟩
abbrev S4096x2816 : Shape := ⟨2, ![4096, 2816]⟩
abbrev S8x1024x704 : Shape := ⟨3, ![8, 1024, 704]⟩
abbrev S4x1024x704 : Shape := ⟨3, ![4, 1024, 704]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S8x1024x704, .bf16⟩
  | .hbm, ⟨3, _⟩ => ⟨S4x1024x704, .bf16⟩
  | .hbm, ⟨4, _⟩ => ⟨S_, .f32⟩
  | .hbm, ⟨5, _⟩ => ⟨S1024x2816, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x2816, .bf16⟩
  | .hbm, ⟨12, _⟩ => ⟨S1024x4x704, .bf16⟩
  | .hbm, ⟨13, _⟩ => ⟨S4x1024x704, .bf16⟩
  | .hbm, ⟨14, _⟩ => ⟨S8x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelAttnOutDgrad.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAttnOutDgradIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAttnOutWgrad.lean ====
abbrev S4096x1024 : Shape := ⟨2, ![4096, 1024]⟩
abbrev S8x128x1024 : Shape := ⟨3, ![8, 128, 1024]⟩
abbrev S1024x1024 : Shape := ⟨2, ![1024, 1024]⟩
abbrev S128x1024 : Shape := ⟨2, ![128, 1024]⟩
abbrev S1x128x1024 : Shape := ⟨3, ![1, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S8x128x1024, .bf16⟩
  | .hbm, ⟨3, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S8x128x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceAttnOutWgradIdeal.lean ====
abbrev S4096x1024 : Shape := ⟨2, ![4096, 1024]⟩
abbrev S8x128x1024 : Shape := ⟨3, ![8, 128, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S8x128x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S8x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelQkvDgrad.lean ====
abbrev S4096x1536 : Shape := ⟨2, ![4096, 1536]⟩
abbrev S1024x1536 : Shape := ⟨2, ![1024, 1536]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvDgradIdeal.lean ====
abbrev S4096x1536 : Shape := ⟨2, ![4096, 1536]⟩
abbrev S1024x1536 : Shape := ⟨2, ![1024, 1536]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S_, .f32⟩
  | .hbm, ⟨3, _⟩ => ⟨S4096x1024, .f32⟩
  | .hbm, ⟨4, _⟩ => ⟨S1024x1536, .f32⟩
  | .hbm, ⟨5, _⟩ => ⟨S4096x1536, .f32⟩
  | .hbm, ⟨6, _⟩ => ⟨S4096x1536, .f32⟩
  | .hbm, ⟨7, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelQkvWgrad.lean ====
abbrev S4096x1024 : Shape := ⟨2, ![4096, 1024]⟩
abbrev S4096x1536 : Shape := ⟨2, ![4096, 1536]⟩
abbrev S8x1024x192 : Shape := ⟨3, ![8, 1024, 192]⟩
abbrev S1024x512 : Shape := ⟨2, ![1024, 512]⟩
abbrev S1024x1536 : Shape := ⟨2, ![1024, 1536]⟩
abbrev S8x512x192 : Shape := ⟨3, ![8, 512, 192]⟩
abbrev S512x1536 : Shape := ⟨2, ![512, 1536]⟩
abbrev S512x192 : Shape := ⟨2, ![512, 192]⟩
abbrev S1x512x192 : Shape := ⟨3, ![1, 512, 192]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S8x1024x192, .bf16⟩
  | .hbm, ⟨3, _⟩ => ⟨S8x1024x192, .bf16⟩
  | .local _ .vmem, ⟨0, _⟩ => ⟨S1024x512, .bf16⟩
  | .local _ .vmem, ⟨1, _⟩ => ⟨S1024x512, .bf16⟩
  | .local _ .vmem, ⟨2, _⟩ => ⟨S1024x1536, .bf16⟩
  | .local _ .vmem, ⟨3, _⟩ => ⟨S1024x1536, .bf16⟩
  | .local _ .vmem, ⟨4, _⟩ => ⟨S8x512x192, .bf16⟩
  | .local _ .vmem, ⟨5, _⟩ => ⟨S8x512x192, .bf16⟩
  | .local _ .vmem, ⟨6, _⟩ => ⟨S512x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceQkvWgradIdeal.lean ====
abbrev S4096x1024 : Shape := ⟨2, ![4096, 1024]⟩
abbrev S4096x1536 : Shape := ⟨2, ![4096, 1536]⟩
abbrev S8x1024x192 : Shape := ⟨3, ![8, 1024, 192]⟩
abbrev S_ : Shape := ⟨0, ![]⟩
abbrev S1024x1536 : Shape := ⟨2, ![1024, 1536]⟩
abbrev S1536x1024 : Shape := ⟨2, ![1536, 1024]⟩
abbrev S1024x8x192 : Shape := ⟨3, ![1024, 8, 192]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S8x1024x192, .bf16⟩
  | .hbm, ⟨3, _⟩ => ⟨S_, .f32⟩
  | .hbm, ⟨4, _⟩ => ⟨S1024x1536, .f32⟩
  | .hbm, ⟨5, _⟩ => ⟨S4096x1024, .f32⟩
  | .hbm, ⟨6, _⟩ => ⟨S4096x1536, .f32⟩
  | .hbm, ⟨7, _⟩ => ⟨S4096x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | .hbm, ⟨11, _⟩ => ⟨S1024x8x192, .bf16⟩
  | .hbm, ⟨12, _⟩ => ⟨S8x1024x192, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelGlaOutDgrad.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGlaOutDgradIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGlaOutWgrad.lean ====
abbrev S4096x1024 : Shape := ⟨2, ![4096, 1024]⟩
abbrev S8x128x1024 : Shape := ⟨3, ![8, 128, 1024]⟩
abbrev S1024x1024 : Shape := ⟨2, ![1024, 1024]⟩
abbrev S128x1024 : Shape := ⟨2, ![128, 1024]⟩
abbrev S1x128x1024 : Shape := ⟨3, ![1, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S8x128x1024, .bf16⟩
  | .hbm, ⟨3, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S8x128x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGlaOutWgradIdeal.lean ====
abbrev S4096x1024 : Shape := ⟨2, ![4096, 1024]⟩
abbrev S8x128x1024 : Shape := ⟨3, ![8, 128, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S8x128x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S8x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelGlaGateDgrad.lean ====
abbrev S4096x1024 : Shape := ⟨2, ![4096, 1024]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S128x1024, .bf16⟩
  | .hbm, ⟨2, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGlaGateDgradIdeal.lean ====
abbrev S4096x1024 : Shape := ⟨2, ![4096, 1024]⟩
abbrev S128x1024 : Shape := ⟨2, ![128, 1024]⟩
abbrev S_ : Shape := ⟨0, ![]⟩
abbrev S4096x128 : Shape := ⟨2, ![4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S128x1024, .bf16⟩
  | .hbm, ⟨2, _⟩ => ⟨S_, .f32⟩
  | .hbm, ⟨3, _⟩ => ⟨S4096x128, .f32⟩
  | .hbm, ⟨4, _⟩ => ⟨S128x1024, .f32⟩
  | .hbm, ⟨5, _⟩ => ⟨S4096x1024, .f32⟩
  | .hbm, ⟨6, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGlaGateWgrad.lean ====
abbrev S4096x3200 : Shape := ⟨2, ![4096, 3200]⟩
abbrev S4096x1024 : Shape := ⟨2, ![4096, 1024]⟩
abbrev S128x1024 : Shape := ⟨2, ![128, 1024]⟩
abbrev S512x128 : Shape := ⟨2, ![512, 128]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x3200, .f32⟩
  | .hbm, ⟨1, _⟩ => ⟨S4096x1024, .f32⟩
  | .hbm, ⟨2, _⟩ => ⟨S128x1024, .f32⟩
  | .local _ .vmem, ⟨0, _⟩ => ⟨S512x128, .f32⟩
  | .local _ .vmem, ⟨1, _⟩ => ⟨S512x128, .f32⟩
  | .local _ .vmem, ⟨2, _⟩ => ⟨S512x1024, .f32⟩
  | .local _ .vmem, ⟨3, _⟩ => ⟨S512x1024, .f32⟩
  | .local _ .vmem, ⟨4, _⟩ => ⟨S128x1024, .f32⟩
  | .local _ .vmem, ⟨5, _⟩ => ⟨S128x1024, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGlaGateWgradIdeal.lean ====
abbrev S4096x3200 : Shape := ⟨2, ![4096, 3200]⟩
abbrev S4096x1024 : Shape := ⟨2, ![4096, 1024]⟩
abbrev S4096x128 : Shape := ⟨2, ![4096, 128]⟩
abbrev S_ : Shape := ⟨0, ![]⟩
abbrev S128x1024 : Shape := ⟨2, ![128, 1024]⟩
abbrev S1024x128 : Shape := ⟨2, ![1024, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S4096x1024, .f32⟩
  | .hbm, ⟨2, _⟩ => ⟨S4096x128, .f32⟩
  | .hbm, ⟨3, _⟩ => ⟨S_, .f32⟩
  | .hbm, ⟨4, _⟩ => ⟨S128x1024, .f32⟩
  | .hbm, ⟨5, _⟩ => ⟨S4096x1024, .f32⟩
  | .hbm, ⟨6, _⟩ => ⟨S1024x128, .f32⟩
  | .hbm, ⟨7, _⟩ => ⟨S128x1024, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGlaInDgrad.lean ====
abbrev S4096x3200 : Shape := ⟨2, ![4096, 3200]⟩
abbrev S1024x3200 : Shape := ⟨2, ![1024, 3200]⟩
abbrev S4096x1024 : Shape := ⟨2, ![4096, 1024]⟩
abbrev S1024x640 : Shape := ⟨2, ![1024, 640]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGlaInDgradIdeal.lean ====
abbrev S4096x3200 : Shape := ⟨2, ![4096, 3200]⟩
abbrev S1024x3200 : Shape := ⟨2, ![1024, 3200]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S_, .f32⟩
  | .hbm, ⟨3, _⟩ => ⟨S4096x1024, .f32⟩
  | .hbm, ⟨4, _⟩ => ⟨S1024x3200, .f32⟩
  | .hbm, ⟨5, _⟩ => ⟨S4096x3200, .f32⟩
  | .hbm, ⟨6, _⟩ => ⟨S4096x3200, .f32⟩
  | .hbm, ⟨7, _⟩ => ⟨S4096x1024, .f32⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGlaInWgrad.lean ====
abbrev S4096x1024 : Shape := ⟨2, ![4096, 1024]⟩
abbrev S4096x3200 : Shape := ⟨2, ![4096, 3200]⟩
abbrev S8x1024x388 : Shape := ⟨3, ![8, 1024, 388]⟩
abbrev S1024x512 : Shape := ⟨2, ![1024, 512]⟩
abbrev S1024x3200 : Shape := ⟨2, ![1024, 3200]⟩
abbrev S8x512x388 : Shape := ⟨3, ![8, 512, 388]⟩
abbrev S512x3200 : Shape := ⟨2, ![512, 3200]⟩
abbrev S512x388 : Shape := ⟨2, ![512, 388]⟩
abbrev S1x512x388 : Shape := ⟨3, ![1, 512, 388]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S8x1024x388, .bf16⟩
  | .hbm, ⟨3, _⟩ => ⟨S8x1024x388, .bf16⟩
  | .local _ .vmem, ⟨0, _⟩ => ⟨S1024x512, .bf16⟩
  | .local _ .vmem, ⟨1, _⟩ => ⟨S1024x512, .bf16⟩
  | .local _ .vmem, ⟨2, _⟩ => ⟨S1024x3200, .bf16⟩
  | .local _ .vmem, ⟨3, _⟩ => ⟨S1024x3200, .bf16⟩
  | .local _ .vmem, ⟨4, _⟩ => ⟨S8x512x388, .bf16⟩
  | .local _ .vmem, ⟨5, _⟩ => ⟨S8x512x388, .bf16⟩
  | .local _ .vmem, ⟨6, _⟩ => ⟨S512x3200, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512x388 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceGlaInWgradIdeal.lean ====
abbrev S4096x1024 : Shape := ⟨2, ![4096, 1024]⟩
abbrev S4096x3200 : Shape := ⟨2, ![4096, 3200]⟩
abbrev S8x1024x388 : Shape := ⟨3, ![8, 1024, 388]⟩
abbrev S4096x3104 : Shape := ⟨2, ![4096, 3104]⟩
abbrev S_ : Shape := ⟨0, ![]⟩
abbrev S1024x3104 : Shape := ⟨2, ![1024, 3104]⟩
abbrev S3104x1024 : Shape := ⟨2, ![3104, 1024]⟩
abbrev S1024x8x388 : Shape := ⟨3, ![1024, 8, 388]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S8x1024x388, .bf16⟩
  | .hbm, ⟨3, _⟩ => ⟨S4096x3104, .bf16⟩
  | .hbm, ⟨4, _⟩ => ⟨S_, .f32⟩
  | .hbm, ⟨5, _⟩ => ⟨S1024x3104, .f32⟩
  | .hbm, ⟨6, _⟩ => ⟨S4096x1024, .f32⟩
  | .hbm, ⟨7, _⟩ => ⟨S4096x3104, .f32⟩
  | .hbm, ⟨8, _⟩ => ⟨S4096x3104, .f32⟩
  | .hbm, ⟨9, _⟩ => ⟨S3104x1024, .f32⟩
  | .hbm, ⟨10, _⟩ => ⟨S1024x3104, .f32⟩
  | .hbm, ⟨11, _⟩ => ⟨S1024x3104, .bf16⟩
  | .hbm, ⟨12, _⟩ => ⟨S1024x8x388, .bf16⟩
  | .hbm, ⟨13, _⟩ => ⟨S8x1024x388, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelUpVal.lean ====
abbrev S4096x1024 : Shape := ⟨2, ![4096, 1024]⟩
abbrev S1024x2816 : Shape := ⟨2, ![1024, 2816]⟩
abbrev S4096x2816 : Shape := ⟨2, ![4096, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpValIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x1024, .f32⟩
  | .hbm, ⟨3, _⟩ => ⟨S1024x2816, .f32⟩
  | .hbm, ⟨4, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelUpGate.lean ====
abbrev S4096x1024 : Shape := ⟨2, ![4096, 1024]⟩
abbrev S1024x2816 : Shape := ⟨2, ![1024, 2816]⟩
abbrev S4096x2816 : Shape := ⟨2, ![4096, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpGateIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x1024, .f32⟩
  | .hbm, ⟨3, _⟩ => ⟨S1024x2816, .f32⟩
  | .hbm, ⟨4, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDown.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelQkvProj.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvProjIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelAttnOutProj.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceAttnOutProjIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGlaInProj.lean ====
abbrev S4096x1024 : Shape := ⟨2, ![4096, 1024]⟩
abbrev S1024x3200 : Shape := ⟨2, ![1024, 3200]⟩
abbrev S4096x3200 : Shape := ⟨2, ![4096, 3200]⟩
abbrev S1024x1024 : Shape := ⟨2, ![1024, 1024]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGlaInProjIdeal.lean ====
abbrev S4096x1024 : Shape := ⟨2, ![4096, 1024]⟩
abbrev S1024x3200 : Shape := ⟨2, ![1024, 3200]⟩
abbrev S4096x3200 : Shape := ⟨2, ![4096, 3200]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x1024, .f32⟩
  | .hbm, ⟨3, _⟩ => ⟨S1024x3200, .f32⟩
  | .hbm, ⟨4, _⟩ => ⟨S4096x3200, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelGlaGateLogits.lean ====
abbrev S4096x3200 : Shape := ⟨2, ![4096, 3200]⟩
abbrev S128x1024 : Shape := ⟨2, ![128, 1024]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3200, .f32⟩
  | .hbm, ⟨1, _⟩ => ⟨S128x1024, .bf16⟩
  | .hbm, ⟨2, _⟩ => ⟨S4096x1024, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg2
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGlaGateLogitsIdeal.lean ====
abbrev S4096x3200 : Shape := ⟨2, ![4096, 3200]⟩
abbrev S128x1024 : Shape := ⟨2, ![128, 1024]⟩
abbrev S4096x128 : Shape := ⟨2, ![4096, 128]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S128x1024, .bf16⟩
  | .hbm, ⟨2, _⟩ => ⟨S4096x128, .f32⟩
  | .hbm, ⟨3, _⟩ => ⟨S128x1024, .f32⟩
  | .hbm, ⟨4, _⟩ => ⟨S4096x1024, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelGlaOutProj.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGlaOutProjIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelConvActBwd.lean ====
abbrev S4096x2816 : Shape := ⟨2, ![4096, 2816]⟩
abbrev S3x2816 : Shape := ⟨2, ![3, 2816]⟩
abbrev S1x2816 : Shape := ⟨2, ![1, 2816]⟩
abbrev S512x1408 : Shape := ⟨2, ![512, 1408]⟩
abbrev S8x1408 : Shape := ⟨2, ![8, 1408]⟩
abbrev S3x1408 : Shape := ⟨2, ![3, 1408]⟩
abbrev S1x1408 : Shape := ⟨2, ![1, 1408]⟩
abbrev S1408 : Shape := ⟨1, ![1408]⟩

abbrev nBuf : Space → Nat
  | .hbm => 13
  | .vmem => 34
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x2816, .f32⟩
  | .hbm, ⟨3, _⟩ => ⟨S3x2816, .f32⟩
  | .hbm, ⟨4, _⟩ => ⟨S1x2816, .f32⟩
  | .hbm, ⟨5, _⟩ => ⟨S1x2816, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S3x2816, .f32⟩
  | .hbm, ⟨10, _⟩ => ⟨S3x2816, .f32⟩
  | .hbm, ⟨11, _⟩ => ⟨S1x2816, .f32⟩
  | .hbm, ⟨12, _⟩ => ⟨S1x2816, .f32⟩
  | .local _ .vmem, ⟨0, _⟩ => ⟨S512x1408, .f32⟩
  | .local _ .vmem, ⟨1, _⟩ => ⟨S512x1408, .f32⟩
  | .local _ .vmem, ⟨2, _⟩ => ⟨S8x1408, .f32⟩
  | .local _ .vmem, ⟨3, _⟩ => ⟨S8x1408, .f32⟩
  | .local _ .vmem, ⟨4, _⟩ => ⟨S8x1408, .f32⟩
  | .local _ .vmem, ⟨5, _⟩ => ⟨S8x1408, .f32⟩
  | .local _ .vmem, ⟨6, _⟩ => ⟨S512x1408, .f32⟩
  | .local _ .vmem, ⟨7, _⟩ => ⟨S512x1408, .f32⟩
  | .local _ .vmem, ⟨8, _⟩ => ⟨S8x1408, .f32⟩
  | .local _ .vmem, ⟨9, _⟩ => ⟨S8x1408, .f32⟩
  | .local _ .vmem, ⟨10, _⟩ => ⟨S8x1408, .f32⟩
  | .local _ .vmem, ⟨11, _⟩ => ⟨S8x1408, .f32⟩
  | .local _ .vmem, ⟨12, _⟩ => ⟨S3x1408, .f32⟩
  | .local _ .vmem, ⟨13, _⟩ => ⟨S3x1408, .f32⟩
  | .local _ .vmem, ⟨14, _⟩ => ⟨S3x1408, .f32⟩
  | .local _ .vmem, ⟨15, _⟩ => ⟨S3x1408, .f32⟩
  | .local _ .vmem, ⟨16, _⟩ => ⟨S1x1408, .f32⟩
  | .local _ .vmem, ⟨17, _⟩ => ⟨S1x1408, .f32⟩
  | .local _ .vmem, ⟨18, _⟩ => ⟨S1x1408, .f32⟩
  | .local _ .vmem, ⟨19, _⟩ => ⟨S1x1408, .f32⟩
  | .local _ .vmem, ⟨20, _⟩ => ⟨S512x1408, .f32⟩
  | .local _ .vmem, ⟨21, _⟩ => ⟨S512x1408, .f32⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S3x1408, .f32⟩
  | .local _ .vmem, ⟨27, _⟩ => ⟨S3x1408, .f32⟩
  | .local _ .vmem, ⟨28, _⟩ => ⟨S3x1408, .f32⟩
  | .local _ .vmem, ⟨29, _⟩ => ⟨S3x1408, .f32⟩
  | .local _ .vmem, ⟨30, _⟩ => ⟨S1x1408, .f32⟩
  | .local _ .vmem, ⟨31, _⟩ => ⟨S1x1408, .f32⟩
  | .local _ .vmem, ⟨32, _⟩ => ⟨S1x1408, .f32⟩
  | .local _ .vmem, ⟨33, _⟩ => ⟨S1x1408, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32_54 : BitVec 32 := 0#32
  let v116 : BitVec 1 := Scalar.cmpi .eq arg1 c0_i32_54
  let v117 : BitVec 32 := Scalar.extui v116
  let c0_i32_55 : BitVec 32 := 0#32
  let v118 : BitVec 1 := Scalar.cmpi .ne v117 c0_i32_55
  v118

def k0_cond2 (i : grid0.Coords) : BitVec 1 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .ne v120 c0_i32_57
  v121

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceConvActBwdIdeal.lean ====
abbrev S4096x2816 : Shape := ⟨2, ![4096, 2816]⟩
abbrev S3x2816 : Shape := ⟨2, ![3, 2816]⟩
abbrev S1x2816 : Shape := ⟨2, ![1, 2816]⟩
abbrev S_ : Shape := ⟨0, ![]⟩
abbrev S4095x2816 : Shape := ⟨2, ![4095, 2816]⟩
abbrev S2816 : Shape := ⟨1, ![2816]⟩

abbrev nBuf : Space → Nat
  | .hbm => 193
  | .vmem => 0
  | .smem => 0
  | _ => 0

abbrev hbmTy0_0 (i : Nat) : BufTy := match i % 128 with
  | 0 => ⟨S4096x2816, .f32⟩
  | 1 => ⟨S4096x2816, .f32⟩
  | 2 => ⟨S3x2816, .f32⟩
  | 3 => ⟨S3x2816, .f32⟩
  | 4 => ⟨S1x2816, .f32⟩
  | 5 => ⟨S1x2816, .f32⟩
  | 6 => ⟨S4096x2816, .f32⟩
  | 7 => ⟨S_, .f32⟩
  | 8 => ⟨S1x2816, .f32⟩
  | 9 => ⟨S4095x2816, .f32⟩
  | 10 => ⟨S4096x2816, .f32⟩
  | 11 => ⟨S4095x2816, .f32⟩
  | 12 => ⟨S4096x2816, .f32⟩
  | 13 => ⟨S1x2816, .f32⟩
  | 14 => ⟨S2816, .f32⟩
  | 15 => ⟨S1x2816, .f32⟩
  | 16 => ⟨S4096x2816, .f32⟩
  | 17 => ⟨S4096x2816, .f32⟩
  | 18 => ⟨S1x2816, .f32⟩
  | 19 => ⟨S2816, .f32⟩
  | 20 => ⟨S1x2816, .f32⟩
  | 21 => ⟨S4096x2816, .f32⟩
  | 22 => ⟨S4096x2816, .f32⟩
  | 23 => ⟨S4096x2816, .f32⟩
  | 24 => ⟨S1x2816, .f32⟩
  | 25 => ⟨S2816, .f32⟩
  | 26 => ⟨S1x2816, .f32⟩
  | 27 => ⟨S4096x2816, .f32⟩
  | 28 => ⟨S4096x2816, .f32⟩
  | 29 => ⟨S4096x2816, .f32⟩
  | 30 => ⟨S4096x2816, .f32⟩
  | 31 => ⟨S4096x2816, .f32⟩
  | 32 => ⟨S_, .f32⟩
  | 33 => ⟨S1x2816, .f32⟩
  | 34 => ⟨S4095x2816, .f32⟩
  | 35 => ⟨S4096x2816, .f32⟩
  | 36 => ⟨S4095x2816, .f32⟩
  | 37 => ⟨S4096x2816, .f32⟩
  | 38 => ⟨S1x2816, .f32⟩
  | 39 => ⟨S2816, .f32⟩
  | 40 => ⟨S1x2816, .f32⟩
  | 41 => ⟨S4096x2816, .f32⟩
  | 42 => ⟨S4096x2816, .f32⟩
  | 43 => ⟨S1x2816, .f32⟩
  | 44 => ⟨S2816, .f32⟩
  | 45 => ⟨S1x2816, .f32⟩
  | 46 => ⟨S4096x2816, .f32⟩
  | 47 => ⟨S4096x2816, .f32⟩
  | 48 => ⟨S4096x2816, .f32⟩
  | 49 => ⟨S1x2816, .f32⟩
  | 50 => ⟨S2816, .f32⟩
  | 51 => ⟨S1x2816, .f32⟩
  | 52 => ⟨S4096x2816, .f32⟩
  | 53 => ⟨S4096x2816, .f32⟩
  | 54 => ⟨S4096x2816, .f32⟩
  | 55 => ⟨S4096x2816, .f32⟩
  | 56 => ⟨S4096x2816, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S4096x2816, .f32⟩
  | 69 => ⟨S4096x2816, .f32⟩
  | 70 => ⟨S4096x2816, .f32⟩
  | 71 => ⟨S4096x2816, .f32⟩
  | 72 => ⟨S4096x2816, .f32⟩
  | 73 => ⟨S4096x2816, .f32⟩
  | 74 => ⟨S4096x2816, .f32⟩
  | 75 => ⟨S4096x2816, .f32⟩
  | 76 => ⟨S4096x2816, .f32⟩
  | 77 => ⟨S_, .f32⟩
  | 78 => ⟨S1x2816, .f32⟩
  | 79 => ⟨S4095x2816, .f32⟩
  | 80 => ⟨S4096x2816, .f32⟩
  | 81 => ⟨S4095x2816, .f32⟩
  | 82 => ⟨S4096x2816, .f32⟩
  | 83 => ⟨S1x2816, .f32⟩
  | 84 => ⟨S2816, .f32⟩
  | 85 => ⟨S1x2816, .f32⟩
  | 86 => ⟨S4096x2816, .f32⟩
  | 87 => ⟨S4096x2816, .f32⟩
  | 88 => ⟨S1x2816, .f32⟩
  | 89 => ⟨S2816, .f32⟩
  | 90 => ⟨S1x2816, .f32⟩
  | 91 => ⟨S4096x2816, .f32⟩
  | 92 => ⟨S4096x2816, .f32⟩
  | 93 => ⟨S4096x2816, .f32⟩
  | 94 => ⟨S1x2816, .f32⟩
  | 95 => ⟨S2816, .f32⟩
  | 96 => ⟨S1x2816, .f32⟩
  | 97 => ⟨S4096x2816, .f32⟩
  | 98 => ⟨S4096x2816, .f32⟩
  | 99 => ⟨S4096x2816, .f32⟩
  | 100 => ⟨S4096x2816, .f32⟩
  | 101 => ⟨S4096x2816, .f32⟩
  | 102 => ⟨S_, .f32⟩
  | 103 => ⟨S2816, .f32⟩
  | 104 => ⟨S1x2816, .f32⟩
  | 105 => ⟨S4096x2816, .f32⟩
  | 106 => ⟨S_, .f32⟩
  | 107 => ⟨S2816, .f32⟩
  | 108 => ⟨S1x2816, .f32⟩
  | 109 => ⟨S_, .f32⟩
  | 110 => ⟨S2816, .f32⟩
  | 111 => ⟨S1x2816, .f32⟩
  | 112 => ⟨S_, .f32⟩
  | 113 => ⟨S3x2816, .f32⟩
  | 114 => ⟨S4096x2816, .f32⟩
  | 115 => ⟨S_, .f32⟩
  | 116 => ⟨S2816, .f32⟩
  | 117 => ⟨S1x2816, .f32⟩
  | 118 => ⟨S_, .f32⟩
  | 119 => ⟨S2816, .f32⟩
  | 120 => ⟨S1x2816, .f32⟩
  | 121 => ⟨S_, .f32⟩
  | 122 => ⟨S3x2816, .f32⟩
  | 123 => ⟨S3x2816, .f32⟩
  | 124 => ⟨S4096x2816, .f32⟩
  | 125 => ⟨S_, .f32⟩
  | 126 => ⟨S2816, .f32⟩
  | 127 => ⟨S1x2816, .f32⟩
  | _ => ⟨S4096x2816, .f32⟩

abbrev hbmTy0_1 (i : Nat) : BufTy := match i % 128 with
  | 0 => ⟨S_, .f32⟩
  | 1 => ⟨S2816, .f32⟩
  | 2 => ⟨S1x2816, .f32⟩
  | 3 => ⟨S_, .f32⟩
  | 4 => ⟨S3x2816, .f32⟩
  | 5 => ⟨S3x2816, .f32⟩
  | 6 => ⟨S_, .f32⟩
  | 7 => ⟨S1x2816, .f32⟩
  | 8 => ⟨S4095x2816, .f32⟩
  | 9 => ⟨S4096x2816, .f32⟩
  | 10 => ⟨S4095x2816, .f32⟩
  | 11 => ⟨S4096x2816, .f32⟩
  | 12 => ⟨S1x2816, .f32⟩
  | 13 => ⟨S2816, .f32⟩
  | 14 => ⟨S1x2816, .f32⟩
  | 15 => ⟨S4096x2816, .f32⟩
  | 16 => ⟨S4096x2816, .f32⟩
  | 17 => ⟨S1x2816, .f32⟩
  | 18 => ⟨S2816, .f32⟩
  | 19 => ⟨S1x2816, .f32⟩
  | 20 => ⟨S4096x2816, .f32⟩
  | 21 => ⟨S4096x2816, .f32⟩
  | 22 => ⟨S4096x2816, .f32⟩
  | 23 => ⟨S1x2816, .f32⟩
  | 24 => ⟨S2816, .f32⟩
  | 25 => ⟨S1x2816, .f32⟩
  | 26 => ⟨S4096x2816, .f32⟩
  | 27 => ⟨S4096x2816, .f32⟩
  | 28 => ⟨S4096x2816, .f32⟩
  | 29 => ⟨S4096x2816, .f32⟩
  | 30 => ⟨S4096x2816, .f32⟩
  | 31 => ⟨S_, .f32⟩
  | 32 => ⟨S2816, .f32⟩
  | 33 => ⟨S1x2816, .f32⟩
  | 34 => ⟨S4096x2816, .f32⟩
  | 35 => ⟨S_, .f32⟩
  | 36 => ⟨S2816, .f32⟩
  | 37 => ⟨S1x2816, .f32⟩
  | 38 => ⟨S_, .f32⟩
  | 39 => ⟨S2816, .f32⟩
  | 40 => ⟨S1x2816, .f32⟩
  | 41 => ⟨S_, .f32⟩
  | 42 => ⟨S3x2816, .f32⟩
  | 43 => ⟨S4096x2816, .f32⟩
  | 44 => ⟨S_, .f32⟩
  | 45 => ⟨S2816, .f32⟩
  | 46 => ⟨S1x2816, .f32⟩
  | 47 => ⟨S_, .f32⟩
  | 48 => ⟨S2816, .f32⟩
  | 49 => ⟨S1x2816, .f32⟩
  | 50 => ⟨S_, .f32⟩
  | 51 => ⟨S3x2816, .f32⟩
  | 52 => ⟨S3x2816, .f32⟩
  | 53 => ⟨S4096x2816, .f32⟩
  | 54 => ⟨S_, .f32⟩
  | 55 => ⟨S2816, .f32⟩
  | 56 => ⟨S1x2816, .f32⟩
  | 57 => ⟨S_, .f32⟩
  | 58 => ⟨S2816, .f32⟩
  | 59 => ⟨S1x2816, .f32⟩
  | 60 => ⟨S_, .f32⟩
  | 61 => ⟨S3x2816, .f32⟩
  | 62 => ⟨S3x2816, .f32⟩
  | 63 => ⟨S4096x2816, .bf16⟩
  | 64 => ⟨S4096x2816, .bf16⟩
  | _ => ⟨S4096x2816, .f32⟩

abbrev hbmTy (i : Nat) : BufTy := match i / 128 with
  | 0 => hbmTy0_0 i
  | 1 => hbmTy0_1 i
  | _ => ⟨S4096x2816, .f32⟩

abbrev bufTy : (tb : Table) → Fin (tcTables nBuf tb) → BufTy
  | .hbm, ⟨i, _⟩ => hbmTy i
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v48_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v48_1 : Ref sig .tc := ⟨.hbm, 68, rfl⟩
abbrev main_v48_0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v52 : Ref sig .tc := ⟨.hbm, 76, rfl⟩
abbrev main_cst_1 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_2 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_3 : Ref sig .tc := ⟨.hbm, 106, rfl⟩
abbrev main_v80 : Ref sig .tc := ⟨.hbm, 107, rfl⟩
abbrev main_v81 : Ref sig .tc := ⟨.hbm, 108, rfl⟩
abbrev main_cst_4 : Ref sig .tc := ⟨.hbm, 109, rfl⟩
abbrev main_v82 : Ref sig .tc := ⟨.hbm, 110, rfl⟩
abbrev main_v83 : Ref sig .tc := ⟨.hbm, 111, rfl⟩
abbrev main_cst_5 : Ref sig .tc := ⟨.hbm, 112, rfl⟩
abbrev main_v84 : Ref sig .tc := ⟨.hbm, 113, rfl⟩
abbrev main_v85 : Ref sig .tc := ⟨.hbm, 114, rfl⟩
abbrev main_cst_6 : Ref sig .tc := ⟨.hbm, 115, rfl⟩
abbrev main_v86 : Ref sig .tc := ⟨.hbm, 116, rfl⟩
abbrev main_v87 : Ref sig .tc := ⟨.hbm, 117, rfl⟩
abbrev main_cst_7 : Ref sig .tc := ⟨.hbm, 118, rfl⟩
abbrev main_v88 : Ref sig .tc := ⟨.hbm, 119, rfl⟩
abbrev main_v89 : Ref sig .tc := ⟨.hbm, 120, rfl⟩
abbrev main_cst_8 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_9 : Ref sig .tc := ⟨.hbm, 125, rfl⟩
abbrev main_v93 : Ref sig .tc := ⟨.hbm, 126, rfl⟩
abbrev main_v94 : Ref sig .tc := ⟨.hbm, 127, rfl⟩
abbrev main_cst_10 : Ref sig .tc := ⟨.hbm, 128, rfl⟩
abbrev main_v95 : Ref sig .tc := ⟨.hbm, 129, rfl⟩
abbrev main_v96 : Ref sig .tc := ⟨.hbm, 130, rfl⟩
abbrev main_cst_11 : Ref sig .tc := ⟨.hbm, 131, rfl⟩
abbrev main_v97 : Ref sig .tc := ⟨.hbm, 132, rfl⟩
abbrev main_v98 : Ref sig .tc := ⟨.hbm, 133, rfl⟩
abbrev main_cst_12 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_13 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_14 : Ref sig .tc := ⟨.hbm, 163, rfl⟩
abbrev main_v126 : Ref sig .tc := ⟨.hbm, 164, rfl⟩
abbrev main_v127 : Ref sig .tc := ⟨.hbm, 165, rfl⟩
abbrev main_cst_15 : Ref sig .tc := ⟨.hbm, 166, rfl⟩
abbrev main_v128 : Ref sig .tc := ⟨.hbm, 167, rfl⟩
abbrev main_v129 : Ref sig .tc := ⟨.hbm, 168, rfl⟩
abbrev main_cst_16 : Ref sig .tc := ⟨.hbm, 169, rfl⟩
abbrev main_v130 : Ref sig .tc := ⟨.hbm, 170, rfl⟩
abbrev main_v131 : Ref sig .tc := ⟨.hbm, 171, rfl⟩
abbrev main_cst_17 : Ref sig .tc := ⟨.hbm, 172, rfl⟩
abbrev main_v132 : Ref sig .tc := ⟨.hbm, 173, rfl⟩
abbrev main_v133 : Ref sig .tc := ⟨.hbm, 174, rfl⟩
abbrev main_cst_18 : Ref sig .tc := ⟨.hbm, 175, rfl⟩
abbrev main_v134 : Ref sig .tc := ⟨.hbm, 176, rfl⟩
abbrev main_v135 : Ref sig .tc := ⟨.hbm, 177, rfl⟩
abbrev main_cst_19 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_20 : Ref sig .tc := ⟨.hbm, 182, rfl⟩
abbrev main_v139 : Ref sig .tc := ⟨.hbm, 183, rfl⟩
abbrev main_v140 : Ref sig .tc := ⟨.hbm, 184, rfl⟩
abbrev main_cst_21 : Ref sig .tc := ⟨.hbm, 185, rfl⟩
abbrev main_v141 : Ref sig .tc := ⟨.hbm, 186, rfl⟩
abbrev main_v142 : Ref sig .tc := ⟨.hbm, 187, rfl⟩
abbrev main_cst_22 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩

abbrev nD : Nat := 1
abbrev τ : Topo := Topo.v7x

variable {F : FTy → Type} [FloatOps F]
-- ==== KernelConvT.lean ====
abbrev S4096x2816 : Shape := ⟨2, ![4096, 2816]⟩
abbrev S3x2816 : Shape := ⟨2, ![3, 2816]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩

abbrev nBuf : Space → Nat
  | .hbm => 3
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S3x2816, .f32⟩
  | .hbm, ⟨2, _⟩ => ⟨S4096x2816, .bf16⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S16x1408, .bf16⟩
  | .local _ .vmem, ⟨5, _⟩ => ⟨S16x1408, .bf16⟩
  | .local _ .vmem, ⟨6, _⟩ => ⟨S3x1408, .f32⟩
  | .local _ .vmem, ⟨7, _⟩ => ⟨S3x1408, .f32⟩
  | .local _ .vmem, ⟨8, _⟩ => ⟨S512x1408, .bf16⟩
  | .local _ .vmem, ⟨9, _⟩ => ⟨S512x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceConvTIdeal.lean ====
abbrev S4096x2816 : Shape := ⟨2, ![4096, 2816]⟩
abbrev S3x2816 : Shape := ⟨2, ![3, 2816]⟩
abbrev S_ : Shape := ⟨0, ![]⟩
abbrev S1x2816 : Shape := ⟨2, ![1, 2816]⟩
abbrev S4095x2816 : Shape := ⟨2, ![4095, 2816]⟩
abbrev S2816 : Shape := ⟨1, ![2816]⟩

abbrev nBuf : Space → Nat
  | .hbm => 53
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S3x2816, .f32⟩
  | .hbm, ⟨2, _⟩ => ⟨S_, .f32⟩
  | .hbm, ⟨3, _⟩ => ⟨S1x2816, .f32⟩
  | .hbm, ⟨4, _⟩ => ⟨S_, .f32⟩
  | .hbm, ⟨5, _⟩ => ⟨S4096x2816, .f32⟩
  | .hbm, ⟨6, _⟩ => ⟨S_, .f32⟩
  | .hbm, ⟨7, _⟩ => ⟨S1x2816, .f32⟩
  | .hbm, ⟨8, _⟩ => ⟨S4095x2816, .f32⟩
  | .hbm, ⟨9, _⟩ => ⟨S4096x2816, .f32⟩
  | .hbm, ⟨10, _⟩ => ⟨S_, .f32⟩
  | .hbm, ⟨11, _⟩ => ⟨S1x2816, .f32⟩
  | .hbm, ⟨12, _⟩ => ⟨S4095x2816, .f32⟩
  | .hbm, ⟨13, _⟩ => ⟨S4096x2816, .f32⟩
  | .hbm, ⟨14, _⟩ => ⟨S_, .f32⟩
  | .hbm, ⟨15, _⟩ => ⟨S1x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S4096x2816, .f32⟩
  | .hbm, ⟨20, _⟩ => ⟨S4096x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4095x2816, .f32⟩
  | .hbm, ⟨43, _⟩ => ⟨S1x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S1x2816, .f32⟩
  | .hbm, ⟨48, _⟩ => ⟨S4095x2816, .f32⟩
  | .hbm, ⟨49, _⟩ => ⟨S_, .f32⟩
  | .hbm, ⟨50, _⟩ => ⟨S4096x2816, .f32⟩
  | .hbm, ⟨51, _⟩ => ⟨S4096x2816, .f32⟩
  | .hbm, ⟨52, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_5 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== KernelNormBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNormBwdIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelGlaGateBwd.lean ====
abbrev S4096x1024 : Shape := ⟨2, ![4096, 1024]⟩
abbrev S4096x3200 : Shape := ⟨2, ![4096, 3200]⟩
abbrev S1x256 : Shape := ⟨2, ![1, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3200, .f32⟩
  | .hbm, ⟨3, _⟩ => ⟨S1x256, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x256, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S1x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v221 : BitVec 1 := Scalar.cmpi .eq arg0 c0_i32
  let v222 : BitVec 32 := Scalar.extui v221
  let c0_i32_104 : BitVec 32 := 0#32
  let v223 : BitVec 1 := Scalar.cmpi .ne v222 c0_i32_104
  v223

def k0_cond2 (i : grid0.Coords) : BitVec 1 :=
  let arg0 : BitVec 32 := BitVec.ofNat 32 (i 0).val
  let c0_i32_105 : BitVec 32 := 0#32
  let v224 : BitVec 1 := Scalar.cmpi .sgt arg0 c0_i32_105
  let v225 : BitVec 32 := Scalar.extui v224
  let c0_i32_106 : BitVec 32 := 0#32
  let v226 : BitVec 1 := Scalar.cmpi .ne v225 c0_i32_106
  v226

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceGlaGateBwdIdeal.lean ====
abbrev S4096x1024 : Shape := ⟨2, ![4096, 1024]⟩
abbrev S4096x3200 : Shape := ⟨2, ![4096, 3200]⟩
abbrev S1x256 : Shape := ⟨2, ![1, 256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩
abbrev S256 : Shape := ⟨1, ![256]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3200, .f32⟩
  | .hbm, ⟨3, _⟩ => ⟨S1x256, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x4x256, .f32⟩
  | .hbm, ⟨8, _⟩ => ⟨S4096x4x256, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x256, .f32⟩
  | .hbm, ⟨24, _⟩ => ⟨S4096x4x256, .f32⟩
  | .hbm, ⟨25, _⟩ => ⟨S1x1x256, .f32⟩
  | .hbm, ⟨26, _⟩ => ⟨S4096x4x256, .f32⟩
  | .hbm, ⟨27, _⟩ => ⟨S4096x4x256, .f32⟩
  | .hbm, ⟨28, _⟩ => ⟨S4096x4x256, .f32⟩
  | .hbm, ⟨29, _⟩ => ⟨S4096x4x256, .f32⟩
  | .hbm, ⟨30, _⟩ => ⟨S4096x4x256, .f32⟩
  | .hbm, ⟨31, _⟩ => ⟨S_, .f32⟩
  | .hbm, ⟨32, _⟩ => ⟨S4096x4x256, .f32⟩
  | .hbm, ⟨33, _⟩ => ⟨S4096x4x256, .f32⟩
  | .hbm, ⟨34, _⟩ => ⟨S_, .f32⟩
  | .hbm, ⟨35, _⟩ => ⟨S4096x4x256, .f32⟩
  | .hbm, ⟨36, _⟩ => ⟨S4096x4x256, .f32⟩
  | .hbm, ⟨37, _⟩ => ⟨S_, .f32⟩
  | .hbm, ⟨38, _⟩ => ⟨S4096x4x256, .f32⟩
  | .hbm, ⟨39, _⟩ => ⟨S4096x4x256, .f32⟩
  | .hbm, ⟨40, _⟩ => ⟨S4096x4x256, .f32⟩
  | .hbm, ⟨41, _⟩ => ⟨S4096x4x256, .f32⟩
  | .hbm, ⟨42, _⟩ => ⟨S4096x4x256, .f32⟩
  | .hbm, ⟨43, _⟩ => ⟨S4096x1024, .f32⟩
  | .hbm, ⟨44, _⟩ => ⟨S4096x4x256, .f32⟩
  | .hbm, ⟨45, _⟩ => ⟨S4096x4x256, .f32⟩
  | .hbm, ⟨46, _⟩ => ⟨S4096x4x256, .f32⟩
  | .hbm, ⟨47, _⟩ => ⟨S4096x4x256, .f32⟩
  | .hbm, ⟨48, _⟩ => ⟨S4096x4x256, .f32⟩
  | .hbm, ⟨49, _⟩ => ⟨S4096x4x256, .f32⟩
  | .hbm, ⟨50, _⟩ => ⟨S4096x4x256, .f32⟩
  | .hbm, ⟨51, _⟩ => ⟨S4096x1024, .f32⟩
  | .hbm, ⟨52, _⟩ => ⟨S4096x4x256, .f32⟩
  | .hbm, ⟨53, _⟩ => ⟨S_, .f32⟩
  | .hbm, ⟨54, _⟩ => ⟨S256, .f32⟩
  | .hbm, ⟨55, _⟩ => ⟨S1x1x256, .f32⟩
  | .hbm, ⟨56, _⟩ => ⟨S4096x4x256, .f32⟩
  | .hbm, ⟨57, _⟩ => ⟨S4096x4x256, .f32⟩
  | .hbm, ⟨58, _⟩ => ⟨S_, .f32⟩
  | .hbm, ⟨59, _⟩ => ⟨S256, .f32⟩
  | .hbm, ⟨60, _⟩ => ⟨S1x256, .f32⟩
  | .hbm, ⟨61, _⟩ => ⟨S4096x4x256, .f32⟩
  | .hbm, ⟨62, _⟩ => ⟨S_, .f32⟩
  | .hbm, ⟨63, _⟩ => ⟨S4096x4, .f32⟩
  | .hbm, ⟨64, _⟩ => ⟨S4096x4x1, .f32⟩
  | .hbm, ⟨65, _⟩ => ⟨S4096x4x256, .f32⟩
  | .hbm, ⟨66, _⟩ => ⟨S4096x4x256, .f32⟩
  | .hbm, ⟨67, _⟩ => ⟨S4096x4x1, .f32⟩
  | .hbm, ⟨68, _⟩ => ⟨S_, .f32⟩
  | .hbm, ⟨69, _⟩ => ⟨S4096x4x1, .f32⟩
  | .hbm, ⟨70, _⟩ => ⟨S4096x4x1, .f32⟩
  | .hbm, ⟨71, _⟩ => ⟨S_, .f32⟩
  | .hbm, ⟨72, _⟩ => ⟨S4096x4, .f32⟩
  | .hbm, ⟨73, _⟩ => ⟨S4096x4x256, .f32⟩
  | .hbm, ⟨74, _⟩ => ⟨S4096x4x256, .f32⟩
  | .hbm, ⟨75, _⟩ => ⟨S4096x4x256, .f32⟩
  | .hbm, ⟨76, _⟩ => ⟨S4096x4x256, .f32⟩
  | .hbm, ⟨77, _⟩ => ⟨S4096x4x256, .f32⟩
  | .hbm, ⟨78, _⟩ => ⟨S4096x1024, .f32⟩
  | .hbm, ⟨79, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Proof.Case.lean ====
/-
  What one grid point of the attention-gradient kernel leaves in its output blocks and in the scratch it fills, as
  terms of what it read: for each way the body's conditions fall, the stored values with every load read back.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.AttnCase

open Cert.KernelIdeal Cert.KernelIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

/-- The scores of a block of rows against every key (or value): the product of one with the other transposed. -/
abbrev scores (a : Vec F S256x128 .bf16) (b : Vec F S4096x128 .bf16) : Vec F S256x4096 .f32 := k0_pay1 a b

/-- The gradient block of the queries, from the scores `s` and the products `dp` of the incoming gradient with the values. -/
abbrev dqOf (k : Vec F S4096x128 .bf16) (s dp : Vec F S256x4096 .f32) : Vec F S256x128 .f32 :=
  k0_pay6 k (k0_pay15 s) (k0_pay16 s) dp (k0_pay17 s dp)

/-- The gradient of the keys after this block of rows, over what stood there before. -/
abbrev dkOf (q : Vec F S256x128 .bf16) (s dp : Vec F S256x4096 .f32) (prev : Vec F S4096x128 .f32) : Vec F S4096x128 .f32 :=
  k0_pay7 q (k0_pay15 s) (k0_pay16 s) dp (k0_pay17 s dp) prev

/-- The gradient of the values after this block of rows, over what stood there before. -/
abbrev dvOf (g : Vec F S256x128 .bf16) (s : Vec F S256x4096 .f32) (prev : Vec F S4096x128 .f32) : Vec F S4096x128 .f32 :=
  k0_pay8 g (k0_pay15 s) (k0_pay16 s) prev

/-- The zero block both accumulators start from. -/
abbrev zeros : Vec F S4096x128 .f32 := k0_pay3

variable (c : Dev nD) (i : grid0.Coords)
variable (a3 : Memref sig .tc .vmem S256x128 .bf16) (h3 : a3.IsWhole)
variable (a4 : Memref sig .tc .vmem S256x128 .bf16) (h4 : a4.IsWhole)
variable (a5 : Memref sig .tc .vmem S256x128 .bf16) (h5 : a5.IsWhole)
variable (a6 : Memref sig .tc .vmem S256x128 .bf16) (h6 : a6.IsWhole)
variable (a7 : Memref sig .tc .vmem S4096x128 .bf16) (h7 : a7.IsWhole)
variable (a8 : Memref sig .tc .vmem S4096x128 .bf16) (h8 : a8.IsWhole)
variable (a9 : Memref sig .tc .vmem S256x128 .f32) (h9 : a9.IsWhole)
variable (a10 : Memref sig .tc .vmem S4096x128 .f32) (h10 : a10.IsWhole)
variable (a11 : Memref sig .tc .vmem S4096x128 .f32) (h11 : a11.IsWhole)
variable (a12 : Memref sig .tc .vmem S256x4096 .f32) (h12 : a12.IsWhole)
variable (a13 : Memref sig .tc .vmem S256x4096 .f32) (h13 : a13.IsWhole)
variable (a14 : Memref sig .tc .vmem S256x4096 .f32) (h14 : a14.IsWhole)
variable (a15 : Memref sig .tc .vmem S256x4096 .f32) (h15 : a15.IsWhole)
variable (x0 x1 x2 x3 : Vec F S256x128 .bf16) (x4 x5 : Vec F S4096x128 .bf16) (o7 o8 : Vec F S4096x128 .f32) (s p : Vec F S256x4096 .f32)

/-- What the first row block of a key head (the accumulators start here) leaves in output 6. -/
theorem out_A_6 (c0 : cond0_0 i) (c1 : cond0_1 i) (c2 : cond0_2 i) (c3 : ¬cond0_3 i) :
    out0_A_6 c i a3 h3 a4 h4 a5 h5 a6 h6 a7 h7 a8 h8 a9 h9 a10 h10 a11 h11 a12 h12 a13 h13 a14 h14 a15 h15 c0 c1 c2 c3 x0 x1 x2 x3 x4 x5 = dqOf x4 (scores x0 x4) (scores x1 x5) := by
  unfold out0_A_6
  rw [View.read_writes_eq_canon _ _ _ (cover0_A_6 c i a3 h3 a4 h4 a5 h5 a6 h6 a7 h7 a8 h8 a9 h9 a10 h10 a11 h11 a12 h12 a13 h13 a14 h14 a15 h15 c0 c1 c2 c3 x0 x1 x2 x3 x4 x5)]
  unfold kernelRun0_A
  dsimp only
  sl_unfold_words
  first | rw [View.canon_unit_zero hz] | rw [View.canon_cons_unit_zero (S := S256x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What the first row block of a key head (the accumulators start here) leaves in output 7. -/
theorem out_A_7 (c0 : cond0_0 i) (c1 : cond0_1 i) (c2 : cond0_2 i) (c3 : ¬cond0_3 i) :
    out0_A_7 c i a3 h3 a4 h4 a5 h5 a6 h6 a7 h7 a8 h8 a9 h9 a10 h10 a11 h11 a12 h12 a13 h13 a14 h14 a15 h15 c0 c1 c2 c3 x0 x1 x2 x3 x4 x5 = dkOf x0 (scores x0 x4) (scores x1 x5) zeros := by
  unfold out0_A_7
  rw [View.read_writes_eq_canon _ _ _ (cover0_A_7 c i a3 h3 a4 h4 a5 h5 a6 h6 a7 h7 a8 h8 a9 h9 a10 h10 a11 h11 a12 h12 a13 h13 a14 h14 a15 h15 c0 c1 c2 c3 x0 x1 x2 x3 x4 x5)]
  unfold kernelRun0_A
  dsimp only
  sl_unfold_words
  first | rw [View.canon_unit_zero hz] | rw [View.canon_cons_unit_zero (S := S4096x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What the first row block of a key head (the accumulators start here) leaves in output 8. -/
theorem out_A_8 (c0 : cond0_0 i) (c1 : cond0_1 i) (c2 : cond0_2 i) (c3 : ¬cond0_3 i) :
    out0_A_8 c i a3 h3 a4 h4 a5 h5 a6 h6 a7 h7 a8 h8 a9 h9 a10 h10 a11 h11 a12 h12 a13 h13 a14 h14 a15 h15 c0 c1 c2 c3 x0 x1 x2 x3 x4 x5 = dvOf x1 (scores x0 x4) zeros := by
  unfold out0_A_8
  rw [View.read_writes_eq_canon _ _ _ (cover0_A_8 c i a3 h3 a4 h4 a5 h5 a6 h6 a7 h7 a8 h8 a9 h9 a10 h10 a11 h11 a12 h12 a13 h13 a14 h14 a15 h15 c0 c1 c2 c3 x0 x1 x2 x3 x4 x5)]
  unfold kernelRun0_A
  dsimp only
  sl_unfold_words
  first | rw [View.canon_unit_zero hz] | rw [View.canon_cons_unit_zero (S := S4096x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What the first row block of a key head (the accumulators start here) leaves in the scratch filled for the next point, buffer 2. -/
theorem next_A_2 (c0 : cond0_0 i) (c1 : cond0_1 i) (c2 : cond0_2 i) (c3 : ¬cond0_3 i) :
    sout0_A_2 c i a3 h3 a4 h4 a5 h5 a6 h6 a7 h7 a8 h8 a9 h9 a10 h10 a11 h11 a12 h12 a13 h13 a14 h14 a15 h15 c0 c1 c2 c3 x0 x1 x2 x3 x4 x5 = scores x2 x4 := by
  unfold sout0_A_2
  rw [View.read_writes_eq_canon _ _ _ (scover0_A_2 c i a3 h3 a4 h4 a5 h5 a6 h6 a7 h7 a8 h8 a9 h9 a10 h10 a11 h11 a12 h12 a13 h13 a14 h14 a15 h15 c0 c1 c2 c3 x0 x1 x2 x3 x4 x5)]
  unfold kernelRun0_A
  dsimp only
  sl_unfold_words
  first | rw [View.canon_unit_zero hz] | rw [View.canon_cons_unit_zero (S := S256x4096) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What the first row block of a key head (the accumulators start here) leaves in the scratch filled for the next point, buffer 3. -/
theorem next_A_3 (c0 : cond0_0 i) (c1 : cond0_1 i) (c2 : cond0_2 i) (c3 : ¬cond0_3 i) :
    sout0_A_3 c i a3 h3 a4 h4 a5 h5 a6 h6 a7 h7 a8 h8 a9 h9 a10 h10 a11 h11 a12 h12 a13 h13 a14 h14 a15 h15 c0 c1 c2 c3 x0 x1 x2 x3 x4 x5 = scores x3 x5 := by
  unfold sout0_A_3
  rw [View.read_writes_eq_canon _ _ _ (scover0_A_3 c i a3 h3 a4 h4 a5 h5 a6 h6 a7 h7 a8 h8 a9 h9 a10 h10 a11 h11 a12 h12 a13 h13 a14 h14 a15 h15 c0 c1 c2 c3 x0 x1 x2 x3 x4 x5)]
  unfold kernelRun0_A
  dsimp only
  sl_unfold_words
  first | rw [View.canon_unit_zero hz] | rw [View.canon_cons_unit_zero (S := S256x4096) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What an odd row block leaves in output 6. -/
theorem out_B_6 (c0 : ¬cond0_0 i) (c2 : ¬cond0_2 i) (c3 : cond0_3 i) :
    out0_B_6 c i a3 h3 a4 h4 a5 h5 a6 h6 a7 h7 a8 h8 a9 h9 a10 h10 a11 h11 a12 h12 a13 h13 a14 h14 a15 h15 c0 c2 c3 x0 x1 x2 x3 x4 x5 o7 o8 s p = dqOf x4 s p := by
  unfold out0_B_6
  rw [View.read_writes_eq_canon _ _ _ (cover0_B_6 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_B
  dsimp only
  sl_unfold_words
  first | rw [View.canon_unit_zero hz] | rw [View.canon_cons_unit_zero (S := S256x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What an odd row block leaves in output 7. -/
theorem out_B_7 (c0 : ¬cond0_0 i) (c2 : ¬cond0_2 i) (c3 : cond0_3 i) :
    out0_B_7 c i a3 h3 a4 h4 a5 h5 a6 h6 a7 h7 a8 h8 a9 h9 a10 h10 a11 h11 a12 h12 a13 h13 a14 h14 a15 h15 c0 c2 c3 x0 x1 x2 x3 x4 x5 o7 o8 s p = dkOf x0 s p o7 := by
  unfold out0_B_7
  rw [View.read_writes_eq_canon _ _ _ (cover0_B_7 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_B
  dsimp only
  sl_unfold_words
  first | rw [View.canon_unit_zero hz] | rw [View.canon_cons_unit_zero (S := S4096x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What an odd row block leaves in output 8. -/
theorem out_B_8 (c0 : ¬cond0_0 i) (c2 : ¬cond0_2 i) (c3 : cond0_3 i) :
    out0_B_8 c i a3 h3 a4 h4 a5 h5 a6 h6 a7 h7 a8 h8 a9 h9 a10 h10 a11 h11 a12 h12 a13 h13 a14 h14 a15 h15 c0 c2 c3 x0 x1 x2 x3 x4 x5 o7 o8 s p = dvOf x1 s o8 := by
  unfold out0_B_8
  rw [View.read_writes_eq_canon _ _ _ (cover0_B_8 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_B
  dsimp only
  sl_unfold_words
  first | rw [View.canon_unit_zero hz] | rw [View.canon_cons_unit_zero (S := S4096x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What an odd row block leaves in the scratch filled for the next point, buffer 0. -/
theorem next_B_0 (c0 : ¬cond0_0 i) (c2 : ¬cond0_2 i) (c3 : cond0_3 i) :
    sout0_B_0 c i a3 h3 a4 h4 a5 h5 a6 h6 a7 h7 a8 h8 a9 h9 a10 h10 a11 h11 a12 h12 a13 h13 a14 h14 a15 h15 c0 c2 c3 x0 x1 x2 x3 x4 x5 o7 o8 s p = scores x2 x4 := by
  unfold sout0_B_0
  rw [View.read_writes_eq_canon _ _ _ (scover0_B_0 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_B
  dsimp only
  sl_unfold_words
  first | rw [View.canon_unit_zero hz] | rw [View.canon_cons_unit_zero (S := S256x4096) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What an odd row block leaves in the scratch filled for the next point, buffer 1. -/
theorem next_B_1 (c0 : ¬cond0_0 i) (c2 : ¬cond0_2 i) (c3 : cond0_3 i) :
    sout0_B_1 c i a3 h3 a4 h4 a5 h5 a6 h6 a7 h7 a8 h8 a9 h9 a10 h10 a11 h11 a12 h12 a13 h13 a14 h14 a15 h15 c0 c2 c3 x0 x1 x2 x3 x4 x5 o7 o8 s p = scores x3 x5 := by
  unfold sout0_B_1
  rw [View.read_writes_eq_canon _ _ _ (scover0_B_1 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_B
  dsimp only
  sl_unfold_words
  first | rw [View.canon_unit_zero hz] | rw [View.canon_cons_unit_zero (S := S256x4096) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What a later even row block leaves in output 6. -/
theorem out_C_6 (c0 : ¬cond0_0 i) (c2 : cond0_2 i) (c3 : ¬cond0_3 i) :
    out0_C_6 c i a3 h3 a4 h4 a5 h5 a6 h6 a7 h7 a8 h8 a9 h9 a10 h10 a11 h11 a12 h12 a13 h13 a14 h14 a15 h15 c0 c2 c3 x0 x1 x2 x3 x4 x5 o7 o8 s p = dqOf x4 s p := by
  unfold out0_C_6
  rw [View.read_writes_eq_canon _ _ _ (cover0_C_6 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_C
  dsimp only
  sl_unfold_words
  first | rw [View.canon_unit_zero hz] | rw [View.canon_cons_unit_zero (S := S256x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What a later even row block leaves in output 7. -/
theorem out_C_7 (c0 : ¬cond0_0 i) (c2 : cond0_2 i) (c3 : ¬cond0_3 i) :
    out0_C_7 c i a3 h3 a4 h4 a5 h5 a6 h6 a7 h7 a8 h8 a9 h9 a10 h10 a11 h11 a12 h12 a13 h13 a14 h14 a15 h15 c0 c2 c3 x0 x1 x2 x3 x4 x5 o7 o8 s p = dkOf x0 s p o7 := by
  unfold out0_C_7
  rw [View.read_writes_eq_canon _ _ _ (cover0_C_7 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_C
  dsimp only
  sl_unfold_words
  first | rw [View.canon_unit_zero hz] | rw [View.canon_cons_unit_zero (S := S4096x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What a later even row block leaves in output 8. -/
theorem out_C_8 (c0 : ¬cond0_0 i) (c2 : cond0_2 i) (c3 : ¬cond0_3 i) :
    out0_C_8 c i a3 h3 a4 h4 a5 h5 a6 h6 a7 h7 a8 h8 a9 h9 a10 h10 a11 h11 a12 h12 a13 h13 a14 h14 a15 h15 c0 c2 c3 x0 x1 x2 x3 x4 x5 o7 o8 s p = dvOf x1 s o8 := by
  unfold out0_C_8
  rw [View.read_writes_eq_canon _ _ _ (cover0_C_8 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_C
  dsimp only
  sl_unfold_words
  first | rw [View.canon_unit_zero hz] | rw [View.canon_cons_unit_zero (S := S4096x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What a later even row block leaves in the scratch filled for the next point, buffer 2. -/
theorem next_C_2 (c0 : ¬cond0_0 i) (c2 : cond0_2 i) (c3 : ¬cond0_3 i) :
    sout0_C_2 c i a3 h3 a4 h4 a5 h5 a6 h6 a7 h7 a8 h8 a9 h9 a10 h10 a11 h11 a12 h12 a13 h13 a14 h14 a15 h15 c0 c2 c3 x0 x1 x2 x3 x4 x5 o7 o8 s p = scores x2 x4 := by
  unfold sout0_C_2
  rw [View.read_writes_eq_canon _ _ _ (scover0_C_2 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_C
  dsimp only
  sl_unfold_words
  first | rw [View.canon_unit_zero hz] | rw [View.canon_cons_unit_zero (S := S256x4096) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What a later even row block leaves in the scratch filled for the next point, buffer 3. -/
theorem next_C_3 (c0 : ¬cond0_0 i) (c2 : cond0_2 i) (c3 : ¬cond0_3 i) :
    sout0_C_3 c i a3 h3 a4 h4 a5 h5 a6 h6 a7 h7 a8 h8 a9 h9 a10 h10 a11 h11 a12 h12 a13 h13 a14 h14 a15 h15 c0 c2 c3 x0 x1 x2 x3 x4 x5 o7 o8 s p = scores x3 x5 := by
  unfold sout0_C_3
  rw [View.read_writes_eq_canon _ _ _ (scover0_C_3 c i a3 h3 a4 h4 a5 h5 a6 h6 a7 h7 a8 h8 a9 h9 a10 h10 a11 h11 a12 h12 a13 h13 a14 h14 a15 h15 c0 c2 c3 x0 x1 x2 x3 x4 x5 o7 o8 s p)]
  unfold kernelRun0_C
  dsimp only
  sl_unfold_words
  first | rw [View.canon_unit_zero hz] | rw [View.canon_cons_unit_zero (S := S256x4096) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What the first row block of a later query head leaves in output 6. -/
theorem out_D_6 (c0 : cond0_0 i) (c1 : ¬cond0_1 i) (c2 : cond0_2 i) (c3 : ¬cond0_3 i) :
    out0_D_6 c i a3 h3 a4 h4 a5 h5 a6 h6 a7 h7 a8 h8 a9 h9 a10 h10 a11 h11 a12 h12 a13 h13 a14 h14 a15 h15 c0 c1 c2 c3 x0 x1 x2 x3 x4 x5 o7 o8 = dqOf x4 (scores x0 x4) (scores x1 x5) := by
  unfold out0_D_6
  rw [View.read_writes_eq_canon _ _ _ (cover0_D_6 c i a3 h3 a4 h4 a5 h5 a6 h6 a7 h7 a8 h8 a9 h9 a10 h10 a11 h11 a12 h12 a13 h13 a14 h14 a15 h15 c0 c1 c2 c3 x0 x1 x2 x3 x4 x5 o7 o8)]
  unfold kernelRun0_D
  dsimp only
  sl_unfold_words
  first | rw [View.canon_unit_zero hz] | rw [View.canon_cons_unit_zero (S := S256x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What the first row block of a later query head leaves in output 7. -/
theorem out_D_7 (c0 : cond0_0 i) (c1 : ¬cond0_1 i) (c2 : cond0_2 i) (c3 : ¬cond0_3 i) :
    out0_D_7 c i a3 h3 a4 h4 a5 h5 a6 h6 a7 h7 a8 h8 a9 h9 a10 h10 a11 h11 a12 h12 a13 h13 a14 h14 a15 h15 c0 c1 c2 c3 x0 x1 x2 x3 x4 x5 o7 o8 = dkOf x0 (scores x0 x4) (scores x1 x5) o7 := by
  unfold out0_D_7
  rw [View.read_writes_eq_canon _ _ _ (cover0_D_7 c i a3 h3 a4 h4 a5 h5 a6 h6 a7 h7 a8 h8 a9 h9 a10 h10 a11 h11 a12 h12 a13 h13 a14 h14 a15 h15 c0 c1 c2 c3 x0 x1 x2 x3 x4 x5 o7 o8)]
  unfold kernelRun0_D
  dsimp only
  sl_unfold_words
  first | rw [View.canon_unit_zero hz] | rw [View.canon_cons_unit_zero (S := S4096x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What the first row block of a later query head leaves in output 8. -/
theorem out_D_8 (c0 : cond0_0 i) (c1 : ¬cond0_1 i) (c2 : cond0_2 i) (c3 : ¬cond0_3 i) :
    out0_D_8 c i a3 h3 a4 h4 a5 h5 a6 h6 a7 h7 a8 h8 a9 h9 a10 h10 a11 h11 a12 h12 a13 h13 a14 h14 a15 h15 c0 c1 c2 c3 x0 x1 x2 x3 x4 x5 o7 o8 = dvOf x1 (scores x0 x4) o8 := by
  unfold out0_D_8
  rw [View.read_writes_eq_canon _ _ _ (cover0_D_8 c i a3 h3 a4 h4 a5 h5 a6 h6 a7 h7 a8 h8 a9 h9 a10 h10 a11 h11 a12 h12 a13 h13 a14 h14 a15 h15 c0 c1 c2 c3 x0 x1 x2 x3 x4 x5 o7 o8)]
  unfold kernelRun0_D
  dsimp only
  sl_unfold_words
  first | rw [View.canon_unit_zero hz] | rw [View.canon_cons_unit_zero (S := S4096x128) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What the first row block of a later query head leaves in the scratch filled for the next point, buffer 2. -/
theorem next_D_2 (c0 : cond0_0 i) (c1 : ¬cond0_1 i) (c2 : cond0_2 i) (c3 : ¬cond0_3 i) :
    sout0_D_2 c i a3 h3 a4 h4 a5 h5 a6 h6 a7 h7 a8 h8 a9 h9 a10 h10 a11 h11 a12 h12 a13 h13 a14 h14 a15 h15 c0 c1 c2 c3 x0 x1 x2 x3 x4 x5 o7 o8 = scores x2 x4 := by
  unfold sout0_D_2
  rw [View.read_writes_eq_canon _ _ _ (scover0_D_2 c i a3 h3 a4 h4 a5 h5 a6 h6 a7 h7 a8 h8 a9 h9 a10 h10 a11 h11 a12 h12 a13 h13 a14 h14 a15 h15 c0 c1 c2 c3 x0 x1 x2 x3 x4 x5 o7 o8)]
  unfold kernelRun0_D
  dsimp only
  sl_unfold_words
  first | rw [View.canon_unit_zero hz] | rw [View.canon_cons_unit_zero (S := S256x4096) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

/-- What the first row block of a later query head leaves in the scratch filled for the next point, buffer 3. -/
theorem next_D_3 (c0 : cond0_0 i) (c1 : ¬cond0_1 i) (c2 : cond0_2 i) (c3 : ¬cond0_3 i) :
    sout0_D_3 c i a3 h3 a4 h4 a5 h5 a6 h6 a7 h7 a8 h8 a9 h9 a10 h10 a11 h11 a12 h12 a13 h13 a14 h14 a15 h15 c0 c1 c2 c3 x0 x1 x2 x3 x4 x5 o7 o8 = scores x3 x5 := by
  unfold sout0_D_3
  rw [View.read_writes_eq_canon _ _ _ (scover0_D_3 c i a3 h3 a4 h4 a5 h5 a6 h6 a7 h7 a8 h8 a9 h9 a10 h10 a11 h11 a12 h12 a13 h13 a14 h14 a15 h15 c0 c1 c2 c3 x0 x1 x2 x3 x4 x5 o7 o8)]
  unfold kernelRun0_D
  dsimp only
  sl_unfold_words
  first | rw [View.canon_unit_zero hz] | rw [View.canon_cons_unit_zero (S := S256x4096) hz]
  simp only [View.readAt_eq_ld, View.readCov_unit_zero (S := S256x4096) _ hz, View.readCov_unit_zero (S := S4096x128) _ hz, View.readCov_unit_zero (S := S256x128) _ hz, h3.read_unread, h4.read_unread, h5.read_unread, h6.read_unread, h7.read_unread,
    h8.read_unread, h10.read_unread, h11.read_unread, h12.read_unread, h13.read_unread, h14.read_unread, h15.read_unread,
    View.ld_unit_zero (S := S256x128) hz, View.ld_unit_zero (S := S4096x128) hz, View.ld_unit_zero (S := S256x4096) hz]
  first | done | rfl

end Cert.KernelIdeal.AttnCase

end
-- ==== Proof.State.lean ====
/-
  The carried state of the attention-gradient kernel after each grid point: the blocks a point reads, as entries of the
  two argument arrays; the scratch it finds; and what it leaves in the three output blocks.
-/
module

public import proofs.«01_k».proof.Proof.Case
public import Idealize.ShloMosaic.Lib.Pointwise

@[expose] public section

set_option maxRecDepth 16384

noncomputable section

namespace Cert.KernelIdeal.AttnState

open Cert.KernelIdeal Cert.KernelIdeal.Gen Cert.KernelIdeal.AttnCase
open Idealize.ShloMosaic Idealize.ShloMosaic.TcCoe Idealize.SL.Sem

variable {F : FTy → Type} [FloatOps F] [Named F]
variable (m : (ℓ : Loc nD τ sig) → Buf (Elt F) ℓ) (c : Dev nD)

/-- The rotated queries, keys and values, as launched. -/
abbrev X : Vec F S4096x1536 .bf16 := m ((c : Thread nD τ).loc main_arg0)
/-- The gradient of the attention's result, as launched. -/
abbrev Y : Vec F S4096x1024 .bf16 := m ((c : Thread nD τ).loc main_arg1)

theorem lt128 (t : Fin cfg0.N) : t.val < 128 := lt_of_lt_of_eq t.isLt N_0

theorem index0 : ∀ t : Fin cfg0.N, win0_0.index t (0 : Fin 2) = t.val % 16 ∧ win0_0.index t (1 : Fin 2) = t.val / 16 :=
  (by decide +kernel : ∀ t : Fin grid0.N, _)

/-- Input 0 at point `t`: a block of query rows, read off the array. -/
theorem blk0 (t : Fin cfg0.N) (r : Fin 256) (d : Fin 128) :
    (iblk m c 0 t : Vec F S256x128 .bf16) (ix2 r d)
      = X m c (ix2 ⟨256 * (t.val % 16) + r.val, by have := lt128 t; omega⟩ ⟨128 * (t.val / 16) + d.val, by have := lt128 t; omega⟩) := by
  obtain ⟨e0, e1⟩ := index0 t
  unfold iblk
  rw [View.read_apply]
  show V m c main_arg0 _ = m (c.tc.loc main_arg0) _
  unfold V
  congr 1
  funext a
  apply Fin.ext
  match a with
  | ⟨0, _⟩ => show win0_0.index t 0 * 256 + 1 * r.val = 256 * (t.val % 16) + r.val; rw [e0]; omega
  | ⟨1, _⟩ => show win0_0.index t 1 * 128 + 1 * d.val = 128 * (t.val / 16) + d.val; rw [e1]; omega

theorem index1 : ∀ t : Fin cfg0.N, win0_1.index t (0 : Fin 2) = t.val % 16 ∧ win0_1.index t (1 : Fin 2) = t.val / 16 :=
  (by decide +kernel : ∀ t : Fin grid0.N, _)

/-- Input 1 at point `t`: a block of rows of the incoming gradient, read off the array. -/
theorem blk1 (t : Fin cfg0.N) (r : Fin 256) (d : Fin 128) :
    (iblk m c 1 t : Vec F S256x128 .bf16) (ix2 r d)
      = Y m c (ix2 ⟨256 * (t.val % 16) + r.val, by have := lt128 t; omega⟩ ⟨128 * (t.val / 16) + d.val, by have := lt128 t; omega⟩) := by
  obtain ⟨e0, e1⟩ := index1 t
  unfold iblk
  rw [View.read_apply]
  show V m c main_arg1 _ = m (c.tc.loc main_arg1) _
  unfold V
  congr 1
  funext a
  apply Fin.ext
  match a with
  | ⟨0, _⟩ => show win0_1.index t 0 * 256 + 1 * r.val = 256 * (t.val % 16) + r.val; rw [e0]; omega
  | ⟨1, _⟩ => show win0_1.index t 1 * 128 + 1 * d.val = 128 * (t.val / 16) + d.val; rw [e1]; omega

theorem index2 : ∀ t : Fin cfg0.N, win0_2.index t (0 : Fin 2) = min (t.val % 16 + 1) 15 ∧ win0_2.index t (1 : Fin 2) = t.val / 16 :=
  (by decide +kernel : ∀ t : Fin grid0.N, _)

/-- Input 2 at point `t`: the next block of query rows, read off the array. -/
theorem blk2 (t : Fin cfg0.N) (r : Fin 256) (d : Fin 128) :
    (iblk m c 2 t : Vec F S256x128 .bf16) (ix2 r d)
      = X m c (ix2 ⟨256 * min (t.val % 16 + 1) 15 + r.val, by have := lt128 t; omega⟩ ⟨128 * (t.val / 16) + d.val, by have := lt128 t; omega⟩) := by
  obtain ⟨e0, e1⟩ := index2 t
  unfold iblk
  rw [View.read_apply]
  show V m c main_arg0 _ = m (c.tc.loc main_arg0) _
  unfold V
  congr 1
  funext a
  apply Fin.ext
  match a with
  | ⟨0, _⟩ => show win0_2.index t 0 * 256 + 1 * r.val = 256 * min (t.val % 16 + 1) 15 + r.val; rw [e0]; omega
  | ⟨1, _⟩ => show win0_2.index t 1 * 128 + 1 * d.val = 128 * (t.val / 16) + d.val; rw [e1]; omega

theorem index3 : ∀ t : Fin cfg0.N, win0_3.index t (0 : Fin 2) = min (t.val % 16 + 1) 15 ∧ win0_3.index t (1 : Fin 2) = t.val / 16 :=
  (by decide +kernel : ∀ t : Fin grid0.N, _)

/-- Input 3 at point `t`: the next block of rows of the incoming gradient, read off the array. -/
theorem blk3 (t : Fin cfg0.N) (r : Fin 256) (d : Fin 128) :
    (iblk m c 3 t : Vec F S256x128 .bf16) (ix2 r d)
      = Y m c (ix2 ⟨256 * min (t.val % 16 + 1) 15 + r.val, by have := lt128 t; omega⟩ ⟨128 * (t.val / 16) + d.val, by have := lt128 t; omega⟩) := by
  obtain ⟨e0, e1⟩ := index3 t
  unfold iblk
  rw [View.read_apply]
  show V m c main_arg1 _ = m (c.tc.loc main_arg1) _
  unfold V
  congr 1
  funext a
  apply Fin.ext
  match a with
  | ⟨0, _⟩ => show win0_3.index t 0 * 256 + 1 * r.val = 256 * min (t.val % 16 + 1) 15 + r.val; rw [e0]; omega
  | ⟨1, _⟩ => show win0_3.index t 1 * 128 + 1 * d.val = 128 * (t.val / 16) + d.val; rw [e1]; omega

theorem index4 : ∀ t : Fin cfg0.N, win0_4.index t (0 : Fin 2) = 0 ∧ win0_4.index t (1 : Fin 2) = 8 + t.val / 64 :=
  (by decide +kernel : ∀ t : Fin grid0.N, _)

/-- Input 4 at point `t`: the keys of a head, read off the array. -/
theorem blk4 (t : Fin cfg0.N) (r : Fin 4096) (d : Fin 128) :
    (iblk m c 4 t : Vec F S4096x128 .bf16) (ix2 r d)
      = X m c (ix2 ⟨0 + r.val, by have := lt128 t; omega⟩ ⟨1024 + 128 * (t.val / 64) + d.val, by have := lt128 t; omega⟩) := by
  obtain ⟨e0, e1⟩ := index4 t
  unfold iblk
  rw [View.read_apply]
  show V m c main_arg0 _ = m (c.tc.loc main_arg0) _
  unfold V
  congr 1
  funext a
  apply Fin.ext
  match a with
  | ⟨0, _⟩ => show win0_4.index t 0 * 4096 + 1 * r.val = 0 + r.val; rw [e0]; omega
  | ⟨1, _⟩ => show win0_4.index t 1 * 128 + 1 * d.val = 1024 + 128 * (t.val / 64) + d.val; rw [e1]; omega

theorem index5 : ∀ t : Fin cfg0.N, win0_5.index t (0 : Fin 2) = 0 ∧ win0_5.index t (1 : Fin 2) = 10 + t.val / 64 :=
  (by decide +kernel : ∀ t : Fin grid0.N, _)

/-- Input 5 at point `t`: the values of a head, read off the array. -/
theorem blk5 (t : Fin cfg0.N) (r : Fin 4096) (d : Fin 128) :
    (iblk m c 5 t : Vec F S4096x128 .bf16) (ix2 r d)
      = X m c (ix2 ⟨0 + r.val, by have := lt128 t; omega⟩ ⟨1280 + 128 * (t.val / 64) + d.val, by have := lt128 t; omega⟩) := by
  obtain ⟨e0, e1⟩ := index5 t
  unfold iblk
  rw [View.read_apply]
  show V m c main_arg0 _ = m (c.tc.loc main_arg0) _
  unfold V
  congr 1
  funext a
  apply Fin.ext
  match a with
  | ⟨0, _⟩ => show win0_5.index t 0 * 4096 + 1 * r.val = 0 + r.val; rw [e0]; omega
  | ⟨1, _⟩ => show win0_5.index t 1 * 128 + 1 * d.val = 1280 + 128 * (t.val / 64) + d.val; rw [e1]; omega

/-- Between two points of one sweep over the rows, input 2 at the first is input 0 at the second. -/
theorem shift2 (t t' : Fin cfg0.N) (ht : t.val = t'.val + 1) (h : t.val % 16 ≠ 0) :
    (iblk m c 2 t' : Vec F S256x128 .bf16) = iblk m c 0 t := by
  funext j
  rw [eq_ix2 j]
  refine (blk2 m c t' (j 0) (j 1)).trans (Eq.trans ?_ (blk0 m c t (j 0) (j 1)).symm)
  refine congrArg _ (funext fun x => Fin.ext ?_)
  match x with
  | ⟨0, _⟩ => show 256 * min (t'.val % 16 + 1) 15 + (j 0).val = 256 * (t.val % 16) + (j 0).val; omega
  | ⟨1, _⟩ => show 128 * (t'.val / 16) + (j 1).val = 128 * (t.val / 16) + (j 1).val; omega

/-- Between two points of one sweep over the rows, input 3 at the first is input 1 at the second. -/
theorem shift3 (t t' : Fin cfg0.N) (ht : t.val = t'.val + 1) (h : t.val % 16 ≠ 0) :
    (iblk m c 3 t' : Vec F S256x128 .bf16) = iblk m c 1 t := by
  funext j
  rw [eq_ix2 j]
  refine (blk3 m c t' (j 0) (j 1)).trans (Eq.trans ?_ (blk1 m c t (j 0) (j 1)).symm)
  refine congrArg _ (funext fun x => Fin.ext ?_)
  match x with
  | ⟨0, _⟩ => show 256 * min (t'.val % 16 + 1) 15 + (j 0).val = 256 * (t.val % 16) + (j 0).val; omega
  | ⟨1, _⟩ => show 128 * (t'.val / 16) + (j 1).val = 128 * (t.val / 16) + (j 1).val; omega

/-- Between two points of one sweep over the rows, input 4 at the first is input 4 at the second. -/
theorem shift4 (t t' : Fin cfg0.N) (ht : t.val = t'.val + 1) (h : t.val % 16 ≠ 0) :
    (iblk m c 4 t' : Vec F S4096x128 .bf16) = iblk m c 4 t := by
  funext j
  rw [eq_ix2 j]
  refine (blk4 m c t' (j 0) (j 1)).trans (Eq.trans ?_ (blk4 m c t (j 0) (j 1)).symm)
  refine congrArg _ (funext fun x => Fin.ext ?_)
  match x with
  | ⟨0, _⟩ => show 0 + (j 0).val = 0 + (j 0).val; omega
  | ⟨1, _⟩ => show 1024 + 128 * (t'.val / 64) + (j 1).val = 1024 + 128 * (t.val / 64) + (j 1).val; omega

/-- Between two points of one sweep over the rows, input 5 at the first is input 5 at the second. -/
theorem shift5 (t t' : Fin cfg0.N) (ht : t.val = t'.val + 1) (h : t.val % 16 ≠ 0) :
    (iblk m c 5 t' : Vec F S4096x128 .bf16) = iblk m c 5 t := by
  funext j
  rw [eq_ix2 j]
  refine (blk5 m c t' (j 0) (j 1)).trans (Eq.trans ?_ (blk5 m c t (j 0) (j 1)).symm)
  refine congrArg _ (funext fun x => Fin.ext ?_)
  match x with
  | ⟨0, _⟩ => show 0 + (j 0).val = 0 + (j 0).val; omega
  | ⟨1, _⟩ => show 1280 + 128 * (t'.val / 64) + (j 1).val = 1280 + 128 * (t.val / 64) + (j 1).val; omega

/-- The scores of the rows point `t` works on. -/
abbrev S (t : Fin cfg0.N) : Vec F S256x4096 .f32 := scores (iblk m c 0 t) (iblk m c 4 t)
/-- The products of the incoming gradient's rows at point `t` with the values. -/
abbrev P (t : Fin cfg0.N) : Vec F S256x4096 .f32 := scores (iblk m c 1 t) (iblk m c 5 t)

/-- The state after point `t`. -/
abbrev st (t : Fin cfg0.N) := outsAt0 m c t.val t.isLt
/-- The state point `t` finds. -/
abbrev pst (t : Fin cfg0.N) := outsAt0 m c (t.val - 1) (Nat.lt_of_le_of_lt (Nat.sub_le _ _) t.isLt)

/-- After an even point the second pair of scratch buffers holds the next rows' products. -/
theorem left_even (t : Fin cfg0.N) (h : t.val % 2 = 0) :
    (st m c t).2.2.2.2.2.1 = scores (iblk m c 2 t) (iblk m c 4 t)
      ∧ (st m c t).2.2.2.2.2.2 = scores (iblk m c 3 t) (iblk m c 5 t) := by
  have h3 : ¬t.val % 2 = 1 := by omega
  by_cases h0 : t.val % 16 = 0
  · by_cases h1 : t.val / 16 % 4 = 0
    · unfold st; rw [outsAt0_A m c t h0 h1 h h3]; dsimp only; rw [next_A_2, next_A_3]; exact ⟨rfl, rfl⟩
    · unfold st; rw [outsAt0_D m c t h0 h1 h h3]; dsimp only; rw [next_D_2, next_D_3]; exact ⟨rfl, rfl⟩
  · unfold st; rw [outsAt0_C m c t h0 h h3]; dsimp only; rw [next_C_2, next_C_3]; exact ⟨rfl, rfl⟩

/-- After an odd point the first pair does. -/
theorem left_odd (t : Fin cfg0.N) (h : t.val % 2 = 1) :
    (st m c t).2.2.2.1 = scores (iblk m c 2 t) (iblk m c 4 t)
      ∧ (st m c t).2.2.2.2.1 = scores (iblk m c 3 t) (iblk m c 5 t) := by
  unfold st
  rw [outsAt0_B m c t (by omega) (by omega) h]; dsimp only; rw [next_B_0, next_B_1]; exact ⟨rfl, rfl⟩

/-- What an odd point finds in the second pair: its own rows' products. -/
theorem found_odd (t : Fin cfg0.N) (h : t.val % 2 = 1) :
    (pst m c t).2.2.2.2.2.1 = S m c t ∧ (pst m c t).2.2.2.2.2.2 = P m c t := by
  have hp := left_even m c ⟨t.val - 1, Nat.lt_of_le_of_lt (Nat.sub_le _ _) t.isLt⟩ (by show (t.val - 1) % 2 = 0; omega)
  have ht : t.val = (⟨t.val - 1, Nat.lt_of_le_of_lt (Nat.sub_le _ _) t.isLt⟩ : Fin cfg0.N).val + 1 := by
    show t.val = t.val - 1 + 1; omega
  rw [shift2 m c t _ ht (by omega), shift3 m c t _ ht (by omega), shift4 m c t _ ht (by omega), shift5 m c t _ ht (by omega)] at hp
  exact hp

/-- What a later even point finds in the first pair: its own rows' products. -/
theorem found_even (t : Fin cfg0.N) (h : t.val % 2 = 0) (h0 : t.val % 16 ≠ 0) :
    (pst m c t).2.2.2.1 = S m c t ∧ (pst m c t).2.2.2.2.1 = P m c t := by
  have hp := left_odd m c ⟨t.val - 1, Nat.lt_of_le_of_lt (Nat.sub_le _ _) t.isLt⟩ (by show (t.val - 1) % 2 = 1; omega)
  have ht : t.val = (⟨t.val - 1, Nat.lt_of_le_of_lt (Nat.sub_le _ _) t.isLt⟩ : Fin cfg0.N).val + 1 := by
    show t.val = t.val - 1 + 1; omega
  rw [shift2 m c t _ ht (by omega), shift3 m c t _ ht (by omega), shift4 m c t _ ht (by omega), shift5 m c t _ ht (by omega)] at hp
  exact hp

/-- The first point of a key head. -/
theorem outs_A (t : Fin cfg0.N) (h0 : t.val % 16 = 0) (h1 : t.val / 16 % 4 = 0) (h2 : t.val % 2 = 0) (h3 : ¬t.val % 2 = 1) :
    (st m c t).1 = dqOf (iblk m c 4 t) (S m c t) (P m c t)
      ∧ (st m c t).2.1 = dkOf (iblk m c 0 t) (S m c t) (P m c t) zeros
      ∧ (st m c t).2.2.1 = dvOf (iblk m c 1 t) (S m c t) zeros := by
  unfold st
  rw [outsAt0_A m c t h0 h1 h2 h3]
  dsimp only
  rw [out_A_6, out_A_7, out_A_8]
  exact ⟨rfl, rfl, rfl⟩

/-- The first point of a later query head. -/
theorem outs_D (t : Fin cfg0.N) (h0 : t.val % 16 = 0) (h1 : ¬t.val / 16 % 4 = 0) (h2 : t.val % 2 = 0) (h3 : ¬t.val % 2 = 1) :
    (st m c t).1 = dqOf (iblk m c 4 t) (S m c t) (P m c t)
      ∧ (st m c t).2.1 = dkOf (iblk m c 0 t) (S m c t) (P m c t) (pst m c t).2.1
      ∧ (st m c t).2.2.1 = dvOf (iblk m c 1 t) (S m c t) (pst m c t).2.2.1 := by
  unfold st
  rw [outsAt0_D m c t h0 h1 h2 h3]
  dsimp only
  rw [out_D_6, out_D_7, out_D_8]
  exact ⟨rfl, rfl, rfl⟩

/-- A later even point, over whatever scratch it finds. -/
theorem outs_C (t : Fin cfg0.N) (h0 : ¬t.val % 16 = 0) (h2 : t.val % 2 = 0) (h3 : ¬t.val % 2 = 1) :
    (st m c t).1 = dqOf (iblk m c 4 t) (pst m c t).2.2.2.1 (pst m c t).2.2.2.2.1
      ∧ (st m c t).2.1 = dkOf (iblk m c 0 t) (pst m c t).2.2.2.1 (pst m c t).2.2.2.2.1 (pst m c t).2.1
      ∧ (st m c t).2.2.1 = dvOf (iblk m c 1 t) (pst m c t).2.2.2.1 (pst m c t).2.2.1 := by
  unfold st
  rw [outsAt0_C m c t h0 h2 h3]
  dsimp only
  rw [out_C_6, out_C_7, out_C_8]
  exact ⟨rfl, rfl, rfl⟩

/-- An odd point, over whatever scratch it finds. -/
theorem outs_B (t : Fin cfg0.N) (h0 : ¬t.val % 16 = 0) (h2 : ¬t.val % 2 = 0) (h3 : t.val % 2 = 1) :
    (st m c t).1 = dqOf (iblk m c 4 t) (pst m c t).2.2.2.2.2.1 (pst m c t).2.2.2.2.2.2
      ∧ (st m c t).2.1 = dkOf (iblk m c 0 t) (pst m c t).2.2.2.2.2.1 (pst m c t).2.2.2.2.2.2 (pst m c t).2.1
      ∧ (st m c t).2.2.1 = dvOf (iblk m c 1 t) (pst m c t).2.2.2.2.2.1 (pst m c t).2.2.1 := by
  unfold st
  rw [outsAt0_B m c t h0 h2 h3]
  dsimp only
  rw [out_B_6, out_B_7, out_B_8]
  exact ⟨rfl, rfl, rfl⟩

/-- EVERY point leaves the queries' gradient of its own rows, and grows the two accumulators by its own rows — from zero
    at a key head's first point. -/
theorem outs_at (t : Fin cfg0.N) :
    (st m c t).1 = dqOf (iblk m c 4 t) (S m c t) (P m c t)
      ∧ (st m c t).2.1 = dkOf (iblk m c 0 t) (S m c t) (P m c t) (if t.val % 64 = 0 then zeros else (pst m c t).2.1)
      ∧ (st m c t).2.2.1 = dvOf (iblk m c 1 t) (S m c t) (if t.val % 64 = 0 then zeros else (pst m c t).2.2.1) := by
  by_cases h0 : t.val % 16 = 0
  · have h2 : t.val % 2 = 0 := by omega
    have h3 : ¬t.val % 2 = 1 := by omega
    by_cases h1 : t.val / 16 % 4 = 0
    · have hi : t.val % 64 = 0 := by omega
      rw [if_pos hi, if_pos hi]
      exact outs_A m c t h0 h1 h2 h3
    · have hi : ¬t.val % 64 = 0 := by omega
      rw [if_neg hi, if_neg hi]
      exact outs_D m c t h0 h1 h2 h3
  · have hi : ¬t.val % 64 = 0 := by omega
    rw [if_neg hi, if_neg hi]
    by_cases h2 : t.val % 2 = 0
    · have h3 : ¬t.val % 2 = 1 := by omega
      obtain ⟨hs, hp⟩ := found_even m c t h2 h0
      have hc := outs_C m c t h0 h2 h3
      rw [hs, hp] at hc
      exact hc
    · have h3 : t.val % 2 = 1 := by omega
      obtain ⟨hs, hp⟩ := found_odd m c t h3
      have hc := outs_B m c t h0 h2 h3
      rw [hs, hp] at hc
      exact hc

end Cert.KernelIdeal.AttnState

end
-- ==== Proof.Final.lean ====
/-
  The three result arrays of the attention-gradient kernel after its run: each entry is an entry of the block that the
  grid point holding it wrote back last.
-/
module

public import proofs.«01_k».proof.Proof.State

@[expose] public section

set_option maxRecDepth 16384

noncomputable section

namespace Cert.KernelIdeal.AttnFinal

open Cert.KernelIdeal Cert.KernelIdeal.Gen Cert.KernelIdeal.AttnState
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg) (c : Dev nD)

/-- The point that writes back row `a`, column `b` of the queries' gradient. -/
abbrev ptQ (a : Fin 4096) (b : Fin 1024) : Fin cfg0.N :=
  ⟨16 * (b.val / 128) + a.val / 256, lt_of_lt_of_eq (by omega) N_0.symm⟩
/-- The last point of the sweep that sums up column `b` of the keys' and the values' gradients. -/
abbrev ptK (b : Fin 256) : Fin cfg0.N :=
  ⟨64 * (b.val / 128) + 63, lt_of_lt_of_eq (by omega) N_0.symm⟩

/-- The queries' gradient after the run. -/
def DQ : Vec F S4096x1024 .f32 := fun i =>
  (st m c (ptQ (i 0) (i 1))).1 (ix2 ⟨(i 0).val % 256, Nat.mod_lt _ (by decide)⟩ ⟨(i 1).val % 128, Nat.mod_lt _ (by decide)⟩)
/-- The keys' gradient after the run. -/
def DK : Vec F S4096x256 .f32 := fun i =>
  (st m c (ptK (i 1))).2.1 (ix2 (i 0) ⟨(i 1).val % 128, Nat.mod_lt _ (by decide)⟩)
/-- The values' gradient after the run. -/
def DV : Vec F S4096x256 .f32 := fun i =>
  (st m c (ptK (i 1))).2.2.1 (ix2 (i 0) ⟨(i 1).val % 128, Nat.mod_lt _ (by decide)⟩)

theorem index6 : ∀ t : Fin cfg0.N, win0_6.index t (0 : Fin 2) = t.val % 16 ∧ win0_6.index t (1 : Fin 2) = t.val / 16 :=
  (by decide +kernel : ∀ t : Fin grid0.N, _)

/-- What a point writes back to result 0 is its block of `DQ`. -/
theorem wrote6 (t : Fin cfg0.N) (hf : (cfg0.win 6).flush t = true) :
    (dats m 0 c).flushed 6 t = ((cfg0.win 6).blk t).view.read (Elt F) (DQ m c) := by
  show (cfg0.win 6).cut (grid0.coords t) ((dats m 0 c).after 6 t) = _
  rw [after0_6]
  obtain ⟨e0, e1⟩ := index6 t
  have ht := lt128 t
  funext y
  have hy0 : (y 0).val < 256 := (y 0).isLt
  have hy1 : (y 1).val < 128 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 128 + 1 * (y 1).val := rfl
  rw [e0] at hb0
  rw [e1] at hb1
  show (outsAt0 m c t.val t.isLt).1 ((cfg0.win 6).xinj (grid0.coords t) y) = DQ m c (((cfg0.win 6).blk t).view.emb y)
  unfold DQ
  have hp : ptQ (((cfg0.win 6).blk t).view.emb y 0) (((cfg0.win 6).blk t).view.emb y 1) = t := by
    apply Fin.ext
    show 16 * ((((cfg0.win 6).blk t).view.emb y 1).val / 128) + (((cfg0.win 6).blk t).view.emb y 0).val / 256 = t.val
    rw [hb0, hb1]; omega
  rw [hp]
  refine congrArg _ (funext fun a => Fin.ext ?_)
  match a with
  | ⟨0, _⟩ => show (y 0).val = (((cfg0.win 6).blk t).view.emb y 0).val % 256; rw [hb0]; omega
  | ⟨1, _⟩ => show (y 1).val = (((cfg0.win 6).blk t).view.emb y 1).val % 128; rw [hb1]; omega

/-- Result 0 after the run. -/
theorem final6 : (dats m 0 c).arrAt 6 cfg0.N = DQ m c :=
  (dats m 0 c).arrAt_eq_of_cover 6 (DQ m c) (wrote6 m c) fun i => by
    have h0 : (i 0).val < 4096 := (i 0).isLt
    have h1 : (i 1).val < 1024 := (i 1).isLt
    let t : Fin cfg0.N := ptQ (i 0) (i 1)
    have ht : t.val = 16 * ((i 1).val / 128) + (i 0).val / 256 := rfl
    obtain ⟨e0, e1⟩ := index6 t
    refine ⟨t, flush0_6 t, ?_⟩
    show i ∈ ((View.whole main_v0_0).slice (win0_6.rect t)).set
    rw [View.set_slice_whole, Rect.mem_set_unit]
    intro a
    match a with
    | ⟨0, _⟩ => show win0_6.index t 0 * 256 ≤ (i 0).val ∧ (i 0).val < win0_6.index t 0 * 256 + 256; rw [e0]; omega
    | ⟨1, _⟩ => show win0_6.index t 1 * 128 ≤ (i 1).val ∧ (i 1).val < win0_6.index t 1 * 128 + 128; rw [e1]; omega

theorem index7 : ∀ t : Fin cfg0.N, win0_7.index t (0 : Fin 2) = 0 ∧ win0_7.index t (1 : Fin 2) = t.val / 64 :=
  (by decide +kernel : ∀ t : Fin grid0.N, _)

/-- What a point writes back to result 1 is its block of `DK`. -/
theorem wrote7 (t : Fin cfg0.N) (hf : (cfg0.win 7).flush t = true) :
    (dats m 0 c).flushed 7 t = ((cfg0.win 7).blk t).view.read (Elt F) (DK m c) := by
  show (cfg0.win 7).cut (grid0.coords t) ((dats m 0 c).after 7 t) = _
  rw [after0_7]
  obtain ⟨e0, e1⟩ := index7 t
  have ht := lt128 t
  have hm : t.val % 64 = 63 := (flush0_7 t).mp hf
  funext y
  have hy0 : (y 0).val < 4096 := (y 0).isLt
  have hy1 : (y 1).val < 128 := (y 1).isLt
  have hb0 : (((cfg0.win 7).blk t).view.emb y 0).val = win0_7.index t (0 : Fin 2) * 4096 + 1 * (y 0).val := rfl
  have hb1 : (((cfg0.win 7).blk t).view.emb y 1).val = win0_7.index t (1 : Fin 2) * 128 + 1 * (y 1).val := rfl
  rw [e0] at hb0
  rw [e1] at hb1
  show (outsAt0 m c t.val t.isLt).2.1 ((cfg0.win 7).xinj (grid0.coords t) y) = DK m c (((cfg0.win 7).blk t).view.emb y)
  unfold DK
  have hp : ptK (((cfg0.win 7).blk t).view.emb y 1) = t := by
    apply Fin.ext
    show 64 * ((((cfg0.win 7).blk t).view.emb y 1).val / 128) + 63 = t.val
    rw [hb1]; omega
  rw [hp]
  refine congrArg _ (funext fun a => Fin.ext ?_)
  match a with
  | ⟨0, _⟩ => show (y 0).val = (((cfg0.win 7).blk t).view.emb y 0).val; rw [hb0]; omega
  | ⟨1, _⟩ => show (y 1).val = (((cfg0.win 7).blk t).view.emb y 1).val % 128; rw [hb1]; omega

/-- Result 1 after the run. -/
theorem final7 : (dats m 0 c).arrAt 7 cfg0.N = DK m c :=
  (dats m 0 c).arrAt_eq_of_cover 7 (DK m c) (wrote7 m c) fun i => by
    have h0 : (i 0).val < 4096 := (i 0).isLt
    have h1 : (i 1).val < 256 := (i 1).isLt
    let t : Fin cfg0.N := ptK (i 1)
    have ht : t.val = 64 * ((i 1).val / 128) + 63 := rfl
    obtain ⟨e0, e1⟩ := index7 t
    refine ⟨t, (flush0_7 t).mpr (by omega), ?_⟩
    show i ∈ ((View.whole main_v0_1).slice (win0_7.rect t)).set
    rw [View.set_slice_whole, Rect.mem_set_unit]
    intro a
    match a with
    | ⟨0, _⟩ => show win0_7.index t 0 * 4096 ≤ (i 0).val ∧ (i 0).val < win0_7.index t 0 * 4096 + 4096; rw [e0]; omega
    | ⟨1, _⟩ => show win0_7.index t 1 * 128 ≤ (i 1).val ∧ (i 1).val < win0_7.index t 1 * 128 + 128; rw [e1]; omega

theorem index8 : ∀ t : Fin cfg0.N, win0_8.index t (0 : Fin 2) = 0 ∧ win0_8.index t (1 : Fin 2) = t.val / 64 :=
  (by decide +kernel : ∀ t : Fin grid0.N, _)

/-- What a point writes back to result 2 is its block of `DV`. -/
theorem wrote8 (t : Fin cfg0.N) (hf : (cfg0.win 8).flush t = true) :
    (dats m 0 c).flushed 8 t = ((cfg0.win 8).blk t).view.read (Elt F) (DV m c) := by
  show (cfg0.win 8).cut (grid0.coords t) ((dats m 0 c).after 8 t) = _
  rw [after0_8]
  obtain ⟨e0, e1⟩ := index8 t
  have ht := lt128 t
  have hm : t.val % 64 = 63 := (flush0_8 t).mp hf
  funext y
  have hy0 : (y 0).val < 4096 := (y 0).isLt
  have hy1 : (y 1).val < 128 := (y 1).isLt
  have hb0 : (((cfg0.win 8).blk t).view.emb y 0).val = win0_8.index t (0 : Fin 2) * 4096 + 1 * (y 0).val := rfl
  have hb1 : (((cfg0.win 8).blk t).view.emb y 1).val = win0_8.index t (1 : Fin 2) * 128 + 1 * (y 1).val := rfl
  rw [e0] at hb0
  rw [e1] at hb1
  show (outsAt0 m c t.val t.isLt).2.2.1 ((cfg0.win 8).xinj (grid0.coords t) y) = DV m c (((cfg0.win 8).blk t).view.emb y)
  unfold DV
  have hp : ptK (((cfg0.win 8).blk t).view.emb y 1) = t := by
    apply Fin.ext
    show 64 * ((((cfg0.win 8).blk t).view.emb y 1).val / 128) + 63 = t.val
    rw [hb1]; omega
  rw [hp]
  refine congrArg _ (funext fun a => Fin.ext ?_)
  match a with
  | ⟨0, _⟩ => show (y 0).val = (((cfg0.win 8).blk t).view.emb y 0).val; rw [hb0]; omega
  | ⟨1, _⟩ => show (y 1).val = (((cfg0.win 8).blk t).view.emb y 1).val % 128; rw [hb1]; omega

/-- Result 2 after the run. -/
theorem final8 : (dats m 0 c).arrAt 8 cfg0.N = DV m c :=
  (dats m 0 c).arrAt_eq_of_cover 8 (DV m c) (wrote8 m c) fun i => by
    have h0 : (i 0).val < 4096 := (i 0).isLt
    have h1 : (i 1).val < 256 := (i 1).isLt
    let t : Fin cfg0.N := ptK (i 1)
    have ht : t.val = 64 * ((i 1).val / 128) + 63 := rfl
    obtain ⟨e0, e1⟩ := index8 t
    refine ⟨t, (flush0_8 t).mpr (by omega), ?_⟩
    show i ∈ ((View.whole main_v0_2).slice (win0_8.rect t)).set
    rw [View.set_slice_whole, Rect.mem_set_unit]
    intro a
    match a with
    | ⟨0, _⟩ => show win0_8.index t 0 * 4096 ≤ (i 0).val ∧ (i 0).val < win0_8.index t 0 * 4096 + 4096; rw [e0]; omega
    | ⟨1, _⟩ => show win0_8.index t 1 * 128 ≤ (i 1).val ∧ (i 1).val < win0_8.index t 1 * 128 + 128; rw [e1]; omega

/-- The run, read: the three results, the arguments unchanged. -/
theorem run : θ_run defs (onTc (τ := τ) (main (F := F))) ⟨m, fun _ => 0, ρ⟩ fun r => ∀ c : Dev nD,
      r.2.mem ((c : Thread nD τ).loc main_v0_0) = DQ m c
      ∧ r.2.mem ((c : Thread nD τ).loc main_v0_1) = DK m c
      ∧ r.2.mem ((c : Thread nD τ).loc main_v0_2) = DV m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 6).trans (final6 m c), ((h c).1 7).trans (final7 m c),
      ((h c).1 8).trans (final8 m c),
      ((h c).1 5).trans (((dats m 0 c).arrAt_in 5 rfl _).trans ((A_eq m c 5).trans (V_main_arg0 m c))),
      ((h c).1 3).trans (((dats m 0 c).arrAt_in 3 rfl _).trans ((A_eq m c 3).trans (V_main_arg1 m c)))⟩)
    (run_main m ρ)

end Cert.KernelIdeal.AttnFinal

end
-- ==== Proof.Row.lean ====
module

public import Idealize.ShloMosaic.PureOps.Ideal
public import Idealize.ShloMosaic.PureOps.Ideal.Laws
public import Mathlib.Analysis.SpecialFunctions.Pow.Real

@[expose] public section

noncomputable section

namespace Cert.AttnRow

open Idealize.ShloMosaic

/-- The scale both programs multiply by. -/
abbrev c0 : EReal := Ideal.ofBits .f32 0x3DB504F3#32
/-- The value both programs start a maximum from. -/
abbrev ninf : EReal := Ideal.ofBits .f32 0xFF800000#32
/-- The scale over log 2. -/
abbrev c2 : EReal := (((11863283 / 134217728) * (Real.log 2)⁻¹ : ℝ) : EReal)

/-- The scale is a positive real. -/
theorem c0_eq : c0 = ((11863283 / 134217728 : ℝ) : EReal) := by
  simp [c0, Ideal.ofBits, Ideal.ieee]
  rw [← EReal.coe_mul]
  congr 1
  norm_num

/-- The maximum starts from minus infinity. -/
theorem ninf_eq : ninf = ⊥ := by
  simp [ninf, Ideal.ofBits, Ideal.ieee]

variable {n : ℕ}

/-- The kernel's exponential of a row. -/
def E (s : Fin n → EReal) (j : Fin n) : EReal := Ideal.exp2 ((s j - Finset.univ.fold max ninf fun x => s x) * c2)
/-- One over the kernel's row sum. -/
def RL (s : Fin n → EReal) : EReal := Ideal.div 1 (∑ x, E s x)
/-- The kernel's row sum of exponential times gradient, normalised. -/
def DL (s p : Fin n → EReal) : EReal := (∑ x, E s x * p x) * RL s
/-- The kernel's gradient of the scores. -/
def DS (s p : Fin n → EReal) (j : Fin n) : EReal := E s j * (p j - DL s p) * (RL s * c0)

/-- The reference's exponential of a row. -/
def E' (s : Fin n → EReal) (j : Fin n) : EReal :=
  Ideal.exp (s j * c0 - max ninf (Finset.univ.fold max ninf fun x => s x * c0))
/-- The reference's row sum. -/
def L' (s : Fin n → EReal) : EReal := ∑ x, E' s x
/-- The reference's softmax. -/
def Y' (s : Fin n → EReal) (j : Fin n) : EReal := Ideal.div (E' s j) (L' s)
/-- The reference's gradient of the scores. -/
def DS' (s p : Fin n → EReal) (j : Fin n) : EReal :=
  (Ideal.div (p j) (L' s) + -(∑ x, p x * Ideal.div 1 (L' s * L' s) * E' s x)) * E' s j * c0

/-- A sum of reals is a real. -/
theorem coe_sum {ι : Type*} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- A nonnegative real factor distributes over a sum. -/
theorem mul_sum' {ι : Type*} (t : Finset ι) (c : ℝ) (hc : 0 ≤ c) (f : ι → EReal) :
    (c : EReal) * ∑ x ∈ t, f x = ∑ x ∈ t, (c : EReal) * f x := by
  classical
  induction t using Finset.induction_on with
  | empty => simp
  | insert a t ha ih =>
    rw [Finset.sum_insert ha, Finset.sum_insert ha, EReal.left_distrib_of_nonneg_of_ne_top (by exact_mod_cast hc) (EReal.coe_ne_top c), ih]

/-- A contraction of reals is a real. -/
theorem dot_real {ι : Type*} (t : Finset ι) (f g : ι → EReal) (hf : ∀ x, ∃ r : ℝ, f x = r) (hg : ∀ x, ∃ r : ℝ, g x = r) :
    ∃ r : ℝ, ∑ x ∈ t, f x * g x = r := by
  choose f' hf' using hf
  choose g' hg' using hg
  refine ⟨∑ x ∈ t, f' x * g' x, ?_⟩
  rw [coe_sum]
  exact Finset.sum_congr rfl fun x _ => by rw [hf', hg', EReal.coe_mul]

/-- The fold of `max` from minus infinity is attained. -/
theorem fold_max_eq (s : Fin n → EReal) (j0 : Fin n) (h : ∀ j, s j ≤ s j0) :
    (Finset.univ.fold max ⊥ fun x => s x) = s j0 :=
  le_antisymm (Finset.fold_max_le _ |>.2 ⟨bot_le, fun x _ => h x⟩)
    (Finset.le_fold_max _ |>.2 (Or.inr ⟨j0, Finset.mem_univ _, le_rfl⟩))

/-- Of a row of reals the two programs' exponentials are the same positive reals. -/
theorem exps [NeZero n] (s : Fin n → EReal) (hs : ∀ j, ∃ r : ℝ, s j = r) :
    ∃ e : Fin n → ℝ, (∀ j, 0 < e j) ∧ (∀ j, E s j = e j) ∧ (∀ j, E' s j = e j) := by
  choose a ha using hs
  obtain ⟨j0, -, h0⟩ := Finset.exists_max_image (Finset.univ : Finset (Fin n)) a ⟨0, Finset.mem_univ _⟩
  refine ⟨fun j => Real.exp ((a j - a j0) * (11863283 / 134217728)), fun j => Real.exp_pos _, fun j => ?_, fun j => ?_⟩
  · have hm : (Finset.univ.fold max ninf fun x => s x) = s j0 := by
      rw [ninf_eq]
      exact fold_max_eq s j0 fun j => by rw [ha, ha]; exact_mod_cast h0 j (Finset.mem_univ _)
    have hl : Real.log 2 ≠ 0 := (Real.log_pos (by norm_num)).ne'
    unfold E
    rw [hm, ha, ha, ← EReal.coe_sub, ← EReal.coe_mul, Ideal.exp2_coe]
    congr 1
    refine (Real.rpow_def_of_pos (by norm_num) _).trans ?_
    congr 1
    field_simp
  · have hm : (Finset.univ.fold max ninf fun x => s x * c0) = s j0 * c0 := by
      rw [ninf_eq]
      refine fold_max_eq (fun x => s x * c0) j0 fun j => ?_
      simp only [ha, c0_eq]
      rw [← EReal.coe_mul, ← EReal.coe_mul]
      have := h0 j (Finset.mem_univ _)
      exact_mod_cast mul_le_mul_of_nonneg_right this (by norm_num)
    unfold E'
    rw [hm, ninf_eq, max_eq_right bot_le, ha, ha, c0_eq, ← EReal.coe_mul, ← EReal.coe_mul, ← EReal.coe_sub, Ideal.exp_coe]
    congr 2
    ring

/-- Dividing by a positive real is multiplying by its inverse. -/
theorem div_real (x : EReal) (l : ℝ) (hl : 0 < l) : Ideal.div x (l : EReal) = x * ((l⁻¹ : ℝ) : EReal) := by
  have : (l : EReal) ≠ 0 := by exact_mod_cast hl.ne'
  rw [Ideal.div, if_neg this, EReal.coe_inv]

/-- What the two programs make of a row of real scores: positive exponentials, one inverse row sum. -/
theorem row [NeZero n] (s : Fin n → EReal) (hs : ∀ j, ∃ r : ℝ, s j = r) :
    ∃ (e : Fin n → ℝ) (l : ℝ), (∀ j, 0 < e j) ∧ 0 < l ∧ (∀ j, E s j = e j) ∧ (∀ j, E' s j = e j) ∧ RL s = ((l⁻¹ : ℝ) : EReal) ∧ L' s = l := by
  obtain ⟨e, he, h1, h2⟩ := exps s hs
  have hl : 0 < ∑ j, e j := Finset.sum_pos (fun j _ => he j) ⟨0, Finset.mem_univ _⟩
  refine ⟨e, ∑ j, e j, he, hl, h1, h2, ?_, ?_⟩
  · unfold RL
    rw [Finset.sum_congr rfl fun j _ => h1 j, ← coe_sum, div_real _ _ hl, one_mul]
  · unfold L'
    rw [Finset.sum_congr rfl fun j _ => h2 j, ← coe_sum]

/-- The gradients of the scores agree on a row of real scores, whatever the incoming gradient. -/
theorem ds_eq [NeZero n] (s p : Fin n → EReal) (hs : ∀ j, ∃ r : ℝ, s j = r) (j : Fin n) : DS s p j = DS' s p j := by
  obtain ⟨e, l, he, hl, h1, h2, h3, h4⟩ := row s hs
  have hi : 0 ≤ l⁻¹ := (inv_pos.2 hl).le
  have hD : (∑ x, p x * Ideal.div 1 (L' s * L' s) * E' s x) = ((l⁻¹ : ℝ) : EReal) * (((l⁻¹ : ℝ) : EReal) * ∑ x, (e x : EReal) * p x) := by
    rw [mul_sum' _ _ hi, mul_sum' _ _ hi]
    refine Finset.sum_congr rfl fun x _ => ?_
    rw [h4, ← EReal.coe_mul, div_real _ _ (mul_pos hl hl), h2, one_mul, mul_inv, EReal.coe_mul]
    ac_rfl
  unfold DS DS' DL
  rw [hD, h4, div_real _ _ hl, h1, h2, h3, Finset.sum_congr rfl fun x _ => by rw [h1 x]]
  generalize (∑ x, (e x : EReal) * p x) = D
  have hk : ((l⁻¹ : ℝ) : EReal) * (p j - D * ((l⁻¹ : ℝ) : EReal)) = p j * ((l⁻¹ : ℝ) : EReal) + -(((l⁻¹ : ℝ) : EReal) * (((l⁻¹ : ℝ) : EReal) * D)) := by
    rw [sub_eq_add_neg, EReal.left_distrib_of_nonneg_of_ne_top (by exact_mod_cast hi) (EReal.coe_ne_top _), mul_neg,
      mul_comm D, mul_comm (p j)]
  rw [← hk]
  ac_rfl

/-- The softmaxes agree on a row of real scores: the kernel's exponential times its inverse row sum. -/
theorem y_eq [NeZero n] (s : Fin n → EReal) (hs : ∀ j, ∃ r : ℝ, s j = r) (j : Fin n) (g : EReal) : E s j * (g * RL s) = g * Y' s j := by
  obtain ⟨e, l, he, hl, h1, h2, h3, h4⟩ := row s hs
  unfold Y'
  rw [h1, h3, h2, h4, div_real _ _ hl]
  ac_rfl

/-- The softmax's average of any values: the kernel multiplies the sum by the inverse row sum, the reference each weight. -/
theorem out_eq [NeZero n] (s v : Fin n → EReal) (hs : ∀ j, ∃ r : ℝ, s j = r) : (∑ j, E s j * v j) * RL s = ∑ j, Y' s j * v j := by
  obtain ⟨e, l, he, hl, h1, h2, h3, h4⟩ := row s hs
  rw [h3, mul_comm, mul_sum' _ _ (inv_pos.2 hl).le]
  refine Finset.sum_congr rfl fun j _ => ?_
  unfold Y'
  rw [h1, h2, h4, div_real _ _ hl]
  ac_rfl

end Cert.AttnRow

end
-- ==== Proof.Pay.lean ====
module

public import proofs.«01_k».proof.Proof.Final
public import proofs.«01_k».proof.Proof.Row

@[expose] public section

set_option maxRecDepth 16384

noncomputable section

namespace Cert.KernelIdeal.AttnPay

open Cert.KernelIdeal Cert.KernelIdeal.Gen Cert.KernelIdeal.AttnCase Cert.AttnRow
open Idealize.ShloMosaic Idealize.ShloMosaic.TcCoe Idealize.SL.Sem

/-- Row `r` of a block of scores. -/
abbrev rowOf (s : Vec Ideal S256x4096 .f32) (r : Fin 256) : Fin 4096 → EReal := fun j => s (ix2 r j)

/-- The named constant's value. -/
theorem named_scale2 : (Named.named κ "scale_log2e" 0x3E0293EE#32 : Ideal .f32) = c2 := rfl

/-- A block of scores at an index: the inner product of a row of each operand. -/
theorem scores_apply (a : Vec Ideal S256x128 .bf16) (b : Vec Ideal S4096x128 .bf16) (r : Fin 256) (j : Fin 4096) :
    scores a b (ix2 r j) = ∑ d : Fin 128, a (ix2 r d) * b (ix2 j d) := by
  unfold scores k0_pay1
  pointwise [dot_S256x128_S4096x128_S256x4096_1_1_0_0_n_n]

/-- The exponentials at an index. -/
theorem exp_apply (s : Vec Ideal S256x4096 .f32) (r : Fin 256) (j : Fin 4096) :
    k0_pay15 s (ix2 r j) = E (rowOf s r) j := by
  unfold k0_pay15
  pointwise [named_scale2]
  rfl

/-- The inverse row sums at an index. -/
theorem rl_apply (s : Vec Ideal S256x4096 .f32) (r : Fin 256) :
    k0_pay16 s (ix2 r 0) = RL (rowOf s r) := by
  unfold k0_pay16
  pointwise
  rw [Finset.sum_congr rfl fun x _ => exp_apply s r x]
  rfl

/-- The normalised row sums at an index. -/
theorem delta_apply (s p : Vec Ideal S256x4096 .f32) (r : Fin 256) :
    k0_pay17 s p (ix2 r 0) = DL (rowOf s r) (rowOf p r) := by
  unfold k0_pay17
  pointwise
  rw [Finset.sum_congr rfl fun x _ => by rw [exp_apply s r x], rl_apply]
  rfl

/-- The gradient of the scores at an index. -/
theorem ds_apply (s p : Vec Ideal S256x4096 .f32) (r : Fin 256) (j : Fin 4096) :
    k0_pay5 (k0_pay15 s) (k0_pay16 s) p (k0_pay17 s p) (ix2 r j) = DS (rowOf s r) (rowOf p r) j := by
  unfold k0_pay5
  pointwise
  rw [exp_apply, delta_apply, rl_apply]
  rfl

/-- The gradient of q at an index of the block. -/
theorem dq_apply (k : Vec Ideal S4096x128 .bf16) (s p : Vec Ideal S256x4096 .f32) (r : Fin 256) (d : Fin 128) :
    dqOf k s p (ix2 r d) = ∑ j : Fin 4096, DS (rowOf s r) (rowOf p r) j * k (ix2 j d) := by
  unfold dqOf k0_pay6
  pointwise [dot_S256x4096_S4096x128_S256x128_1_0_0_1_n_n]
  exact Finset.sum_congr rfl fun x _ => by rw [ds_apply]

/-- The gradient of k at an index: what was there plus the block's share. -/
theorem dk_apply (q : Vec Ideal S256x128 .bf16) (s p : Vec Ideal S256x4096 .f32) (prev : Vec Ideal S4096x128 .f32) (j : Fin 4096) (d : Fin 128) :
    dkOf q s p prev (ix2 j d) = prev (ix2 j d) + ∑ r : Fin 256, DS (rowOf s r) (rowOf p r) j * q (ix2 r d) := by
  unfold dkOf k0_pay7
  pointwise [dot_S256x4096_S256x128_S4096x128_0_0_1_1_n_n]
  exact congrArg _ (Finset.sum_congr rfl fun x _ => by rw [ds_apply])

/-- The gradient of v at an index: what was there plus the block's share. -/
theorem dv_apply (g : Vec Ideal S256x128 .bf16) (s : Vec Ideal S256x4096 .f32) (prev : Vec Ideal S4096x128 .f32) (j : Fin 4096) (d : Fin 128) :
    dvOf g s prev (ix2 j d) = prev (ix2 j d) + ∑ r : Fin 256, E (rowOf s r) j * (g (ix2 r d) * RL (rowOf s r)) := by
  unfold dvOf k0_pay8
  pointwise [dot_S256x4096_S256x128_S4096x128_0_0_1_1_n_n]
  exact congrArg _ (Finset.sum_congr rfl fun x _ => by rw [exp_apply, rl_apply])

/-- The accumulators start at zero. -/
theorem zeros_apply (j : Fin 4096) (d : Fin 128) : zeros (F := Ideal) (ix2 j d) = 0 := by
  unfold zeros k0_pay3
  pointwise

end Cert.KernelIdeal.AttnPay

end
-- ==== Proof.Ref.lean ====
module

public import proofs.«01_k».proof.Proof.Gen.ReferenceIdeal.Read
public import proofs.«01_k».proof.Proof.Row
public import Idealize.ShloMosaic.Lib.Pointwise

@[expose] public section

set_option maxRecDepth 16384

noncomputable section

namespace Cert.ReferenceIdeal.AttnRef

open Cert.ReferenceIdeal Cert.ReferenceIdeal.Gen Cert.ReferenceIdeal.Read Cert.AttnRow
open Idealize.ShloMosaic Idealize.ShloMosaic.TcCoe Idealize.SL.Sem

variable (x : Vec Ideal S4096x1536 .bf16) (y : Vec Ideal S4096x1024 .bf16)

/-- q of head (a, g), position r. -/
def q (a : Fin 2) (g : Fin 4) (r : Fin 4096) (d : Fin 128) : EReal :=
  x (ix2 r ⟨a.val * 512 + g.val * 128 + d.val, by omega⟩)
/-- k of head a, position r. -/
def k (a : Fin 2) (r : Fin 4096) (d : Fin 128) : EReal := x (ix2 r ⟨1024 + (a.val * 128 + d.val), by omega⟩)
/-- v of head a, position r. -/
def v (a : Fin 2) (r : Fin 4096) (d : Fin 128) : EReal := x (ix2 r ⟨1280 + (a.val * 128 + d.val), by omega⟩)
/-- The incoming gradient of head (a, g), position r. -/
def o (a : Fin 2) (g : Fin 4) (r : Fin 4096) (d : Fin 128) : EReal :=
  y (ix2 r ⟨a.val * 512 + g.val * 128 + d.val, by omega⟩)
/-- The unscaled scores of position r of head (a, g). -/
def s (a : Fin 2) (g : Fin 4) (r : Fin 4096) (j : Fin 4096) : EReal := ∑ d : Fin 128, q x a g r d * k x a j d
/-- The gradient of the weights of position r of head (a, g). -/
def p (a : Fin 2) (g : Fin 4) (r : Fin 4096) (j : Fin 4096) : EReal := ∑ d : Fin 128, o y a g r d * v x a j d

/-- Scores of real q and k are reals. -/
theorem s_real (h : ∀ (r : Fin 4096) (d : Fin 1536), d.val < 1280 → ∃ z : ℝ, x (ix2 r d) = (z : EReal)) (a : Fin 2) (g : Fin 4) (r j : Fin 4096) :
    ∃ z : ℝ, s x a g r j = z :=
  dot_real _ _ _ (fun d => h _ _ (by show a.val * 512 + g.val * 128 + d.val < 1280; omega))
    (fun d => h _ _ (by show 1024 + (a.val * 128 + d.val) < 1280; omega))

theorem q_apply (a : Fin 2) (g : Fin 4) (r : Fin 4096) (d : Fin 128) :
    val_main_v5 (F := Ideal) x (ix4 a g r d) = q x a g r d := by
  unfold val_main_v5 val_main_v4 val_main_v1 val_main_v0
  pointwise
  rfl

theorem k_apply (a : Fin 2) (r : Fin 4096) (d : Fin 128) :
    val_main_v7 (F := Ideal) x (ix3 a r d) = k x a r d := by
  unfold val_main_v7 val_main_v6 val_main_v2 val_main_v0
  pointwise
  rfl

theorem v_apply (a : Fin 2) (r : Fin 4096) (d : Fin 128) :
    val_main_v9 (F := Ideal) x (ix3 a r d) = v x a r d := by
  unfold val_main_v9 val_main_v8 val_main_v3 val_main_v0
  pointwise
  rfl

theorem o_apply (a : Fin 2) (g : Fin 4) (r : Fin 4096) (d : Fin 128) :
    val_main_v46 (F := Ideal) y (ix4 a g r d) = o y a g r d := by
  unfold val_main_v46 val_main_v45 val_main_v44
  pointwise
  rfl

theorem s_apply (a : Fin 2) (g : Fin 4) (r : Fin 4096) (j : Fin 4096) :
    val_main_v10 (F := Ideal) x (ix4 a g r j) = s x a g r j := by
  unfold val_main_v10
  pointwise [dot_S2x4x4096x128_S2x4096x128_S2x4x4096x4096_3_2_12_1_0_0]
  exact Finset.sum_congr rfl fun d _ => by rw [q_apply, k_apply]

theorem p_apply (a : Fin 2) (g : Fin 4) (r : Fin 4096) (j : Fin 4096) :
    val_main_v49 (F := Ideal) x y (ix4 a g r j) = p x y a g r j := by
  unfold val_main_v49
  pointwise [dot_S2x4x4096x128_S2x4096x128_S2x4x4096x4096_3_2_12_1_0_0]
  exact Finset.sum_congr rfl fun d _ => by rw [o_apply, v_apply]

/-- The host's maximum over the last axis is a fold of `max`. -/
theorem foldmax_apply (w : Vec Ideal S2x4x4096x4096 .f32) (h : S2x4x4096x4096.ReducesTo [3] S2x4x4096) (hu : 0 < S_.numel) (a : Fin 2) (g : Fin 4) (r : Fin 4096)
    (f : Fin 4096 → EReal) (hf : (fun j => w (ix4 a g r j)) = f) :
    Host.reduce FloatOps.maximumf w (constant (F := Ideal) S_ .f32 0xFF800000#32) h hu (ix3 a g r) = Finset.univ.fold max ninf fun j => f j := by
  subst hf
  pointwise

theorem scaled_apply (a : Fin 2) (g : Fin 4) (r : Fin 4096) (j : Fin 4096) :
    val_main_v12 (F := Ideal) x (ix4 a g r j) = s x a g r j * c0 := by
  unfold val_main_v12 val_main_v11 val_main_cst
  pointwise
  rw [s_apply]

/-- The maximum over the last axis, with its initial value written out. -/
theorem max_eq : val_main_v13 (F := Ideal) x = Host.reduce FloatOps.maximumf (val_main_v12 (F := Ideal) x) (constant (F := Ideal) S_ .f32 0xFF800000#32) reducesTo_S2x4x4096x4096_S2x4x4096_d3 h_S_ := rfl

theorem max_apply (a : Fin 2) (g : Fin 4) (r : Fin 4096) :
    val_main_v13 (F := Ideal) x (ix3 a g r) = Finset.univ.fold max ninf fun j => s x a g r j * c0 := by
  rw [max_eq]
  exact foldmax_apply (val_main_v12 (F := Ideal) x) reducesTo_S2x4x4096x4096_S2x4x4096_d3 h_S_ a g r _ (funext fun j => scaled_apply x a g r j)

/-- The second maximum with minus infinity. -/
theorem max2_apply (a : Fin 2) (g : Fin 4) (r : Fin 4096) :
    val_main_v20 (F := Ideal) x (ix3 a g r) = max ninf (Finset.univ.fold max ninf fun j => s x a g r j * c0) := by
  have e : ∀ i, val_main_v19 (F := Ideal) i = ninf := fun i => by rw [val_main_v19_apply]; rfl
  rw [val_main_v20_apply, e, max_apply]
  generalize (Finset.univ.fold max ninf fun j => s x a g r j * c0) = z
  rfl

/-- The maximum, broadcast along the row. -/
theorem max3_apply (a : Fin 2) (g : Fin 4) (r : Fin 4096) (j : Fin 4096) :
    val_main_v31 (F := Ideal) x (ix4 a g r j) = max ninf (Finset.univ.fold max ninf fun j => s x a g r j * c0) := by
  rw [← max2_apply]
  unfold val_main_v31 val_main_v30
  generalize val_main_v20 (F := Ideal) x = z
  pointwise

/-- The exponentials at an index. -/
theorem exp_apply (a : Fin 2) (g : Fin 4) (r : Fin 4096) (j : Fin 4096) :
    val_main_v33 (F := Ideal) x (ix4 a g r j) = E' (s x a g r) j := by
  unfold E'
  rw [← max3_apply x a g r j, ← scaled_apply]
  unfold val_main_v33 val_main_v32
  generalize val_main_v31 (F := Ideal) x = z
  generalize val_main_v12 (F := Ideal) x = z
  pointwise

/-- The row sums at an index. -/
theorem sum_apply (a : Fin 2) (g : Fin 4) (r : Fin 4096) :
    val_main_v34 (F := Ideal) x (ix3 a g r) = L' (s x a g r) := by
  unfold val_main_v34 val_main_cst_8
  pointwise
  exact Finset.sum_congr rfl fun j _ => exp_apply x a g r j

/-- The softmax at an index. -/
theorem y_apply (a : Fin 2) (g : Fin 4) (r : Fin 4096) (j : Fin 4096) :
    val_main_v37 (F := Ideal) x (ix4 a g r j) = Y' (s x a g r) j := by
  unfold val_main_v37 val_main_v36 val_main_v35
  pointwise
  rw [exp_apply, sum_apply]
  rfl

/-- The gradient of the scores at an index. -/
theorem ds_apply (a : Fin 2) (g : Fin 4) (r : Fin 4096) (j : Fin 4096) :
    val_main_v63 (F := Ideal) x y (ix4 a g r j) = DS' (s x a g r) (p x y a g r) j := by
  unfold val_main_v63 val_main_v62 val_main_v61 val_main_v60 val_main_v59 val_main_v58 val_main_v57 val_main_v56 val_main_v55
  unfold val_main_v54 val_main_v53 val_main_v52 val_main_v51 val_main_v50 val_main_v40 val_main_v39 val_main_v38 val_main_v35
  unfold val_main_cst_9 val_main_cst_10 val_main_cst_11 val_main_cst_12
  pointwise
  rw [exp_apply, p_apply, sum_apply, Fin.sum_univ_one, Finset.sum_congr rfl fun j _ => by rw [exp_apply x a g r j, p_apply x y a g r j]]
  rfl

theorem dv_apply (a : Fin 2) (d : Fin 128) (j : Fin 4096) :
    val_main_v47 (F := Ideal) x y (ix3 a d j) = ∑ g : Fin 4, ∑ r : Fin 4096, o y a g r d * Y' (s x a g r) j := by
  unfold val_main_v47
  pointwise [dot_S2x4x4096x128_S2x4x4096x4096_S2x128x4096_12_12_3_3_0_0]
  exact Finset.sum_congr rfl fun g _ => Finset.sum_congr rfl fun r _ => by rw [o_apply, y_apply]

theorem dk_apply (a : Fin 2) (d : Fin 128) (j : Fin 4096) :
    val_main_v64 (F := Ideal) x y (ix3 a j d) = ∑ g : Fin 4, ∑ r : Fin 4096, DS' (s x a g r) (p x y a g r) j * q x a g r d := by
  unfold val_main_v64
  pointwise [dot_S2x4x4096x4096_S2x4x4096x128_S2x4096x128_12_12_3_3_0_0]
  exact Finset.sum_congr rfl fun g _ => Finset.sum_congr rfl fun r _ => by rw [ds_apply, q_apply]

theorem dq_apply (a : Fin 2) (g : Fin 4) (r : Fin 4096) (d : Fin 128) :
    val_main_v65 (F := Ideal) x y (ix4 a g r d) = ∑ j : Fin 4096, DS' (s x a g r) (p x y a g r) j * k x a j d := by
  unfold val_main_v65
  pointwise [dot_S2x4x4096x4096_S2x4096x128_S2x4x4096x128_3_1_12_2_0_0]
  exact Finset.sum_congr rfl fun j _ => by rw [ds_apply, k_apply]

/-- The gradient of q at an index. -/
theorem res_q (r : Fin 4096) (c : Fin 1024) :
    val_main_v71 (F := Ideal) x y (ix2 r c) = ∑ j : Fin 4096, DS' (s x ⟨c.val / 512, by omega⟩ ⟨c.val / 128 % 4, by omega⟩ r) (p x y ⟨c.val / 512, by omega⟩ ⟨c.val / 128 % 4, by omega⟩ r) j * k x ⟨c.val / 512, by omega⟩ j ⟨c.val % 128, by omega⟩ := by
  unfold val_main_v71 val_main_v70
  pointwise
  rw [dq_apply]
/-- The gradient of k at an index. -/
theorem res_k (j : Fin 4096) (c : Fin 256) :
    val_main_v69 (F := Ideal) x y (ix2 j c) = ∑ g : Fin 4, ∑ r : Fin 4096, DS' (s x ⟨c.val / 128, by omega⟩ g r) (p x y ⟨c.val / 128, by omega⟩ g r) j * q x ⟨c.val / 128, by omega⟩ g r ⟨c.val % 128, by omega⟩ := by
  unfold val_main_v69 val_main_v68
  pointwise
  rw [dk_apply]
/-- The gradient of v at an index. -/
theorem res_v (j : Fin 4096) (c : Fin 256) :
    val_main_v67 (F := Ideal) x y (ix2 j c) = ∑ g : Fin 4, ∑ r : Fin 4096, o y ⟨c.val / 128, by omega⟩ g r ⟨c.val % 128, by omega⟩ * Y' (s x ⟨c.val / 128, by omega⟩ g r) j := by
  unfold val_main_v67 val_main_v66 val_main_v48
  pointwise
  rw [dv_apply]

end Cert.ReferenceIdeal.AttnRef

end
-- ==== Proof.Asm.lean ====
module

public import proofs.«01_k».proof.Proof.Pay
public import proofs.«01_k».proof.Proof.Ref
public import Mathlib.Logic.Equiv.Fin.Basic

@[expose] public section

set_option maxRecDepth 16384

noncomputable section

namespace Cert.AttnAsm

open Cert.KernelIdeal Cert.KernelIdeal.Gen Cert.KernelIdeal.AttnCase Cert.KernelIdeal.AttnState
open Cert.KernelIdeal.AttnFinal Cert.KernelIdeal.AttnPay Cert.AttnRow
open Idealize.ShloMosaic Idealize.ShloMosaic.TcCoe Idealize.SL.Sem
open ReferenceIdeal.AttnRef (q k v o s p)

variable (m : (ℓ : Loc nD τ sig) → Buf (Elt Ideal) ℓ) (c : Dev nD)

/-- The head of keys a point works on. -/
abbrev hd (t : Fin cfg0.N) : Fin 2 := ⟨t.val / 64, by have := lt128 t; omega⟩
/-- The query head, within its group, a point works on. -/
abbrev gr (t : Fin cfg0.N) : Fin 4 := ⟨t.val / 16 % 4, by omega⟩
/-- The position of row `r` of a point's block. -/
abbrev pos (t : Fin cfg0.N) (r : Fin 256) : Fin 4096 := ⟨256 * (t.val % 16) + r.val, by omega⟩

/-- The block of queries is the head's rows. -/
theorem q_blk (t : Fin cfg0.N) (r : Fin 256) (d : Fin 128) :
    (iblk m c 0 t : Vec Ideal S256x128 .bf16) (ix2 r d) = q (X m c) (hd t) (gr t) (pos t r) d := by
  rw [blk0]
  unfold q
  have := lt128 t
  congr 2
  apply Fin.ext
  show 128 * (t.val / 16) + d.val = t.val / 64 * 512 + t.val / 16 % 4 * 128 + d.val
  omega

/-- The block of incoming gradients is the head's rows. -/
theorem o_blk (t : Fin cfg0.N) (r : Fin 256) (d : Fin 128) :
    (iblk m c 1 t : Vec Ideal S256x128 .bf16) (ix2 r d) = o (Y m c) (hd t) (gr t) (pos t r) d := by
  rw [blk1]
  unfold o
  have := lt128 t
  congr 2
  apply Fin.ext
  show 128 * (t.val / 16) + d.val = t.val / 64 * 512 + t.val / 16 % 4 * 128 + d.val
  omega

/-- The block of keys is the head's. -/
theorem k_blk (t : Fin cfg0.N) (j : Fin 4096) (d : Fin 128) :
    (iblk m c 4 t : Vec Ideal S4096x128 .bf16) (ix2 j d) = k (X m c) (hd t) j d := by
  rw [blk4]
  unfold k
  congr 2
  · apply Fin.ext
    show 0 + j.val = j.val
    omega
  · apply Fin.ext
    show 1024 + 128 * (t.val / 64) + d.val = 1024 + (t.val / 64 * 128 + d.val)
    omega

/-- The block of values is the head's. -/
theorem v_blk (t : Fin cfg0.N) (j : Fin 4096) (d : Fin 128) :
    (iblk m c 5 t : Vec Ideal S4096x128 .bf16) (ix2 j d) = v (X m c) (hd t) j d := by
  rw [blk5]
  unfold v
  congr 2
  · apply Fin.ext
    show 0 + j.val = j.val
    omega
  · apply Fin.ext
    show 1280 + 128 * (t.val / 64) + d.val = 1280 + (t.val / 64 * 128 + d.val)
    omega

/-- A row of a point's scores is the head's row of scores. -/
theorem row_s (t : Fin cfg0.N) (r : Fin 256) : rowOf (S m c t) r = s (X m c) (hd t) (gr t) (pos t r) := by
  funext j
  refine (scores_apply _ _ r j).trans ?_
  exact Finset.sum_congr rfl fun d _ => by rw [q_blk, k_blk]

/-- A row of a point's gradients of weights is the head's. -/
theorem row_p (t : Fin cfg0.N) (r : Fin 256) : rowOf (P m c t) r = p (X m c) (Y m c) (hd t) (gr t) (pos t r) := by
  funext j
  refine (scores_apply _ _ r j).trans ?_
  exact Finset.sum_congr rfl fun d _ => by rw [o_blk, v_blk]

/-- What head (a, g), position r adds to the gradient of k at (j, d). -/
def addK (a : Fin 2) (j : Fin 4096) (d : Fin 128) (g : Fin 4) (r : Fin 4096) : EReal :=
  DS (s (X m c) a g r) (p (X m c) (Y m c) a g r) j * q (X m c) a g r d
/-- What head (a, g), position r adds to the gradient of v at (j, d). -/
def addV (a : Fin 2) (j : Fin 4096) (d : Fin 128) (g : Fin 4) (r : Fin 4096) : EReal :=
  E (s (X m c) a g r) j * (o (Y m c) a g r d * RL (s (X m c) a g r))

/-- The sum over the rows of the `u`-th of the 64 blocks of a sweep. -/
def blockSum (f : Fin 4 → Fin 4096 → EReal) (u : ℕ) : EReal :=
  ∑ r : Fin 256, f ⟨u / 16 % 4, by omega⟩ ⟨256 * (u % 16) + r.val, by omega⟩

/-- One point's step of the gradient of k. -/
theorem dk_step (t : Fin cfg0.N) (j : Fin 4096) (d : Fin 128) (prev : Vec Ideal S4096x128 .f32) :
    dkOf (iblk m c 0 t) (S m c t) (P m c t) prev (ix2 j d) = prev (ix2 j d) + blockSum (addK m c (hd t) j d) (t.val % 64) := by
  rw [dk_apply]
  refine congrArg _ (Finset.sum_congr rfl fun r _ => ?_)
  rw [row_s, row_p, q_blk]
  unfold addK
  have hg : (⟨t.val % 64 / 16 % 4, by omega⟩ : Fin 4) = gr t := Fin.ext (by show t.val % 64 / 16 % 4 = t.val / 16 % 4; omega)
  have hp : (⟨256 * (t.val % 64 % 16) + r.val, by omega⟩ : Fin 4096) = pos t r :=
    Fin.ext (by show 256 * (t.val % 64 % 16) + r.val = 256 * (t.val % 16) + r.val; omega)
  rw [hg, hp]

/-- One point's step of the gradient of v. -/
theorem dv_step (t : Fin cfg0.N) (j : Fin 4096) (d : Fin 128) (prev : Vec Ideal S4096x128 .f32) :
    dvOf (iblk m c 1 t) (S m c t) prev (ix2 j d) = prev (ix2 j d) + blockSum (addV m c (hd t) j d) (t.val % 64) := by
  rw [dv_apply]
  refine congrArg _ (Finset.sum_congr rfl fun r _ => ?_)
  rw [row_s, o_blk]
  unfold addV
  have hg : (⟨t.val % 64 / 16 % 4, by omega⟩ : Fin 4) = gr t := Fin.ext (by show t.val % 64 / 16 % 4 = t.val / 16 % 4; omega)
  have hp : (⟨256 * (t.val % 64 % 16) + r.val, by omega⟩ : Fin 4096) = pos t r :=
    Fin.ext (by show 256 * (t.val % 64 % 16) + r.val = 256 * (t.val % 16) + r.val; omega)
  rw [hg, hp]

/-- After point `t` the accumulators hold the sums over the blocks of the sweep so far. -/
theorem acc (n : ℕ) : ∀ (t : Fin cfg0.N), t.val = n → ∀ (j : Fin 4096) (d : Fin 128),
    (st m c t).2.1 (ix2 j d) = ∑ u ∈ Finset.range (t.val % 64 + 1), blockSum (addK m c (hd t) j d) u
      ∧ (st m c t).2.2.1 (ix2 j d) = ∑ u ∈ Finset.range (t.val % 64 + 1), blockSum (addV m c (hd t) j d) u := by
  induction n using Nat.strong_induction_on with
  | _ n ih =>
    intro t ht j d
    have h128 := lt128 t
    obtain ⟨-, e1, e2⟩ := outs_at m c t
    rw [e1, e2, dk_step, dv_step, Finset.sum_range_succ, Finset.sum_range_succ]
    by_cases h0 : t.val % 64 = 0
    · rw [if_pos h0, if_pos h0, zeros_apply, h0, Finset.sum_range_zero, Finset.sum_range_zero]
      exact ⟨rfl, rfl⟩
    · rw [if_neg h0, if_neg h0]
      have hlt : t.val - 1 < n := by omega
      have e := ih (t.val - 1) hlt ⟨t.val - 1, Nat.lt_of_le_of_lt (Nat.sub_le _ _) t.isLt⟩ rfl j d
      have hh : hd ⟨t.val - 1, Nat.lt_of_le_of_lt (Nat.sub_le _ _) t.isLt⟩ = hd t :=
        Fin.ext (by show (t.val - 1) / 64 = t.val / 64; omega)
      have hr : (t.val - 1) % 64 + 1 = t.val % 64 := by omega
      simp only [hh, hr] at e
      exact ⟨congrArg (· + _) e.1, congrArg (· + _) e.2⟩

/-- The 64 blocks of a sweep are the four heads' rows. -/
theorem reblock (f : Fin 4 → Fin 4096 → EReal) :
    ∑ u ∈ Finset.range 64, blockSum f u = ∑ g : Fin 4, ∑ r : Fin 4096, f g r := by
  rw [Finset.sum_range, ← (finProdFinEquiv (m := 4) (n := 16)).sum_comp, Fintype.sum_prod_type]
  refine Finset.sum_congr rfl fun g _ => ?_
  rw [← (finProdFinEquiv (m := 16) (n := 256)).sum_comp (fun r : Fin 4096 => f g r), Fintype.sum_prod_type]
  refine Finset.sum_congr rfl fun i _ => Finset.sum_congr rfl fun r _ => ?_
  have hg : (⟨(finProdFinEquiv (g, i)).val / 16 % 4, by omega⟩ : Fin 4) = g :=
    Fin.ext (by show (i.val + 16 * g.val) / 16 % 4 = g.val; omega)
  have hp : (⟨256 * ((finProdFinEquiv (g, i)).val % 16) + r.val, by omega⟩ : Fin 4096) = finProdFinEquiv (i, r) :=
    Fin.ext (by show 256 * ((i.val + 16 * g.val) % 16) + r.val = r.val + 256 * i.val; omega)
  rw [hg, hp]

/-- q and k are reals. -/
def Real' : Prop := ∀ (r : Fin 4096) (d : Fin 1536), d.val < 1280 → ∃ x : ℝ, X m c (ix2 r d) = (x : EReal)

/-- Scores of real q and k are reals. -/
theorem s_real (h : Real' m c) (a : Fin 2) (g : Fin 4) (r j : Fin 4096) : ∃ x : ℝ, s (X m c) a g r j = x :=
  ReferenceIdeal.AttnRef.s_real (X m c) h a g r j

/-- The gradient of q is the reference's. -/
theorem dq_eq (h : Real' m c) : DQ m c = ReferenceIdeal.Read.val_main_v71 (F := Ideal) (X m c) (Y m c) := by
  funext i
  obtain ⟨r, d, rfl⟩ : ∃ (r : Fin 4096) (d : Fin 1024), i = ix2 r d := ⟨i 0, i 1, (by funext a; fin_cases a <;> rfl)⟩
  rw [ReferenceIdeal.AttnRef.res_q]
  show (st m c (ptQ r d)).1 (ix2 ⟨r.val % 256, _⟩ ⟨d.val % 128, _⟩) = _
  rw [(outs_at m c (ptQ r d)).1, dq_apply]
  refine Finset.sum_congr rfl fun j _ => ?_
  rw [row_s, row_p, k_blk]
  have h1 : hd (ptQ r d) = ⟨d.val / 512, by omega⟩ := Fin.ext (by show (16 * (d.val / 128) + r.val / 256) / 64 = d.val / 512; omega)
  have h2 : gr (ptQ r d) = ⟨d.val / 128 % 4, by omega⟩ := Fin.ext (by show (16 * (d.val / 128) + r.val / 256) / 16 % 4 = d.val / 128 % 4; omega)
  have h3 : pos (ptQ r d) ⟨r.val % 256, Nat.mod_lt _ (by decide)⟩ = r :=
    Fin.ext (by show 256 * ((16 * (d.val / 128) + r.val / 256) % 16) + r.val % 256 = r.val; omega)
  rw [h1, h2, h3, ds_eq _ _ (s_real m c h _ _ _)]

/-- The gradient of k is the reference's. -/
theorem dk_eq (h : Real' m c) : DK m c = ReferenceIdeal.Read.val_main_v69 (F := Ideal) (X m c) (Y m c) := by
  funext i
  obtain ⟨j, d, rfl⟩ : ∃ (r : Fin 4096) (d : Fin 256), i = ix2 r d := ⟨i 0, i 1, (by funext a; fin_cases a <;> rfl)⟩
  rw [ReferenceIdeal.AttnRef.res_k]
  show (st m c (ptK d)).2.1 (ix2 j ⟨d.val % 128, _⟩) = _
  have h1 : hd (ptK d) = ⟨d.val / 128, by omega⟩ := Fin.ext (by show (64 * (d.val / 128) + 63) / 64 = d.val / 128; omega)
  have h2 : (ptK d).val % 64 + 1 = 64 := by show (64 * (d.val / 128) + 63) % 64 + 1 = 64; omega
  rw [(acc m c _ (ptK d) rfl _ _).1, h2, reblock, h1]
  refine Finset.sum_congr rfl fun g _ => Finset.sum_congr rfl fun r _ => ?_
  unfold addK
  rw [ds_eq _ _ (s_real m c h _ _ _)]

/-- The gradient of v is the reference's. -/
theorem dv_eq (h : Real' m c) : DV m c = ReferenceIdeal.Read.val_main_v67 (F := Ideal) (X m c) (Y m c) := by
  funext i
  obtain ⟨j, d, rfl⟩ : ∃ (r : Fin 4096) (d : Fin 256), i = ix2 r d := ⟨i 0, i 1, (by funext a; fin_cases a <;> rfl)⟩
  rw [ReferenceIdeal.AttnRef.res_v]
  show (st m c (ptK d)).2.2.1 (ix2 j ⟨d.val % 128, _⟩) = _
  have h1 : hd (ptK d) = ⟨d.val / 128, by omega⟩ := Fin.ext (by show (64 * (d.val / 128) + 63) / 64 = d.val / 128; omega)
  have h2 : (ptK d).val % 64 + 1 = 64 := by show (64 * (d.val / 128) + 63) % 64 + 1 = 64; omega
  rw [(acc m c _ (ptK d) rfl _ _).2, h2, reblock, h1]
  refine Finset.sum_congr rfl fun g _ => Finset.sum_congr rfl fun r _ => ?_
  unfold addV
  rw [y_eq _ (s_real m c h _ _ _)]

end Cert.AttnAsm

end
-- ==== Proof.RealOf.lean ====
module

public import Idealize.ShloMosaic.PureOps.Ideal
public import Idealize.ShloMosaic.PureOps.Ideal.Laws

@[expose] public section

/-! The preconditions' test for a real number. -/

noncomputable section

namespace Cert.RealOf

open Idealize.ShloMosaic

/-- An extended real whose absolute value is below infinity is a real. -/
theorem real_of_abs (x : EReal) (h : max x (-x) < ⊤) : ∃ r : ℝ, x = (r : EReal) := by
  induction x using EReal.rec with
  | bot => simp at h
  | coe r => exact ⟨r, rfl⟩
  | top => simp at h

/-- So is one that the preconditions' test passes. -/
theorem real_of_test (x : EReal) (e : BitVec.ofBool (decide (max x (-x) < Ideal.ofBits .f32 0x7F800000#32)) = 1#1) : ∃ r : ℝ, x = (r : EReal) := by
  refine real_of_abs x ?_
  have ht : Ideal.ofBits .f32 0x7F800000#32 = ⊤ := by simp [Ideal.ofBits, Ideal.ieee]
  rw [ht] at e
  by_contra hn
  rw [decide_eq_false hn] at e
  exact absurd e (by decide)

end Cert.RealOf

end
-- ==== Proof.Finite.lean ====
module

public import proofs.«01_k».proof.Proof.Gen.Pre_qk_real
public import Idealize.ShloMosaic.PureOps.Ideal.Laws
public import Idealize.ShloMosaic.Lib.Pointwise
public import proofs.«01_k».proof.Proof.RealOf

@[expose] public section

set_option maxRecDepth 16384

/-! What the precondition of the attention's two calls says of their argument. -/

noncomputable section

namespace Cert.AttnFinite

open Idealize.ShloMosaic Cert.Pre_qk_real

/-- Under the precondition q and k are reals. -/
theorem reals (w : Vec Ideal S4096x1536 .bf16) (h : fn (F := Ideal) w = fun _ => 1#1) (r : Fin 4096) (d : Fin 1536) (hd : d.val < 1280) :
    ∃ x : ℝ, w (ix2 r d) = (x : EReal) := by
  have e := congrFun h (ix2 r ⟨d.val, hd⟩)
  unfold fn at e
  revert e
  pointwise
  exact RealOf.real_of_test _

end Cert.AttnFinite

end
-- ==== Proof.Attn.lean ====
module

public import proofs.«01_k».proof.Defs
public import proofs.«01_k».proof.Proof.Asm
public import proofs.«01_k».proof.Proof.Gen.Kernel.Frame
public import proofs.«01_k».proof.Proof.Gen.Pre_qk_finite
public import proofs.«01_k».proof.Proof.Finite

@[expose] public section

set_option maxRecDepth 16384

noncomputable section

namespace Cert.AttnClaims

open Idealize.ShloMosaic Idealize.ShloMosaic.TcCoe Idealize.SL.Sem
open Cert.KernelIdeal.AttnState (X Y)

/-- The kernel as printed runs to its end and leaves its arguments alone. -/
theorem frame_p : Cert.quiescent_Kernel := fun m ρ _ => Cert.Kernel.Gen.frame m ρ

/-- The idealized kernel runs to its end and leaves its arguments alone. -/
theorem frame_pi : Cert.quiescent_KernelIdeal := fun m ρ _ => Cert.KernelIdeal.Gen.frame m ρ

/-- The same under the precondition. -/
theorem frame_pi_pre : Cert.quiescent_KernelIdeal_pre_qk_finite := fun m ρ _ => Cert.KernelIdeal.Gen.frame m ρ

/-- The reference runs to its end and leaves its arguments alone. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The same under the precondition. -/
theorem frame_ri_pre : Cert.quiescent_ReferenceIdeal_pre_qk_finite := fun m ρ _ => frame_ri m ρ trivial

/-- The one constant the idealized kernel names has the value the table gives it. -/
theorem preserves : Cert.preserves_Kernel_KernelIdeal :=
  IdealRules.named_const.statement Cert.KernelIdeal.κ "scale_log2e" .f32 0x3E0293EE#32 (((11863283 / 134217728) * (Real.log 2)⁻¹ : ℝ) : EReal) rfl

/-- Under the precondition q and k are reals. -/
theorem real_of_pre (m : (ℓ : Loc Cert.KernelIdeal.nD Cert.KernelIdeal.τ Cert.KernelIdeal.sig) → Buf (Elt Ideal) ℓ)
    (h : Cert.Pre_KernelIdeal_qk_finite m) (c : Dev Cert.KernelIdeal.nD) : Cert.AttnAsm.Real' m c :=
  Cert.AttnFinite.reals (X m c) (h c)

/-- At every pair of arguments with q and k finite the idealized kernel's three gradients are the reference's. -/
theorem algebraic : Cert.algebraic_KernelIdeal_ReferenceIdeal_pre_qk_finite := by
  intro m ρ m' ρ' hpre hagree
  refine ⟨fun c => Cert.KernelIdeal.AttnFinal.DQ m c, fun c => Cert.KernelIdeal.AttnFinal.DK m c, fun c => Cert.KernelIdeal.AttnFinal.DV m c,
    Cert.KernelIdeal.AttnFinal.run m ρ, ?_⟩
  refine (θ_run Cert.ReferenceIdeal.defs _ _).mono (fun r h c => ?_) (Cert.ReferenceIdeal.Value.run (F := Ideal) m' ρ')
  obtain ⟨h0, h1, h2, ha⟩ := h c
  have hr := real_of_pre m hpre c
  refine ⟨h0.trans ?_, h1.trans ?_, h2.trans ?_, ha⟩
  · rw [Cert.ReferenceIdeal.Read.val_main_v71_eq, (hagree c).1, (hagree c).2]
    exact (Cert.AttnAsm.dq_eq m c hr).symm
  · rw [Cert.ReferenceIdeal.Read.val_main_v69_eq, (hagree c).1, (hagree c).2]
    exact (Cert.AttnAsm.dk_eq m c hr).symm
  · rw [Cert.ReferenceIdeal.Read.val_main_v67_eq, (hagree c).1, (hagree c).2]
    exact (Cert.AttnAsm.dv_eq m c hr).symm

end Cert.AttnClaims

end
-- ==== Proof.AttnFwd.lean ====
module

public import proofs.«01_k».proof.Defs
public import proofs.«01_k».proof.Proof.Gen.KernelAttnFwd.Frame
public import proofs.«01_k».proof.Proof.Gen.KernelAttnFwdIdeal.Value
public import proofs.«01_k».proof.Proof.Gen.ReferenceAttnFwdIdeal.Read
public import proofs.«01_k».proof.Proof.Ref
public import proofs.«01_k».proof.Proof.Finite
public import Idealize.ShloMosaic.Lib.Pipeline.ValueKit
public import Idealize.ShloMosaic.Lib.Tactic

@[expose] public section

set_option maxRecDepth 16384

/-! The attention's forward pass: each point takes 512 queries of a head, in two halves, against all keys. -/

noncomputable section

namespace Cert.KernelAttnFwdIdeal.AttnFwd

open Cert.KernelAttnFwdIdeal Cert.KernelAttnFwdIdeal.Gen Cert.KernelAttnFwdIdeal.Value Cert.AttnRow
open Idealize.ShloMosaic Idealize.ShloMosaic.TcCoe Idealize.SL.Sem
open ReferenceIdeal.AttnRef (q k v s s_real)

variable (m : (ℓ : Loc nD τ sig) → Buf (Elt Ideal) ℓ) (c : Dev nD)

/-- The packed q, k and v, as launched. -/
abbrev X : Vec Ideal S4096x1536 .bf16 := m ((c : Thread nD τ).loc main_arg0)

theorem at0 : ∀ t : Fin cfg0.N, win0_0.index t = ![t.val % 8, t.val / 8] := (by decide +kernel : ∀ t : Fin grid0.N, _)
theorem at1 : ∀ t : Fin cfg0.N, win0_1.index t = ![0, 8 + t.val / 32] := (by decide +kernel : ∀ t : Fin grid0.N, _)
theorem at2 : ∀ t : Fin cfg0.N, win0_2.index t = ![0, 10 + t.val / 32] := (by decide +kernel : ∀ t : Fin grid0.N, _)
theorem at3 : ∀ t : Fin cfg0.N, win0_3.index t = ![t.val % 8, t.val / 8] := (by decide +kernel : ∀ t : Fin grid0.N, _)
theorem zz : (![0, 0] : Fin 2 → Nat) = fun _ => 0 := funext fun a => by fin_cases a <;> rfl
theorem lt64 (t : Fin cfg0.N) : t.val < 64 := lt_of_lt_of_eq t.isLt N_0

/-- The named constant's value. -/
theorem named_scale2 : (Named.named κ "scale_log2e" 0x3E0293EE#32 : Ideal .f32) = c2 := rfl

/-- The scores of one row of queries. -/
abbrev row (kk : Vec Ideal S4096x128 .bf16) (qq : Fin 128 → EReal) (j : Fin 4096) : EReal := ∑ d : Fin 128, qq d * kk (ix2 j d)
/-- What the kernel makes of one row of queries. -/
def out (kk vv : Vec Ideal S4096x128 .bf16) (qq : Fin 128 → EReal) (d : Fin 128) : EReal :=
  (∑ j : Fin 4096, E (row kk qq) j * vv (ix2 j d)) * RL (row kk qq)

/-- The exponentials at an index. -/
theorem exp_apply (kk : Vec Ideal S4096x128 .bf16) (w : Vec Ideal S256x128 .bf16) (r : Fin 256) (j : Fin 4096) :
    k0_pay3 kk w (ix2 r j) = E (row kk fun d => w (ix2 r d)) j := by
  unfold k0_pay3
  pointwise [dot_S256x128_S4096x128_S256x4096_1_1_0_0_n_n, named_scale2]
  rfl

/-- The inverse row sums at an index. -/
theorem rl_apply (kk : Vec Ideal S4096x128 .bf16) (w : Vec Ideal S256x128 .bf16) (r : Fin 256) :
    k0_pay4 kk w (ix2 r 0) = RL (row kk fun d => w (ix2 r d)) := by
  unfold k0_pay4
  pointwise
  rw [Finset.sum_congr rfl fun x _ => exp_apply kk w r x]
  rfl

/-- The second half's result at an index. -/
theorem half_apply (kk vv : Vec Ideal S4096x128 .bf16) (w : Vec Ideal S256x128 .bf16) (r : Fin 256) (d : Fin 128) :
    k0_pay1 vv (k0_pay4 kk w) (k0_pay5 kk w) (constant S256x128 .f32 0x00000000#32) (ix2 r d) = out kk vv (fun d => w (ix2 r d)) d := by
  unfold k0_pay1 k0_pay5
  pointwise [dot_S256x4096_S4096x128_S256x128_1_0_0_1_n_n]
  rw [rl_apply, Finset.sum_congr rfl fun x _ => by rw [exp_apply kk w r x]]
  rfl

/-- The first half's at an index. -/
theorem half1_apply (kk vv : Vec Ideal S4096x128 .bf16) (w : Vec Ideal S256x128 .bf16) (r : Fin 256) (d : Fin 128) :
    k0_pay2 kk vv w (ix2 r d) = out kk vv (fun d => w (ix2 r d)) d := by
  unfold k0_pay2
  pointwise [dot_S256x4096_S4096x128_S256x128_1_0_0_1_n_n, dot_S256x128_S4096x128_S256x4096_1_1_0_0_n_n, named_scale2]
  rfl

/-- A half's row is the block's. -/
theorem at_rect (kk vv : Vec Ideal S4096x128 .bf16) (w : Vec Ideal S512x128 .bf16) (o : ℕ) (inb : ∀ a, (![o, 0] : Fin 2 → ℕ) a + S256x128.size a ≤ S512x128.size a)
    (r : Fin 256) (d : Fin 128) :
    out kk vv (fun d => View.ld (Val := Elt Ideal) (e' := .bf16) w (Rect.unit (s := S512x128) ![o, 0] S256x128.size inb) (ix2 r d)) d
      = out kk vv (fun d => w (ix2 ((Rect.unit (s := S512x128) ![o, 0] S256x128.size inb).emb (ix2 r d) 0) d))
        ((Rect.unit (s := S512x128) ![o, 0] S256x128.size inb).emb (ix2 r d) 1) := by
  refine congrArg₂ (out kk vv) (funext fun d => congrArg w (funext fun a => Fin.ext ?_)) (Fin.ext ?_)
  · match a with
    | ⟨0, _⟩ => rfl
    | ⟨1, _⟩ => show 0 + 1 * d.val = d.val; omega
  · show d.val = 0 + 1 * d.val; omega

/-- A block written in two halves is what both write. -/
theorem halves (f g : Vec Ideal S256x128 .bf16) (z : Vec Ideal S512x128 .bf16) (hf : ∀ r d, f (ix2 r d) = z (r0_2.emb (ix2 r d)))
    (hg : ∀ r d, g (ix2 r d) = z (r0_1.emb (ix2 r d))) (y : S512x128.Idx) :
    View.canon ([⟨r0_2, f⟩, ⟨r0_1, g⟩] : List (View.Piece (Elt Ideal) S512x128 .bf16)) y = z y := by
  refine View.canon_apply_of_pieces (Val := Elt Ideal) (e := .bf16) z _ (fun p hp x => ?_) y (cover0_3 f g y)
  simp only [List.mem_cons, List.not_mem_nil, or_false] at hp
  have e : ∀ x : S256x128.Idx, x = ix2 (x 0) (x 1) := fun x => by funext a; fin_cases a <;> rfl
  rcases hp with rfl | rfl
  · rw [e x]; exact hf _ _
  · rw [e x]; exact hg _ _

/-- What a point leaves in its block. -/
theorem block (kk vv : Vec Ideal S4096x128 .bf16) (w : Vec Ideal S512x128 .bf16) (y : S512x128.Idx) :
    out0_3 w kk vv y = out kk vv (fun d => w (ix2 (y 0) d)) (y 1) := by
  unfold out0_3
  rw [View.ld_unit_zero (S := S4096x128) zz, View.ld_unit_zero (S := S4096x128) zz]
  exact halves _ _ (fun y => out kk vv (fun d => w (ix2 (y 0) d)) (y 1))
    (fun r d => (half_apply kk vv _ r d).trans (at_rect kk vv w 256 inb_S512x128_S256x128_256_0 r d))
    (fun r d => (half1_apply kk vv _ r d).trans (at_rect kk vv w 0 inb_S512x128_S256x128_0_0 r d)) y

/-- The attention of the packed array at a row of a head, as the kernel computes it. -/
def att (x : Vec Ideal S4096x1536 .bf16) (a : Fin 2) (g : Fin 4) (r : Fin 4096) (d : Fin 128) : EReal :=
  (∑ j : Fin 4096, E (s x a g r) j * v x a j d) * RL (s x a g r)
/-- The same as an array. -/
def G : Vec Ideal S4096x1024 .bf16 := fun i =>
  att (X m c) ⟨(i 1).val / 512, by have : (i 1).val < 1024 := (i 1).isLt; omega⟩ ⟨(i 1).val / 128 % 4, by omega⟩ (i 0) ⟨(i 1).val % 128, by omega⟩

/-- A row of queries against its head's keys and values is the attention there. -/
theorem out_att (x : Vec Ideal S4096x1536 .bf16) (kk vv : Vec Ideal S4096x128 .bf16) (qq : Fin 128 → EReal) (a : Fin 2) (g : Fin 4) (r : Fin 4096)
    (d d' : Fin 128) (hk : ∀ j d, kk (ix2 j d) = k x a j d) (hv : ∀ j d, vv (ix2 j d) = v x a j d) (hq : ∀ d, qq d = q x a g r d) (hd : d = d') :
    out kk vv qq d = att x a g r d' := by
  subst hd
  have hs : row kk qq = s x a g r := funext fun j => Finset.sum_congr rfl fun d _ => by rw [hq, hk]
  unfold out att
  rw [hs, Finset.sum_congr rfl fun j _ => by rw [hv j d]]

/-- The result's array is the attention. -/
theorem final : (dats m 0 c).arrAt 3 cfg0.N = G m c := by
  refine (dats m 0 c).arrAt_eq_of_covers 3 _ (by decide +kernel) fun t _ y => ?_
  have ht := lt64 t
  have y0 : (y 0).val < 512 := (y 0).isLt
  have y1 : (y 1).val < 128 := (y 1).isLt
  blk_simp
  rw [after0_3, block]
  refine out_att (X m c) _ _ _ _ _ _ _ _ (fun j d => ?_) (fun j d => ?_) (fun d => ?_) (Fin.ext ?_)
  · blk_simp [iblk]
    refine congrArg (X m c) (funext fun a => Fin.ext ?_)
    match a with
    | ⟨0, _⟩ => blk_simp [at1]
    | ⟨1, _⟩ => blk_simp [at1, at3]; dsimp only; omega
  · blk_simp [iblk]
    refine congrArg (X m c) (funext fun a => Fin.ext ?_)
    match a with
    | ⟨0, _⟩ => blk_simp [at2]
    | ⟨1, _⟩ => blk_simp [at2, at3]; dsimp only; omega
  · blk_simp [iblk]
    refine congrArg (X m c) (funext fun a => Fin.ext ?_)
    match a with
    | ⟨0, _⟩ => blk_simp [at0, at3]
    | ⟨1, _⟩ => blk_simp [at0, at3]; dsimp only; omega
  · blk_simp [at3]; dsimp only; omega

/-- The reference's softmax is the one that its gradient is taken of. -/
theorem soft_eq (x : Vec Ideal S4096x1536 .bf16) :
    ReferenceAttnFwdIdeal.Read.val_main_v23 (F := Ideal) x = ReferenceIdeal.Read.val_main_v37 (F := Ideal) x := rfl

/-- Of real q and k the reference's result is the attention as the kernel computes it. -/
theorem ref_eq (x : Vec Ideal S4096x1536 .bf16) (h : ∀ (r : Fin 4096) (d : Fin 1536), d.val < 1280 → ∃ z : ℝ, x (ix2 r d) = (z : EReal))
    (a : Fin 2) (g : Fin 4) (r : Fin 4096) (d : Fin 128) :
    ReferenceAttnFwdIdeal.Read.val_main_v24 (F := Ideal) x (ix4 a g r d) = att x a g r d := by
  unfold ReferenceAttnFwdIdeal.Read.val_main_v24
  pointwise [ReferenceAttnFwdIdeal.dot_S2x4x4096x4096_S2x4096x128_S2x4x4096x128_3_1_12_2_0_0]
  rw [soft_eq]
  refine (Finset.sum_congr rfl fun j _ => congrArg₂ (· * ·) (ReferenceIdeal.AttnRef.y_apply x a g r j)
    (ReferenceIdeal.AttnRef.v_apply x a j d)).trans (out_eq _ _ (s_real x h a g r)).symm

/-- The reference's array likewise. -/
theorem ref_array (h : ∀ (r : Fin 4096) (d : Fin 1536), d.val < 1280 → ∃ z : ℝ, X m c (ix2 r d) = (z : EReal)) :
    ReferenceAttnFwdIdeal.Read.val_main_v27 (F := Ideal) (X m c) = G m c := by
  funext i
  obtain ⟨r, d, rfl⟩ : ∃ (r : Fin 4096) (d : Fin 1024), i = ix2 r d := ⟨i 0, i 1, (by funext a; fin_cases a <;> rfl)⟩
  unfold ReferenceAttnFwdIdeal.Read.val_main_v27 ReferenceAttnFwdIdeal.Read.val_main_v26 ReferenceAttnFwdIdeal.Read.val_main_v25
  pointwise
  exact ref_eq (X m c) h _ _ _ _

/-- Kernel, idealized kernel and reference run to their ends and leave their argument alone. -/
theorem frame_p : Cert.quiescent_KernelAttnFwd := fun m ρ _ => Cert.KernelAttnFwd.Gen.frame m ρ
theorem frame_pi : Cert.quiescent_KernelAttnFwdIdeal := fun m ρ _ => frame m ρ
theorem frame_pi_pre : Cert.quiescent_KernelAttnFwdIdeal_pre_qk_real := fun m ρ _ => frame m ρ
theorem frame_ri : Cert.quiescent_ReferenceAttnFwdIdeal := fun m ρ _ =>
  (θ_run ReferenceAttnFwdIdeal.defs _ _).mono (fun r h => ⟨fun c => (h c).2, sem_eq_zero_of_no_sems (by decide) r.2⟩)
    (ReferenceAttnFwdIdeal.Value.run (F := Ideal) m ρ)
theorem frame_ri_pre : Cert.quiescent_ReferenceAttnFwdIdeal_pre_qk_real := fun m ρ _ => frame_ri m ρ trivial

/-- The one constant the idealized kernel names has the value the table gives it. -/
theorem preserves : Cert.preserves_KernelAttnFwd_KernelAttnFwdIdeal :=
  IdealRules.named_const.statement κ "scale_log2e" .f32 0x3E0293EE#32 (((11863283 / 134217728) * (Real.log 2)⁻¹ : ℝ) : EReal) rfl

/-- At every argument with q and k finite the idealized kernel's result is the reference's. -/
theorem algebraic : Cert.algebraic_KernelAttnFwdIdeal_ReferenceAttnFwdIdeal_pre_qk_real := by
  intro m ρ m' ρ' hpre hagree
  refine ⟨fun c => G m c, (θ_run _ _ _).mono (fun r h c => ⟨(h c).1.trans (final m c), (h c).2⟩) (run_blocks m ρ),
    (θ_run ReferenceAttnFwdIdeal.defs _ _).mono (fun r h c => ⟨(h c).1.trans ?_, (h c).2⟩) (ReferenceAttnFwdIdeal.Value.run (F := Ideal) m' ρ')⟩
  rw [ReferenceAttnFwdIdeal.Read.val_main_v27_eq, hagree c]
  exact ref_array m c (AttnFinite.reals (X m c) (hpre c))

end Cert.KernelAttnFwdIdeal.AttnFwd

end
-- ==== Proof.Prod.lean ====
module

public import Mathlib.Data.EReal.Basic
public import Mathlib.Data.EReal.Operations
public import Mathlib.Logic.Equiv.Fin.Basic
public import Mathlib.Algebra.BigOperators.Fin
public import Idealize.ShloMosaic.Lib.Pipeline.Value
public import Idealize.ShloMosaic.Lib.Pipeline.ValueKit
public import Idealize.ShloMosaic.Lib.ValueIdx
public import Idealize.ShloMosaic.Lib.Pointwise
public import Idealize.ShloMosaic.Lib.Tactic

@[expose] public section

noncomputable section

namespace Cert.Prod

/-- A finite family read at any natural number, zero past its end. -/
def at' {K : ℕ} (f : Fin K → EReal) (n : ℕ) : EReal := if h : n < K then f ⟨n, h⟩ else 0

/-- Inside its range the family is itself. -/
theorem at'_lt {K : ℕ} (f : Fin K → EReal) (n : ℕ) (h : n < K) : at' f n = f ⟨n, h⟩ := dif_pos h

/-- The sum over the `u`-th block of `tk` terms. -/
def part {K : ℕ} (tk : ℕ) (f : Fin K → EReal) (u : ℕ) : EReal := ∑ j : Fin tk, at' f (tk * u + j.val)

/-- A block's sum, its terms given. -/
theorem part_eq {K tk : ℕ} (f : Fin K → EReal) (u : ℕ) (hu : tk * u + tk ≤ K) (g : Fin tk → EReal)
    (hg : ∀ j : Fin tk, g j = f ⟨tk * u + j.val, by omega⟩) : ∑ j : Fin tk, g j = part tk f u :=
  Finset.sum_congr rfl fun j _ => (hg j).trans (at'_lt f _ _).symm

/-- The blocks together are the whole sum. -/
theorem sum_parts (nk tk : ℕ) {K : ℕ} (hK : nk * tk = K) (f : Fin K → EReal) :
    ∑ u ∈ Finset.range nk, part tk f u = ∑ k : Fin K, f k := by
  subst hK
  rw [Finset.sum_range, ← (finProdFinEquiv (m := nk) (n := tk)).sum_comp, Fintype.sum_prod_type]
  refine Finset.sum_congr rfl fun u _ => Finset.sum_congr rfl fun j _ => ?_
  have h : tk * u.val + j.val = (finProdFinEquiv (u, j)).val := by
    show tk * u.val + j.val = j.val + tk * u.val
    omega
  rw [h, at'_lt f _ (finProdFinEquiv (u, j)).isLt]

/-- A quantity that starts at a term and takes one more at each step is the sum of the terms so far. -/
theorem sweep {nk : ℕ} (s : ∀ u : ℕ, u < nk → EReal) (p : ℕ → EReal)
    (h0 : ∀ h : 0 < nk, s 0 h = p 0)
    (hs : ∀ (u : ℕ) (h : u + 1 < nk), s (u + 1) h = s u (Nat.lt_of_succ_lt h) + p (u + 1)) :
    ∀ (u : ℕ) (h : u < nk), s u h = ∑ v ∈ Finset.range (u + 1), p v
  | 0, h => by rw [h0, Finset.sum_range_one]
  | u + 1, h => by rw [hs, sweep s p h0 hs u, Finset.sum_range_succ p (u + 1)]

open Idealize.ShloMosaic in
/-- A part of a buffer written whole is that part of what was written. -/
theorem readCov_sub {Val : EltTy → Type} {S : Shape} {e : EltTy} [∀ e, Nonempty (Val e)] {sig : RefSig} {κ : Kind} {sp : Space}
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩), View.canon_unit_zero h]

open Idealize.ShloMosaic

/-- The product of two matrices. -/
def mul {M K N : ℕ} (x : (⟨2, ![M, K]⟩ : Shape).Idx → EReal) (y : (⟨2, ![K, N]⟩ : Shape).Idx → EReal) :
    (⟨2, ![M, N]⟩ : Shape).Idx → EReal := fun i => ∑ k : Fin K, x (ix2 (i 0) k) * y (ix2 k (i 1))

/-- The product of a matrix with a transposed one. -/
def mulT {M K N : ℕ} (x : (⟨2, ![M, K]⟩ : Shape).Idx → EReal) (y : (⟨2, ![N, K]⟩ : Shape).Idx → EReal) :
    (⟨2, ![M, N]⟩ : Shape).Idx → EReal := fun i => ∑ k : Fin K, x (ix2 (i 0) k) * y (ix2 (i 1) k)

/-- A sum of products of entries read at places that are the product's is the product's entry. -/
theorem mul_of_places {M K N : ℕ} (x : (⟨2, ![M, K]⟩ : Shape).Idx → EReal) (y : (⟨2, ![K, N]⟩ : Shape).Idx → EReal)
    (i : (⟨2, ![M, N]⟩ : Shape).Idx) (p : Fin K → (⟨2, ![M, K]⟩ : Shape).Idx) (q : Fin K → (⟨2, ![K, N]⟩ : Shape).Idx)
    (p0 : ∀ k, (p k 0).val = (i 0).val) (p1 : ∀ k, (p k 1).val = k.val)
    (q0 : ∀ k, (q k 0).val = k.val) (q1 : ∀ k, (q k 1).val = (i 1).val) : ∑ k, x (p k) * y (q k) = mul x y i := by
  refine Finset.sum_congr rfl fun k _ => congrArg₂ (· * ·) (congrArg x (funext fun a => Fin.ext ?_)) (congrArg y (funext fun a => Fin.ext ?_))
  · match a with
    | ⟨0, _⟩ => exact p0 k
    | ⟨1, _⟩ => exact p1 k
  · match a with
    | ⟨0, _⟩ => exact q0 k
    | ⟨1, _⟩ => exact q1 k

/-- The same for the transposed product. -/
theorem mulT_of_places {M K N : ℕ} (x : (⟨2, ![M, K]⟩ : Shape).Idx → EReal) (y : (⟨2, ![N, K]⟩ : Shape).Idx → EReal)
    (i : (⟨2, ![M, N]⟩ : Shape).Idx) (p : Fin K → (⟨2, ![M, K]⟩ : Shape).Idx) (q : Fin K → (⟨2, ![N, K]⟩ : Shape).Idx)
    (p0 : ∀ k, (p k 0).val = (i 0).val) (p1 : ∀ k, (p k 1).val = k.val)
    (q0 : ∀ k, (q k 0).val = (i 1).val) (q1 : ∀ k, (q k 1).val = k.val) : ∑ k, x (p k) * y (q k) = mulT x y i := by
  refine Finset.sum_congr rfl fun k _ => congrArg₂ (· * ·) (congrArg x (funext fun a => Fin.ext ?_)) (congrArg y (funext fun a => Fin.ext ?_))
  · match a with
    | ⟨0, _⟩ => exact p0 k
    | ⟨1, _⟩ => exact p1 k
  · match a with
    | ⟨0, _⟩ => exact q0 k
    | ⟨1, _⟩ => exact q1 k

/-- One block of the terms of a product's entry, its entries read at the places of that block. -/
theorem mul_part {M K N tk : ℕ} (x : (⟨2, ![M, K]⟩ : Shape).Idx → EReal) (y : (⟨2, ![K, N]⟩ : Shape).Idx → EReal)
    (i : (⟨2, ![M, N]⟩ : Shape).Idx) (u : ℕ) (hu : tk * u + tk ≤ K)
    (p : Fin tk → (⟨2, ![M, K]⟩ : Shape).Idx) (q : Fin tk → (⟨2, ![K, N]⟩ : Shape).Idx)
    (p0 : ∀ k, (p k 0).val = (i 0).val) (p1 : ∀ k, (p k 1).val = tk * u + k.val)
    (q0 : ∀ k, (q k 0).val = tk * u + k.val) (q1 : ∀ k, (q k 1).val = (i 1).val) :
    ∑ k, x (p k) * y (q k) = part tk (fun k : Fin K => x (ix2 (i 0) k) * y (ix2 k (i 1))) u := by
  refine part_eq _ u hu _ fun k => congrArg₂ (· * ·) (congrArg x (funext fun a => Fin.ext ?_)) (congrArg y (funext fun a => Fin.ext ?_))
  · match a with
    | ⟨0, _⟩ => exact p0 k
    | ⟨1, _⟩ => exact p1 k
  · match a with
    | ⟨0, _⟩ => exact q0 k
    | ⟨1, _⟩ => exact q1 k

/-- The same for the transposed product. -/
theorem mulT_part {M K N tk : ℕ} (x : (⟨2, ![M, K]⟩ : Shape).Idx → EReal) (y : (⟨2, ![N, K]⟩ : Shape).Idx → EReal)
    (i : (⟨2, ![M, N]⟩ : Shape).Idx) (u : ℕ) (hu : tk * u + tk ≤ K)
    (p : Fin tk → (⟨2, ![M, K]⟩ : Shape).Idx) (q : Fin tk → (⟨2, ![N, K]⟩ : Shape).Idx)
    (p0 : ∀ k, (p k 0).val = (i 0).val) (p1 : ∀ k, (p k 1).val = tk * u + k.val)
    (q0 : ∀ k, (q k 0).val = (i 1).val) (q1 : ∀ k, (q k 1).val = tk * u + k.val) :
    ∑ k, x (p k) * y (q k) = part tk (fun k : Fin K => x (ix2 (i 0) k) * y (ix2 (i 1) k)) u := by
  refine part_eq _ u hu _ fun k => congrArg₂ (· * ·) (congrArg x (funext fun a => Fin.ext ?_)) (congrArg y (funext fun a => Fin.ext ?_))
  · match a with
    | ⟨0, _⟩ => exact p0 k
    | ⟨1, _⟩ => exact p1 k
  · match a with
    | ⟨0, _⟩ => exact q0 k
    | ⟨1, _⟩ => exact q1 k

/-- A sum of products of a row's and a column's entries is the product's entry. -/
theorem mul_of_entries {M K N : ℕ} (x : (⟨2, ![M, K]⟩ : Shape).Idx → EReal) (y : (⟨2, ![K, N]⟩ : Shape).Idx → EReal)
    (i : (⟨2, ![M, N]⟩ : Shape).Idx) (f g : Fin K → EReal) (hf : ∀ k, f k = x (ix2 (i 0) k)) (hg : ∀ k, g k = y (ix2 k (i 1))) :
    ∑ k, f k * g k = mul x y i := Finset.sum_congr rfl fun k _ => congrArg₂ (· * ·) (hf k) (hg k)

/-- The product of a transposed matrix with another. -/
def Tmul {K M N : ℕ} (x : (⟨2, ![K, M]⟩ : Shape).Idx → EReal) (y : (⟨2, ![K, N]⟩ : Shape).Idx → EReal) :
    (⟨2, ![M, N]⟩ : Shape).Idx → EReal := fun i => ∑ k : Fin K, x (ix2 k (i 0)) * y (ix2 k (i 1))

/-- A sum of products of entries, the second matrix's first, read at places that are the product's is the product's entry. -/
theorem Tmul_of_places {K M N : ℕ} (x : (⟨2, ![K, M]⟩ : Shape).Idx → EReal) (y : (⟨2, ![K, N]⟩ : Shape).Idx → EReal)
    (i : (⟨2, ![M, N]⟩ : Shape).Idx) (p : Fin K → (⟨2, ![K, M]⟩ : Shape).Idx) (q : Fin K → (⟨2, ![K, N]⟩ : Shape).Idx)
    (p0 : ∀ k, (p k 0).val = k.val) (p1 : ∀ k, (p k 1).val = (i 0).val)
    (q0 : ∀ k, (q k 0).val = k.val) (q1 : ∀ k, (q k 1).val = (i 1).val) : ∑ k, y (q k) * x (p k) = Tmul x y i := by
  refine Finset.sum_congr rfl fun k _ => (mul_comm _ _).trans (congrArg₂ (· * ·)
    (congrArg x (funext fun a => Fin.ext ?_)) (congrArg y (funext fun a => Fin.ext ?_)))
  · match a with
    | ⟨0, _⟩ => exact p0 k
    | ⟨1, _⟩ => exact p1 k
  · match a with
    | ⟨0, _⟩ => exact q0 k
    | ⟨1, _⟩ => exact q1 k

/-- One block of the terms of that product's entry. -/
theorem Tmul_part {K M N tk : ℕ} (x : (⟨2, ![K, M]⟩ : Shape).Idx → EReal) (y : (⟨2, ![K, N]⟩ : Shape).Idx → EReal)
    (i : (⟨2, ![M, N]⟩ : Shape).Idx) (u : ℕ) (hu : tk * u + tk ≤ K)
    (p : Fin tk → (⟨2, ![K, M]⟩ : Shape).Idx) (q : Fin tk → (⟨2, ![K, N]⟩ : Shape).Idx)
    (p0 : ∀ k, (p k 0).val = tk * u + k.val) (p1 : ∀ k, (p k 1).val = (i 0).val)
    (q0 : ∀ k, (q k 0).val = tk * u + k.val) (q1 : ∀ k, (q k 1).val = (i 1).val) :
    ∑ k, x (p k) * y (q k) = part tk (fun k : Fin K => x (ix2 k (i 0)) * y (ix2 k (i 1))) u := by
  refine part_eq _ u hu _ fun k => congrArg₂ (· * ·) (congrArg x (funext fun a => Fin.ext ?_)) (congrArg y (funext fun a => Fin.ext ?_))
  · match a with
    | ⟨0, _⟩ => exact p0 k
    | ⟨1, _⟩ => exact p1 k
  · match a with
    | ⟨0, _⟩ => exact q0 k
    | ⟨1, _⟩ => exact q1 k

/-- The place in a matrix of an entry of its columns cut into shards of `W`. -/
def colAt {N R W C : ℕ} (h : N * W ≤ C) (i : (⟨3, ![N, R, W]⟩ : Shape).Idx) : (⟨2, ![R, C]⟩ : Shape).Idx :=
  ix2 (i 1) ⟨W * (i 0).val + (i 2).val, by
    have h0 : (i 0).val + 1 ≤ N := (i 0).isLt
    have h2 : (i 2).val < W := (i 2).isLt
    have := Nat.mul_le_mul_left W h0
    rw [Nat.mul_add, Nat.mul_one] at this
    rw [Nat.mul_comm] at h
    omega⟩

/-- The place in a matrix of an entry of its columns cut into shards of `W`, in a stack that holds them from some place on. -/
def halfAt {N R W C : ℕ} (hC : 0 < C) (i : (⟨3, ![N, R, W]⟩ : Shape).Idx) : (⟨2, ![R, C]⟩ : Shape).Idx :=
  ix2 (i 1) ⟨(W * (i 0).val + (i 2).val) % C, Nat.mod_lt _ hC⟩

/-- The place in a matrix of an entry of its rows cut into shards of `W`. -/
def rowAt {N W R C : ℕ} (h : N * W ≤ R) (i : (⟨3, ![N, W, C]⟩ : Shape).Idx) : (⟨2, ![R, C]⟩ : Shape).Idx :=
  ix2 ⟨W * (i 0).val + (i 1).val, by
    have h0 : (i 0).val + 1 ≤ N := (i 0).isLt
    have h2 : (i 1).val < W := (i 1).isLt
    have := Nat.mul_le_mul_left W h0
    rw [Nat.mul_add, Nat.mul_one] at this
    rw [Nat.mul_comm] at h
    omega⟩ (i 2)

/-- A shard of columns read off a matrix and stored in its place of the stack is there what the stack of shards holds. -/
theorem piece_cols {N R W C : ℕ} (hN : N * W ≤ C) (z : (⟨2, ![R, C]⟩ : Shape).Idx → EReal)
    (pay : ((⟨2, ![R, W]⟩ : Shape).Idx → EReal) → (⟨3, ![1, R, W]⟩ : Shape).Idx → EReal)
    (hpay : ∀ w x, pay w x = w (ix2 (x 1) (x 2))) (n : ℕ) (off : Fin 2 → ℕ) (inb : ∀ a, off a + ![R, W] a ≤ ![R, C] a)
    (off' : Fin 3 → ℕ) (inb' : ∀ a, off' a + ![1, R, W] a ≤ ![N, R, W] a)
    (e : off = ![0, W * n]) (e' : off' = ![n, 0, 0]) (x : (⟨3, ![1, R, W]⟩ : Shape).Idx) :
    pay (View.ld (Val := Elt Ideal) (e' := .f32) z (Rect.unit (s := ⟨2, ![R, C]⟩) off ![R, W] inb)) x
      = z (colAt hN ((Rect.unit (s := ⟨3, ![N, R, W]⟩) off' ![1, R, W] inb').emb x)) := by
  subst e e'
  have h0 : (x 0).val < 1 := (x 0).isLt
  refine (hpay _ x).trans (congrArg z (funext fun a => Fin.ext ?_))
  match a with
  | ⟨0, _⟩ => rfl
  | ⟨1, _⟩ =>
    show W * n + 1 * (x 2).val = W * (n + 1 * (x 0).val) + (0 + 1 * (x 2).val)
    rw [show (x 0).val = 0 by omega, Nat.mul_zero, Nat.add_zero]; omega

/-- The same for a shard of rows. -/
theorem piece_rows {N W R C : ℕ} (hN : N * W ≤ R) (z : (⟨2, ![R, C]⟩ : Shape).Idx → EReal)
    (pay : ((⟨2, ![W, C]⟩ : Shape).Idx → EReal) → (⟨3, ![1, W, C]⟩ : Shape).Idx → EReal)
    (hpay : ∀ w x, pay w x = w (ix2 (x 1) (x 2))) (n : ℕ) (off : Fin 2 → ℕ) (inb : ∀ a, off a + ![W, C] a ≤ ![R, C] a)
    (off' : Fin 3 → ℕ) (inb' : ∀ a, off' a + ![1, W, C] a ≤ ![N, W, C] a)
    (e : off = ![W * n, 0]) (e' : off' = ![n, 0, 0]) (x : (⟨3, ![1, W, C]⟩ : Shape).Idx) :
    pay (View.ld (Val := Elt Ideal) (e' := .f32) z (Rect.unit (s := ⟨2, ![R, C]⟩) off ![W, C] inb)) x
      = z (rowAt hN ((Rect.unit (s := ⟨3, ![N, W, C]⟩) off' ![1, W, C] inb').emb x)) := by
  subst e e'
  have h0 : (x 0).val < 1 := (x 0).isLt
  refine (hpay _ x).trans (congrArg z (funext fun a => Fin.ext ?_))
  match a with
  | ⟨0, _⟩ =>
    show W * n + 1 * (x 1).val = W * (n + 1 * (x 0).val) + (0 + 1 * (x 1).val)
    rw [show (x 0).val = 0 by omega, Nat.mul_zero, Nat.add_zero]; omega
  | ⟨1, _⟩ => rfl

/-- What starts afresh at the points that `nk` divides, and at every other point of `t`'s sweep takes that point's block of
terms, is at the sweep's last point the sum of them all. -/
theorem sweep_sum {nk tk K N : ℕ} (hnk : 0 < nk) (hK : nk * tk = K) (f : Fin K → EReal) (s : ∀ n, n < N → EReal) (t : ℕ) (ht : t < N)
    (hl : t % nk = nk - 1)
    (h0 : ∀ n (h : n < N), n / nk = t / nk → n % nk = 0 → s n h = part tk f (n % nk))
    (hs : ∀ n (h : n < N), n / nk = t / nk → n % nk ≠ 0 → s n h = s (n - 1) (Nat.lt_of_le_of_lt (Nat.sub_le _ _) h) + part tk f (n % nk)) :
    s t ht = ∑ k, f k := by
  have hd := Nat.div_add_mod t nk
  have hN : ∀ u, u < nk → nk * (t / nk) + u < N := fun u hu => by omega
  have e1 : ∀ u, u < nk → (nk * (t / nk) + u) / nk = t / nk := fun u hu => by
    rw [Nat.mul_add_div hnk, Nat.div_eq_of_lt hu, Nat.add_zero]
  have e2 : ∀ u, u < nk → (nk * (t / nk) + u) % nk = u := fun u hu => by rw [Nat.mul_add_mod, Nat.mod_eq_of_lt hu]
  have key := sweep (fun u (hu : u < nk) => s (nk * (t / nk) + u) (hN u hu)) (part tk f)
    (fun h => by rw [h0 _ _ (e1 0 h) (e2 0 h), e2 0 h])
    (fun u h => by rw [hs _ _ (e1 _ h) (by rw [e2 _ h]; omega), e2 _ h]; rfl) (nk - 1) (by omega)
  rw [← sum_parts nk tk hK f]
  have e3 : nk - 1 + 1 = nk := by omega
  rw [e3] at key
  rw [← key]
  congr 1
  omega

end Cert.Prod

end
-- ==== Proof.FfnInputs.lean ====
module

public import proofs.«01_k».proof.Defs
public import proofs.«01_k».proof.Proof.Gen.KernelDownDgrad.Frame
public import proofs.«01_k».proof.Proof.Gen.KernelDownDgradIdeal.Value
public import proofs.«01_k».proof.Proof.Gen.ReferenceDownDgradIdeal.Read
public import proofs.«01_k».proof.Proof.Gen.KernelUpDgradVal.Frame
public import proofs.«01_k».proof.Proof.Gen.KernelUpDgradValIdeal.Value
public import proofs.«01_k».proof.Proof.Gen.ReferenceUpDgradValIdeal.Read
public import proofs.«01_k».proof.Proof.Gen.KernelUpDgradGate.Frame
public import proofs.«01_k».proof.Proof.Gen.KernelUpDgradGateIdeal.Value
public import proofs.«01_k».proof.Proof.Gen.ReferenceUpDgradGateIdeal.Read
public import proofs.«01_k».proof.Proof.Prod

@[expose] public section

set_option maxRecDepth 16384

/-! The input gradients of the feed-forward layer's products. -/

noncomputable section

open Idealize.ShloMosaic Idealize.ShloMosaic.TcCoe Idealize.SL.Sem Cert.Prod

/-! ## The down projection's: a block of rows of the gradient times a block of rows of the weight transposed -/

namespace Cert.KernelDownDgradIdeal.Prod

open Cert.KernelDownDgradIdeal Cert.KernelDownDgradIdeal.Gen Cert.KernelDownDgradIdeal.Value

variable (m : (ℓ : Loc nD τ sig) → Buf (Elt Ideal) ℓ) (c : Dev nD)

/-- The gradient and the weight, as launched. -/
abbrev A : Vec Ideal S4096x1024 .f32 := m ((c : Thread nD τ).loc main_arg0)
abbrev B : Vec Ideal S2816x1024 .bf16 := m ((c : Thread nD τ).loc main_arg1)

theorem at0 : ∀ t : Fin cfg0.N, win0_0.index t = ![t.val / 2, 0] := (by decide +kernel : ∀ t : Fin grid0.N, _)
theorem at1 : ∀ t : Fin cfg0.N, win0_1.index t = ![t.val % 2, 0] := (by decide +kernel : ∀ t : Fin grid0.N, _)
theorem at2 : ∀ t : Fin cfg0.N, win0_2.index t = ![t.val / 2, t.val % 2] := (by decide +kernel : ∀ t : Fin grid0.N, _)

/-- The result's array is the product. -/
theorem final : (dats m 0 c).arrAt 2 cfg0.N = mulT (A m c) (B m c) := by
  refine (dats m 0 c).arrAt_eq_of_covers 2 _ (by decide +kernel) fun t _ y => ?_
  blk_simp
  rw [after0_2]
  frame_out
  unfold k0_pay1
  pointwise [dot_S1024x1024_S1408x1024_S1024x1408_1_1_0_0_n_n]
  blk_simp [iblk]
  exact mulT_of_places (A m c) (B m c) _ _ _ (fun k => by blk_simp [at0, at2]) (fun k => by blk_simp [at0])
    (fun k => by blk_simp [at1, at2]) (fun k => by blk_simp [at1])

/-- So is the reference's. -/
theorem ref_eq : ReferenceDownDgradIdeal.Read.val_main_v3 (F := Ideal) (A m c) (B m c) = mulT (A m c) (B m c) := by
  funext i
  rw [ReferenceDownDgradIdeal.Read.val_main_v3_apply]
  exact mulT_of_places _ _ i _ _ (fun _ => rfl) (fun _ => rfl) (fun _ => rfl) (fun _ => rfl)

/-- Kernel, idealized kernel and reference run to their ends and leave their arguments alone. -/
theorem frame_p : Cert.quiescent_KernelDownDgrad := fun m ρ _ => Cert.KernelDownDgrad.Gen.frame m ρ
theorem frame_pi : Cert.quiescent_KernelDownDgradIdeal := fun m ρ _ => frame m ρ
theorem frame_ri : Cert.quiescent_ReferenceDownDgradIdeal := fun m ρ _ =>
  (θ_run ReferenceDownDgradIdeal.defs _ _).mono (fun r h => ⟨fun c => (h c).2, sem_eq_zero_of_no_sems (by decide) r.2⟩)
    (ReferenceDownDgradIdeal.Value.run (F := Ideal) m ρ)

/-- At every pair of arguments the idealized kernel's result is the reference's. -/
theorem algebraic : Cert.algebraic_KernelDownDgradIdeal_ReferenceDownDgradIdeal := by
  intro m ρ m' ρ' _ hagree
  refine ⟨fun c => mulT (A m c) (B m c), (θ_run _ _ _).mono (fun r h c => ⟨(h c).1.trans (final m c), (h c).2⟩) (run_blocks m ρ),
    (θ_run ReferenceDownDgradIdeal.defs _ _).mono (fun r h c => ⟨(h c).1.trans ?_, (h c).2⟩) (ReferenceDownDgradIdeal.Value.run (F := Ideal) m' ρ')⟩
  rw [ReferenceDownDgradIdeal.Read.val_main_v3_eq, (hagree c).1, (hagree c).2]
  exact ref_eq m c

end Cert.KernelDownDgradIdeal.Prod

/-! ## The value branch's up projection's: two blocks of the contracted axis -/

namespace Cert.KernelUpDgradValIdeal.Prod

open Cert.KernelUpDgradValIdeal Cert.KernelUpDgradValIdeal.Gen Cert.KernelUpDgradValIdeal.Value

variable (m : (ℓ : Loc nD τ sig) → Buf (Elt Ideal) ℓ) (c : Dev nD)

/-- The gradient and the weight, as launched. -/
abbrev A : Vec Ideal S4096x2816 .bf16 := m ((c : Thread nD τ).loc main_arg0)
abbrev B : Vec Ideal S1024x2816 .bf16 := m ((c : Thread nD τ).loc main_arg1)

theorem at0 : ∀ t : Fin cfg0.N, win0_0.index t = ![t.val / 2, t.val % 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, 0] := (by decide +kernel : ∀ t : Fin grid0.N, _)
theorem last : ∀ t : Fin cfg0.N, (cfg0.win 2).flush t = true → t.val % 2 = 1 := (by decide +kernel : ∀ t : Fin grid0.N, win0_2.flush t = true → t.val % 2 = 1)

/-- The product of a point's blocks. -/
def blk (t : Fin cfg0.N) (y : S1024x1024.Idx) : EReal := k0_pay1 (F := Ideal) (iblk m c 0 t) (iblk m c 1 t) y

/-- It is a block of the terms of the result's entry there. -/
theorem blk_eq (t u : Fin cfg0.N) (h : t.val / 2 = u.val / 2) (y : S1024x1024.Idx) :
    blk m c t y = part 1408 (fun k : Fin 2816 => A m c (ix2 (((win0_2.blk u).view.emb y) 0) k) * B m c (ix2 (((win0_2.blk u).view.emb y) 1) k)) (t.val % 2) := by
  unfold blk k0_pay1
  pointwise [dot_S1024x1408_S1024x1408_S1024x1024_1_1_0_0_n_n]
  blk_simp [iblk]
  exact mulT_part (A m c) (B m c) _ _ (by omega) _ _ (fun k => by blk_simp [at0, at2]; omega) (fun k => by blk_simp [at0]; omega)
    (fun k => by blk_simp [at1, at2]) (fun k => by blk_simp [at1]; omega)

theorem first (t : Fin cfg0.N) (h : t.val % 2 = 0) (y : S1024x1024.Idx) : (outsAt0 m c t.val t.isLt).2 y = blk m c t y := by
  rw [outsAt0_A m c t h (by omega) (by omega)]
  frame_out
  unfold k0_pay2 blk
  pointwise

theorem next (t : Fin cfg0.N) (h : t.val % 2 ≠ 0) (y : S1024x1024.Idx) :
    (outsAt0 m c t.val t.isLt).2 y = (outsAt0 m c (t.val - 1) (Nat.lt_of_le_of_lt (Nat.sub_le _ _) t.isLt)).2 y + blk m c t y := by
  rw [outsAt0_B m c t h (by omega) (by omega)]
  frame_out
  rw [(Memref.isWhole_whole cc0_scratch0).read_unread]
  unfold k0_pay3 blk
  pointwise

theorem out_last (t : Fin cfg0.N) (h : t.val % 2 = 1) : (outsAt0 m c t.val t.isLt).1 = (outsAt0 m c t.val t.isLt).2 := by
  rw [outsAt0_B m c t (by omega) h h]
  frame_out

/-- The result's array is the product. -/
theorem final : (dats m 0 c).arrAt 2 cfg0.N = mulT (A m c) (B m c) := by
  refine (dats m 0 c).arrAt_eq_of_covers 2 _ (by decide +kernel) fun t hf y => ?_
  have hl := last t hf
  blk_simp
  rw [after0_2, out_last m c t hl]
  exact sweep_sum (nk := 2) (tk := 1408) (by decide) rfl _ (fun n h => (outsAt0 m c n h).2 y) t.val t.isLt hl
    (fun n h hq hn => (first m c ⟨n, h⟩ hn y).trans (blk_eq m c ⟨n, h⟩ t hq y))
    (fun n h hq hn => (next m c ⟨n, h⟩ hn y).trans (congrArg (_ + ·) (blk_eq m c ⟨n, h⟩ t hq y)))

/-- So is the reference's. -/
theorem ref_eq : ReferenceUpDgradValIdeal.Read.val_main_v4 (F := Ideal) (A m c) (B m c) = mulT (A m c) (B m c) := by
  funext i
  rw [ReferenceUpDgradValIdeal.Read.val_main_v4_apply]
  exact mulT_of_places _ _ i _ _ (fun _ => rfl) (fun _ => rfl) (fun _ => rfl) (fun _ => rfl)

/-- Kernel, idealized kernel and reference run to their ends and leave their arguments alone. -/
theorem frame_p : Cert.quiescent_KernelUpDgradVal := fun m ρ _ => Cert.KernelUpDgradVal.Gen.frame m ρ
theorem frame_pi : Cert.quiescent_KernelUpDgradValIdeal := fun m ρ _ => frame m ρ
theorem frame_ri : Cert.quiescent_ReferenceUpDgradValIdeal := fun m ρ _ =>
  (θ_run ReferenceUpDgradValIdeal.defs _ _).mono (fun r h => ⟨fun c => (h c).2, sem_eq_zero_of_no_sems (by decide) r.2⟩)
    (ReferenceUpDgradValIdeal.Value.run (F := Ideal) m ρ)

/-- At every pair of arguments the idealized kernel's result is the reference's. -/
theorem algebraic : Cert.algebraic_KernelUpDgradValIdeal_ReferenceUpDgradValIdeal := by
  intro m ρ m' ρ' _ hagree
  refine ⟨fun c => mulT (A m c) (B m c), (θ_run _ _ _).mono (fun r h c => ⟨(h c).1.trans (final m c), (h c).2⟩) (run_blocks m ρ),
    (θ_run ReferenceUpDgradValIdeal.defs _ _).mono (fun r h c => ⟨(h c).1.trans ?_, (h c).2⟩) (ReferenceUpDgradValIdeal.Value.run (F := Ideal) m' ρ')⟩
  rw [ReferenceUpDgradValIdeal.Read.val_main_v4_eq, (hagree c).1, (hagree c).2]
  exact ref_eq m c

end Cert.KernelUpDgradValIdeal.Prod

/-! ## The gate branch's, added to the value branch's -/

namespace Cert.KernelUpDgradGateIdeal.Prod

open Cert.KernelUpDgradGateIdeal Cert.KernelUpDgradGateIdeal.Gen Cert.KernelUpDgradGateIdeal.Value

variable (m : (ℓ : Loc nD τ sig) → Buf (Elt Ideal) ℓ) (c : Dev nD)

/-- The gradient, the weight and what it is added to, as launched. -/
abbrev A : Vec Ideal S4096x2816 .bf16 := m ((c : Thread nD τ).loc main_arg0)
abbrev B : Vec Ideal S1024x2816 .bf16 := m ((c : Thread nD τ).loc main_arg1)
abbrev R : Vec Ideal S4096x1024 .f32 := m ((c : Thread nD τ).loc main_arg2)

theorem at0 : ∀ t : Fin cfg0.N, win0_0.index t = ![t.val / 2, t.val % 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, 0] := (by decide +kernel : ∀ t : Fin grid0.N, _)
theorem at3 : ∀ t : Fin cfg0.N, win0_3.index t = ![t.val / 2, 0] := (by decide +kernel : ∀ t : Fin grid0.N, _)
theorem last : ∀ t : Fin cfg0.N, (cfg0.win 3).flush t = true → t.val % 2 = 1 := (by decide +kernel : ∀ t : Fin grid0.N, win0_3.flush t = true → t.val % 2 = 1)

/-- The product of a point's blocks. -/
def blk (t : Fin cfg0.N) (y : S1024x1024.Idx) : EReal := k0_pay1 (F := Ideal) (iblk m c 0 t) (iblk m c 1 t) y

/-- It is a block of the terms of the result's entry there. -/
theorem blk_eq (t u : Fin cfg0.N) (h : t.val / 2 = u.val / 2) (y : S1024x1024.Idx) :
    blk m c t y = part 1408 (fun k : Fin 2816 => A m c (ix2 (((win0_3.blk u).view.emb y) 0) k) * B m c (ix2 (((win0_3.blk u).view.emb y) 1) k)) (t.val % 2) := by
  unfold blk k0_pay1
  pointwise [dot_S1024x1408_S1024x1408_S1024x1024_1_1_0_0_n_n]
  blk_simp [iblk]
  exact mulT_part (A m c) (B m c) _ _ (by omega) _ _ (fun k => by blk_simp [at0, at3]; omega) (fun k => by blk_simp [at0]; omega)
    (fun k => by blk_simp [at1, at3]) (fun k => by blk_simp [at1]; omega)

theorem first (t : Fin cfg0.N) (h : t.val % 2 = 0) (y : S1024x1024.Idx) : (outsAt0 m c t.val t.isLt).2 y = blk m c t y := by
  rw [outsAt0_A m c t h (by omega) (by omega)]
  frame_out
  unfold k0_pay2 blk
  pointwise

theorem next (t : Fin cfg0.N) (h : t.val % 2 ≠ 0) (y : S1024x1024.Idx) :
    (outsAt0 m c t.val t.isLt).2 y = (outsAt0 m c (t.val - 1) (Nat.lt_of_le_of_lt (Nat.sub_le _ _) t.isLt)).2 y + blk m c t y := by
  rw [outsAt0_B m c t h (by omega) (by omega)]
  frame_out
  rw [(Memref.isWhole_whole cc0_scratch0).read_unread]
  unfold k0_pay3 blk
  pointwise

/-- At the last point of a sweep the block of the result is the scratch plus the block it is added to. -/
theorem out_last (t : Fin cfg0.N) (h : t.val % 2 = 1) (y : S1024x1024.Idx) :
    (outsAt0 m c t.val t.isLt).1 y = (outsAt0 m c t.val t.isLt).2 y + (iblk m c 2 t : Vec Ideal S1024x1024 .f32) y := by
  rw [outsAt0_B m c t (by omega) h h]
  frame_out
  unfold k0_pay4
  pointwise

/-- The result's array is the product plus what it is added to. -/
theorem final : (dats m 0 c).arrAt 3 cfg0.N = fun i => mulT (A m c) (B m c) i + R m c i := by
  refine (dats m 0 c).arrAt_eq_of_covers 3 _ (by decide +kernel) fun t hf y => ?_
  have hl := last t hf
  blk_simp
  rw [after0_3, out_last m c t hl]
  blk_simp [iblk]
  exact congrArg₂ (· + ·) (sweep_sum (nk := 2) (tk := 1408) (by decide) rfl _ (fun n h => (outsAt0 m c n h).2 y) t.val t.isLt hl
    (fun n h hq hn => (first m c ⟨n, h⟩ hn y).trans (blk_eq m c ⟨n, h⟩ t hq y))
    (fun n h hq hn => (next m c ⟨n, h⟩ hn y).trans (congrArg (_ + ·) (blk_eq m c ⟨n, h⟩ t hq y))))
    (congrArg (R m c) (by blk_ext [at2, at3]))

/-- So is the reference's. -/
theorem ref_eq : ReferenceUpDgradGateIdeal.Read.val_main_v5 (F := Ideal) (A m c) (B m c) (R m c) = fun i => mulT (A m c) (B m c) i + R m c i := by
  funext i
  rw [ReferenceUpDgradGateIdeal.Read.val_main_v5_apply, ReferenceUpDgradGateIdeal.Read.val_main_v4_apply]
  exact (add_comm _ _).trans (congrArg (· + R m c i)
    (mulT_of_places _ _ i _ _ (fun _ => rfl) (fun _ => rfl) (fun _ => rfl) (fun _ => rfl)))

/-- Kernel, idealized kernel and reference run to their ends and leave their arguments alone. -/
theorem frame_p : Cert.quiescent_KernelUpDgradGate := fun m ρ _ => Cert.KernelUpDgradGate.Gen.frame m ρ
theorem frame_pi : Cert.quiescent_KernelUpDgradGateIdeal := fun m ρ _ => frame m ρ
theorem frame_ri : Cert.quiescent_ReferenceUpDgradGateIdeal := fun m ρ _ =>
  (θ_run ReferenceUpDgradGateIdeal.defs _ _).mono (fun r h => ⟨fun c => (h c).2, sem_eq_zero_of_no_sems (by decide) r.2⟩)
    (ReferenceUpDgradGateIdeal.Value.run (F := Ideal) m ρ)

/-- At every triple of arguments the idealized kernel's result is the reference's. -/
theorem algebraic : Cert.algebraic_KernelUpDgradGateIdeal_ReferenceUpDgradGateIdeal := by
  intro m ρ m' ρ' _ hagree
  refine ⟨fun c i => mulT (A m c) (B m c) i + R m c i, (θ_run _ _ _).mono (fun r h c => ⟨(h c).1.trans (final m c), (h c).2⟩) (run_blocks m ρ),
    (θ_run ReferenceUpDgradGateIdeal.defs _ _).mono (fun r h c => ⟨(h c).1.trans ?_, (h c).2⟩) (ReferenceUpDgradGateIdeal.Value.run (F := Ideal) m' ρ')⟩
  rw [ReferenceUpDgradGateIdeal.Read.val_main_v5_eq, (hagree c).1, (hagree c).2.1, (hagree c).2.2]
  exact ref_eq m c

end Cert.KernelUpDgradGateIdeal.Prod

end
-- ==== Proof.FfnStacks.lean ====
module

public import proofs.«01_k».proof.Defs
public import proofs.«01_k».proof.Proof.Gen.KernelDownWgrad.Frame
public import proofs.«01_k».proof.Proof.Gen.KernelDownWgradIdeal.Value
public import proofs.«01_k».proof.Proof.Gen.ReferenceDownWgradIdeal.Read
public import proofs.«01_k».proof.Proof.Gen.KernelUpWgradVal.Frame
public import proofs.«01_k».proof.Proof.Gen.KernelUpWgradValIdeal.Value
public import proofs.«01_k».proof.Proof.Gen.ReferenceUpWgradValIdeal.Read
public import proofs.«01_k».proof.Proof.Gen.KernelUpWgradGate.Frame
public import proofs.«01_k».proof.Proof.Gen.KernelUpWgradGateIdeal.Value
public import proofs.«01_k».proof.Proof.Gen.ReferenceUpWgradGateIdeal.Read
public import proofs.«01_k».proof.Proof.Prod

@[expose] public section

set_option maxRecDepth 16384

/-! The gradients of the feed-forward layer's weights, in shards. -/

noncomputable section

open Idealize.ShloMosaic Idealize.ShloMosaic.TcCoe Idealize.SL.Sem Cert.Prod

/-! ## The down weight, in eight shards of rows -/

namespace Cert.KernelDownWgradIdeal.Prod

open Cert.KernelDownWgradIdeal Cert.KernelDownWgradIdeal.Gen Cert.KernelDownWgradIdeal.Value

variable (m : (ℓ : Loc nD τ sig) → Buf (Elt Ideal) ℓ) (c : Dev nD)

/-- The activations and the gradient, as launched. -/
abbrev A : Vec Ideal S4096x2816 .bf16 := m ((c : Thread nD τ).loc main_arg0)
abbrev B : Vec Ideal S4096x1024 .f32 := m ((c : Thread nD τ).loc main_arg1)

theorem zz : (![0, 0] : Fin 2 → Nat) = fun _ => 0 := funext fun a => by fin_cases a <;> rfl
theorem lt8 (t : Fin cfg0.N) : t.val < 8 := lt_of_lt_of_eq t.isLt N_0
theorem at0 : ∀ t : Fin cfg0.N, win0_0.index t = ![t.val % 4, t.val / 4] := (by decide +kernel : ∀ t : Fin grid0.N, _)
theorem at1 : ∀ t : Fin cfg0.N, win0_1.index t = ![t.val % 4, 0] := (by decide +kernel : ∀ t : Fin grid0.N, _)
theorem at2 : ∀ t : Fin cfg0.N, win0_2.index t = ![t.val / 4, 0, 0] := (by decide +kernel : ∀ t : Fin grid0.N, _)

/-- The shards of the product. -/
def G : Vec Ideal S8x352x1024 .bf16 := fun i => Tmul (A m c) (B m c) (rowAt (R := 2816) (by decide) i)

/-- The product of a point's blocks. -/
def blk (t : Fin cfg0.N) (y : S1408x1024.Idx) : EReal := k0_pay1 (F := Ideal) (iblk m c 0 t) (iblk m c 1 t) y

/-- It is a block of the terms of the product's entry there. -/
theorem blk_eq (t : Fin cfg0.N) (y : S1408x1024.Idx) (z : (⟨2, ![2816, 1024]⟩ : Shape).Idx) (z0 : (z 0).val = 1408 * (t.val / 4) + (y 0).val)
    (z1 : (z 1).val = (y 1).val) :
    blk m c t y = part 1024 (fun k : Fin 4096 => A m c (ix2 k (z 0)) * B m c (ix2 k (z 1))) (t.val % 4) := by
  have ht := lt8 t
  unfold blk k0_pay1
  pointwise [dot_S1024x1408_S1024x1024_S1408x1024_0_0_1_1_n_n]
  blk_simp [iblk]
  exact Tmul_part (A m c) (B m c) z _ (by omega) _ _ (fun k => by blk_simp [at0]; omega) (fun k => by rw [z0]; blk_simp [at0]; omega)
    (fun k => by blk_simp [at1]; omega) (fun k => by rw [z1]; blk_simp [at1])

theorem first (t : Fin cfg0.N) (h : t.val % 4 = 0) (y : S1408x1024.Idx) : (outsAt0 m c t.val t.isLt).2 y = blk m c t y := by
  rw [outsAt0_A m c t h (by omega) (by omega)]
  frame_out
  unfold k0_pay2 blk
  pointwise

/-- What a later point leaves in scratch. -/
theorem scratch (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  rcases Decidable.em (t.val % 4 = 3) with h3 | h3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem next (t : Fin cfg0.N) (h : t.val % 4 ≠ 0) (y : S1408x1024.Idx) :
    (outsAt0 m c t.val t.isLt).2 y = (outsAt0 m c (t.val - 1) (Nat.lt_of_le_of_lt (Nat.sub_le _ _) t.isLt)).2 y + blk m c t y := by
  rw [scratch m c t h]
  unfold k0_pay3 blk
  pointwise

/-- A shard stored is what is stored. -/
theorem pay_apply (w : Vec Ideal S352x1024 .f32) (x : S1x352x1024.Idx) : k0_pay4 w x = w (ix2 (x 1) (x 2)) := by
  obtain ⟨o, r, d, rfl⟩ : ∃ (o : Fin 1) (r : Fin 352) (d : Fin 1024), x = ix3 o r d := ⟨x 0, x 1, x 2, (by funext a; fin_cases a <;> rfl)⟩
  unfold k0_pay4
  pointwise

/-- The last point of a sweep leaves the scratch's shards. -/
theorem out_last (t : Fin cfg0.N) (h : t.val % 4 = 3) (y : S4x352x1024.Idx) :
    (outsAt0 m c t.val t.isLt).1 y = (outsAt0 m c t.val t.isLt).2 (rowAt (R := 1408) (by decide) y) := by
  rw [scratch m c t (by omega), outsAt0_C m c t (by omega) (by omega) h]
  dsimp only
  unfold out0_C_2
  rw [View.read_writes_eq_canon _ _ _ (fun y => cover0_C_2 ..)]
  refine View.canon_apply_of_pieces (Val := Elt Ideal) (e := .bf16) (fun y => k0_pay3 (iblk m c 0 t) (iblk m c 1 t)
      (outsAt0 m c (t.val - 1) (Nat.lt_of_le_of_lt (Nat.sub_le _ _) t.isLt)).2 (rowAt (R := 1408) (by decide) y)) _ ?_ _ (cover0_C_2 ..)
  unfold kernelRun0_C
  dsimp only
  sl_unfold_words
  simp only [View.readAt_eq_ld, readCov_sub (S := S1408x1024) _ zz, (hs0_0 t).read_unread, (hs0_1 t).read_unread,
    (Memref.isWhole_whole _).read_unread, View.ld_unit_zero (S := S1024x1408) zz, View.ld_unit_zero (S := S1024x1024) zz,
    View.ld_unit_zero (S := S1408x1024) zz]
  generalize k0_pay3 (iblk m c 0 t) (iblk m c 1 t) (outsAt0 m c (t.val - 1) (Nat.lt_of_le_of_lt (Nat.sub_le _ _) t.isLt)).2 = s
  have pc := piece_rows (N := 4) (by decide) s (k0_pay4 (F := Ideal)) pay_apply
  intro p hp x
  simp only [List.mem_cons, List.not_mem_nil, or_false] at hp
  rcases hp with rfl | rfl | rfl | rfl
  · exact pc 3 _ inb_S1408x1024_S352x1024_1056_0 _ inb_S4x352x1024_S1x352x1024_3_0_0 rfl rfl x
  · exact pc 2 _ inb_S1408x1024_S352x1024_704_0 _ inb_S4x352x1024_S1x352x1024_2_0_0 rfl rfl x
  · exact pc 1 _ inb_S1408x1024_S352x1024_352_0 _ inb_S4x352x1024_S1x352x1024_1_0_0 rfl rfl x
  · exact pc 0 _ inb_S1408x1024_S352x1024_0_0 _ inb_S4x352x1024_S1x352x1024_0_0_0 rfl rfl x

/-- They are those of the product. -/
theorem out_sum (t : Fin cfg0.N) (h : t.val % 4 = 3) (y : S4x352x1024.Idx) (z : (⟨2, ![2816, 1024]⟩ : Shape).Idx)
    (z0 : (z 0).val = 1408 * (t.val / 4) + (352 * (y 0).val + (y 1).val)) (z1 : (z 1).val = (y 2).val) :
    (outsAt0 m c t.val t.isLt).1 y = Tmul (A m c) (B m c) z := by
  rw [out_last m c t h]
  exact sweep_sum (nk := 4) (tk := 1024) (by decide) rfl _ (fun n h => (outsAt0 m c n h).2 (rowAt (R := 1408) (by decide) y)) t.val t.isLt h
    (fun n h hq hn => (first m c ⟨n, h⟩ hn _).trans (blk_eq m c ⟨n, h⟩ _ z (by rw [z0, ← hq]; rfl) z1))
    (fun n h hq hn => (next m c ⟨n, h⟩ hn _).trans (congrArg (_ + ·) (blk_eq m c ⟨n, h⟩ _ z (by rw [z0, ← hq]; rfl) z1)))

/-- The result's array is the shards of the product. -/
theorem final : (dats m 0 c).arrAt 2 cfg0.N = G m c := by
  refine (dats m 0 c).arrAt_eq_of_covers 2 _ (by decide +kernel) fun t hf y => ?_
  have hl := (flush0_2 t).mp hf
  blk_simp
  rw [after0_2]
  exact out_sum m c t hl y _ (by unfold rowAt; blk_simp [at2]; dsimp only; omega) (by unfold rowAt; blk_simp [at2])

/-- So is the reference's. -/
theorem ref_eq : ReferenceDownWgradIdeal.Read.val_main_v6 (F := Ideal) (A m c) (B m c) = G m c := by
  funext i
  rw [ReferenceDownWgradIdeal.Read.val_main_v6_apply, ReferenceDownWgradIdeal.Read.val_main_v5_apply,
    ReferenceDownWgradIdeal.Read.val_main_v4_apply, ReferenceDownWgradIdeal.Read.val_main_v3_apply]
  have h1 : (i 1).val < 352 := (i 1).isLt
  have h2 : (i 2).val < 1024 := (i 2).isLt
  refine Tmul_of_places (A m c) (B m c) (rowAt (R := 2816) (by decide) i) _ _ (fun _ => rfl) (fun _ => ?_) (fun _ => rfl) (fun _ => ?_)
  · show (((i 0).val * 352 + (i 1).val) * 1024 + (i 2).val) / 1024 = 352 * (i 0).val + (i 1).val; omega
  · show (((i 0).val * 352 + (i 1).val) * 1024 + (i 2).val) % 1024 = (i 2).val; omega

/-- Kernel, idealized kernel and reference run to their ends and leave their arguments alone. -/
theorem frame_p : Cert.quiescent_KernelDownWgrad := fun m ρ _ => Cert.KernelDownWgrad.Gen.frame m ρ
theorem frame_pi : Cert.quiescent_KernelDownWgradIdeal := fun m ρ _ => frame m ρ
theorem frame_ri : Cert.quiescent_ReferenceDownWgradIdeal := fun m ρ _ =>
  (θ_run ReferenceDownWgradIdeal.defs _ _).mono (fun r h => ⟨fun c => (h c).2, sem_eq_zero_of_no_sems (by decide) r.2⟩)
    (ReferenceDownWgradIdeal.Value.run (F := Ideal) m ρ)

/-- At every triple of arguments the idealized kernel's result is the reference's. -/
theorem algebraic : Cert.algebraic_KernelDownWgradIdeal_ReferenceDownWgradIdeal := by
  intro m ρ m' ρ' _ hagree
  refine ⟨fun c => G m c, (θ_run _ _ _).mono (fun r h c => ⟨(h c).1.trans (final m c), (h c).2⟩) (run_blocks m ρ),
    (θ_run ReferenceDownWgradIdeal.defs _ _).mono (fun r h c => ⟨(h c).1.trans ?_, (h c).2⟩) (ReferenceDownWgradIdeal.Value.run (F := Ideal) m' ρ')⟩
  rw [ReferenceDownWgradIdeal.Read.val_main_v6_eq, (hagree c).1, (hagree c).2.1]
  exact ref_eq m c

end Cert.KernelDownWgradIdeal.Prod

/-! ## The value branch's up weight, in four shards of columns in the first places of the stack -/

namespace Cert.KernelUpWgradValIdeal.Prod

open Cert.KernelUpWgradValIdeal Cert.KernelUpWgradValIdeal.Gen Cert.KernelUpWgradValIdeal.Value

variable (m : (ℓ : Loc nD τ sig) → Buf (Elt Ideal) ℓ) (c : Dev nD)

/-- The layer's input, the gradient and the stack, as launched. -/
abbrev A : Vec Ideal S4096x1024 .bf16 := m ((c : Thread nD τ).loc main_arg0)
abbrev B : Vec Ideal S4096x2816 .bf16 := m ((c : Thread nD τ).loc main_arg1)
abbrev T : Vec Ideal S8x1024x704 .bf16 := m ((c : Thread nD τ).loc main_arg2)

theorem zz : (![0, 0] : Fin 2 → Nat) = fun _ => 0 := funext fun a => by fin_cases a <;> rfl
theorem lt8 (t : Fin cfg0.N) : t.val < 8 := lt_of_lt_of_eq t.isLt N_0
theorem at0 : ∀ t : Fin cfg0.N, win0_0.index t = ![t.val % 4, t.val / 4] := (by decide +kernel : ∀ t : Fin grid0.N, _)
theorem at1 : ∀ t : Fin cfg0.N, win0_1.index t = ![t.val % 4, 0] := (by decide +kernel : ∀ t : Fin grid0.N, _)
theorem at2 : ∀ t : Fin cfg0.N, win0_2.index t = ![0, t.val / 4, 0] := (by decide +kernel : ∀ t : Fin grid0.N, _)

/-- The stack with the shards of the product in its places. -/
def G : Vec Ideal S8x1024x704 .bf16 := fun i =>
  if (i 0).val < 4 then Tmul (A m c) (B m c) (halfAt (C := 2816) (by decide) i) else T m c i

/-- The result's buffer starts as the stack. -/
theorem stack_V (i : S8x1024x704.Idx) : V m c main_v0 i = T m c i := by
  show StableHlo.after hostOps0 (fun b => m (c, b)) main_v0 i = _
  unfold hostOps0
  simp
  rfl

/-- The product of a point's blocks. -/
def blk (t : Fin cfg0.N) (y : S512x2816.Idx) : EReal := k0_pay1 (F := Ideal) (iblk m c 0 t) (iblk m c 1 t) y

/-- It is a block of the terms of the product's entry there. -/
theorem blk_eq (t : Fin cfg0.N) (y : S512x2816.Idx) (z : S1024x2816.Idx) (z0 : (z 0).val = 512 * (t.val / 4) + (y 0).val)
    (z1 : (z 1).val = (y 1).val) :
    blk m c t y = part 1024 (fun k : Fin 4096 => A m c (ix2 k (z 0)) * B m c (ix2 k (z 1))) (t.val % 4) := by
  have ht := lt8 t
  unfold blk k0_pay1
  pointwise [dot_S1024x512_S1024x2816_S512x2816_0_0_1_1_n_n]
  blk_simp [iblk]
  exact Tmul_part (A m c) (B m c) z _ (by omega) _ _ (fun k => by blk_simp [at0]; omega) (fun k => by rw [z0]; blk_simp [at0]; omega)
    (fun k => by blk_simp [at1]; omega) (fun k => by rw [z1]; blk_simp [at1])

theorem first (t : Fin cfg0.N) (h : t.val % 4 = 0) (y : S512x2816.Idx) : (outsAt0 m c t.val t.isLt).2 y = blk m c t y := by
  rw [outsAt0_A m c t h (by omega) (by omega)]
  frame_out
  unfold k0_pay2 blk
  pointwise

/-- What a later point leaves in scratch. -/
theorem scratch (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  rcases Decidable.em (t.val % 4 = 3) with h3 | h3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem next (t : Fin cfg0.N) (h : t.val % 4 ≠ 0) (y : S512x2816.Idx) :
    (outsAt0 m c t.val t.isLt).2 y = (outsAt0 m c (t.val - 1) (Nat.lt_of_le_of_lt (Nat.sub_le _ _) t.isLt)).2 y + blk m c t y := by
  rw [scratch m c t h]
  unfold k0_pay3 blk
  pointwise

/-- A shard stored is what is stored. -/
theorem pay_apply (w : Vec Ideal S512x704 .f32) (x : S1x512x704.Idx) : k0_pay4 w x = w (ix2 (x 1) (x 2)) := by
  obtain ⟨o, r, d, rfl⟩ : ∃ (o : Fin 1) (r : Fin 512) (d : Fin 704), x = ix3 o r d := ⟨x 0, x 1, x 2, (by funext a; fin_cases a <;> rfl)⟩
  unfold k0_pay4
  pointwise

/-- A shard of columns of `s`, from column `off` on, stored in its place. -/
def shard (s : Vec Ideal S512x2816 .f32) (off : Fin 2 → ℕ) (inb : ∀ a, off a + S512x704.size a ≤ S512x2816.size a)
    (off' : Fin 3 → ℕ) (inb' : ∀ a, off' a + S1x512x704.size a ≤ S4x512x704.size a) : View.Piece (Elt Ideal) S4x512x704 .bf16 :=
  ⟨Rect.unit (s := S4x512x704) off' S1x512x704.size inb', k0_pay4 (View.ld (Val := Elt Ideal) (e' := .f32) s (Rect.unit (s := S512x2816) off S512x704.size inb))⟩

/-- The four shards stored are the columns of what they are cut from. -/
theorem pieces (s : Vec Ideal S512x2816 .f32) :
    ∀ p ∈ [shard s _ inb_S512x2816_S512x704_0_2112 _ inb_S4x512x704_S1x512x704_3_0_0, shard s _ inb_S512x2816_S512x704_0_1408 _ inb_S4x512x704_S1x512x704_2_0_0,
      shard s _ inb_S512x2816_S512x704_0_704 _ inb_S4x512x704_S1x512x704_1_0_0, shard s _ inb_S512x2816_S512x704_0_0 _ inb_S4x512x704_S1x512x704_0_0_0],
      ∀ x, p.2 x = s (colAt (N := 4) (C := 2816) (by decide) (p.1.emb x)) := by
  have pc := piece_cols (N := 4) (by decide) s (k0_pay4 (F := Ideal)) pay_apply
  intro p hp x
  simp only [List.mem_cons, List.not_mem_nil, or_false] at hp
  rcases hp with rfl | rfl | rfl | rfl
  · exact pc 3 _ _ _ inb_S4x512x704_S1x512x704_3_0_0 rfl rfl x
  · exact pc 2 _ _ _ inb_S4x512x704_S1x512x704_2_0_0 rfl rfl x
  · exact pc 1 _ _ _ inb_S4x512x704_S1x512x704_1_0_0 rfl rfl x
  · exact pc 0 _ _ _ inb_S4x512x704_S1x512x704_0_0_0 rfl rfl x

/-- The last point of a sweep leaves the scratch's shards. -/
theorem out_last (t : Fin cfg0.N) (h : t.val % 4 = 3) (y : S4x512x704.Idx) :
    (outsAt0 m c t.val t.isLt).1 y = (outsAt0 m c t.val t.isLt).2 (colAt (C := 2816) (by decide) y) := by
  rw [scratch m c t (by omega), outsAt0_C m c t (by omega) (by omega) h]
  dsimp only
  unfold out0_C_2
  rw [View.read_writes_eq_canon _ _ _ (fun y => cover0_C_2 ..)]
  refine View.canon_apply_of_pieces (Val := Elt Ideal) (e := .bf16) (fun y => k0_pay3 (iblk m c 0 t) (iblk m c 1 t)
      (outsAt0 m c (t.val - 1) (Nat.lt_of_le_of_lt (Nat.sub_le _ _) t.isLt)).2 (colAt (C := 2816) (by decide) y)) _ ?_ _ (cover0_C_2 ..)
  unfold kernelRun0_C
  dsimp only
  sl_unfold_words
  simp only [View.readAt_eq_ld, readCov_sub (S := S512x2816) _ zz, (hs0_0 t).read_unread, (hs0_1 t).read_unread,
    (Memref.isWhole_whole _).read_unread, View.ld_unit_zero (S := S1024x512) zz, View.ld_unit_zero (S := S1024x2816) zz,
    View.ld_unit_zero (S := S512x2816) zz]
  generalize k0_pay3 (iblk m c 0 t) (iblk m c 1 t) (outsAt0 m c (t.val - 1) (Nat.lt_of_le_of_lt (Nat.sub_le _ _) t.isLt)).2 = s
  exact pieces s

/-- What starts afresh at a sweep's first point and adds each later point's product holds the product's entries at the last. -/
theorem sum_of_steps (s : ∀ n, n < cfg0.N → S512x2816.Idx → EReal)
    (h0 : ∀ t : Fin cfg0.N, t.val % 4 = 0 → ∀ y, s t.val t.isLt y = blk m c t y)
    (hs : ∀ t : Fin cfg0.N, t.val % 4 ≠ 0 → ∀ y, s t.val t.isLt y = s (t.val - 1) (Nat.lt_of_le_of_lt (Nat.sub_le _ _) t.isLt) y + blk m c t y)
    (t : Fin cfg0.N) (h : t.val % 4 = 3) (y : S512x2816.Idx) (z : S1024x2816.Idx)
    (z0 : (z 0).val = 512 * (t.val / 4) + (y 0).val) (z1 : (z 1).val = (y 1).val) : s t.val t.isLt y = Tmul (A m c) (B m c) z :=
  sweep_sum (nk := 4) (tk := 1024) (by decide) rfl _ (fun n h => s n h y) t.val t.isLt h
    (fun n h hq hn => (h0 ⟨n, h⟩ hn y).trans (blk_eq m c ⟨n, h⟩ y z (by rw [z0, ← hq]) z1))
    (fun n h hq hn => (hs ⟨n, h⟩ hn y).trans (congrArg (_ + ·) (blk_eq m c ⟨n, h⟩ y z (by rw [z0, ← hq]) z1)))

/-- They are those of the product. -/
theorem out_sum (t : Fin cfg0.N) (h : t.val % 4 = 3) (y : S4x512x704.Idx) (z : S1024x2816.Idx)
    (z0 : (z 0).val = 512 * (t.val / 4) + (y 1).val) (z1 : (z 1).val = 704 * (y 0).val + (y 2).val) :
    (outsAt0 m c t.val t.isLt).1 y = Tmul (A m c) (B m c) z :=
  (out_last m c t h y).trans (sum_of_steps m c (fun n h => (outsAt0 m c n h).2) (first m c) (next m c) t h _ z z0 z1)

/-- What the last point of a sweep writes back is its block of the stack. -/
theorem wrote (t : Fin cfg0.N) (hf : (cfg0.win 2).flush t = true) :
    (dats m 0 c).flushed 2 t = ((cfg0.win 2).blk t).view.read (Elt Ideal) (G m c) := by
  have hl := (flush0_2 t).mp hf
  rw [flushed2]
  funext y
  have h0 : (y 0).val < 4 := (y 0).isLt
  have h2 : (y 2).val < 704 := (y 2).isLt
  rw [View.read_apply]
  show (outsAt0 m c t.val t.isLt).1 y = _
  refine Eq.trans ?_ (if_pos (by blk_simp [at2]; omega)).symm
  exact out_sum m c t hl y _ (by unfold halfAt; blk_simp [at2]; dsimp only; omega) (by unfold halfAt; blk_simp [at2]; dsimp only; omega)

/-- The result's array is the stack with the shards of the product in its places. -/
theorem final : (dats m 0 c).arrAt 2 cfg0.N = G m c := by
  funext i
  have h1 : (i 1).val < 1024 := (i 1).isLt
  have h2 : (i 2).val < 704 := (i 2).isLt
  by_cases h0 : (i 0).val < 4
  · have hN : cfg0.N = 8 := N_0
    exact (dats m 0 c).arrAt_apply_of_mem 2 (G m c) (wrote m c) cfg0.N ⟨4 * ((i 1).val / 512) + 3, by omega⟩ i (by show _ < cfg0.N; omega)
      ((flush0_2 _).mpr (by show (4 * ((i 1).val / 512) + 3) % 4 = 3; omega)) (by mem_blk [at2]; dsimp only; omega)
  · rw [entry2 m c i fun t _ hi => by mem_blk [at2] at hi; omega]
    exact (stack_V m c i).trans (if_neg h0).symm

/-- So is the reference's. -/
theorem ref_eq : ReferenceUpWgradValIdeal.Read.val_main_v10 (F := Ideal) (A m c) (B m c) (T m c) = G m c := by
  funext i
  have h0' : (i 0).val < 8 := (i 0).isLt
  have h1 : (i 1).val < 1024 := (i 1).isLt
  have h2 : (i 2).val < 704 := (i 2).isLt
  unfold ReferenceUpWgradValIdeal.Read.val_main_v10
  by_cases h0 : (i 0).val < 4
  · refine (concatenate_pair_apply_left (s₁ := ReferenceUpWgradValIdeal.S4x1024x704) (s₂ := ReferenceUpWgradValIdeal.S4x1024x704) 0 _ _ _ i rfl
      (ix3 (⟨(i 0).val, h0⟩ : Fin 4) (⟨(i 1).val, h1⟩ : Fin 1024) (⟨(i 2).val, h2⟩ : Fin 704)) fun b => by fin_cases b <;> rfl).trans
      (Eq.trans ?_ (if_pos h0).symm)
    rw [ReferenceUpWgradValIdeal.Read.val_main_v8_apply, ReferenceUpWgradValIdeal.Read.val_main_v7_apply,
      ReferenceUpWgradValIdeal.Read.val_main_v6_apply, ReferenceUpWgradValIdeal.Read.val_main_v5_apply,
      ReferenceUpWgradValIdeal.Read.val_main_v4_apply]
    refine Tmul_of_places (A m c) (B m c) (halfAt (C := 2816) (by decide) i) _ _ (fun _ => rfl) (fun _ => ?_) (fun _ => rfl) (fun _ => ?_)
    · show (((i 1).val * 4 + (i 0).val) * 704 + (i 2).val) / 2816 = (i 1).val; omega
    · show (((i 1).val * 4 + (i 0).val) * 704 + (i 2).val) % 2816 = (704 * (i 0).val + (i 2).val) % 2816; omega
  · refine (concatenate_pair_apply_right (s₁ := ReferenceUpWgradValIdeal.S4x1024x704) (s₂ := ReferenceUpWgradValIdeal.S4x1024x704) 0 _ _ _ i rfl rfl
      (ix3 (⟨(i 0).val - 4, by omega⟩ : Fin 4) (⟨(i 1).val, h1⟩ : Fin 1024) (⟨(i 2).val, h2⟩ : Fin 704))
      (fun b hb => by fin_cases b; exact absurd rfl hb; rfl; rfl) (by show (i 0).val - 4 + 4 = (i 0).val; omega)).trans
      (Eq.trans ?_ (if_neg h0).symm)
    rw [ReferenceUpWgradValIdeal.Read.val_main_v9_apply]
    refine congrArg (T m c) (funext fun a => Fin.ext ?_)
    match a with
    | ⟨0, _⟩ => show 4 + ((i 0).val - 4) = (i 0).val; omega
    | ⟨1, _⟩ => rfl
    | ⟨2, _⟩ => rfl

/-- Kernel, idealized kernel and reference run to their ends and leave their arguments alone. -/
theorem frame_p : Cert.quiescent_KernelUpWgradVal := fun m ρ _ => Cert.KernelUpWgradVal.Gen.frame m ρ
theorem frame_pi : Cert.quiescent_KernelUpWgradValIdeal := fun m ρ _ => frame m ρ
theorem frame_ri : Cert.quiescent_ReferenceUpWgradValIdeal := fun m ρ _ =>
  (θ_run ReferenceUpWgradValIdeal.defs _ _).mono (fun r h => ⟨fun c => (h c).2, sem_eq_zero_of_no_sems (by decide) r.2⟩)
    (ReferenceUpWgradValIdeal.Value.run (F := Ideal) m ρ)

/-- At every triple of arguments the idealized kernel's result is the reference's. -/
theorem algebraic : Cert.algebraic_KernelUpWgradValIdeal_ReferenceUpWgradValIdeal := by
  intro m ρ m' ρ' _ hagree
  refine ⟨fun c => G m c, (θ_run _ _ _).mono (fun r h c => ⟨(h c).1.trans (final m c), (h c).2⟩) (run_blocks m ρ),
    (θ_run ReferenceUpWgradValIdeal.defs _ _).mono (fun r h c => ⟨(h c).1.trans ?_, (h c).2⟩) (ReferenceUpWgradValIdeal.Value.run (F := Ideal) m' ρ')⟩
  rw [ReferenceUpWgradValIdeal.Read.val_main_v10_eq, (hagree c).1, (hagree c).2.1, (hagree c).2.2]
  exact ref_eq m c

end Cert.KernelUpWgradValIdeal.Prod

/-! ## The gate branch's, whose shards take the last places: its code is the value branch's but for the place -/

namespace Cert.KernelUpWgradGateIdeal.Prod

open Cert.KernelUpWgradGateIdeal Cert.KernelUpWgradGateIdeal.Gen Cert.KernelUpWgradGateIdeal.Value
open Cert.KernelUpWgradValIdeal.Prod (A B T)

variable (m : (ℓ : Loc nD τ sig) → Buf (Elt Ideal) ℓ) (c : Dev nD)

theorem at2 : ∀ t : Fin cfg0.N, win0_2.index t = ![1, t.val / 4, 0] := (by decide +kernel : ∀ t : Fin grid0.N, _)

/-- The stack with the shards of the product in its places. -/
def G : Vec Ideal S8x1024x704 .bf16 := fun i =>
  if (i 0).val < 4 then T m c i else Tmul (A m c) (B m c) (halfAt (C := 2816) (by decide) i)

theorem first (t : Fin cfg0.N) (h : t.val % 4 = 0) (y : S512x2816.Idx) :
    (outsAt0 m c t.val t.isLt).2 y = KernelUpWgradValIdeal.Prod.blk m c t y := by
  rw [outsAt0_A m c t h (by omega) (by omega)]
  frame_out
  unfold k0_pay2
  pointwise
  rfl

/-- What a later point leaves in scratch. -/
theorem scratch (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  rcases Decidable.em (t.val % 4 = 3) with h3 | h3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem next (t : Fin cfg0.N) (h : t.val % 4 ≠ 0) (y : S512x2816.Idx) : (outsAt0 m c t.val t.isLt).2 y
    = (outsAt0 m c (t.val - 1) (Nat.lt_of_le_of_lt (Nat.sub_le _ _) t.isLt)).2 y + KernelUpWgradValIdeal.Prod.blk m c t y := by
  rw [scratch m c t h]
  unfold k0_pay3
  pointwise
  rfl

/-- The last point of a sweep leaves the scratch's shards. -/
theorem out_last (t : Fin cfg0.N) (h : t.val % 4 = 3) (y : S4x512x704.Idx) :
    (outsAt0 m c t.val t.isLt).1 y = (outsAt0 m c t.val t.isLt).2 (colAt (C := 2816) (by decide) y) := by
  rw [scratch m c t (by omega), outsAt0_C m c t (by omega) (by omega) h]
  dsimp only
  unfold out0_C_2
  rw [View.read_writes_eq_canon _ _ _ (fun y => cover0_C_2 ..)]
  refine View.canon_apply_of_pieces (Val := Elt Ideal) (e := .bf16) (fun y => k0_pay3 (iblk m c 0 t) (iblk m c 1 t)
      (outsAt0 m c (t.val - 1) (Nat.lt_of_le_of_lt (Nat.sub_le _ _) t.isLt)).2 (colAt (C := 2816) (by decide) y)) _ ?_ _ (cover0_C_2 ..)
  unfold kernelRun0_C
  dsimp only
  sl_unfold_words
  have zz := KernelUpWgradValIdeal.Prod.zz
  simp only [View.readAt_eq_ld, readCov_sub (S := S512x2816) _ zz, (hs0_0 t).read_unread, (hs0_1 t).read_unread,
    (Memref.isWhole_whole _).read_unread, View.ld_unit_zero (S := S1024x512) zz, View.ld_unit_zero (S := S1024x2816) zz,
    View.ld_unit_zero (S := S512x2816) zz]
  generalize k0_pay3 (iblk m c 0 t) (iblk m c 1 t) (outsAt0 m c (t.val - 1) (Nat.lt_of_le_of_lt (Nat.sub_le _ _) t.isLt)).2 = s
  exact KernelUpWgradValIdeal.Prod.pieces s

/-- They are those of the product. -/
theorem out_sum (t : Fin cfg0.N) (h : t.val % 4 = 3) (y : S4x512x704.Idx) (z : S1024x2816.Idx)
    (z0 : (z 0).val = 512 * (t.val / 4) + (y 1).val) (z1 : (z 1).val = 704 * (y 0).val + (y 2).val) :
    (outsAt0 m c t.val t.isLt).1 y = Tmul (A m c) (B m c) z :=
  (out_last m c t h y).trans (KernelUpWgradValIdeal.Prod.sum_of_steps m c (fun n h => (outsAt0 m c n h).2) (first m c) (next m c) t h _ z z0 z1)

/-- What the last point of a sweep writes back is its block of the stack. -/
theorem wrote (t : Fin cfg0.N) (hf : (cfg0.win 2).flush t = true) :
    (dats m 0 c).flushed 2 t = ((cfg0.win 2).blk t).view.read (Elt Ideal) (G m c) := by
  have hl := (flush0_2 t).mp hf
  rw [flushed2]
  funext y
  have h0 : (y 0).val < 4 := (y 0).isLt
  have h2 : (y 2).val < 704 := (y 2).isLt
  rw [View.read_apply]
  show (outsAt0 m c t.val t.isLt).1 y = _
  refine Eq.trans ?_ (if_neg (by blk_simp [at2]; omega)).symm
  exact out_sum m c t hl y _ (by unfold halfAt; blk_simp [at2]; dsimp only; omega)
    (by unfold halfAt; blk_simp [at2]; dsimp only; omega)

/-- The result's array is the stack with the shards of the product in its places. -/
theorem final : (dats m 0 c).arrAt 2 cfg0.N = G m c := by
  funext i
  have h0' : (i 0).val < 8 := (i 0).isLt
  have h1 : (i 1).val < 1024 := (i 1).isLt
  have h2 : (i 2).val < 704 := (i 2).isLt
  by_cases h0 : (i 0).val < 4
  · rw [entry2 m c i fun t _ hi => by mem_blk [at2] at hi; omega]
    exact (KernelUpWgradValIdeal.Prod.stack_V m c i).trans (if_pos h0).symm
  · have hN : cfg0.N = 8 := N_0
    exact (dats m 0 c).arrAt_apply_of_mem 2 (G m c) (wrote m c) cfg0.N ⟨4 * ((i 1).val / 512) + 3, by omega⟩ i (by show _ < cfg0.N; omega)
      ((flush0_2 _).mpr (by show (4 * ((i 1).val / 512) + 3) % 4 = 3; omega)) (by mem_blk [at2]; dsimp only; omega)

/-- So is the reference's. -/
theorem ref_eq : ReferenceUpWgradGateIdeal.Read.val_main_v10 (F := Ideal) (A m c) (B m c) (T m c) = G m c := by
  funext i
  have h0' : (i 0).val < 8 := (i 0).isLt
  have h1 : (i 1).val < 1024 := (i 1).isLt
  have h2 : (i 2).val < 704 := (i 2).isLt
  unfold ReferenceUpWgradGateIdeal.Read.val_main_v10
  by_cases h0 : (i 0).val < 4
  · refine (concatenate_pair_apply_left (s₁ := ReferenceUpWgradGateIdeal.S4x1024x704) (s₂ := ReferenceUpWgradGateIdeal.S4x1024x704) 0 _ _ _ i rfl
      (ix3 (⟨(i 0).val, h0⟩ : Fin 4) (⟨(i 1).val, h1⟩ : Fin 1024) (⟨(i 2).val, h2⟩ : Fin 704)) fun b => by fin_cases b <;> rfl).trans
      (Eq.trans ?_ (if_pos h0).symm)
    rw [ReferenceUpWgradGateIdeal.Read.val_main_v0_apply]
    refine congrArg (T m c) (funext fun a => Fin.ext ?_)
    match a with
    | ⟨0, _⟩ => first | rfl | (show 0 + (i 0).val = (i 0).val; omega)
    | ⟨1, _⟩ => rfl
    | ⟨2, _⟩ => rfl
  · refine (concatenate_pair_apply_right (s₁ := ReferenceUpWgradGateIdeal.S4x1024x704) (s₂ := ReferenceUpWgradGateIdeal.S4x1024x704) 0 _ _ _ i rfl rfl
      (ix3 (⟨(i 0).val - 4, by omega⟩ : Fin 4) (⟨(i 1).val, h1⟩ : Fin 1024) (⟨(i 2).val, h2⟩ : Fin 704))
      (fun b hb => by fin_cases b; exact absurd rfl hb; rfl; rfl) (by show (i 0).val - 4 + 4 = (i 0).val; omega)).trans
      (Eq.trans ?_ (if_neg h0).symm)
    rw [ReferenceUpWgradGateIdeal.Read.val_main_v9_apply, ReferenceUpWgradGateIdeal.Read.val_main_v8_apply,
      ReferenceUpWgradGateIdeal.Read.val_main_v7_apply, ReferenceUpWgradGateIdeal.Read.val_main_v6_apply,
      ReferenceUpWgradGateIdeal.Read.val_main_v5_apply]
    refine Tmul_of_places (A m c) (B m c) (halfAt (C := 2816) (by decide) i) _ _ (fun _ => rfl) (fun _ => ?_) (fun _ => rfl) (fun _ => ?_)
    · show (((i 1).val * 4 + ((i 0).val - 4)) * 704 + (i 2).val) / 2816 = (i 1).val; omega
    · show (((i 1).val * 4 + ((i 0).val - 4)) * 704 + (i 2).val) % 2816 = (704 * (i 0).val + (i 2).val) % 2816; omega

/-- Kernel, idealized kernel and reference run to their ends and leave their arguments alone. -/
theorem frame_p : Cert.quiescent_KernelUpWgradGate := fun m ρ _ => Cert.KernelUpWgradGate.Gen.frame m ρ
theorem frame_pi : Cert.quiescent_KernelUpWgradGateIdeal := fun m ρ _ => frame m ρ
theorem frame_ri : Cert.quiescent_ReferenceUpWgradGateIdeal := fun m ρ _ =>
  (θ_run ReferenceUpWgradGateIdeal.defs _ _).mono (fun r h => ⟨fun c => (h c).2, sem_eq_zero_of_no_sems (by decide) r.2⟩)
    (ReferenceUpWgradGateIdeal.Value.run (F := Ideal) m ρ)

/-- At every triple of arguments the idealized kernel's result is the reference's. -/
theorem algebraic : Cert.algebraic_KernelUpWgradGateIdeal_ReferenceUpWgradGateIdeal := by
  intro m ρ m' ρ' _ hagree
  refine ⟨fun c => G m c, (θ_run _ _ _).mono (fun r h c => ⟨(h c).1.trans (final m c), (h c).2⟩) (run_blocks m ρ),
    (θ_run ReferenceUpWgradGateIdeal.defs _ _).mono (fun r h c => ⟨(h c).1.trans ?_, (h c).2⟩) (ReferenceUpWgradGateIdeal.Value.run (F := Ideal) m' ρ')⟩
  rw [ReferenceUpWgradGateIdeal.Read.val_main_v10_eq, (hagree c).1, (hagree c).2.1, (hagree c).2.2]
  exact ref_eq m c

end Cert.KernelUpWgradGateIdeal.Prod

end
-- ==== Proof.Inputs.lean ====
module

public import proofs.«01_k».proof.Defs
public import proofs.«01_k».proof.Proof.Gen.KernelAttnOutDgrad.Frame
public import proofs.«01_k».proof.Proof.Gen.KernelAttnOutDgradIdeal.Value
public import proofs.«01_k».proof.Proof.Gen.ReferenceAttnOutDgradIdeal.Read
public import proofs.«01_k».proof.Proof.Gen.KernelGlaOutDgrad.Frame
public import proofs.«01_k».proof.Proof.Gen.KernelGlaOutDgradIdeal.Value
public import proofs.«01_k».proof.Proof.Gen.ReferenceGlaOutDgradIdeal.Read
public import proofs.«01_k».proof.Proof.Gen.KernelGlaGateDgrad.Frame
public import proofs.«01_k».proof.Proof.Gen.KernelGlaGateDgradIdeal.Value
public import proofs.«01_k».proof.Proof.Gen.ReferenceGlaGateDgradIdeal.Read
public import proofs.«01_k».proof.Proof.Prod

@[expose] public section

set_option maxRecDepth 16384

/-! The input gradients that one block of the weight gives: a block of rows of the gradient times the weight transposed. -/

noncomputable section

open Idealize.ShloMosaic Idealize.ShloMosaic.TcCoe Idealize.SL.Sem Cert.Prod

/-! ## The attention output projection -/

namespace Cert.KernelAttnOutDgradIdeal.Prod

open Cert.KernelAttnOutDgradIdeal Cert.KernelAttnOutDgradIdeal.Gen Cert.KernelAttnOutDgradIdeal.Value

variable (m : (ℓ : Loc nD τ sig) → Buf (Elt Ideal) ℓ) (c : Dev nD)

/-- The gradient and the weight, as launched. -/
abbrev A : Vec Ideal S4096x1024 .f32 := m ((c : Thread nD τ).loc main_arg0)
abbrev B : Vec Ideal S1024x1024 .bf16 := m ((c : Thread nD τ).loc main_arg1)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The result's array is the product. -/
theorem final : (dats m 0 c).arrAt 2 cfg0.N = mulT (A m c) (B m c) := by
  refine (dats m 0 c).arrAt_eq_of_covers 2 _ (by decide +kernel) fun t _ y => ?_
  blk_simp
  rw [after0_2]
  frame_out
  unfold k0_pay1
  pointwise [dot_S1024x1024_S1024x1024_S1024x1024_1_1_0_0_n_n]
  blk_simp [iblk]
  exact mulT_of_places (A m c) (B m c) _ _ _ (fun k => by blk_simp [at0, at2]) (fun k => by blk_simp [at0])
    (fun k => by blk_simp [at1, at2]) (fun k => by blk_simp [at1])

/-- So is the reference's. -/
theorem ref_eq : ReferenceAttnOutDgradIdeal.Read.val_main_v4 (F := Ideal) (A m c) (B m c) = mulT (A m c) (B m c) := by
  funext i
  rw [ReferenceAttnOutDgradIdeal.Read.val_main_v4_apply, ReferenceAttnOutDgradIdeal.Read.val_main_v3_apply]
  exact mulT_of_places _ _ i _ _ (fun _ => rfl) (fun _ => rfl) (fun _ => rfl) (fun _ => rfl)

/-- Kernel, idealized kernel and reference run to their ends and leave their arguments alone. -/
theorem frame_p : Cert.quiescent_KernelAttnOutDgrad := fun m ρ _ => Cert.KernelAttnOutDgrad.Gen.frame m ρ
theorem frame_pi : Cert.quiescent_KernelAttnOutDgradIdeal := fun m ρ _ => frame m ρ
theorem frame_ri : Cert.quiescent_ReferenceAttnOutDgradIdeal := fun m ρ _ =>
  (θ_run ReferenceAttnOutDgradIdeal.defs _ _).mono (fun r h => ⟨fun c => (h c).2, sem_eq_zero_of_no_sems (by decide) r.2⟩)
    (ReferenceAttnOutDgradIdeal.Value.run (F := Ideal) m ρ)

/-- At every pair of arguments the idealized kernel's result is the reference's. -/
theorem algebraic : Cert.algebraic_KernelAttnOutDgradIdeal_ReferenceAttnOutDgradIdeal := by
  intro m ρ m' ρ' _ hagree
  refine ⟨fun c => mulT (A m c) (B m c), (θ_run _ _ _).mono (fun r h c => ⟨(h c).1.trans (final m c), (h c).2⟩) (run_blocks m ρ),
    (θ_run ReferenceAttnOutDgradIdeal.defs _ _).mono (fun r h c => ⟨(h c).1.trans ?_, (h c).2⟩) (ReferenceAttnOutDgradIdeal.Value.run (F := Ideal) m' ρ')⟩
  rw [ReferenceAttnOutDgradIdeal.Read.val_main_v4_eq, (hagree c).1, (hagree c).2]
  exact ref_eq m c

end Cert.KernelAttnOutDgradIdeal.Prod

/-! ## The linear attention's output projection -/

namespace Cert.KernelGlaOutDgradIdeal.Prod

open Cert.KernelGlaOutDgradIdeal Cert.KernelGlaOutDgradIdeal.Gen Cert.KernelGlaOutDgradIdeal.Value

variable (m : (ℓ : Loc nD τ sig) → Buf (Elt Ideal) ℓ) (c : Dev nD)

/-- The gradient and the weight, as launched. -/
abbrev A : Vec Ideal S4096x1024 .f32 := m ((c : Thread nD τ).loc main_arg0)
abbrev B : Vec Ideal S1024x1024 .bf16 := m ((c : Thread nD τ).loc main_arg1)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The result's array is the product. -/
theorem final : (dats m 0 c).arrAt 2 cfg0.N = mulT (A m c) (B m c) := by
  refine (dats m 0 c).arrAt_eq_of_covers 2 _ (by decide +kernel) fun t _ y => ?_
  blk_simp
  rw [after0_2]
  frame_out
  unfold k0_pay1
  pointwise [dot_S1024x1024_S1024x1024_S1024x1024_1_1_0_0_n_n]
  blk_simp [iblk]
  exact mulT_of_places (A m c) (B m c) _ _ _ (fun k => by blk_simp [at0, at2]) (fun k => by blk_simp [at0])
    (fun k => by blk_simp [at1, at2]) (fun k => by blk_simp [at1])

/-- So is the reference's. -/
theorem ref_eq : ReferenceGlaOutDgradIdeal.Read.val_main_v3 (F := Ideal) (A m c) (B m c) = mulT (A m c) (B m c) := by
  funext i
  rw [ReferenceGlaOutDgradIdeal.Read.val_main_v3_apply]
  exact mulT_of_places _ _ i _ _ (fun _ => rfl) (fun _ => rfl) (fun _ => rfl) (fun _ => rfl)

/-- Kernel, idealized kernel and reference run to their ends and leave their arguments alone. -/
theorem frame_p : Cert.quiescent_KernelGlaOutDgrad := fun m ρ _ => Cert.KernelGlaOutDgrad.Gen.frame m ρ
theorem frame_pi : Cert.quiescent_KernelGlaOutDgradIdeal := fun m ρ _ => frame m ρ
theorem frame_ri : Cert.quiescent_ReferenceGlaOutDgradIdeal := fun m ρ _ =>
  (θ_run ReferenceGlaOutDgradIdeal.defs _ _).mono (fun r h => ⟨fun c => (h c).2, sem_eq_zero_of_no_sems (by decide) r.2⟩)
    (ReferenceGlaOutDgradIdeal.Value.run (F := Ideal) m ρ)

/-- At every pair of arguments the idealized kernel's result is the reference's. -/
theorem algebraic : Cert.algebraic_KernelGlaOutDgradIdeal_ReferenceGlaOutDgradIdeal := by
  intro m ρ m' ρ' _ hagree
  refine ⟨fun c => mulT (A m c) (B m c), (θ_run _ _ _).mono (fun r h c => ⟨(h c).1.trans (final m c), (h c).2⟩) (run_blocks m ρ),
    (θ_run ReferenceGlaOutDgradIdeal.defs _ _).mono (fun r h c => ⟨(h c).1.trans ?_, (h c).2⟩) (ReferenceGlaOutDgradIdeal.Value.run (F := Ideal) m' ρ')⟩
  rw [ReferenceGlaOutDgradIdeal.Read.val_main_v3_eq, (hagree c).1, (hagree c).2]
  exact ref_eq m c

end Cert.KernelGlaOutDgradIdeal.Prod

/-! ## The gate's low-rank projection -/

namespace Cert.KernelGlaGateDgradIdeal.Prod

open Cert.KernelGlaGateDgradIdeal Cert.KernelGlaGateDgradIdeal.Gen Cert.KernelGlaGateDgradIdeal.Value

variable (m : (ℓ : Loc nD τ sig) → Buf (Elt Ideal) ℓ) (c : Dev nD)

/-- The gradient of the logits and the weight, as launched. -/
abbrev A : Vec Ideal S4096x1024 .f32 := m ((c : Thread nD τ).loc main_arg0)
abbrev B : Vec Ideal S128x1024 .bf16 := m ((c : Thread nD τ).loc main_arg1)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The result's array is the product. -/
theorem final : (dats m 0 c).arrAt 2 cfg0.N = mulT (A m c) (B m c) := by
  refine (dats m 0 c).arrAt_eq_of_covers 2 _ (by decide +kernel) fun t _ y => ?_
  blk_simp
  rw [after0_2]
  frame_out
  unfold k0_pay1
  pointwise [dot_S1024x1024_S128x1024_S1024x128_1_1_0_0_n_n]
  blk_simp [iblk]
  exact mulT_of_places (A m c) (B m c) _ _ _ (fun k => by blk_simp [at0, at2]) (fun k => by blk_simp [at0])
    (fun k => by blk_simp [at1, at2]) (fun k => by blk_simp [at1])

/-- So is the reference's. -/
theorem ref_eq : ReferenceGlaGateDgradIdeal.Read.val_main_v3 (F := Ideal) (A m c) (B m c) = mulT (A m c) (B m c) := by
  funext i
  rw [ReferenceGlaGateDgradIdeal.Read.val_main_v3_apply]
  exact mulT_of_places _ _ i _ _ (fun _ => rfl) (fun _ => rfl) (fun _ => rfl) (fun _ => rfl)

/-- Kernel, idealized kernel and reference run to their ends and leave their arguments alone. -/
theorem frame_p : Cert.quiescent_KernelGlaGateDgrad := fun m ρ _ => Cert.KernelGlaGateDgrad.Gen.frame m ρ
theorem frame_pi : Cert.quiescent_KernelGlaGateDgradIdeal := fun m ρ _ => frame m ρ
theorem frame_ri : Cert.quiescent_ReferenceGlaGateDgradIdeal := fun m ρ _ =>
  (θ_run ReferenceGlaGateDgradIdeal.defs _ _).mono (fun r h => ⟨fun c => (h c).2, sem_eq_zero_of_no_sems (by decide) r.2⟩)
    (ReferenceGlaGateDgradIdeal.Value.run (F := Ideal) m ρ)

/-- At every pair of arguments the idealized kernel's result is the reference's. -/
theorem algebraic : Cert.algebraic_KernelGlaGateDgradIdeal_ReferenceGlaGateDgradIdeal := by
  intro m ρ m' ρ' _ hagree
  refine ⟨fun c => mulT (A m c) (B m c), (θ_run _ _ _).mono (fun r h c => ⟨(h c).1.trans (final m c), (h c).2⟩) (run_blocks m ρ),
    (θ_run ReferenceGlaGateDgradIdeal.defs _ _).mono (fun r h c => ⟨(h c).1.trans ?_, (h c).2⟩) (ReferenceGlaGateDgradIdeal.Value.run (F := Ideal) m' ρ')⟩
  rw [ReferenceGlaGateDgradIdeal.Read.val_main_v3_eq, (hagree c).1, (hagree c).2]
  exact ref_eq m c

end Cert.KernelGlaGateDgradIdeal.Prod

end
-- ==== Proof.InputSweeps.lean ====
module

public import proofs.«01_k».proof.Defs
public import proofs.«01_k».proof.Proof.Gen.KernelGlaInDgrad.Frame
public import proofs.«01_k».proof.Proof.Gen.KernelGlaInDgradIdeal.Value
public import proofs.«01_k».proof.Proof.Gen.ReferenceGlaInDgradIdeal.Read
public import proofs.«01_k».proof.Proof.Gen.KernelQkvDgrad.Frame
public import proofs.«01_k».proof.Proof.Gen.KernelQkvDgradIdeal.Value
public import proofs.«01_k».proof.Proof.Gen.ReferenceQkvDgradIdeal.Read
public import proofs.«01_k».proof.Proof.Prod

@[expose] public section

set_option maxRecDepth 16384

/-! The input gradients that take several blocks of the contracted axis, summed in scratch. -/

noncomputable section

open Idealize.ShloMosaic Idealize.ShloMosaic.TcCoe Idealize.SL.Sem Cert.Prod

/-! ## The linear attention's input projection: five blocks -/

namespace Cert.KernelGlaInDgradIdeal.Prod

open Cert.KernelGlaInDgradIdeal Cert.KernelGlaInDgradIdeal.Gen Cert.KernelGlaInDgradIdeal.Value

variable (m : (ℓ : Loc nD τ sig) → Buf (Elt Ideal) ℓ) (c : Dev nD)

/-- The gradient and the weight, as launched. -/
abbrev A : Vec Ideal S4096x3200 .bf16 := m ((c : Thread nD τ).loc main_arg0)
abbrev B : Vec Ideal S1024x3200 .bf16 := m ((c : Thread nD τ).loc main_arg1)

theorem at0 : ∀ t : Fin cfg0.N, win0_0.index t = ![t.val / 5, t.val % 5] := (by decide +kernel : ∀ t : Fin grid0.N, _)
theorem at1 : ∀ t : Fin cfg0.N, win0_1.index t = ![0, t.val % 5] := (by decide +kernel : ∀ t : Fin grid0.N, _)
theorem at2 : ∀ t : Fin cfg0.N, win0_2.index t = ![t.val / 5, 0] := (by decide +kernel : ∀ t : Fin grid0.N, _)
theorem last : ∀ t : Fin cfg0.N, (cfg0.win 2).flush t = true → t.val % 5 = 4 := (by decide +kernel : ∀ t : Fin grid0.N, win0_2.flush t = true → t.val % 5 = 4)

/-- The product of a point's blocks. -/
def blk (t : Fin cfg0.N) (y : S1024x1024.Idx) : EReal :=
  k0_pay1 (F := Ideal) (iblk m c 0 t) (iblk m c 1 t) y

/-- It is a block of the terms of the result's entry there. -/
theorem blk_eq (t u : Fin cfg0.N) (h : t.val / 5 = u.val / 5) (y : S1024x1024.Idx) :
    blk m c t y = part 640 (fun k : Fin 3200 => A m c (ix2 (((win0_2.blk u).view.emb y) 0) k) * B m c (ix2 (((win0_2.blk u).view.emb y) 1) k)) (t.val % 5) := by
  unfold blk k0_pay1
  pointwise [dot_S1024x640_S1024x640_S1024x1024_1_1_0_0_n_n]
  blk_simp [iblk]
  exact mulT_part (A m c) (B m c) _ _ (by omega) _ _ (fun k => by blk_simp [at0, at2]; omega) (fun k => by blk_simp [at0]; omega)
    (fun k => by blk_simp [at1, at2]) (fun k => by blk_simp [at1]; omega)

theorem first (t : Fin cfg0.N) (h : t.val % 5 = 0) (y : S1024x1024.Idx) : (outsAt0 m c t.val t.isLt).2 y = blk m c t y := by
  rw [outsAt0_A m c t h (by omega) (by omega)]
  frame_out
  unfold k0_pay2 blk
  pointwise

theorem next (t : Fin cfg0.N) (h : t.val % 5 ≠ 0) (y : S1024x1024.Idx) :
    (outsAt0 m c t.val t.isLt).2 y = (outsAt0 m c (t.val - 1) (Nat.lt_of_le_of_lt (Nat.sub_le _ _) t.isLt)).2 y + blk m c t y := by
  by_cases h4 : t.val % 5 = 4
  · rw [outsAt0_C m c t h (by omega) h4]
    frame_out
    rw [(Memref.isWhole_whole cc0_scratch0).read_unread]
    unfold k0_pay3 blk
    pointwise
  · rw [outsAt0_B m c t h (by omega) h4]
    frame_out
    rw [(Memref.isWhole_whole cc0_scratch0).read_unread]
    unfold k0_pay3 blk
    pointwise

theorem out_last (t : Fin cfg0.N) (h : t.val % 5 = 4) : (outsAt0 m c t.val t.isLt).1 = (outsAt0 m c t.val t.isLt).2 := by
  rw [outsAt0_C m c t (by omega) (by omega) h]
  frame_out

/-- The result's array is the product. -/
theorem final : (dats m 0 c).arrAt 2 cfg0.N = mulT (A m c) (B m c) := by
  refine (dats m 0 c).arrAt_eq_of_covers 2 _ (by decide +kernel) fun t hf y => ?_
  have hl := last t hf
  blk_simp
  rw [after0_2, out_last m c t hl]
  exact sweep_sum (nk := 5) (tk := 640) (by decide) rfl _ (fun n h => (outsAt0 m c n h).2 y) t.val t.isLt hl
    (fun n h hq hn => (first m c ⟨n, h⟩ hn y).trans (blk_eq m c ⟨n, h⟩ t hq y))
    (fun n h hq hn => (next m c ⟨n, h⟩ hn y).trans (congrArg (_ + ·) (blk_eq m c ⟨n, h⟩ t hq y)))

/-- So is the reference's. -/
theorem ref_eq : ReferenceGlaInDgradIdeal.Read.val_main_v4 (F := Ideal) (A m c) (B m c) = mulT (A m c) (B m c) := by
  funext i
  rw [ReferenceGlaInDgradIdeal.Read.val_main_v4_apply]
  exact mulT_of_places _ _ i _ _ (fun _ => rfl) (fun _ => rfl) (fun _ => rfl) (fun _ => rfl)

/-- Kernel, idealized kernel and reference run to their ends and leave their arguments alone. -/
theorem frame_p : Cert.quiescent_KernelGlaInDgrad := fun m ρ _ => Cert.KernelGlaInDgrad.Gen.frame m ρ
theorem frame_pi : Cert.quiescent_KernelGlaInDgradIdeal := fun m ρ _ => frame m ρ
theorem frame_ri : Cert.quiescent_ReferenceGlaInDgradIdeal := fun m ρ _ =>
  (θ_run ReferenceGlaInDgradIdeal.defs _ _).mono (fun r h => ⟨fun c => (h c).2, sem_eq_zero_of_no_sems (by decide) r.2⟩)
    (ReferenceGlaInDgradIdeal.Value.run (F := Ideal) m ρ)

/-- At every pair of arguments the idealized kernel's result is the reference's. -/
theorem algebraic : Cert.algebraic_KernelGlaInDgradIdeal_ReferenceGlaInDgradIdeal := by
  intro m ρ m' ρ' _ hagree
  refine ⟨fun c => mulT (A m c) (B m c), (θ_run _ _ _).mono (fun r h c => ⟨(h c).1.trans (final m c), (h c).2⟩) (run_blocks m ρ),
    (θ_run ReferenceGlaInDgradIdeal.defs _ _).mono (fun r h c => ⟨(h c).1.trans ?_, (h c).2⟩) (ReferenceGlaInDgradIdeal.Value.run (F := Ideal) m' ρ')⟩
  rw [ReferenceGlaInDgradIdeal.Read.val_main_v4_eq, (hagree c).1, (hagree c).2]
  exact ref_eq m c

end Cert.KernelGlaInDgradIdeal.Prod

/-! ## The attention's input projection: two blocks -/

namespace Cert.KernelQkvDgradIdeal.Prod

open Cert.KernelQkvDgradIdeal Cert.KernelQkvDgradIdeal.Gen Cert.KernelQkvDgradIdeal.Value

variable (m : (ℓ : Loc nD τ sig) → Buf (Elt Ideal) ℓ) (c : Dev nD)

/-- The gradient and the weight, as launched. -/
abbrev A : Vec Ideal S4096x1536 .bf16 := m ((c : Thread nD τ).loc main_arg0)
abbrev B : Vec Ideal S1024x1536 .bf16 := m ((c : Thread nD τ).loc main_arg1)

theorem at0 : ∀ t : Fin cfg0.N, win0_0.index t = ![t.val / 2, t.val % 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, 0] := (by decide +kernel : ∀ t : Fin grid0.N, _)
theorem last : ∀ t : Fin cfg0.N, (cfg0.win 2).flush t = true → t.val % 2 = 1 := (by decide +kernel : ∀ t : Fin grid0.N, win0_2.flush t = true → t.val % 2 = 1)

/-- The product of a point's blocks. -/
def blk (t : Fin cfg0.N) (y : S1024x1024.Idx) : EReal :=
  k0_pay1 (F := Ideal) (iblk m c 0 t) (iblk m c 1 t) y

/-- It is a block of the terms of the result's entry there. -/
theorem blk_eq (t u : Fin cfg0.N) (h : t.val / 2 = u.val / 2) (y : S1024x1024.Idx) :
    blk m c t y = part 768 (fun k : Fin 1536 => A m c (ix2 (((win0_2.blk u).view.emb y) 0) k) * B m c (ix2 (((win0_2.blk u).view.emb y) 1) k)) (t.val % 2) := by
  unfold blk k0_pay1
  pointwise [dot_S1024x768_S1024x768_S1024x1024_1_1_0_0_n_n]
  blk_simp [iblk]
  exact mulT_part (A m c) (B m c) _ _ (by omega) _ _ (fun k => by blk_simp [at0, at2]; omega) (fun k => by blk_simp [at0]; omega)
    (fun k => by blk_simp [at1, at2]) (fun k => by blk_simp [at1]; omega)

theorem first (t : Fin cfg0.N) (h : t.val % 2 = 0) (y : S1024x1024.Idx) : (outsAt0 m c t.val t.isLt).2 y = blk m c t y := by
  rw [outsAt0_A m c t h (by omega) (by omega)]
  frame_out
  unfold k0_pay2 blk
  pointwise

theorem next (t : Fin cfg0.N) (h : t.val % 2 ≠ 0) (y : S1024x1024.Idx) :
    (outsAt0 m c t.val t.isLt).2 y = (outsAt0 m c (t.val - 1) (Nat.lt_of_le_of_lt (Nat.sub_le _ _) t.isLt)).2 y + blk m c t y := by
  rw [outsAt0_B m c t h (by omega) (by omega)]
  frame_out
  rw [(Memref.isWhole_whole cc0_scratch0).read_unread]
  unfold k0_pay3 blk
  pointwise

theorem out_last (t : Fin cfg0.N) (h : t.val % 2 = 1) : (outsAt0 m c t.val t.isLt).1 = (outsAt0 m c t.val t.isLt).2 := by
  rw [outsAt0_B m c t (by omega) h h]
  frame_out

/-- The result's array is the product. -/
theorem final : (dats m 0 c).arrAt 2 cfg0.N = mulT (A m c) (B m c) := by
  refine (dats m 0 c).arrAt_eq_of_covers 2 _ (by decide +kernel) fun t hf y => ?_
  have hl := last t hf
  blk_simp
  rw [after0_2, out_last m c t hl]
  exact sweep_sum (nk := 2) (tk := 768) (by decide) rfl _ (fun n h => (outsAt0 m c n h).2 y) t.val t.isLt hl
    (fun n h hq hn => (first m c ⟨n, h⟩ hn y).trans (blk_eq m c ⟨n, h⟩ t hq y))
    (fun n h hq hn => (next m c ⟨n, h⟩ hn y).trans (congrArg (_ + ·) (blk_eq m c ⟨n, h⟩ t hq y)))

/-- So is the reference's. -/
theorem ref_eq : ReferenceQkvDgradIdeal.Read.val_main_v4 (F := Ideal) (A m c) (B m c) = mulT (A m c) (B m c) := by
  funext i
  rw [ReferenceQkvDgradIdeal.Read.val_main_v4_apply]
  exact mulT_of_places _ _ i _ _ (fun _ => rfl) (fun _ => rfl) (fun _ => rfl) (fun _ => rfl)

/-- Kernel, idealized kernel and reference run to their ends and leave their arguments alone. -/
theorem frame_p : Cert.quiescent_KernelQkvDgrad := fun m ρ _ => Cert.KernelQkvDgrad.Gen.frame m ρ
theorem frame_pi : Cert.quiescent_KernelQkvDgradIdeal := fun m ρ _ => frame m ρ
theorem frame_ri : Cert.quiescent_ReferenceQkvDgradIdeal := fun m ρ _ =>
  (θ_run ReferenceQkvDgradIdeal.defs _ _).mono (fun r h => ⟨fun c => (h c).2, sem_eq_zero_of_no_sems (by decide) r.2⟩)
    (ReferenceQkvDgradIdeal.Value.run (F := Ideal) m ρ)

/-- At every pair of arguments the idealized kernel's result is the reference's. -/
theorem algebraic : Cert.algebraic_KernelQkvDgradIdeal_ReferenceQkvDgradIdeal := by
  intro m ρ m' ρ' _ hagree
  refine ⟨fun c => mulT (A m c) (B m c), (θ_run _ _ _).mono (fun r h c => ⟨(h c).1.trans (final m c), (h c).2⟩) (run_blocks m ρ),
    (θ_run ReferenceQkvDgradIdeal.defs _ _).mono (fun r h c => ⟨(h c).1.trans ?_, (h c).2⟩) (ReferenceQkvDgradIdeal.Value.run (F := Ideal) m' ρ')⟩
  rw [ReferenceQkvDgradIdeal.Read.val_main_v4_eq, (hagree c).1, (hagree c).2]
  exact ref_eq m c

end Cert.KernelQkvDgradIdeal.Prod

end
-- ==== Proof.RowStacks.lean ====
module

public import proofs.«01_k».proof.Defs
public import proofs.«01_k».proof.Proof.Gen.KernelAttnOutWgrad.Frame
public import proofs.«01_k».proof.Proof.Gen.KernelAttnOutWgradIdeal.Value
public import proofs.«01_k».proof.Proof.Gen.ReferenceAttnOutWgradIdeal.Read
public import proofs.«01_k».proof.Proof.Gen.KernelGlaGateWgrad.Frame
public import proofs.«01_k».proof.Proof.Gen.KernelGlaGateWgradIdeal.Value
public import proofs.«01_k».proof.Proof.Gen.ReferenceGlaGateWgradIdeal.Read
public import proofs.«01_k».proof.Proof.Prod

@[expose] public section

set_option maxRecDepth 16384

/-! The gradients of the mixers' output weights, products with the first factor transposed, their rows cut into one shard for each of
the eight devices, and the gradient of the gate's weight, which stays whole. Blocks of the contracted axis are summed in scratch. -/

noncomputable section

open Idealize.ShloMosaic Idealize.ShloMosaic.TcCoe Idealize.SL.Sem Cert.Prod

/-! ## The attention's output weight -/

namespace Cert.KernelAttnOutWgradIdeal.Prod

open Cert.KernelAttnOutWgradIdeal Cert.KernelAttnOutWgradIdeal.Gen Cert.KernelAttnOutWgradIdeal.Value

variable (m : (ℓ : Loc nD τ sig) → Buf (Elt Ideal) ℓ) (c : Dev nD)

/-- The mixer's output and the gradient, as launched. -/
abbrev A : Vec Ideal S4096x1024 .bf16 := m ((c : Thread nD τ).loc main_arg0)
abbrev B : Vec Ideal S4096x1024 .f32 := m ((c : Thread nD τ).loc main_arg1)

theorem zz : (![0, 0] : Fin 2 → Nat) = fun _ => 0 := funext fun a => by fin_cases a <;> rfl
theorem lt4 (t : Fin cfg0.N) : t.val < 4 := lt_of_lt_of_eq t.isLt N_0
theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

/-- The shards of the product. -/
def G : Vec Ideal S8x128x1024 .bf16 := fun i => Tmul (A m c) (B m c) (rowAt (R := 1024) (by decide) i)

/-- The product of a point's blocks. -/
def blk (t : Fin cfg0.N) (y : S1024x1024.Idx) : EReal := k0_pay1 (F := Ideal) (iblk m c 0 t) (iblk m c 1 t) y

/-- It is a block of the terms of the result's entry there. -/
theorem blk_eq (t u : Fin cfg0.N) (y : S8x128x1024.Idx) :
    blk m c t (rowAt (R := 1024) (by decide) y)
      = part 1024 (fun k : Fin 4096 => A m c (ix2 k (rowAt (R := 1024) (by decide) ((win0_2.blk u).view.emb y) 0))
          * B m c (ix2 k (rowAt (R := 1024) (by decide) ((win0_2.blk u).view.emb y) 1))) (t.val % 4) := by
  have ht := lt4 t
  unfold blk k0_pay1
  pointwise [dot_S1024x1024_S1024x1024_S1024x1024_0_0_1_1_n_n]
  blk_simp [iblk]
  exact Tmul_part (A m c) (B m c) _ _ (by omega) _ _ (fun k => by blk_simp [at0]; omega) (fun k => by unfold rowAt; blk_simp [at0, at2])
    (fun k => by blk_simp [at1]; omega) (fun k => by unfold rowAt; blk_simp [at1, at2])

theorem first (t : Fin cfg0.N) (h : t.val % 4 = 0) (y : S1024x1024.Idx) : (outsAt0 m c t.val t.isLt).2 y = blk m c t y := by
  have ht := lt4 t
  rw [outsAt0_A m c t h (by omega) (by omega)]
  frame_out
  unfold k0_pay2 blk
  pointwise

/-- What a later point leaves in scratch. -/
theorem scratch (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  rcases Decidable.em (t.val % 4 = 3) with h3 | h3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem next (t : Fin cfg0.N) (h : t.val % 4 ≠ 0) (y : S1024x1024.Idx) :
    (outsAt0 m c t.val t.isLt).2 y = (outsAt0 m c (t.val - 1) (Nat.lt_of_le_of_lt (Nat.sub_le _ _) t.isLt)).2 y + blk m c t y := by
  rw [scratch m c t h]
  unfold k0_pay3 blk
  pointwise

/-- A shard stored is what is stored. -/
theorem pay_apply (w : Vec Ideal S128x1024 .f32) (x : S1x128x1024.Idx) : k0_pay5 w x = w (ix2 (x 1) (x 2)) := by
  obtain ⟨o, r, d, rfl⟩ : ∃ (o : Fin 1) (r : Fin 128) (d : Fin 1024), x = ix3 o r d := ⟨x 0, x 1, x 2, (by funext a; fin_cases a <;> rfl)⟩
  unfold k0_pay5
  pointwise

/-- The last point leaves the scratch's shards. -/
theorem out_last (t : Fin cfg0.N) (h : t.val % 4 = 3) (y : S8x128x1024.Idx) :
    (outsAt0 m c t.val t.isLt).1 y = (outsAt0 m c t.val t.isLt).2 (rowAt (R := 1024) (by decide) y) := by
  rw [scratch m c t (by omega), outsAt0_C m c t (by omega) (by omega) h]
  dsimp only
  unfold out0_C_2
  rw [View.read_writes_eq_canon _ _ _ (fun y => cover0_C_2 ..)]
  refine View.canon_apply_of_pieces (Val := Elt Ideal) (e := .bf16) (fun y => k0_pay3 (iblk m c 0 t) (iblk m c 1 t)
      (outsAt0 m c (t.val - 1) (Nat.lt_of_le_of_lt (Nat.sub_le _ _) t.isLt)).2 (rowAt (R := 1024) (by decide) y)) _ ?_ _ (cover0_C_2 ..)
  unfold kernelRun0_C
  dsimp only
  sl_unfold_words
  simp only [View.readAt_eq_ld, readCov_sub (S := S1024x1024) _ zz, (hs0_0 t).read_unread, (hs0_1 t).read_unread,
    (Memref.isWhole_whole _).read_unread, View.ld_unit_zero (S := S1024x1024) zz]
  generalize k0_pay3 (iblk m c 0 t) (iblk m c 1 t) (outsAt0 m c (t.val - 1) (Nat.lt_of_le_of_lt (Nat.sub_le _ _) t.isLt)).2 = s
  have pc := piece_rows (N := 8) (by decide) s (k0_pay5 (F := Ideal)) pay_apply
  intro p hp x
  simp only [List.mem_cons, List.not_mem_nil, or_false] at hp
  rcases hp with rfl | rfl | rfl | rfl | rfl | rfl | rfl | rfl
  · exact pc 7 _ inb_S1024x1024_S128x1024_896_0 _ inb_S8x128x1024_S1x128x1024_7_0_0 rfl rfl x
  · exact pc 6 _ inb_S1024x1024_S128x1024_768_0 _ inb_S8x128x1024_S1x128x1024_6_0_0 rfl rfl x
  · exact pc 5 _ inb_S1024x1024_S128x1024_640_0 _ inb_S8x128x1024_S1x128x1024_5_0_0 rfl rfl x
  · exact pc 4 _ inb_S1024x1024_S128x1024_512_0 _ inb_S8x128x1024_S1x128x1024_4_0_0 rfl rfl x
  · exact pc 3 _ inb_S1024x1024_S128x1024_384_0 _ inb_S8x128x1024_S1x128x1024_3_0_0 rfl rfl x
  · exact pc 2 _ inb_S1024x1024_S128x1024_256_0 _ inb_S8x128x1024_S1x128x1024_2_0_0 rfl rfl x
  · exact pc 1 _ inb_S1024x1024_S128x1024_128_0 _ inb_S8x128x1024_S1x128x1024_1_0_0 rfl rfl x
  · exact pc 0 _ inb_S1024x1024_S128x1024_0_0 _ inb_S8x128x1024_S1x128x1024_0_0_0 rfl rfl x

/-- The result's array is the shards of the product. -/
theorem final : (dats m 0 c).arrAt 2 cfg0.N = G m c := by
  refine (dats m 0 c).arrAt_eq_of_covers 2 _ (by decide +kernel) fun t hf y => ?_
  have hl := last t hf
  blk_simp
  rw [after0_2, out_last m c t hl]
  exact sweep_sum (nk := 4) (tk := 1024) (by decide) rfl _ (fun n h => (outsAt0 m c n h).2 (rowAt (R := 1024) (by decide) y)) t.val t.isLt hl
    (fun n h hq hn => (first m c ⟨n, h⟩ hn _).trans (blk_eq m c ⟨n, h⟩ t y))
    (fun n h hq hn => (next m c ⟨n, h⟩ hn _).trans (congrArg (_ + ·) (blk_eq m c ⟨n, h⟩ t y)))

/-- So is the reference's. -/
theorem ref_eq : ReferenceAttnOutWgradIdeal.Read.val_main_v6 (F := Ideal) (A m c) (B m c) = G m c := by
  funext i
  rw [ReferenceAttnOutWgradIdeal.Read.val_main_v6_apply, ReferenceAttnOutWgradIdeal.Read.val_main_v5_apply,
    ReferenceAttnOutWgradIdeal.Read.val_main_v4_apply, ReferenceAttnOutWgradIdeal.Read.val_main_v3_apply]
  have h0 : (i 0).val < 8 := (i 0).isLt
  have h1 : (i 1).val < 128 := (i 1).isLt
  have h2 : (i 2).val < 1024 := (i 2).isLt
  refine Tmul_of_places (A m c) (B m c) (rowAt (R := 1024) (by decide) i) _ _ (fun _ => rfl) (fun _ => ?_) (fun _ => rfl) (fun _ => ?_)
  · show (((i 0).val * 128 + (i 1).val) * 1024 + (i 2).val) / 1024 = 128 * (i 0).val + (i 1).val; omega
  · show (((i 0).val * 128 + (i 1).val) * 1024 + (i 2).val) % 1024 = (i 2).val; omega

/-- Kernel, idealized kernel and reference run to their ends and leave their arguments alone. -/
theorem frame_p : Cert.quiescent_KernelAttnOutWgrad := fun m ρ _ => Cert.KernelAttnOutWgrad.Gen.frame m ρ
theorem frame_pi : Cert.quiescent_KernelAttnOutWgradIdeal := fun m ρ _ => frame m ρ
theorem frame_ri : Cert.quiescent_ReferenceAttnOutWgradIdeal := fun m ρ _ =>
  (θ_run ReferenceAttnOutWgradIdeal.defs _ _).mono (fun r h => ⟨fun c => (h c).2, sem_eq_zero_of_no_sems (by decide) r.2⟩)
    (ReferenceAttnOutWgradIdeal.Value.run (F := Ideal) m ρ)

/-- At all arguments the idealized kernel's result is the reference's. -/
theorem algebraic : Cert.algebraic_KernelAttnOutWgradIdeal_ReferenceAttnOutWgradIdeal := by
  intro m ρ m' ρ' _ hagree
  refine ⟨fun c => G m c, (θ_run _ _ _).mono (fun r h c => ⟨(h c).1.trans (final m c), (h c).2⟩) (run_blocks m ρ),
    (θ_run ReferenceAttnOutWgradIdeal.defs _ _).mono (fun r h c => ⟨(h c).1.trans ?_, (h c).2⟩) (ReferenceAttnOutWgradIdeal.Value.run (F := Ideal) m' ρ')⟩
  rw [ReferenceAttnOutWgradIdeal.Read.val_main_v6_eq, (hagree c).1, (hagree c).2.1]
  exact ref_eq m c

end Cert.KernelAttnOutWgradIdeal.Prod

/-! ## The gate's weight: eight blocks, of the projection's last 128 columns -/

namespace Cert.KernelGlaGateWgradIdeal.Prod

open Cert.KernelGlaGateWgradIdeal Cert.KernelGlaGateWgradIdeal.Gen Cert.KernelGlaGateWgradIdeal.Value

variable (m : (ℓ : Loc nD τ sig) → Buf (Elt Ideal) ℓ) (c : Dev nD)

/-- The projection and the logits' gradient, as launched. -/
abbrev A : Vec Ideal S4096x3200 .f32 := m ((c : Thread nD τ).loc main_arg0)
abbrev B : Vec Ideal S4096x1024 .f32 := m ((c : Thread nD τ).loc main_arg1)

theorem lt8 (t : Fin cfg0.N) : t.val < 8 := lt_of_lt_of_eq t.isLt N_0
theorem at0 : ∀ t : Fin cfg0.N, win0_0.index t = ![t.val, 24] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem last : ∀ t : Fin cfg0.N, (cfg0.win 2).flush t = true → t.val % 8 = 7 := (by decide +kernel : ∀ t : Fin grid0.N, win0_2.flush t = true → t.val % 8 = 7)

/-- The place in the product with the whole projection. -/
def place (i : S128x1024.Idx) : (⟨2, ![3200, 1024]⟩ : Shape).Idx := ix2 ⟨3072 + (i 0).val, by have : (i 0).val < 128 := (i 0).isLt; omega⟩ (i 1)

/-- The product's rows of the columns the gate takes. -/
def G : Vec Ideal S128x1024 .f32 := fun i => Tmul (A m c) (B m c) (place i)

/-- The product of a point's blocks. -/
def blk (t : Fin cfg0.N) (y : S128x1024.Idx) : EReal := k0_pay1 (F := Ideal) (iblk m c 0 t) (iblk m c 1 t) y

/-- It is a block of the terms of the result's entry there. -/
theorem blk_eq (t u : Fin cfg0.N) (y : S128x1024.Idx) :
    blk m c t y = part 512 (fun k : Fin 4096 => A m c (ix2 k (place ((win0_2.blk u).view.emb y) 0))
      * B m c (ix2 k (place ((win0_2.blk u).view.emb y) 1))) (t.val % 8) := by
  have ht := lt8 t
  unfold blk k0_pay1
  pointwise [dot_S512x128_S512x1024_S128x1024_0_0_1_1_n_n]
  blk_simp [iblk]
  exact Tmul_part (A m c) (B m c) _ _ (by omega) _ _ (fun k => by blk_simp [at0]; omega) (fun k => by unfold place; blk_simp [at0, at2])
    (fun k => by blk_simp [at1]; omega) (fun k => by unfold place; blk_simp [at1, at2])

theorem first (t : Fin cfg0.N) (h : t.val % 8 = 0) (y : S128x1024.Idx) : (outsAt0 m c t.val t.isLt).2 y = blk m c t y := by
  have ht := lt8 t
  rw [outsAt0_A m c t h (by omega) (by omega)]
  frame_out
  unfold k0_pay2 blk
  pointwise

theorem next (t : Fin cfg0.N) (h : t.val % 8 ≠ 0) (y : S128x1024.Idx) :
    (outsAt0 m c t.val t.isLt).2 y = (outsAt0 m c (t.val - 1) (Nat.lt_of_le_of_lt (Nat.sub_le _ _) t.isLt)).2 y + blk m c t y := by
  rcases Decidable.em (t.val % 8 = 7) with h7 | h7
  · rw [outsAt0_C m c t h (by omega) h7]
    frame_out
    rw [(Memref.isWhole_whole cc0_scratch0).read_unread]
    unfold k0_pay3 blk
    pointwise
  · rw [outsAt0_B m c t h (by omega) h7]
    frame_out
    rw [(Memref.isWhole_whole cc0_scratch0).read_unread]
    unfold k0_pay3 blk
    pointwise

theorem out_last (t : Fin cfg0.N) (h : t.val % 8 = 7) : (outsAt0 m c t.val t.isLt).1 = (outsAt0 m c t.val t.isLt).2 := by
  rw [outsAt0_C m c t (by omega) (by omega) h]
  frame_out

/-- The result's array is those rows. -/
theorem final : (dats m 0 c).arrAt 2 cfg0.N = G m c := by
  refine (dats m 0 c).arrAt_eq_of_covers 2 _ (by decide +kernel) fun t hf y => ?_
  have hl := last t hf
  blk_simp
  rw [after0_2, out_last m c t hl]
  exact sweep_sum (nk := 8) (tk := 512) (by decide) rfl _ (fun n h => (outsAt0 m c n h).2 y) t.val t.isLt hl
    (fun n h hq hn => (first m c ⟨n, h⟩ hn _).trans (blk_eq m c ⟨n, h⟩ t y))
    (fun n h hq hn => (next m c ⟨n, h⟩ hn _).trans (congrArg (_ + ·) (blk_eq m c ⟨n, h⟩ t y)))

/-- So is the reference's. -/
theorem ref_eq : ReferenceGlaGateWgradIdeal.Read.val_main_v4 (F := Ideal) (A m c) (B m c) = G m c := by
  funext i
  rw [ReferenceGlaGateWgradIdeal.Read.val_main_v4_apply, ReferenceGlaGateWgradIdeal.Read.val_main_v3_apply]
  simp only [ReferenceGlaGateWgradIdeal.Read.val_main_v0_apply]
  exact Tmul_of_places (A m c) (B m c) (place i) _ _ (fun _ => rfl) (fun _ => rfl) (fun _ => rfl) (fun _ => rfl)

/-- Kernel, idealized kernel and reference run to their ends and leave their arguments alone. -/
theorem frame_p : Cert.quiescent_KernelGlaGateWgrad := fun m ρ _ => Cert.KernelGlaGateWgrad.Gen.frame m ρ
theorem frame_pi : Cert.quiescent_KernelGlaGateWgradIdeal := fun m ρ _ => frame m ρ
theorem frame_ri : Cert.quiescent_ReferenceGlaGateWgradIdeal := fun m ρ _ =>
  (θ_run ReferenceGlaGateWgradIdeal.defs _ _).mono (fun r h => ⟨fun c => (h c).2, sem_eq_zero_of_no_sems (by decide) r.2⟩)
    (ReferenceGlaGateWgradIdeal.Value.run (F := Ideal) m ρ)

/-- At all arguments the idealized kernel's result is the reference's. -/
theorem algebraic : Cert.algebraic_KernelGlaGateWgradIdeal_ReferenceGlaGateWgradIdeal := by
  intro m ρ m' ρ' _ hagree
  refine ⟨fun c => G m c, (θ_run _ _ _).mono (fun r h c => ⟨(h c).1.trans (final m c), (h c).2⟩) (run_blocks m ρ),
    (θ_run ReferenceGlaGateWgradIdeal.defs _ _).mono (fun r h c => ⟨(h c).1.trans ?_, (h c).2⟩) (ReferenceGlaGateWgradIdeal.Value.run (F := Ideal) m' ρ')⟩
  rw [ReferenceGlaGateWgradIdeal.Read.val_main_v4_eq, (hagree c).1, (hagree c).2]
  exact ref_eq m c

end Cert.KernelGlaGateWgradIdeal.Prod

end
-- ==== Proof.ColumnStacks.lean ====
module

public import proofs.«01_k».proof.Defs
public import proofs.«01_k».proof.Proof.Gen.KernelQkvWgrad.Frame
public import proofs.«01_k».proof.Proof.Gen.KernelQkvWgradIdeal.Value
public import proofs.«01_k».proof.Proof.Gen.ReferenceQkvWgradIdeal.Read
public import proofs.«01_k».proof.Proof.Gen.KernelGlaInWgrad.Frame
public import proofs.«01_k».proof.Proof.Gen.KernelGlaInWgradIdeal.Value
public import proofs.«01_k».proof.Proof.Gen.ReferenceGlaInWgradIdeal.Read
public import proofs.«01_k».proof.Proof.Prod

@[expose] public section

set_option maxRecDepth 16384

/-! The gradients of the mixers' input weights: products with the first factor transposed, their columns cut into one shard for each of
the eight devices. Four blocks of the contracted axis are summed in scratch, and the last point cuts the sum. -/

noncomputable section

open Idealize.ShloMosaic Idealize.ShloMosaic.TcCoe Idealize.SL.Sem Cert.Prod

/-! ## The attention's input weight -/

namespace Cert.KernelQkvWgradIdeal.Prod

open Cert.KernelQkvWgradIdeal Cert.KernelQkvWgradIdeal.Gen Cert.KernelQkvWgradIdeal.Value

variable (m : (ℓ : Loc nD τ sig) → Buf (Elt Ideal) ℓ) (c : Dev nD)

/-- The activations and the gradient, as launched. -/
abbrev A : Vec Ideal S4096x1024 .bf16 := m ((c : Thread nD τ).loc main_arg0)
abbrev B : Vec Ideal S4096x1536 .bf16 := m ((c : Thread nD τ).loc main_arg1)

theorem zz : (![0, 0] : Fin 2 → Nat) = fun _ => 0 := funext fun a => by fin_cases a <;> rfl
theorem at0 : ∀ t : Fin cfg0.N, win0_0.index t = ![t.val % 4, t.val / 4] := (by decide +kernel : ∀ t : Fin grid0.N, _)
theorem at1 : ∀ t : Fin cfg0.N, win0_1.index t = ![t.val % 4, 0] := (by decide +kernel : ∀ t : Fin grid0.N, _)
theorem at2 : ∀ t : Fin cfg0.N, win0_2.index t = ![0, t.val / 4, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

/-- The shards of the product. -/
def G : Vec Ideal S8x1024x192 .bf16 := fun i => Tmul (A m c) (B m c) (colAt (C := 1536) (by decide) i)

/-- The product of a point's blocks. -/
def blk (t : Fin cfg0.N) (y : S512x1536.Idx) : EReal := k0_pay1 (F := Ideal) (iblk m c 0 t) (iblk m c 1 t) y

/-- It is a block of the terms of the result's entry there. -/
theorem blk_eq (t u : Fin cfg0.N) (h : t.val / 4 = u.val / 4) (y : S8x512x192.Idx) :
    blk m c t (colAt (C := 1536) (by decide) y)
      = part 1024 (fun k : Fin 4096 => A m c (ix2 k (colAt (C := 1536) (by decide) ((win0_2.blk u).view.emb y) 0))
          * B m c (ix2 k (colAt (C := 1536) (by decide) ((win0_2.blk u).view.emb y) 1))) (t.val % 4) := by
  unfold blk k0_pay1
  pointwise [dot_S1024x512_S1024x1536_S512x1536_0_0_1_1_n_n]
  blk_simp [iblk]
  exact Tmul_part (A m c) (B m c) _ _ (by omega) _ _ (fun k => by blk_simp [at0]; omega) (fun k => by unfold colAt; blk_simp [at0, at2]; omega)
    (fun k => by blk_simp [at1]; omega) (fun k => by unfold colAt; blk_simp [at1, at2])

theorem first (t : Fin cfg0.N) (h : t.val % 4 = 0) (y : S512x1536.Idx) : (outsAt0 m c t.val t.isLt).2 y = blk m c t y := by
  rw [outsAt0_A m c t h (by omega) (by omega)]
  frame_out
  unfold k0_pay2 blk
  pointwise

/-- What a later point of a sweep leaves in scratch. -/
theorem scratch (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  rcases Decidable.em (t.val % 4 = 3) with h3 | h3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem next (t : Fin cfg0.N) (h : t.val % 4 ≠ 0) (y : S512x1536.Idx) :
    (outsAt0 m c t.val t.isLt).2 y = (outsAt0 m c (t.val - 1) (Nat.lt_of_le_of_lt (Nat.sub_le _ _) t.isLt)).2 y + blk m c t y := by
  rw [scratch m c t h]
  unfold k0_pay3 blk
  pointwise

/-- A shard stored is what is stored. -/
theorem pay_apply (w : Vec Ideal S512x192 .f32) (x : S1x512x192.Idx) : k0_pay5 w x = w (ix2 (x 1) (x 2)) := by
  obtain ⟨o, r, d, rfl⟩ : ∃ (o : Fin 1) (r : Fin 512) (d : Fin 192), x = ix3 o r d := ⟨x 0, x 1, x 2, (by funext a; fin_cases a <;> rfl)⟩
  unfold k0_pay5
  pointwise

/-- The last point of a sweep leaves the scratch's shards. -/
theorem out_last (t : Fin cfg0.N) (h : t.val % 4 = 3) (y : S8x512x192.Idx) :
    (outsAt0 m c t.val t.isLt).1 y = (outsAt0 m c t.val t.isLt).2 (colAt (C := 1536) (by decide) y) := by
  rw [scratch m c t (by omega), outsAt0_C m c t (by omega) (by omega) h]
  dsimp only
  unfold out0_C_2
  rw [View.read_writes_eq_canon _ _ _ (fun y => cover0_C_2 ..)]
  refine View.canon_apply_of_pieces (Val := Elt Ideal) (e := .bf16) (fun y => k0_pay3 (iblk m c 0 t) (iblk m c 1 t)
      (outsAt0 m c (t.val - 1) (Nat.lt_of_le_of_lt (Nat.sub_le _ _) t.isLt)).2 (colAt (C := 1536) (by decide) y)) _ ?_ _ (cover0_C_2 ..)
  unfold kernelRun0_C
  dsimp only
  sl_unfold_words
  simp only [View.readAt_eq_ld, readCov_sub (S := S512x1536) _ zz, (hs0_0 t).read_unread, (hs0_1 t).read_unread,
    (Memref.isWhole_whole _).read_unread, View.ld_unit_zero (S := S1024x512) zz, View.ld_unit_zero (S := S1024x1536) zz, View.ld_unit_zero (S := S512x1536) zz]
  generalize k0_pay3 (iblk m c 0 t) (iblk m c 1 t) (outsAt0 m c (t.val - 1) (Nat.lt_of_le_of_lt (Nat.sub_le _ _) t.isLt)).2 = s
  have pc := piece_cols (N := 8) (by decide) s (k0_pay5 (F := Ideal)) pay_apply
  intro p hp x
  simp only [List.mem_cons, List.not_mem_nil, or_false] at hp
  rcases hp with rfl | rfl | rfl | rfl | rfl | rfl | rfl | rfl
  · exact pc 7 _ inb_S512x1536_S512x192_0_1344 _ inb_S8x512x192_S1x512x192_7_0_0 rfl rfl x
  · exact pc 6 _ inb_S512x1536_S512x192_0_1152 _ inb_S8x512x192_S1x512x192_6_0_0 rfl rfl x
  · exact pc 5 _ inb_S512x1536_S512x192_0_960 _ inb_S8x512x192_S1x512x192_5_0_0 rfl rfl x
  · exact pc 4 _ inb_S512x1536_S512x192_0_768 _ inb_S8x512x192_S1x512x192_4_0_0 rfl rfl x
  · exact pc 3 _ inb_S512x1536_S512x192_0_576 _ inb_S8x512x192_S1x512x192_3_0_0 rfl rfl x
  · exact pc 2 _ inb_S512x1536_S512x192_0_384 _ inb_S8x512x192_S1x512x192_2_0_0 rfl rfl x
  · exact pc 1 _ inb_S512x1536_S512x192_0_192 _ inb_S8x512x192_S1x512x192_1_0_0 rfl rfl x
  · exact pc 0 _ inb_S512x1536_S512x192_0_0 _ inb_S8x512x192_S1x512x192_0_0_0 rfl rfl x

/-- The result's array is the shards of the product. -/
theorem final : (dats m 0 c).arrAt 2 cfg0.N = G m c := by
  refine (dats m 0 c).arrAt_eq_of_covers 2 _ (by decide +kernel) fun t hf y => ?_
  have hl := last t hf
  blk_simp
  rw [after0_2, out_last m c t hl]
  exact sweep_sum (nk := 4) (tk := 1024) (by decide) rfl _ (fun n h => (outsAt0 m c n h).2 (colAt (C := 1536) (by decide) y)) t.val t.isLt hl
    (fun n h hq hn => (first m c ⟨n, h⟩ hn _).trans (blk_eq m c ⟨n, h⟩ t hq y))
    (fun n h hq hn => (next m c ⟨n, h⟩ hn _).trans (congrArg (_ + ·) (blk_eq m c ⟨n, h⟩ t hq y)))

/-- So is the reference's. -/
theorem ref_eq : ReferenceQkvWgradIdeal.Read.val_main_v8 (F := Ideal) (A m c) (B m c) = G m c := by
  funext i
  rw [ReferenceQkvWgradIdeal.Read.val_main_v8_apply, ReferenceQkvWgradIdeal.Read.val_main_v7_apply,
    ReferenceQkvWgradIdeal.Read.val_main_v6_apply, ReferenceQkvWgradIdeal.Read.val_main_v5_apply,
    ReferenceQkvWgradIdeal.Read.val_main_v4_apply]
  have h0 : (i 0).val < 8 := (i 0).isLt
  have h1 : (i 1).val < 1024 := (i 1).isLt
  have h2 : (i 2).val < 192 := (i 2).isLt
  refine Tmul_of_places (A m c) (B m c) (colAt (C := 1536) (by decide) i) _ _ (fun _ => rfl) (fun _ => ?_) (fun _ => rfl) (fun _ => ?_)
  · show (((i 1).val * 8 + (i 0).val) * 192 + (i 2).val) / 1536 = (i 1).val; omega
  · show (((i 1).val * 8 + (i 0).val) * 192 + (i 2).val) % 1536 = 192 * (i 0).val + (i 2).val; omega

/-- Kernel, idealized kernel and reference run to their ends and leave their arguments alone. -/
theorem frame_p : Cert.quiescent_KernelQkvWgrad := fun m ρ _ => Cert.KernelQkvWgrad.Gen.frame m ρ
theorem frame_pi : Cert.quiescent_KernelQkvWgradIdeal := fun m ρ _ => frame m ρ
theorem frame_ri : Cert.quiescent_ReferenceQkvWgradIdeal := fun m ρ _ =>
  (θ_run ReferenceQkvWgradIdeal.defs _ _).mono (fun r h => ⟨fun c => (h c).2, sem_eq_zero_of_no_sems (by decide) r.2⟩)
    (ReferenceQkvWgradIdeal.Value.run (F := Ideal) m ρ)

/-- At all arguments the idealized kernel's result is the reference's. -/
theorem algebraic : Cert.algebraic_KernelQkvWgradIdeal_ReferenceQkvWgradIdeal := by
  intro m ρ m' ρ' _ hagree
  refine ⟨fun c => G m c, (θ_run _ _ _).mono (fun r h c => ⟨(h c).1.trans (final m c), (h c).2⟩) (run_blocks m ρ),
    (θ_run ReferenceQkvWgradIdeal.defs _ _).mono (fun r h c => ⟨(h c).1.trans ?_, (h c).2⟩) (ReferenceQkvWgradIdeal.Value.run (F := Ideal) m' ρ')⟩
  rw [ReferenceQkvWgradIdeal.Read.val_main_v8_eq, (hagree c).1, (hagree c).2.1]
  exact ref_eq m c

end Cert.KernelQkvWgradIdeal.Prod

/-! ## The linear attention's input weight: the shards leave the last 96 columns of the product out -/

namespace Cert.KernelGlaInWgradIdeal.Prod

open Cert.KernelGlaInWgradIdeal Cert.KernelGlaInWgradIdeal.Gen Cert.KernelGlaInWgradIdeal.Value

variable (m : (ℓ : Loc nD τ sig) → Buf (Elt Ideal) ℓ) (c : Dev nD)

/-- The activations and the gradient, as launched. -/
abbrev A : Vec Ideal S4096x1024 .bf16 := m ((c : Thread nD τ).loc main_arg0)
abbrev B : Vec Ideal S4096x3200 .bf16 := m ((c : Thread nD τ).loc main_arg1)

theorem zz : (![0, 0] : Fin 2 → Nat) = fun _ => 0 := funext fun a => by fin_cases a <;> rfl
theorem at0 : ∀ t : Fin cfg0.N, win0_0.index t = ![t.val % 4, t.val / 4] := (by decide +kernel : ∀ t : Fin grid0.N, _)
theorem at1 : ∀ t : Fin cfg0.N, win0_1.index t = ![t.val % 4, 0] := (by decide +kernel : ∀ t : Fin grid0.N, _)
theorem at2 : ∀ t : Fin cfg0.N, win0_2.index t = ![0, t.val / 4, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

/-- The shards of the product. -/
def G : Vec Ideal S8x1024x388 .bf16 := fun i => Tmul (A m c) (B m c) (colAt (C := 3200) (by decide) i)

/-- The product of a point's blocks. -/
def blk (t : Fin cfg0.N) (y : S512x3200.Idx) : EReal := k0_pay1 (F := Ideal) (iblk m c 0 t) (iblk m c 1 t) y

/-- It is a block of the terms of the result's entry there. -/
theorem blk_eq (t u : Fin cfg0.N) (h : t.val / 4 = u.val / 4) (y : S8x512x388.Idx) :
    blk m c t (colAt (C := 3200) (by decide) y)
      = part 1024 (fun k : Fin 4096 => A m c (ix2 k (colAt (C := 3200) (by decide) ((win0_2.blk u).view.emb y) 0))
          * B m c (ix2 k (colAt (C := 3200) (by decide) ((win0_2.blk u).view.emb y) 1))) (t.val % 4) := by
  unfold blk k0_pay1
  pointwise [dot_S1024x512_S1024x3200_S512x3200_0_0_1_1_n_n]
  blk_simp [iblk]
  exact Tmul_part (A m c) (B m c) _ _ (by omega) _ _ (fun k => by blk_simp [at0]; omega) (fun k => by unfold colAt; blk_simp [at0, at2]; omega)
    (fun k => by blk_simp [at1]; omega) (fun k => by unfold colAt; blk_simp [at1, at2])

theorem first (t : Fin cfg0.N) (h : t.val % 4 = 0) (y : S512x3200.Idx) : (outsAt0 m c t.val t.isLt).2 y = blk m c t y := by
  rw [outsAt0_A m c t h (by omega) (by omega)]
  frame_out
  unfold k0_pay2 blk
  pointwise

/-- What a later point of a sweep leaves in scratch. -/
theorem scratch (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  rcases Decidable.em (t.val % 4 = 3) with h3 | h3
  · rw [outsAt0_C m c t h (by omega) h3]
    frame_out
    rw [(Memref.isWhole_whole cc0_scratch0).read_unread]
  · rw [outsAt0_B m c t h (by omega) h3]
    frame_out
    rw [(Memref.isWhole_whole cc0_scratch0).read_unread]

theorem next (t : Fin cfg0.N) (h : t.val % 4 ≠ 0) (y : S512x3200.Idx) :
    (outsAt0 m c t.val t.isLt).2 y = (outsAt0 m c (t.val - 1) (Nat.lt_of_le_of_lt (Nat.sub_le _ _) t.isLt)).2 y + blk m c t y := by
  rw [scratch m c t h]
  unfold k0_pay3 blk
  pointwise

/-- A shard stored is what is stored. -/
theorem pay_apply (w : Vec Ideal S512x388 .f32) (x : S1x512x388.Idx) : k0_pay5 w x = w (ix2 (x 1) (x 2)) := by
  obtain ⟨o, r, d, rfl⟩ : ∃ (o : Fin 1) (r : Fin 512) (d : Fin 388), x = ix3 o r d := ⟨x 0, x 1, x 2, (by funext a; fin_cases a <;> rfl)⟩
  unfold k0_pay5
  pointwise

/-- The last point of a sweep leaves the scratch's shards. -/
theorem out_last (t : Fin cfg0.N) (h : t.val % 4 = 3) (y : S8x512x388.Idx) :
    (outsAt0 m c t.val t.isLt).1 y = (outsAt0 m c t.val t.isLt).2 (colAt (C := 3200) (by decide) y) := by
  rw [scratch m c t (by omega), outsAt0_C m c t (by omega) (by omega) h]
  dsimp only
  unfold out0_C_2
  rw [View.read_writes_eq_canon _ _ _ (fun y => cover0_C_2 ..)]
  refine View.canon_apply_of_pieces (Val := Elt Ideal) (e := .bf16) (fun y => k0_pay3 (iblk m c 0 t) (iblk m c 1 t)
      (outsAt0 m c (t.val - 1) (Nat.lt_of_le_of_lt (Nat.sub_le _ _) t.isLt)).2 (colAt (C := 3200) (by decide) y)) _ ?_ _ (cover0_C_2 ..)
  unfold kernelRun0_C
  dsimp only
  sl_unfold_words
  simp only [View.readAt_eq_ld, readCov_sub (S := S512x3200) _ zz, (hs0_0 t).read_unread, (hs0_1 t).read_unread,
    (Memref.isWhole_whole _).read_unread, View.ld_unit_zero (S := S1024x512) zz, View.ld_unit_zero (S := S1024x3200) zz, View.ld_unit_zero (S := S512x3200) zz]
  generalize k0_pay3 (iblk m c 0 t) (iblk m c 1 t) (outsAt0 m c (t.val - 1) (Nat.lt_of_le_of_lt (Nat.sub_le _ _) t.isLt)).2 = s
  have pc := piece_cols (N := 8) (by decide) s (k0_pay5 (F := Ideal)) pay_apply
  intro p hp x
  simp only [List.mem_cons, List.not_mem_nil, or_false] at hp
  rcases hp with rfl | rfl | rfl | rfl | rfl | rfl | rfl | rfl
  · exact pc 7 _ inb_S512x3200_S512x388_0_2716 _ inb_S8x512x388_S1x512x388_7_0_0 rfl rfl x
  · exact pc 6 _ inb_S512x3200_S512x388_0_2328 _ inb_S8x512x388_S1x512x388_6_0_0 rfl rfl x
  · exact pc 5 _ inb_S512x3200_S512x388_0_1940 _ inb_S8x512x388_S1x512x388_5_0_0 rfl rfl x
  · exact pc 4 _ inb_S512x3200_S512x388_0_1552 _ inb_S8x512x388_S1x512x388_4_0_0 rfl rfl x
  · exact pc 3 _ inb_S512x3200_S512x388_0_1164 _ inb_S8x512x388_S1x512x388_3_0_0 rfl rfl x
  · exact pc 2 _ inb_S512x3200_S512x388_0_776 _ inb_S8x512x388_S1x512x388_2_0_0 rfl rfl x
  · exact pc 1 _ inb_S512x3200_S512x388_0_388 _ inb_S8x512x388_S1x512x388_1_0_0 rfl rfl x
  · exact pc 0 _ inb_S512x3200_S512x388_0_0 _ inb_S8x512x388_S1x512x388_0_0_0 rfl rfl x

/-- The result's array is the shards of the product. -/
theorem final : (dats m 0 c).arrAt 2 cfg0.N = G m c := by
  refine (dats m 0 c).arrAt_eq_of_covers 2 _ (by decide +kernel) fun t hf y => ?_
  have hl := last t hf
  blk_simp
  rw [after0_2, out_last m c t hl]
  exact sweep_sum (nk := 4) (tk := 1024) (by decide) rfl _ (fun n h => (outsAt0 m c n h).2 (colAt (C := 3200) (by decide) y)) t.val t.isLt hl
    (fun n h hq hn => (first m c ⟨n, h⟩ hn _).trans (blk_eq m c ⟨n, h⟩ t hq y))
    (fun n h hq hn => (next m c ⟨n, h⟩ hn _).trans (congrArg (_ + ·) (blk_eq m c ⟨n, h⟩ t hq y)))

/-- So is the reference's. -/
theorem ref_eq : ReferenceGlaInWgradIdeal.Read.val_main_v9 (F := Ideal) (A m c) (B m c) = G m c := by
  funext i
  rw [ReferenceGlaInWgradIdeal.Read.val_main_v9_apply, ReferenceGlaInWgradIdeal.Read.val_main_v8_apply,
    ReferenceGlaInWgradIdeal.Read.val_main_v7_apply, ReferenceGlaInWgradIdeal.Read.val_main_v6_apply,
    ReferenceGlaInWgradIdeal.Read.val_main_v5_apply]
  have h0 : (i 0).val < 8 := (i 0).isLt
  have h1 : (i 1).val < 1024 := (i 1).isLt
  have h2 : (i 2).val < 388 := (i 2).isLt
  simp only [ReferenceGlaInWgradIdeal.Read.val_main_v4_apply, ReferenceGlaInWgradIdeal.Read.val_main_v0_apply]
  refine Tmul_of_places (A m c) (B m c) (colAt (C := 3200) (by decide) i) _ _ (fun _ => rfl) (fun _ => ?_) (fun _ => rfl) (fun _ => ?_)
  · show (((i 1).val * 8 + (i 0).val) * 388 + (i 2).val) / 3104 = (i 1).val; omega
  · show (((i 1).val * 8 + (i 0).val) * 388 + (i 2).val) % 3104 = 388 * (i 0).val + (i 2).val; omega

/-- Kernel, idealized kernel and reference run to their ends and leave their arguments alone. -/
theorem frame_p : Cert.quiescent_KernelGlaInWgrad := fun m ρ _ => Cert.KernelGlaInWgrad.Gen.frame m ρ
theorem frame_pi : Cert.quiescent_KernelGlaInWgradIdeal := fun m ρ _ => frame m ρ
theorem frame_ri : Cert.quiescent_ReferenceGlaInWgradIdeal := fun m ρ _ =>
  (θ_run ReferenceGlaInWgradIdeal.defs _ _).mono (fun r h => ⟨fun c => (h c).2, sem_eq_zero_of_no_sems (by decide) r.2⟩)
    (ReferenceGlaInWgradIdeal.Value.run (F := Ideal) m ρ)

/-- At all arguments the idealized kernel's result is the reference's. -/
theorem algebraic : Cert.algebraic_KernelGlaInWgradIdeal_ReferenceGlaInWgradIdeal := by
  intro m ρ m' ρ' _ hagree
  refine ⟨fun c => G m c, (θ_run _ _ _).mono (fun r h c => ⟨(h c).1.trans (final m c), (h c).2⟩) (run_blocks m ρ),
    (θ_run ReferenceGlaInWgradIdeal.defs _ _).mono (fun r h c => ⟨(h c).1.trans ?_, (h c).2⟩) (ReferenceGlaInWgradIdeal.Value.run (F := Ideal) m' ρ')⟩
  rw [ReferenceGlaInWgradIdeal.Read.val_main_v9_eq, (hagree c).1, (hagree c).2.1]
  exact ref_eq m c

end Cert.KernelGlaInWgradIdeal.Prod

end
-- ==== Proof.FfnUp.lean ====
module

public import proofs.«01_k».proof.Defs
public import proofs.«01_k».proof.Proof.Gen.KernelUpVal.Frame
public import proofs.«01_k».proof.Proof.Gen.KernelUpValIdeal.Value
public import proofs.«01_k».proof.Proof.Gen.ReferenceUpValIdeal.Read
public import proofs.«01_k».proof.Proof.Prod

@[expose] public section

set_option maxRecDepth 16384

/-! The feed-forward layer's two up projections: a block of rows of the input times a block of columns of the weight. -/

noncomputable section

open Idealize.ShloMosaic Idealize.ShloMosaic.TcCoe Idealize.SL.Sem Cert.Prod

/-! ## The value branch -/

namespace Cert.KernelUpValIdeal.Prod

open Cert.KernelUpValIdeal Cert.KernelUpValIdeal.Gen Cert.KernelUpValIdeal.Value

variable (m : (ℓ : Loc nD τ sig) → Buf (Elt Ideal) ℓ) (c : Dev nD)

/-- The layer's input and the weight, as launched. -/
abbrev A : Vec Ideal S4096x1024 .bf16 := m ((c : Thread nD τ).loc main_arg0)
abbrev B : Vec Ideal S1024x2816 .bf16 := m ((c : Thread nD τ).loc main_arg1)

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The result's array is the product. -/
theorem final : (dats m 0 c).arrAt 2 cfg0.N = mul (A m c) (B m c) := by
  refine (dats m 0 c).arrAt_eq_of_covers 2 _ (by decide +kernel) fun t _ y => ?_
  blk_simp
  rw [after0_2]
  frame_out
  unfold k0_pay1
  pointwise [dot_S1024x1024_S1024x1408_S1024x1408_1_0_0_1_n_n]
  blk_simp [iblk]
  exact mul_of_places (A m c) (B m c) _ _ _ (fun k => by blk_simp [at0, at2]) (fun k => by blk_simp [at0])
    (fun k => by blk_simp [at1]) (fun k => by blk_simp [at1, at2])

/-- So is the reference's. -/
theorem ref_eq : ReferenceUpValIdeal.Read.val_main_v2 (F := Ideal) (A m c) (B m c) = mul (A m c) (B m c) := by
  funext i
  rw [ReferenceUpValIdeal.Read.val_main_v2_apply]
  exact mul_of_places _ _ i _ _ (fun _ => rfl) (fun _ => rfl) (fun _ => rfl) (fun _ => rfl)

/-- Kernel, idealized kernel and reference run to their ends and leave their arguments alone. -/
theorem frame_p : Cert.quiescent_KernelUpVal := fun m ρ _ => Cert.KernelUpVal.Gen.frame m ρ
theorem frame_pi : Cert.quiescent_KernelUpValIdeal := fun m ρ _ => frame m ρ
theorem frame_ri : Cert.quiescent_ReferenceUpValIdeal := fun m ρ _ =>
  (θ_run ReferenceUpValIdeal.defs _ _).mono (fun r h => ⟨fun c => (h c).2, sem_eq_zero_of_no_sems (by decide) r.2⟩)
    (ReferenceUpValIdeal.Value.run (F := Ideal) m ρ)

/-- At every pair of arguments the idealized kernel's result is the reference's. -/
theorem algebraic : Cert.algebraic_KernelUpValIdeal_ReferenceUpValIdeal := by
  intro m ρ m' ρ' _ hagree
  refine ⟨fun c => mul (A m c) (B m c), (θ_run _ _ _).mono (fun r h c => ⟨(h c).1.trans (final m c), (h c).2⟩) (run_blocks m ρ),
    (θ_run ReferenceUpValIdeal.defs _ _).mono (fun r h c => ⟨(h c).1.trans ?_, (h c).2⟩) (ReferenceUpValIdeal.Value.run (F := Ideal) m' ρ')⟩
  rw [ReferenceUpValIdeal.Read.val_main_v2_eq, (hagree c).1, (hagree c).2]
  exact ref_eq m c

end Cert.KernelUpValIdeal.Prod

end
-- ==== Proof.Residual.lean ====
module

public import proofs.«01_k».proof.Defs
public import proofs.«01_k».proof.Proof.Gen.KernelAttnOutProj.Frame
public import proofs.«01_k».proof.Proof.Gen.KernelAttnOutProjIdeal.Value
public import proofs.«01_k».proof.Proof.Gen.ReferenceAttnOutProjIdeal.Read
public import proofs.«01_k».proof.Proof.Gen.KernelDown.Frame
public import proofs.«01_k».proof.Proof.Gen.KernelDownIdeal.Value
public import proofs.«01_k».proof.Proof.Gen.ReferenceDownIdeal.Read
public import proofs.«01_k».proof.Proof.Prod

@[expose] public section

set_option maxRecDepth 16384

/-! The projections back to the residual stream, which they are added to. -/

noncomputable section

open Idealize.ShloMosaic Idealize.ShloMosaic.TcCoe Idealize.SL.Sem Cert.Prod

/-! ## The attention's output projection -/

namespace Cert.KernelAttnOutProjIdeal.Prod

open Cert.KernelAttnOutProjIdeal Cert.KernelAttnOutProjIdeal.Gen Cert.KernelAttnOutProjIdeal.Value

variable (m : (ℓ : Loc nD τ sig) → Buf (Elt Ideal) ℓ) (c : Dev nD)

/-- The mixer's output, the weight and the residual, as launched. -/
abbrev A : Vec Ideal S4096x1024 .bf16 := m ((c : Thread nD τ).loc main_arg0)
abbrev B : Vec Ideal S1024x1024 .bf16 := m ((c : Thread nD τ).loc main_arg1)
abbrev R : Vec Ideal S4096x1024 .f32 := m ((c : Thread nD τ).loc main_arg2)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)

/-- The result's array is the product plus the residual. -/
theorem final : (dats m 0 c).arrAt 3 cfg0.N = fun i => mul (A m c) (B m c) i + R m c i := by
  refine (dats m 0 c).arrAt_eq_of_covers 3 _ (by decide +kernel) fun t _ y => ?_
  blk_simp
  rw [after0_3]
  frame_out
  unfold k0_pay1
  pointwise [dot_S1024x1024_S1024x1024_S1024x1024_1_0_0_1_n_n]
  blk_simp [iblk]
  exact congrArg₂ (· + ·) (mul_of_places (A m c) (B m c) _ _ _ (fun k => by blk_simp [at0, at3]) (fun k => by blk_simp [at0])
    (fun k => by blk_simp [at1]) (fun k => by blk_simp [at1, at3])) (congrArg (R m c) (by blk_ext [at2, at3]))

/-- So is the reference's. -/
theorem ref_eq : ReferenceAttnOutProjIdeal.Read.val_main_v3 (F := Ideal) (A m c) (B m c) (R m c) = fun i => mul (A m c) (B m c) i + R m c i := by
  funext i
  rw [ReferenceAttnOutProjIdeal.Read.val_main_v3_apply, ReferenceAttnOutProjIdeal.Read.val_main_v2_apply]
  exact (add_comm _ _).trans (congrArg (· + R m c i)
    (mul_of_places _ _ i _ _ (fun _ => rfl) (fun _ => rfl) (fun _ => rfl) (fun _ => rfl)))

/-- Kernel, idealized kernel and reference run to their ends and leave their arguments alone. -/
theorem frame_p : Cert.quiescent_KernelAttnOutProj := fun m ρ _ => Cert.KernelAttnOutProj.Gen.frame m ρ
theorem frame_pi : Cert.quiescent_KernelAttnOutProjIdeal := fun m ρ _ => frame m ρ
theorem frame_ri : Cert.quiescent_ReferenceAttnOutProjIdeal := fun m ρ _ =>
  (θ_run ReferenceAttnOutProjIdeal.defs _ _).mono (fun r h => ⟨fun c => (h c).2, sem_eq_zero_of_no_sems (by decide) r.2⟩)
    (ReferenceAttnOutProjIdeal.Value.run (F := Ideal) m ρ)

/-- At every triple of arguments the idealized kernel's result is the reference's. -/
theorem algebraic : Cert.algebraic_KernelAttnOutProjIdeal_ReferenceAttnOutProjIdeal := by
  intro m ρ m' ρ' _ hagree
  refine ⟨fun c i => mul (A m c) (B m c) i + R m c i, (θ_run _ _ _).mono (fun r h c => ⟨(h c).1.trans (final m c), (h c).2⟩) (run_blocks m ρ),
    (θ_run ReferenceAttnOutProjIdeal.defs _ _).mono (fun r h c => ⟨(h c).1.trans ?_, (h c).2⟩) (ReferenceAttnOutProjIdeal.Value.run (F := Ideal) m' ρ')⟩
  rw [ReferenceAttnOutProjIdeal.Read.val_main_v3_eq, (hagree c).1, (hagree c).2.1, (hagree c).2.2]
  exact ref_eq m c

end Cert.KernelAttnOutProjIdeal.Prod

/-! ## The feed-forward layer's down projection: two blocks of the contracted axis -/

namespace Cert.KernelDownIdeal.Prod

open Cert.KernelDownIdeal Cert.KernelDownIdeal.Gen Cert.KernelDownIdeal.Value

variable (m : (ℓ : Loc nD τ sig) → Buf (Elt Ideal) ℓ) (c : Dev nD)

/-- The activations, the weight and the residual, as launched. -/
abbrev A : Vec Ideal S4096x2816 .bf16 := m ((c : Thread nD τ).loc main_arg0)
abbrev B : Vec Ideal S2816x1024 .bf16 := m ((c : Thread nD τ).loc main_arg1)
abbrev R : Vec Ideal S4096x1024 .f32 := m ((c : Thread nD τ).loc main_arg2)

theorem at0 : ∀ t : Fin cfg0.N, win0_0.index t = ![t.val / 2, t.val % 2] := (by decide +kernel : ∀ t : Fin grid0.N, _)
theorem at1 : ∀ t : Fin cfg0.N, win0_1.index t = ![t.val % 2, 0] := (by decide +kernel : ∀ t : Fin grid0.N, _)
theorem at2 : ∀ t : Fin cfg0.N, win0_2.index t = ![t.val / 2, 0] := (by decide +kernel : ∀ t : Fin grid0.N, _)
theorem at3 : ∀ t : Fin cfg0.N, win0_3.index t = ![t.val / 2, 0] := (by decide +kernel : ∀ t : Fin grid0.N, _)
theorem last : ∀ t : Fin cfg0.N, (cfg0.win 3).flush t = true → t.val % 2 = 1 := (by decide +kernel : ∀ t : Fin grid0.N, win0_3.flush t = true → t.val % 2 = 1)

/-- The product of a point's blocks. -/
def blk (t : Fin cfg0.N) (y : S1024x1024.Idx) : EReal :=
  k0_pay1 (F := Ideal) (iblk m c 0 t) (iblk m c 1 t) y

/-- It is a block of the terms of the product's entry there. -/
theorem blk_eq (t u : Fin cfg0.N) (h : t.val / 2 = u.val / 2) (y : S1024x1024.Idx) :
    blk m c t y = part 1408 (fun k : Fin 2816 => A m c (ix2 (((win0_3.blk u).view.emb y) 0) k) * B m c (ix2 k (((win0_3.blk u).view.emb y) 1))) (t.val % 2) := by
  unfold blk k0_pay1
  pointwise [dot_S1024x1408_S1408x1024_S1024x1024_1_0_0_1_n_n]
  blk_simp [iblk]
  exact mul_part (A m c) (B m c) _ _ (by omega) _ _ (fun k => by blk_simp [at0, at3]; omega) (fun k => by blk_simp [at0]; omega)
    (fun k => by blk_simp [at1]; omega) (fun k => by blk_simp [at1, at3])

theorem first (t : Fin cfg0.N) (h : t.val % 2 = 0) (y : S1024x1024.Idx) : (outsAt0 m c t.val t.isLt).2 y = blk m c t y := by
  rw [outsAt0_A m c t h (by omega) (by omega)]
  frame_out
  unfold k0_pay2 blk
  pointwise

theorem next (t : Fin cfg0.N) (h : t.val % 2 ≠ 0) (y : S1024x1024.Idx) :
    (outsAt0 m c t.val t.isLt).2 y = (outsAt0 m c (t.val - 1) (Nat.lt_of_le_of_lt (Nat.sub_le _ _) t.isLt)).2 y + blk m c t y := by
  rw [outsAt0_B m c t h (by omega) (by omega)]
  frame_out
  rw [(Memref.isWhole_whole cc0_scratch0).read_unread]
  unfold k0_pay3 blk
  pointwise

/-- At the last point of a sweep the block of the result is the scratch plus the residual's block. -/
theorem out_last (t : Fin cfg0.N) (h : t.val % 2 = 1) (y : S1024x1024.Idx) :
    (outsAt0 m c t.val t.isLt).1 y = (outsAt0 m c t.val t.isLt).2 y + (iblk m c 2 t : Vec Ideal S1024x1024 .f32) y := by
  rw [outsAt0_B m c t (by omega) h h]
  frame_out
  unfold k0_pay4
  pointwise

/-- The result's array is the product plus the residual. -/
theorem final : (dats m 0 c).arrAt 3 cfg0.N = fun i => mul (A m c) (B m c) i + R m c i := by
  refine (dats m 0 c).arrAt_eq_of_covers 3 _ (by decide +kernel) fun t hf y => ?_
  have hl := last t hf
  blk_simp
  rw [after0_3, out_last m c t hl]
  blk_simp [iblk]
  exact congrArg₂ (· + ·) (sweep_sum (nk := 2) (tk := 1408) (by decide) rfl _ (fun n h => (outsAt0 m c n h).2 y) t.val t.isLt hl
    (fun n h hq hn => (first m c ⟨n, h⟩ hn y).trans (blk_eq m c ⟨n, h⟩ t hq y))
    (fun n h hq hn => (next m c ⟨n, h⟩ hn y).trans (congrArg (_ + ·) (blk_eq m c ⟨n, h⟩ t hq y))))
    (congrArg (R m c) (by blk_ext [at2, at3]))

/-- So is the reference's. -/
theorem ref_eq : ReferenceDownIdeal.Read.val_main_v3 (F := Ideal) (A m c) (B m c) (R m c) = fun i => mul (A m c) (B m c) i + R m c i := by
  funext i
  rw [ReferenceDownIdeal.Read.val_main_v3_apply, ReferenceDownIdeal.Read.val_main_v2_apply]
  exact (add_comm _ _).trans (congrArg (· + R m c i)
    (mul_of_places _ _ i _ _ (fun _ => rfl) (fun _ => rfl) (fun _ => rfl) (fun _ => rfl)))

/-- Kernel, idealized kernel and reference run to their ends and leave their arguments alone. -/
theorem frame_p : Cert.quiescent_KernelDown := fun m ρ _ => Cert.KernelDown.Gen.frame m ρ
theorem frame_pi : Cert.quiescent_KernelDownIdeal := fun m ρ _ => frame m ρ
theorem frame_ri : Cert.quiescent_ReferenceDownIdeal := fun m ρ _ =>
  (θ_run ReferenceDownIdeal.defs _ _).mono (fun r h => ⟨fun c => (h c).2, sem_eq_zero_of_no_sems (by decide) r.2⟩)
    (ReferenceDownIdeal.Value.run (F := Ideal) m ρ)

/-- At every triple of arguments the idealized kernel's result is the reference's. -/
theorem algebraic : Cert.algebraic_KernelDownIdeal_ReferenceDownIdeal := by
  intro m ρ m' ρ' _ hagree
  refine ⟨fun c i => mul (A m c) (B m c) i + R m c i, (θ_run _ _ _).mono (fun r h c => ⟨(h c).1.trans (final m c), (h c).2⟩) (run_blocks m ρ),
    (θ_run ReferenceDownIdeal.defs _ _).mono (fun r h c => ⟨(h c).1.trans ?_, (h c).2⟩) (ReferenceDownIdeal.Value.run (F := Ideal) m' ρ')⟩
  rw [ReferenceDownIdeal.Read.val_main_v3_eq, (hagree c).1, (hagree c).2.1, (hagree c).2.2]
  exact ref_eq m c

end Cert.KernelDownIdeal.Prod

end
-- ==== Proof.Projections.lean ====
module

public import proofs.«01_k».proof.Defs
public import proofs.«01_k».proof.Proof.Gen.KernelQkvProj.Frame
public import proofs.«01_k».proof.Proof.Gen.KernelQkvProjIdeal.Value
public import proofs.«01_k».proof.Proof.Gen.ReferenceQkvProjIdeal.Read
public import proofs.«01_k».proof.Proof.Gen.KernelGlaInProj.Frame
public import proofs.«01_k».proof.Proof.Gen.KernelGlaInProjIdeal.Value
public import proofs.«01_k».proof.Proof.Gen.ReferenceGlaInProjIdeal.Read
public import proofs.«01_k».proof.Proof.Gen.KernelGlaGateLogits.Frame
public import proofs.«01_k».proof.Proof.Gen.KernelGlaGateLogitsIdeal.Value
public import proofs.«01_k».proof.Proof.Gen.ReferenceGlaGateLogitsIdeal.Read
public import proofs.«01_k».proof.Proof.Prod

@[expose] public section

set_option maxRecDepth 16384

/-! The mixers' input projections and the gate's logits. -/

noncomputable section

open Idealize.ShloMosaic Idealize.ShloMosaic.TcCoe Idealize.SL.Sem Cert.Prod

/-! ## The attention's input projection -/

namespace Cert.KernelQkvProjIdeal.Prod

open Cert.KernelQkvProjIdeal Cert.KernelQkvProjIdeal.Gen Cert.KernelQkvProjIdeal.Value

variable (m : (ℓ : Loc nD τ sig) → Buf (Elt Ideal) ℓ) (c : Dev nD)

/-- The mixer's input and the weight, as launched. -/
abbrev A : Vec Ideal S4096x1024 .bf16 := m ((c : Thread nD τ).loc main_arg0)
abbrev B : Vec Ideal S1024x1536 .bf16 := m ((c : Thread nD τ).loc main_arg1)

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The result's array is the product. -/
theorem final : (dats m 0 c).arrAt 2 cfg0.N = mul (A m c) (B m c) := by
  refine (dats m 0 c).arrAt_eq_of_covers 2 _ (by decide +kernel) fun t _ y => ?_
  blk_simp
  rw [after0_2]
  frame_out
  unfold k0_pay1
  pointwise [dot_S1024x1024_S1024x768_S1024x768_1_0_0_1_n_n]
  blk_simp [iblk]
  exact mul_of_places (A m c) (B m c) _ _ _ (fun k => by blk_simp [at0, at2]) (fun k => by blk_simp [at0])
    (fun k => by blk_simp [at1]) (fun k => by blk_simp [at1, at2])

/-- So is the reference's. -/
theorem ref_eq : ReferenceQkvProjIdeal.Read.val_main_v2 (F := Ideal) (A m c) (B m c) = mul (A m c) (B m c) := by
  funext i
  rw [ReferenceQkvProjIdeal.Read.val_main_v2_apply]
  exact mul_of_places _ _ i _ _ (fun _ => rfl) (fun _ => rfl) (fun _ => rfl) (fun _ => rfl)

/-- Kernel, idealized kernel and reference run to their ends and leave their arguments alone. -/
theorem frame_p : Cert.quiescent_KernelQkvProj := fun m ρ _ => Cert.KernelQkvProj.Gen.frame m ρ
theorem frame_pi : Cert.quiescent_KernelQkvProjIdeal := fun m ρ _ => frame m ρ
theorem frame_ri : Cert.quiescent_ReferenceQkvProjIdeal := fun m ρ _ =>
  (θ_run ReferenceQkvProjIdeal.defs _ _).mono (fun r h => ⟨fun c => (h c).2, sem_eq_zero_of_no_sems (by decide) r.2⟩)
    (ReferenceQkvProjIdeal.Value.run (F := Ideal) m ρ)

/-- At every pair of arguments the idealized kernel's result is the reference's. -/
theorem algebraic : Cert.algebraic_KernelQkvProjIdeal_ReferenceQkvProjIdeal := by
  intro m ρ m' ρ' _ hagree
  refine ⟨fun c => mul (A m c) (B m c), (θ_run _ _ _).mono (fun r h c => ⟨(h c).1.trans (final m c), (h c).2⟩) (run_blocks m ρ),
    (θ_run ReferenceQkvProjIdeal.defs _ _).mono (fun r h c => ⟨(h c).1.trans ?_, (h c).2⟩) (ReferenceQkvProjIdeal.Value.run (F := Ideal) m' ρ')⟩
  rw [ReferenceQkvProjIdeal.Read.val_main_v2_eq, (hagree c).1, (hagree c).2]
  exact ref_eq m c

end Cert.KernelQkvProjIdeal.Prod

/-! ## The linear attention's input projection -/

namespace Cert.KernelGlaInProjIdeal.Prod

open Cert.KernelGlaInProjIdeal Cert.KernelGlaInProjIdeal.Gen Cert.KernelGlaInProjIdeal.Value

variable (m : (ℓ : Loc nD τ sig) → Buf (Elt Ideal) ℓ) (c : Dev nD)

/-- The mixer's input and the weight, as launched. -/
abbrev A : Vec Ideal S4096x1024 .bf16 := m ((c : Thread nD τ).loc main_arg0)
abbrev B : Vec Ideal S1024x3200 .bf16 := m ((c : Thread nD τ).loc main_arg1)

theorem at0 : ∀ t : Fin cfg0.N, win0_0.index t = ![t.val / 5, 0] := (by decide +kernel : ∀ t : Fin grid0.N, _)
theorem at1 : ∀ t : Fin cfg0.N, win0_1.index t = ![0, t.val % 5] := (by decide +kernel : ∀ t : Fin grid0.N, _)
theorem at2 : ∀ t : Fin cfg0.N, win0_2.index t = ![t.val / 5, t.val % 5] := (by decide +kernel : ∀ t : Fin grid0.N, _)

/-- The result's array is the product. -/
theorem final : (dats m 0 c).arrAt 2 cfg0.N = mul (A m c) (B m c) := by
  refine (dats m 0 c).arrAt_eq_of_covers 2 _ (by decide +kernel) fun t _ y => ?_
  blk_simp
  rw [after0_2]
  frame_out
  unfold k0_pay1
  pointwise [dot_S1024x1024_S1024x640_S1024x640_1_0_0_1_n_n]
  blk_simp [iblk]
  exact mul_of_places (A m c) (B m c) _ _ _ (fun k => by blk_simp [at0, at2]) (fun k => by blk_simp [at0])
    (fun k => by blk_simp [at1]) (fun k => by blk_simp [at1, at2])

/-- So is the reference's. -/
theorem ref_eq : ReferenceGlaInProjIdeal.Read.val_main_v2 (F := Ideal) (A m c) (B m c) = mul (A m c) (B m c) := by
  funext i
  rw [ReferenceGlaInProjIdeal.Read.val_main_v2_apply]
  exact mul_of_places _ _ i _ _ (fun _ => rfl) (fun _ => rfl) (fun _ => rfl) (fun _ => rfl)

/-- Kernel, idealized kernel and reference run to their ends and leave their arguments alone. -/
theorem frame_p : Cert.quiescent_KernelGlaInProj := fun m ρ _ => Cert.KernelGlaInProj.Gen.frame m ρ
theorem frame_pi : Cert.quiescent_KernelGlaInProjIdeal := fun m ρ _ => frame m ρ
theorem frame_ri : Cert.quiescent_ReferenceGlaInProjIdeal := fun m ρ _ =>
  (θ_run ReferenceGlaInProjIdeal.defs _ _).mono (fun r h => ⟨fun c => (h c).2, sem_eq_zero_of_no_sems (by decide) r.2⟩)
    (ReferenceGlaInProjIdeal.Value.run (F := Ideal) m ρ)

/-- At every pair of arguments the idealized kernel's result is the reference's. -/
theorem algebraic : Cert.algebraic_KernelGlaInProjIdeal_ReferenceGlaInProjIdeal := by
  intro m ρ m' ρ' _ hagree
  refine ⟨fun c => mul (A m c) (B m c), (θ_run _ _ _).mono (fun r h c => ⟨(h c).1.trans (final m c), (h c).2⟩) (run_blocks m ρ),
    (θ_run ReferenceGlaInProjIdeal.defs _ _).mono (fun r h c => ⟨(h c).1.trans ?_, (h c).2⟩) (ReferenceGlaInProjIdeal.Value.run (F := Ideal) m' ρ')⟩
  rw [ReferenceGlaInProjIdeal.Read.val_main_v2_eq, (hagree c).1, (hagree c).2]
  exact ref_eq m c

end Cert.KernelGlaInProjIdeal.Prod

/-! ## The gate's logits: the last 128 columns of the projection times the weight -/

namespace Cert.KernelGlaGateLogitsIdeal.Prod

open Cert.KernelGlaGateLogitsIdeal Cert.KernelGlaGateLogitsIdeal.Gen Cert.KernelGlaGateLogitsIdeal.Value

variable (m : (ℓ : Loc nD τ sig) → Buf (Elt Ideal) ℓ) (c : Dev nD)

/-- The projection's columns that the gate takes, and the weight, as launched. -/
abbrev A : (⟨2, ![4096, 128]⟩ : Shape).Idx → EReal := fun i => (m ((c : Thread nD τ).loc main_arg0) : Vec Ideal S4096x3200 .f32)
  (ix2 (i 0) ⟨3072 + (i 1).val, by have : (i 1).val < 128 := (i 1).isLt; omega⟩)
abbrev B : Vec Ideal S128x1024 .bf16 := m ((c : Thread nD τ).loc main_arg1)

theorem at0 : ∀ t : Fin cfg0.N, win0_0.index t = ![t.val, 24] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The result's array is the product. -/
theorem final : (dats m 0 c).arrAt 2 cfg0.N = mul (A m c) (B m c) := by
  refine (dats m 0 c).arrAt_eq_of_covers 2 _ (by decide +kernel) fun t _ y => ?_
  blk_simp
  rw [after0_2]
  frame_out
  unfold k0_pay1
  pointwise [dot_S1024x128_S128x1024_S1024x1024_1_0_0_1_n_n]
  blk_simp [iblk]
  exact mul_of_entries (A m c) (B m c) _ _ _ (fun k => congrArg (m ((c : Thread nD τ).loc main_arg0)) (by blk_ext [at0, at2]))
    (fun k => congrArg (B m c) (by blk_ext [at1, at2]))

/-- So is the reference's. -/
theorem ref_eq : ReferenceGlaGateLogitsIdeal.Read.val_main_v2 (F := Ideal) (m ((c : Thread nD τ).loc main_arg0)) (B m c) = mul (A m c) (B m c) := by
  funext i
  rw [ReferenceGlaGateLogitsIdeal.Read.val_main_v2_apply]
  refine Finset.sum_congr rfl fun k _ => congrArg₂ (· * ·) ?_ (congrArg (B m c) (funext fun a => by fin_cases a <;> rfl))
  refine (ReferenceGlaGateLogitsIdeal.Read.val_main_v0_apply ..).trans (congrArg (m ((c : Thread nD τ).loc main_arg0)) (funext fun a => Fin.ext ?_))
  match a with
  | ⟨0, _⟩ => rfl
  | ⟨1, _⟩ => rfl

/-- Kernel, idealized kernel and reference run to their ends and leave their arguments alone. -/
theorem frame_p : Cert.quiescent_KernelGlaGateLogits := fun m ρ _ => Cert.KernelGlaGateLogits.Gen.frame m ρ
theorem frame_pi : Cert.quiescent_KernelGlaGateLogitsIdeal := fun m ρ _ => frame m ρ
theorem frame_ri : Cert.quiescent_ReferenceGlaGateLogitsIdeal := fun m ρ _ =>
  (θ_run ReferenceGlaGateLogitsIdeal.defs _ _).mono (fun r h => ⟨fun c => (h c).2, sem_eq_zero_of_no_sems (by decide) r.2⟩)
    (ReferenceGlaGateLogitsIdeal.Value.run (F := Ideal) m ρ)

/-- At every pair of arguments the idealized kernel's result is the reference's. -/
theorem algebraic : Cert.algebraic_KernelGlaGateLogitsIdeal_ReferenceGlaGateLogitsIdeal := by
  intro m ρ m' ρ' _ hagree
  refine ⟨fun c => mul (A m c) (B m c), (θ_run _ _ _).mono (fun r h c => ⟨(h c).1.trans (final m c), (h c).2⟩) (run_blocks m ρ),
    (θ_run ReferenceGlaGateLogitsIdeal.defs _ _).mono (fun r h c => ⟨(h c).1.trans ?_, (h c).2⟩) (ReferenceGlaGateLogitsIdeal.Value.run (F := Ideal) m' ρ')⟩
  rw [ReferenceGlaGateLogitsIdeal.Read.val_main_v2_eq, (hagree c).1, (hagree c).2]
  exact ref_eq m c

end Cert.KernelGlaGateLogitsIdeal.Prod

end
-- ==== Proof.Twins.lean ====
module

public import proofs.«01_k».proof.Proof.FfnUp
public import proofs.«01_k».proof.Proof.Residual
public import proofs.«01_k».proof.Proof.RowStacks
public import proofs.«01_k».proof.Proof.Gen.KernelUpGate.Frame
public import proofs.«01_k».proof.Proof.Gen.KernelUpGateIdeal.Frame
public import proofs.«01_k».proof.Proof.Gen.ReferenceUpGateIdeal.Run
public import proofs.«01_k».proof.Proof.Gen.KernelGlaOutProj.Frame
public import proofs.«01_k».proof.Proof.Gen.KernelGlaOutProjIdeal.Frame
public import proofs.«01_k».proof.Proof.Gen.ReferenceGlaOutProjIdeal.Run
public import proofs.«01_k».proof.Proof.Gen.KernelGlaOutWgrad.Frame
public import proofs.«01_k».proof.Proof.Gen.KernelGlaOutWgradIdeal.Frame
public import proofs.«01_k».proof.Proof.Gen.ReferenceGlaOutWgradIdeal.Run

@[expose] public section

set_option maxRecDepth 16384

/-! Three calls run the same code at the same shapes as another call, and their references are the same too: what is
claimed of them is what is proved of that other. -/

noncomputable section

open Idealize.ShloMosaic Idealize.ShloMosaic.TcCoe Idealize.SL.Sem

/-! ## The gate branch's up projection is the value branch's -/

namespace Cert.KernelUpGateIdeal.Prod

theorem defs_eq {F : FTy → Type} [FloatOps F] : Cert.KernelUpGateIdeal.defs (F := F) = Cert.KernelUpValIdeal.defs :=
  congrArg (Pipeline.defs _) (congrArg Defs.onTc (funext fun p => match p with | ⟨0, _⟩ => rfl))

theorem frame_p : Cert.quiescent_KernelUpGate := fun m ρ _ => Cert.KernelUpGate.Gen.frame m ρ
theorem frame_pi : Cert.quiescent_KernelUpGateIdeal := fun m ρ _ => Cert.KernelUpGateIdeal.Gen.frame m ρ
theorem frame_ri : Cert.quiescent_ReferenceUpGateIdeal := fun m ρ _ =>
  (θ_run ReferenceUpGateIdeal.defs _ _).mono (fun r h => ⟨fun c => (h c).2, sem_eq_zero_of_no_sems (by decide) r.2⟩)
    (ReferenceUpGateIdeal.Value.run (F := Ideal) m ρ)

theorem algebraic : Cert.algebraic_KernelUpGateIdeal_ReferenceUpGateIdeal := by
  unfold Cert.algebraic_KernelUpGateIdeal_ReferenceUpGateIdeal
  rw [defs_eq]
  exact Cert.KernelUpValIdeal.Prod.algebraic

end Cert.KernelUpGateIdeal.Prod

/-! ## The linear attention's output projection is the attention's -/

namespace Cert.KernelGlaOutProjIdeal.Prod

theorem defs_eq {F : FTy → Type} [FloatOps F] : Cert.KernelGlaOutProjIdeal.defs (F := F) = Cert.KernelAttnOutProjIdeal.defs :=
  congrArg (Pipeline.defs _) (congrArg Defs.onTc (funext fun p => match p with | ⟨0, _⟩ => rfl))

theorem frame_p : Cert.quiescent_KernelGlaOutProj := fun m ρ _ => Cert.KernelGlaOutProj.Gen.frame m ρ
theorem frame_pi : Cert.quiescent_KernelGlaOutProjIdeal := fun m ρ _ => Cert.KernelGlaOutProjIdeal.Gen.frame m ρ
theorem frame_ri : Cert.quiescent_ReferenceGlaOutProjIdeal := fun m ρ _ =>
  (θ_run ReferenceGlaOutProjIdeal.defs _ _).mono (fun r h => ⟨fun c => (h c).2, sem_eq_zero_of_no_sems (by decide) r.2⟩)
    (ReferenceGlaOutProjIdeal.Value.run (F := Ideal) m ρ)

theorem algebraic : Cert.algebraic_KernelGlaOutProjIdeal_ReferenceGlaOutProjIdeal := by
  unfold Cert.algebraic_KernelGlaOutProjIdeal_ReferenceGlaOutProjIdeal
  rw [defs_eq]
  exact Cert.KernelAttnOutProjIdeal.Prod.algebraic

end Cert.KernelGlaOutProjIdeal.Prod

/-! ## So is its weight's gradient -/

namespace Cert.KernelGlaOutWgradIdeal.Prod

theorem defs_eq {F : FTy → Type} [FloatOps F] : Cert.KernelGlaOutWgradIdeal.defs (F := F) = Cert.KernelAttnOutWgradIdeal.defs :=
  congrArg (Pipeline.defs _) (congrArg Defs.onTc (funext fun p => match p with | ⟨0, _⟩ => rfl))

theorem frame_p : Cert.quiescent_KernelGlaOutWgrad := fun m ρ _ => Cert.KernelGlaOutWgrad.Gen.frame m ρ
theorem frame_pi : Cert.quiescent_KernelGlaOutWgradIdeal := fun m ρ _ => Cert.KernelGlaOutWgradIdeal.Gen.frame m ρ
theorem frame_ri : Cert.quiescent_ReferenceGlaOutWgradIdeal := fun m ρ _ =>
  (θ_run ReferenceGlaOutWgradIdeal.defs _ _).mono (fun r h => ⟨fun c => (h c).2, sem_eq_zero_of_no_sems (by decide) r.2⟩)
    (ReferenceGlaOutWgradIdeal.Value.run (F := Ideal) m ρ)

theorem algebraic : Cert.algebraic_KernelGlaOutWgradIdeal_ReferenceGlaOutWgradIdeal := by
  unfold Cert.algebraic_KernelGlaOutWgradIdeal_ReferenceGlaOutWgradIdeal
  rw [defs_eq]
  exact Cert.KernelAttnOutWgradIdeal.Prod.algebraic

end Cert.KernelGlaOutWgradIdeal.Prod

end
-- ==== Proof.Taps.lean ====
module

public import Mathlib.Data.EReal.Basic
public import Mathlib.Data.EReal.Operations
public import Idealize.ShloMosaic.Lib.Pipeline.ValueKit
public import Idealize.ShloMosaic.Lib.Tactic
public import Idealize.ShloMosaic.Lib.WordCmp

@[expose] public section

/-! The rows before and after a row of a sequence of 4096, zero outside it, and how a block of 512 rows with its two halo rows gives them. -/

noncomputable section

namespace Cert.Taps

open Idealize.ShloMosaic Idealize.ShloMosaic.WordCmp

/-- The row before, zero before the first. -/
def before (z : Fin 4096 → EReal) (r : Fin 4096) : EReal := if h : r.val = 0 then 0 else z ⟨r.val - 1, by omega⟩
/-- The row after, zero after the last. -/
def after (z : Fin 4096 → EReal) (r : Fin 4096) : EReal := if h : r.val < 4095 then z ⟨r.val + 1, by omega⟩ else 0

theorem before_eq (z : Fin 4096 → EReal) (r : Fin 4096) (h : ¬ r.val = 0) : before z r = z ⟨r.val - 1, by omega⟩ := dif_neg h
theorem after_eq (z : Fin 4096 → EReal) (r : Fin 4096) (h : r.val < 4095) : after z r = z ⟨r.val + 1, by omega⟩ := dif_pos h

/-- The shifted rows of an array put together from a row of zeros and the others. -/
theorem before_dif (z : Fin 4096 → EReal) (r : Fin 4096) : (if _ : r.val < 1 then 0 else z ⟨r.val - 1, by omega⟩) = before z r := by
  unfold before
  by_cases h : r.val = 0
  · rw [dif_pos (by omega), dif_pos h]
  · rw [dif_neg (by omega), dif_neg h]
theorem after_dif (z : Fin 4096 → EReal) (r : Fin 4096) : (if h : r.val < 4095 then z ⟨1 + r.val, by omega⟩ else 0) = after z r := by
  simp only [after, Nat.add_comm 1]

/-- In block `i` the row before row `r`: the block's own, or at its first row the halo's, or zero. -/
theorem before_block (z : Fin 4096 → EReal) (i : ℕ) (r : Fin 512) (R : Fin 4096) (hR : R.val = 512 * i + r.val) (edge own : EReal)
    (hedge : r.val = 0 → 0 < i → edge = before z R) (hown : r.val ≠ 0 → own = before z R) :
    Scalar.select (IntOp.cmpi .eq (BitVec.ofNat 32 r.val) 0#32) (Scalar.select (Scalar.cmpi .sgt (BitVec.ofNat 32 i) 0#32) edge 0) own = before z R := by
  have hi : i < 8 := by omega
  have h1 : IntOp.cmpi .eq (BitVec.ofNat 32 r.val) 0#32 = BitVec.ofBool (decide (r.val = 0)) := by
    rw [cmpi_eq_ofNat (by omega) (by omega)]
  have h2 : Scalar.cmpi .sgt (BitVec.ofNat 32 i) 0#32 = BitVec.ofBool (decide (0 < i)) := cmpi_sgt_ofNat (by omega) (by omega)
  rw [h1, h2, select_decide, select_decide]
  by_cases h : r.val = 0
  · rw [if_pos h]
    by_cases h' : 0 < i
    · rw [if_pos h']; exact hedge h h'
    · rw [if_neg h', before, dif_pos (by omega)]
  · rw [if_neg h]; exact hown h

/-- The row after it likewise. -/
theorem after_block (z : Fin 4096 → EReal) (i : ℕ) (r : Fin 512) (R : Fin 4096) (hR : R.val = 512 * i + r.val) (edge own : EReal)
    (hedge : r.val = 511 → i < 7 → edge = after z R) (hown : r.val ≠ 511 → own = after z R) :
    Scalar.select (IntOp.cmpi .eq (BitVec.ofNat 32 r.val) 511#32) (Scalar.select (Scalar.cmpi .slt (BitVec.ofNat 32 i) 7#32) edge 0) own = after z R := by
  have hi : i < 8 := by omega
  have h1 : IntOp.cmpi .eq (BitVec.ofNat 32 r.val) 511#32 = BitVec.ofBool (decide (r.val = 511)) := by
    rw [cmpi_eq_ofNat (by omega) (by omega)]
  have h2 : Scalar.cmpi .slt (BitVec.ofNat 32 i) 7#32 = BitVec.ofBool (decide (i < 7)) := cmpi_slt_ofNat (by omega) (by omega)
  rw [h1, h2, select_decide, select_decide]
  by_cases h : r.val = 511
  · rw [if_pos h]
    by_cases h' : i < 7
    · rw [if_pos h']; exact hedge h h'
    · rw [if_neg h', after, dif_neg (by omega)]
  · rw [if_neg h]; exact hown h

/-- The three rows a tap may take: the one before, the row itself, the one after. -/
def tap (z : Fin 4096 → EReal) (j : Fin 3) (r : Fin 4096) : EReal := ![before z r, z r, after z r] j
/-- A column's convolution. -/
def conv (z : Fin 4096 → EReal) (w : Fin 3 → EReal) (b : EReal) (r : Fin 4096) : EReal := w 0 * tap z 0 r + w 1 * tap z 1 r + w 2 * tap z 2 r + b

/-- The same two facts of a block of rows rolled round by one. -/
theorem before_roll {n : ℕ} (z : Fin 4096 → EReal) (i : ℕ) (v : (⟨2, ![512, n]⟩ : Shape).Idx → EReal) (e : EReal) (r : Fin 512) (f : Fin n) (R : Fin 4096)
    (hR : R.val = 512 * i + r.val) (h : ∀ (r' : Fin 512) (R' : Fin 4096), R'.val = 512 * i + r'.val → v (ix2 r' f) = z R')
    (he : r.val = 0 → 0 < i → e = before z R) :
    Scalar.select (IntOp.cmpi .eq (BitVec.ofNat 32 r.val) 0#32) (Scalar.select (Scalar.cmpi .sgt (BitVec.ofNat 32 i) 0#32) e 0)
      (v (ix2 ⟨(r.val + 512 - 1) % 512, Nat.mod_lt _ (by decide)⟩ f)) = before z R :=
  before_block z i r R hR _ _ he fun h' => (h _ ⟨R.val - 1, by omega⟩ (by dsimp only; omega)).trans (before_eq z R (by omega)).symm
theorem after_roll {n : ℕ} (z : Fin 4096 → EReal) (i : ℕ) (v : (⟨2, ![512, n]⟩ : Shape).Idx → EReal) (e : EReal) (r : Fin 512) (f : Fin n) (R : Fin 4096)
    (hR : R.val = 512 * i + r.val) (h : ∀ (r' : Fin 512) (R' : Fin 4096), R'.val = 512 * i + r'.val → v (ix2 r' f) = z R')
    (he : r.val = 511 → i < 7 → e = after z R) :
    Scalar.select (IntOp.cmpi .eq (BitVec.ofNat 32 r.val) 511#32) (Scalar.select (Scalar.cmpi .slt (BitVec.ofNat 32 i) 7#32) e 0)
      (v (ix2 ⟨(r.val + 512 - 511) % 512, Nat.mod_lt _ (by decide)⟩ f)) = after z R :=
  have hi : 512 * i + r.val < 4096 := hR ▸ R.isLt
  after_block z i r R hR _ _ he fun h' => (h _ ⟨R.val + 1, by omega⟩ (by dsimp only; omega)).trans (after_eq z R (by omega)).symm

/-- The sum over the rows of a gradient by a tap, as the sum over the rows that have one and a zero. -/
theorem sum_tap (d z : Fin 4096 → EReal) (j : Fin 3) :
    ((if h : 2 ≤ j.val ∧ j.val - 2 < 1 then
          ∑ _x : Fin 1, (∑ x : Fin 4095, d ⟨x.val, by omega⟩ * z ⟨1 + x.val, by omega⟩ + ∑ _x : Fin 1, d 4095 * 0) else 0)
        + if h : 1 ≤ j.val ∧ j.val - 1 < 1 then ∑ _x : Fin 1, ∑ x, d x * z x else 0)
      + (if h : j.val < 1 then
          ∑ _x : Fin 1, (∑ _x : Fin 1, d 0 * 0 + ∑ x : Fin 4095, d ⟨1 + x.val, by omega⟩ * z ⟨x.val, by omega⟩) else 0)
      = ∑ x, d x * tap z j x := by
  simp only [Fin.sum_univ_one, mul_zero, add_zero, zero_add]
  match j with
  | 0 =>
    rw [dif_neg (by decide), dif_neg (by decide), dif_pos (by decide), zero_add, zero_add, Fin.sum_univ_succ (n := 4095)]
    show _ = d 0 * before z 0 + ∑ x : Fin 4095, d x.succ * before z x.succ
    rw [show before z 0 = 0 from dif_pos rfl, mul_zero, zero_add]
    refine Finset.sum_congr rfl fun x _ => ?_
    rw [before_eq z _ (Nat.succ_ne_zero _)]
    exact congrArg₂ (· * ·) (congrArg d (Fin.ext (Nat.add_comm _ _))) rfl
  | 1 =>
    rw [dif_neg (by decide), dif_pos (by decide), dif_neg (by decide), zero_add, add_zero]
    rfl
  | 2 =>
    rw [dif_pos (by decide), dif_neg (by decide), dif_neg (by decide), add_zero, add_zero, Fin.sum_univ_castSucc (n := 4095)]
    show _ = ∑ x : Fin 4095, d x.castSucc * after z x.castSucc + d (Fin.last 4095) * after z (Fin.last 4095)
    rw [show after z (Fin.last 4095) = 0 from dif_neg (by decide), mul_zero, add_zero]
    refine Finset.sum_congr rfl fun x _ => ?_
    rw [after_eq z _ x.isLt]
    exact congrArg₂ (· * ·) rfl (congrArg z (Fin.ext (Nat.add_comm _ _)))

end Cert.Taps

end
-- ==== Proof.Gate.lean ====
module

public import Idealize.ShloMosaic.PureOps.Ideal
public import Idealize.ShloMosaic.PureOps.Ideal.Laws
public import Mathlib.Analysis.SpecialFunctions.Pow.Real
public import Mathlib.Analysis.Complex.Trigonometric

@[expose] public section

/-! The gate `x · σ(x)` and its slope, the sigmoid written by the hyperbolic tangent or by the exponential. -/

noncomputable section

namespace Cert.Gate

open Idealize.ShloMosaic

/-- The kernel's sigmoid. -/
def sg (x : EReal) : EReal := Ideal.ofBits .f32 0x3F000000#32 * Ideal.tanh (Ideal.ofBits .f32 0x3F000000#32 * x) + Ideal.ofBits .f32 0x3F000000#32
/-- The reference's. -/
def sg' (x : EReal) : EReal := Ideal.div 1 (1 + Ideal.exp (-x))

theorem half_eq : Ideal.ofBits .f32 0x3F000000#32 = ((1 / 2 : ℝ) : EReal) := by
  simp [Ideal.ofBits, Ideal.ieee]
  rw [← EReal.coe_mul]
  congr 1
  norm_num

/-- The tangent form of the sigmoid of a real. -/
theorem real_eq (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add, add_neg_cancel, Real.exp_zero]
  rw [Real.tanh_eq_sinh_div_cosh, Real.sinh_eq, Real.cosh_eq, h1]
  have ha := Real.exp_pos (1 / 2 * r)
  have hb := Real.exp_pos (-(1 / 2 * r))
  generalize Real.exp (1 / 2 * r) = a at *
  generalize Real.exp (-(1 / 2 * r)) = b at *
  have hab : a = b⁻¹ := eq_inv_of_mul_eq_one_left h2
  subst hab
  field_simp
  ring

/-- Both sigmoids are the same, of the infinities too. -/
theorem sg_eq (x : EReal) : sg x = sg' x := by
  unfold sg
  rw [half_eq]
  induction x using EReal.rec with
  | bot =>
    rw [EReal.coe_mul_bot_of_pos (by norm_num), Ideal.tanh_bot]
    refine Eq.trans ?_ (Ideal.logistic_bot).symm
    rw [show (-1 : EReal) = ((-1 : ℝ) : EReal) by simp, ← EReal.coe_mul, ← EReal.coe_add]
    norm_num
  | coe r =>
    rw [← EReal.coe_mul, Ideal.tanh_coe, ← EReal.coe_mul, ← EReal.coe_add, real_eq]
    exact (Ideal.logistic_coe r).symm
  | top =>
    rw [EReal.coe_mul_top_of_pos (by norm_num), Ideal.tanh_top]
    refine Eq.trans ?_ (Ideal.logistic_top).symm
    rw [mul_one, ← EReal.coe_add]
    norm_num

/-- A finite cotangent's gradient through the gate: the slope factored as the kernel has it, and as the reference has it. -/
theorem slope (a : ℝ) (x : EReal) :
    (a : EReal) * (sg' x * (1 + x * (1 - sg' x))) = (a : EReal) * sg' x + x * (a : EReal) * (sg' x * (1 - sg' x)) := by
  induction x using EReal.rec with
  | bot =>
    have h : sg' ⊥ = 0 := Ideal.logistic_bot
    rw [h]
    simp
  | coe r =>
    have h : sg' (r : EReal) = (((1 + Real.exp (-r))⁻¹ : ℝ) : EReal) := Ideal.logistic_coe r
    rw [h]
    generalize (1 + Real.exp (-r))⁻¹ = s
    rw [← EReal.coe_one]
    norm_cast
    ring
  | top =>
    have h : sg' ⊤ = 1 := Ideal.logistic_top
    have h' : (1 : EReal) - 1 = 0 := by rw [← EReal.coe_one, ← EReal.coe_sub]; simp
    rw [h, h']
    simp

end Cert.Gate

end
-- ==== Proof.ConvAct.lean ====
module

public import proofs.«01_k».proof.Defs
public import proofs.«01_k».proof.Proof.Gen.KernelConvActBwd.Frame
public import proofs.«01_k».proof.Proof.Gen.KernelConvActBwdIdeal.Value
public import proofs.«01_k».proof.Proof.Gen.ReferenceConvActBwdIdeal.Read
public import proofs.«01_k».proof.Proof.Gen.Pre_conv_slope_finite
public import Idealize.ShloMosaic.Lib.Pipeline.ValueKit
public import Idealize.ShloMosaic.Lib.Tactic
public import proofs.«01_k».proof.Proof.Taps
public import proofs.«01_k».proof.Proof.Prod
public import proofs.«01_k».proof.Proof.Gate
public import proofs.«01_k».proof.Proof.RealOf

@[expose] public section

set_option maxRecDepth 16384

/-! The gradients through the gate and of the convolution's weights and biases: each point takes 512 rows of half the columns, and the
weights' and biases' gradients add up over a half's points. -/

noncomputable section

namespace Cert.KernelConvActBwdIdeal.ConvAct

open Cert.KernelConvActBwdIdeal Cert.KernelConvActBwdIdeal.Gen Cert.KernelConvActBwdIdeal.Value
open Idealize.ShloMosaic Idealize.ShloMosaic.TcCoe Idealize.SL.Sem Cert.Taps Cert.Prod Cert.Gate

variable (m : (ℓ : Loc nD τ sig) → Buf (Elt Ideal) ℓ) (c : Dev nD)

/-- The two halves' inputs, weights and biases, and the gradient, as launched. -/
abbrev UV : Vec Ideal S4096x2816 .f32 := m ((c : Thread nD τ).loc main_arg0)
abbrev UG : Vec Ideal S4096x2816 .f32 := m ((c : Thread nD τ).loc main_arg1)
abbrev WV : Vec Ideal S3x2816 .f32 := m ((c : Thread nD τ).loc main_arg2)
abbrev WG : Vec Ideal S3x2816 .f32 := m ((c : Thread nD τ).loc main_arg3)
abbrev BV : Vec Ideal S1x2816 .f32 := m ((c : Thread nD τ).loc main_arg4)
abbrev BG : Vec Ideal S1x2816 .f32 := m ((c : Thread nD τ).loc main_arg5)
abbrev DA : Vec Ideal S4096x2816 .f32 := m ((c : Thread nD τ).loc main_arg6)

/-- A column of an array. -/
abbrev col (u : Vec Ideal S4096x2816 .f32) (C : Fin 2816) : Fin 4096 → EReal := fun r => u (ix2 r C)
/-- The convolution of an array at an entry. -/
def cv (u : Vec Ideal S4096x2816 .f32) (w : Vec Ideal S3x2816 .f32) (b : Vec Ideal S1x2816 .f32) (R : Fin 4096) (C : Fin 2816) : EReal :=
  conv (col u C) (fun j => w (ix2 j C)) (b (ix2 0 C)) R
/-- The gradients of the value and of the gate, from the gradient of their product with the sigmoid. -/
def dv (g d : EReal) : EReal := d * (g * sg g)
def dg (v g d : EReal) : EReal := d * v * (sg g * (1 + g * (1 - sg g)))
/-- They at an entry of the arrays. -/
def DV (R : Fin 4096) (C : Fin 2816) : EReal := dv (cv (UG m c) (WG m c) (BG m c) R C) (DA m c (ix2 R C))
def DG (R : Fin 4096) (C : Fin 2816) : EReal := dg (cv (UV m c) (WV m c) (BV m c) R C) (cv (UG m c) (WG m c) (BG m c) R C) (DA m c (ix2 R C))
/-- The six results. -/
def G11 : Vec Ideal S4096x2816 .bf16 := fun i => DV m c (i 0) (i 1)
def G12 : Vec Ideal S4096x2816 .bf16 := fun i => DG m c (i 0) (i 1)
def G13 : Vec Ideal S3x2816 .f32 := fun i => ∑ R, tap (col (UV m c) (i 1)) (i 0) R * DV m c R (i 1)
def G14 : Vec Ideal S3x2816 .f32 := fun i => ∑ R, tap (col (UG m c) (i 1)) (i 0) R * DG m c R (i 1)
def G15 : Vec Ideal S1x2816 .f32 := fun i => ∑ R, DV m c R (i 1)
def G16 : Vec Ideal S1x2816 .f32 := fun i => ∑ R, DG m c R (i 1)

theorem at0 : ∀ t : Fin cfg0.N, win0_0.index t = ![t.val % 8, t.val / 8] := (by decide +kernel : ∀ t : Fin grid0.N, _)
theorem at1 : ∀ t : Fin cfg0.N, win0_1.index t = ![t.val % 8 * 64 - 1, t.val / 8] := (by decide +kernel : ∀ t : Fin grid0.N, _)
theorem at2 : ∀ t : Fin cfg0.N, t.val % 8 < 7 → win0_2.index t = ![t.val % 8 * 64 + 64, t.val / 8] := (by decide +kernel : ∀ t : Fin grid0.N, _)
theorem at3 : ∀ t : Fin cfg0.N, win0_3.index t = ![t.val % 8, t.val / 8] := (by decide +kernel : ∀ t : Fin grid0.N, _)
theorem at4 : ∀ t : Fin cfg0.N, win0_4.index t = ![t.val % 8 * 64 - 1, t.val / 8] := (by decide +kernel : ∀ t : Fin grid0.N, _)
theorem at5 : ∀ t : Fin cfg0.N, t.val % 8 < 7 → win0_5.index t = ![t.val % 8 * 64 + 64, t.val / 8] := (by decide +kernel : ∀ t : Fin grid0.N, _)
theorem at6 : ∀ t : Fin cfg0.N, win0_6.index t = ![0, t.val / 8] := (by decide +kernel : ∀ t : Fin grid0.N, _)
theorem at7 : ∀ t : Fin cfg0.N, win0_7.index t = ![0, t.val / 8] := (by decide +kernel : ∀ t : Fin grid0.N, _)
theorem at8 : ∀ t : Fin cfg0.N, win0_8.index t = ![0, t.val / 8] := (by decide +kernel : ∀ t : Fin grid0.N, _)
theorem at9 : ∀ t : Fin cfg0.N, win0_9.index t = ![0, t.val / 8] := (by decide +kernel : ∀ t : Fin grid0.N, _)
theorem at10 : ∀ t : Fin cfg0.N, win0_10.index t = ![t.val % 8, t.val / 8] := (by decide +kernel : ∀ t : Fin grid0.N, _)
theorem at11 : ∀ t : Fin cfg0.N, win0_11.index t = ![t.val % 8, t.val / 8] := (by decide +kernel : ∀ t : Fin grid0.N, _)
theorem at12 : ∀ t : Fin cfg0.N, win0_12.index t = ![t.val % 8, t.val / 8] := (by decide +kernel : ∀ t : Fin grid0.N, _)
theorem at13 : ∀ t : Fin cfg0.N, win0_13.index t = ![0, t.val / 8] := (by decide +kernel : ∀ t : Fin grid0.N, _)
theorem at14 : ∀ t : Fin cfg0.N, win0_14.index t = ![0, t.val / 8] := (by decide +kernel : ∀ t : Fin grid0.N, _)
theorem at15 : ∀ t : Fin cfg0.N, win0_15.index t = ![0, t.val / 8] := (by decide +kernel : ∀ t : Fin grid0.N, _)
theorem at16 : ∀ t : Fin cfg0.N, win0_16.index t = ![0, t.val / 8] := (by decide +kernel : ∀ t : Fin grid0.N, _)
theorem coord : ∀ t : Fin cfg0.N, (grid0.coords t 1).val = t.val % 8 := (by decide +kernel : ∀ t : Fin grid0.N, _)
theorem last13 : ∀ t : Fin cfg0.N, (cfg0.win 13).flush t = true → t.val % 8 = 7 := (by decide +kernel : ∀ t : Fin grid0.N, win0_13.flush t = true → t.val % 8 = 7)
theorem last14 : ∀ t : Fin cfg0.N, (cfg0.win 14).flush t = true → t.val % 8 = 7 := (by decide +kernel : ∀ t : Fin grid0.N, win0_14.flush t = true → t.val % 8 = 7)
theorem last15 : ∀ t : Fin cfg0.N, (cfg0.win 15).flush t = true → t.val % 8 = 7 := (by decide +kernel : ∀ t : Fin grid0.N, win0_15.flush t = true → t.val % 8 = 7)
theorem last16 : ∀ t : Fin cfg0.N, (cfg0.win 16).flush t = true → t.val % 8 = 7 := (by decide +kernel : ∀ t : Fin grid0.N, win0_16.flush t = true → t.val % 8 = 7)

/-! What a point loads: its rows of both halves, a row of each halo, and the weights' rows. -/

/-- The last row of the halo before, and the first of the halo after. -/
abbrev top (x : Vec Ideal S8x1408 .f32) : Vec Ideal S1x1408 .f32 := View.ld (Val := Elt Ideal) (e' := .f32) x (Rect.unit (s := S8x1408) ![7, 0] S1x1408.size inb_S8x1408_S1x1408_7_0)
abbrev bot (x : Vec Ideal S8x1408 .f32) : Vec Ideal S1x1408 .f32 := View.ld (Val := Elt Ideal) (e' := .f32) x (Rect.unit (s := S8x1408) ![0, 0] S1x1408.size inb_S8x1408_S1x1408_0_0)
/-- The rows of an array of three. -/
abbrev row0 (x : Vec Ideal S3x1408 .f32) : Vec Ideal S1x1408 .f32 := View.ld (Val := Elt Ideal) (e' := .f32) x (Rect.unit (s := S3x1408) ![0, 0] S1x1408.size inb_S3x1408_S1x1408_0_0)
abbrev row1 (x : Vec Ideal S3x1408 .f32) : Vec Ideal S1x1408 .f32 := View.ld (Val := Elt Ideal) (e' := .f32) x (Rect.unit (s := S3x1408) ![1, 0] S1x1408.size inb_S3x1408_S1x1408_1_0)
abbrev row2 (x : Vec Ideal S3x1408 .f32) : Vec Ideal S1x1408 .f32 := View.ld (Val := Elt Ideal) (e' := .f32) x (Rect.unit (s := S3x1408) ![2, 0] S1x1408.size inb_S3x1408_S1x1408_2_0)

theorem row_at (x : Vec Ideal S3x1408 .f32) (f : Fin 1408) : row0 x (ix2 0 f) = x (ix2 0 f) ∧ row1 x (ix2 0 f) = x (ix2 1 f) ∧ row2 x (ix2 0 f) = x (ix2 2 f) := by
  refine ⟨congrArg x (funext fun a => Fin.ext ?_), congrArg x (funext fun a => Fin.ext ?_), congrArg x (funext fun a => Fin.ext ?_)⟩ <;>
  · match a with
    | ⟨0, _⟩ => rfl
    | ⟨1, _⟩ => show 0 + 1 * f.val = f.val; omega

section blocks
variable (t : Fin cfg0.N) (f : Fin 1408) (C : Fin 2816) (hC : C.val = t.val / 8 * 1408 + f.val)
include hC

theorem uv_at (r : Fin 512) (R : Fin 4096) (hR : R.val = 512 * (t.val % 8) + r.val) : iblk m c 0 t (ix2 r f) = UV m c (ix2 R C) := by
  blk_simp [iblk]
  refine congrArg (UV m c) (funext fun a => Fin.ext ?_)
  match a with
  | ⟨0, _⟩ => blk_simp [at0]; omega
  | ⟨1, _⟩ => blk_simp [at0]; exact hC.symm
theorem ug_at (r : Fin 512) (R : Fin 4096) (hR : R.val = 512 * (t.val % 8) + r.val) : iblk m c 3 t (ix2 r f) = UG m c (ix2 R C) := by
  blk_simp [iblk]
  refine congrArg (UG m c) (funext fun a => Fin.ext ?_)
  match a with
  | ⟨0, _⟩ => blk_simp [at3]; omega
  | ⟨1, _⟩ => blk_simp [at3]; exact hC.symm
theorem da_at (r : Fin 512) (R : Fin 4096) (hR : R.val = 512 * (t.val % 8) + r.val) : iblk m c 10 t (ix2 r f) = DA m c (ix2 R C) := by
  blk_simp [iblk]
  refine congrArg (DA m c) (funext fun a => Fin.ext ?_)
  match a with
  | ⟨0, _⟩ => blk_simp [at10]; omega
  | ⟨1, _⟩ => blk_simp [at10]; exact hC.symm
theorem uv_top (R : Fin 4096) (hR : R.val = 512 * (t.val % 8)) (h : 0 < t.val % 8) : top (iblk m c 1 t) (ix2 0 f) = before (col (UV m c) C) R := by
  refine Eq.trans ?_ (before_eq _ _ (by omega)).symm
  blk_simp [iblk]
  refine congrArg (UV m c) (funext fun a => Fin.ext ?_)
  match a with
  | ⟨0, _⟩ => blk_simp [at1]; show (t.val % 8 * 64 - 1) * 8 + (7 + 1 * 0) = R.val - 1; omega
  | ⟨1, _⟩ => blk_simp [at1]; show t.val / 8 * 1408 + (0 + 1 * f.val) = C.val; omega
theorem ug_top (R : Fin 4096) (hR : R.val = 512 * (t.val % 8)) (h : 0 < t.val % 8) : top (iblk m c 4 t) (ix2 0 f) = before (col (UG m c) C) R := by
  refine Eq.trans ?_ (before_eq _ _ (by omega)).symm
  blk_simp [iblk]
  refine congrArg (UG m c) (funext fun a => Fin.ext ?_)
  match a with
  | ⟨0, _⟩ => blk_simp [at4]; show (t.val % 8 * 64 - 1) * 8 + (7 + 1 * 0) = R.val - 1; omega
  | ⟨1, _⟩ => blk_simp [at4]; show t.val / 8 * 1408 + (0 + 1 * f.val) = C.val; omega
theorem uv_bot (R : Fin 4096) (hR : R.val = 512 * (t.val % 8) + 511) (h : t.val % 8 < 7) : bot (iblk m c 2 t) (ix2 0 f) = after (col (UV m c) C) R := by
  refine Eq.trans ?_ (after_eq _ _ (by omega)).symm
  blk_simp [iblk]
  refine congrArg (UV m c) (funext fun a => Fin.ext ?_)
  match a with
  | ⟨0, _⟩ => blk_simp [at2 t h]; show (t.val % 8 * 64 + 64) * 8 + (0 + 1 * 0) = R.val + 1; omega
  | ⟨1, _⟩ => blk_simp [at2 t h]; show t.val / 8 * 1408 + (0 + 1 * f.val) = C.val; omega
theorem ug_bot (R : Fin 4096) (hR : R.val = 512 * (t.val % 8) + 511) (h : t.val % 8 < 7) : bot (iblk m c 5 t) (ix2 0 f) = after (col (UG m c) C) R := by
  refine Eq.trans ?_ (after_eq _ _ (by omega)).symm
  blk_simp [iblk]
  refine congrArg (UG m c) (funext fun a => Fin.ext ?_)
  match a with
  | ⟨0, _⟩ => blk_simp [at5 t h]; show (t.val % 8 * 64 + 64) * 8 + (0 + 1 * 0) = R.val + 1; omega
  | ⟨1, _⟩ => blk_simp [at5 t h]; show t.val / 8 * 1408 + (0 + 1 * f.val) = C.val; omega
theorem wv_at (j : Fin 3) : iblk m c 6 t (ix2 j f) = WV m c (ix2 j C) := by
  blk_simp [iblk]
  refine congrArg (WV m c) (funext fun a => Fin.ext ?_)
  match a with
  | ⟨0, _⟩ => blk_simp [at6]
  | ⟨1, _⟩ => blk_simp [at6]; exact hC.symm
theorem wg_at (j : Fin 3) : iblk m c 7 t (ix2 j f) = WG m c (ix2 j C) := by
  blk_simp [iblk]
  refine congrArg (WG m c) (funext fun a => Fin.ext ?_)
  match a with
  | ⟨0, _⟩ => blk_simp [at7]
  | ⟨1, _⟩ => blk_simp [at7]; exact hC.symm
theorem bv_at : iblk m c 8 t (ix2 0 f) = BV m c (ix2 0 C) := by
  blk_simp [iblk]
  refine congrArg (BV m c) (funext fun a => Fin.ext ?_)
  match a with
  | ⟨0, _⟩ => blk_simp [at8]
  | ⟨1, _⟩ => blk_simp [at8]; exact hC.symm
theorem bg_at : iblk m c 9 t (ix2 0 f) = BG m c (ix2 0 C) := by
  blk_simp [iblk]
  refine congrArg (BG m c) (funext fun a => Fin.ext ?_)
  match a with
  | ⟨0, _⟩ => blk_simp [at9]
  | ⟨1, _⟩ => blk_simp [at9]; exact hC.symm
end blocks

/-! What a point computes of them. -/

/-- The rows before and after, of both halves, and the two convolutions. -/
def pv (t : Fin cfg0.N) : Vec Ideal S512x1408 .f32 := k0_pay10 (grid0.coords t) (iblk m c 0 t) (top (iblk m c 1 t))
def nv (t : Fin cfg0.N) : Vec Ideal S512x1408 .f32 := k0_pay11 (grid0.coords t) (iblk m c 0 t) (bot (iblk m c 2 t))
def pg (t : Fin cfg0.N) : Vec Ideal S512x1408 .f32 :=
  k0_pay15 (iblk m c 3 t) (iota .tc S512x1408 32 [0] iota_S512x1408_d0_w32) (k0_pay12 (grid0.coords t) (top (iblk m c 4 t))) k0_pay14
def ng (t : Fin cfg0.N) : Vec Ideal S512x1408 .f32 :=
  k0_pay16 (iblk m c 3 t) (iota .tc S512x1408 32 [0] iota_S512x1408_d0_w32) (k0_pay13 (grid0.coords t) (bot (iblk m c 5 t)))
def val (t : Fin cfg0.N) : Vec Ideal S512x1408 .f32 :=
  k0_pay17 (iblk m c 0 t) (pv m c t) (nv m c t) (row0 (iblk m c 6 t)) (row1 (iblk m c 6 t)) (row2 (iblk m c 6 t)) (iblk m c 8 t)
def gate (t : Fin cfg0.N) : Vec Ideal S512x1408 .f32 :=
  k0_pay18 (iblk m c 3 t) (iota .tc S512x1408 32 [0] iota_S512x1408_d0_w32) (k0_pay12 (grid0.coords t) (top (iblk m c 4 t)))
    (k0_pay13 (grid0.coords t) (bot (iblk m c 5 t))) k0_pay14 (row0 (iblk m c 7 t)) (row1 (iblk m c 7 t)) (row2 (iblk m c 7 t)) (iblk m c 9 t)

section entries
variable (t : Fin cfg0.N) (f : Fin 1408) (C : Fin 2816) (hC : C.val = t.val / 8 * 1408 + f.val) (r : Fin 512) (R : Fin 4096)
  (hR : R.val = 512 * (t.val % 8) + r.val)
include hC hR

theorem pv_at : pv m c t (ix2 r f) = before (col (UV m c) C) R := by
  unfold pv k0_pay10
  pointwise
  rw [coord]
  exact before_roll _ _ _ _ r f R hR (fun r' R' h => uv_at m c t f C hC r' R' h) fun h h' => uv_top m c t f C hC R (by omega) h'
theorem nv_at : nv m c t (ix2 r f) = after (col (UV m c) C) R := by
  unfold nv k0_pay11
  pointwise
  rw [coord]
  exact after_roll _ _ _ _ r f R hR (fun r' R' h => uv_at m c t f C hC r' R' h) fun h h' => uv_bot m c t f C hC R (by omega) h'
theorem pg_at : pg m c t (ix2 r f) = before (col (UG m c) C) R := by
  unfold pg k0_pay15 k0_pay12 k0_pay14
  pointwise
  rw [coord]
  exact before_roll _ _ _ _ r f R hR (fun r' R' h => ug_at m c t f C hC r' R' h) fun h h' => ug_top m c t f C hC R (by omega) h'
theorem ng_at : ng m c t (ix2 r f) = after (col (UG m c) C) R := by
  unfold ng k0_pay16 k0_pay13
  pointwise
  rw [coord]
  exact after_roll _ _ _ _ r f R hR (fun r' R' h => ug_at m c t f C hC r' R' h) fun h h' => ug_bot m c t f C hC R (by omega) h'
theorem val_at : val m c t (ix2 r f) = cv (UV m c) (WV m c) (BV m c) R C := by
  have h := row_at (iblk m c 6 t) f
  have e : val m c t (ix2 r f) = row0 (iblk m c 6 t) (ix2 0 f) * pv m c t (ix2 r f) + row1 (iblk m c 6 t) (ix2 0 f) * iblk m c 0 t (ix2 r f)
      + row2 (iblk m c 6 t) (ix2 0 f) * nv m c t (ix2 r f) + iblk m c 8 t (ix2 0 f) := by
    unfold val k0_pay17
    pointwise
  rw [e, h.1, h.2.1, h.2.2, pv_at m c t f C hC r R hR, nv_at m c t f C hC r R hR, uv_at m c t f C hC r R hR, wv_at m c t f C hC, wv_at m c t f C hC,
    wv_at m c t f C hC, bv_at m c t f C hC]
  rfl
theorem gate_at : gate m c t (ix2 r f) = cv (UG m c) (WG m c) (BG m c) R C := by
  have h := row_at (iblk m c 7 t) f
  have e : gate m c t (ix2 r f) = row0 (iblk m c 7 t) (ix2 0 f) * pg m c t (ix2 r f) + row1 (iblk m c 7 t) (ix2 0 f) * iblk m c 3 t (ix2 r f)
      + row2 (iblk m c 7 t) (ix2 0 f) * ng m c t (ix2 r f) + iblk m c 9 t (ix2 0 f) := by
    unfold gate k0_pay18 pg ng
    pointwise
  rw [e, h.1, h.2.1, h.2.2, pg_at m c t f C hC r R hR, ng_at m c t f C hC r R hR, ug_at m c t f C hC r R hR, wg_at m c t f C hC, wg_at m c t f C hC,
    wg_at m c t f C hC, bg_at m c t f C hC]
  rfl
end entries

/-- A block's gradients. -/
def bdv (t : Fin cfg0.N) (r : Fin 512) (f : Fin 1408) : EReal := dv (gate m c t (ix2 r f)) (iblk m c 10 t (ix2 r f))
def bdg (t : Fin cfg0.N) (r : Fin 512) (f : Fin 1408) : EReal := dg (val m c t (ix2 r f)) (gate m c t (ix2 r f)) (iblk m c 10 t (ix2 r f))
/-- They are the arrays'. -/
theorem bdv_at (t : Fin cfg0.N) (f : Fin 1408) (C : Fin 2816) (hC : C.val = t.val / 8 * 1408 + f.val) (r : Fin 512) (R : Fin 4096)
    (hR : R.val = 512 * (t.val % 8) + r.val) : bdv m c t r f = DV m c R C := by
  unfold bdv DV
  rw [gate_at m c t f C hC r R hR, da_at m c t f C hC r R hR]
theorem bdg_at (t : Fin cfg0.N) (f : Fin 1408) (C : Fin 2816) (hC : C.val = t.val / 8 * 1408 + f.val) (r : Fin 512) (R : Fin 4096)
    (hR : R.val = 512 * (t.val % 8) + r.val) : bdg m c t r f = DG m c R C := by
  unfold bdg DG
  rw [val_at m c t f C hC r R hR, gate_at m c t f C hC r R hR, da_at m c t f C hC r R hR]

section payloads
variable (v g d x : Vec Ideal S512x1408 .f32) (f : Fin 1408)

theorem pay23_apply (r : Fin 512) : k0_pay23 g k0_pay19 d (ix2 r f) = dv (g (ix2 r f)) (d (ix2 r f)) := by
  unfold k0_pay23 k0_pay21 k0_pay20 k0_pay19
  pointwise
  rfl
theorem pay24_apply (r : Fin 512) : k0_pay24 v g k0_pay19 d (ix2 r f) = dg (v (ix2 r f)) (g (ix2 r f)) (d (ix2 r f)) := by
  unfold k0_pay24 k0_pay22 k0_pay20 k0_pay19
  pointwise
  rfl
/-- The column sums of the two gradients by a tap. -/
theorem sum_dv : k0_pay25 x g k0_pay19 d (ix2 0 f) = ∑ r : Fin 512, x (ix2 r f) * dv (g (ix2 r f)) (d (ix2 r f)) := by
  unfold k0_pay25 k0_pay21 k0_pay20 k0_pay19
  pointwise
  rfl
theorem sum_dg : k0_pay28 x v g k0_pay19 d (ix2 0 f) = ∑ r : Fin 512, x (ix2 r f) * dg (v (ix2 r f)) (g (ix2 r f)) (d (ix2 r f)) := by
  unfold k0_pay28 k0_pay22 k0_pay20 k0_pay19
  pointwise
  rfl
theorem pay31_apply : k0_pay31 g k0_pay19 d (ix2 0 f) = ∑ r : Fin 512, dv (g (ix2 r f)) (d (ix2 r f)) := by
  unfold k0_pay31 k0_pay21 k0_pay20 k0_pay19
  pointwise
  rfl
theorem pay1_apply : k0_pay1 (k0_pay22 v g k0_pay19 d) (ix2 0 f) = ∑ r : Fin 512, dg (v (ix2 r f)) (g (ix2 r f)) (d (ix2 r f)) := by
  unfold k0_pay1 k0_pay22 k0_pay20 k0_pay19
  pointwise
  rfl
end payloads

/-- Three rows, as they are stored. -/
abbrev rows (f0 f1 f2 : Vec Ideal S1x1408 .f32) : List (View.Piece (Elt Ideal) S3x1408 .f32) :=
    [⟨Rect.unit (s := S3x1408) ![2, 0] S1x1408.size inb_S3x1408_S1x1408_2_0, f2⟩,
      ⟨Rect.unit (s := S3x1408) ![1, 0] S1x1408.size inb_S3x1408_S1x1408_1_0, f1⟩,
      ⟨Rect.unit (s := S3x1408) ![0, 0] S1x1408.size inb_S3x1408_S1x1408_0_0, f0⟩]
/-- An array of three rows written a row at a time is what the three write. -/
theorem thirds (f0 f1 f2 : Vec Ideal S1x1408 .f32) (z : Vec Ideal S3x1408 .f32) (h0 : ∀ f, f0 (ix2 0 f) = z (ix2 0 f))
    (h1 : ∀ f, f1 (ix2 0 f) = z (ix2 1 f)) (h2 : ∀ f, f2 (ix2 0 f) = z (ix2 2 f)) (y : S3x1408.Idx) :
    View.canon (rows f0 f1 f2) y = z y := by
  refine View.canon_apply_of_pieces (Val := Elt Ideal) (e := .f32) z _ (fun p hp x => ?_) y (View.cover_of_tiled (rows f0 f1 f2) S1x1408.size (by rfl) y)
  simp only [rows, List.mem_cons, List.not_mem_nil, or_false] at hp
  have e : ∀ x : S1x1408.Idx, x = ix2 0 (x 1) := fun x => by funext a; fin_cases a; exact Subsingleton.elim (α := Fin 1) _ _; rfl
  have r := fun f => row_at z f
  rcases hp with rfl | rfl | rfl
  · rw [e x]; exact (h2 _).trans (r _).2.2.symm
  · rw [e x]; exact (h1 _).trans (r _).2.1.symm
  · rw [e x]; exact (h0 _).trans (r _).1.symm

/-- A point's three taps of the two halves. -/
def tv (t : Fin cfg0.N) (j : Fin 3) : Vec Ideal S512x1408 .f32 := ![pv m c t, iblk m c 0 t, nv m c t] j
def tg (t : Fin cfg0.N) (j : Fin 3) : Vec Ideal S512x1408 .f32 := ![pg m c t, iblk m c 3 t, ng m c t] j

/-- What a point leaves of the first two results, -/
theorem left11 (t : Fin cfg0.N) (r : Fin 512) (f : Fin 1408) : (outsAt0 m c t.val t.isLt).1 (ix2 r f) = bdv m c t r f := by
  by_cases h : t.val % 8 = 0
  · rw [outsAt0_A m c t h (by omega)]
    frame_out
    exact pay23_apply (gate m c t) (iblk m c 10 t) f r
  · rw [outsAt0_B m c t h (by omega)]
    frame_out
    exact pay23_apply (gate m c t) (iblk m c 10 t) f r
theorem left12 (t : Fin cfg0.N) (r : Fin 512) (f : Fin 1408) : (outsAt0 m c t.val t.isLt).2.1 (ix2 r f) = bdg m c t r f := by
  by_cases h : t.val % 8 = 0
  · rw [outsAt0_A m c t h (by omega)]
    frame_out
    exact pay24_apply (val m c t) (gate m c t) (iblk m c 10 t) f r
  · rw [outsAt0_B m c t h (by omega)]
    frame_out
    exact pay24_apply (val m c t) (gate m c t) (iblk m c 10 t) f r

/-- of the weights' gradients at a half's first point, -/
theorem first13 (t : Fin cfg0.N) (h : t.val % 8 = 0) (j : Fin 3) (f : Fin 1408) :
    (outsAt0 m c t.val t.isLt).2.2.1 (ix2 j f) = ∑ r : Fin 512, tv m c t j (ix2 r f) * bdv m c t r f := by
  rw [outsAt0_A m c t h (by omega)]
  frame_out
  exact thirds _ _ _ (fun y => ∑ r : Fin 512, tv m c t (y 0) (ix2 r (y 1)) * bdv m c t r (y 1))
    (sum_dv (gate m c t) (iblk m c 10 t) (pv m c t)) (sum_dv (gate m c t) (iblk m c 10 t) (iblk m c 0 t)) (sum_dv (gate m c t) (iblk m c 10 t) (nv m c t)) (ix2 j f)
theorem first14 (t : Fin cfg0.N) (h : t.val % 8 = 0) (j : Fin 3) (f : Fin 1408) :
    (outsAt0 m c t.val t.isLt).2.2.2.1 (ix2 j f) = ∑ r : Fin 512, tg m c t j (ix2 r f) * bdg m c t r f := by
  rw [outsAt0_A m c t h (by omega)]
  frame_out
  exact thirds _ _ _ (fun y => ∑ r : Fin 512, tg m c t (y 0) (ix2 r (y 1)) * bdg m c t r (y 1))
    (sum_dg (val m c t) (gate m c t) (iblk m c 10 t) (pg m c t)) (sum_dg (val m c t) (gate m c t) (iblk m c 10 t) (iblk m c 3 t))
    (sum_dg (val m c t) (gate m c t) (iblk m c 10 t) (ng m c t)) (ix2 j f)
theorem first15 (t : Fin cfg0.N) (h : t.val % 8 = 0) (f : Fin 1408) :
    (outsAt0 m c t.val t.isLt).2.2.2.2.1 (ix2 0 f) = ∑ r : Fin 512, bdv m c t r f := by
  rw [outsAt0_A m c t h (by omega)]
  frame_out
  exact pay31_apply (gate m c t) (iblk m c 10 t) f
theorem first16 (t : Fin cfg0.N) (h : t.val % 8 = 0) (f : Fin 1408) :
    (outsAt0 m c t.val t.isLt).2.2.2.2.2 (ix2 0 f) = ∑ r : Fin 512, bdg m c t r f := by
  rw [outsAt0_A m c t h (by omega)]
  frame_out
  exact pay1_apply (val m c t) (gate m c t) (iblk m c 10 t) f

/-- A row added to what a row held. -/
theorem acc (x s : Vec Ideal S1x1408 .f32) (f : Fin 1408) : k0_pay3 x s (ix2 0 f) = s (ix2 0 f) + x (ix2 0 f) := by
  unfold k0_pay3
  pointwise

/-- and at a further point, over what the point before left. -/
theorem next13 (t : Fin cfg0.N) (h : t.val % 8 ≠ 0) (j : Fin 3) (f : Fin 1408) :
    (outsAt0 m c t.val t.isLt).2.2.1 (ix2 j f) = (outsAt0 m c (t.val - 1) (Nat.lt_of_le_of_lt (Nat.sub_le _ _) t.isLt)).2.2.1 (ix2 j f)
      + ∑ r : Fin 512, tv m c t j (ix2 r f) * bdv m c t r f := by
  rw [outsAt0_B m c t h (by omega)]
  frame_out
  have r := row_at (outsAt0 m c (t.val - 1) (Nat.lt_of_le_of_lt (Nat.sub_le _ _) t.isLt)).2.2.1
  exact thirds _ _ _ (fun y => (outsAt0 m c (t.val - 1) (Nat.lt_of_le_of_lt (Nat.sub_le _ _) t.isLt)).2.2.1 (ix2 (y 0) (y 1))
      + ∑ r : Fin 512, tv m c t (y 0) (ix2 r (y 1)) * bdv m c t r (y 1))
    (fun f => (acc _ _ f).trans (congrArg₂ (· + ·) (r f).1 (sum_dv (gate m c t) (iblk m c 10 t) (pv m c t) f)))
    (fun f => (acc _ _ f).trans (congrArg₂ (· + ·) (r f).2.1 (sum_dv (gate m c t) (iblk m c 10 t) (iblk m c 0 t) f)))
    (fun f => (acc _ _ f).trans (congrArg₂ (· + ·) (r f).2.2 (sum_dv (gate m c t) (iblk m c 10 t) (nv m c t) f))) (ix2 j f)
theorem next14 (t : Fin cfg0.N) (h : t.val % 8 ≠ 0) (j : Fin 3) (f : Fin 1408) :
    (outsAt0 m c t.val t.isLt).2.2.2.1 (ix2 j f) = (outsAt0 m c (t.val - 1) (Nat.lt_of_le_of_lt (Nat.sub_le _ _) t.isLt)).2.2.2.1 (ix2 j f)
      + ∑ r : Fin 512, tg m c t j (ix2 r f) * bdg m c t r f := by
  rw [outsAt0_B m c t h (by omega)]
  frame_out
  have r := row_at (outsAt0 m c (t.val - 1) (Nat.lt_of_le_of_lt (Nat.sub_le _ _) t.isLt)).2.2.2.1
  exact thirds _ _ _ (fun y => (outsAt0 m c (t.val - 1) (Nat.lt_of_le_of_lt (Nat.sub_le _ _) t.isLt)).2.2.2.1 (ix2 (y 0) (y 1))
      + ∑ r : Fin 512, tg m c t (y 0) (ix2 r (y 1)) * bdg m c t r (y 1))
    (fun f => (acc _ _ f).trans (congrArg₂ (· + ·) (r f).1 (sum_dg (val m c t) (gate m c t) (iblk m c 10 t) (pg m c t) f)))
    (fun f => (acc _ _ f).trans (congrArg₂ (· + ·) (r f).2.1 (sum_dg (val m c t) (gate m c t) (iblk m c 10 t) (iblk m c 3 t) f)))
    (fun f => (acc _ _ f).trans (congrArg₂ (· + ·) (r f).2.2 (sum_dg (val m c t) (gate m c t) (iblk m c 10 t) (ng m c t) f))) (ix2 j f)
theorem next15 (t : Fin cfg0.N) (h : t.val % 8 ≠ 0) (f : Fin 1408) :
    (outsAt0 m c t.val t.isLt).2.2.2.2.1 (ix2 0 f) = (outsAt0 m c (t.val - 1) (Nat.lt_of_le_of_lt (Nat.sub_le _ _) t.isLt)).2.2.2.2.1 (ix2 0 f)
      + ∑ r : Fin 512, bdv m c t r f := by
  rw [outsAt0_B m c t h (by omega)]
  frame_out
  exact (acc _ _ f).trans (congrArg (_ + ·) (pay31_apply (gate m c t) (iblk m c 10 t) f))
theorem next16 (t : Fin cfg0.N) (h : t.val % 8 ≠ 0) (f : Fin 1408) :
    (outsAt0 m c t.val t.isLt).2.2.2.2.2 (ix2 0 f) = (outsAt0 m c (t.val - 1) (Nat.lt_of_le_of_lt (Nat.sub_le _ _) t.isLt)).2.2.2.2.2 (ix2 0 f)
      + ∑ r : Fin 512, bdg m c t r f := by
  rw [outsAt0_B m c t h (by omega)]
  frame_out
  exact (acc _ _ f).trans (congrArg (_ + ·) (pay1_apply (val m c t) (gate m c t) (iblk m c 10 t) f))

/-- A point's sums are its rows' part of the whole sums. -/
theorem part_of (t : Fin cfg0.N) (g : Fin 512 → EReal) (G : Fin 4096 → EReal)
    (h : ∀ (r : Fin 512) (R : Fin 4096), R.val = 512 * (t.val % 8) + r.val → g r = G R) : ∑ r, g r = part 512 G (t.val % 8) :=
  part_eq G (t.val % 8) (by omega) g fun r => h r _ rfl

section parts
variable (t : Fin cfg0.N) (f : Fin 1408) (C : Fin 2816) (hC : C.val = t.val / 8 * 1408 + f.val) (j : Fin 3)
include hC

theorem tv_at (r : Fin 512) (R : Fin 4096) (hR : R.val = 512 * (t.val % 8) + r.val) : tv m c t j (ix2 r f) = tap (col (UV m c) C) j R := by
  match j with
  | 0 => exact pv_at m c t f C hC r R hR
  | 1 => exact uv_at m c t f C hC r R hR
  | 2 => exact nv_at m c t f C hC r R hR
theorem tg_at (r : Fin 512) (R : Fin 4096) (hR : R.val = 512 * (t.val % 8) + r.val) : tg m c t j (ix2 r f) = tap (col (UG m c) C) j R := by
  match j with
  | 0 => exact pg_at m c t f C hC r R hR
  | 1 => exact ug_at m c t f C hC r R hR
  | 2 => exact ng_at m c t f C hC r R hR
theorem part13 : ∑ r : Fin 512, tv m c t j (ix2 r f) * bdv m c t r f = part 512 (fun R => tap (col (UV m c) C) j R * DV m c R C) (t.val % 8) :=
  part_of t _ _ fun r R h => congrArg₂ (· * ·) (tv_at m c t f C hC j r R h) (bdv_at m c t f C hC r R h)
theorem part14 : ∑ r : Fin 512, tg m c t j (ix2 r f) * bdg m c t r f = part 512 (fun R => tap (col (UG m c) C) j R * DG m c R C) (t.val % 8) :=
  part_of t _ _ fun r R h => congrArg₂ (· * ·) (tg_at m c t f C hC j r R h) (bdg_at m c t f C hC r R h)
theorem part15 : ∑ r : Fin 512, bdv m c t r f = part 512 (fun R => DV m c R C) (t.val % 8) := part_of t _ _ fun r R h => bdv_at m c t f C hC r R h
theorem part16 : ∑ r : Fin 512, bdg m c t r f = part 512 (fun R => DG m c R C) (t.val % 8) := part_of t _ _ fun r R h => bdg_at m c t f C hC r R h
end parts

/-! The six arrays. -/

theorem final11 : (dats m 0 c).arrAt 11 cfg0.N = G11 m c := by
  refine (dats m 0 c).arrAt_eq_of_covers 11 _ (by decide +kernel) fun t _ y => ?_
  have ht : t.val < 16 := t.isLt
  obtain ⟨r, f, rfl⟩ : ∃ (r : Fin 512) (f : Fin 1408), y = ix2 r f := ⟨y 0, y 1, (by funext a; fin_cases a <;> rfl)⟩
  obtain ⟨R, hR⟩ : ∃ R : Fin 4096, R.val = 512 * (t.val % 8) + r.val := ⟨⟨512 * (t.val % 8) + r.val, by omega⟩, rfl⟩
  obtain ⟨C, hC⟩ : ∃ C : Fin 2816, C.val = t.val / 8 * 1408 + f.val := ⟨⟨t.val / 8 * 1408 + f.val, by omega⟩, rfl⟩
  have hi : (win0_11.blk t).view.emb (ix2 r f) = (ix2 R C : S4096x2816.Idx) := by
    funext a
    refine Fin.ext ?_
    match a with
    | ⟨0, _⟩ => blk_simp [at11]; omega
    | ⟨1, _⟩ => blk_simp [at11]; exact hC.symm
  blk_simp
  rw [after0_11, left11, bdv_at m c t f C hC r R hR]
  exact (congrArg (G11 m c) hi).symm
theorem final12 : (dats m 0 c).arrAt 12 cfg0.N = G12 m c := by
  refine (dats m 0 c).arrAt_eq_of_covers 12 _ (by decide +kernel) fun t _ y => ?_
  have ht : t.val < 16 := t.isLt
  obtain ⟨r, f, rfl⟩ : ∃ (r : Fin 512) (f : Fin 1408), y = ix2 r f := ⟨y 0, y 1, (by funext a; fin_cases a <;> rfl)⟩
  obtain ⟨R, hR⟩ : ∃ R : Fin 4096, R.val = 512 * (t.val % 8) + r.val := ⟨⟨512 * (t.val % 8) + r.val, by omega⟩, rfl⟩
  obtain ⟨C, hC⟩ : ∃ C : Fin 2816, C.val = t.val / 8 * 1408 + f.val := ⟨⟨t.val / 8 * 1408 + f.val, by omega⟩, rfl⟩
  have hi : (win0_12.blk t).view.emb (ix2 r f) = (ix2 R C : S4096x2816.Idx) := by
    funext a
    refine Fin.ext ?_
    match a with
    | ⟨0, _⟩ => blk_simp [at12]; omega
    | ⟨1, _⟩ => blk_simp [at12]; exact hC.symm
  blk_simp
  rw [after0_12, left12, bdg_at m c t f C hC r R hR]
  exact (congrArg (G12 m c) hi).symm
theorem final13 : (dats m 0 c).arrAt 13 cfg0.N = G13 m c := by
  refine (dats m 0 c).arrAt_eq_of_covers 13 _ (by decide +kernel) fun t hf y => ?_
  have ht : t.val < 16 := t.isLt
  have hl := last13 t hf
  obtain ⟨j, f, rfl⟩ : ∃ (j : Fin 3) (f : Fin 1408), y = ix2 j f := ⟨y 0, y 1, (by funext a; fin_cases a <;> rfl)⟩
  obtain ⟨C, hC⟩ : ∃ C : Fin 2816, C.val = t.val / 8 * 1408 + f.val := ⟨⟨t.val / 8 * 1408 + f.val, by omega⟩, rfl⟩
  have hi : (win0_13.blk t).view.emb (ix2 j f) = (ix2 j C : S3x2816.Idx) := by
    funext a
    refine Fin.ext ?_
    match a with
    | ⟨0, _⟩ => blk_simp [at13]
    | ⟨1, _⟩ => blk_simp [at13]; exact hC.symm
  blk_simp
  rw [after0_13]
  refine Eq.trans ?_ (congrArg (G13 m c) hi).symm
  exact sweep_sum (nk := 8) (tk := 512) (by decide) rfl _ (fun n h => (outsAt0 m c n h).2.2.1 (ix2 j f)) t.val t.isLt hl
    (fun n h e hn => (first13 m c ⟨n, h⟩ hn j f).trans (part13 m c ⟨n, h⟩ f C (by dsimp only; omega) j))
    (fun n h e hn => (next13 m c ⟨n, h⟩ hn j f).trans (congrArg (_ + ·) (part13 m c ⟨n, h⟩ f C (by dsimp only; omega) j)))
theorem final14 : (dats m 0 c).arrAt 14 cfg0.N = G14 m c := by
  refine (dats m 0 c).arrAt_eq_of_covers 14 _ (by decide +kernel) fun t hf y => ?_
  have ht : t.val < 16 := t.isLt
  have hl := last14 t hf
  obtain ⟨j, f, rfl⟩ : ∃ (j : Fin 3) (f : Fin 1408), y = ix2 j f := ⟨y 0, y 1, (by funext a; fin_cases a <;> rfl)⟩
  obtain ⟨C, hC⟩ : ∃ C : Fin 2816, C.val = t.val / 8 * 1408 + f.val := ⟨⟨t.val / 8 * 1408 + f.val, by omega⟩, rfl⟩
  have hi : (win0_14.blk t).view.emb (ix2 j f) = (ix2 j C : S3x2816.Idx) := by
    funext a
    refine Fin.ext ?_
    match a with
    | ⟨0, _⟩ => blk_simp [at14]
    | ⟨1, _⟩ => blk_simp [at14]; exact hC.symm
  blk_simp
  rw [after0_14]
  refine Eq.trans ?_ (congrArg (G14 m c) hi).symm
  exact sweep_sum (nk := 8) (tk := 512) (by decide) rfl _ (fun n h => (outsAt0 m c n h).2.2.2.1 (ix2 j f)) t.val t.isLt hl
    (fun n h e hn => (first14 m c ⟨n, h⟩ hn j f).trans (part14 m c ⟨n, h⟩ f C (by dsimp only; omega) j))
    (fun n h e hn => (next14 m c ⟨n, h⟩ hn j f).trans (congrArg (_ + ·) (part14 m c ⟨n, h⟩ f C (by dsimp only; omega) j)))
theorem final15 : (dats m 0 c).arrAt 15 cfg0.N = G15 m c := by
  refine (dats m 0 c).arrAt_eq_of_covers 15 _ (by decide +kernel) fun t hf y => ?_
  have ht : t.val < 16 := t.isLt
  have hl := last15 t hf
  obtain ⟨f, rfl⟩ : ∃ f : Fin 1408, y = ix2 0 f := ⟨y 1, (by funext a; fin_cases a; exact Subsingleton.elim (α := Fin 1) _ _; rfl)⟩
  obtain ⟨C, hC⟩ : ∃ C : Fin 2816, C.val = t.val / 8 * 1408 + f.val := ⟨⟨t.val / 8 * 1408 + f.val, by omega⟩, rfl⟩
  have hi : ((win0_15.blk t).view.emb (ix2 0 f) 1 : Fin 2816) = C := Fin.ext (by blk_simp [at15]; exact hC.symm)
  blk_simp
  rw [after0_15]
  show _ = ∑ R, DV m c R ((win0_15.blk t).view.emb (ix2 0 f) 1)
  rw [hi]
  exact sweep_sum (nk := 8) (tk := 512) (by decide) rfl _ (fun n h => (outsAt0 m c n h).2.2.2.2.1 (ix2 0 f)) t.val t.isLt hl
    (fun n h e hn => (first15 m c ⟨n, h⟩ hn f).trans (part15 m c ⟨n, h⟩ f C (by dsimp only; omega)))
    (fun n h e hn => (next15 m c ⟨n, h⟩ hn f).trans (congrArg (_ + ·) (part15 m c ⟨n, h⟩ f C (by dsimp only; omega))))
theorem final16 : (dats m 0 c).arrAt 16 cfg0.N = G16 m c := by
  refine (dats m 0 c).arrAt_eq_of_covers 16 _ (by decide +kernel) fun t hf y => ?_
  have ht : t.val < 16 := t.isLt
  have hl := last16 t hf
  obtain ⟨f, rfl⟩ : ∃ f : Fin 1408, y = ix2 0 f := ⟨y 1, (by funext a; fin_cases a; exact Subsingleton.elim (α := Fin 1) _ _; rfl)⟩
  obtain ⟨C, hC⟩ : ∃ C : Fin 2816, C.val = t.val / 8 * 1408 + f.val := ⟨⟨t.val / 8 * 1408 + f.val, by omega⟩, rfl⟩
  have hi : ((win0_16.blk t).view.emb (ix2 0 f) 1 : Fin 2816) = C := Fin.ext (by blk_simp [at16]; exact hC.symm)
  blk_simp
  rw [after0_16]
  show _ = ∑ R, DG m c R ((win0_16.blk t).view.emb (ix2 0 f) 1)
  rw [hi]
  exact sweep_sum (nk := 8) (tk := 512) (by decide) rfl _ (fun n h => (outsAt0 m c n h).2.2.2.2.2 (ix2 0 f)) t.val t.isLt hl
    (fun n h e hn => (first16 m c ⟨n, h⟩ hn f).trans (part16 m c ⟨n, h⟩ f C (by dsimp only; omega)))
    (fun n h e hn => (next16 m c ⟨n, h⟩ hn f).trans (congrArg (_ + ·) (part16 m c ⟨n, h⟩ f C (by dsimp only; omega))))

/-! The reference. -/

section reference
open Cert.ReferenceConvActBwdIdeal.Read
variable (x0 x1 x6 : Vec Ideal S4096x2816 .f32) (x2 x3 : Vec Ideal S3x2816 .f32) (x4 x5 : Vec Ideal S1x2816 .f32) (r : Fin 4096) (f : Fin 2816)

/-- The convolution as it is put together of shifted arrays. -/
theorem conv_dif (u : Vec Ideal S4096x2816 .f32) (w : Vec Ideal S3x2816 .f32) (b : Vec Ideal S1x2816 .f32) (r : Fin 4096) (f : Fin 2816) :
    ((w (ix2 0 f) * if _ : r.val < 1 then 0 else u (ix2 ⟨r.val - 1, by omega⟩ f)) + w (ix2 1 f) * u (ix2 r f)
      + w (ix2 2 f) * if _ : r.val < 4095 then u (ix2 ⟨1 + r.val, by omega⟩ f) else 0) + b (ix2 0 f) = cv u w b r f :=
  congrArg (· + _) (congrArg₂ (· + ·) (congrArg (· + _) (congrArg (_ * ·) (before_dif (col u f) r))) (congrArg (_ * ·) (after_dif (col u f) r)))
/-- Its convolutions, -/
theorem conv_val : val_main_v23 (F := Ideal) x0 x2 x4 (ix2 r f) = cv x0 x2 x4 r f := by
  pointwise [val_main_v23, val_main_v21, val_main_v15, val_main_v9, val_main_v8, val_main_v7, val_main_v6, val_main_v5, val_main_v2, val_main_v0, val_main_cst,
    val_main_v1, val_main_v3, val_main_v14, val_main_v13, val_main_v12, val_main_v11, val_main_v10, val_main_v20, val_main_v19, val_main_v18,
    val_main_v17, val_main_v16, val_main_v4, val_main_v22]
  exact conv_dif x0 x2 x4 r f
theorem conv_gate : val_main_v47 (F := Ideal) x1 x3 x5 (ix2 r f) = cv x1 x3 x5 r f := by
  pointwise [val_main_v47, val_main_v45, val_main_v39, val_main_v33, val_main_v32, val_main_v31, val_main_v30, val_main_v29, val_main_v26, val_main_v24,
    val_main_cst_0, val_main_v25, val_main_v27, val_main_v38, val_main_v37, val_main_v36, val_main_v35, val_main_v34, val_main_v44, val_main_v43,
    val_main_v42, val_main_v41, val_main_v40, val_main_v28, val_main_v46]
  exact conv_dif x1 x3 x5 r f
/-- its gradient of the value, -/
theorem ref_dv : val_main_v50 (F := Ideal) x1 x3 x5 x6 (ix2 r f) = dv (cv x1 x3 x5 r f) (x6 (ix2 r f)) := by
  pointwise [val_main_v50, val_main_v48_0, val_main_v48_2, val_main_call0_v4, val_main_call0_cst_0, val_main_call0_v3, val_main_call0_v2, val_main_call0_cst,
    val_main_call0_v1, val_main_call0_v0]
  rw [conv_gate, dv, sg_eq]
  exact mul_comm _ _
/-- of the gate where the cotangent is real, -/
theorem ref_dg (h : ∃ a : ℝ, x6 (ix2 r f) * cv x0 x2 x4 r f = (a : EReal)) :
    val_main_v52 (F := Ideal) x0 x1 x2 x3 x4 x5 x6 (ix2 r f) = dg (cv x0 x2 x4 r f) (cv x1 x3 x5 r f) (x6 (ix2 r f)) := by
  obtain ⟨a, h⟩ := h
  pointwise [val_main_v52, val_main_call1_v1, val_main_v51, val_main_v48_2, val_main_call0_v4, val_main_call0_cst_0, val_main_call0_v3, val_main_call0_v2,
    val_main_call0_cst, val_main_call0_v1, val_main_call0_v0, val_main_call1_v2, val_main_call1_v0, val_main_v48_1, val_main_call0_v7,
    val_main_call0_v6, val_main_call0_cst_1]
  rw [conv_val, conv_gate, dg, sg_eq, h]
  exact (slope a _).symm
/-- and its sums over the rows. -/
theorem ref_wv (j : Fin 3) : val_main_v98 (F := Ideal) x0 x1 x3 x5 x6 (ix2 j f) = ∑ R, val_main_v50 (F := Ideal) x1 x3 x5 x6 (ix2 R f) * tap (col x0 f) j R := by
  pointwise [val_main_v98, val_main_v91, val_main_v84, val_main_v83, val_main_v82, val_main_v81, val_main_v80, val_main_v79, val_main_v57, val_main_v56,
    val_main_v53, val_main_cst_1, val_main_v58, val_main_cst_3, val_main_cst_4, val_main_cst_5, val_main_v85, val_main_v90, val_main_v89, val_main_v88,
    val_main_v87, val_main_v86, val_main_cst_6, val_main_cst_7, val_main_cst_8, val_main_v97, val_main_v96, val_main_v95, val_main_v94, val_main_v93,
    val_main_v92, val_main_v55, val_main_v54, val_main_cst_9, val_main_cst_10, val_main_cst_11]
  exact sum_tap (fun R => val_main_v50 (F := Ideal) x1 x3 x5 x6 (ix2 R f)) (col x0 f) j
theorem ref_wg (j : Fin 3) :
    val_main_v144 (F := Ideal) x0 x1 x2 x3 x4 x5 x6 (ix2 j f) = ∑ R, val_main_v52 (F := Ideal) x0 x1 x2 x3 x4 x5 x6 (ix2 R f) * tap (col x1 f) j R := by
  pointwise [val_main_v144, val_main_v137, val_main_v130, val_main_v129, val_main_v128, val_main_v127, val_main_v126, val_main_v125, val_main_v103,
    val_main_v102, val_main_v99, val_main_cst_12, val_main_v104, val_main_cst_14, val_main_cst_15, val_main_cst_16, val_main_v131, val_main_v136,
    val_main_v135, val_main_v134, val_main_v133, val_main_v132, val_main_cst_17, val_main_cst_18, val_main_cst_19, val_main_v143, val_main_v142,
    val_main_v141, val_main_v140, val_main_v139, val_main_v138, val_main_v101, val_main_v100, val_main_cst_20, val_main_cst_21, val_main_cst_22]
  exact sum_tap (fun R => val_main_v52 (F := Ideal) x0 x1 x2 x3 x4 x5 x6 (ix2 R f)) (col x1 f) j
theorem ref_bv : val_main_v78 (F := Ideal) x1 x3 x5 x6 (ix2 0 f) = ∑ R, val_main_v50 (F := Ideal) x1 x3 x5 x6 (ix2 R f) := by
  pointwise [val_main_v78, val_main_v77, val_main_cst_2]
theorem ref_bg : val_main_v124 (F := Ideal) x0 x1 x2 x3 x4 x5 x6 (ix2 0 f) = ∑ R, val_main_v52 (F := Ideal) x0 x1 x2 x3 x4 x5 x6 (ix2 R f) := by
  pointwise [val_main_v124, val_main_v123, val_main_cst_13]
end reference

/-- The precondition at an entry. -/
theorem real_of_pre (h : Cert.Pre_conv_slope_finite.fn (F := Ideal) (UV m c) (UG m c) (WV m c) (WG m c) (BV m c) (BG m c) (DA m c) = fun _ => 1#1) (r : Fin 4096) (f : Fin 2816) :
    ∃ a : ℝ, DA m c (ix2 r f) * cv (UV m c) (WV m c) (BV m c) r f = (a : EReal) := by
  have e := congrFun h (ix2 r f)
  unfold Cert.Pre_conv_slope_finite.fn Cert.Pre_conv_slope_finite.fn_part1 at e
  revert e
  pointwise
  rw [show ((WV m c (ix2 0 f) * if h : r.val < 1 then 0 else UV m c (ix2 ⟨r.val - 1, by omega⟩ f)) + WV m c (ix2 1 f) * UV m c (ix2 r f)
      + WV m c (ix2 2 f) * if h : r.val < 4095 then UV m c (ix2 ⟨1 + r.val, by omega⟩ f) else 0) + BV m c (ix2 0 f) = cv (UV m c) (WV m c) (BV m c) r f
    from conv_dif _ _ _ r f]
  exact RealOf.real_of_test _

section results
open Cert.ReferenceConvActBwdIdeal.Read
variable (h : ∀ r f, ∃ a : ℝ, DA m c (ix2 r f) * cv (UV m c) (WV m c) (BV m c) r f = (a : EReal))

theorem ref11 : val_main_v145 (F := Ideal) (UG m c) (WG m c) (BG m c) (DA m c) = G11 m c := by
  funext i
  obtain ⟨r, f, rfl⟩ : ∃ (r : Fin 4096) (f : Fin 2816), i = ix2 r f := ⟨i 0, i 1, (by funext a; fin_cases a <;> rfl)⟩
  exact ref_dv _ _ _ _ r f
theorem ref13 : val_main_v98 (F := Ideal) (UV m c) (UG m c) (WG m c) (BG m c) (DA m c) = G13 m c := by
  funext i
  obtain ⟨j, f, rfl⟩ : ∃ (j : Fin 3) (f : Fin 2816), i = ix2 j f := ⟨i 0, i 1, (by funext a; fin_cases a <;> rfl)⟩
  rw [ref_wv]
  exact Finset.sum_congr rfl fun R _ => (congrArg (· * _) (ref_dv _ _ _ _ R f)).trans (mul_comm _ _)
theorem ref15 : val_main_v78 (F := Ideal) (UG m c) (WG m c) (BG m c) (DA m c) = G15 m c := by
  funext i
  obtain ⟨f, rfl⟩ : ∃ f : Fin 2816, i = ix2 0 f := ⟨i 1, (by funext a; fin_cases a; exact Subsingleton.elim (α := Fin 1) _ _; rfl)⟩
  rw [ref_bv]
  exact Finset.sum_congr rfl fun R _ => ref_dv _ _ _ _ R f

include h
theorem ref12 : val_main_v146 (F := Ideal) (UV m c) (UG m c) (WV m c) (WG m c) (BV m c) (BG m c) (DA m c) = G12 m c := by
  funext i
  obtain ⟨r, f, rfl⟩ : ∃ (r : Fin 4096) (f : Fin 2816), i = ix2 r f := ⟨i 0, i 1, (by funext a; fin_cases a <;> rfl)⟩
  exact ref_dg _ _ _ _ _ _ _ r f (h r f)
theorem ref14 : val_main_v144 (F := Ideal) (UV m c) (UG m c) (WV m c) (WG m c) (BV m c) (BG m c) (DA m c) = G14 m c := by
  funext i
  obtain ⟨j, f, rfl⟩ : ∃ (j : Fin 3) (f : Fin 2816), i = ix2 j f := ⟨i 0, i 1, (by funext a; fin_cases a <;> rfl)⟩
  rw [ref_wg]
  exact Finset.sum_congr rfl fun R _ => (congrArg (· * _) (ref_dg _ _ _ _ _ _ _ R f (h R f))).trans (mul_comm _ _)
theorem ref16 : val_main_v124 (F := Ideal) (UV m c) (UG m c) (WV m c) (WG m c) (BV m c) (BG m c) (DA m c) = G16 m c := by
  funext i
  obtain ⟨f, rfl⟩ : ∃ f : Fin 2816, i = ix2 0 f := ⟨i 1, (by funext a; fin_cases a; exact Subsingleton.elim (α := Fin 1) _ _; rfl)⟩
  rw [ref_bg]
  exact Finset.sum_congr rfl fun R _ => ref_dg _ _ _ _ _ _ _ R f (h R f)
end results

/-- Kernel, idealized kernel and reference run to their ends and leave their arguments alone. -/
theorem frame_p : Cert.quiescent_KernelConvActBwd := fun m ρ _ => Cert.KernelConvActBwd.Gen.frame m ρ
theorem frame_pi : Cert.quiescent_KernelConvActBwdIdeal := fun m ρ _ => frame m ρ
theorem frame_pi_pre : Cert.quiescent_KernelConvActBwdIdeal_pre_conv_slope_finite := fun m ρ _ => frame m ρ
theorem frame_ri : Cert.quiescent_ReferenceConvActBwdIdeal := fun m ρ _ =>
  (θ_run ReferenceConvActBwdIdeal.defs _ _).mono (fun r h => ⟨fun c => (h c).2.2.2.2.2.2, sem_eq_zero_of_no_sems (by decide) r.2⟩)
    (ReferenceConvActBwdIdeal.Value.run (F := Ideal) m ρ)
theorem frame_ri_pre : Cert.quiescent_ReferenceConvActBwdIdeal_pre_conv_slope_finite := fun m ρ _ => frame_ri m ρ trivial

/-- Where what multiplies the slope is finite, the idealized kernel's results are the reference's. -/
theorem algebraic : Cert.algebraic_KernelConvActBwdIdeal_ReferenceConvActBwdIdeal_pre_conv_slope_finite := by
  intro m ρ m' ρ' hpre hagree
  have e0 (c) : StableHlo.launchContents m' c (Proc.devRef .tc ReferenceConvActBwdIdeal.main_arg0) = UV m c := (hagree c).1
  have e1 (c) : StableHlo.launchContents m' c (Proc.devRef .tc ReferenceConvActBwdIdeal.main_arg1) = UG m c := (hagree c).2.1
  have e2 (c) : StableHlo.launchContents m' c (Proc.devRef .tc ReferenceConvActBwdIdeal.main_arg2) = WV m c := (hagree c).2.2.1
  have e3 (c) : StableHlo.launchContents m' c (Proc.devRef .tc ReferenceConvActBwdIdeal.main_arg3) = WG m c := (hagree c).2.2.2.1
  have e4 (c) : StableHlo.launchContents m' c (Proc.devRef .tc ReferenceConvActBwdIdeal.main_arg4) = BV m c := (hagree c).2.2.2.2.1
  have e5 (c) : StableHlo.launchContents m' c (Proc.devRef .tc ReferenceConvActBwdIdeal.main_arg5) = BG m c := (hagree c).2.2.2.2.2.1
  have e6 (c) : StableHlo.launchContents m' c (Proc.devRef .tc ReferenceConvActBwdIdeal.main_arg6) = DA m c := (hagree c).2.2.2.2.2.2
  refine ⟨fun c => G11 m c, fun c => G12 m c, fun c => G13 m c, fun c => G14 m c, fun c => G15 m c, fun c => G16 m c,
    (θ_run _ _ _).mono (fun r h c => ⟨(h c).1.trans (final11 m c), (h c).2.1.trans (final12 m c), (h c).2.2.1.trans (final13 m c),
      (h c).2.2.2.1.trans (final14 m c), (h c).2.2.2.2.1.trans (final15 m c), (h c).2.2.2.2.2.1.trans (final16 m c), (h c).2.2.2.2.2.2⟩) (run_blocks m ρ),
    (θ_run ReferenceConvActBwdIdeal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (ReferenceConvActBwdIdeal.Value.run (F := Ideal) m' ρ')⟩
  · rw [ReferenceConvActBwdIdeal.Read.val_main_v145_eq, e1 c, e3 c, e5 c, e6 c]
    exact ref11 m c
  · rw [ReferenceConvActBwdIdeal.Read.val_main_v146_eq, e0 c, e1 c, e2 c, e3 c, e4 c, e5 c, e6 c]
    exact ref12 m c (real_of_pre m c (hpre c))
  · rw [ReferenceConvActBwdIdeal.Read.val_main_v98_eq, e0 c, e1 c, e3 c, e5 c, e6 c]
    exact ref13 m c
  · rw [ReferenceConvActBwdIdeal.Read.val_main_v144_eq, e0 c, e1 c, e2 c, e3 c, e4 c, e5 c, e6 c]
    exact ref14 m c (real_of_pre m c (hpre c))
  · rw [ReferenceConvActBwdIdeal.Read.val_main_v78_eq, e1 c, e3 c, e5 c, e6 c]
    exact ref15 m c
  · rw [ReferenceConvActBwdIdeal.Read.val_main_v124_eq, e0 c, e1 c, e2 c, e3 c, e4 c, e5 c, e6 c]
    exact ref16 m c (real_of_pre m c (hpre c))

end Cert.KernelConvActBwdIdeal.ConvAct

end
-- ==== Proof.ConvT.lean ====
module

public import proofs.«01_k».proof.Defs
public import proofs.«01_k».proof.Proof.Gen.KernelConvT.Frame
public import proofs.«01_k».proof.Proof.Gen.KernelConvTIdeal.Value
public import proofs.«01_k».proof.Proof.Gen.ReferenceConvTIdeal.Read
public import Idealize.ShloMosaic.Lib.Pipeline.ValueKit
public import Idealize.ShloMosaic.Lib.Tactic
public import proofs.«01_k».proof.Proof.Taps

@[expose] public section

set_option maxRecDepth 16384

/-! The gradient of the convolution's input: the convolution with its weights the other way round. -/

noncomputable section

namespace Cert.KernelConvTIdeal.ConvT

open Cert.KernelConvTIdeal Cert.KernelConvTIdeal.Gen Cert.KernelConvTIdeal.Value
open Idealize.ShloMosaic Idealize.ShloMosaic.TcCoe Idealize.SL.Sem Cert.Taps

variable (m : (ℓ : Loc nD τ sig) → Buf (Elt Ideal) ℓ) (c : Dev nD)

/-- The gradient and the weights, as launched. -/
abbrev D : Vec Ideal S4096x2816 .bf16 := m ((c : Thread nD τ).loc main_arg0)
abbrev W : Vec Ideal S3x2816 .f32 := m ((c : Thread nD τ).loc main_arg1)

/-- The result: each row's gradient is the next row's, its own and the previous row's, weighted. -/
def G (d : Vec Ideal S4096x2816 .bf16) (w : Vec Ideal S3x2816 .f32) : Vec Ideal S4096x2816 .bf16 := fun i =>
  w (ix2 0 (i 1)) * after (fun r => d (ix2 r (i 1))) (i 0) + w (ix2 1 (i 1)) * d (ix2 (i 0) (i 1)) + w (ix2 2 (i 1)) * before (fun r => d (ix2 r (i 1))) (i 0)

theorem at0 : ∀ t : Fin cfg0.N, win0_0.index t = ![t.val / 2, t.val % 2] := (by decide +kernel : ∀ t : Fin grid0.N, _)
theorem at1 : ∀ t : Fin cfg0.N, win0_1.index t = ![t.val / 2 * 32 - 1, t.val % 2] := (by decide +kernel : ∀ t : Fin grid0.N, _)
theorem at2 : ∀ t : Fin cfg0.N, t.val / 2 < 7 → win0_2.index t = ![t.val / 2 * 32 + 32, t.val % 2] := (by decide +kernel : ∀ t : Fin grid0.N, _)
theorem at3 : ∀ t : Fin cfg0.N, win0_3.index t = ![0, t.val % 2] := (by decide +kernel : ∀ t : Fin grid0.N, _)
theorem at4 : ∀ t : Fin cfg0.N, win0_4.index t = ![t.val / 2, t.val % 2] := (by decide +kernel : ∀ t : Fin grid0.N, _)
theorem coord : ∀ t : Fin cfg0.N, (grid0.coords t 0).val = t.val / 2 := (by decide +kernel : ∀ t : Fin grid0.N, _)

/-- What a point writes at an index. -/
theorem pay_apply (i : grid0.Coords) (v0 : Vec Ideal S512x1408 .bf16) (v4 v9 : Vec Ideal S1x1408 .bf16) (v25 v28 v32 : Vec Ideal S1x1408 .f32)
    (r : Fin 512) (f : Fin 1408) (z : Fin 4096 → EReal) (R : Fin 4096) (hR : R.val = 512 * (i 0).val + r.val)
    (h4 : r.val = 0 → 0 < (i 0).val → v4 (ix2 0 f) = before z R) (h9 : r.val = 511 → (i 0).val < 7 → v9 (ix2 0 f) = after z R)
    (h0 : ∀ r' : Fin 512, v0 (ix2 r' f) = z ⟨512 * (i 0).val + r'.val, by have : (i 0).val < 8 := (i 0).isLt; omega⟩) :
    k0_pay1 i v0 v4 v9 v25 v28 v32 (ix2 r f) = v25 (ix2 0 f) * after z R + v28 (ix2 0 f) * z R + v32 (ix2 0 f) * before z R := by
  unfold k0_pay1
  pointwise
  rw [before_block z (i 0).val r R hR _ _ h4 fun h => (h0 _).trans ((congrArg z (Fin.ext (by dsimp only; omega))).trans (before_eq z R (by omega)).symm),
    after_block z (i 0).val r R hR _ _ h9 fun h => (h0 _).trans ((congrArg z (Fin.ext (by dsimp only; omega))).trans (after_eq z R (by omega)).symm),
    h0 r, show (⟨512 * (i 0).val + r.val, by have : (i 0).val < 8 := (i 0).isLt; omega⟩ : Fin 4096) = R from Fin.ext hR.symm]

/-- The result's array. -/
theorem final : (dats m 0 c).arrAt 4 cfg0.N = G (D m c) (W m c) := by
  refine (dats m 0 c).arrAt_eq_of_covers 4 _ (by decide +kernel) fun t _ y => ?_
  have ht : t.val < 16 := t.isLt
  have y0 : (y 0).val < 512 := (y 0).isLt
  have y1 : (y 1).val < 1408 := (y 1).isLt
  have hc := coord t
  obtain ⟨r, f, rfl⟩ : ∃ (r : Fin 512) (f : Fin 1408), y = ix2 r f := ⟨y 0, y 1, (by funext a; fin_cases a <;> rfl)⟩
  blk_simp
  rw [after0_4]
  frame_out
  obtain ⟨R, hR⟩ : ∃ R : Fin 4096, R.val = t.val / 2 * 512 + r.val := ⟨⟨t.val / 2 * 512 + r.val, by omega⟩, rfl⟩
  obtain ⟨C, hC⟩ : ∃ C : Fin 2816, C.val = t.val % 2 * 1408 + f.val := ⟨⟨t.val % 2 * 1408 + f.val, by omega⟩, rfl⟩
  have hi : (win0_4.blk t).view.emb (ix2 r f) = (ix2 R C : S4096x2816.Idx) := by
    funext a
    refine Fin.ext ?_
    match a with
    | ⟨0, _⟩ => blk_simp [at4]; exact hR.symm
    | ⟨1, _⟩ => blk_simp [at4]; exact hC.symm
  refine Eq.trans ?_ (congrArg (G (D m c) (W m c)) hi).symm
  refine (pay_apply (grid0.coords t) _ _ _ _ _ _ r f (fun r => D m c (ix2 r C)) R
    (by rw [hc]; omega) (fun h h' => Eq.trans ?_ (before_eq _ _ (by omega)).symm) (fun h h' => Eq.trans ?_ (after_eq _ _ (by omega)).symm) (fun r' => ?_)).trans
    (congrArg₂ (· + ·) (congrArg₂ (· + ·) (congrArg (· * _) ?_) (congrArg (· * _) ?_)) (congrArg (· * _) ?_))
  · blk_simp [iblk]
    refine congrArg (D m c) (funext fun a => Fin.ext ?_)
    match a with
    | ⟨0, _⟩ => blk_simp [at1]; show (t.val / 2 * 32 - 1) * 16 + (15 + 1 * 0) = R.val - 1; omega
    | ⟨1, _⟩ => blk_simp [at1]; show t.val % 2 * 1408 + (0 + 1 * f.val) = C.val; omega
  · blk_simp [iblk]
    refine congrArg (D m c) (funext fun a => Fin.ext ?_)
    match a with
    | ⟨0, _⟩ => blk_simp [at2 t (by omega)]; show (t.val / 2 * 32 + 32) * 16 + (0 + 1 * 0) = R.val + 1; omega
    | ⟨1, _⟩ => blk_simp [at2 t (by omega)]; show t.val % 2 * 1408 + (0 + 1 * f.val) = C.val; omega
  · blk_simp [iblk]
    refine congrArg (D m c) (funext fun a => Fin.ext ?_)
    match a with
    | ⟨0, _⟩ => blk_simp [at0]; dsimp only; omega
    | ⟨1, _⟩ => blk_simp [at0]; exact hC.symm
  all_goals
    blk_simp [iblk]
    refine congrArg (W m c) (funext fun a => Fin.ext ?_)
    match a with
    | ⟨0, _⟩ => blk_simp [at3]; rfl
    | ⟨1, _⟩ => blk_simp [at3]; show t.val % 2 * 1408 + (0 + 1 * f.val) = C.val; omega

/-- So is the reference's. -/
theorem ref_eq (d : Vec Ideal S4096x2816 .bf16) (w : Vec Ideal S3x2816 .f32) : ReferenceConvTIdeal.Read.val_main_v43 (F := Ideal) d w = G d w := by
  funext i
  obtain ⟨r, f, rfl⟩ : ∃ (r : Fin 4096) (f : Fin 2816), i = ix2 r f := ⟨i 0, i 1, (by funext a; fin_cases a <;> rfl)⟩
  pointwise [ReferenceConvTIdeal.Read.val_main_v43, ReferenceConvTIdeal.Read.val_main_v42, ReferenceConvTIdeal.Read.val_main_v38,
    ReferenceConvTIdeal.Read.val_main_v41, ReferenceConvTIdeal.Read.val_main_v37, ReferenceConvTIdeal.Read.val_main_v40, ReferenceConvTIdeal.Read.val_main_v35,
    ReferenceConvTIdeal.Read.val_main_v34, ReferenceConvTIdeal.Read.val_main_v32, ReferenceConvTIdeal.Read.val_main_v30, ReferenceConvTIdeal.Read.val_main_v28,
    ReferenceConvTIdeal.Read.val_main_v29, ReferenceConvTIdeal.Read.val_main_v31, ReferenceConvTIdeal.Read.val_main_v33, ReferenceConvTIdeal.Read.val_main_v22,
    ReferenceConvTIdeal.Read.val_main_v16, ReferenceConvTIdeal.Read.val_main_v11, ReferenceConvTIdeal.Read.val_main_v21, ReferenceConvTIdeal.Read.val_main_v15,
    ReferenceConvTIdeal.Read.val_main_v10, ReferenceConvTIdeal.Read.val_main_v20, ReferenceConvTIdeal.Read.val_main_v14, ReferenceConvTIdeal.Read.val_main_v9,
    ReferenceConvTIdeal.Read.val_main_cst_4, ReferenceConvTIdeal.Read.val_main_cst_5]
  show _ = w (ix2 0 f) * after (fun r => d (ix2 r f)) r + w (ix2 1 f) * d (ix2 r f) + w (ix2 2 f) * before (fun r => d (ix2 r f)) r
  have hb : (if h : 1 ≤ r.val ∧ r.val - 1 < 4095 then w (ix2 2 f) * d (ix2 ⟨r.val - 1, by omega⟩ f) else 0) = w (ix2 2 f) * before (fun r => d (ix2 r f)) r := by
    by_cases h : r.val = 0
    · rw [dif_neg (by omega), before, dif_pos h, mul_zero]
    · rw [dif_pos (by omega), before_eq _ _ h]
  have ha : (if h : r.val < 4095 then w (ix2 0 f) * d (ix2 ⟨1 + r.val, by omega⟩ f) else 0) = w (ix2 0 f) * after (fun r => d (ix2 r f)) r := by
    by_cases h : r.val < 4095
    · rw [dif_pos h, after_eq _ _ h]; simp only [Nat.add_comm]
    · rw [dif_neg h, after, dif_neg h, mul_zero]
  rw [← ha, ← hb, add_comm, ← add_assoc]

/-- Kernel, idealized kernel and reference run to their ends and leave their arguments alone. -/
theorem frame_p : Cert.quiescent_KernelConvT := fun m ρ _ => Cert.KernelConvT.Gen.frame m ρ
theorem frame_pi : Cert.quiescent_KernelConvTIdeal := fun m ρ _ => frame m ρ
theorem frame_ri : Cert.quiescent_ReferenceConvTIdeal := fun m ρ _ =>
  (θ_run ReferenceConvTIdeal.defs _ _).mono (fun r h => ⟨fun c => (h c).2, sem_eq_zero_of_no_sems (by decide) r.2⟩)
    (ReferenceConvTIdeal.Value.run (F := Ideal) m ρ)

/-- At every pair of arguments the idealized kernel's result is the reference's. -/
theorem algebraic : Cert.algebraic_KernelConvTIdeal_ReferenceConvTIdeal := by
  intro m ρ m' ρ' _ hagree
  refine ⟨fun c => G (D m c) (W m c), (θ_run _ _ _).mono (fun r h c => ⟨(h c).1.trans (final m c), (h c).2⟩) (run_blocks m ρ),
    (θ_run ReferenceConvTIdeal.defs _ _).mono (fun r h c => ⟨(h c).1.trans ?_, (h c).2⟩) (ReferenceConvTIdeal.Value.run (F := Ideal) m' ρ')⟩
  rw [ReferenceConvTIdeal.Read.val_main_v43_eq, (hagree c).1, (hagree c).2]
  exact ref_eq _ _

end Cert.KernelConvTIdeal.ConvT

end
-- ==== Proof.Rms.lean ====
module

public import Idealize.ShloMosaic.PureOps.Ideal
public import Idealize.ShloMosaic.PureOps.Ideal.Laws
public import Mathlib.Analysis.SpecialFunctions.Pow.Real

@[expose] public section

/-! A row divided by its root mean square, and its gradient as a kernel and as a reference write it. No entry need be finite: a row with an
infinite entry has an infinite mean square, so its inverse root is zero and both gradients are zero. -/

noncomputable section

namespace Cert.Rms

open Idealize.ShloMosaic

variable {n : ℕ} (N e : ℝ) (x g : Fin n → EReal)

/-- The mean square with its small constant. -/
def ms : EReal := Ideal.div (∑ i, x i * x i) (N : EReal) + (e : EReal)
/-- Its inverse root. -/
def rs : EReal := Ideal.rsqrt (ms N e x)
/-- The gradient as the kernel writes it: the row's component along the normalised row taken off. -/
def K (j : Fin n) : EReal := rs N e x * (g j - x j * rs N e x * Ideal.div (∑ i, g i * (x i * rs N e x)) (N : EReal))
/-- The gradient through the mean square, as the reference writes it. -/
def C : EReal := Ideal.div ((∑ i, x i * g i) * (((-1 / 2 : ℝ) : EReal) * Ideal.div (rs N e x) (ms N e x))) (N : EReal)
/-- The gradient as the reference writes it. -/
def R (j : Fin n) : EReal := g j * rs N e x + x j * C N e x g + C N e x g * x j

/-- The small constant, as rounded to f32. -/
def eps : ℝ := 8796093 / 8796093022208
theorem eps_pos : 0 < eps := by norm_num [eps]
theorem eps_eq : Ideal.ofBits .f32 0x358637BD#32 = (eps : EReal) := by
  simp [Ideal.ofBits, Ideal.ieee]
  rw [← EReal.coe_mul]
  congr 1
  norm_num [eps]
theorem half_eq : Ideal.ofBits .f32 0xBF000000#32 = ((-1 / 2 : ℝ) : EReal) := by
  simp [Ideal.ofBits, Ideal.ieee]
  rw [← EReal.coe_mul, ← EReal.coe_neg]
  congr 1
  norm_num
theorem n1024_eq : Ideal.ofBits .f32 0x44800000#32 = ((1024 : ℝ) : EReal) := by
  simp [Ideal.ofBits, Ideal.ieee]
  rw [← EReal.coe_mul]
  congr 1
  norm_num
theorem n256_eq : Ideal.ofBits .f32 0x43800000#32 = ((256 : ℝ) : EReal) := by
  simp [Ideal.ofBits, Ideal.ieee]
  rw [← EReal.coe_mul]
  congr 1
  norm_num

/-- The square of an extended real is not negative. -/
theorem sq_nonneg (a : EReal) : 0 ≤ a * a := by
  rcases le_total 0 a with h | h
  · exact EReal.mul_nonneg h h
  · have h' : 0 ≤ -a := by simpa using EReal.neg_le_neg_iff.mpr h
    simpa using EReal.mul_nonneg h' h'

/-- A real factor that is not negative distributes over any sum. -/
theorem sum_mul (r : ℝ) (hr : 0 ≤ r) (f : Fin n → EReal) : ∑ i, f i * (r : EReal) = (∑ i, f i) * (r : EReal) := by
  have key : ∀ t : Finset (Fin n), ∑ i ∈ t, f i * (r : EReal) = (∑ i ∈ t, f i) * (r : EReal) := by
    intro t
    induction t using Finset.induction_on with
    | empty => simp
    | insert a t ha ih => rw [Finset.sum_insert ha, Finset.sum_insert ha, ih, EReal.right_distrib_of_nonneg_of_ne_top (by exact_mod_cast hr) (EReal.coe_ne_top r)]
  exact key _

/-- The mean square is a positive real, or infinite. -/
theorem ms_cases (hN : 0 < N) (he : 0 < e) : ms N e x = ⊤ ∨ ∃ v : ℝ, 0 < v ∧ ms N e x = (v : EReal) := by
  have hs : 0 ≤ ∑ i, x i * x i := Finset.sum_nonneg fun i _ => sq_nonneg (x i)
  unfold ms
  rw [Ideal.div_coe hN.ne']
  generalize ∑ i, x i * x i = s at hs
  induction s using EReal.rec with
  | bot => simp at hs
  | coe s =>
    right
    refine ⟨s * (1 / N) + e, ?_, by push_cast; rfl⟩
    have hs' : 0 ≤ s := by exact_mod_cast hs
    positivity
  | top =>
    left
    rw [EReal.top_mul_coe_of_pos (by positivity), EReal.top_add_coe]

/-- A positive real has the inverse of its root. -/
theorem rsqrt_pos (v : ℝ) (hv : 0 < v) : Ideal.rsqrt (v : EReal) = (((Real.sqrt v)⁻¹ : ℝ) : EReal) := by
  rw [Ideal.rsqrt_coe, if_neg (not_lt.mpr hv.le), if_neg hv.ne']

/-- Twice a value is its sum with itself. -/
theorem add_self (a : EReal) : a + a = ((2 : ℝ) : EReal) * a := by
  induction a using EReal.rec with
  | bot => rw [EReal.coe_mul_bot_of_pos (by norm_num)]; rfl
  | coe a => rw [← EReal.coe_add, ← EReal.coe_mul, two_mul]
  | top => rw [EReal.coe_mul_top_of_pos (by norm_num)]; rfl

/-- The two gradients are the same. -/
theorem K_eq_R (hN : 0 < N) (he : 0 < e) (j : Fin n) : K N e x g j = R N e x g j := by
  rcases ms_cases N e x hN he with h | ⟨v, hv, h⟩
  · have hr : rs N e x = 0 := by rw [rs, h, Ideal.rsqrt_top]
    have hC : C N e x g = 0 := by
      rw [C, hr, Ideal.div_coe hN.ne', h]
      simp [Ideal.div]
    rw [K, R, hC, hr, zero_mul, mul_zero, mul_zero, zero_mul, add_zero, add_zero]
  · have hr : rs N e x = (((Real.sqrt v)⁻¹ : ℝ) : EReal) := by rw [rs, h, rsqrt_pos v hv]
    have hρ : 0 < (Real.sqrt v)⁻¹ := inv_pos.mpr (Real.sqrt_pos.mpr hv)
    have hsq : (Real.sqrt v)⁻¹ * (Real.sqrt v)⁻¹ = 1 / v := by
      rw [← mul_inv, Real.mul_self_sqrt hv.le, one_div]
    have hS : ∑ i, g i * (x i * rs N e x) = (∑ i, x i * g i) * rs N e x := by
      rw [hr, ← sum_mul _ hρ.le]
      exact Finset.sum_congr rfl fun i _ => by rw [← mul_assoc, mul_comm (g i)]
    rw [K, R, hS, C, mul_comm _ (x j), add_assoc, add_self, hr, h, Ideal.div_coe hN.ne', Ideal.div_coe hN.ne', Ideal.div_coe hv.ne']
    generalize ∑ i, x i * g i = S
    generalize (Real.sqrt v)⁻¹ = ρ at hρ hsq
    rw [sub_eq_add_neg, EReal.left_distrib_of_nonneg_of_ne_top (by exact_mod_cast hρ.le) (EReal.coe_ne_top ρ), mul_comm (ρ : EReal) (g j)]
    congr 1
    have hc : ((2 : ℝ) : EReal) * (x j * (S * (((-1 / 2 : ℝ) : EReal) * ((ρ : EReal) * ((1 / v : ℝ) : EReal))) * ((1 / N : ℝ) : EReal)))
        = ((2 * (-1 / 2) * ρ * (1 / v) * (1 / N) : ℝ) : EReal) * (x j * S) := by
      push_cast
      ac_rfl
    have hk : (ρ : EReal) * -(x j * (ρ : EReal) * (S * (ρ : EReal) * ((1 / N : ℝ) : EReal))) = ((-(ρ * (ρ * ρ) * (1 / N)) : ℝ) : EReal) * (x j * S) := by
      rw [mul_neg, EReal.coe_neg, neg_mul]
      push_cast
      congr 1
      ac_rfl
    rw [hc, hk, hsq]
    congr 2
    ring

end Cert.Rms

end
-- ==== Proof.NormBwd.lean ====
module

public import proofs.«01_k».proof.Defs
public import proofs.«01_k».proof.Proof.Gen.KernelNormBwd.Frame
public import proofs.«01_k».proof.Proof.Gen.KernelNormBwdIdeal.Value
public import proofs.«01_k».proof.Proof.Gen.ReferenceNormBwdIdeal.Read
public import Idealize.ShloMosaic.Lib.Pipeline.ValueKit
public import Idealize.ShloMosaic.Lib.Tactic
public import proofs.«01_k».proof.Proof.Prod
public import proofs.«01_k».proof.Proof.Rms

@[expose] public section

set_option maxRecDepth 16384

/-! The gradient of the root-mean-square norm, with the gradient of its weight summed over the row blocks. -/

noncomputable section

namespace Cert.KernelNormBwdIdeal.NormBwd

open Cert.KernelNormBwdIdeal Cert.KernelNormBwdIdeal.Gen Cert.KernelNormBwdIdeal.Value
open Idealize.ShloMosaic Idealize.ShloMosaic.TcCoe Idealize.SL.Sem Cert.Prod

variable (m : (ℓ : Loc nD τ sig) → Buf (Elt Ideal) ℓ) (c : Dev nD)

/-- The input, the weight, the normed rows' gradient and the residual's, as launched. -/
abbrev X : Vec Ideal S4096x1024 .f32 := m ((c : Thread nD τ).loc main_arg0)
abbrev W : Vec Ideal S1x1024 .f32 := m ((c : Thread nD τ).loc main_arg1)
abbrev DH : Vec Ideal S4096x1024 .f32 := m ((c : Thread nD τ).loc main_arg2)
abbrev DR : Vec Ideal S4096x1024 .f32 := m ((c : Thread nD τ).loc main_arg3)

/-- Row `r`'s inverse root mean square. -/
def rs {M : ℕ} (x : (⟨2, ![M, 1024]⟩ : Shape).Idx → EReal) (r : Fin M) : EReal := Rms.rs 1024 Rms.eps fun j => x (ix2 r j)
/-- The input's gradient. -/
def dx {M : ℕ} (x : (⟨2, ![M, 1024]⟩ : Shape).Idx → EReal) (w : Vec Ideal S1x1024 .f32) (dh dr : (⟨2, ![M, 1024]⟩ : Shape).Idx → EReal)
    (r : Fin M) (f : Fin 1024) : EReal :=
  dr (ix2 r f) + Rms.K 1024 Rms.eps (fun j => x (ix2 r j)) (fun j => dh (ix2 r j) * w (ix2 0 j)) f
/-- A row's term of the weight's gradient. -/
def dw {M : ℕ} (x dh : (⟨2, ![M, 1024]⟩ : Shape).Idx → EReal) (f : Fin 1024) (r : Fin M) : EReal := dh (ix2 r f) * (x (ix2 r f) * rs x r)
/-- They depend on their row alone. -/
theorem dx_congr {M M' : ℕ} (x dh dr : (⟨2, ![M, 1024]⟩ : Shape).Idx → EReal) (x' dh' dr' : (⟨2, ![M', 1024]⟩ : Shape).Idx → EReal) (w w' : Vec Ideal S1x1024 .f32)
    (r : Fin M) (r' : Fin M') (f : Fin 1024) (hx : ∀ j, x (ix2 r j) = x' (ix2 r' j)) (hh : ∀ j, dh (ix2 r j) = dh' (ix2 r' j))
    (hd : ∀ j, dr (ix2 r j) = dr' (ix2 r' j)) (hw : ∀ j, w (ix2 0 j) = w' (ix2 0 j)) : dx x w dh dr r f = dx x' w' dh' dr' r' f := by
  unfold dx
  rw [hd, show (fun j => x (ix2 r j)) = fun j => x' (ix2 r' j) from funext hx,
    show (fun j => dh (ix2 r j) * w (ix2 0 j)) = fun j => dh' (ix2 r' j) * w' (ix2 0 j) from funext fun j => by rw [hh j, hw j]]
theorem dw_congr {M M' : ℕ} (x dh : (⟨2, ![M, 1024]⟩ : Shape).Idx → EReal) (x' dh' : (⟨2, ![M', 1024]⟩ : Shape).Idx → EReal)
    (r : Fin M) (r' : Fin M') (f : Fin 1024) (hx : ∀ j, x (ix2 r j) = x' (ix2 r' j)) (hh : ∀ j, dh (ix2 r j) = dh' (ix2 r' j)) : dw x dh f r = dw x' dh' f r' := by
  unfold dw rs
  rw [hh, hx, show (fun j => x (ix2 r j)) = fun j => x' (ix2 r' j) from funext hx]
/-- Both as arrays. -/
def DX : Vec Ideal S4096x1024 .f32 := fun i => dx (X m c) (W m c) (DH m c) (DR m c) (i 0) (i 1)
def DW : Vec Ideal S1x1024 .f32 := fun i => ∑ r : Fin 4096, dw (X m c) (DH m c) (i 1) r

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem last : ∀ t : Fin cfg0.N, (cfg0.win 5).flush t = true → t.val % 8 = 7 := (by decide +kernel : ∀ t : Fin grid0.N, win0_5.flush t = true → t.val % 8 = 7)

/-- A block's gradient at an index. -/
theorem pay4_apply (x dh : Vec Ideal S512x1024 .f32) (w : Vec Ideal S1x1024 .f32) (dr : Vec Ideal S512x1024 .f32) (r : Fin 512) (f : Fin 1024) :
    k0_pay4 x dh w dr (ix2 r f) = dx x w dh dr r f := by
  unfold k0_pay4 k0_pay3 k0_pay2
  pointwise
  rw [Rms.eps_eq, Rms.n1024_eq]
  rfl

/-- A block's part of the weight's gradient at an index. -/
theorem pay5_apply (x dh : Vec Ideal S512x1024 .f32) (y : S1x1024.Idx) : k0_pay5 x dh y = ∑ r : Fin 512, dw x dh (y 1) r := by
  obtain ⟨f, rfl⟩ : ∃ f : Fin 1024, y = ix2 0 f := ⟨y 1, (by funext a; fin_cases a; exact Subsingleton.elim (α := Fin 1) _ _; rfl)⟩
  unfold k0_pay5 k0_pay3 k0_pay2
  pointwise
  rw [Rms.eps_eq, Rms.n1024_eq]
  rfl

/-- The blocks are the arrays' rows. -/
theorem x_at (t : Fin cfg0.N) (r : Fin 512) (f : Fin 1024) (h : 512 * t.val + r.val < 4096) : iblk m c 0 t (ix2 r f) = X m c (ix2 ⟨512 * t.val + r.val, h⟩ f) := by
  blk_simp [iblk]
  refine congrArg (X m c) (funext fun a => Fin.ext ?_)
  match a with
  | ⟨0, _⟩ => blk_simp [at0]; dsimp only; omega
  | ⟨1, _⟩ => blk_simp [at0]
theorem dh_at (t : Fin cfg0.N) (r : Fin 512) (f : Fin 1024) (h : 512 * t.val + r.val < 4096) : iblk m c 2 t (ix2 r f) = DH m c (ix2 ⟨512 * t.val + r.val, h⟩ f) := by
  blk_simp [iblk]
  refine congrArg (DH m c) (funext fun a => Fin.ext ?_)
  match a with
  | ⟨0, _⟩ => blk_simp [at2]; dsimp only; omega
  | ⟨1, _⟩ => blk_simp [at2]
theorem dr_at (t : Fin cfg0.N) (r : Fin 512) (f : Fin 1024) (h : 512 * t.val + r.val < 4096) : iblk m c 3 t (ix2 r f) = DR m c (ix2 ⟨512 * t.val + r.val, h⟩ f) := by
  blk_simp [iblk]
  refine congrArg (DR m c) (funext fun a => Fin.ext ?_)
  match a with
  | ⟨0, _⟩ => blk_simp [at3]; dsimp only; omega
  | ⟨1, _⟩ => blk_simp [at3]
theorem w_at (t : Fin cfg0.N) (f : Fin 1024) : iblk m c 1 t (ix2 0 f) = W m c (ix2 0 f) := by
  blk_simp [iblk]
  refine congrArg (W m c) (funext fun a => Fin.ext ?_)
  match a with
  | ⟨0, _⟩ => blk_simp [at1]
  | ⟨1, _⟩ => blk_simp [at1]

/-- What a point leaves of the input's gradient. -/
theorem out4 (t : Fin cfg0.N) (y : S512x1024.Idx) : (outsAt0 m c t.val t.isLt).1 y = k0_pay4 (iblk m c 0 t) (iblk m c 2 t) (iblk m c 1 t) (iblk m c 3 t) y := by
  have ht : t.val < 8 := t.isLt
  by_cases h : t.val % 8 = 0
  · rw [outsAt0_A m c t h (by omega)]
    frame_out
  · rw [outsAt0_B m c t h (by omega)]
    frame_out

/-- The first point's weight gradient is its block's; -/
theorem first (t : Fin cfg0.N) (h : t.val % 8 = 0) (y : S1x1024.Idx) : (outsAt0 m c t.val t.isLt).2 y = k0_pay5 (iblk m c 0 t) (iblk m c 2 t) y := by
  have ht : t.val < 8 := t.isLt
  rw [outsAt0_A m c t h (by omega)]
  frame_out

/-- and each further point adds its own. -/
theorem next (t : Fin cfg0.N) (h : t.val % 8 ≠ 0) (y : S1x1024.Idx) :
    (outsAt0 m c t.val t.isLt).2 y = (outsAt0 m c (t.val - 1) (Nat.lt_of_le_of_lt (Nat.sub_le _ _) t.isLt)).2 y + k0_pay5 (iblk m c 0 t) (iblk m c 2 t) y := by
  have ht : t.val < 8 := t.isLt
  rw [outsAt0_B m c t h (by omega)]
  frame_out
  unfold k0_pay1
  pointwise

/-- A block's part is its rows' terms. -/
theorem block (t : Fin cfg0.N) (y : S1x1024.Idx) :
    k0_pay5 (F := Ideal) (iblk m c 0 t) (iblk m c 2 t) y = part 512 (dw (X m c) (DH m c) (y 1)) (t.val % 8) := by
  have ht : t.val < 8 := t.isLt
  rw [pay5_apply, Nat.mod_eq_of_lt ht]
  refine part_eq _ t.val (by omega) _ fun r => ?_
  have h : 512 * t.val + r.val < 4096 := by omega
  exact dw_congr _ _ _ _ r _ _ (fun j => x_at m c t r j h) (fun j => dh_at m c t r j h)

/-- The input's gradient's array. -/
theorem final4 : (dats m 0 c).arrAt 4 cfg0.N = DX m c := by
  refine (dats m 0 c).arrAt_eq_of_covers 4 _ (by decide +kernel) fun t _ y => ?_
  have ht : t.val < 8 := t.isLt
  obtain ⟨r, f, rfl⟩ : ∃ (r : Fin 512) (f : Fin 1024), y = ix2 r f := ⟨y 0, y 1, (by funext a; fin_cases a <;> rfl)⟩
  have h : 512 * t.val + r.val < 4096 := by omega
  have hi : (win0_4.blk t).view.emb (ix2 r f) = (ix2 ⟨512 * t.val + r.val, h⟩ f : S4096x1024.Idx) := by
    funext a
    refine Fin.ext ?_
    match a with
    | ⟨0, _⟩ => blk_simp [at4]; dsimp only; omega
    | ⟨1, _⟩ => blk_simp [at4]
  blk_simp
  rw [after0_4, out4, pay4_apply]
  refine Eq.trans ?_ (congrArg (DX m c) hi).symm
  exact dx_congr _ _ _ _ _ _ _ _ r _ f (fun j => x_at m c t r j h) (fun j => dh_at m c t r j h) (fun j => dr_at m c t r j h) (w_at m c t)

/-- The weight's gradient's array. -/
theorem final5 : (dats m 0 c).arrAt 5 cfg0.N = DW m c := by
  refine (dats m 0 c).arrAt_eq_of_covers 5 _ (by decide +kernel) fun t hf y => ?_
  have hl := last t hf
  have hi : ((win0_5.blk t).view.emb y 1 : Fin 1024) = (y 1 : Fin 1024) := Fin.ext (by blk_simp [at5])
  blk_simp
  rw [after0_5]
  show _ = ∑ r : Fin 4096, dw (X m c) (DH m c) ((win0_5.blk t).view.emb y 1) r
  rw [hi]
  exact sweep_sum (nk := 8) (tk := 512) (by decide) rfl _ (fun n h => (outsAt0 m c n h).2 y) t.val t.isLt hl
    (fun n h _ hn => (first m c ⟨n, h⟩ hn y).trans (block m c ⟨n, h⟩ y))
    (fun n h _ hn => (next m c ⟨n, h⟩ hn y).trans (congrArg (_ + ·) (block m c ⟨n, h⟩ y)))

open Cert.ReferenceNormBwdIdeal.Read in
/-- The reference's gradients are these. -/
theorem ref_dx : val_main_v34 (F := Ideal) (X m c) (W m c) (DH m c) (DR m c) = DX m c := by
  funext i
  obtain ⟨r, f, rfl⟩ : ∃ (r : Fin 4096) (f : Fin 1024), i = ix2 r f := ⟨i 0, i 1, (by funext a; fin_cases a <;> rfl)⟩
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v10, val_main_v9,
    val_main_v8, val_main_v7, val_main_v6, val_main_v5, val_main_v4, val_main_v3, val_main_v2, val_main_v1, val_main_v0, val_main_cst,
    val_main_cst_0, val_main_cst_1, val_main_cst_2, val_main_cst_4, val_main_cst_5, val_main_cst_6]
  rw [Rms.eps_eq, Rms.n1024_eq, Rms.half_eq]
  simp only [Fin.sum_univ_one]
  exact congrArg (DR m c (ix2 r f) + ·) (Rms.K_eq_R 1024 Rms.eps (fun j => X m c (ix2 r j)) (fun j => DH m c (ix2 r j) * W m c (ix2 0 j)) (by norm_num) Rms.eps_pos f).symm

open Cert.ReferenceNormBwdIdeal.Read in
theorem ref_dw : val_main_v17 (F := Ideal) (X m c) (DH m c) = DW m c := by
  funext i
  obtain ⟨f, rfl⟩ : ∃ f : Fin 1024, i = ix2 0 f := ⟨i 1, (by funext a; fin_cases a; exact Subsingleton.elim (α := Fin 1) _ _; rfl)⟩
  pointwise [val_main_v17, val_main_v16, val_main_v15, val_main_v12, val_main_v11, val_main_v7, val_main_v6, val_main_v5, val_main_v4,
    val_main_v3, val_main_v2, val_main_v1, val_main_v0, val_main_cst, val_main_cst_0, val_main_cst_1, val_main_cst_3]
  rw [Rms.eps_eq, Rms.n1024_eq]
  exact Finset.sum_congr rfl fun r _ => mul_comm _ _

/-- Kernel, idealized kernel and reference run to their ends and leave their arguments alone. -/
theorem frame_p : Cert.quiescent_KernelNormBwd := fun m ρ _ => Cert.KernelNormBwd.Gen.frame m ρ
theorem frame_pi : Cert.quiescent_KernelNormBwdIdeal := fun m ρ _ => frame m ρ
theorem frame_ri : Cert.quiescent_ReferenceNormBwdIdeal := fun m ρ _ =>
  (θ_run ReferenceNormBwdIdeal.defs _ _).mono (fun r h => ⟨fun c => (h c).2.2, sem_eq_zero_of_no_sems (by decide) r.2⟩)
    (ReferenceNormBwdIdeal.Value.run (F := Ideal) m ρ)

/-- At all arguments the idealized kernel's results are the reference's. -/
theorem algebraic : Cert.algebraic_KernelNormBwdIdeal_ReferenceNormBwdIdeal := by
  intro m ρ m' ρ' _ hagree
  refine ⟨fun c => DX m c, fun c => DW m c,
    (θ_run _ _ _).mono (fun r h c => ⟨(h c).1.trans (final4 m c), (h c).2.1.trans (final5 m c), (h c).2.2⟩) (run_blocks m ρ),
    (θ_run ReferenceNormBwdIdeal.defs _ _).mono (fun r h c => ⟨(h c).1.trans ?_, (h c).2.1.trans ?_, (h c).2.2⟩) (ReferenceNormBwdIdeal.Value.run (F := Ideal) m' ρ')⟩
  · rw [ReferenceNormBwdIdeal.Read.val_main_v34_eq, (hagree c).1, (hagree c).2.1, (hagree c).2.2.1, (hagree c).2.2.2]
    exact ref_dx m c
  · rw [ReferenceNormBwdIdeal.Read.val_main_v17_eq, (hagree c).1, (hagree c).2.2.1]
    exact ref_dw m c

end Cert.KernelNormBwdIdeal.NormBwd

end
-- ==== Proof.GlaGate.lean ====
module

public import proofs.«01_k».proof.Defs
public import proofs.«01_k».proof.Proof.Gen.KernelGlaGateBwd.Frame
public import proofs.«01_k».proof.Proof.Gen.KernelGlaGateBwdIdeal.Value
public import proofs.«01_k».proof.Proof.Gen.ReferenceGlaGateBwdIdeal.Read
public import proofs.«01_k».proof.Proof.Gen.Pre_gate_slope_finite
public import Idealize.ShloMosaic.Lib.Pipeline.ValueKit
public import Idealize.ShloMosaic.Lib.Tactic
public import proofs.«01_k».proof.Proof.Prod
public import proofs.«01_k».proof.Proof.Rms
public import proofs.«01_k».proof.Proof.Gate
public import proofs.«01_k».proof.Proof.RealOf

@[expose] public section

set_option maxRecDepth 16384

/-! The gradients through the gated norm of the linear attention's output: each point takes 512 rows, and in them four heads of 256
columns; the norm's weight is shared by the heads, and its gradient adds up over heads and points. -/

noncomputable section

namespace Cert.KernelGlaGateBwdIdeal.GlaGate

open Cert.KernelGlaGateBwdIdeal Cert.KernelGlaGateBwdIdeal.Gen Cert.KernelGlaGateBwdIdeal.Value
open Idealize.ShloMosaic Idealize.ShloMosaic.TcCoe Idealize.SL.Sem Cert.Prod Cert.Gate

variable (m : (ℓ : Loc nD τ sig) → Buf (Elt Ideal) ℓ) (c : Dev nD)

/-- The two directions' outputs, the input projection, the weight and the gradient, as launched. -/
abbrev OF : Vec Ideal S4096x1024 .f32 := m ((c : Thread nD τ).loc main_arg0)
abbrev OB : Vec Ideal S4096x1024 .f32 := m ((c : Thread nD τ).loc main_arg1)
abbrev PR : Vec Ideal S4096x3200 .f32 := m ((c : Thread nD τ).loc main_arg2)
abbrev W : Vec Ideal S1x256 .f32 := m ((c : Thread nD τ).loc main_arg3)
abbrev DY : Vec Ideal S4096x1024 .f32 := m ((c : Thread nD τ).loc main_arg4)

/-- A head's column. -/
abbrev col (k : Fin 4) (f : Fin 256) : Fin 1024 := ⟨256 * k.val + f.val, by omega⟩
/-- The same column of the gate in the input projection. -/
abbrev gcol (k : Fin 4) (f : Fin 256) : Fin 3200 := ⟨2048 + (256 * k.val + f.val), by omega⟩
/-- Every column is a head's. -/
theorem col_surj (C : Fin 1024) : ∃ k f, C = col k f := ⟨⟨C.val / 256, by omega⟩, ⟨C.val % 256, by omega⟩, Fin.ext (by show C.val = _; dsimp only; omega)⟩

section row
variable (o g d w : Fin 256 → EReal) (f : Fin 256)
/-- A head's row of the outputs' sum, its gate, its gradient and the weight give: what the norm's result gets, -/
def dn : EReal := d f * (g f * sg (g f))
/-- what multiplies the slope of the gate, -/
def ct : EReal := d f * (o f * Rms.rs 256 Rms.eps o * w f)
/-- the gradient of the outputs, -/
def dO : EReal := Rms.K 256 Rms.eps o (fun j => dn g d j * w j) f
/-- of the gate, -/
def dG : EReal := ct o d w f * (sg (g f) * (1 + g f * (1 - sg (g f))))
/-- and the row's term of the weight's. -/
def dW : EReal := dn g d f * (o f * Rms.rs 256 Rms.eps o)
end row

/-- The rows of the arrays. -/
def ro (R : Fin 4096) (k : Fin 4) : Fin 256 → EReal := fun j => OF m c (ix2 R (col k j)) + OB m c (ix2 R (col k j))
def rg (R : Fin 4096) (k : Fin 4) : Fin 256 → EReal := fun j => PR m c (ix2 R (gcol k j))
def rd (R : Fin 4096) (k : Fin 4) : Fin 256 → EReal := fun j => DY m c (ix2 R (col k j))
def wt : Fin 256 → EReal := fun j => W m c (ix2 0 j)
/-- A column's head, and its place there. -/
def hd (C : Fin 1024) : Fin 4 := ⟨C.val / 256, by omega⟩
def pl (C : Fin 1024) : Fin 256 := ⟨C.val % 256, by omega⟩
theorem hd_col (k : Fin 4) (f : Fin 256) : hd (col k f) = k := Fin.ext (by show (256 * k.val + f.val) / 256 = k.val; omega)
theorem pl_col (k : Fin 4) (f : Fin 256) : pl (col k f) = f := Fin.ext (by show (256 * k.val + f.val) % 256 = f.val; omega)
/-- The three results. -/
def GO : Vec Ideal S4096x1024 .bf16 := fun i => dO (ro m c (i 0) (hd (i 1))) (rg m c (i 0) (hd (i 1))) (rd m c (i 0) (hd (i 1))) (wt m c) (pl (i 1))
def GG : Vec Ideal S4096x1024 .f32 := fun i => dG (ro m c (i 0) (hd (i 1))) (rg m c (i 0) (hd (i 1))) (rd m c (i 0) (hd (i 1))) (wt m c) (pl (i 1))
/-- All heads' terms of a row. -/
def tw (f : Fin 256) (R : Fin 4096) : EReal := ∑ k : Fin 4, dW (ro m c R k) (rg m c R k) (rd m c R k) f
def GW : Vec Ideal S1x256 .f32 := fun i => ∑ R, tw m c (i 1) R
theorem GO_col (R : Fin 4096) (k : Fin 4) (f : Fin 256) : GO m c (ix2 R (col k f)) = dO (ro m c R k) (rg m c R k) (rd m c R k) (wt m c) f := by
  show dO (ro m c R (hd (col k f))) (rg m c R (hd (col k f))) (rd m c R (hd (col k f))) (wt m c) (pl (col k f)) = _
  rw [hd_col, pl_col]
theorem GG_col (R : Fin 4096) (k : Fin 4) (f : Fin 256) : GG m c (ix2 R (col k f)) = dG (ro m c R k) (rg m c R k) (rd m c R k) (wt m c) f := by
  show dG (ro m c R (hd (col k f))) (rg m c R (hd (col k f))) (rd m c R (hd (col k f))) (wt m c) (pl (col k f)) = _
  rw [hd_col, pl_col]

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 2] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, 0] := (by decide +kernel : ∀ t : Fin grid0.N, _)
theorem last : ∀ t : Fin cfg0.N, (cfg0.win 7).flush t = true → t.val % 8 = 7 := (by decide +kernel : ∀ t : Fin grid0.N, win0_7.flush t = true → t.val % 8 = 7)

/-- A block's heads, as read. -/
abbrev hs (x : Vec Ideal S512x1024 .f32) (k : Fin 4) : Vec Ideal S512x256 .f32 :=
  ![View.ld (Val := Elt Ideal) (e' := .f32) x (Rect.unit (s := S512x1024) ![0, 0] S512x256.size inb_S512x1024_S512x256_0_0),
    View.ld (Val := Elt Ideal) (e' := .f32) x (Rect.unit (s := S512x1024) ![0, 256] S512x256.size inb_S512x1024_S512x256_0_256),
    View.ld (Val := Elt Ideal) (e' := .f32) x (Rect.unit (s := S512x1024) ![0, 512] S512x256.size inb_S512x1024_S512x256_0_512),
    View.ld (Val := Elt Ideal) (e' := .f32) x (Rect.unit (s := S512x1024) ![0, 768] S512x256.size inb_S512x1024_S512x256_0_768)] k
theorem hs_at (x : Vec Ideal S512x1024 .f32) (k : Fin 4) (r : Fin 512) (f : Fin 256) : hs x k (ix2 r f) = x (ix2 r (col k f)) := by
  fin_cases k <;>
  · refine congrArg x (funext fun a => Fin.ext ?_)
    match a with
    | ⟨0, _⟩ => show 0 + 1 * r.val = r.val; omega
    | ⟨1, _⟩ => show _ + 1 * f.val = _; dsimp; omega

/-- The heads, as they are stored. -/
abbrev pieces {e : EltTy} (F : Fin 4 → Vec Ideal S512x256 e) : List (View.Piece (Elt Ideal) S512x1024 e) :=
  [⟨Rect.unit (s := S512x1024) ![0, 768] S512x256.size inb_S512x1024_S512x256_0_768, F 3⟩,
    ⟨Rect.unit (s := S512x1024) ![0, 512] S512x256.size inb_S512x1024_S512x256_0_512, F 2⟩,
    ⟨Rect.unit (s := S512x1024) ![0, 256] S512x256.size inb_S512x1024_S512x256_0_256, F 1⟩,
    ⟨Rect.unit (s := S512x1024) ![0, 0] S512x256.size inb_S512x1024_S512x256_0_0, F 0⟩]
/-- A block of four heads written is an array where each of them is. -/
theorem heads {e : EltTy} (F : Fin 4 → Vec Ideal S512x256 e) (z : Vec Ideal S512x1024 e) (h : ∀ k r f, F k (ix2 r f) = z (ix2 r (col k f)))
    (y : S512x1024.Idx) : View.canon (pieces F) y = z y := by
  refine View.canon_apply_of_pieces (Val := Elt Ideal) (e := e) z _ (fun p hp x => ?_) y (View.cover_of_tiled (pieces F) S512x256.size (by rfl) y)
  simp only [pieces, List.mem_cons, List.not_mem_nil, or_false] at hp
  rcases hp with rfl | rfl | rfl | rfl <;>
  · obtain ⟨r, f, rfl⟩ : ∃ (r : Fin 512) (f : Fin 256), x = (ix2 r f : S512x256.Idx) := ⟨x 0, x 1, (by funext a; fin_cases a <;> rfl)⟩
    refine (h _ r f).trans (congrArg z (funext fun a => Fin.ext ?_))
    match a with
    | ⟨0, _⟩ => show r.val = 0 + 1 * r.val; omega
    | ⟨1, _⟩ => show _ = _ + 1 * f.val; dsimp; omega

section head
variable (a b g d : Vec Ideal S512x256 .f32) (w v : Vec Ideal S1x256 .f32) (r : Fin 512) (f : Fin 256)
/-- A head's results at an entry. -/
theorem pay13_apply : k0_pay13 (k0_pay7 a b) (k0_pay8 a b) (k0_pay10 g d) w (ix2 r f)
    = dO (fun j => a (ix2 r j) + b (ix2 r j)) (fun j => g (ix2 r j)) (fun j => d (ix2 r j)) (fun j => w (ix2 0 j)) f := by
  unfold k0_pay13 k0_pay10 k0_pay9 k0_pay8 k0_pay7 k0_pay6
  pointwise
  rw [Rms.eps_eq, Rms.n256_eq]
  rfl
theorem pay11_apply : k0_pay11 a b g d w (ix2 r f)
    = dG (fun j => a (ix2 r j) + b (ix2 r j)) (fun j => g (ix2 r j)) (fun j => d (ix2 r j)) (fun j => w (ix2 0 j)) f := by
  unfold k0_pay11 k0_pay9 k0_pay8 k0_pay7 k0_pay6
  pointwise
  rw [Rms.eps_eq, Rms.n256_eq]
  rfl
theorem pay12_apply : k0_pay12 v (k0_pay8 a b) (k0_pay10 g d) (ix2 0 f)
    = v (ix2 0 f) + ∑ r : Fin 512, dW (fun j => a (ix2 r j) + b (ix2 r j)) (fun j => g (ix2 r j)) (fun j => d (ix2 r j)) f := by
  unfold k0_pay12 k0_pay10 k0_pay9 k0_pay8 k0_pay7 k0_pay6
  pointwise
  rw [Rms.eps_eq, Rms.n256_eq]
  rfl
theorem pay5_apply : k0_pay5 (F := Ideal) (ix2 0 f) = 0 := by
  unfold k0_pay5
  pointwise
/-- The running sum goes on from what is there. -/
theorem pay4_apply (x y : Vec Ideal S512x256 .f32) (p : Vec Ideal S1x256 .f32) : k0_pay4 v x y p (ix2 0 f) = p (ix2 0 f) + k0_pay2 v x y (ix2 0 f) := by
  unfold k0_pay4
  pointwise
end head

section block
variable (x y g d : Vec Ideal S512x1024 .f32) (w : Vec Ideal S1x256 .f32)
/-- The heads' results of a block, and the running sum of the weight's gradient. -/
def bO (k : Fin 4) : Vec Ideal S512x256 .bf16 := k0_pay13 (k0_pay7 (hs x k) (hs y k)) (k0_pay8 (hs x k) (hs y k)) (k0_pay10 (hs g k) (hs d k)) w
def bG (k : Fin 4) : Vec Ideal S512x256 .f32 := k0_pay11 (hs x k) (hs y k) (hs g k) (hs d k) w
def step (v : Vec Ideal S1x256 .f32) (k : Fin 4) : Vec Ideal S1x256 .f32 := k0_pay12 v (k0_pay8 (hs x k) (hs y k)) (k0_pay10 (hs g k) (hs d k))
def bW : Vec Ideal S1x256 .f32 := step x y g d (step x y g d (step x y g d (step x y g d (k0_pay5 (F := Ideal)) 0) 1) 2) 3
/-- A block's head's rows. -/
def o' (k : Fin 4) (r : Fin 512) : Fin 256 → EReal := fun j => x (ix2 r (col k j)) + y (ix2 r (col k j))
def r' (k : Fin 4) (r : Fin 512) : Fin 256 → EReal := fun j => x (ix2 r (col k j))
theorem bO_apply (k : Fin 4) (r : Fin 512) (f : Fin 256) : bO x y g d w k (ix2 r f) = dO (o' x y k r) (r' g k r) (r' d k r) (fun j => w (ix2 0 j)) f := by
  rw [bO, pay13_apply]; simp only [hs_at]; rfl
theorem bG_apply (k : Fin 4) (r : Fin 512) (f : Fin 256) : bG x y g d w k (ix2 r f) = dG (o' x y k r) (r' g k r) (r' d k r) (fun j => w (ix2 0 j)) f := by
  rw [bG, pay11_apply]; simp only [hs_at]; rfl
theorem step_apply (v : Vec Ideal S1x256 .f32) (k : Fin 4) (f : Fin 256) :
    step x y g d v k (ix2 0 f) = v (ix2 0 f) + ∑ r, dW (o' x y k r) (r' g k r) (r' d k r) f := by
  rw [step, pay12_apply]; simp only [hs_at]; rfl
theorem bW_apply (f : Fin 256) : bW x y g d (ix2 0 f) = ∑ r, ∑ k, dW (o' x y k r) (r' g k r) (r' d k r) f := by
  rw [bW, step_apply, step_apply, step_apply, step_apply, pay5_apply, zero_add, Finset.sum_comm, Fin.sum_univ_four]
end block

/-- What a point leaves of the first two results, -/
theorem out5 (t : Fin cfg0.N) (y : S512x1024.Idx) :
    (outsAt0 m c t.val t.isLt).1 y = View.canon (pieces (bO (iblk m c 0 t) (iblk m c 1 t) (X0_2 m c t) (iblk m c 4 t) (iblk m c 3 t))) y := by
  have ht : t.val < 8 := t.isLt
  by_cases h : t.val % 8 = 0
  · rw [outsAt0_A m c t h (by omega)]
    frame_out
    rfl
  · rw [outsAt0_B m c t h (by omega)]
    frame_out
    rfl
theorem out6 (t : Fin cfg0.N) (y : S512x1024.Idx) :
    (outsAt0 m c t.val t.isLt).2.1 y = View.canon (pieces (bG (iblk m c 0 t) (iblk m c 1 t) (X0_2 m c t) (iblk m c 4 t) (iblk m c 3 t))) y := by
  have ht : t.val < 8 := t.isLt
  by_cases h : t.val % 8 = 0
  · rw [outsAt0_A m c t h (by omega)]
    frame_out
    rfl
  · rw [outsAt0_B m c t h (by omega)]
    frame_out
    rfl
/-- of the weight's gradient at the first point, -/
theorem first (t : Fin cfg0.N) (h : t.val % 8 = 0) (y : S1x256.Idx) :
    (outsAt0 m c t.val t.isLt).2.2 y = bW (iblk m c 0 t) (iblk m c 1 t) (X0_2 m c t) (iblk m c 4 t) y := by
  have ht : t.val < 8 := t.isLt
  rw [outsAt0_A m c t h (by omega)]
  frame_out
  rfl
/-- and at each further point, over what the point before left. -/
theorem next (t : Fin cfg0.N) (h : t.val % 8 ≠ 0) (y : S1x256.Idx) :
    (outsAt0 m c t.val t.isLt).2.2 y = (outsAt0 m c (t.val - 1) (Nat.lt_of_le_of_lt (Nat.sub_le _ _) t.isLt)).2.2 y
      + bW (iblk m c 0 t) (iblk m c 1 t) (X0_2 m c t) (iblk m c 4 t) y := by
  have ht : t.val < 8 := t.isLt
  obtain ⟨f, rfl⟩ : ∃ f : Fin 256, y = ix2 0 f := ⟨y 1, (by funext a; fin_cases a; exact Subsingleton.elim (α := Fin 1) _ _; rfl)⟩
  rw [outsAt0_B m c t h (by omega)]
  frame_out
  rw [pay4_apply]
  rfl

section rows
variable (t : Fin cfg0.N) (r : Fin 512) (R : Fin 4096) (hR : R.val = 512 * t.val + r.val)
include hR
/-- The blocks are the arrays' rows. -/
theorem of_at (f : Fin 1024) : iblk m c 0 t (ix2 r f) = OF m c (ix2 R f) := by
  blk_simp [iblk]
  refine congrArg (OF m c) (funext fun a => Fin.ext ?_)
  match a with
  | ⟨0, _⟩ => blk_simp [at0]; omega
  | ⟨1, _⟩ => blk_simp [at0]
theorem ob_at (f : Fin 1024) : iblk m c 1 t (ix2 r f) = OB m c (ix2 R f) := by
  blk_simp [iblk]
  refine congrArg (OB m c) (funext fun a => Fin.ext ?_)
  match a with
  | ⟨0, _⟩ => blk_simp [at1]; omega
  | ⟨1, _⟩ => blk_simp [at1]
theorem dy_at (f : Fin 1024) : iblk m c 4 t (ix2 r f) = DY m c (ix2 R f) := by
  blk_simp [iblk]
  refine congrArg (DY m c) (funext fun a => Fin.ext ?_)
  match a with
  | ⟨0, _⟩ => blk_simp [at4]; omega
  | ⟨1, _⟩ => blk_simp [at4]
theorem pr_at (f : Fin 1024) (C : Fin 3200) (hC : C.val = 2048 + f.val) : X0_2 m c t (ix2 r f) = PR m c (ix2 R C) := by
  unfold X0_2 Pipeline.Window.fill
  rw [dif_pos (moved0_2 t _)]
  blk_simp [iblk]
  refine congrArg (PR m c) (funext fun a => Fin.ext ?_)
  match a with
  | ⟨0, _⟩ => blk_simp [at2]; dsimp only; omega
  | ⟨1, _⟩ => blk_simp [at2]; dsimp only; omega
theorem o_at (k : Fin 4) : o' (iblk m c 0 t) (iblk m c 1 t) k r = ro m c R k := funext fun j => congrArg₂ (· + ·) (of_at m c t r R hR _) (ob_at m c t r R hR _)
theorem g_at (k : Fin 4) : r' (X0_2 m c t) k r = rg m c R k := funext fun j => pr_at m c t r R hR _ _ rfl
theorem d_at (k : Fin 4) : r' (iblk m c 4 t) k r = rd m c R k := funext fun j => dy_at m c t r R hR _
end rows
theorem w_at (t : Fin cfg0.N) : (fun j => iblk m c 3 t (ix2 0 j)) = wt m c := by
  funext f
  unfold wt
  blk_simp [iblk]
  refine congrArg (W m c) (funext fun a => Fin.ext ?_)
  match a with
  | ⟨0, _⟩ => blk_simp [at3]
  | ⟨1, _⟩ => blk_simp [at3]

/-- A block's sum is its rows' terms. -/
theorem block (t : Fin cfg0.N) (y : S1x256.Idx) :
    bW (iblk m c 0 t) (iblk m c 1 t) (X0_2 m c t) (iblk m c 4 t) y = part 512 (tw m c (y 1)) (t.val % 8) := by
  have ht : t.val < 8 := t.isLt
  obtain ⟨f, rfl⟩ : ∃ f : Fin 256, y = ix2 0 f := ⟨y 1, (by funext a; fin_cases a; exact Subsingleton.elim (α := Fin 1) _ _; rfl)⟩
  rw [bW_apply, Nat.mod_eq_of_lt ht]
  refine part_eq _ t.val (by omega) _ fun r => Finset.sum_congr rfl fun k _ => ?_
  have h : 512 * t.val + r.val < 4096 := by omega
  rw [o_at m c t r ⟨_, h⟩ rfl, g_at m c t r ⟨_, h⟩ rfl, d_at m c t r ⟨_, h⟩ rfl]
  rfl

/-- The arrays of the three results. -/
theorem final5 : (dats m 0 c).arrAt 5 cfg0.N = GO m c := by
  refine (dats m 0 c).arrAt_eq_of_covers 5 _ (by decide +kernel) fun t _ y => ?_
  have ht : t.val < 8 := t.isLt
  have hi : ∀ (r : Fin 512) (f : Fin 1024) (R : Fin 4096), R.val = 512 * t.val + r.val → (win0_5.blk t).view.emb (ix2 r f) = (ix2 R f : S4096x1024.Idx) := by
    intro r f R hR
    funext a
    refine Fin.ext ?_
    match a with
    | ⟨0, _⟩ => blk_simp [at5]; omega
    | ⟨1, _⟩ => blk_simp [at5]
  blk_simp
  rw [after0_5, out5]
  refine heads _ (fun y => GO m c ((win0_5.blk t).view.emb y)) (fun k r f => ?_) y
  have h : 512 * t.val + r.val < 4096 := by omega
  refine Eq.trans ?_ (congrArg (GO m c) (hi r (col k f) ⟨_, h⟩ rfl)).symm
  rw [bO_apply, GO_col, o_at m c t r ⟨_, h⟩ rfl, g_at m c t r ⟨_, h⟩ rfl, d_at m c t r ⟨_, h⟩ rfl, w_at]
theorem final6 : (dats m 0 c).arrAt 6 cfg0.N = GG m c := by
  refine (dats m 0 c).arrAt_eq_of_covers 6 _ (by decide +kernel) fun t _ y => ?_
  have ht : t.val < 8 := t.isLt
  have hi : ∀ (r : Fin 512) (f : Fin 1024) (R : Fin 4096), R.val = 512 * t.val + r.val → (win0_6.blk t).view.emb (ix2 r f) = (ix2 R f : S4096x1024.Idx) := by
    intro r f R hR
    funext a
    refine Fin.ext ?_
    match a with
    | ⟨0, _⟩ => blk_simp [at6]; omega
    | ⟨1, _⟩ => blk_simp [at6]
  blk_simp
  rw [after0_6, out6]
  refine heads _ (fun y => GG m c ((win0_6.blk t).view.emb y)) (fun k r f => ?_) y
  have h : 512 * t.val + r.val < 4096 := by omega
  refine Eq.trans ?_ (congrArg (GG m c) (hi r (col k f) ⟨_, h⟩ rfl)).symm
  rw [bG_apply, GG_col, o_at m c t r ⟨_, h⟩ rfl, g_at m c t r ⟨_, h⟩ rfl, d_at m c t r ⟨_, h⟩ rfl, w_at]
theorem final7 : (dats m 0 c).arrAt 7 cfg0.N = GW m c := by
  refine (dats m 0 c).arrAt_eq_of_covers 7 _ (by decide +kernel) fun t hf y => ?_
  have hl := last t hf
  have hi : ((win0_7.blk t).view.emb y 1 : Fin 256) = (y 1 : Fin 256) := Fin.ext (by blk_simp [at7])
  blk_simp
  rw [after0_7]
  show _ = ∑ R : Fin 4096, tw m c ((win0_7.blk t).view.emb y 1) R
  rw [hi]
  exact sweep_sum (nk := 8) (tk := 512) (by decide) rfl _ (fun n h => (outsAt0 m c n h).2.2 y) t.val t.isLt hl
    (fun n h _ hn => (first m c ⟨n, h⟩ hn y).trans (block m c ⟨n, h⟩ y))
    (fun n h _ hn => (next m c ⟨n, h⟩ hn y).trans (congrArg (_ + ·) (block m c ⟨n, h⟩ y)))

/-- A sum over the first two of three axes. -/
theorem sum01 {n0 n1 n2 : ℕ} (h : (⟨3, ![n0, n1, n2]⟩ : Shape).ReducesTo [0, 1] ⟨1, ![n2]⟩) (f : Fin n2) (v : (⟨3, ![n0, n1, n2]⟩ : Shape).Idx → EReal) :
    ∑ i ∈ Finset.univ.filter (fun i => h.drop i = ix1 f), v i = ∑ r : Fin n0, ∑ k : Fin n1, v (ix3 r k f) := by
  rw [← Fintype.sum_prod_type' (f := fun (r : Fin n0) (k : Fin n1) => v (ix3 r k f))]
  refine Finset.sum_filter_eq_sum_of_fiber _ (fun p : Fin n0 × Fin n1 => ix3 p.1 p.2 f) (fun p q e => Prod.ext (congrFun e 0) (congrFun e 1)) (fun i => ?_) v
  constructor
  · intro e
    refine ⟨(i 0, i 1), funext fun a => ?_⟩
    match a with
    | ⟨0, _⟩ => rfl
    | ⟨1, _⟩ => rfl
    | ⟨2, _⟩ => exact Fin.ext (congrArg Fin.val (congrFun e 0)).symm
  · rintro ⟨p, rfl⟩
    funext b
    fin_cases b
    rfl

section ref
open Cert.ReferenceGlaGateBwdIdeal.Read
variable (R : Fin 4096) (k : Fin 4) (f : Fin 256)
/-- The reference's arrays have the heads as an axis of their own. -/
theorem v2_at : val_main_v2 (F := Ideal) (OF m c) (OB m c) (ix3 R k f) = ro m c R k f := by
  have h : idx_main_v2 (ix3 R k f) = ix2 R (col k f) := by
    funext a
    refine Fin.ext ?_
    match a with
    | ⟨0, _⟩ => show _ = R.val; simp [idx_main_v2]; omega
    | ⟨1, _⟩ => show _ = 256 * k.val + f.val; simp [idx_main_v2]; omega
  rw [val_main_v2_apply, h]
  rfl
theorem v19_at : val_main_v19 (F := Ideal) (PR m c) (ix3 R k f) = rg m c R k f := by
  have h : idx_main_v0 (idx_main_v19 (ix3 R k f)) = ix2 R (gcol k f) := by
    funext a
    refine Fin.ext ?_
    match a with
    | ⟨0, _⟩ => show _ = R.val; simp [idx_main_v0, idx_main_v19]; omega
    | ⟨1, _⟩ => show _ = 2048 + (256 * k.val + f.val); simp [idx_main_v0, idx_main_v19]; omega
  rw [val_main_v19_apply, val_main_v0_apply, h]
  rfl
theorem v23_at : val_main_v23 (F := Ideal) (DY m c) (ix3 R k f) = rd m c R k f := by
  have h : idx_main_v23 (ix3 R k f) = ix2 R (col k f) := by
    funext a
    refine Fin.ext ?_
    match a with
    | ⟨0, _⟩ => show _ = R.val; simp [idx_main_v23]; omega
    | ⟨1, _⟩ => show _ = 256 * k.val + f.val; simp [idx_main_v23]; omega
  rw [val_main_v23_apply, h]
  rfl

theorem v49_at : idx_main_v49 (ix2 R (col k f)) = ix3 R k f := by
  funext a
  refine Fin.ext ?_
  match a with
  | ⟨0, _⟩ => show _ = R.val; simp [idx_main_v49]; omega
  | ⟨1, _⟩ => show _ = k.val; simp [idx_main_v49]; omega
  | ⟨2, _⟩ => show _ = f.val; simp [idx_main_v49]; omega
theorem v27_at : idx_main_v27 (ix2 R (col k f)) = ix3 R k f := by
  funext a
  refine Fin.ext ?_
  match a with
  | ⟨0, _⟩ => show _ = R.val; simp [idx_main_v27]; omega
  | ⟨1, _⟩ => show _ = k.val; simp [idx_main_v27]; omega
  | ⟨2, _⟩ => show _ = f.val; simp [idx_main_v27]; omega

/-- The gradient of the outputs at an entry. -/
theorem v48_at : val_main_v48 (F := Ideal) (OF m c) (OB m c) (PR m c) (W m c) (DY m c) (ix3 R k f)
    = dO (ro m c R k) (rg m c R k) (rd m c R k) (wt m c) f := by
  pointwise [val_main_v48, val_main_v47, val_main_v46, val_main_v45, val_main_v44, val_main_v43, val_main_v42, val_main_v41, val_main_v40,
    val_main_v39, val_main_v38, val_main_v37, val_main_v36, val_main_v35, val_main_v32, val_main_v31, val_main_v25, val_main_v20_0, val_main_v20_2,
    val_main_call0_v4, val_main_call0_v3, val_main_call0_v2, val_main_call0_v1, val_main_call0_v0, val_main_v16, val_main_v13, val_main_v12,
    val_main_v11, val_main_v10, val_main_v9, val_main_v8, val_main_v7, val_main_v6, val_main_v5, val_main_v4, val_main_v3, val_main_cst,
    val_main_cst_0, val_main_cst_1, val_main_cst_2, val_main_cst_5, val_main_cst_6, val_main_cst_7, val_main_call0_cst, val_main_call0_cst_0]
  simp only [v2_at, v19_at, v23_at, Fin.sum_univ_one]
  rw [Rms.eps_eq, Rms.n256_eq, Rms.half_eq]
  have e : ∀ j, dn (rg m c R k) (rd m c R k) j = rd m c R k j * (rg m c R k j * sg' (rg m c R k j)) := fun j => by rw [dn, sg_eq]
  unfold dO
  rw [Rms.K_eq_R 256 Rms.eps _ _ (by norm_num) Rms.eps_pos]
  simp only [e]
  rfl
/-- The gradient of the gate at an entry. -/
theorem v26_at (h : ∃ a : ℝ, ct (ro m c R k) (rd m c R k) (wt m c) f = (a : EReal)) :
    val_main_v26 (F := Ideal) (OF m c) (OB m c) (PR m c) (W m c) (DY m c) (ix3 R k f) = dG (ro m c R k) (rg m c R k) (rd m c R k) (wt m c) f := by
  obtain ⟨a, ha⟩ := h
  pointwise [val_main_v26, val_main_call1_v2, val_main_call1_v1, val_main_call1_v0, val_main_v24, val_main_v18, val_main_v17, val_main_v16,
    val_main_v15, val_main_v14, val_main_v20_1, val_main_v20_2, val_main_call0_v7, val_main_call0_v6, val_main_call0_cst_1,
    val_main_call0_v4, val_main_call0_v3, val_main_call0_v2, val_main_call0_v1, val_main_call0_v0,
    val_main_v10, val_main_v9, val_main_v8, val_main_v7, val_main_v6, val_main_v5, val_main_v4, val_main_v3, val_main_cst,
    val_main_cst_0, val_main_cst_1, val_main_call0_cst, val_main_call0_cst_0]
  simp only [v2_at, v19_at, v23_at]
  rw [Rms.eps_eq, Rms.n256_eq]
  unfold dG
  rw [ha, sg_eq, slope, ← ha]
  unfold ct
  rw [mul_comm (rd m c R k f)]
  rfl
/-- A term of the weight's gradient. -/
theorem v28_at : val_main_v28 (F := Ideal) (OF m c) (OB m c) (PR m c) (DY m c) (ix3 R k f) = dW (ro m c R k) (rg m c R k) (rd m c R k) f := by
  pointwise [val_main_v28, val_main_v25, val_main_v15, val_main_v14, val_main_v20_0, val_main_v20_2,
    val_main_call0_v4, val_main_call0_v3, val_main_call0_v2, val_main_call0_v1, val_main_call0_v0,
    val_main_v10, val_main_v9, val_main_v8, val_main_v7, val_main_v6, val_main_v5, val_main_v4, val_main_v3, val_main_cst,
    val_main_cst_0, val_main_cst_1, val_main_call0_cst, val_main_call0_cst_0]
  simp only [v2_at, v19_at, v23_at]
  rw [Rms.eps_eq, Rms.n256_eq]
  unfold dW dn
  rw [sg_eq, mul_comm]
  rfl

/-- The reference's results. -/
theorem ref5 : val_main_v50 (F := Ideal) (OF m c) (OB m c) (PR m c) (W m c) (DY m c) = GO m c := by
  funext i
  obtain ⟨R, C, rfl⟩ : ∃ (R : Fin 4096) (C : Fin 1024), i = ix2 R C := ⟨i 0, i 1, (by funext a; fin_cases a <;> rfl)⟩
  obtain ⟨k, f, rfl⟩ := col_surj C
  rw [GO_col, ← v48_at, ← v49_at, ← val_main_v49_apply]
  rfl
theorem ref6 (h : ∀ R k f, ∃ a : ℝ, ct (ro m c R k) (rd m c R k) (wt m c) f = (a : EReal)) :
    val_main_v27 (F := Ideal) (OF m c) (OB m c) (PR m c) (W m c) (DY m c) = GG m c := by
  funext i
  obtain ⟨R, C, rfl⟩ : ∃ (R : Fin 4096) (C : Fin 1024), i = ix2 R C := ⟨i 0, i 1, (by funext a; fin_cases a <;> rfl)⟩
  obtain ⟨k, f, rfl⟩ := col_surj C
  rw [GG_col, ← v26_at m c R k f (h R k f), ← v27_at, ← val_main_v27_apply]
theorem v29_at : val_main_v29 (F := Ideal) (OF m c) (OB m c) (PR m c) (DY m c) (ix1 f) = ∑ R, tw m c f R := by
  show Ideal.hostReduceAdd _ _ _ _ = _
  unfold Ideal.hostReduceAdd
  rw [sum01]
  simp only [v28_at]
  show Ideal.ofBits .f32 0x00000000#32 + _ = _
  rw [show Ideal.ofBits .f32 0x00000000#32 = 0 by simp [Ideal.ofBits, Ideal.ieee], zero_add]
  rfl
theorem ref7 : val_main_v34 (F := Ideal) (OF m c) (OB m c) (PR m c) (DY m c) = GW m c := by
  funext i
  obtain ⟨f, rfl⟩ : ∃ f : Fin 256, i = ix2 0 f := ⟨i 1, (by funext a; fin_cases a; exact Subsingleton.elim (α := Fin 1) _ _; rfl)⟩
  rw [val_main_v34_apply, show idx_main_v34 (ix2 0 f) = ix1 f by funext a; fin_cases a; rfl]
  show Ideal.hostReduceAdd _ _ _ _ = _
  unfold Ideal.hostReduceAdd
  rw [sum01]
  simp only [Fin.sum_univ_one]
  rw [val_main_v30_apply, show idx_main_v30 (ix3 0 0 f) = ix1 f by funext a; fin_cases a; exact Fin.ext (by simp [idx_main_v30]), v29_at]
  show Ideal.ofBits .f32 0x00000000#32 + _ = _
  rw [show Ideal.ofBits .f32 0x00000000#32 = 0 by simp [Ideal.ofBits, Ideal.ieee], zero_add]
  rfl
end ref

/-- The precondition at an entry. -/
theorem real_of_pre (h : Cert.Pre_gate_slope_finite.fn (F := Ideal) (OF m c) (OB m c) (PR m c) (W m c) (DY m c) = fun _ => 1#1) (R : Fin 4096) (k : Fin 4) (f : Fin 256) :
    ∃ a : ℝ, ct (ro m c R k) (rd m c R k) (wt m c) f = (a : EReal) := by
  have e := congrFun h (ix3 R k f)
  unfold Cert.Pre_gate_slope_finite.fn at e
  revert e
  pointwise
  have hc : ∀ (j : Fin 256) (h : k.val * 256 + j.val < 1024), (⟨k.val * 256 + j.val, h⟩ : Fin 1024) = col k j := fun j _ => Fin.ext (by dsimp only; omega)
  simp only [hc]
  rw [Rms.eps_eq, Rms.n256_eq]
  exact RealOf.real_of_test (ct (ro m c R k) (rd m c R k) (wt m c) f)

/-- Kernel, idealized kernel and reference run to their ends and leave their arguments alone. -/
theorem frame_p : Cert.quiescent_KernelGlaGateBwd := fun m ρ _ => Cert.KernelGlaGateBwd.Gen.frame m ρ
theorem frame_pi : Cert.quiescent_KernelGlaGateBwdIdeal := fun m ρ _ => frame m ρ
theorem frame_pi_pre : Cert.quiescent_KernelGlaGateBwdIdeal_pre_gate_slope_finite := fun m ρ _ => frame m ρ
theorem frame_ri : Cert.quiescent_ReferenceGlaGateBwdIdeal := fun m ρ _ =>
  (θ_run ReferenceGlaGateBwdIdeal.defs _ _).mono (fun r h => ⟨fun c => (h c).2.2.2, sem_eq_zero_of_no_sems (by decide) r.2⟩)
    (ReferenceGlaGateBwdIdeal.Value.run (F := Ideal) m ρ)
theorem frame_ri_pre : Cert.quiescent_ReferenceGlaGateBwdIdeal_pre_gate_slope_finite := fun m ρ _ => frame_ri m ρ trivial

/-- Where what multiplies the slope is finite, the idealized kernel's results are the reference's. -/
theorem algebraic : Cert.algebraic_KernelGlaGateBwdIdeal_ReferenceGlaGateBwdIdeal_pre_gate_slope_finite := by
  intro m ρ m' ρ' hpre hagree
  have e0 (c : Dev ReferenceGlaGateBwdIdeal.nD) : m' ((c : Thread ReferenceGlaGateBwdIdeal.nD ReferenceGlaGateBwdIdeal.τ).loc ReferenceGlaGateBwdIdeal.main_arg0) = OF m c := (hagree c).1
  have e1 (c : Dev ReferenceGlaGateBwdIdeal.nD) : m' ((c : Thread ReferenceGlaGateBwdIdeal.nD ReferenceGlaGateBwdIdeal.τ).loc ReferenceGlaGateBwdIdeal.main_arg1) = OB m c := (hagree c).2.1
  have e2 (c : Dev ReferenceGlaGateBwdIdeal.nD) : m' ((c : Thread ReferenceGlaGateBwdIdeal.nD ReferenceGlaGateBwdIdeal.τ).loc ReferenceGlaGateBwdIdeal.main_arg2) = PR m c := (hagree c).2.2.1
  have e3 (c : Dev ReferenceGlaGateBwdIdeal.nD) : m' ((c : Thread ReferenceGlaGateBwdIdeal.nD ReferenceGlaGateBwdIdeal.τ).loc ReferenceGlaGateBwdIdeal.main_arg3) = W m c := (hagree c).2.2.2.1
  have e4 (c : Dev ReferenceGlaGateBwdIdeal.nD) : m' ((c : Thread ReferenceGlaGateBwdIdeal.nD ReferenceGlaGateBwdIdeal.τ).loc ReferenceGlaGateBwdIdeal.main_arg4) = DY m c := (hagree c).2.2.2.2
  refine ⟨fun c => GO m c, fun c => GG m c, fun c => GW m c,
    (θ_run _ _ _).mono (fun r h c => ⟨(h c).1.trans (final5 m c), (h c).2.1.trans (final6 m c), (h c).2.2.1.trans (final7 m c), (h c).2.2.2⟩) (run_blocks m ρ),
    (θ_run ReferenceGlaGateBwdIdeal.defs _ _).mono (fun r h c => ⟨(h c).1.trans ?_, (h c).2.1.trans ?_, (h c).2.2.1.trans ?_, (h c).2.2.2⟩)
      (ReferenceGlaGateBwdIdeal.Value.run (F := Ideal) m' ρ')⟩
  · rw [ReferenceGlaGateBwdIdeal.Read.val_main_v50_eq, e0 c, e1 c, e2 c, e3 c, e4 c]
    exact ref5 m c
  · rw [ReferenceGlaGateBwdIdeal.Read.val_main_v27_eq, e0 c, e1 c, e2 c, e3 c, e4 c]
    exact ref6 m c (real_of_pre m c (hpre c))
  · rw [ReferenceGlaGateBwdIdeal.Read.val_main_v34_eq, e0 c, e1 c, e2 c, e4 c]
    exact ref7 m c
end Cert.KernelGlaGateBwdIdeal.GlaGate

end
-- ==== Proof.lean ====
module

public import proofs.«01_k».proof.Defs
public import proofs.«01_k».proof.Proof.Attn
public import proofs.«01_k».proof.Proof.AttnFwd
public import proofs.«01_k».proof.Proof.FfnInputs
public import proofs.«01_k».proof.Proof.FfnStacks
public import proofs.«01_k».proof.Proof.Inputs
public import proofs.«01_k».proof.Proof.InputSweeps
public import proofs.«01_k».proof.Proof.RowStacks
public import proofs.«01_k».proof.Proof.ColumnStacks
public import proofs.«01_k».proof.Proof.FfnUp
public import proofs.«01_k».proof.Proof.Residual
public import proofs.«01_k».proof.Proof.Projections
public import proofs.«01_k».proof.Proof.Twins
public import proofs.«01_k».proof.Proof.ConvAct
public import proofs.«01_k».proof.Proof.ConvT
public import proofs.«01_k».proof.Proof.NormBwd
public import proofs.«01_k».proof.Proof.GlaGate
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelAttnFwd.Frame
public import proofs.«01_k».proof.Proof.Gen.KernelAttnFwdIdeal.Value
public import proofs.«01_k».proof.Proof.Gen.ReferenceAttnFwdIdeal.Read
public import proofs.«01_k».proof.Proof.Gen.ReferenceIdeal.Read
public import proofs.«01_k».proof.Proof.Gen.Pre_qk_finite
public import proofs.«01_k».proof.Proof.Gen.Pre_qk_real
public import proofs.«01_k».proof.Proof.Gen.Pre_conv_slope_finite
public import proofs.«01_k».proof.Proof.Gen.Pre_gate_slope_finite
public import proofs.«01_k».proof.Proof.Gen.KernelConvActBwd.Frame
public import proofs.«01_k».proof.Proof.Gen.KernelConvActBwdIdeal.Value
public import proofs.«01_k».proof.Proof.Gen.ReferenceConvActBwdIdeal.Read
public import proofs.«01_k».proof.Proof.Gen.KernelConvT.Frame
public import proofs.«01_k».proof.Proof.Gen.KernelConvTIdeal.Value
public import proofs.«01_k».proof.Proof.Gen.ReferenceConvTIdeal.Read
public import proofs.«01_k».proof.Proof.Gen.KernelNormBwd.Frame
public import proofs.«01_k».proof.Proof.Gen.KernelNormBwdIdeal.Value
public import proofs.«01_k».proof.Proof.Gen.ReferenceNormBwdIdeal.Read
public import proofs.«01_k».proof.Proof.Gen.KernelGlaGateBwd.Frame
public import proofs.«01_k».proof.Proof.Gen.KernelGlaGateBwdIdeal.Value
public import proofs.«01_k».proof.Proof.Gen.ReferenceGlaGateBwdIdeal.Read

@[expose] public section

noncomputable section

namespace Cert.Proof

/-- Every claim of this certificate. -/
theorem claim : Cert.Claim :=
  ⟨Cert.Kernel.Gen.facts, Cert.KernelIdeal.Gen.facts, Cert.ReferenceIdeal.Gen.facts,
    Cert.KernelAttnFwd.Gen.facts, Cert.KernelAttnFwdIdeal.Gen.facts, Cert.ReferenceAttnFwdIdeal.Gen.facts,
    Cert.KernelDownDgrad.Gen.facts, Cert.KernelDownDgradIdeal.Gen.facts, Cert.ReferenceDownDgradIdeal.Gen.facts,
    Cert.KernelDownWgrad.Gen.facts, Cert.KernelDownWgradIdeal.Gen.facts, Cert.ReferenceDownWgradIdeal.Gen.facts,
    Cert.KernelUpDgradVal.Gen.facts, Cert.KernelUpDgradValIdeal.Gen.facts, Cert.ReferenceUpDgradValIdeal.Gen.facts,
    Cert.KernelUpDgradGate.Gen.facts, Cert.KernelUpDgradGateIdeal.Gen.facts, Cert.ReferenceUpDgradGateIdeal.Gen.facts,
    Cert.KernelUpWgradVal.Gen.facts, Cert.KernelUpWgradValIdeal.Gen.facts, Cert.ReferenceUpWgradValIdeal.Gen.facts,
    Cert.KernelUpWgradGate.Gen.facts, Cert.KernelUpWgradGateIdeal.Gen.facts, Cert.ReferenceUpWgradGateIdeal.Gen.facts,
    Cert.KernelAttnOutDgrad.Gen.facts, Cert.KernelAttnOutDgradIdeal.Gen.facts, Cert.ReferenceAttnOutDgradIdeal.Gen.facts,
    Cert.KernelAttnOutWgrad.Gen.facts, Cert.KernelAttnOutWgradIdeal.Gen.facts, Cert.ReferenceAttnOutWgradIdeal.Gen.facts,
    Cert.KernelQkvDgrad.Gen.facts, Cert.KernelQkvDgradIdeal.Gen.facts, Cert.ReferenceQkvDgradIdeal.Gen.facts,
    Cert.KernelQkvWgrad.Gen.facts, Cert.KernelQkvWgradIdeal.Gen.facts, Cert.ReferenceQkvWgradIdeal.Gen.facts,
    Cert.KernelGlaOutDgrad.Gen.facts, Cert.KernelGlaOutDgradIdeal.Gen.facts, Cert.ReferenceGlaOutDgradIdeal.Gen.facts,
    Cert.KernelGlaOutWgrad.Gen.facts, Cert.KernelGlaOutWgradIdeal.Gen.facts, Cert.ReferenceGlaOutWgradIdeal.Gen.facts,
    Cert.KernelGlaGateDgrad.Gen.facts, Cert.KernelGlaGateDgradIdeal.Gen.facts, Cert.ReferenceGlaGateDgradIdeal.Gen.facts,
    Cert.KernelGlaGateWgrad.Gen.facts, Cert.KernelGlaGateWgradIdeal.Gen.facts, Cert.ReferenceGlaGateWgradIdeal.Gen.facts,
    Cert.KernelGlaInDgrad.Gen.facts, Cert.KernelGlaInDgradIdeal.Gen.facts, Cert.ReferenceGlaInDgradIdeal.Gen.facts,
    Cert.KernelGlaInWgrad.Gen.facts, Cert.KernelGlaInWgradIdeal.Gen.facts, Cert.ReferenceGlaInWgradIdeal.Gen.facts,
    Cert.KernelUpVal.Gen.facts, Cert.KernelUpValIdeal.Gen.facts, Cert.ReferenceUpValIdeal.Gen.facts,
    Cert.KernelUpGate.Gen.facts, Cert.KernelUpGateIdeal.Gen.facts, Cert.ReferenceUpGateIdeal.Gen.facts,
    Cert.KernelDown.Gen.facts, Cert.KernelDownIdeal.Gen.facts, Cert.ReferenceDownIdeal.Gen.facts,
    Cert.KernelQkvProj.Gen.facts, Cert.KernelQkvProjIdeal.Gen.facts, Cert.ReferenceQkvProjIdeal.Gen.facts,
    Cert.KernelAttnOutProj.Gen.facts, Cert.KernelAttnOutProjIdeal.Gen.facts, Cert.ReferenceAttnOutProjIdeal.Gen.facts,
    Cert.KernelGlaInProj.Gen.facts, Cert.KernelGlaInProjIdeal.Gen.facts, Cert.ReferenceGlaInProjIdeal.Gen.facts,
    Cert.KernelGlaGateLogits.Gen.facts, Cert.KernelGlaGateLogitsIdeal.Gen.facts, Cert.ReferenceGlaGateLogitsIdeal.Gen.facts,
    Cert.KernelGlaOutProj.Gen.facts, Cert.KernelGlaOutProjIdeal.Gen.facts, Cert.ReferenceGlaOutProjIdeal.Gen.facts,
    Cert.KernelConvActBwd.Gen.facts, Cert.KernelConvActBwdIdeal.Gen.facts, Cert.ReferenceConvActBwdIdeal.Gen.facts,
    Cert.KernelConvT.Gen.facts, Cert.KernelConvTIdeal.Gen.facts, Cert.ReferenceConvTIdeal.Gen.facts,
    Cert.KernelNormBwd.Gen.facts, Cert.KernelNormBwdIdeal.Gen.facts, Cert.ReferenceNormBwdIdeal.Gen.facts,
    Cert.KernelGlaGateBwd.Gen.facts, Cert.KernelGlaGateBwdIdeal.Gen.facts, Cert.ReferenceGlaGateBwdIdeal.Gen.facts,
    Cert.Pre_qk_finite.Gen.facts, Cert.Pre_qk_real.Gen.facts, Cert.Pre_conv_slope_finite.Gen.facts, Cert.Pre_gate_slope_finite.Gen.facts,
    AttnClaims.frame_p, AttnClaims.frame_pi, AttnClaims.frame_pi_pre, AttnClaims.frame_ri, AttnClaims.frame_ri_pre,
    KernelAttnFwdIdeal.AttnFwd.frame_p, KernelAttnFwdIdeal.AttnFwd.frame_pi, KernelAttnFwdIdeal.AttnFwd.frame_pi_pre,
    KernelAttnFwdIdeal.AttnFwd.frame_ri, KernelAttnFwdIdeal.AttnFwd.frame_ri_pre,
    KernelDownDgradIdeal.Prod.frame_p, KernelDownDgradIdeal.Prod.frame_pi, KernelDownDgradIdeal.Prod.frame_ri,
    KernelDownWgradIdeal.Prod.frame_p, KernelDownWgradIdeal.Prod.frame_pi, KernelDownWgradIdeal.Prod.frame_ri,
    KernelUpDgradValIdeal.Prod.frame_p, KernelUpDgradValIdeal.Prod.frame_pi, KernelUpDgradValIdeal.Prod.frame_ri,
    KernelUpDgradGateIdeal.Prod.frame_p, KernelUpDgradGateIdeal.Prod.frame_pi, KernelUpDgradGateIdeal.Prod.frame_ri,
    KernelUpWgradValIdeal.Prod.frame_p, KernelUpWgradValIdeal.Prod.frame_pi, KernelUpWgradValIdeal.Prod.frame_ri,
    KernelUpWgradGateIdeal.Prod.frame_p, KernelUpWgradGateIdeal.Prod.frame_pi, KernelUpWgradGateIdeal.Prod.frame_ri,
    KernelAttnOutDgradIdeal.Prod.frame_p, KernelAttnOutDgradIdeal.Prod.frame_pi, KernelAttnOutDgradIdeal.Prod.frame_ri,
    KernelAttnOutWgradIdeal.Prod.frame_p, KernelAttnOutWgradIdeal.Prod.frame_pi, KernelAttnOutWgradIdeal.Prod.frame_ri,
    KernelQkvDgradIdeal.Prod.frame_p, KernelQkvDgradIdeal.Prod.frame_pi, KernelQkvDgradIdeal.Prod.frame_ri,
    KernelQkvWgradIdeal.Prod.frame_p, KernelQkvWgradIdeal.Prod.frame_pi, KernelQkvWgradIdeal.Prod.frame_ri,
    KernelGlaOutDgradIdeal.Prod.frame_p, KernelGlaOutDgradIdeal.Prod.frame_pi, KernelGlaOutDgradIdeal.Prod.frame_ri,
    KernelGlaOutWgradIdeal.Prod.frame_p, KernelGlaOutWgradIdeal.Prod.frame_pi, KernelGlaOutWgradIdeal.Prod.frame_ri,
    KernelGlaGateDgradIdeal.Prod.frame_p, KernelGlaGateDgradIdeal.Prod.frame_pi, KernelGlaGateDgradIdeal.Prod.frame_ri,
    KernelGlaGateWgradIdeal.Prod.frame_p, KernelGlaGateWgradIdeal.Prod.frame_pi, KernelGlaGateWgradIdeal.Prod.frame_ri,
    KernelGlaInDgradIdeal.Prod.frame_p, KernelGlaInDgradIdeal.Prod.frame_pi, KernelGlaInDgradIdeal.Prod.frame_ri,
    KernelGlaInWgradIdeal.Prod.frame_p, KernelGlaInWgradIdeal.Prod.frame_pi, KernelGlaInWgradIdeal.Prod.frame_ri,
    KernelUpValIdeal.Prod.frame_p, KernelUpValIdeal.Prod.frame_pi, KernelUpValIdeal.Prod.frame_ri,
    KernelUpGateIdeal.Prod.frame_p, KernelUpGateIdeal.Prod.frame_pi, KernelUpGateIdeal.Prod.frame_ri,
    KernelDownIdeal.Prod.frame_p, KernelDownIdeal.Prod.frame_pi, KernelDownIdeal.Prod.frame_ri,
    KernelQkvProjIdeal.Prod.frame_p, KernelQkvProjIdeal.Prod.frame_pi, KernelQkvProjIdeal.Prod.frame_ri,
    KernelAttnOutProjIdeal.Prod.frame_p, KernelAttnOutProjIdeal.Prod.frame_pi, KernelAttnOutProjIdeal.Prod.frame_ri,
    KernelGlaInProjIdeal.Prod.frame_p, KernelGlaInProjIdeal.Prod.frame_pi, KernelGlaInProjIdeal.Prod.frame_ri,
    KernelGlaGateLogitsIdeal.Prod.frame_p, KernelGlaGateLogitsIdeal.Prod.frame_pi, KernelGlaGateLogitsIdeal.Prod.frame_ri,
    KernelGlaOutProjIdeal.Prod.frame_p, KernelGlaOutProjIdeal.Prod.frame_pi, KernelGlaOutProjIdeal.Prod.frame_ri,
    KernelConvActBwdIdeal.ConvAct.frame_p, KernelConvActBwdIdeal.ConvAct.frame_pi, KernelConvActBwdIdeal.ConvAct.frame_pi_pre,
    KernelConvActBwdIdeal.ConvAct.frame_ri, KernelConvActBwdIdeal.ConvAct.frame_ri_pre,
    KernelConvTIdeal.ConvT.frame_p, KernelConvTIdeal.ConvT.frame_pi, KernelConvTIdeal.ConvT.frame_ri,
    KernelNormBwdIdeal.NormBwd.frame_p, KernelNormBwdIdeal.NormBwd.frame_pi, KernelNormBwdIdeal.NormBwd.frame_ri,
    KernelGlaGateBwdIdeal.GlaGate.frame_p, KernelGlaGateBwdIdeal.GlaGate.frame_pi, KernelGlaGateBwdIdeal.GlaGate.frame_pi_pre,
    KernelGlaGateBwdIdeal.GlaGate.frame_ri, KernelGlaGateBwdIdeal.GlaGate.frame_ri_pre,
    AttnClaims.preserves, AttnClaims.algebraic,
    KernelAttnFwdIdeal.AttnFwd.preserves, KernelAttnFwdIdeal.AttnFwd.algebraic,
    trivial, KernelDownDgradIdeal.Prod.algebraic,
    trivial, KernelDownWgradIdeal.Prod.algebraic,
    trivial, KernelUpDgradValIdeal.Prod.algebraic,
    trivial, KernelUpDgradGateIdeal.Prod.algebraic,
    trivial, KernelUpWgradValIdeal.Prod.algebraic,
    trivial, KernelUpWgradGateIdeal.Prod.algebraic,
    trivial, KernelAttnOutDgradIdeal.Prod.algebraic,
    trivial, KernelAttnOutWgradIdeal.Prod.algebraic,
    trivial, KernelQkvDgradIdeal.Prod.algebraic,
    trivial, KernelQkvWgradIdeal.Prod.algebraic,
    trivial, KernelGlaOutDgradIdeal.Prod.algebraic,
    trivial, KernelGlaOutWgradIdeal.Prod.algebraic,
    trivial, KernelGlaGateDgradIdeal.Prod.algebraic,
    trivial, KernelGlaGateWgradIdeal.Prod.algebraic,
    trivial, KernelGlaInDgradIdeal.Prod.algebraic,
    trivial, KernelGlaInWgradIdeal.Prod.algebraic,
    trivial, KernelUpValIdeal.Prod.algebraic,
    trivial, KernelUpGateIdeal.Prod.algebraic,
    trivial, KernelDownIdeal.Prod.algebraic,
    trivial, KernelQkvProjIdeal.Prod.algebraic,
    trivial, KernelAttnOutProjIdeal.Prod.algebraic,
    trivial, KernelGlaInProjIdeal.Prod.algebraic,
    trivial, KernelGlaGateLogitsIdeal.Prod.algebraic,
    trivial, KernelGlaOutProjIdeal.Prod.algebraic,
    trivial, KernelConvActBwdIdeal.ConvAct.algebraic,
    trivial, KernelConvTIdeal.ConvT.algebraic,
    trivial, KernelNormBwdIdeal.NormBwd.algebraic,
    trivial, KernelGlaGateBwdIdeal.GlaGate.algebraic⟩

end Cert.Proof

end
